-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_RefUpIdeal (m : (ℓ : Loc Cert.RefUpIdeal.nD Cert.RefUpIdeal.τ Cert.RefUpIdeal.sig) → Buf (Elt Ideal) ℓ) : Prop :=
  True

def Pre_UpX (m : (ℓ : Loc Cert.UpX.nD Cert.UpX.τ Cert.UpX.sig) → Buf (Elt Bits) ℓ) : Prop :=
  True

def Pre_UpXIdeal (m : (ℓ : Loc Cert.UpXIdeal.nD Cert.UpXIdeal.τ Cert.UpXIdeal.sig) → Buf (Elt Ideal) ℓ) : Prop :=
  True

def Pre_RefUpXIdeal (m : (ℓ : Loc Cert.RefUpXIdeal.nD Cert.RefUpXIdeal.τ Cert.RefUpXIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_RefUpWIdeal (m : (ℓ : Loc Cert.RefUpWIdeal.nD Cert.RefUpWIdeal.τ Cert.RefUpWIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_DownX (m : (ℓ : Loc Cert.DownX.nD Cert.DownX.τ Cert.DownX.sig) → Buf (Elt Bits) ℓ) : Prop :=
  True

def Pre_DownXIdeal (m : (ℓ : Loc Cert.DownXIdeal.nD Cert.DownXIdeal.τ Cert.DownXIdeal.sig) → Buf (Elt Ideal) ℓ) : Prop :=
  True

def Pre_RefDownXIdeal (m : (ℓ : Loc Cert.RefDownXIdeal.nD Cert.RefDownXIdeal.τ Cert.RefDownXIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_RefDownWIdeal (m : (ℓ : Loc Cert.RefDownWIdeal.nD Cert.RefDownWIdeal.τ Cert.RefDownWIdeal.sig) → Buf (Elt Ideal) ℓ) : Prop :=
  True

def Pre_Pw (m : (ℓ : Loc Cert.Pw.nD Cert.Pw.τ Cert.Pw.sig) → Buf (Elt Bits) ℓ) : Prop :=
  True

def Pre_PwIdeal (m : (ℓ : Loc Cert.PwIdeal.nD Cert.PwIdeal.τ Cert.PwIdeal.sig) → Buf (Elt Ideal) ℓ) : Prop :=
  True

def Pre_RefPwIdeal (m : (ℓ : Loc Cert.RefPwIdeal.nD Cert.RefPwIdeal.τ Cert.RefPwIdeal.sig) → Buf (Elt Ideal) ℓ) : Prop :=
  True

def Pre_PwX (m : (ℓ : Loc Cert.PwX.nD Cert.PwX.τ Cert.PwX.sig) → Buf (Elt Bits) ℓ) : Prop :=
  True

def Pre_PwXIdeal (m : (ℓ : Loc Cert.PwXIdeal.nD Cert.PwXIdeal.τ Cert.PwXIdeal.sig) → Buf (Elt Ideal) ℓ) : Prop :=
  True

def Pre_RefPwXIdeal (m : (ℓ : Loc Cert.RefPwXIdeal.nD Cert.RefPwXIdeal.τ Cert.RefPwXIdeal.sig) → Buf (Elt Ideal) ℓ) : Prop :=
  True

def Pre_PwW (m : (ℓ : Loc Cert.PwW.nD Cert.PwW.τ Cert.PwW.sig) → Buf (Elt Bits) ℓ) : Prop :=
  True

def Pre_PwWIdeal (m : (ℓ : Loc Cert.PwWIdeal.nD Cert.PwWIdeal.τ Cert.PwWIdeal.sig) → Buf (Elt Ideal) ℓ) : Prop :=
  True

def Pre_RefPwWIdeal (m : (ℓ : Loc Cert.RefPwWIdeal.nD Cert.RefPwWIdeal.τ Cert.RefPwWIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_RefOutXIdeal (m : (ℓ : Loc Cert.RefOutXIdeal.nD Cert.RefOutXIdeal.τ Cert.RefOutXIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_RefOutWIdeal (m : (ℓ : Loc Cert.RefOutWIdeal.nD Cert.RefOutWIdeal.τ Cert.RefOutWIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_RefInIdeal (m : (ℓ : Loc Cert.RefInIdeal.nD Cert.RefInIdeal.τ Cert.RefInIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_RefInXIdeal (m : (ℓ : Loc Cert.RefInXIdeal.nD Cert.RefInXIdeal.τ Cert.RefInXIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_RefInWIdeal (m : (ℓ : Loc Cert.RefInWIdeal.nD Cert.RefInWIdeal.τ Cert.RefInWIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_RefNormIdeal (m : (ℓ : Loc Cert.RefNormIdeal.nD Cert.RefNormIdeal.τ Cert.RefNormIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_RefGateIdeal (m : (ℓ : Loc Cert.RefGateIdeal.nD Cert.RefGateIdeal.τ Cert.RefGateIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_RefUpIdeal [hRefUpIdeal : Cert.RefUpIdeal.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1))
      ∧ r.2.sem = fun _ => 0)

def quiescent_UpX [hUpX : Cert.UpX.Facts] : Prop :=
  ∀ (m : (ℓ : Loc Cert.UpX.nD Cert.UpX.τ Cert.UpX.sig) → Buf (Elt Bits) ℓ) (g : Dev Cert.UpX.nD → PrngReg), Pre_UpX m →
    θ_run (Cert.UpX.defs (F := Bits)) (onTc (τ := Cert.UpX.τ) (Cert.UpX.main (F := Bits))) ⟨m, fun _ => 0, g⟩ (fun r => (∀ c : Dev Cert.UpX.nD,
      r.2.mem ((c.tc : Thread Cert.UpX.nD Cert.UpX.τ).loc Cert.UpX.main_arg0) = m ((c.tc : Thread Cert.UpX.nD Cert.UpX.τ).loc Cert.UpX.main_arg0)
      ∧ r.2.mem ((c.tc : Thread Cert.UpX.nD Cert.UpX.τ).loc Cert.UpX.main_arg1) = m ((c.tc : Thread Cert.UpX.nD Cert.UpX.τ).loc Cert.UpX.main_arg1))
      ∧ r.2.sem = fun _ => 0)

def quiescent_UpXIdeal [hUpXIdeal : Cert.UpXIdeal.Facts] : Prop :=
  ∀ (m : (ℓ : Loc Cert.UpXIdeal.nD Cert.UpXIdeal.τ Cert.UpXIdeal.sig) → Buf (Elt Ideal) ℓ) (g : Dev Cert.UpXIdeal.nD → PrngReg), Pre_UpXIdeal m →
    θ_run (Cert.UpXIdeal.defs (F := Ideal)) (onTc (τ := Cert.UpXIdeal.τ) (Cert.UpXIdeal.main (F := Ideal))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1))
      ∧ r.2.sem = fun _ => 0)

def quiescent_RefUpXIdeal [hRefUpXIdeal : Cert.RefUpXIdeal.Facts] : Prop :=
  ∀ (m : (ℓ : Loc Cert.RefUpXIdeal.nD Cert.RefUpXIdeal.τ Cert.RefUpXIdeal.sig) → Buf (Elt Ideal) ℓ) (g : Dev Cert.RefUpXIdeal.nD → PrngReg), Pre_RefUpXIdeal m →
    θ_run (Cert.RefUpXIdeal.defs (F := Ideal)) (onTc (τ := Cert.RefUpXIdeal.τ) (Cert.RefUpXIdeal.main (F := Ideal))) ⟨m, fun _ => 0, g⟩ (fun r => (∀ c : Dev Cert.RefUpXIdeal.nD,
      r.2.mem ((c.tc : Thread Cert.RefUpXIdeal.nD Cert.RefUpXIdeal.τ).loc Cert.RefUpXIdeal.main_arg0) = m ((c.tc : Thread Cert.RefUpXIdeal.nD Cert.RefUpXIdeal.τ).loc Cert.RefUpXIdeal.main_arg0)
      ∧ r.2.mem ((c.tc : Thread Cert.RefUpXIdeal.nD Cert.RefUpXIdeal.τ).loc Cert.RefUpXIdeal.main_arg1) = m ((c.tc : Thread Cert.RefUpXIdeal.nD Cert.RefUpXIdeal.τ).loc Cert.RefUpXIdeal.main_arg1))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ r.2.sem = fun _ => 0)

def quiescent_RefUpWIdeal [hRefUpWIdeal : Cert.RefUpWIdeal.Facts] : Prop :=
  ∀ (m : (ℓ : Loc Cert.RefUpWIdeal.nD Cert.RefUpWIdeal.τ Cert.RefUpWIdeal.sig) → Buf (Elt Ideal) ℓ) (g : Dev Cert.RefUpWIdeal.nD → PrngReg), Pre_RefUpWIdeal m →
    θ_run (Cert.RefUpWIdeal.defs (F := Ideal)) (onTc (τ := Cert.RefUpWIdeal.τ) (Cert.RefUpWIdeal.main (F := Ideal))) ⟨m, fun _ => 0, g⟩ (fun r => (∀ c : Dev Cert.RefUpWIdeal.nD,
      r.2.mem ((c.tc : Thread Cert.RefUpWIdeal.nD Cert.RefUpWIdeal.τ).loc Cert.RefUpWIdeal.main_arg0) = m ((c.tc : Thread Cert.RefUpWIdeal.nD Cert.RefUpWIdeal.τ).loc Cert.RefUpWIdeal.main_arg0)
      ∧ r.2.mem ((c.tc : Thread Cert.RefUpWIdeal.nD Cert.RefUpWIdeal.τ).loc Cert.RefUpWIdeal.main_arg1) = m ((c.tc : Thread Cert.RefUpWIdeal.nD Cert.RefUpWIdeal.τ).loc Cert.RefUpWIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1))
      ∧ r.2.sem = fun _ => 0)

def quiescent_DownX [hDownX : Cert.DownX.Facts] : Prop :=
  ∀ (m : (ℓ : Loc Cert.DownX.nD Cert.DownX.τ Cert.DownX.sig) → Buf (Elt Bits) ℓ) (g : Dev Cert.DownX.nD → PrngReg), Pre_DownX m →
    θ_run (Cert.DownX.defs (F := Bits)) (onTc (τ := Cert.DownX.τ) (Cert.DownX.main (F := Bits))) ⟨m, fun _ => 0, g⟩ (fun r => (∀ c : Dev Cert.DownX.nD,
      r.2.mem ((c.tc : Thread Cert.DownX.nD Cert.DownX.τ).loc Cert.DownX.main_arg0) = m ((c.tc : Thread Cert.DownX.nD Cert.DownX.τ).loc Cert.DownX.main_arg0)
      ∧ r.2.mem ((c.tc : Thread Cert.DownX.nD Cert.DownX.τ).loc Cert.DownX.main_arg1) = m ((c.tc : Thread Cert.DownX.nD Cert.DownX.τ).loc Cert.DownX.main_arg1))
      ∧ r.2.sem = fun _ => 0)

def quiescent_DownXIdeal [hDownXIdeal : Cert.DownXIdeal.Facts] : Prop :=
  ∀ (m : (ℓ : Loc Cert.DownXIdeal.nD Cert.DownXIdeal.τ Cert.DownXIdeal.sig) → Buf (Elt Ideal) ℓ) (g : Dev Cert.DownXIdeal.nD → PrngReg), Pre_DownXIdeal m →
    θ_run (Cert.DownXIdeal.defs (F := Ideal)) (onTc (τ := Cert.DownXIdeal.τ) (Cert.DownXIdeal.main (F := Ideal))) ⟨m, fun _ => 0, g⟩ (fun r => (∀ c : Dev Cert.DownXIdeal.nD,
      r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
      ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ r.2.sem = fun _ => 0)

def quiescent_RefDownXIdeal [hRefDownXIdeal : Cert.RefDownXIdeal.Facts] : Prop :=
  ∀ (m : (ℓ : Loc Cert.RefDownXIdeal.nD Cert.RefDownXIdeal.τ Cert.RefDownXIdeal.sig) → Buf (Elt Ideal) ℓ) (g : Dev Cert.RefDownXIdeal.nD → PrngReg), Pre_RefDownXIdeal m →
    θ_run (Cert.RefDownXIdeal.defs (F := Ideal)) (onTc (τ := Cert.RefDownXIdeal.τ) (Cert.RefDownXIdeal.main (F := Ideal))) ⟨m, fun _ => 0, g⟩ (fun r => (∀ c : Dev Cert.RefDownXIdeal.nD,
      r.2.mem ((c.tc : Thread Cert.RefDownXIdeal.nD Cert.RefDownXIdeal.τ).loc Cert.RefDownXIdeal.main_arg0) = m ((c.tc : Thread Cert.RefDownXIdeal.nD Cert.RefDownXIdeal.τ).loc Cert.RefDownXIdeal.main_arg0)
      ∧ r.2.mem ((c.tc : Thread Cert.RefDownXIdeal.nD Cert.RefDownXIdeal.τ).loc Cert.RefDownXIdeal.main_arg1) = m ((c.tc : Thread Cert.RefDownXIdeal.nD Cert.RefDownXIdeal.τ).loc Cert.RefDownXIdeal.main_arg1))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_RefDownWIdeal [hRefDownWIdeal : Cert.RefDownWIdeal.Facts] : Prop :=
  ∀ (m : (ℓ : Loc Cert.RefDownWIdeal.nD Cert.RefDownWIdeal.τ Cert.RefDownWIdeal.sig) → Buf (Elt Ideal) ℓ) (g : Dev Cert.RefDownWIdeal.nD → PrngReg), Pre_RefDownWIdeal m →
    θ_run (Cert.RefDownWIdeal.defs (F := Ideal)) (onTc (τ := Cert.RefDownWIdeal.τ) (Cert.RefDownWIdeal.main (F := Ideal))) ⟨m, fun _ => 0, g⟩ (fun r => (∀ c : Dev Cert.RefDownWIdeal.nD,
      r.2.mem ((c.tc : Thread Cert.RefDownWIdeal.nD Cert.RefDownWIdeal.τ).loc Cert.RefDownWIdeal.main_arg0) = m ((c.tc : Thread Cert.RefDownWIdeal.nD Cert.RefDownWIdeal.τ).loc Cert.RefDownWIdeal.main_arg0)
      ∧ r.2.mem ((c.tc : Thread Cert.RefDownWIdeal.nD Cert.RefDownWIdeal.τ).loc Cert.RefDownWIdeal.main_arg1) = m ((c.tc : Thread Cert.RefDownWIdeal.nD Cert.RefDownWIdeal.τ).loc Cert.RefDownWIdeal.main_arg1))
      ∧ r.2.sem = fun _ => 0)

def quiescent_Pw [hPw : Cert.Pw.Facts] : Prop :=
  ∀ (m : (ℓ : Loc Cert.Pw.nD Cert.Pw.τ Cert.Pw.sig) → Buf (Elt Bits) ℓ) (g : Dev Cert.Pw.nD → PrngReg), Pre_Pw m →
    θ_run (Cert.Pw.defs (F := Bits)) (onTc (τ := Cert.Pw.τ) (Cert.Pw.main (F := Bits))) ⟨m, fun _ => 0, g⟩ (fun r => (∀ c : Dev Cert.Pw.nD,
      r.2.mem ((c.tc : Thread Cert.Pw.nD Cert.Pw.τ).loc Cert.Pw.main_arg0) = m ((c.tc : Thread Cert.Pw.nD Cert.Pw.τ).loc Cert.Pw.main_arg0)
      ∧ r.2.mem ((c.tc : Thread Cert.Pw.nD Cert.Pw.τ).loc Cert.Pw.main_arg1) = m ((c.tc : Thread Cert.Pw.nD Cert.Pw.τ).loc Cert.Pw.main_arg1))
      ∧ r.2.sem = fun _ => 0)

def quiescent_PwIdeal [hPwIdeal : Cert.PwIdeal.Facts] : Prop :=
  ∀ (m : (ℓ : Loc Cert.PwIdeal.nD Cert.PwIdeal.τ Cert.PwIdeal.sig) → Buf (Elt Ideal) ℓ) (g : Dev Cert.PwIdeal.nD → PrngReg), Pre_PwIdeal m →
    θ_run (Cert.PwIdeal.defs (F := Ideal)) (onTc (τ := Cert.PwIdeal.τ) (Cert.PwIdeal.main (F := Ideal))) ⟨m, fun _ => 0, g⟩ (fun r => (∀ c : Dev Cert.PwIdeal.nD,
      r.2.mem ((c.tc : Thread Cert.PwIdeal.nD Cert.PwIdeal.τ).loc Cert.PwIdeal.main_arg0) = m ((c.tc : Thread Cert.PwIdeal.nD Cert.PwIdeal.τ).loc Cert.PwIdeal.main_arg0)
      ∧ r.2.mem ((c.tc : Thread Cert.PwIdeal.nD Cert.PwIdeal.τ).loc Cert.PwIdeal.main_arg1) = m ((c.tc : Thread Cert.PwIdeal.nD Cert.PwIdeal.τ).loc Cert.PwIdeal.main_arg1))
      ∧ r.2.sem = fun _ => 0)

def quiescent_RefPwIdeal [hRefPwIdeal : Cert.RefPwIdeal.Facts] : Prop :=
  ∀ (m : (ℓ : Loc Cert.RefPwIdeal.nD Cert.RefPwIdeal.τ Cert.RefPwIdeal.sig) → Buf (Elt Ideal) ℓ) (g : Dev Cert.RefPwIdeal.nD → PrngReg), Pre_RefPwIdeal m →
    θ_run (Cert.RefPwIdeal.defs (F := Ideal)) (onTc (τ := Cert.RefPwIdeal.τ) (Cert.RefPwIdeal.main (F := Ideal))) ⟨m, fun _ => 0, g⟩ (fun r => (∀ c : Dev Cert.RefPwIdeal.nD,
      r.2.mem ((c.tc : Thread Cert.RefPwIdeal.nD Cert.RefPwIdeal.τ).loc Cert.RefPwIdeal.main_arg0) = m ((c.tc : Thread Cert.RefPwIdeal.nD Cert.RefPwIdeal.τ).loc Cert.RefPwIdeal.main_arg0)
      ∧ r.2.mem ((c.tc : Thread Cert.RefPwIdeal.nD Cert.RefPwIdeal.τ).loc Cert.RefPwIdeal.main_arg1) = m ((c.tc : Thread Cert.RefPwIdeal.nD Cert.RefPwIdeal.τ).loc Cert.RefPwIdeal.main_arg1))
      ∧ r.2.sem = fun _ => 0)

def quiescent_PwX [hPwX : Cert.PwX.Facts] : Prop :=
  ∀ (m : (ℓ : Loc Cert.PwX.nD Cert.PwX.τ Cert.PwX.sig) → Buf (Elt Bits) ℓ) (g : Dev Cert.PwX.nD → PrngReg), Pre_PwX m →
    θ_run (Cert.PwX.defs (F := Bits)) (onTc (τ := Cert.PwX.τ) (Cert.PwX.main (F := Bits))) ⟨m, fun _ => 0, g⟩ (fun r => (∀ c : Dev Cert.PwX.nD,
      r.2.mem ((c.tc : Thread Cert.PwX.nD Cert.PwX.τ).loc Cert.PwX.main_arg0) = m ((c.tc : Thread Cert.PwX.nD Cert.PwX.τ).loc Cert.PwX.main_arg0)
      ∧ r.2.mem ((c.tc : Thread Cert.PwX.nD Cert.PwX.τ).loc Cert.PwX.main_arg1) = m ((c.tc : Thread Cert.PwX.nD Cert.PwX.τ).loc Cert.PwX.main_arg1))
      ∧ r.2.sem = fun _ => 0)

def quiescent_PwXIdeal [hPwXIdeal : Cert.PwXIdeal.Facts] : Prop :=
  ∀ (m : (ℓ : Loc Cert.PwXIdeal.nD Cert.PwXIdeal.τ Cert.PwXIdeal.sig) → Buf (Elt Ideal) ℓ) (g : Dev Cert.PwXIdeal.nD → PrngReg), Pre_PwXIdeal m →
    θ_run (Cert.PwXIdeal.defs (F := Ideal)) (onTc (τ := Cert.PwXIdeal.τ) (Cert.PwXIdeal.main (F := Ideal))) ⟨m, fun _ => 0, g⟩ (fun r => (∀ c : Dev Cert.PwXIdeal.nD,
      r.2.mem ((c.tc : Thread Cert.PwXIdeal.nD Cert.PwXIdeal.τ).loc Cert.PwXIdeal.main_arg0) = m ((c.tc : Thread Cert.PwXIdeal.nD Cert.PwXIdeal.τ).loc Cert.PwXIdeal.main_arg0)
      ∧ r.2.mem ((c.tc : Thread Cert.PwXIdeal.nD Cert.PwXIdeal.τ).loc Cert.PwXIdeal.main_arg1) = m ((c.tc : Thread Cert.PwXIdeal.nD Cert.PwXIdeal.τ).loc Cert.PwXIdeal.main_arg1))
      ∧ r.2.sem = fun _ => 0)

def quiescent_RefPwXIdeal [hRefPwXIdeal : Cert.RefPwXIdeal.Facts] : Prop :=
  ∀ (m : (ℓ : Loc Cert.RefPwXIdeal.nD Cert.RefPwXIdeal.τ Cert.RefPwXIdeal.sig) → Buf (Elt Ideal) ℓ) (g : Dev Cert.RefPwXIdeal.nD → PrngReg), Pre_RefPwXIdeal m →
    θ_run (Cert.RefPwXIdeal.defs (F := Ideal)) (onTc (τ := Cert.RefPwXIdeal.τ) (Cert.RefPwXIdeal.main (F := Ideal))) ⟨m, fun _ => 0, g⟩ (fun r => (∀ c : Dev Cert.RefPwXIdeal.nD,
      r.2.mem ((c.tc : Thread Cert.RefPwXIdeal.nD Cert.RefPwXIdeal.τ).loc Cert.RefPwXIdeal.main_arg0) = m ((c.tc : Thread Cert.RefPwXIdeal.nD Cert.RefPwXIdeal.τ).loc Cert.RefPwXIdeal.main_arg0)
      ∧ r.2.mem ((c.tc : Thread Cert.RefPwXIdeal.nD Cert.RefPwXIdeal.τ).loc Cert.RefPwXIdeal.main_arg1) = m ((c.tc : Thread Cert.RefPwXIdeal.nD Cert.RefPwXIdeal.τ).loc Cert.RefPwXIdeal.main_arg1))
      ∧ r.2.sem = fun _ => 0)

def quiescent_PwW [hPwW : Cert.PwW.Facts] : Prop :=
  ∀ (m : (ℓ : Loc Cert.PwW.nD Cert.PwW.τ Cert.PwW.sig) → Buf (Elt Bits) ℓ) (g : Dev Cert.PwW.nD → PrngReg), Pre_PwW m →
    θ_run (Cert.PwW.defs (F := Bits)) (onTc (τ := Cert.PwW.τ) (Cert.PwW.main (F := Bits))) ⟨m, fun _ => 0, g⟩ (fun r => (∀ c : Dev Cert.PwW.nD,
      r.2.mem ((c.tc : Thread Cert.PwW.nD Cert.PwW.τ).loc Cert.PwW.main_arg0) = m ((c.tc : Thread Cert.PwW.nD Cert.PwW.τ).loc Cert.PwW.main_arg0)
      ∧ r.2.mem ((c.tc : Thread Cert.PwW.nD Cert.PwW.τ).loc Cert.PwW.main_arg1) = m ((c.tc : Thread Cert.PwW.nD Cert.PwW.τ).loc Cert.PwW.main_arg1))
      ∧ r.2.sem = fun _ => 0)

def quiescent_PwWIdeal [hPwWIdeal : Cert.PwWIdeal.Facts] : Prop :=
  ∀ (m : (ℓ : Loc Cert.PwWIdeal.nD Cert.PwWIdeal.τ Cert.PwWIdeal.sig) → Buf (Elt Ideal) ℓ) (g : Dev Cert.PwWIdeal.nD → PrngReg), Pre_PwWIdeal m →
    θ_run (Cert.PwWIdeal.defs (F := Ideal)) (onTc (τ := Cert.PwWIdeal.τ) (Cert.PwWIdeal.main (F := Ideal))) ⟨m, fun _ => 0, g⟩ (fun r => (∀ c : Dev Cert.PwWIdeal.nD,
      r.2.mem ((c.tc : Thread Cert.PwWIdeal.nD Cert.PwWIdeal.τ).loc Cert.PwWIdeal.main_arg0) = m ((c.tc : Thread Cert.PwWIdeal.nD Cert.PwWIdeal.τ).loc Cert.PwWIdeal.main_arg0)
      ∧ r.2.mem ((c.tc : Thread Cert.PwWIdeal.nD Cert.PwWIdeal.τ).loc Cert.PwWIdeal.main_arg1) = m ((c.tc : Thread Cert.PwWIdeal.nD Cert.PwWIdeal.τ).loc Cert.PwWIdeal.main_arg1))
      ∧ r.2.sem = fun _ => 0)

def quiescent_RefPwWIdeal [hRefPwWIdeal : Cert.RefPwWIdeal.Facts] : Prop :=
  ∀ (m : (ℓ : Loc Cert.RefPwWIdeal.nD Cert.RefPwWIdeal.τ Cert.RefPwWIdeal.sig) → Buf (Elt Ideal) ℓ) (g : Dev Cert.RefPwWIdeal.nD → PrngReg), Pre_RefPwWIdeal m →
    θ_run (Cert.RefPwWIdeal.defs (F := Ideal)) (onTc (τ := Cert.RefPwWIdeal.τ) (Cert.RefPwWIdeal.main (F := Ideal))) ⟨m, fun _ => 0, g⟩ (fun r => (∀ c : Dev Cert.RefPwWIdeal.nD,
      r.2.mem ((c.tc : Thread Cert.RefPwWIdeal.nD Cert.RefPwWIdeal.τ).loc Cert.RefPwWIdeal.main_arg0) = m ((c.tc : Thread Cert.RefPwWIdeal.nD Cert.RefPwWIdeal.τ).loc Cert.RefPwWIdeal.main_arg0)
      ∧ r.2.mem ((c.tc : Thread Cert.RefPwWIdeal.nD Cert.RefPwWIdeal.τ).loc Cert.RefPwWIdeal.main_arg1) = m ((c.tc : Thread Cert.RefPwWIdeal.nD Cert.RefPwWIdeal.τ).loc Cert.RefPwWIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ r.2.sem = fun _ => 0)

def quiescent_RefOutXIdeal [hRefOutXIdeal : Cert.RefOutXIdeal.Facts] : Prop :=
  ∀ (m : (ℓ : Loc Cert.RefOutXIdeal.nD Cert.RefOutXIdeal.τ Cert.RefOutXIdeal.sig) → Buf (Elt Ideal) ℓ) (g : Dev Cert.RefOutXIdeal.nD → PrngReg), Pre_RefOutXIdeal m →
    θ_run (Cert.RefOutXIdeal.defs (F := Ideal)) (onTc (τ := Cert.RefOutXIdeal.τ) (Cert.RefOutXIdeal.main (F := Ideal))) ⟨m, fun _ => 0, g⟩ (fun r => (∀ c : Dev Cert.RefOutXIdeal.nD,
      r.2.mem ((c.tc : Thread Cert.RefOutXIdeal.nD Cert.RefOutXIdeal.τ).loc Cert.RefOutXIdeal.main_arg0) = m ((c.tc : Thread Cert.RefOutXIdeal.nD Cert.RefOutXIdeal.τ).loc Cert.RefOutXIdeal.main_arg0)
      ∧ r.2.mem ((c.tc : Thread Cert.RefOutXIdeal.nD Cert.RefOutXIdeal.τ).loc Cert.RefOutXIdeal.main_arg1) = m ((c.tc : Thread Cert.RefOutXIdeal.nD Cert.RefOutXIdeal.τ).loc Cert.RefOutXIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_RefOutWIdeal [hRefOutWIdeal : Cert.RefOutWIdeal.Facts] : Prop :=
  ∀ (m : (ℓ : Loc Cert.RefOutWIdeal.nD Cert.RefOutWIdeal.τ Cert.RefOutWIdeal.sig) → Buf (Elt Ideal) ℓ) (g : Dev Cert.RefOutWIdeal.nD → PrngReg), Pre_RefOutWIdeal m →
    θ_run (Cert.RefOutWIdeal.defs (F := Ideal)) (onTc (τ := Cert.RefOutWIdeal.τ) (Cert.RefOutWIdeal.main (F := Ideal))) ⟨m, fun _ => 0, g⟩ (fun r => (∀ c : Dev Cert.RefOutWIdeal.nD,
      r.2.mem ((c.tc : Thread Cert.RefOutWIdeal.nD Cert.RefOutWIdeal.τ).loc Cert.RefOutWIdeal.main_arg0) = m ((c.tc : Thread Cert.RefOutWIdeal.nD Cert.RefOutWIdeal.τ).loc Cert.RefOutWIdeal.main_arg0)
      ∧ r.2.mem ((c.tc : Thread Cert.RefOutWIdeal.nD Cert.RefOutWIdeal.τ).loc Cert.RefOutWIdeal.main_arg1) = m ((c.tc : Thread Cert.RefOutWIdeal.nD Cert.RefOutWIdeal.τ).loc Cert.RefOutWIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_RefInIdeal [hRefInIdeal : Cert.RefInIdeal.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1)
      ∧ r.2.mem ((c.tc : Thread Cert.InX.nD Cert.InX.τ).loc Cert.InX.main_arg2) = m ((c.tc : Thread Cert.InX.nD Cert.InX.τ).loc Cert.InX.main_arg2)
      ∧ r.2.mem ((c.tc : Thread Cert.InX.nD Cert.InX.τ).loc Cert.InX.main_arg3) = m ((c.tc : Thread Cert.InX.nD Cert.InX.τ).loc Cert.InX.main_arg3)
      ∧ r.2.mem ((c.tc : Thread Cert.InX.nD Cert.InX.τ).loc Cert.InX.main_arg4) = m ((c.tc : Thread Cert.InX.nD Cert.InX.τ).loc Cert.InX.main_arg4))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
      ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
      ∧ r.2.mem ((c.tc : Thread Cert.InXIdeal.nD Cert.InXIdeal.τ).loc Cert.InXIdeal.main_arg4) = m ((c.tc : Thread Cert.InXIdeal.nD Cert.InXIdeal.τ).loc Cert.InXIdeal.main_arg4))
      ∧ r.2.sem = fun _ => 0)

def quiescent_RefInXIdeal [hRefInXIdeal : Cert.RefInXIdeal.Facts] : Prop :=
  ∀ (m : (ℓ : Loc Cert.RefInXIdeal.nD Cert.RefInXIdeal.τ Cert.RefInXIdeal.sig) → Buf (Elt Ideal) ℓ) (g : Dev Cert.RefInXIdeal.nD → PrngReg), Pre_RefInXIdeal m →
    θ_run (Cert.RefInXIdeal.defs (F := Ideal)) (onTc (τ := Cert.RefInXIdeal.τ) (Cert.RefInXIdeal.main (F := Ideal))) ⟨m, fun _ => 0, g⟩ (fun r => (∀ c : Dev Cert.RefInXIdeal.nD,
      r.2.mem ((c.tc : Thread Cert.RefInXIdeal.nD Cert.RefInXIdeal.τ).loc Cert.RefInXIdeal.main_arg0) = m ((c.tc : Thread Cert.RefInXIdeal.nD Cert.RefInXIdeal.τ).loc Cert.RefInXIdeal.main_arg0)
      ∧ r.2.mem ((c.tc : Thread Cert.RefInXIdeal.nD Cert.RefInXIdeal.τ).loc Cert.RefInXIdeal.main_arg1) = m ((c.tc : Thread Cert.RefInXIdeal.nD Cert.RefInXIdeal.τ).loc Cert.RefInXIdeal.main_arg1)
      ∧ r.2.mem ((c.tc : Thread Cert.RefInXIdeal.nD Cert.RefInXIdeal.τ).loc Cert.RefInXIdeal.main_arg2) = m ((c.tc : Thread Cert.RefInXIdeal.nD Cert.RefInXIdeal.τ).loc Cert.RefInXIdeal.main_arg2)
      ∧ r.2.mem ((c.tc : Thread Cert.RefInXIdeal.nD Cert.RefInXIdeal.τ).loc Cert.RefInXIdeal.main_arg3) = m ((c.tc : Thread Cert.RefInXIdeal.nD Cert.RefInXIdeal.τ).loc Cert.RefInXIdeal.main_arg3)
      ∧ r.2.mem ((c.tc : Thread Cert.RefInXIdeal.nD Cert.RefInXIdeal.τ).loc Cert.RefInXIdeal.main_arg4) = m ((c.tc : Thread Cert.RefInXIdeal.nD Cert.RefInXIdeal.τ).loc Cert.RefInXIdeal.main_arg4))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1)
      ∧ r.2.mem ((c.tc : Thread Cert.InW.nD Cert.InW.τ).loc Cert.InW.main_arg2) = m ((c.tc : Thread Cert.InW.nD Cert.InW.τ).loc Cert.InW.main_arg2)
      ∧ r.2.mem ((c.tc : Thread Cert.InW.nD Cert.InW.τ).loc Cert.InW.main_arg3) = m ((c.tc : Thread Cert.InW.nD Cert.InW.τ).loc Cert.InW.main_arg3))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
      ∧ r.2.mem ((c.tc : Thread Cert.InWIdeal.nD Cert.InWIdeal.τ).loc Cert.InWIdeal.main_arg2) = m ((c.tc : Thread Cert.InWIdeal.nD Cert.InWIdeal.τ).loc Cert.InWIdeal.main_arg2)
      ∧ r.2.mem ((c.tc : Thread Cert.InWIdeal.nD Cert.InWIdeal.τ).loc Cert.InWIdeal.main_arg3) = m ((c.tc : Thread Cert.InWIdeal.nD Cert.InWIdeal.τ).loc Cert.InWIdeal.main_arg3))
      ∧ r.2.sem = fun _ => 0)

def quiescent_RefInWIdeal [hRefInWIdeal : Cert.RefInWIdeal.Facts] : Prop :=
  ∀ (m : (ℓ : Loc Cert.RefInWIdeal.nD Cert.RefInWIdeal.τ Cert.RefInWIdeal.sig) → Buf (Elt Ideal) ℓ) (g : Dev Cert.RefInWIdeal.nD → PrngReg), Pre_RefInWIdeal m →
    θ_run (Cert.RefInWIdeal.defs (F := Ideal)) (onTc (τ := Cert.RefInWIdeal.τ) (Cert.RefInWIdeal.main (F := Ideal))) ⟨m, fun _ => 0, g⟩ (fun r => (∀ c : Dev Cert.RefInWIdeal.nD,
      r.2.mem ((c.tc : Thread Cert.RefInWIdeal.nD Cert.RefInWIdeal.τ).loc Cert.RefInWIdeal.main_arg0) = m ((c.tc : Thread Cert.RefInWIdeal.nD Cert.RefInWIdeal.τ).loc Cert.RefInWIdeal.main_arg0)
      ∧ r.2.mem ((c.tc : Thread Cert.RefInWIdeal.nD Cert.RefInWIdeal.τ).loc Cert.RefInWIdeal.main_arg1) = m ((c.tc : Thread Cert.RefInWIdeal.nD Cert.RefInWIdeal.τ).loc Cert.RefInWIdeal.main_arg1)
      ∧ r.2.mem ((c.tc : Thread Cert.RefInWIdeal.nD Cert.RefInWIdeal.τ).loc Cert.RefInWIdeal.main_arg2) = m ((c.tc : Thread Cert.RefInWIdeal.nD Cert.RefInWIdeal.τ).loc Cert.RefInWIdeal.main_arg2)
      ∧ r.2.mem ((c.tc : Thread Cert.RefInWIdeal.nD Cert.RefInWIdeal.τ).loc Cert.RefInWIdeal.main_arg3) = m ((c.tc : Thread Cert.RefInWIdeal.nD Cert.RefInWIdeal.τ).loc Cert.RefInWIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_RefNormIdeal [hRefNormIdeal : Cert.RefNormIdeal.Facts] : Prop :=
  ∀ (m : (ℓ : Loc Cert.RefNormIdeal.nD Cert.RefNormIdeal.τ Cert.RefNormIdeal.sig) → Buf (Elt Ideal) ℓ) (g : Dev Cert.RefNormIdeal.nD → PrngReg), Pre_RefNormIdeal m →
    θ_run (Cert.RefNormIdeal.defs (F := Ideal)) (onTc (τ := Cert.RefNormIdeal.τ) (Cert.RefNormIdeal.main (F := Ideal))) ⟨m, fun _ => 0, g⟩ (fun r => (∀ c : Dev Cert.RefNormIdeal.nD,
      r.2.mem ((c.tc : Thread Cert.RefNormIdeal.nD Cert.RefNormIdeal.τ).loc Cert.RefNormIdeal.main_arg0) = m ((c.tc : Thread Cert.RefNormIdeal.nD Cert.RefNormIdeal.τ).loc Cert.RefNormIdeal.main_arg0)
      ∧ r.2.mem ((c.tc : Thread Cert.RefNormIdeal.nD Cert.RefNormIdeal.τ).loc Cert.RefNormIdeal.main_arg1) = m ((c.tc : Thread Cert.RefNormIdeal.nD Cert.RefNormIdeal.τ).loc Cert.RefNormIdeal.main_arg1)
      ∧ r.2.mem ((c.tc : Thread Cert.RefNormIdeal.nD Cert.RefNormIdeal.τ).loc Cert.RefNormIdeal.main_arg2) = m ((c.tc : Thread Cert.RefNormIdeal.nD Cert.RefNormIdeal.τ).loc Cert.RefNormIdeal.main_arg2)
      ∧ r.2.mem ((c.tc : Thread Cert.RefNormIdeal.nD Cert.RefNormIdeal.τ).loc Cert.RefNormIdeal.main_arg3) = m ((c.tc : Thread Cert.RefNormIdeal.nD Cert.RefNormIdeal.τ).loc Cert.RefNormIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_RefGateIdeal [hRefGateIdeal : Cert.RefGateIdeal.Facts] : Prop :=
  ∀ (m : (ℓ : Loc Cert.RefGateIdeal.nD Cert.RefGateIdeal.τ Cert.RefGateIdeal.sig) → Buf (Elt Ideal) ℓ) (g : Dev Cert.RefGateIdeal.nD → PrngReg), Pre_RefGateIdeal m →
    θ_run (Cert.RefGateIdeal.defs (F := Ideal)) (onTc (τ := Cert.RefGateIdeal.τ) (Cert.RefGateIdeal.main (F := Ideal))) ⟨m, fun _ => 0, g⟩ (fun r => (∀ c : Dev Cert.RefGateIdeal.nD,
      r.2.mem ((c.tc : Thread Cert.RefGateIdeal.nD Cert.RefGateIdeal.τ).loc Cert.RefGateIdeal.main_arg0) = m ((c.tc : Thread Cert.RefGateIdeal.nD Cert.RefGateIdeal.τ).loc Cert.RefGateIdeal.main_arg0)
      ∧ r.2.mem ((c.tc : Thread Cert.RefGateIdeal.nD Cert.RefGateIdeal.τ).loc Cert.RefGateIdeal.main_arg1) = m ((c.tc : Thread Cert.RefGateIdeal.nD Cert.RefGateIdeal.τ).loc Cert.RefGateIdeal.main_arg1)
      ∧ r.2.mem ((c.tc : Thread Cert.RefGateIdeal.nD Cert.RefGateIdeal.τ).loc Cert.RefGateIdeal.main_arg2) = m ((c.tc : Thread Cert.RefGateIdeal.nD Cert.RefGateIdeal.τ).loc Cert.RefGateIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v40_0)) (v2 : (c : Dev Cert.KernelIdeal.nD) → Buf (Elt Ideal) ((c.tc : Thread Cert.KernelIdeal.nD Cert.KernelIdeal.τ).loc Cert.KernelIdeal.main_v40_1)) (v3 : (c : Dev Cert.KernelIdeal.nD) → Buf (Elt Ideal) ((c.tc : Thread Cert.KernelIdeal.nD Cert.KernelIdeal.τ).loc Cert.KernelIdeal.main_v40_2)) (v4 : (c : Dev Cert.KernelIdeal.nD) → Buf (Elt Ideal) ((c.tc : Thread Cert.KernelIdeal.nD Cert.KernelIdeal.τ).loc Cert.KernelIdeal.main_v40_3)) (v5 : (c : Dev Cert.KernelIdeal.nD) → Buf (Elt Ideal) ((c.tc : Thread Cert.KernelIdeal.nD Cert.KernelIdeal.τ).loc Cert.KernelIdeal.main_v40_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v40_0) = v1 c
          ∧ r.2.mem ((c.tc : Thread Cert.KernelIdeal.nD Cert.KernelIdeal.τ).loc Cert.KernelIdeal.main_v40_1) = v2 c
          ∧ r.2.mem ((c.tc : Thread Cert.KernelIdeal.nD Cert.KernelIdeal.τ).loc Cert.KernelIdeal.main_v40_2) = v3 c
          ∧ r.2.mem ((c.tc : Thread Cert.KernelIdeal.nD Cert.KernelIdeal.τ).loc Cert.KernelIdeal.main_v40_3) = v4 c
          ∧ r.2.mem ((c.tc : Thread Cert.KernelIdeal.nD Cert.KernelIdeal.τ).loc Cert.KernelIdeal.main_v40_4) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_v190) = v1 c
          ∧ r.2.mem ((c.tc : Thread Cert.ReferenceIdeal.nD Cert.ReferenceIdeal.τ).loc Cert.ReferenceIdeal.main_v191) = v2 c
          ∧ r.2.mem ((c.tc : Thread Cert.ReferenceIdeal.nD Cert.ReferenceIdeal.τ).loc Cert.ReferenceIdeal.main_v192) = v3 c
          ∧ r.2.mem ((c.tc : Thread Cert.ReferenceIdeal.nD Cert.ReferenceIdeal.τ).loc Cert.ReferenceIdeal.main_v193) = v4 c
          ∧ r.2.mem ((c.tc : Thread Cert.ReferenceIdeal.nD Cert.ReferenceIdeal.τ).loc Cert.ReferenceIdeal.main_v194) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Up_UpIdeal : Prop :=
  True

def algebraic_UpIdeal_RefUpIdeal [hUpIdeal : Cert.UpIdeal.Facts] [hRefUpIdeal : Cert.RefUpIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.RefUpIdeal.nD Cert.RefUpIdeal.τ Cert.RefUpIdeal.sig) → Buf (Elt Ideal) ℓ) (g' : Dev Cert.RefUpIdeal.nD → PrngReg), Pre_UpIdeal m →
    (∀ c : Dev Cert.UpIdeal.nD,
      m' ((c.tc : Thread Cert.RefUpIdeal.nD Cert.RefUpIdeal.τ).loc Cert.RefUpIdeal.main_arg0) = m ((c.tc : Thread Cert.UpIdeal.nD Cert.UpIdeal.τ).loc Cert.UpIdeal.main_arg0)
      ∧ m' ((c.tc : Thread Cert.RefUpIdeal.nD Cert.RefUpIdeal.τ).loc Cert.RefUpIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.RefUpIdeal.defs (F := Ideal)) (onTc (τ := Cert.RefUpIdeal.τ) (Cert.RefUpIdeal.main (F := Ideal))) ⟨m', fun _ => 0, g'⟩ (fun r => ∀ c : Dev Cert.RefUpIdeal.nD,
          r.2.mem ((c.tc : Thread Cert.RefUpIdeal.nD Cert.RefUpIdeal.τ).loc Cert.RefUpIdeal.main_v8) = v0 c
          ∧ r.2.mem ((c.tc : Thread Cert.RefUpIdeal.nD Cert.RefUpIdeal.τ).loc Cert.RefUpIdeal.main_arg0) = m' ((c.tc : Thread Cert.RefUpIdeal.nD Cert.RefUpIdeal.τ).loc Cert.RefUpIdeal.main_arg0)
          ∧ r.2.mem ((c.tc : Thread Cert.RefUpIdeal.nD Cert.RefUpIdeal.τ).loc Cert.RefUpIdeal.main_arg1) = m' ((c.tc : Thread Cert.RefUpIdeal.nD Cert.RefUpIdeal.τ).loc Cert.RefUpIdeal.main_arg1))

def preserves_UpX_UpXIdeal : Prop :=
  True

def algebraic_UpXIdeal_RefUpXIdeal [hUpXIdeal : Cert.UpXIdeal.Facts] [hRefUpXIdeal : Cert.RefUpXIdeal.Facts] : Prop :=
  ∀ (m : (ℓ : Loc Cert.UpXIdeal.nD Cert.UpXIdeal.τ Cert.UpXIdeal.sig) → Buf (Elt Ideal) ℓ) (g : Dev Cert.UpXIdeal.nD → PrngReg)
    (m' : (ℓ : Loc Cert.RefUpXIdeal.nD Cert.RefUpXIdeal.τ Cert.RefUpXIdeal.sig) → Buf (Elt Ideal) ℓ) (g' : Dev Cert.RefUpXIdeal.nD → PrngReg), Pre_UpXIdeal m →
    (∀ c : Dev Cert.UpXIdeal.nD,
      m' ((c.tc : Thread Cert.RefUpXIdeal.nD Cert.RefUpXIdeal.τ).loc Cert.RefUpXIdeal.main_arg0) = m ((c.tc : Thread Cert.UpXIdeal.nD Cert.UpXIdeal.τ).loc Cert.UpXIdeal.main_arg0)
      ∧ m' ((c.tc : Thread Cert.RefUpXIdeal.nD Cert.RefUpXIdeal.τ).loc Cert.RefUpXIdeal.main_arg1) = m ((c.tc : Thread Cert.UpXIdeal.nD Cert.UpXIdeal.τ).loc Cert.UpXIdeal.main_arg1)) →
    ∃ (v0 : (c : Dev Cert.UpXIdeal.nD) → Buf (Elt Ideal) ((c.tc : Thread Cert.UpXIdeal.nD Cert.UpXIdeal.τ).loc Cert.UpXIdeal.main_v2)),
      θ_run (Cert.UpXIdeal.defs (F := Ideal)) (onTc (τ := Cert.UpXIdeal.τ) (Cert.UpXIdeal.main (F := Ideal))) ⟨m, fun _ => 0, g⟩ (fun r => ∀ c : Dev Cert.UpXIdeal.nD,
          r.2.mem ((c.tc : Thread Cert.UpXIdeal.nD Cert.UpXIdeal.τ).loc Cert.UpXIdeal.main_v2) = v0 c
          ∧ r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
          ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1))
      ∧ θ_run (Cert.RefUpXIdeal.defs (F := Ideal)) (onTc (τ := Cert.RefUpXIdeal.τ) (Cert.RefUpXIdeal.main (F := Ideal))) ⟨m', fun _ => 0, g'⟩ (fun r => ∀ c : Dev Cert.RefUpXIdeal.nD,
          r.2.mem ((c.tc : Thread Cert.RefUpXIdeal.nD Cert.RefUpXIdeal.τ).loc Cert.RefUpXIdeal.main_v12) = v0 c
          ∧ r.2.mem ((c.tc : Thread Cert.RefUpXIdeal.nD Cert.RefUpXIdeal.τ).loc Cert.RefUpXIdeal.main_arg0) = m' ((c.tc : Thread Cert.RefUpXIdeal.nD Cert.RefUpXIdeal.τ).loc Cert.RefUpXIdeal.main_arg0)
          ∧ r.2.mem ((c.tc : Thread Cert.RefUpXIdeal.nD Cert.RefUpXIdeal.τ).loc Cert.RefUpXIdeal.main_arg1) = m' ((c.tc : Thread Cert.RefUpXIdeal.nD Cert.RefUpXIdeal.τ).loc Cert.RefUpXIdeal.main_arg1))

def preserves_UpW_UpWIdeal : Prop :=
  True

def algebraic_UpWIdeal_RefUpWIdeal [hUpWIdeal : Cert.UpWIdeal.Facts] [hRefUpWIdeal : Cert.RefUpWIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.RefUpWIdeal.nD Cert.RefUpWIdeal.τ Cert.RefUpWIdeal.sig) → Buf (Elt Ideal) ℓ) (g' : Dev Cert.RefUpWIdeal.nD → PrngReg), Pre_UpWIdeal m →
    (∀ c : Dev Cert.UpWIdeal.nD,
      m' ((c.tc : Thread Cert.RefUpWIdeal.nD Cert.RefUpWIdeal.τ).loc Cert.RefUpWIdeal.main_arg0) = m ((c.tc : Thread Cert.UpWIdeal.nD Cert.UpWIdeal.τ).loc Cert.UpWIdeal.main_arg0)
      ∧ m' ((c.tc : Thread Cert.RefUpWIdeal.nD Cert.RefUpWIdeal.τ).loc Cert.RefUpWIdeal.main_arg1) = m ((c.tc : Thread Cert.UpWIdeal.nD Cert.UpWIdeal.τ).loc Cert.UpWIdeal.main_arg1)) →
    ∃ (v0 : (c : Dev Cert.UpWIdeal.nD) → Buf (Elt Ideal) ((c.tc : Thread Cert.UpWIdeal.nD Cert.UpWIdeal.τ).loc Cert.UpWIdeal.main_v0)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v0) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ θ_run (Cert.RefUpWIdeal.defs (F := Ideal)) (onTc (τ := Cert.RefUpWIdeal.τ) (Cert.RefUpWIdeal.main (F := Ideal))) ⟨m', fun _ => 0, g'⟩ (fun r => ∀ c : Dev Cert.RefUpWIdeal.nD,
          r.2.mem ((c.tc : Thread Cert.RefUpWIdeal.nD Cert.RefUpWIdeal.τ).loc Cert.RefUpWIdeal.main_v22) = v0 c
          ∧ r.2.mem ((c.tc : Thread Cert.RefUpWIdeal.nD Cert.RefUpWIdeal.τ).loc Cert.RefUpWIdeal.main_arg0) = m' ((c.tc : Thread Cert.RefUpWIdeal.nD Cert.RefUpWIdeal.τ).loc Cert.RefUpWIdeal.main_arg0)
          ∧ r.2.mem ((c.tc : Thread Cert.RefUpWIdeal.nD Cert.RefUpWIdeal.τ).loc Cert.RefUpWIdeal.main_arg1) = m' ((c.tc : Thread Cert.RefUpWIdeal.nD Cert.RefUpWIdeal.τ).loc Cert.RefUpWIdeal.main_arg1))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v3) = v0 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1))

def preserves_DownX_DownXIdeal : Prop :=
  True

def algebraic_DownXIdeal_RefDownXIdeal [hDownXIdeal : Cert.DownXIdeal.Facts] [hRefDownXIdeal : Cert.RefDownXIdeal.Facts] : Prop :=
  ∀ (m : (ℓ : Loc Cert.DownXIdeal.nD Cert.DownXIdeal.τ Cert.DownXIdeal.sig) → Buf (Elt Ideal) ℓ) (g : Dev Cert.DownXIdeal.nD → PrngReg)
    (m' : (ℓ : Loc Cert.RefDownXIdeal.nD Cert.RefDownXIdeal.τ Cert.RefDownXIdeal.sig) → Buf (Elt Ideal) ℓ) (g' : Dev Cert.RefDownXIdeal.nD → PrngReg), Pre_DownXIdeal m →
    (∀ c : Dev Cert.DownXIdeal.nD,
      m' ((c.tc : Thread Cert.RefDownXIdeal.nD Cert.RefDownXIdeal.τ).loc Cert.RefDownXIdeal.main_arg0) = m ((c.tc : Thread Cert.DownXIdeal.nD Cert.DownXIdeal.τ).loc Cert.DownXIdeal.main_arg0)
      ∧ m' ((c.tc : Thread Cert.RefDownXIdeal.nD Cert.RefDownXIdeal.τ).loc Cert.RefDownXIdeal.main_arg1) = m ((c.tc : Thread Cert.DownXIdeal.nD Cert.DownXIdeal.τ).loc Cert.DownXIdeal.main_arg1)) →
    ∃ (v0 : (c : Dev Cert.DownXIdeal.nD) → Buf (Elt Ideal) ((c.tc : Thread Cert.DownXIdeal.nD Cert.DownXIdeal.τ).loc Cert.DownXIdeal.main_v0)),
      θ_run (Cert.DownXIdeal.defs (F := Ideal)) (onTc (τ := Cert.DownXIdeal.τ) (Cert.DownXIdeal.main (F := Ideal))) ⟨m, fun _ => 0, g⟩ (fun r => ∀ c : Dev Cert.DownXIdeal.nD,
          r.2.mem ((c.tc : Thread Cert.DownXIdeal.nD Cert.DownXIdeal.τ).loc Cert.DownXIdeal.main_v0) = v0 c
          ∧ r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
          ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ θ_run (Cert.RefDownXIdeal.defs (F := Ideal)) (onTc (τ := Cert.RefDownXIdeal.τ) (Cert.RefDownXIdeal.main (F := Ideal))) ⟨m', fun _ => 0, g'⟩ (fun r => ∀ c : Dev Cert.RefDownXIdeal.nD,
          r.2.mem ((c.tc : Thread Cert.RefDownXIdeal.nD Cert.RefDownXIdeal.τ).loc Cert.RefDownXIdeal.main_v5) = v0 c
          ∧ r.2.mem ((c.tc : Thread Cert.RefDownXIdeal.nD Cert.RefDownXIdeal.τ).loc Cert.RefDownXIdeal.main_arg0) = m' ((c.tc : Thread Cert.RefDownXIdeal.nD Cert.RefDownXIdeal.τ).loc Cert.RefDownXIdeal.main_arg0)
          ∧ r.2.mem ((c.tc : Thread Cert.RefDownXIdeal.nD Cert.RefDownXIdeal.τ).loc Cert.RefDownXIdeal.main_arg1) = m' ((c.tc : Thread Cert.RefDownXIdeal.nD Cert.RefDownXIdeal.τ).loc Cert.RefDownXIdeal.main_arg1))

def preserves_DownW_DownWIdeal : Prop :=
  True

def algebraic_DownWIdeal_RefDownWIdeal [hDownWIdeal : Cert.DownWIdeal.Facts] [hRefDownWIdeal : Cert.RefDownWIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.RefDownWIdeal.nD Cert.RefDownWIdeal.τ Cert.RefDownWIdeal.sig) → Buf (Elt Ideal) ℓ) (g' : Dev Cert.RefDownWIdeal.nD → PrngReg), Pre_DownWIdeal m →
    (∀ c : Dev Cert.DownWIdeal.nD,
      m' ((c.tc : Thread Cert.RefDownWIdeal.nD Cert.RefDownWIdeal.τ).loc Cert.RefDownWIdeal.main_arg0) = m ((c.tc : Thread Cert.DownWIdeal.nD Cert.DownWIdeal.τ).loc Cert.DownWIdeal.main_arg0)
      ∧ m' ((c.tc : Thread Cert.RefDownWIdeal.nD Cert.RefDownWIdeal.τ).loc Cert.RefDownWIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.RefDownWIdeal.defs (F := Ideal)) (onTc (τ := Cert.RefDownWIdeal.τ) (Cert.RefDownWIdeal.main (F := Ideal))) ⟨m', fun _ => 0, g'⟩ (fun r => ∀ c : Dev Cert.RefDownWIdeal.nD,
          r.2.mem ((c.tc : Thread Cert.RefDownWIdeal.nD Cert.RefDownWIdeal.τ).loc Cert.RefDownWIdeal.main_v6) = v0 c
          ∧ r.2.mem ((c.tc : Thread Cert.RefDownWIdeal.nD Cert.RefDownWIdeal.τ).loc Cert.RefDownWIdeal.main_arg0) = m' ((c.tc : Thread Cert.RefDownWIdeal.nD Cert.RefDownWIdeal.τ).loc Cert.RefDownWIdeal.main_arg0)
          ∧ r.2.mem ((c.tc : Thread Cert.RefDownWIdeal.nD Cert.RefDownWIdeal.τ).loc Cert.RefDownWIdeal.main_arg1) = m' ((c.tc : Thread Cert.RefDownWIdeal.nD Cert.RefDownWIdeal.τ).loc Cert.RefDownWIdeal.main_arg1))

def preserves_Pw_PwIdeal : Prop :=
  True

def algebraic_PwIdeal_RefPwIdeal [hPwIdeal : Cert.PwIdeal.Facts] [hRefPwIdeal : Cert.RefPwIdeal.Facts] : Prop :=
  ∀ (m : (ℓ : Loc Cert.PwIdeal.nD Cert.PwIdeal.τ Cert.PwIdeal.sig) → Buf (Elt Ideal) ℓ) (g : Dev Cert.PwIdeal.nD → PrngReg)
    (m' : (ℓ : Loc Cert.RefPwIdeal.nD Cert.RefPwIdeal.τ Cert.RefPwIdeal.sig) → Buf (Elt Ideal) ℓ) (g' : Dev Cert.RefPwIdeal.nD → PrngReg), Pre_PwIdeal m →
    (∀ c : Dev Cert.PwIdeal.nD,
      m' ((c.tc : Thread Cert.RefPwIdeal.nD Cert.RefPwIdeal.τ).loc Cert.RefPwIdeal.main_arg0) = m ((c.tc : Thread Cert.PwIdeal.nD Cert.PwIdeal.τ).loc Cert.PwIdeal.main_arg0)
      ∧ m' ((c.tc : Thread Cert.RefPwIdeal.nD Cert.RefPwIdeal.τ).loc Cert.RefPwIdeal.main_arg1) = m ((c.tc : Thread Cert.PwIdeal.nD Cert.PwIdeal.τ).loc Cert.PwIdeal.main_arg1)) →
    ∃ (v0 : (c : Dev Cert.PwIdeal.nD) → Buf (Elt Ideal) ((c.tc : Thread Cert.PwIdeal.nD Cert.PwIdeal.τ).loc Cert.PwIdeal.main_v2)),
      θ_run (Cert.PwIdeal.defs (F := Ideal)) (onTc (τ := Cert.PwIdeal.τ) (Cert.PwIdeal.main (F := Ideal))) ⟨m, fun _ => 0, g⟩ (fun r => ∀ c : Dev Cert.PwIdeal.nD,
          r.2.mem ((c.tc : Thread Cert.PwIdeal.nD Cert.PwIdeal.τ).loc Cert.PwIdeal.main_v2) = v0 c
          ∧ r.2.mem ((c.tc : Thread Cert.PwIdeal.nD Cert.PwIdeal.τ).loc Cert.PwIdeal.main_arg0) = m ((c.tc : Thread Cert.PwIdeal.nD Cert.PwIdeal.τ).loc Cert.PwIdeal.main_arg0)
          ∧ r.2.mem ((c.tc : Thread Cert.PwIdeal.nD Cert.PwIdeal.τ).loc Cert.PwIdeal.main_arg1) = m ((c.tc : Thread Cert.PwIdeal.nD Cert.PwIdeal.τ).loc Cert.PwIdeal.main_arg1))
      ∧ θ_run (Cert.RefPwIdeal.defs (F := Ideal)) (onTc (τ := Cert.RefPwIdeal.τ) (Cert.RefPwIdeal.main (F := Ideal))) ⟨m', fun _ => 0, g'⟩ (fun r => ∀ c : Dev Cert.RefPwIdeal.nD,
          r.2.mem ((c.tc : Thread Cert.RefPwIdeal.nD Cert.RefPwIdeal.τ).loc Cert.RefPwIdeal.main_v8) = v0 c
          ∧ r.2.mem ((c.tc : Thread Cert.RefPwIdeal.nD Cert.RefPwIdeal.τ).loc Cert.RefPwIdeal.main_arg0) = m' ((c.tc : Thread Cert.RefPwIdeal.nD Cert.RefPwIdeal.τ).loc Cert.RefPwIdeal.main_arg0)
          ∧ r.2.mem ((c.tc : Thread Cert.RefPwIdeal.nD Cert.RefPwIdeal.τ).loc Cert.RefPwIdeal.main_arg1) = m' ((c.tc : Thread Cert.RefPwIdeal.nD Cert.RefPwIdeal.τ).loc Cert.RefPwIdeal.main_arg1))

def preserves_PwX_PwXIdeal : Prop :=
  True

def algebraic_PwXIdeal_RefPwXIdeal [hPwXIdeal : Cert.PwXIdeal.Facts] [hRefPwXIdeal : Cert.RefPwXIdeal.Facts] : Prop :=
  ∀ (m : (ℓ : Loc Cert.PwXIdeal.nD Cert.PwXIdeal.τ Cert.PwXIdeal.sig) → Buf (Elt Ideal) ℓ) (g : Dev Cert.PwXIdeal.nD → PrngReg)
    (m' : (ℓ : Loc Cert.RefPwXIdeal.nD Cert.RefPwXIdeal.τ Cert.RefPwXIdeal.sig) → Buf (Elt Ideal) ℓ) (g' : Dev Cert.RefPwXIdeal.nD → PrngReg), Pre_PwXIdeal m →
    (∀ c : Dev Cert.PwXIdeal.nD,
      m' ((c.tc : Thread Cert.RefPwXIdeal.nD Cert.RefPwXIdeal.τ).loc Cert.RefPwXIdeal.main_arg0) = m ((c.tc : Thread Cert.PwXIdeal.nD Cert.PwXIdeal.τ).loc Cert.PwXIdeal.main_arg0)
      ∧ m' ((c.tc : Thread Cert.RefPwXIdeal.nD Cert.RefPwXIdeal.τ).loc Cert.RefPwXIdeal.main_arg1) = m ((c.tc : Thread Cert.PwXIdeal.nD Cert.PwXIdeal.τ).loc Cert.PwXIdeal.main_arg1)) →
    ∃ (v0 : (c : Dev Cert.PwXIdeal.nD) → Buf (Elt Ideal) ((c.tc : Thread Cert.PwXIdeal.nD Cert.PwXIdeal.τ).loc Cert.PwXIdeal.main_v2)),
      θ_run (Cert.PwXIdeal.defs (F := Ideal)) (onTc (τ := Cert.PwXIdeal.τ) (Cert.PwXIdeal.main (F := Ideal))) ⟨m, fun _ => 0, g⟩ (fun r => ∀ c : Dev Cert.PwXIdeal.nD,
          r.2.mem ((c.tc : Thread Cert.PwXIdeal.nD Cert.PwXIdeal.τ).loc Cert.PwXIdeal.main_v2) = v0 c
          ∧ r.2.mem ((c.tc : Thread Cert.PwXIdeal.nD Cert.PwXIdeal.τ).loc Cert.PwXIdeal.main_arg0) = m ((c.tc : Thread Cert.PwXIdeal.nD Cert.PwXIdeal.τ).loc Cert.PwXIdeal.main_arg0)
          ∧ r.2.mem ((c.tc : Thread Cert.PwXIdeal.nD Cert.PwXIdeal.τ).loc Cert.PwXIdeal.main_arg1) = m ((c.tc : Thread Cert.PwXIdeal.nD Cert.PwXIdeal.τ).loc Cert.PwXIdeal.main_arg1))
      ∧ θ_run (Cert.RefPwXIdeal.defs (F := Ideal)) (onTc (τ := Cert.RefPwXIdeal.τ) (Cert.RefPwXIdeal.main (F := Ideal))) ⟨m', fun _ => 0, g'⟩ (fun r => ∀ c : Dev Cert.RefPwXIdeal.nD,
          r.2.mem ((c.tc : Thread Cert.RefPwXIdeal.nD Cert.RefPwXIdeal.τ).loc Cert.RefPwXIdeal.main_v12) = v0 c
          ∧ r.2.mem ((c.tc : Thread Cert.RefPwXIdeal.nD Cert.RefPwXIdeal.τ).loc Cert.RefPwXIdeal.main_arg0) = m' ((c.tc : Thread Cert.RefPwXIdeal.nD Cert.RefPwXIdeal.τ).loc Cert.RefPwXIdeal.main_arg0)
          ∧ r.2.mem ((c.tc : Thread Cert.RefPwXIdeal.nD Cert.RefPwXIdeal.τ).loc Cert.RefPwXIdeal.main_arg1) = m' ((c.tc : Thread Cert.RefPwXIdeal.nD Cert.RefPwXIdeal.τ).loc Cert.RefPwXIdeal.main_arg1))

def preserves_PwW_PwWIdeal : Prop :=
  True

def algebraic_PwWIdeal_RefPwWIdeal [hPwWIdeal : Cert.PwWIdeal.Facts] [hRefPwWIdeal : Cert.RefPwWIdeal.Facts] : Prop :=
  ∀ (m : (ℓ : Loc Cert.PwWIdeal.nD Cert.PwWIdeal.τ Cert.PwWIdeal.sig) → Buf (Elt Ideal) ℓ) (g : Dev Cert.PwWIdeal.nD → PrngReg)
    (m' : (ℓ : Loc Cert.RefPwWIdeal.nD Cert.RefPwWIdeal.τ Cert.RefPwWIdeal.sig) → Buf (Elt Ideal) ℓ) (g' : Dev Cert.RefPwWIdeal.nD → PrngReg), Pre_PwWIdeal m →
    (∀ c : Dev Cert.PwWIdeal.nD,
      m' ((c.tc : Thread Cert.RefPwWIdeal.nD Cert.RefPwWIdeal.τ).loc Cert.RefPwWIdeal.main_arg0) = m ((c.tc : Thread Cert.PwWIdeal.nD Cert.PwWIdeal.τ).loc Cert.PwWIdeal.main_arg0)
      ∧ m' ((c.tc : Thread Cert.RefPwWIdeal.nD Cert.RefPwWIdeal.τ).loc Cert.RefPwWIdeal.main_arg1) = m ((c.tc : Thread Cert.PwWIdeal.nD Cert.PwWIdeal.τ).loc Cert.PwWIdeal.main_arg1)) →
    ∃ (v0 : (c : Dev Cert.PwWIdeal.nD) → Buf (Elt Ideal) ((c.tc : Thread Cert.PwWIdeal.nD Cert.PwWIdeal.τ).loc Cert.PwWIdeal.main_v0)),
      θ_run (Cert.PwWIdeal.defs (F := Ideal)) (onTc (τ := Cert.PwWIdeal.τ) (Cert.PwWIdeal.main (F := Ideal))) ⟨m, fun _ => 0, g⟩ (fun r => ∀ c : Dev Cert.PwWIdeal.nD,
          r.2.mem ((c.tc : Thread Cert.PwWIdeal.nD Cert.PwWIdeal.τ).loc Cert.PwWIdeal.main_v0) = v0 c
          ∧ r.2.mem ((c.tc : Thread Cert.PwWIdeal.nD Cert.PwWIdeal.τ).loc Cert.PwWIdeal.main_arg0) = m ((c.tc : Thread Cert.PwWIdeal.nD Cert.PwWIdeal.τ).loc Cert.PwWIdeal.main_arg0)
          ∧ r.2.mem ((c.tc : Thread Cert.PwWIdeal.nD Cert.PwWIdeal.τ).loc Cert.PwWIdeal.main_arg1) = m ((c.tc : Thread Cert.PwWIdeal.nD Cert.PwWIdeal.τ).loc Cert.PwWIdeal.main_arg1))
      ∧ θ_run (Cert.RefPwWIdeal.defs (F := Ideal)) (onTc (τ := Cert.RefPwWIdeal.τ) (Cert.RefPwWIdeal.main (F := Ideal))) ⟨m', fun _ => 0, g'⟩ (fun r => ∀ c : Dev Cert.RefPwWIdeal.nD,
          r.2.mem ((c.tc : Thread Cert.RefPwWIdeal.nD Cert.RefPwWIdeal.τ).loc Cert.RefPwWIdeal.main_v22) = v0 c
          ∧ r.2.mem ((c.tc : Thread Cert.RefPwWIdeal.nD Cert.RefPwWIdeal.τ).loc Cert.RefPwWIdeal.main_arg0) = m' ((c.tc : Thread Cert.RefPwWIdeal.nD Cert.RefPwWIdeal.τ).loc Cert.RefPwWIdeal.main_arg0)
          ∧ r.2.mem ((c.tc : Thread Cert.RefPwWIdeal.nD Cert.RefPwWIdeal.τ).loc Cert.RefPwWIdeal.main_arg1) = m' ((c.tc : Thread Cert.RefPwWIdeal.nD Cert.RefPwWIdeal.τ).loc Cert.RefPwWIdeal.main_arg1))

def preserves_Out_OutIdeal : Prop :=
  True

def algebraic_OutIdeal_RefOutIdeal [hOutIdeal : Cert.OutIdeal.Facts] [hRefOutIdeal : Cert.RefOutIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutIdeal m →
    (∀ c : Dev Cert.OutIdeal.nD,
      m' ((c.tc : Thread Cert.RefOutIdeal.nD Cert.RefOutIdeal.τ).loc Cert.RefOutIdeal.main_arg0) = m ((c.tc : Thread Cert.OutIdeal.nD Cert.OutIdeal.τ).loc Cert.OutIdeal.main_arg0)
      ∧ m' ((c.tc : Thread Cert.RefOutIdeal.nD Cert.RefOutIdeal.τ).loc Cert.RefOutIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v3) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1))

def preserves_OutX_OutXIdeal : Prop :=
  True

def algebraic_OutXIdeal_RefOutXIdeal [hOutXIdeal : Cert.OutXIdeal.Facts] [hRefOutXIdeal : Cert.RefOutXIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.RefOutXIdeal.nD Cert.RefOutXIdeal.τ Cert.RefOutXIdeal.sig) → Buf (Elt Ideal) ℓ) (g' : Dev Cert.RefOutXIdeal.nD → PrngReg), Pre_OutXIdeal m →
    (∀ c : Dev Cert.OutXIdeal.nD,
      m' ((c.tc : Thread Cert.RefOutXIdeal.nD Cert.RefOutXIdeal.τ).loc Cert.RefOutXIdeal.main_arg0) = m ((c.tc : Thread Cert.OutXIdeal.nD Cert.OutXIdeal.τ).loc Cert.OutXIdeal.main_arg0)
      ∧ m' ((c.tc : Thread Cert.RefOutXIdeal.nD Cert.RefOutXIdeal.τ).loc Cert.RefOutXIdeal.main_arg1) = m ((c.tc : Thread Cert.OutXIdeal.nD Cert.OutXIdeal.τ).loc Cert.OutXIdeal.main_arg1)) →
    ∃ (v0 : (c : Dev Cert.OutXIdeal.nD) → Buf (Elt Ideal) ((c.tc : Thread Cert.OutXIdeal.nD Cert.OutXIdeal.τ).loc Cert.OutXIdeal.main_v0)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v0) = v0 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ θ_run (Cert.RefOutXIdeal.defs (F := Ideal)) (onTc (τ := Cert.RefOutXIdeal.τ) (Cert.RefOutXIdeal.main (F := Ideal))) ⟨m', fun _ => 0, g'⟩ (fun r => ∀ c : Dev Cert.RefOutXIdeal.nD,
          r.2.mem ((c.tc : Thread Cert.RefOutXIdeal.nD Cert.RefOutXIdeal.τ).loc Cert.RefOutXIdeal.main_v5) = v0 c
          ∧ r.2.mem ((c.tc : Thread Cert.RefOutXIdeal.nD Cert.RefOutXIdeal.τ).loc Cert.RefOutXIdeal.main_arg0) = m' ((c.tc : Thread Cert.RefOutXIdeal.nD Cert.RefOutXIdeal.τ).loc Cert.RefOutXIdeal.main_arg0)
          ∧ r.2.mem ((c.tc : Thread Cert.RefOutXIdeal.nD Cert.RefOutXIdeal.τ).loc Cert.RefOutXIdeal.main_arg1) = m' ((c.tc : Thread Cert.RefOutXIdeal.nD Cert.RefOutXIdeal.τ).loc Cert.RefOutXIdeal.main_arg1))

def preserves_OutW_OutWIdeal : Prop :=
  True

def algebraic_OutWIdeal_RefOutWIdeal [hOutWIdeal : Cert.OutWIdeal.Facts] [hRefOutWIdeal : Cert.RefOutWIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.RefOutWIdeal.nD Cert.RefOutWIdeal.τ Cert.RefOutWIdeal.sig) → Buf (Elt Ideal) ℓ) (g' : Dev Cert.RefOutWIdeal.nD → PrngReg), Pre_OutWIdeal m →
    (∀ c : Dev Cert.OutWIdeal.nD,
      m' ((c.tc : Thread Cert.RefOutWIdeal.nD Cert.RefOutWIdeal.τ).loc Cert.RefOutWIdeal.main_arg0) = m ((c.tc : Thread Cert.OutWIdeal.nD Cert.OutWIdeal.τ).loc Cert.OutWIdeal.main_arg0)
      ∧ m' ((c.tc : Thread Cert.RefOutWIdeal.nD Cert.RefOutWIdeal.τ).loc Cert.RefOutWIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.RefOutWIdeal.defs (F := Ideal)) (onTc (τ := Cert.RefOutWIdeal.τ) (Cert.RefOutWIdeal.main (F := Ideal))) ⟨m', fun _ => 0, g'⟩ (fun r => ∀ c : Dev Cert.RefOutWIdeal.nD,
          r.2.mem ((c.tc : Thread Cert.RefOutWIdeal.nD Cert.RefOutWIdeal.τ).loc Cert.RefOutWIdeal.main_v6) = v0 c
          ∧ r.2.mem ((c.tc : Thread Cert.RefOutWIdeal.nD Cert.RefOutWIdeal.τ).loc Cert.RefOutWIdeal.main_arg0) = m' ((c.tc : Thread Cert.RefOutWIdeal.nD Cert.RefOutWIdeal.τ).loc Cert.RefOutWIdeal.main_arg0)
          ∧ r.2.mem ((c.tc : Thread Cert.RefOutWIdeal.nD Cert.RefOutWIdeal.τ).loc Cert.RefOutWIdeal.main_arg1) = m' ((c.tc : Thread Cert.RefOutWIdeal.nD Cert.RefOutWIdeal.τ).loc Cert.RefOutWIdeal.main_arg1))

def preserves_In_InIdeal : Prop :=
  True

def algebraic_InIdeal_RefInIdeal [hInIdeal : Cert.InIdeal.Facts] [hRefInIdeal : Cert.RefInIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.RefInIdeal.nD Cert.RefInIdeal.τ Cert.RefInIdeal.sig) → Buf (Elt Ideal) ℓ) (g' : Dev Cert.RefInIdeal.nD → PrngReg), Pre_InIdeal m →
    (∀ c : Dev Cert.InIdeal.nD,
      m' ((c.tc : Thread Cert.RefInIdeal.nD Cert.RefInIdeal.τ).loc Cert.RefInIdeal.main_arg0) = m ((c.tc : Thread Cert.InIdeal.nD Cert.InIdeal.τ).loc Cert.InIdeal.main_arg0)
      ∧ m' ((c.tc : Thread Cert.RefInIdeal.nD Cert.RefInIdeal.τ).loc Cert.RefInIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v2) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.RefInIdeal.defs (F := Ideal)) (onTc (τ := Cert.RefInIdeal.τ) (Cert.RefInIdeal.main (F := Ideal))) ⟨m', fun _ => 0, g'⟩ (fun r => ∀ c : Dev Cert.RefInIdeal.nD,
          r.2.mem ((c.tc : Thread Cert.RefInIdeal.nD Cert.RefInIdeal.τ).loc Cert.RefInIdeal.main_v8) = v0 c
          ∧ r.2.mem ((c.tc : Thread Cert.RefInIdeal.nD Cert.RefInIdeal.τ).loc Cert.RefInIdeal.main_arg0) = m' ((c.tc : Thread Cert.RefInIdeal.nD Cert.RefInIdeal.τ).loc Cert.RefInIdeal.main_arg0)
          ∧ r.2.mem ((c.tc : Thread Cert.RefInIdeal.nD Cert.RefInIdeal.τ).loc Cert.RefInIdeal.main_arg1) = m' ((c.tc : Thread Cert.RefInIdeal.nD Cert.RefInIdeal.τ).loc Cert.RefInIdeal.main_arg1))

def preserves_InX_InXIdeal : Prop :=
  True

def algebraic_InXIdeal_RefInXIdeal [hInXIdeal : Cert.InXIdeal.Facts] [hRefInXIdeal : Cert.RefInXIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.RefInXIdeal.nD Cert.RefInXIdeal.τ Cert.RefInXIdeal.sig) → Buf (Elt Ideal) ℓ) (g' : Dev Cert.RefInXIdeal.nD → PrngReg), Pre_InXIdeal m →
    (∀ c : Dev Cert.InXIdeal.nD,
      m' ((c.tc : Thread Cert.RefInXIdeal.nD Cert.RefInXIdeal.τ).loc Cert.RefInXIdeal.main_arg0) = m ((c.tc : Thread Cert.InXIdeal.nD Cert.InXIdeal.τ).loc Cert.InXIdeal.main_arg0)
      ∧ m' ((c.tc : Thread Cert.RefInXIdeal.nD Cert.RefInXIdeal.τ).loc Cert.RefInXIdeal.main_arg1) = m ((c.tc : Thread Cert.InXIdeal.nD Cert.InXIdeal.τ).loc Cert.InXIdeal.main_arg1)
      ∧ m' ((c.tc : Thread Cert.RefInXIdeal.nD Cert.RefInXIdeal.τ).loc Cert.RefInXIdeal.main_arg2) = m ((c.tc : Thread Cert.InXIdeal.nD Cert.InXIdeal.τ).loc Cert.InXIdeal.main_arg2)
      ∧ m' ((c.tc : Thread Cert.RefInXIdeal.nD Cert.RefInXIdeal.τ).loc Cert.RefInXIdeal.main_arg3) = m ((c.tc : Thread Cert.InXIdeal.nD Cert.InXIdeal.τ).loc Cert.InXIdeal.main_arg3)
      ∧ m' ((c.tc : Thread Cert.RefInXIdeal.nD Cert.RefInXIdeal.τ).loc Cert.RefInXIdeal.main_arg4) = m ((c.tc : Thread Cert.InXIdeal.nD Cert.InXIdeal.τ).loc Cert.InXIdeal.main_arg4)) →
    ∃ (v0 : (c : Dev Cert.InXIdeal.nD) → Buf (Elt Ideal) ((c.tc : Thread Cert.InXIdeal.nD Cert.InXIdeal.τ).loc Cert.InXIdeal.main_v2)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v2) = v0 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
          ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
          ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
          ∧ r.2.mem ((c.tc : Thread Cert.InXIdeal.nD Cert.InXIdeal.τ).loc Cert.InXIdeal.main_arg4) = m ((c.tc : Thread Cert.InXIdeal.nD Cert.InXIdeal.τ).loc Cert.InXIdeal.main_arg4))
      ∧ θ_run (Cert.RefInXIdeal.defs (F := Ideal)) (onTc (τ := Cert.RefInXIdeal.τ) (Cert.RefInXIdeal.main (F := Ideal))) ⟨m', fun _ => 0, g'⟩ (fun r => ∀ c : Dev Cert.RefInXIdeal.nD,
          r.2.mem ((c.tc : Thread Cert.RefInXIdeal.nD Cert.RefInXIdeal.τ).loc Cert.RefInXIdeal.main_v11) = v0 c
          ∧ r.2.mem ((c.tc : Thread Cert.RefInXIdeal.nD Cert.RefInXIdeal.τ).loc Cert.RefInXIdeal.main_arg0) = m' ((c.tc : Thread Cert.RefInXIdeal.nD Cert.RefInXIdeal.τ).loc Cert.RefInXIdeal.main_arg0)
          ∧ r.2.mem ((c.tc : Thread Cert.RefInXIdeal.nD Cert.RefInXIdeal.τ).loc Cert.RefInXIdeal.main_arg1) = m' ((c.tc : Thread Cert.RefInXIdeal.nD Cert.RefInXIdeal.τ).loc Cert.RefInXIdeal.main_arg1)
          ∧ r.2.mem ((c.tc : Thread Cert.RefInXIdeal.nD Cert.RefInXIdeal.τ).loc Cert.RefInXIdeal.main_arg2) = m' ((c.tc : Thread Cert.RefInXIdeal.nD Cert.RefInXIdeal.τ).loc Cert.RefInXIdeal.main_arg2)
          ∧ r.2.mem ((c.tc : Thread Cert.RefInXIdeal.nD Cert.RefInXIdeal.τ).loc Cert.RefInXIdeal.main_arg3) = m' ((c.tc : Thread Cert.RefInXIdeal.nD Cert.RefInXIdeal.τ).loc Cert.RefInXIdeal.main_arg3)
          ∧ r.2.mem ((c.tc : Thread Cert.RefInXIdeal.nD Cert.RefInXIdeal.τ).loc Cert.RefInXIdeal.main_arg4) = m' ((c.tc : Thread Cert.RefInXIdeal.nD Cert.RefInXIdeal.τ).loc Cert.RefInXIdeal.main_arg4))

def preserves_InW_InWIdeal : Prop :=
  True

def algebraic_InWIdeal_RefInWIdeal [hInWIdeal : Cert.InWIdeal.Facts] [hRefInWIdeal : Cert.RefInWIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.RefInWIdeal.nD Cert.RefInWIdeal.τ Cert.RefInWIdeal.sig) → Buf (Elt Ideal) ℓ) (g' : Dev Cert.RefInWIdeal.nD → PrngReg), Pre_InWIdeal m →
    (∀ c : Dev Cert.InWIdeal.nD,
      m' ((c.tc : Thread Cert.RefInWIdeal.nD Cert.RefInWIdeal.τ).loc Cert.RefInWIdeal.main_arg0) = m ((c.tc : Thread Cert.InWIdeal.nD Cert.InWIdeal.τ).loc Cert.InWIdeal.main_arg0)
      ∧ m' ((c.tc : Thread Cert.RefInWIdeal.nD Cert.RefInWIdeal.τ).loc Cert.RefInWIdeal.main_arg1) = m ((c.tc : Thread Cert.InWIdeal.nD Cert.InWIdeal.τ).loc Cert.InWIdeal.main_arg1)
      ∧ m' ((c.tc : Thread Cert.RefInWIdeal.nD Cert.RefInWIdeal.τ).loc Cert.RefInWIdeal.main_arg2) = m ((c.tc : Thread Cert.InWIdeal.nD Cert.InWIdeal.τ).loc Cert.InWIdeal.main_arg2)
      ∧ m' ((c.tc : Thread Cert.RefInWIdeal.nD Cert.RefInWIdeal.τ).loc Cert.RefInWIdeal.main_arg3) = m ((c.tc : Thread Cert.InWIdeal.nD Cert.InWIdeal.τ).loc Cert.InWIdeal.main_arg3)) →
    ∃ (v0 : (c : Dev Cert.InWIdeal.nD) → Buf (Elt Ideal) ((c.tc : Thread Cert.InWIdeal.nD Cert.InWIdeal.τ).loc Cert.InWIdeal.main_v2)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v2) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
          ∧ r.2.mem ((c.tc : Thread Cert.InWIdeal.nD Cert.InWIdeal.τ).loc Cert.InWIdeal.main_arg2) = m ((c.tc : Thread Cert.InWIdeal.nD Cert.InWIdeal.τ).loc Cert.InWIdeal.main_arg2)
          ∧ r.2.mem ((c.tc : Thread Cert.InWIdeal.nD Cert.InWIdeal.τ).loc Cert.InWIdeal.main_arg3) = m ((c.tc : Thread Cert.InWIdeal.nD Cert.InWIdeal.τ).loc Cert.InWIdeal.main_arg3))
      ∧ θ_run (Cert.RefInWIdeal.defs (F := Ideal)) (onTc (τ := Cert.RefInWIdeal.τ) (Cert.RefInWIdeal.main (F := Ideal))) ⟨m', fun _ => 0, g'⟩ (fun r => ∀ c : Dev Cert.RefInWIdeal.nD,
          r.2.mem ((c.tc : Thread Cert.RefInWIdeal.nD Cert.RefInWIdeal.τ).loc Cert.RefInWIdeal.main_v12) = v0 c
          ∧ r.2.mem ((c.tc : Thread Cert.RefInWIdeal.nD Cert.RefInWIdeal.τ).loc Cert.RefInWIdeal.main_arg0) = m' ((c.tc : Thread Cert.RefInWIdeal.nD Cert.RefInWIdeal.τ).loc Cert.RefInWIdeal.main_arg0)
          ∧ r.2.mem ((c.tc : Thread Cert.RefInWIdeal.nD Cert.RefInWIdeal.τ).loc Cert.RefInWIdeal.main_arg1) = m' ((c.tc : Thread Cert.RefInWIdeal.nD Cert.RefInWIdeal.τ).loc Cert.RefInWIdeal.main_arg1)
          ∧ r.2.mem ((c.tc : Thread Cert.RefInWIdeal.nD Cert.RefInWIdeal.τ).loc Cert.RefInWIdeal.main_arg2) = m' ((c.tc : Thread Cert.RefInWIdeal.nD Cert.RefInWIdeal.τ).loc Cert.RefInWIdeal.main_arg2)
          ∧ r.2.mem ((c.tc : Thread Cert.RefInWIdeal.nD Cert.RefInWIdeal.τ).loc Cert.RefInWIdeal.main_arg3) = m' ((c.tc : Thread Cert.RefInWIdeal.nD Cert.RefInWIdeal.τ).loc Cert.RefInWIdeal.main_arg3))

def preserves_Norm_NormIdeal : Prop :=
  True

def algebraic_NormIdeal_RefNormIdeal [hNormIdeal : Cert.NormIdeal.Facts] [hRefNormIdeal : Cert.RefNormIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.RefNormIdeal.nD Cert.RefNormIdeal.τ Cert.RefNormIdeal.sig) → Buf (Elt Ideal) ℓ) (g' : Dev Cert.RefNormIdeal.nD → PrngReg), Pre_NormIdeal m →
    (∀ c : Dev Cert.NormIdeal.nD,
      m' ((c.tc : Thread Cert.RefNormIdeal.nD Cert.RefNormIdeal.τ).loc Cert.RefNormIdeal.main_arg0) = m ((c.tc : Thread Cert.NormIdeal.nD Cert.NormIdeal.τ).loc Cert.NormIdeal.main_arg0)
      ∧ m' ((c.tc : Thread Cert.RefNormIdeal.nD Cert.RefNormIdeal.τ).loc Cert.RefNormIdeal.main_arg1) = m ((c.tc : Thread Cert.NormIdeal.nD Cert.NormIdeal.τ).loc Cert.NormIdeal.main_arg1)
      ∧ m' ((c.tc : Thread Cert.RefNormIdeal.nD Cert.RefNormIdeal.τ).loc Cert.RefNormIdeal.main_arg2) = m ((c.tc : Thread Cert.NormIdeal.nD Cert.NormIdeal.τ).loc Cert.NormIdeal.main_arg2)
      ∧ m' ((c.tc : Thread Cert.RefNormIdeal.nD Cert.RefNormIdeal.τ).loc Cert.RefNormIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.RefNormIdeal.defs (F := Ideal)) (onTc (τ := Cert.RefNormIdeal.τ) (Cert.RefNormIdeal.main (F := Ideal))) ⟨m', fun _ => 0, g'⟩ (fun r => ∀ c : Dev Cert.RefNormIdeal.nD,
          r.2.mem ((c.tc : Thread Cert.RefNormIdeal.nD Cert.RefNormIdeal.τ).loc Cert.RefNormIdeal.main_v40) = v0 c
          ∧ r.2.mem ((c.tc : Thread Cert.RefNormIdeal.nD Cert.RefNormIdeal.τ).loc Cert.RefNormIdeal.main_v22) = v1 c
          ∧ r.2.mem ((c.tc : Thread Cert.RefNormIdeal.nD Cert.RefNormIdeal.τ).loc Cert.RefNormIdeal.main_v25) = v2 c
          ∧ r.2.mem ((c.tc : Thread Cert.RefNormIdeal.nD Cert.RefNormIdeal.τ).loc Cert.RefNormIdeal.main_arg0) = m' ((c.tc : Thread Cert.RefNormIdeal.nD Cert.RefNormIdeal.τ).loc Cert.RefNormIdeal.main_arg0)
          ∧ r.2.mem ((c.tc : Thread Cert.RefNormIdeal.nD Cert.RefNormIdeal.τ).loc Cert.RefNormIdeal.main_arg1) = m' ((c.tc : Thread Cert.RefNormIdeal.nD Cert.RefNormIdeal.τ).loc Cert.RefNormIdeal.main_arg1)
          ∧ r.2.mem ((c.tc : Thread Cert.RefNormIdeal.nD Cert.RefNormIdeal.τ).loc Cert.RefNormIdeal.main_arg2) = m' ((c.tc : Thread Cert.RefNormIdeal.nD Cert.RefNormIdeal.τ).loc Cert.RefNormIdeal.main_arg2)
          ∧ r.2.mem ((c.tc : Thread Cert.RefNormIdeal.nD Cert.RefNormIdeal.τ).loc Cert.RefNormIdeal.main_arg3) = m' ((c.tc : Thread Cert.RefNormIdeal.nD Cert.RefNormIdeal.τ).loc Cert.RefNormIdeal.main_arg3))

def preserves_Gate_GateIdeal : Prop :=
  True

def algebraic_GateIdeal_RefGateIdeal [hGateIdeal : Cert.GateIdeal.Facts] [hRefGateIdeal : Cert.RefGateIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.RefGateIdeal.nD Cert.RefGateIdeal.τ Cert.RefGateIdeal.sig) → Buf (Elt Ideal) ℓ) (g' : Dev Cert.RefGateIdeal.nD → PrngReg), Pre_GateIdeal m →
    (∀ c : Dev Cert.GateIdeal.nD,
      m' ((c.tc : Thread Cert.RefGateIdeal.nD Cert.RefGateIdeal.τ).loc Cert.RefGateIdeal.main_arg0) = m ((c.tc : Thread Cert.GateIdeal.nD Cert.GateIdeal.τ).loc Cert.GateIdeal.main_arg0)
      ∧ m' ((c.tc : Thread Cert.RefGateIdeal.nD Cert.RefGateIdeal.τ).loc Cert.RefGateIdeal.main_arg1) = m ((c.tc : Thread Cert.GateIdeal.nD Cert.GateIdeal.τ).loc Cert.GateIdeal.main_arg1)
      ∧ m' ((c.tc : Thread Cert.RefGateIdeal.nD Cert.RefGateIdeal.τ).loc Cert.RefGateIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.RefGateIdeal.defs (F := Ideal)) (onTc (τ := Cert.RefGateIdeal.τ) (Cert.RefGateIdeal.main (F := Ideal))) ⟨m', fun _ => 0, g'⟩ (fun r => ∀ c : Dev Cert.RefGateIdeal.nD,
          r.2.mem ((c.tc : Thread Cert.RefGateIdeal.nD Cert.RefGateIdeal.τ).loc Cert.RefGateIdeal.main_v8) = v0 c
          ∧ r.2.mem ((c.tc : Thread Cert.RefGateIdeal.nD Cert.RefGateIdeal.τ).loc Cert.RefGateIdeal.main_v7) = v1 c
          ∧ r.2.mem ((c.tc : Thread Cert.RefGateIdeal.nD Cert.RefGateIdeal.τ).loc Cert.RefGateIdeal.main_arg0) = m' ((c.tc : Thread Cert.RefGateIdeal.nD Cert.RefGateIdeal.τ).loc Cert.RefGateIdeal.main_arg0)
          ∧ r.2.mem ((c.tc : Thread Cert.RefGateIdeal.nD Cert.RefGateIdeal.τ).loc Cert.RefGateIdeal.main_arg1) = m' ((c.tc : Thread Cert.RefGateIdeal.nD Cert.RefGateIdeal.τ).loc Cert.RefGateIdeal.main_arg1)
          ∧ r.2.mem ((c.tc : Thread Cert.RefGateIdeal.nD Cert.RefGateIdeal.τ).loc Cert.RefGateIdeal.main_arg2) = m' ((c.tc : Thread Cert.RefGateIdeal.nD Cert.RefGateIdeal.τ).loc Cert.RefGateIdeal.main_arg2))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hRefUpIdeal : Cert.RefUpIdeal.Facts) (hUpX : Cert.UpX.Facts) (hUpXIdeal : Cert.UpXIdeal.Facts) (hRefUpXIdeal : Cert.RefUpXIdeal.Facts) (hUpW : Cert.UpW.Facts) (hUpWIdeal : Cert.UpWIdeal.Facts) (hRefUpWIdeal : Cert.RefUpWIdeal.Facts) (hDown : Cert.Down.Facts) (hDownIdeal : Cert.DownIdeal.Facts) (hRefDownIdeal : Cert.RefDownIdeal.Facts) (hDownX : Cert.DownX.Facts) (hDownXIdeal : Cert.DownXIdeal.Facts) (hRefDownXIdeal : Cert.RefDownXIdeal.Facts) (hDownW : Cert.DownW.Facts) (hDownWIdeal : Cert.DownWIdeal.Facts) (hRefDownWIdeal : Cert.RefDownWIdeal.Facts) (hPw : Cert.Pw.Facts) (hPwIdeal : Cert.PwIdeal.Facts) (hRefPwIdeal : Cert.RefPwIdeal.Facts) (hPwX : Cert.PwX.Facts) (hPwXIdeal : Cert.PwXIdeal.Facts) (hRefPwXIdeal : Cert.RefPwXIdeal.Facts) (hPwW : Cert.PwW.Facts) (hPwWIdeal : Cert.PwWIdeal.Facts) (hRefPwWIdeal : Cert.RefPwWIdeal.Facts) (hOut : Cert.Out.Facts) (hOutIdeal : Cert.OutIdeal.Facts) (hRefOutIdeal : Cert.RefOutIdeal.Facts) (hOutX : Cert.OutX.Facts) (hOutXIdeal : Cert.OutXIdeal.Facts) (hRefOutXIdeal : Cert.RefOutXIdeal.Facts) (hOutW : Cert.OutW.Facts) (hOutWIdeal : Cert.OutWIdeal.Facts) (hRefOutWIdeal : Cert.RefOutWIdeal.Facts) (hIn : Cert.In.Facts) (hInIdeal : Cert.InIdeal.Facts) (hRefInIdeal : Cert.RefInIdeal.Facts) (hInX : Cert.InX.Facts) (hInXIdeal : Cert.InXIdeal.Facts) (hRefInXIdeal : Cert.RefInXIdeal.Facts) (hInW : Cert.InW.Facts) (hInWIdeal : Cert.InWIdeal.Facts) (hRefInWIdeal : Cert.RefInWIdeal.Facts) (hNorm : Cert.Norm.Facts) (hNormIdeal : Cert.NormIdeal.Facts) (hRefNormIdeal : Cert.RefNormIdeal.Facts) (hGate : Cert.Gate.Facts) (hGateIdeal : Cert.GateIdeal.Facts) (hRefGateIdeal : Cert.RefGateIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_RefUpIdeal (hRefUpIdeal := hRefUpIdeal)
    ∧ quiescent_UpX (hUpX := hUpX)
    ∧ quiescent_UpXIdeal (hUpXIdeal := hUpXIdeal)
    ∧ quiescent_RefUpXIdeal (hRefUpXIdeal := hRefUpXIdeal)
    ∧ quiescent_UpW (hUpW := hUpW)
    ∧ quiescent_UpWIdeal (hUpWIdeal := hUpWIdeal)
    ∧ quiescent_RefUpWIdeal (hRefUpWIdeal := hRefUpWIdeal)
    ∧ quiescent_Down (hDown := hDown)
    ∧ quiescent_DownIdeal (hDownIdeal := hDownIdeal)
    ∧ quiescent_RefDownIdeal (hRefDownIdeal := hRefDownIdeal)
    ∧ quiescent_DownX (hDownX := hDownX)
    ∧ quiescent_DownXIdeal (hDownXIdeal := hDownXIdeal)
    ∧ quiescent_RefDownXIdeal (hRefDownXIdeal := hRefDownXIdeal)
    ∧ quiescent_DownW (hDownW := hDownW)
    ∧ quiescent_DownWIdeal (hDownWIdeal := hDownWIdeal)
    ∧ quiescent_RefDownWIdeal (hRefDownWIdeal := hRefDownWIdeal)
    ∧ quiescent_Pw (hPw := hPw)
    ∧ quiescent_PwIdeal (hPwIdeal := hPwIdeal)
    ∧ quiescent_RefPwIdeal (hRefPwIdeal := hRefPwIdeal)
    ∧ quiescent_PwX (hPwX := hPwX)
    ∧ quiescent_PwXIdeal (hPwXIdeal := hPwXIdeal)
    ∧ quiescent_RefPwXIdeal (hRefPwXIdeal := hRefPwXIdeal)
    ∧ quiescent_PwW (hPwW := hPwW)
    ∧ quiescent_PwWIdeal (hPwWIdeal := hPwWIdeal)
    ∧ quiescent_RefPwWIdeal (hRefPwWIdeal := hRefPwWIdeal)
    ∧ quiescent_Out (hOut := hOut)
    ∧ quiescent_OutIdeal (hOutIdeal := hOutIdeal)
    ∧ quiescent_RefOutIdeal (hRefOutIdeal := hRefOutIdeal)
    ∧ quiescent_OutX (hOutX := hOutX)
    ∧ quiescent_OutXIdeal (hOutXIdeal := hOutXIdeal)
    ∧ quiescent_RefOutXIdeal (hRefOutXIdeal := hRefOutXIdeal)
    ∧ quiescent_OutW (hOutW := hOutW)
    ∧ quiescent_OutWIdeal (hOutWIdeal := hOutWIdeal)
    ∧ quiescent_RefOutWIdeal (hRefOutWIdeal := hRefOutWIdeal)
    ∧ quiescent_In (hIn := hIn)
    ∧ quiescent_InIdeal (hInIdeal := hInIdeal)
    ∧ quiescent_RefInIdeal (hRefInIdeal := hRefInIdeal)
    ∧ quiescent_InX (hInX := hInX)
    ∧ quiescent_InXIdeal (hInXIdeal := hInXIdeal)
    ∧ quiescent_RefInXIdeal (hRefInXIdeal := hRefInXIdeal)
    ∧ quiescent_InW (hInW := hInW)
    ∧ quiescent_InWIdeal (hInWIdeal := hInWIdeal)
    ∧ quiescent_RefInWIdeal (hRefInWIdeal := hRefInWIdeal)
    ∧ quiescent_Norm (hNorm := hNorm)
    ∧ quiescent_NormIdeal (hNormIdeal := hNormIdeal)
    ∧ quiescent_RefNormIdeal (hRefNormIdeal := hRefNormIdeal)
    ∧ quiescent_Gate (hGate := hGate)
    ∧ quiescent_GateIdeal (hGateIdeal := hGateIdeal)
    ∧ quiescent_RefGateIdeal (hRefGateIdeal := hRefGateIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_RefUpIdeal (hUpIdeal := hUpIdeal) (hRefUpIdeal := hRefUpIdeal)
    ∧ preserves_UpX_UpXIdeal
    ∧ algebraic_UpXIdeal_RefUpXIdeal (hUpXIdeal := hUpXIdeal) (hRefUpXIdeal := hRefUpXIdeal)
    ∧ preserves_UpW_UpWIdeal
    ∧ algebraic_UpWIdeal_RefUpWIdeal (hUpWIdeal := hUpWIdeal) (hRefUpWIdeal := hRefUpWIdeal)
    ∧ preserves_Down_DownIdeal
    ∧ algebraic_DownIdeal_RefDownIdeal (hDownIdeal := hDownIdeal) (hRefDownIdeal := hRefDownIdeal)
    ∧ preserves_DownX_DownXIdeal
    ∧ algebraic_DownXIdeal_RefDownXIdeal (hDownXIdeal := hDownXIdeal) (hRefDownXIdeal := hRefDownXIdeal)
    ∧ preserves_DownW_DownWIdeal
    ∧ algebraic_DownWIdeal_RefDownWIdeal (hDownWIdeal := hDownWIdeal) (hRefDownWIdeal := hRefDownWIdeal)
    ∧ preserves_Pw_PwIdeal
    ∧ algebraic_PwIdeal_RefPwIdeal (hPwIdeal := hPwIdeal) (hRefPwIdeal := hRefPwIdeal)
    ∧ preserves_PwX_PwXIdeal
    ∧ algebraic_PwXIdeal_RefPwXIdeal (hPwXIdeal := hPwXIdeal) (hRefPwXIdeal := hRefPwXIdeal)
    ∧ preserves_PwW_PwWIdeal
    ∧ algebraic_PwWIdeal_RefPwWIdeal (hPwWIdeal := hPwWIdeal) (hRefPwWIdeal := hRefPwWIdeal)
    ∧ preserves_Out_OutIdeal
    ∧ algebraic_OutIdeal_RefOutIdeal (hOutIdeal := hOutIdeal) (hRefOutIdeal := hRefOutIdeal)
    ∧ preserves_OutX_OutXIdeal
    ∧ algebraic_OutXIdeal_RefOutXIdeal (hOutXIdeal := hOutXIdeal) (hRefOutXIdeal := hRefOutXIdeal)
    ∧ preserves_OutW_OutWIdeal
    ∧ algebraic_OutWIdeal_RefOutWIdeal (hOutWIdeal := hOutWIdeal) (hRefOutWIdeal := hRefOutWIdeal)
    ∧ preserves_In_InIdeal
    ∧ algebraic_InIdeal_RefInIdeal (hInIdeal := hInIdeal) (hRefInIdeal := hRefInIdeal)
    ∧ preserves_InX_InXIdeal
    ∧ algebraic_InXIdeal_RefInXIdeal (hInXIdeal := hInXIdeal) (hRefInXIdeal := hRefInXIdeal)
    ∧ preserves_InW_InWIdeal
    ∧ algebraic_InWIdeal_RefInWIdeal (hInWIdeal := hInWIdeal) (hRefInWIdeal := hRefInWIdeal)
    ∧ preserves_Norm_NormIdeal
    ∧ algebraic_NormIdeal_RefNormIdeal (hNormIdeal := hNormIdeal) (hRefNormIdeal := hRefNormIdeal)
    ∧ preserves_Gate_GateIdeal
    ∧ algebraic_GateIdeal_RefGateIdeal (hGateIdeal := hGateIdeal) (hRefGateIdeal := hRefGateIdeal)
-- ==== Pre_finite.lean ====
abbrev S4096x3072 : Shape := ⟨2, ![4096, 3072]⟩
abbrev S256x2048 : Shape := ⟨2, ![256, 2048]⟩
abbrev S8x15x31 : Shape := ⟨3, ![8, 15, 31]⟩
abbrev S4096x2048 : Shape := ⟨2, ![4096, 2048]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S8x15x31 : S_.BroadcastsInDim S8x15x31 (![] : Fin 0 → Fin S8x15x31.rank)
  reducesTo_S8x15x31_S_d0_1_2 : S8x15x31.ReducesTo [0, 1, 2] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_v15 : IVec S_ 1) (main_v17 : FVec F S4096x2048 .f32) : IVec S_ 1 :=
  let main_cst_4 : FVec F S_ .f32 := constant S_ .f32 0x7F800000#32
  let main_v18 : FVec F S4096x2048 .f32 := broadcastInDim S4096x2048 ![] bcast_S_S4096x2048 main_cst_4
  let main_v19 : IVec S4096x2048 1 := cmpf .olt main_v17 main_v18
  let main_c_5 : IVec S_ 1 := constantI S_ 1 1#1
  let main_v20 : IVec S_ 1 := (fun x v => Host.reduce IntOp.andi x v reducesTo_S4096x2048_S_d0_1 h_S_) main_v19 main_c_5
  let main_v21 : IVec S_ 1 := andi main_v15 main_v20
  main_v21

def fn {F : FTy → Type} [FloatOps F] (main_arg0 : FVec F S4096x3072 .bf16) (main_arg1 : FVec F S256x2048 .bf16) (main_arg2 : FVec F S8x15x31 .f32) (main_arg3 : FVec F S4096x2048 .bf16) : IVec S_ 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_c : IVec S_ 1 := constantI S_ 1 1#1
  let main_v4 : IVec S_ 1 := (fun x v => Host.reduce IntOp.andi x v reducesTo_S4096x3072_S_d0_1 h_S_) main_v3 main_c
  let main_v5 : FVec F S256x2048 .f32 := (extf .f32 · bitsLt_bf16_f32) main_arg1
  let main_v6 : FVec F S256x2048 .f32 := Host.absf main_v5
  let main_cst_0 : FVec F S_ .f32 := constant S_ .f32 0x7F800000#32
  let main_v7 : FVec F S256x2048 .f32 := broadcastInDim S256x2048 ![] bcast_S_S256x2048 main_cst_0
  let main_v8 : IVec S256x2048 1 := cmpf .olt main_v6 main_v7
  let main_c_1 : IVec S_ 1 := constantI S_ 1 1#1
  let main_v9 : IVec S_ 1 := (fun x v => Host.reduce IntOp.andi x v reducesTo_S256x2048_S_d0_1 h_S_) main_v8 main_c_1
  let main_v10 : IVec S_ 1 := andi main_v4 main_v9
  let main_v11 : FVec F S8x15x31 .f32 := Host.absf main_arg2
  let main_cst_2 : FVec F S_ .f32 := constant S_ .f32 0x7F800000#32
  let main_v12 : FVec F S8x15x31 .f32 := broadcastInDim S8x15x31 ![] bcast_S_S8x15x31 main_cst_2
  let main_v13 : IVec S8x15x31 1 := cmpf .olt main_v11 main_v12
  let main_c_3 : IVec S_ 1 := constantI S_ 1 1#1
  let main_v14 : IVec S_ 1 := (fun x v => Host.reduce IntOp.andi x v reducesTo_S8x15x31_S_d0_1_2 h_S_) main_v13 main_c_3
  let main_v15 : IVec S_ 1 := andi main_v10 main_v14
  let main_v16 : FVec F S4096x2048 .f32 := (extf .f32 · bitsLt_bf16_f32) main_arg3
  let main_v17 : FVec F S4096x2048 .f32 := Host.absf main_v16
  fn_part1 (F := F) main_v15 main_v17
-- ==== Kernel.lean ====
abbrev S4096x3072 : Shape := ⟨2, ![4096, 3072]⟩
abbrev S256x2048 : Shape := ⟨2, ![256, 2048]⟩
abbrev S8x15x31 : Shape := ⟨3, ![8, 15, 31]⟩
abbrev S4096x2048 : Shape := ⟨2, ![4096, 2048]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S4096 : Shape := ⟨1, ![4096]⟩
abbrev S120x31 : Shape := ⟨2, ![120, 31]⟩
abbrev S4096x1 : Shape := ⟨2, ![4096, 1]⟩
abbrev S120x4096 : Shape := ⟨2, ![120, 4096]⟩
abbrev S1x4096 : Shape := ⟨2, ![1, 4096]⟩
abbrev S8x15x64x64 : Shape := ⟨4, ![8, 15, 64, 64]⟩
abbrev S8x14x64x64 : Shape := ⟨4, ![8, 14, 64, 64]⟩
abbrev S8x14x64x128 : Shape := ⟨4, ![8, 14, 64, 128]⟩
abbrev S4096x1024 : Shape := ⟨2, ![4096, 1024]⟩
abbrev S8x4096x1 : Shape := ⟨3, ![8, 4096, 1]⟩
abbrev S64x256 : Shape := ⟨2, ![64, 256]⟩
abbrev S4096x256 : Shape := ⟨2, ![4096, 256]⟩
abbrev S256x256 : Shape := ⟨2, ![256, 256]⟩
abbrev S2x14x64x128 : Shape := ⟨4, ![2, 14, 64, 128]⟩
abbrev S2x64x1 : Shape := ⟨3, ![2, 64, 1]⟩
abbrev S64x128 : Shape := ⟨2, ![64, 128]⟩
abbrev S512x128 : Shape := ⟨2, ![512, 128]⟩
abbrev S64x512 : Shape := ⟨2, ![64, 512]⟩
abbrev S1x1x64x128 : Shape := ⟨4, ![1, 1, 64, 128]⟩
abbrev S256x128 : Shape := ⟨2, ![256, 128]⟩
abbrev S1x64x1 : Shape := ⟨3, ![1, 64, 1]⟩
abbrev S256x1024 : Shape := ⟨2, ![256, 1024]⟩

abbrev nBuf : Space → Nat
  | .hbm => 77
  | .vmem => 46
  | .smem => 0
  | _ => 0

abbrev bufTy : (tb : Table) → Fin (tcTables nBuf tb) → BufTy
  | .hbm, ⟨0, _⟩ => ⟨S4096x3072, .bf16⟩
  | .hbm, ⟨1, _⟩ => ⟨S256x2048, .bf16⟩
  | .hbm, ⟨2, _⟩ => ⟨S8x15x31, .f32⟩
  | .hbm, ⟨3, _⟩ => ⟨S4096x2048, .bf16⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S1x64, .i32⟩
  | .hbm, ⟨17, _⟩ => ⟨S64x1, .i32⟩
  | .hbm, ⟨18, _⟩ => ⟨S64x64, .i32⟩
  | .hbm, ⟨19, _⟩ => ⟨S64x64, .i32⟩
  | .hbm, ⟨20, _⟩ => ⟨S64x64, .i1⟩
  | .hbm, ⟨21, _⟩ => ⟨S1x64, .i32⟩
  | .hbm, ⟨22, _⟩ => ⟨S64x1, .i32⟩
  | .hbm, ⟨23, _⟩ => ⟨S_, .i32⟩
  | .hbm, ⟨24, _⟩ => ⟨S64x1, .i32⟩
  | .hbm, ⟨25, _⟩ => ⟨S64x1, .i32⟩
  | .hbm, ⟨26, _⟩ => ⟨S64x64, .i32⟩
  | .hbm, ⟨27, _⟩ => ⟨S64x64, .i32⟩
  | .hbm, ⟨28, _⟩ => ⟨S64x64, .i1⟩
  | .hbm, ⟨29, _⟩ => ⟨S64x64, .i1⟩
  | .hbm, ⟨30, _⟩ => ⟨S4096, .i1⟩
  | .hbm, ⟨31, _⟩ => ⟨S1x64, .i32⟩
  | .hbm, ⟨32, _⟩ => ⟨S64x1, .i32⟩
  | .hbm, ⟨33, _⟩ => ⟨S64x64, .i32⟩
  | .hbm, ⟨34, _⟩ => ⟨S64x64, .i32⟩
  | .hbm, ⟨35, _⟩ => ⟨S64x64, .i32⟩
  | .hbm, ⟨36, _⟩ => ⟨S_, .i32⟩
  | .hbm, ⟨37, _⟩ => ⟨S64x64, .i32⟩
  | .hbm, ⟨38, _⟩ => ⟨S64x64, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S64x64, .i32⟩
  | .hbm, ⟨43, _⟩ => ⟨S64x64, .i32⟩
  | .hbm, ⟨44, _⟩ => ⟨S_, .i32⟩
  | .hbm, ⟨45, _⟩ => ⟨S64x64, .i32⟩
  | .hbm, ⟨46, _⟩ => ⟨S64x64, .i32⟩
  | .hbm, ⟨47, _⟩ => ⟨S4096, .i32⟩
  | .hbm, ⟨48, _⟩ => ⟨S120x31, .f32⟩
  | .hbm, ⟨49, _⟩ => ⟨S4096x1, .i32⟩
  | .hbm, ⟨50, _⟩ => ⟨S120x4096, .f32⟩
  | .hbm, ⟨51, _⟩ => ⟨S_, .f32⟩
  | .hbm, ⟨52, _⟩ => ⟨S_, .f32⟩
  | .hbm, ⟨53, _⟩ => ⟨S120x4096, .i1⟩
  | .hbm, ⟨54, _⟩ => ⟨S120x4096, .f32⟩
  | .hbm, ⟨55, _⟩ => ⟨S120x4096, .f32⟩
  | .hbm, ⟨56, _⟩ => ⟨S_, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096, .f32⟩
  | .hbm, ⟨61, _⟩ => ⟨S4096, .f32⟩
  | .hbm, ⟨62, _⟩ => ⟨S1x4096, .f32⟩
  | .hbm, ⟨63, _⟩ => ⟨S120x4096, .f32⟩
  | .hbm, ⟨64, _⟩ => ⟨S120x4096, .f32⟩
  | .hbm, ⟨65, _⟩ => ⟨S8x15x64x64, .f32⟩
  | .hbm, ⟨66, _⟩ => ⟨S8x14x64x64, .f32⟩
  | .hbm, ⟨67, _⟩ => ⟨S8x14x64x64, .f32⟩
  | .hbm, ⟨68, _⟩ => ⟨S8x14x64x128, .f32⟩
  | .hbm, ⟨69, _⟩ => ⟨S4096x1024, .bf16⟩
  | .hbm, ⟨70, _⟩ => ⟨S8x4096x1, .f32⟩
  | .hbm, ⟨71, _⟩ => ⟨S4096x1024, .bf16⟩
  | .hbm, ⟨72, _⟩ => ⟨S4096x1024, .f32⟩
  | .hbm, ⟨73, _⟩ => ⟨S4096x1024, .f32⟩
  | .hbm, ⟨74, _⟩ => ⟨S256x1024, .f32⟩
  | .hbm, ⟨75, _⟩ => ⟨S256x1024, .f32⟩
  | .hbm, ⟨76, _⟩ => ⟨S8x14x64x128, .f32⟩
  | .local _ .vmem, ⟨0, _⟩ => ⟨S64x256, .bf16⟩
  | .local _ .vmem, ⟨1, _⟩ => ⟨S64x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S2x14x64x128, .f32⟩
  | .local _ .vmem, ⟨11, _⟩ => ⟨S2x14x64x128, .f32⟩
  | .local _ .vmem, ⟨12, _⟩ => ⟨S64x256, .bf16⟩
  | .local _ .vmem, ⟨13, _⟩ => ⟨S64x256, .bf16⟩
  | .local _ .vmem, ⟨14, _⟩ => ⟨S2x64x1, .f32⟩
  | .local _ .vmem, ⟨15, _⟩ => ⟨S2x64x1, .f32⟩
  | .local _ .vmem, ⟨16, _⟩ => ⟨S64x256, .bf16⟩
  | .local _ .vmem, ⟨17, _⟩ => ⟨S64x256, .bf16⟩
  | .local _ .vmem, ⟨18, _⟩ => ⟨S4096x256, .bf16⟩
  | .local _ .vmem, ⟨19, _⟩ => ⟨S4096x256, .bf16⟩
  | .local _ .vmem, ⟨20, _⟩ => ⟨S4096x256, .bf16⟩
  | .local _ .vmem, ⟨21, _⟩ => ⟨S4096x256, .bf16⟩
  | .local _ .vmem, ⟨22, _⟩ => ⟨S256x256, .bf16⟩
  | .local _ .vmem, ⟨23, _⟩ => ⟨S256x256, .bf16⟩
  | .local _ .vmem, ⟨24, _⟩ => ⟨S256x256, .bf16⟩
  | .local _ .vmem, ⟨25, _⟩ => ⟨S256x256, .bf16⟩
  | .local _ .vmem, ⟨26, _⟩ => ⟨S2x14x64x128, .f32⟩
  | .local _ .vmem, ⟨27, _⟩ => ⟨S2x14x64x128, .f32⟩
  | .local _ .vmem, ⟨28, _⟩ => ⟨S64x256, .bf16⟩
  | .local _ .vmem, ⟨29, _⟩ => ⟨S64x256, .bf16⟩
  | .local _ .vmem, ⟨30, _⟩ => ⟨S2x64x1, .f32⟩
  | .local _ .vmem, ⟨31, _⟩ => ⟨S2x64x1, .f32⟩
  | .local _ .vmem, ⟨32, _⟩ => ⟨S64x256, .bf16⟩
  | .local _ .vmem, ⟨33, _⟩ => ⟨S64x256, .bf16⟩
  | .local _ .vmem, ⟨34, _⟩ => ⟨S64x256, .bf16⟩
  | .local _ .vmem, ⟨35, _⟩ => ⟨S64x256, .bf16⟩
  | .local _ .vmem, ⟨36, _⟩ => ⟨S4096x256, .f32⟩
  | .local _ .vmem, ⟨37, _⟩ => ⟨S4096x256, .f32⟩
  | .local _ .vmem, ⟨38, _⟩ => ⟨S4096x256, .f32⟩
  | .local _ .vmem, ⟨39, _⟩ => ⟨S4096x256, .f32⟩
  | .local _ .vmem, ⟨40, _⟩ => ⟨S256x256, .f32⟩
  | .local _ .vmem, ⟨41, _⟩ => ⟨S256x256, .f32⟩
  | .local _ .vmem, ⟨42, _⟩ => ⟨S256x256, .f32⟩
  | .local _ .vmem, ⟨43, _⟩ => ⟨S256x256, .f32⟩
  | .local _ .vmem, ⟨44, _⟩ => ⟨S2x14x64x128, .f32⟩
  | .local _ .vmem, ⟨45, _⟩ => ⟨S2x14x64x128, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_c_5 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call2_v0 : Ref sig .tc := ⟨.hbm, 49, rfl⟩
abbrev main_v28 : Ref sig .tc := ⟨.hbm, 50, rfl⟩
abbrev main_cst : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_v29 : Ref sig .tc := ⟨.hbm, 55, rfl⟩
abbrev main_cst_6 : Ref sig .tc := ⟨.hbm, 56, rfl⟩
abbrev main_cst_7 : Ref sig .tc := ⟨.hbm, 57, rfl⟩
abbrev main_call4_v0 : Ref sig .tc := ⟨.hbm, 58, rfl⟩
abbrev main_call4_v1 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39_0 : Ref sig .tc := ⟨.hbm, 69, rfl⟩
abbrev main_v39_1 : Ref sig .tc := ⟨.hbm, 70, rfl⟩
abbrev main_v40_0 : Ref sig .tc := ⟨.hbm, 71, rfl⟩
abbrev main_v40_1 : Ref sig .tc := ⟨.hbm, 72, rfl⟩
abbrev main_v40_2 : Ref sig .tc := ⟨.hbm, 73, rfl⟩
abbrev main_v40_3 : Ref sig .tc := ⟨.hbm, 74, rfl⟩
abbrev main_v40_4 : Ref sig .tc := ⟨.hbm, 75, rfl⟩
abbrev main_v40_5 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg10_1 : Ref sig .tc := ⟨.vmem, 37, rfl⟩
abbrev cc1_stg11_0 : Ref sig .tc := ⟨.vmem, 38, rfl⟩
abbrev cc1_stg11_1 : Ref sig .tc := ⟨.vmem, 39, rfl⟩
abbrev cc1_stg12_0 : Ref sig .tc := ⟨.vmem, 40, rfl⟩
abbrev cc1_stg12_1 : Ref sig .tc := ⟨.vmem, 41, rfl⟩
abbrev cc1_stg13_0 : Ref sig .tc := ⟨.vmem, 42, rfl⟩
abbrev cc1_stg13_1 : Ref sig .tc := ⟨.vmem, 43, rfl⟩
abbrev cc1_stg14_0 : Ref sig .tc := ⟨.vmem, 44, rfl⟩
abbrev cc1_stg14_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43
abbrev cc1_sem14_0 : DmaSem sig := 44
abbrev cc1_sem14_1 : DmaSem sig := 45

abbrev nD : Nat := 1
abbrev τ : Topo := Topo.v7x

variable {F : FTy → Type} [FloatOps F]

abbrev grid0 : Pipeline.Grid := ⟨2, ![4, 64], ![false, false]⟩

def k0_mult1 (i : grid0.Coords) : BitVec 32 :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  v3
def k0_off1 (i : grid0.Coords) : Fin 2 → Nat :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  let v4 : BitVec 32 := v3
  let v7 : Index := Scalar.indexCast v4
  let c0_1 : Index := 0#32
  ![v7.toNat, 0]
def k0_off2 (i : grid0.Coords) (c0_i32_3 : BitVec 32) : Fin 4 → Nat :=
  let c0_4 : Index := 0#32
  let c7_i32 : BitVec 32 := 7#32
  let arg1 : BitVec 32 := BitVec.ofNat 32 (i 1).val
  let c56_i32 : BitVec 32 := 56#32
  let c0_i32 : BitVec 32 := 0#32
  let c4_i32 : BitVec 32 := 4#32
  let v0 : BitVec 32 := Scalar.subi arg1 c4_i32
  let v1 : BitVec 32 := Scalar.maxsi c0_i32 v0
  let v2 : BitVec 32 := Scalar.minsi c56_i32 v1
  let v5 : BitVec 32 := Scalar.subi arg1 v2
  let v12 : BitVec 32 := Scalar.subi c7_i32 v5
  let v13 : BitVec 32 := Scalar.addi v12 c0_i32_3
  let v14 : Index := Scalar.indexCast v13
  let c0_5 : Index := 0#32
  let c0_6 : Index := 0#32
  ![0, v14.toNat, 0, 0]
def k0_off3 (i : grid0.Coords) : Fin 2 → Nat :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  let v4 : BitVec 32 := v3
  let v72 : Index := Scalar.indexCast v4
  let c128_39 : Index := 128#32
  ![v72.toNat, 128]
def k0_off4 (i : grid0.Coords) (c0_i32_43 : BitVec 32) : Fin 4 → Nat :=
  let c1 : Index := 1#32
  let c7_i32_42 : BitVec 32 := 7#32
  let arg1 : BitVec 32 := BitVec.ofNat 32 (i 1).val
  let c56_i32 : BitVec 32 := 56#32
  let c0_i32 : BitVec 32 := 0#32
  let c4_i32 : BitVec 32 := 4#32
  let v0 : BitVec 32 := Scalar.subi arg1 c4_i32
  let v1 : BitVec 32 := Scalar.maxsi c0_i32 v0
  let v2 : BitVec 32 := Scalar.minsi c56_i32 v1
  let v5 : BitVec 32 := Scalar.subi arg1 v2
  let v77 : BitVec 32 := Scalar.subi c7_i32_42 v5
  let v78 : BitVec 32 := Scalar.addi v77 c0_i32_43
  let v79 : Index := Scalar.indexCast v78
  let c0_44 : Index := 0#32
  let c0_45 : Index := 0#32
  ![1, v79.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x14x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x64x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![4, 64], ![false, false]⟩

def k1_mult1 (i : grid1.Coords) : BitVec 32 :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  v3
def k1_off1 (i : grid1.Coords) : Fin 2 → Nat :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  let v4 : BitVec 32 := v3
  let v10 : Index := Scalar.indexCast v4
  let c0_3 : Index := 0#32
  ![v10.toNat, 0]
def k1_off2 (i : grid1.Coords) (c0_i32_15 : BitVec 32) : Fin 4 → Nat :=
  let c0_16 : Index := 0#32
  let c7_i32 : BitVec 32 := 7#32
  let arg1 : BitVec 32 := BitVec.ofNat 32 (i 1).val
  let c56_i32 : BitVec 32 := 56#32
  let c0_i32 : BitVec 32 := 0#32
  let c4_i32 : BitVec 32 := 4#32
  let v0 : BitVec 32 := Scalar.subi arg1 c4_i32
  let v1 : BitVec 32 := Scalar.maxsi c0_i32 v0
  let v2 : BitVec 32 := Scalar.minsi c56_i32 v1
  let v5 : BitVec 32 := Scalar.subi arg1 v2
  let v22 : BitVec 32 := Scalar.subi c7_i32 v5
  let v23 : BitVec 32 := Scalar.addi v22 c0_i32_15
  let v24 : Index := Scalar.indexCast v23
  let c0_17 : Index := 0#32
  let c0_18 : Index := 0#32
  ![0, v24.toNat, 0, 0]
def k1_off3 (i : grid1.Coords) : Fin 2 → Nat :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  let v4 : BitVec 32 := v3
  let v152 : Index := Scalar.indexCast v4
  let c128_95 : Index := 128#32
  ![v152.toNat, 128]
def k1_off4 (i : grid1.Coords) (c0_i32_108 : BitVec 32) : Fin 4 → Nat :=
  let c1_109 : Index := 1#32
  let c7_i32_107 : BitVec 32 := 7#32
  let arg1 : BitVec 32 := BitVec.ofNat 32 (i 1).val
  let c56_i32 : BitVec 32 := 56#32
  let c0_i32 : BitVec 32 := 0#32
  let c4_i32 : BitVec 32 := 4#32
  let v0 : BitVec 32 := Scalar.subi arg1 c4_i32
  let v1 : BitVec 32 := Scalar.maxsi c0_i32 v0
  let v2 : BitVec 32 := Scalar.minsi c56_i32 v1
  let v5 : BitVec 32 := Scalar.subi arg1 v2
  let v164 : BitVec 32 := Scalar.subi c7_i32_107 v5
  let v165 : BitVec 32 := Scalar.addi v164 c0_i32_108
  let v166 : Index := Scalar.indexCast v165
  let c0_110 : Index := 0#32
  let c0_111 : Index := 0#32
  ![1, v166.toNat, 0, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_14 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S64x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2x14x64x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S64x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2x64x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S64x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S64x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S4096x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S4096x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S256x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

abbrev stage1_13 : Fin 2 → Memref sig .tc .vmem S256x256 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]

abbrev stage1_14 : Fin 2 → Memref sig .tc .vmem S2x14x64x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, false]
-- ==== ReferenceIdeal.lean ====
abbrev S4096x3072 : Shape := ⟨2, ![4096, 3072]⟩
abbrev S256x2048 : Shape := ⟨2, ![256, 2048]⟩
abbrev S8x15x31 : Shape := ⟨3, ![8, 15, 31]⟩
abbrev S4096x2048 : Shape := ⟨2, ![4096, 2048]⟩
abbrev S1x4096x24x128 : Shape := ⟨4, ![1, 4096, 24, 128]⟩
abbrev S1x4096x8x128 : Shape := ⟨4, ![1, 4096, 8, 128]⟩
abbrev S1x256x16x128 : Shape := ⟨4, ![1, 256, 16, 128]⟩
abbrev S1x256x8x128 : Shape := ⟨4, ![1, 256, 8, 128]⟩
abbrev S4096x1024 : Shape := ⟨2, ![4096, 1024]⟩
abbrev S1x4096x1024 : Shape := ⟨3, ![1, 4096, 1024]⟩
abbrev S64 : Shape := ⟨1, ![64]⟩
abbrev S_ : Shape := ⟨0, ![]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S1x64 : Shape := ⟨2, ![1, 64]⟩
abbrev S64x64 : Shape := ⟨2, ![64, 64]⟩
abbrev S64x1x8x1 : Shape := ⟨4, ![64, 1, 8, 1]⟩
abbrev S1x64x1x64 : Shape := ⟨4, ![1, 64, 1, 64]⟩
abbrev S64x64x8x64 : Shape := ⟨4, ![64, 64, 8, 64]⟩
abbrev S64x64x8x64x1 : Shape := ⟨5, ![64, 64, 8, 64, 1]⟩
abbrev S64x64x8x64x2 : Shape := ⟨5, ![64, 64, 8, 64, 2]⟩
abbrev S8x64x64x8x64 : Shape := ⟨5, ![8, 64, 64, 8, 64]⟩
abbrev S1x64x64x8x128 : Shape := ⟨5, ![1, 64, 64, 8, 128]⟩
abbrev S64x8x1 : Shape := ⟨3, ![64, 8, 1]⟩
abbrev S1x64x8x64x8x128 : Shape := ⟨6, ![1, 64, 8, 64, 8, 128]⟩
abbrev S1x8x64x64x8x64 : Shape := ⟨6, ![1, 8, 64, 64, 8, 64]⟩
abbrev S64x1x64 : Shape := ⟨3, ![64, 1, 64]⟩
abbrev S1x8x64x64x512 : Shape := ⟨5, ![1, 8, 64, 64, 512]⟩
abbrev S1x8x64x64x256 : Shape := ⟨5, ![1, 8, 64, 64, 256]⟩
abbrev S1x8x64x64x768 : Shape := ⟨5, ![1, 8, 64, 64, 768]⟩
abbrev S1x8x64x64 : Shape := ⟨4, ![1, 8, 64, 64]⟩
abbrev S1x8x64x64x1 : Shape := ⟨5, ![1, 8, 64, 64, 1]⟩
abbrev S1x64x8x128x64 : Shape := ⟨5, ![1, 64, 8, 128, 64]⟩
abbrev S1x8x128x64x64 : Shape := ⟨5, ![1, 8, 128, 64, 64]⟩
abbrev S1x8x128x256 : Shape := ⟨4, ![1, 8, 128, 256]⟩
abbrev S1x64x8x64x8x64 : Shape := ⟨6, ![1, 64, 8, 64, 8, 64]⟩
abbrev S1x64x8x128x8x64 : Shape := ⟨6, ![1, 64, 8, 128, 8, 64]⟩
abbrev S8x64x64 : Shape := ⟨3, ![8, 64, 64]⟩
abbrev S1x8x256x128 : Shape := ⟨4, ![1, 8, 256, 128]⟩
abbrev S1x8x64x64x128 : Shape := ⟨5, ![1, 8, 64, 64, 128]⟩
abbrev S1x8x64x8x64x128 : Shape := ⟨6, ![1, 8, 64, 8, 64, 128]⟩
abbrev S256x1024 : Shape := ⟨2, ![256, 1024]⟩

abbrev nBuf : Space → Nat
  | .hbm => 261
  | .vmem => 0
  | .smem => 0
  | _ => 0

abbrev hbmTy0_0 (i : Nat) : BufTy := match i % 128 with
  | 0 => ⟨S4096x3072, .bf16⟩
  | 1 => ⟨S256x2048, .bf16⟩
  | 2 => ⟨S8x15x31, .f32⟩
  | 3 => ⟨S4096x2048, .bf16⟩
  | 4 => ⟨S4096x3072, .f32⟩
  | 5 => ⟨S1x4096x24x128, .f32⟩
  | 6 => ⟨S1x4096x8x128, .f32⟩
  | 7 => ⟨S1x4096x8x128, .f32⟩
  | 8 => ⟨S1x4096x8x128, .f32⟩
  | 9 => ⟨S256x2048, .f32⟩
  | 10 => ⟨S1x256x16x128, .f32⟩
  | 11 => ⟨S1x256x8x128, .f32⟩
  | 12 => ⟨S1x256x8x128, .f32⟩
  | 13 => ⟨S4096x1024, .bf16⟩
  | 14 => ⟨S4096x1024, .f32⟩
  | 15 => ⟨S1x4096x1024, .f32⟩
  | 16 => ⟨S64, .i32⟩
  | 17 => ⟨S_, .i32⟩
  | 18 => ⟨S64, .i32⟩
  | 19 => ⟨S64, .i32⟩
  | 20 => ⟨S_, .i32⟩
  | 21 => ⟨S_, .i32⟩
  | 22 => ⟨S_, .i32⟩
  | 23 => ⟨S64, .i32⟩
  | 24 => ⟨S64, .i32⟩
  | 25 => ⟨S_, .i32⟩
  | 26 => ⟨S64, .i32⟩
  | 27 => ⟨S64, .i32⟩
  | 28 => ⟨S64x1, .i32⟩
  | 29 => ⟨S8, .i32⟩
  | 30 => ⟨S1x8, .i32⟩
  | 31 => ⟨S64x8, .i32⟩
  | 32 => ⟨S64x8, .i32⟩
  | 33 => ⟨S64x8, .i32⟩
  | 34 => ⟨S64, .i32⟩
  | 35 => ⟨S_, .i32⟩
  | 36 => ⟨S64, .i32⟩
  | 37 => ⟨S64, .i32⟩
  | 38 => ⟨S_, .i32⟩
  | 39 => ⟨S_, .i32⟩
  | 40 => ⟨S_, .i32⟩
  | 41 => ⟨S64, .i32⟩
  | 42 => ⟨S64, .i32⟩
  | 43 => ⟨S_, .i32⟩
  | 44 => ⟨S64, .i32⟩
  | 45 => ⟨S64, .i32⟩
  | 46 => ⟨S1x64, .i32⟩
  | 47 => ⟨S64x1, .i32⟩
  | 48 => ⟨S64x64, .i32⟩
  | 49 => ⟨S64x64, .i32⟩
  | 50 => ⟨S64x64, .i1⟩
  | 51 => ⟨S1x64, .i32⟩
  | 52 => ⟨S64x1, .i32⟩
  | 53 => ⟨S_, .i32⟩
  | 54 => ⟨S64x1, .i32⟩
  | 55 => ⟨S64x1, .i32⟩
  | 56 => ⟨S64x64, .i32⟩
  | 57 => ⟨S64x64, .i32⟩
  | 58 => ⟨S64x64, .i1⟩
  | 59 => ⟨S64x64, .i1⟩
  | 60 => ⟨S64x1, .i32⟩
  | 61 => ⟨S64x8, .i32⟩
  | 62 => ⟨S64x8, .i32⟩
  | 63 => ⟨S_, .i32⟩
  | 64 => ⟨S64x8, .i32⟩
  | 65 => ⟨S64x8, .i32⟩
  | 66 => ⟨S1x64, .i32⟩
  | 67 => ⟨S64x1, .i32⟩
  | 68 => ⟨S64x64, .i32⟩
  | 69 => ⟨S64x64, .i32⟩
  | 70 => ⟨S64x64, .i32⟩
  | 71 => ⟨S_, .i32⟩
  | 72 => ⟨S64x64, .i32⟩
  | 73 => ⟨S64x64, .i32⟩
  | 74 => ⟨S_, .i32⟩
  | 75 => ⟨S_, .i32⟩
  | 76 => ⟨S_, .i32⟩
  | 77 => ⟨S64x64, .i32⟩
  | 78 => ⟨S64x64, .i32⟩
  | 79 => ⟨S_, .i32⟩
  | 80 => ⟨S64x64, .i32⟩
  | 81 => ⟨S64x64, .i32⟩
  | 82 => ⟨S64x1x8x1, .i32⟩
  | 83 => ⟨S1x64x1x64, .i32⟩
  | 84 => ⟨S_, .i32⟩
  | 85 => ⟨S64x1x8x1, .i32⟩
  | 86 => ⟨S64x1x8x1, .i1⟩
  | 87 => ⟨S_, .i32⟩
  | 88 => ⟨S64x1x8x1, .i32⟩
  | 89 => ⟨S64x1x8x1, .i32⟩
  | 90 => ⟨S64x1x8x1, .i32⟩
  | 91 => ⟨S_, .i32⟩
  | 92 => ⟨S1x64x1x64, .i32⟩
  | 93 => ⟨S1x64x1x64, .i1⟩
  | 94 => ⟨S_, .i32⟩
  | 95 => ⟨S1x64x1x64, .i32⟩
  | 96 => ⟨S1x64x1x64, .i32⟩
  | 97 => ⟨S1x64x1x64, .i32⟩
  | 98 => ⟨S64x64x8x64, .i32⟩
  | 99 => ⟨S64x64x8x64, .i32⟩
  | 100 => ⟨S64x64x8x64x1, .i32⟩
  | 101 => ⟨S64x64x8x64x1, .i32⟩
  | 102 => ⟨S64x64x8x64x2, .i32⟩
  | 103 => ⟨S8x64x64x8x64, .f32⟩
  | 104 => ⟨S1x64x64x8x128, .f32⟩
  | 105 => ⟨S1x64x64x8x128, .f32⟩
  | 106 => ⟨S_, .i32⟩
  | 107 => ⟨S64x8, .i32⟩
  | 108 => ⟨S64x8, .i1⟩
  | 109 => ⟨S_, .i32⟩
  | 110 => ⟨S64x8, .i32⟩
  | 111 => ⟨S64x8, .i32⟩
  | 112 => ⟨S64x8, .i32⟩
  | 113 => ⟨S64x8x1, .i32⟩
  | 114 => ⟨S1x64x8x64x8x128, .f32⟩
  | 115 => ⟨S1x64x64x8x128, .f32⟩
  | 116 => ⟨S_, .i32⟩
  | 117 => ⟨S64x8, .i32⟩
  | 118 => ⟨S64x8, .i1⟩
  | 119 => ⟨S_, .i32⟩
  | 120 => ⟨S64x8, .i32⟩
  | 121 => ⟨S64x8, .i32⟩
  | 122 => ⟨S64x8, .i32⟩
  | 123 => ⟨S64x8x1, .i32⟩
  | 124 => ⟨S1x64x8x64x8x128, .f32⟩
  | 125 => ⟨S1x8x64x64x8x64, .f32⟩
  | 126 => ⟨S_, .f32⟩
  | 127 => ⟨S1x8x64x64x8x64, .f32⟩
  | _ => ⟨S4096x3072, .bf16⟩

abbrev hbmTy0_1 (i : Nat) : BufTy := match i % 128 with
  | 0 => ⟨S1x8x64x64x8x64, .f32⟩
  | 1 => ⟨S1x8x64x64x8x64, .f32⟩
  | 2 => ⟨S1x8x64x64x8x64, .f32⟩
  | 3 => ⟨S64x1x64, .i1⟩
  | 4 => ⟨S_, .f32⟩
  | 5 => ⟨S_, .f32⟩
  | 6 => ⟨S1x8x64x64x8x64, .i1⟩
  | 7 => ⟨S1x8x64x64x8x64, .f32⟩
  | 8 => ⟨S1x8x64x64x8x64, .f32⟩
  | 9 => ⟨S_, .f32⟩
  | 10 => ⟨S1x8x64x64x8x64, .f32⟩
  | 11 => ⟨S1x8x64x64x512, .f32⟩
  | 12 => ⟨S1x8x64x64x256, .f32⟩
  | 13 => ⟨S_, .f32⟩
  | 14 => ⟨S1x8x64x64x256, .f32⟩
  | 15 => ⟨S1x8x64x64x256, .f32⟩
  | 16 => ⟨S1x8x64x64x768, .f32⟩
  | 17 => ⟨S_, .f32⟩
  | 18 => ⟨S1x8x64x64, .f32⟩
  | 19 => ⟨S1x8x64x64x1, .f32⟩
  | 20 => ⟨S1x8x64x64x768, .f32⟩
  | 21 => ⟨S1x8x64x64x768, .i1⟩
  | 22 => ⟨S1x8x64x64x768, .f32⟩
  | 23 => ⟨S_, .f32⟩
  | 24 => ⟨S1x8x64x64, .f32⟩
  | 25 => ⟨S_, .f32⟩
  | 26 => ⟨S1x8x64x64, .f32⟩
  | 27 => ⟨S1x8x64x64, .f32⟩
  | 28 => ⟨S_, .f32⟩
  | 29 => ⟨S1x8x64x64, .f32⟩
  | 30 => ⟨S1x8x64x64, .i1⟩
  | 31 => ⟨S_, .f32⟩
  | 32 => ⟨S1x8x64x64, .f32⟩
  | 33 => ⟨S1x8x64x64, .i1⟩
  | 34 => ⟨S_, .f32⟩
  | 35 => ⟨S1x8x64x64, .f32⟩
  | 36 => ⟨S_, .f32⟩
  | 37 => ⟨S1x8x64x64, .f32⟩
  | 38 => ⟨S_, .f32⟩
  | 39 => ⟨S1x8x64x64, .f32⟩
  | 40 => ⟨S1x8x64x64, .f32⟩
  | 41 => ⟨S1x8x64x64, .f32⟩
  | 42 => ⟨S1x8x64x64x1, .f32⟩
  | 43 => ⟨S1x8x64x64x768, .f32⟩
  | 44 => ⟨S1x8x64x64x768, .f32⟩
  | 45 => ⟨S1x8x64x64x768, .f32⟩
  | 46 => ⟨S_, .f32⟩
  | 47 => ⟨S1x8x64x64, .f32⟩
  | 48 => ⟨S1x8x64x64x1, .f32⟩
  | 49 => ⟨S1x8x64x64x768, .f32⟩
  | 50 => ⟨S1x8x64x64x768, .f32⟩
  | 51 => ⟨S1x8x64x64x1, .f32⟩
  | 52 => ⟨S_, .f32⟩
  | 53 => ⟨S1x8x64x64x1, .f32⟩
  | 54 => ⟨S1x8x64x64x1, .f32⟩
  | 55 => ⟨S1x8x64x64x512, .f32⟩
  | 56 => ⟨S1x8x64x64x8x64, .f32⟩
  | 57 => ⟨S1x8x64x64x256, .f32⟩
  | 58 => ⟨S1x64x8x128x64, .f32⟩
  | 59 => ⟨S1x64x64x8x128, .f32⟩
  | 60 => ⟨S1x8x128x64x64, .f32⟩
  | 61 => ⟨S1x64x64x8x128, .f32⟩
  | 62 => ⟨S1x64x64x8x128, .f32⟩
  | 63 => ⟨S1x4096x1024, .f32⟩
  | 64 => ⟨S1x64x64x8x128, .f32⟩
  | 65 => ⟨S1x8x128x64x64, .f32⟩
  | 66 => ⟨S1x8x64x64x256, .f32⟩
  | 67 => ⟨S1x8x128x256, .f32⟩
  | 68 => ⟨S1x256x8x128, .f32⟩
  | 69 => ⟨S1x64x8x128x64, .f32⟩
  | 70 => ⟨S1x64x8x64x8x64, .f32⟩
  | 71 => ⟨S1x8x64x64x8x64, .f32⟩
  | 72 => ⟨S1x64x8x128x8x64, .f32⟩
  | 73 => ⟨S1x64x8x64x8x128, .f32⟩
  | 74 => ⟨S_, .f32⟩
  | 75 => ⟨S1x8x64x64x768, .f32⟩
  | 76 => ⟨S1x8x64x64x512, .f32⟩
  | 77 => ⟨S_, .f32⟩
  | 78 => ⟨S1x8x64x64x768, .f32⟩
  | 79 => ⟨S1x8x64x64x768, .f32⟩
  | 80 => ⟨S1x8x64x64x768, .f32⟩
  | 81 => ⟨S1x8x64x64x768, .f32⟩
  | 82 => ⟨S1x8x64x64x768, .f32⟩
  | 83 => ⟨S_, .f32⟩
  | 84 => ⟨S1x8x64x64, .f32⟩
  | 85 => ⟨S1x8x64x64x1, .f32⟩
  | 86 => ⟨S1x8x64x64x1, .f32⟩
  | 87 => ⟨S1x8x64x64x768, .f32⟩
  | 88 => ⟨S1x8x64x64x768, .f32⟩
  | 89 => ⟨S_, .f32⟩
  | 90 => ⟨S8x64x64, .f32⟩
  | 91 => ⟨S1x8x64x64, .f32⟩
  | 92 => ⟨S1x8x64x64x768, .f32⟩
  | 93 => ⟨S1x8x64x64x768, .f32⟩
  | 94 => ⟨S1x8x64x64x768, .f32⟩
  | 95 => ⟨S1x8x64x64x512, .f32⟩
  | 96 => ⟨S1x8x64x64x256, .f32⟩
  | 97 => ⟨S_, .f32⟩
  | 98 => ⟨S1x8x64x64x256, .f32⟩
  | 99 => ⟨S1x8x64x64x256, .f32⟩
  | 100 => ⟨S1x8x256x128, .f32⟩
  | 101 => ⟨S1x256x8x128, .f32⟩
  | 102 => ⟨S1x8x64x64x128, .f32⟩
  | 103 => ⟨S1x64x64x8x128, .f32⟩
  | 104 => ⟨S1x8x64x64x8x64, .f32⟩
  | 105 => ⟨S_, .f32⟩
  | 106 => ⟨S1x8x64x64x8x64, .f32⟩
  | 107 => ⟨S1x8x64x64x8x64, .f32⟩
  | 108 => ⟨S_, .f32⟩
  | 109 => ⟨S1x8x64x64x8x64, .f32⟩
  | 110 => ⟨S1x8x64x64x8x64, .f32⟩
  | 111 => ⟨S1x8x64x8x64x128, .f32⟩
  | 112 => ⟨S1x64x8x64x8x128, .f32⟩
  | 113 => ⟨S1x8x64x64x128, .f32⟩
  | 114 => ⟨S1x64x64x8x128, .f32⟩
  | 115 => ⟨S1x64x64x8x128, .f32⟩
  | 116 => ⟨S_, .f32⟩
  | 117 => ⟨S1x64x64x8x128, .f32⟩
  | 118 => ⟨S1x64x64x8x128, .f32⟩
  | 119 => ⟨S1x4096x8x128, .f32⟩
  | 120 => ⟨S_, .f32⟩
  | 121 => ⟨S1x64x64x8x128, .f32⟩
  | 122 => ⟨S1x64x64x8x128, .f32⟩
  | 123 => ⟨S1x4096x8x128, .f32⟩
  | 124 => ⟨S1x4096x8x128, .f32⟩
  | 125 => ⟨S4096x1024, .f32⟩
  | 126 => ⟨S4096x1024, .bf16⟩
  | 127 => ⟨S4096x1024, .f32⟩
  | _ => ⟨S4096x3072, .bf16⟩

abbrev hbmTy0_2 (i : Nat) : BufTy := match i % 128 with
  | 0 => ⟨S4096x1024, .bf16⟩
  | 1 => ⟨S4096x1024, .f32⟩
  | 2 => ⟨S4096x1024, .f32⟩
  | 3 => ⟨S256x1024, .f32⟩
  | 4 => ⟨S256x1024, .f32⟩
  | _ => ⟨S4096x3072, .bf16⟩

abbrev hbmTy (i : Nat) : BufTy := match i / 128 with
  | 0 => hbmTy0_0 i
  | 1 => hbmTy0_1 i
  | 2 => hbmTy0_2 i
  | _ => ⟨S4096x3072, .bf16⟩

abbrev bufTy : (tb : Table) → Fin (tcTables nBuf tb) → BufTy
  | .hbm, ⟨i, _⟩ => hbmTy i
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_c_4 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_7 : Ref sig .tc := ⟨.hbm, 71, rfl⟩
abbrev main_v49 : Ref sig .tc := ⟨.hbm, 72, rfl⟩
abbrev main_v50 : Ref sig .tc := ⟨.hbm, 73, rfl⟩
abbrev main_c_8 : Ref sig .tc := ⟨.hbm, 74, rfl⟩
abbrev main_c_9 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_10 : Ref sig .tc := ⟨.hbm, 84, rfl⟩
abbrev main_v54 : Ref sig .tc := ⟨.hbm, 85, rfl⟩
abbrev main_v55 : Ref sig .tc := ⟨.hbm, 86, rfl⟩
abbrev main_c_11 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_12 : Ref sig .tc := ⟨.hbm, 91, rfl⟩
abbrev main_v59 : Ref sig .tc := ⟨.hbm, 92, rfl⟩
abbrev main_v60 : Ref sig .tc := ⟨.hbm, 93, rfl⟩
abbrev main_c_13 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_14 : Ref sig .tc := ⟨.hbm, 106, rfl⟩
abbrev main_v72 : Ref sig .tc := ⟨.hbm, 107, rfl⟩
abbrev main_v73 : Ref sig .tc := ⟨.hbm, 108, rfl⟩
abbrev main_c_15 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_c_16 : Ref sig .tc := ⟨.hbm, 116, rfl⟩
abbrev main_v80 : Ref sig .tc := ⟨.hbm, 117, rfl⟩
abbrev main_v81 : Ref sig .tc := ⟨.hbm, 118, rfl⟩
abbrev main_c_17 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_18 : Ref sig .tc := ⟨.hbm, 132, rfl⟩
abbrev main_call3_v0 : Ref sig .tc := ⟨.hbm, 133, rfl⟩
abbrev main_v93_1 : Ref sig .tc := ⟨.hbm, 134, rfl⟩
abbrev main_call3_v2 : Ref sig .tc := ⟨.hbm, 135, rfl⟩
abbrev main_v93_0 : Ref sig .tc := ⟨.hbm, 136, rfl⟩
abbrev main_call3_cst : Ref sig .tc := ⟨.hbm, 137, rfl⟩
abbrev main_v93_2 : Ref sig .tc := ⟨.hbm, 138, rfl⟩
abbrev main_v94 : Ref sig .tc := ⟨.hbm, 139, rfl⟩
abbrev main_v95 : Ref sig .tc := ⟨.hbm, 140, rfl⟩
abbrev main_cst_19 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_cst_20 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_21 : Ref sig .tc := ⟨.hbm, 151, rfl⟩
abbrev main_v104 : Ref sig .tc := ⟨.hbm, 152, rfl⟩
abbrev main_cst_22 : Ref sig .tc := ⟨.hbm, 153, rfl⟩
abbrev main_v105 : Ref sig .tc := ⟨.hbm, 154, rfl⟩
abbrev main_v106 : Ref sig .tc := ⟨.hbm, 155, rfl⟩
abbrev main_cst_23 : Ref sig .tc := ⟨.hbm, 156, rfl⟩
abbrev main_v107 : Ref sig .tc := ⟨.hbm, 157, rfl⟩
abbrev main_v108 : Ref sig .tc := ⟨.hbm, 158, rfl⟩
abbrev main_cst_24 : Ref sig .tc := ⟨.hbm, 159, rfl⟩
abbrev main_v109 : Ref sig .tc := ⟨.hbm, 160, rfl⟩
abbrev main_v110 : Ref sig .tc := ⟨.hbm, 161, rfl⟩
abbrev main_cst_25 : Ref sig .tc := ⟨.hbm, 162, rfl⟩
abbrev main_v111 : Ref sig .tc := ⟨.hbm, 163, rfl⟩
abbrev main_cst_26 : Ref sig .tc := ⟨.hbm, 164, rfl⟩
abbrev main_v112 : Ref sig .tc := ⟨.hbm, 165, rfl⟩
abbrev main_cst_27 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_cst_28 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_cst_29 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_cst_30 : Ref sig .tc := ⟨.hbm, 202, rfl⟩
abbrev main_v146 : Ref sig .tc := ⟨.hbm, 203, rfl⟩
abbrev main_v147 : Ref sig .tc := ⟨.hbm, 204, rfl⟩
abbrev main_cst_31 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_cst_32 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_cst_33 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_cst_34 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_call4_cst : Ref sig .tc := ⟨.hbm, 233, rfl⟩
abbrev main_call4_v0 : Ref sig .tc := ⟨.hbm, 234, rfl⟩
abbrev main_v172 : Ref sig .tc := ⟨.hbm, 235, rfl⟩
abbrev main_cst_35 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_cst_36 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_cst_37 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩

abbrev nD : Nat := 1
abbrev τ : Topo := Topo.v7x

variable {F : FTy → Type} [FloatOps F]
-- ==== Up.lean ====
abbrev S4096x2048 : Shape := ⟨2, ![4096, 2048]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S2x4096x5632 : Shape := ⟨3, ![2, 4096, 5632]⟩
abbrev S1024x2048 : Shape := ⟨2, ![1024, 2048]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S2048x4x2816, .bf16⟩
  | .hbm, ⟨3, _⟩ => ⟨S4x2048x2816, .bf16⟩
  | .hbm, ⟨4, _⟩ => ⟨S2x4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.divsi v16 c2_i32_4
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c0_i32_7 : BitVec 32 := 0#32
  let v23 : BitVec 1 := Scalar.cmpi .sgt c2_i32_4 c0_i32_7
  let v24 : BitVec 32 := Scalar.extui v23
  let c0_i32_8 : BitVec 32 := 0#32
  let v25 : BitVec 1 := Scalar.cmpi .slt c2_i32_4 c0_i32_8
  let v26 : BitVec 32 := Scalar.extui v25
  let v27 : BitVec 32 := Scalar.subi v24 v26
  let v28 : BitVec 1 := Scalar.cmpi .ne v22 v27
  let v29 : BitVec 32 := Scalar.remsi v16 c2_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c2_i32_11 : BitVec 32 := 2#32
  let v34 : BitVec 32 := Scalar.divsi arg1 c2_i32_11
  let c0_i32_12 : BitVec 32 := 0#32
  let v35 : BitVec 1 := Scalar.cmpi .sgt arg1 c0_i32_12
  let v36 : BitVec 32 := Scalar.extui v35
  let c0_i32_13 : BitVec 32 := 0#32
  let v37 : BitVec 1 := Scalar.cmpi .slt arg1 c0_i32_13
  let v38 : BitVec 32 := Scalar.extui v37
  let v39 : BitVec 32 := Scalar.subi v36 v38
  let c0_i32_14 : BitVec 32 := 0#32
  let v40 : BitVec 1 := Scalar.cmpi .sgt c2_i32_11 c0_i32_14
  let v41 : BitVec 32 := Scalar.extui v40
  let c0_i32_15 : BitVec 32 := 0#32
  let v42 : BitVec 1 := Scalar.cmpi .slt c2_i32_11 c0_i32_15
  let v43 : BitVec 32 := Scalar.extui v42
  let v44 : BitVec 32 := Scalar.subi v41 v43
  let v45 : BitVec 1 := Scalar.cmpi .ne v39 v44
  let v46 : BitVec 32 := Scalar.remsi arg1 c2_i32_11
  let c0_i32_16 : BitVec 32 := 0#32
  let v47 : BitVec 1 := Scalar.cmpi .ne v46 c0_i32_16
  let v48 : BitVec 1 := Scalar.andi v45 v47
  let c1_i32_17 : BitVec 32 := 1#32
  let v49 : BitVec 32 := Scalar.subi v34 c1_i32_17
  let v50 : BitVec 32 := Scalar.select v48 v49 v34
  let c2_i32_18 : BitVec 32 := 2#32
  let c0_i32_19 : BitVec 32 := 0#32
  let v51 : BitVec 1 := Scalar.cmpi .eq c2_i32_18 c0_i32_19
  let c1_i32_20 : BitVec 32 := 1#32
  let v52 : BitVec 32 := Scalar.select v51 c1_i32_20 c2_i32_18
  let v53 : BitVec 32 := Scalar.remsi v50 v52
  let c0_i32_21 : BitVec 32 := 0#32
  let v54 : BitVec 1 := Scalar.cmpi .ne v53 c0_i32_21
  let c0_i32_22 : BitVec 32 := 0#32
  let v55 : BitVec 1 := Scalar.cmpi .slt v53 c0_i32_22
  let c0_i32_23 : BitVec 32 := 0#32
  let v56 : BitVec 1 := Scalar.cmpi .slt v52 c0_i32_23
  let v57 : BitVec 1 := Scalar.xori v55 v56
  let v58 : BitVec 1 := Scalar.andi v57 v54
  let v59 : BitVec 32 := Scalar.addi v53 v52
  let v60 : BitVec 32 := Scalar.select v58 v59 v53
  let c2_i32_24 : BitVec 32 := 2#32
  let v61 : BitVec 32 := Scalar.muli v60 c2_i32_24
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi arg1 v63
  let c0_i32_28 : BitVec 32 := 0#32
  let v65 : BitVec 1 := Scalar.cmpi .ne v64 c0_i32_28
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let v69 : BitVec 1 := Scalar.andi v68 v65
  let v70 : BitVec 32 := Scalar.addi v64 v63
  let v71 : BitVec 32 := Scalar.select v69 v70 v64
  let v72 : BitVec 32 := Scalar.addi v61 v71
  let c0_i32_31 : BitVec 32 := 0#32
  ![v33.toNat, arg0.toNat, v72.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpIdeal.lean ====
abbrev S4096x2048 : Shape := ⟨2, ![4096, 2048]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S2x4096x5632 : Shape := ⟨3, ![2, 4096, 5632]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S4096x11264, .f32⟩
  | .hbm, ⟨5, _⟩ => ⟨S4096x5632, .f32⟩
  | .hbm, ⟨6, _⟩ => ⟨S4096x5632, .f32⟩
  | .hbm, ⟨7, _⟩ => ⟨S1x4096x5632, .f32⟩
  | .hbm, ⟨8, _⟩ => ⟨S1x4096x5632, .f32⟩
  | .hbm, ⟨9, _⟩ => ⟨S2x4096x5632, .f32⟩
  | .hbm, ⟨10, _⟩ => ⟨S2x4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== UpX.lean ====
abbrev S2048x11264 : Shape := ⟨2, ![2048, 11264]⟩
abbrev S2x4096x5632 : Shape := ⟨3, ![2, 4096, 5632]⟩
abbrev S2048x4x2816 : Shape := ⟨3, ![2048, 4, 2816]⟩
abbrev S4x2048x2816 : Shape := ⟨3, ![4, 2048, 2816]⟩
abbrev S4096x2048 : Shape := ⟨2, ![4096, 2048]⟩
abbrev S1x1024x2816 : Shape := ⟨3, ![1, 1024, 2816]⟩
abbrev S1024x1024 : Shape := ⟨2, ![1024, 1024]⟩
abbrev S1024x2816 : Shape := ⟨2, ![1024, 2816]⟩

abbrev nBuf : Space → Nat
  | .hbm => 5
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S2x4096x5632, .bf16⟩
  | .hbm, ⟨2, _⟩ => ⟨S2048x4x2816, .bf16⟩
  | .hbm, ⟨3, _⟩ => ⟨S4x2048x2816, .bf16⟩
  | .hbm, ⟨4, _⟩ => ⟨S4096x2048, .bf16⟩
  | .local _ .vmem, ⟨0, _⟩ => ⟨S1x1024x2816, .bf16⟩
  | .local _ .vmem, ⟨1, _⟩ => ⟨S1x1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpXIdeal.lean ====
abbrev S2048x11264 : Shape := ⟨2, ![2048, 11264]⟩
abbrev S2x4096x5632 : Shape := ⟨3, ![2, 4096, 5632]⟩
abbrev S_ : Shape := ⟨0, ![]⟩
abbrev S4096x2048 : Shape := ⟨2, ![4096, 2048]⟩
abbrev S4096x11264 : Shape := ⟨2, ![4096, 11264]⟩
abbrev S4096x5632 : Shape := ⟨2, ![4096, 5632]⟩
abbrev S1x4096x5632 : Shape := ⟨3, ![1, 4096, 5632]⟩

abbrev nBuf : Space → Nat
  | .hbm => 16
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S2x4096x5632, .bf16⟩
  | .hbm, ⟨2, _⟩ => ⟨S2048x11264, .f32⟩
  | .hbm, ⟨3, _⟩ => ⟨S2x4096x5632, .f32⟩
  | .hbm, ⟨4, _⟩ => ⟨S_, .f32⟩
  | .hbm, ⟨5, _⟩ => ⟨S4096x2048, .f32⟩
  | .hbm, ⟨6, _⟩ => ⟨S4096x11264, .f32⟩
  | .hbm, ⟨7, _⟩ => ⟨S4096x5632, .f32⟩
  | .hbm, ⟨8, _⟩ => ⟨S4096x5632, .f32⟩
  | .hbm, ⟨9, _⟩ => ⟨S1x4096x5632, .f32⟩
  | .hbm, ⟨10, _⟩ => ⟨S4096x5632, .f32⟩
  | .hbm, ⟨11, _⟩ => ⟨S1x4096x5632, .f32⟩
  | .hbm, ⟨12, _⟩ => ⟨S4096x5632, .f32⟩
  | .hbm, ⟨13, _⟩ => ⟨S4096x11264, .f32⟩
  | .hbm, ⟨14, _⟩ => ⟨S4096x2048, .f32⟩
  | .hbm, ⟨15, _⟩ => ⟨S4096x2048, .bf16⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== UpW.lean ====
abbrev S4096x2048 : Shape := ⟨2, ![4096, 2048]⟩
abbrev S2x4096x5632 : Shape := ⟨3, ![2, 4096, 5632]⟩
abbrev S4x2048x2816 : Shape := ⟨3, ![4, 2048, 2816]⟩
abbrev S4096x512 : Shape := ⟨2, ![4096, 512]⟩
abbrev S1x4096x1408 : Shape := ⟨3, ![1, 4096, 1408]⟩
abbrev S1x512x1408 : Shape := ⟨3, ![1, 512, 1408]⟩
abbrev S4096x1408 : Shape := ⟨2, ![4096, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S4x2048x2816, .bf16⟩
  | .local _ .vmem, ⟨0, _⟩ => ⟨S4096x512, .bf16⟩
  | .local _ .vmem, ⟨1, _⟩ => ⟨S4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .bf16⟩
  | .local _ .vmem, ⟨5, _⟩ => ⟨S1x512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.divsi v16 c2_i32_4
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c0_i32_7 : BitVec 32 := 0#32
  let v23 : BitVec 1 := Scalar.cmpi .sgt c2_i32_4 c0_i32_7
  let v24 : BitVec 32 := Scalar.extui v23
  let c0_i32_8 : BitVec 32 := 0#32
  let v25 : BitVec 1 := Scalar.cmpi .slt c2_i32_4 c0_i32_8
  let v26 : BitVec 32 := Scalar.extui v25
  let v27 : BitVec 32 := Scalar.subi v24 v26
  let v28 : BitVec 1 := Scalar.cmpi .ne v22 v27
  let v29 : BitVec 32 := Scalar.remsi v16 c2_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c2_i32_11 : BitVec 32 := 2#32
  let v34 : BitVec 32 := Scalar.divsi arg1 c2_i32_11
  let c0_i32_12 : BitVec 32 := 0#32
  let v35 : BitVec 1 := Scalar.cmpi .sgt arg1 c0_i32_12
  let v36 : BitVec 32 := Scalar.extui v35
  let c0_i32_13 : BitVec 32 := 0#32
  let v37 : BitVec 1 := Scalar.cmpi .slt arg1 c0_i32_13
  let v38 : BitVec 32 := Scalar.extui v37
  let v39 : BitVec 32 := Scalar.subi v36 v38
  let c0_i32_14 : BitVec 32 := 0#32
  let v40 : BitVec 1 := Scalar.cmpi .sgt c2_i32_11 c0_i32_14
  let v41 : BitVec 32 := Scalar.extui v40
  let c0_i32_15 : BitVec 32 := 0#32
  let v42 : BitVec 1 := Scalar.cmpi .slt c2_i32_11 c0_i32_15
  let v43 : BitVec 32 := Scalar.extui v42
  let v44 : BitVec 32 := Scalar.subi v41 v43
  let v45 : BitVec 1 := Scalar.cmpi .ne v39 v44
  let v46 : BitVec 32 := Scalar.remsi arg1 c2_i32_11
  let c0_i32_16 : BitVec 32 := 0#32
  let v47 : BitVec 1 := Scalar.cmpi .ne v46 c0_i32_16
  let v48 : BitVec 1 := Scalar.andi v45 v47
  let c1_i32_17 : BitVec 32 := 1#32
  let v49 : BitVec 32 := Scalar.subi v34 c1_i32_17
  let v50 : BitVec 32 := Scalar.select v48 v49 v34
  let c2_i32_18 : BitVec 32 := 2#32
  let c0_i32_19 : BitVec 32 := 0#32
  let v51 : BitVec 1 := Scalar.cmpi .eq c2_i32_18 c0_i32_19
  let c1_i32_20 : BitVec 32 := 1#32
  let v52 : BitVec 32 := Scalar.select v51 c1_i32_20 c2_i32_18
  let v53 : BitVec 32 := Scalar.remsi v50 v52
  let c0_i32_21 : BitVec 32 := 0#32
  let v54 : BitVec 1 := Scalar.cmpi .ne v53 c0_i32_21
  let c0_i32_22 : BitVec 32 := 0#32
  let v55 : BitVec 1 := Scalar.cmpi .slt v53 c0_i32_22
  let c0_i32_23 : BitVec 32 := 0#32
  let v56 : BitVec 1 := Scalar.cmpi .slt v52 c0_i32_23
  let v57 : BitVec 1 := Scalar.xori v55 v56
  let v58 : BitVec 1 := Scalar.andi v57 v54
  let v59 : BitVec 32 := Scalar.addi v53 v52
  let v60 : BitVec 32 := Scalar.select v58 v59 v53
  let c2_i32_24 : BitVec 32 := 2#32
  let v61 : BitVec 32 := Scalar.muli v60 c2_i32_24
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi arg1 v63
  let c0_i32_28 : BitVec 32 := 0#32
  let v65 : BitVec 1 := Scalar.cmpi .ne v64 c0_i32_28
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let v69 : BitVec 1 := Scalar.andi v68 v65
  let v70 : BitVec 32 := Scalar.addi v64 v63
  let v71 : BitVec 32 := Scalar.select v69 v70 v64
  let v72 : BitVec 32 := Scalar.addi v61 v71
  let c0_i32_31 : BitVec 32 := 0#32
  let c0_i32_32 : BitVec 32 := 0#32
  ![v33.toNat, c0_i32_31.toNat, v72.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpWIdeal.lean ====
abbrev S4096x2048 : Shape := ⟨2, ![4096, 2048]⟩
abbrev S2x4096x5632 : Shape := ⟨3, ![2, 4096, 5632]⟩
abbrev S_ : Shape := ⟨0, ![]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S11264x2048 : Shape := ⟨2, ![11264, 2048]⟩
abbrev S2048x2816 : Shape := ⟨2, ![2048, 2816]⟩
abbrev S1x2048x2816 : Shape := ⟨3, ![1, 2048, 2816]⟩
abbrev S4x2048x2816 : Shape := ⟨3, ![4, 2048, 2816]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S4096x2048, .f32⟩
  | .hbm, ⟨3, _⟩ => ⟨S2x4096x5632, .f32⟩
  | .hbm, ⟨4, _⟩ => ⟨S_, .f32⟩
  | .hbm, ⟨5, _⟩ => ⟨S2048x11264, .f32⟩
  | .hbm, ⟨6, _⟩ => ⟨S4096x11264, .f32⟩
  | .hbm, ⟨7, _⟩ => ⟨S4096x5632, .f32⟩
  | .hbm, ⟨8, _⟩ => ⟨S4096x5632, .f32⟩
  | .hbm, ⟨9, _⟩ => ⟨S1x4096x5632, .f32⟩
  | .hbm, ⟨10, _⟩ => ⟨S4096x5632, .f32⟩
  | .hbm, ⟨11, _⟩ => ⟨S1x4096x5632, .f32⟩
  | .hbm, ⟨12, _⟩ => ⟨S4096x5632, .f32⟩
  | .hbm, ⟨13, _⟩ => ⟨S4096x11264, .f32⟩
  | .hbm, ⟨14, _⟩ => ⟨S11264x2048, .f32⟩
  | .hbm, ⟨15, _⟩ => ⟨S2048x11264, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S1x2048x2816, .f32⟩
  | .hbm, ⟨21, _⟩ => ⟨S1x2048x2816, .f32⟩
  | .hbm, ⟨22, _⟩ => ⟨S1x2048x2816, .f32⟩
  | .hbm, ⟨23, _⟩ => ⟨S1x2048x2816, .f32⟩
  | .hbm, ⟨24, _⟩ => ⟨S4x2048x2816, .f32⟩
  | .hbm, ⟨25, _⟩ => ⟨S4x2048x2816, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .bf16⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .bf16⟩
  | .local _ .vmem, ⟨5, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x5632, .f32⟩
  | .hbm, ⟨3, _⟩ => ⟨S5632x2048, .f32⟩
  | .hbm, ⟨4, _⟩ => ⟨S4096x2048, .f32⟩
  | .hbm, ⟨5, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownX.lean ====
abbrev S5632x2048 : Shape := ⟨2, ![5632, 2048]⟩
abbrev S4096x2048 : Shape := ⟨2, ![4096, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S5632x2048, .bf16⟩
  | .hbm, ⟨1, _⟩ => ⟨S4096x2048, .bf16⟩
  | .hbm, ⟨2, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S5632x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownXIdeal.lean ====
abbrev S5632x2048 : Shape := ⟨2, ![5632, 2048]⟩
abbrev S4096x2048 : Shape := ⟨2, ![4096, 2048]⟩
abbrev S_ : Shape := ⟨0, ![]⟩
abbrev S4096x5632 : Shape := ⟨2, ![4096, 5632]⟩

abbrev nBuf : Space → Nat
  | .hbm => 9
  | .vmem => 0
  | .smem => 0
  | _ => 0

abbrev bufTy : (tb : Table) → Fin (tcTables nBuf tb) → BufTy
  | .hbm, ⟨0, _⟩ => ⟨S5632x2048, .bf16⟩
  | .hbm, ⟨1, _⟩ => ⟨S4096x2048, .bf16⟩
  | .hbm, ⟨2, _⟩ => ⟨S5632x2048, .f32⟩
  | .hbm, ⟨3, _⟩ => ⟨S_, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S4096x5632, .f32⟩
  | .hbm, ⟨8, _⟩ => ⟨S4096x5632, .bf16⟩
  | _, _ => ⟨S5632x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownW.lean ====
abbrev S4096x5632 : Shape := ⟨2, ![4096, 5632]⟩
abbrev S4096x2048 : Shape := ⟨2, ![4096, 2048]⟩
abbrev S5632x2048 : Shape := ⟨2, ![5632, 2048]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownWIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S_, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Pw.lean ====
abbrev S4096x2048 : Shape := ⟨2, ![4096, 2048]⟩
abbrev S2048x4096 : Shape := ⟨2, ![2048, 4096]⟩
abbrev S2048x4x1024 : Shape := ⟨3, ![2048, 4, 1024]⟩
abbrev S4x2048x1024 : Shape := ⟨3, ![4, 2048, 1024]⟩
abbrev S2x4096x2048 : Shape := ⟨3, ![2, 4096, 2048]⟩
abbrev S2048x2048 : Shape := ⟨2, ![2048, 2048]⟩
abbrev S1x2048x1024 : Shape := ⟨3, ![1, 2048, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S2048x4x1024, .bf16⟩
  | .hbm, ⟨3, _⟩ => ⟨S4x2048x1024, .bf16⟩
  | .hbm, ⟨4, _⟩ => ⟨S2x4096x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let c0_i32_13 : BitVec 32 := 0#32
  ![v17.toNat, c0_i32_12.toNat, v27.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.divsi v16 c2_i32
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c0_i32_7 : BitVec 32 := 0#32
  let v23 : BitVec 1 := Scalar.cmpi .sgt c2_i32 c0_i32_7
  let v24 : BitVec 32 := Scalar.extui v23
  let c0_i32_8 : BitVec 32 := 0#32
  let v25 : BitVec 1 := Scalar.cmpi .slt c2_i32 c0_i32_8
  let v26 : BitVec 32 := Scalar.extui v25
  let v27 : BitVec 32 := Scalar.subi v24 v26
  let v28 : BitVec 1 := Scalar.cmpi .ne v22 v27
  let v29 : BitVec 32 := Scalar.remsi v16 c2_i32
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let v34 : BitVec 32 := Scalar.divsi arg1 c1_i32_11
  let c0_i32_12 : BitVec 32 := 0#32
  let v35 : BitVec 1 := Scalar.cmpi .sgt arg1 c0_i32_12
  let v36 : BitVec 32 := Scalar.extui v35
  let c0_i32_13 : BitVec 32 := 0#32
  let v37 : BitVec 1 := Scalar.cmpi .slt arg1 c0_i32_13
  let v38 : BitVec 32 := Scalar.extui v37
  let v39 : BitVec 32 := Scalar.subi v36 v38
  let c0_i32_14 : BitVec 32 := 0#32
  let v40 : BitVec 1 := Scalar.cmpi .sgt c1_i32_11 c0_i32_14
  let v41 : BitVec 32 := Scalar.extui v40
  let c0_i32_15 : BitVec 32 := 0#32
  let v42 : BitVec 1 := Scalar.cmpi .slt c1_i32_11 c0_i32_15
  let v43 : BitVec 32 := Scalar.extui v42
  let v44 : BitVec 32 := Scalar.subi v41 v43
  let v45 : BitVec 1 := Scalar.cmpi .ne v39 v44
  let v46 : BitVec 32 := Scalar.remsi arg1 c1_i32_11
  let c0_i32_16 : BitVec 32 := 0#32
  let v47 : BitVec 1 := Scalar.cmpi .ne v46 c0_i32_16
  let v48 : BitVec 1 := Scalar.andi v45 v47
  let c1_i32_17 : BitVec 32 := 1#32
  let v49 : BitVec 32 := Scalar.subi v34 c1_i32_17
  let v50 : BitVec 32 := Scalar.select v48 v49 v34
  let c2_i32_18 : BitVec 32 := 2#32
  let c0_i32_19 : BitVec 32 := 0#32
  let v51 : BitVec 1 := Scalar.cmpi .eq c2_i32_18 c0_i32_19
  let c1_i32_20 : BitVec 32 := 1#32
  let v52 : BitVec 32 := Scalar.select v51 c1_i32_20 c2_i32_18
  let v53 : BitVec 32 := Scalar.remsi v50 v52
  let c0_i32_21 : BitVec 32 := 0#32
  let v54 : BitVec 1 := Scalar.cmpi .ne v53 c0_i32_21
  let c0_i32_22 : BitVec 32 := 0#32
  let v55 : BitVec 1 := Scalar.cmpi .slt v53 c0_i32_22
  let c0_i32_23 : BitVec 32 := 0#32
  let v56 : BitVec 1 := Scalar.cmpi .slt v52 c0_i32_23
  let v57 : BitVec 1 := Scalar.xori v55 v56
  let v58 : BitVec 1 := Scalar.andi v57 v54
  let v59 : BitVec 32 := Scalar.addi v53 v52
  let v60 : BitVec 32 := Scalar.select v58 v59 v53
  let c1_i32_24 : BitVec 32 := 1#32
  let v61 : BitVec 32 := Scalar.muli v60 c1_i32_24
  let c1_i32_25 : BitVec 32 := 1#32
  let c0_i32_26 : BitVec 32 := 0#32
  let v62 : BitVec 1 := Scalar.cmpi .eq c1_i32_25 c0_i32_26
  let c1_i32_27 : BitVec 32 := 1#32
  let v63 : BitVec 32 := Scalar.select v62 c1_i32_27 c1_i32_25
  let v64 : BitVec 32 := Scalar.remsi arg1 v63
  let c0_i32_28 : BitVec 32 := 0#32
  let v65 : BitVec 1 := Scalar.cmpi .ne v64 c0_i32_28
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let v69 : BitVec 1 := Scalar.andi v68 v65
  let v70 : BitVec 32 := Scalar.addi v64 v63
  let v71 : BitVec 32 := Scalar.select v69 v70 v64
  let v72 : BitVec 32 := Scalar.addi v61 v71
  let c0_i32_31 : BitVec 32 := 0#32
  ![v33.toNat, arg0.toNat, v72.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefPwIdeal.lean ====
abbrev S4096x2048 : Shape := ⟨2, ![4096, 2048]⟩
abbrev S2048x4096 : Shape := ⟨2, ![2048, 4096]⟩
abbrev S4096x4096 : Shape := ⟨2, ![4096, 4096]⟩
abbrev S1x4096x2048 : Shape := ⟨3, ![1, 4096, 2048]⟩
abbrev S2x4096x2048 : Shape := ⟨3, ![2, 4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x2048, .f32⟩
  | .hbm, ⟨3, _⟩ => ⟨S2048x4096, .f32⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S1x4096x2048, .f32⟩
  | .hbm, ⟨8, _⟩ => ⟨S1x4096x2048, .f32⟩
  | .hbm, ⟨9, _⟩ => ⟨S2x4096x2048, .f32⟩
  | .hbm, ⟨10, _⟩ => ⟨S2x4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== PwX.lean ====
abbrev S2048x4096 : Shape := ⟨2, ![2048, 4096]⟩
abbrev S2x4096x2048 : Shape := ⟨3, ![2, 4096, 2048]⟩
abbrev S2048x4x1024 : Shape := ⟨3, ![2048, 4, 1024]⟩
abbrev S4x2048x1024 : Shape := ⟨3, ![4, 2048, 1024]⟩
abbrev S4096x2048 : Shape := ⟨2, ![4096, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S2x4096x2048, .bf16⟩
  | .hbm, ⟨2, _⟩ => ⟨S2048x4x1024, .bf16⟩
  | .hbm, ⟨3, _⟩ => ⟨S4x2048x1024, .bf16⟩
  | .hbm, ⟨4, _⟩ => ⟨S4096x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefPwXIdeal.lean ====
abbrev S2048x4096 : Shape := ⟨2, ![2048, 4096]⟩
abbrev S2x4096x2048 : Shape := ⟨3, ![2, 4096, 2048]⟩
abbrev S_ : Shape := ⟨0, ![]⟩
abbrev S4096x2048 : Shape := ⟨2, ![4096, 2048]⟩
abbrev S4096x4096 : Shape := ⟨2, ![4096, 4096]⟩
abbrev S1x4096x2048 : Shape := ⟨3, ![1, 4096, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2x4096x2048, .bf16⟩
  | .hbm, ⟨2, _⟩ => ⟨S2048x4096, .f32⟩
  | .hbm, ⟨3, _⟩ => ⟨S2x4096x2048, .f32⟩
  | .hbm, ⟨4, _⟩ => ⟨S_, .f32⟩
  | .hbm, ⟨5, _⟩ => ⟨S4096x2048, .f32⟩
  | .hbm, ⟨6, _⟩ => ⟨S4096x4096, .f32⟩
  | .hbm, ⟨7, _⟩ => ⟨S4096x2048, .f32⟩
  | .hbm, ⟨8, _⟩ => ⟨S4096x2048, .f32⟩
  | .hbm, ⟨9, _⟩ => ⟨S1x4096x2048, .f32⟩
  | .hbm, ⟨10, _⟩ => ⟨S4096x2048, .f32⟩
  | .hbm, ⟨11, _⟩ => ⟨S1x4096x2048, .f32⟩
  | .hbm, ⟨12, _⟩ => ⟨S4096x2048, .f32⟩
  | .hbm, ⟨13, _⟩ => ⟨S4096x4096, .f32⟩
  | .hbm, ⟨14, _⟩ => ⟨S4096x2048, .f32⟩
  | .hbm, ⟨15, _⟩ => ⟨S4096x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== PwW.lean ====
abbrev S4096x2048 : Shape := ⟨2, ![4096, 2048]⟩
abbrev S2x4096x2048 : Shape := ⟨3, ![2, 4096, 2048]⟩
abbrev S4x2048x1024 : Shape := ⟨3, ![4, 2048, 1024]⟩
abbrev S4096x1024 : Shape := ⟨2, ![4096, 1024]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2x4096x2048, .bf16⟩
  | .hbm, ⟨2, _⟩ => ⟨S4x2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .bf16⟩
  | .local _ .vmem, ⟨5, _⟩ => ⟨S1x1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.divsi v16 c2_i32
  let c0_i32_5 : BitVec 32 := 0#32
  let v18 : BitVec 1 := Scalar.cmpi .sgt v16 c0_i32_5
  let v19 : BitVec 32 := Scalar.extui v18
  let c0_i32_6 : BitVec 32 := 0#32
  let v20 : BitVec 1 := Scalar.cmpi .slt v16 c0_i32_6
  let v21 : BitVec 32 := Scalar.extui v20
  let v22 : BitVec 32 := Scalar.subi v19 v21
  let c0_i32_7 : BitVec 32 := 0#32
  let v23 : BitVec 1 := Scalar.cmpi .sgt c2_i32 c0_i32_7
  let v24 : BitVec 32 := Scalar.extui v23
  let c0_i32_8 : BitVec 32 := 0#32
  let v25 : BitVec 1 := Scalar.cmpi .slt c2_i32 c0_i32_8
  let v26 : BitVec 32 := Scalar.extui v25
  let v27 : BitVec 32 := Scalar.subi v24 v26
  let v28 : BitVec 1 := Scalar.cmpi .ne v22 v27
  let v29 : BitVec 32 := Scalar.remsi v16 c2_i32
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let v34 : BitVec 32 := Scalar.divsi arg1 c1_i32_11
  let c0_i32_12 : BitVec 32 := 0#32
  let v35 : BitVec 1 := Scalar.cmpi .sgt arg1 c0_i32_12
  let v36 : BitVec 32 := Scalar.extui v35
  let c0_i32_13 : BitVec 32 := 0#32
  let v37 : BitVec 1 := Scalar.cmpi .slt arg1 c0_i32_13
  let v38 : BitVec 32 := Scalar.extui v37
  let v39 : BitVec 32 := Scalar.subi v36 v38
  let c0_i32_14 : BitVec 32 := 0#32
  let v40 : BitVec 1 := Scalar.cmpi .sgt c1_i32_11 c0_i32_14
  let v41 : BitVec 32 := Scalar.extui v40
  let c0_i32_15 : BitVec 32 := 0#32
  let v42 : BitVec 1 := Scalar.cmpi .slt c1_i32_11 c0_i32_15
  let v43 : BitVec 32 := Scalar.extui v42
  let v44 : BitVec 32 := Scalar.subi v41 v43
  let v45 : BitVec 1 := Scalar.cmpi .ne v39 v44
  let v46 : BitVec 32 := Scalar.remsi arg1 c1_i32_11
  let c0_i32_16 : BitVec 32 := 0#32
  let v47 : BitVec 1 := Scalar.cmpi .ne v46 c0_i32_16
  let v48 : BitVec 1 := Scalar.andi v45 v47
  let c1_i32_17 : BitVec 32 := 1#32
  let v49 : BitVec 32 := Scalar.subi v34 c1_i32_17
  let v50 : BitVec 32 := Scalar.select v48 v49 v34
  let c2_i32_18 : BitVec 32 := 2#32
  let c0_i32_19 : BitVec 32 := 0#32
  let v51 : BitVec 1 := Scalar.cmpi .eq c2_i32_18 c0_i32_19
  let c1_i32_20 : BitVec 32 := 1#32
  let v52 : BitVec 32 := Scalar.select v51 c1_i32_20 c2_i32_18
  let v53 : BitVec 32 := Scalar.remsi v50 v52
  let c0_i32_21 : BitVec 32 := 0#32
  let v54 : BitVec 1 := Scalar.cmpi .ne v53 c0_i32_21
  let c0_i32_22 : BitVec 32 := 0#32
  let v55 : BitVec 1 := Scalar.cmpi .slt v53 c0_i32_22
  let c0_i32_23 : BitVec 32 := 0#32
  let v56 : BitVec 1 := Scalar.cmpi .slt v52 c0_i32_23
  let v57 : BitVec 1 := Scalar.xori v55 v56
  let v58 : BitVec 1 := Scalar.andi v57 v54
  let v59 : BitVec 32 := Scalar.addi v53 v52
  let v60 : BitVec 32 := Scalar.select v58 v59 v53
  let c1_i32_24 : BitVec 32 := 1#32
  let v61 : BitVec 32 := Scalar.muli v60 c1_i32_24
  let c1_i32_25 : BitVec 32 := 1#32
  let c0_i32_26 : BitVec 32 := 0#32
  let v62 : BitVec 1 := Scalar.cmpi .eq c1_i32_25 c0_i32_26
  let c1_i32_27 : BitVec 32 := 1#32
  let v63 : BitVec 32 := Scalar.select v62 c1_i32_27 c1_i32_25
  let v64 : BitVec 32 := Scalar.remsi arg1 v63
  let c0_i32_28 : BitVec 32 := 0#32
  let v65 : BitVec 1 := Scalar.cmpi .ne v64 c0_i32_28
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let v69 : BitVec 1 := Scalar.andi v68 v65
  let v70 : BitVec 32 := Scalar.addi v64 v63
  let v71 : BitVec 32 := Scalar.select v69 v70 v64
  let v72 : BitVec 32 := Scalar.addi v61 v71
  let c0_i32_31 : BitVec 32 := 0#32
  let c0_i32_32 : BitVec 32 := 0#32
  ![v33.toNat, c0_i32_31.toNat, v72.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefPwWIdeal.lean ====
abbrev S4096x2048 : Shape := ⟨2, ![4096, 2048]⟩
abbrev S2x4096x2048 : Shape := ⟨3, ![2, 4096, 2048]⟩
abbrev S_ : Shape := ⟨0, ![]⟩
abbrev S2048x4096 : Shape := ⟨2, ![2048, 4096]⟩
abbrev S4096x4096 : Shape := ⟨2, ![4096, 4096]⟩
abbrev S1x4096x2048 : Shape := ⟨3, ![1, 4096, 2048]⟩
abbrev S2048x1024 : Shape := ⟨2, ![2048, 1024]⟩
abbrev S1x2048x1024 : Shape := ⟨3, ![1, 2048, 1024]⟩
abbrev S4x2048x1024 : Shape := ⟨3, ![4, 2048, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x2048, .bf16⟩
  | .hbm, ⟨2, _⟩ => ⟨S4096x2048, .f32⟩
  | .hbm, ⟨3, _⟩ => ⟨S2x4096x2048, .f32⟩
  | .hbm, ⟨4, _⟩ => ⟨S_, .f32⟩
  | .hbm, ⟨5, _⟩ => ⟨S2048x4096, .f32⟩
  | .hbm, ⟨6, _⟩ => ⟨S4096x4096, .f32⟩
  | .hbm, ⟨7, _⟩ => ⟨S4096x2048, .f32⟩
  | .hbm, ⟨8, _⟩ => ⟨S4096x2048, .f32⟩
  | .hbm, ⟨9, _⟩ => ⟨S1x4096x2048, .f32⟩
  | .hbm, ⟨10, _⟩ => ⟨S4096x2048, .f32⟩
  | .hbm, ⟨11, _⟩ => ⟨S1x4096x2048, .f32⟩
  | .hbm, ⟨12, _⟩ => ⟨S4096x2048, .f32⟩
  | .hbm, ⟨13, _⟩ => ⟨S4096x4096, .f32⟩
  | .hbm, ⟨14, _⟩ => ⟨S4096x2048, .f32⟩
  | .hbm, ⟨15, _⟩ => ⟨S2048x4096, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S1x2048x1024, .f32⟩
  | .hbm, ⟨21, _⟩ => ⟨S1x2048x1024, .f32⟩
  | .hbm, ⟨22, _⟩ => ⟨S1x2048x1024, .f32⟩
  | .hbm, ⟨23, _⟩ => ⟨S1x2048x1024, .f32⟩
  | .hbm, ⟨24, _⟩ => ⟨S4x2048x1024, .f32⟩
  | .hbm, ⟨25, _⟩ => ⟨S4x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOutIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutX.lean ====
abbrev S2048x2048 : Shape := ⟨2, ![2048, 2048]⟩
abbrev S4096x2048 : Shape := ⟨2, ![4096, 2048]⟩
abbrev S1024x2048 : Shape := ⟨2, ![1024, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S4096x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOutXIdeal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S2048x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutW.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOutWIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== In.lean ====
abbrev S4096x2048 : Shape := ⟨2, ![4096, 2048]⟩
abbrev S2048x4096 : Shape := ⟨2, ![2048, 4096]⟩
abbrev S2048x4x1024 : Shape := ⟨3, ![2048, 4, 1024]⟩
abbrev S4x2048x1024 : Shape := ⟨3, ![4, 2048, 1024]⟩
abbrev S4096x3072 : Shape := ⟨2, ![4096, 3072]⟩
abbrev S2048x2048 : Shape := ⟨2, ![2048, 2048]⟩
abbrev S1x2048x1024 : Shape := ⟨3, ![1, 2048, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S2048x4x1024, .bf16⟩
  | .hbm, ⟨3, _⟩ => ⟨S4x2048x1024, .bf16⟩
  | .hbm, ⟨4, _⟩ => ⟨S4096x3072, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S2048x1024, .bf16⟩
  | .local _ .vmem, ⟨5, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi c1_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let c0_i32_13 : BitVec 32 := 0#32
  ![v17.toNat, c0_i32_12.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefInIdeal.lean ====
abbrev S4096x2048 : Shape := ⟨2, ![4096, 2048]⟩
abbrev S2048x4096 : Shape := ⟨2, ![2048, 4096]⟩
abbrev S4096x4096 : Shape := ⟨2, ![4096, 4096]⟩
abbrev S4096x1024 : Shape := ⟨2, ![4096, 1024]⟩
abbrev S4096x3072 : Shape := ⟨2, ![4096, 3072]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x2048, .f32⟩
  | .hbm, ⟨3, _⟩ => ⟨S2048x4096, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x3072, .f32⟩
  | .hbm, ⟨10, _⟩ => ⟨S4096x3072, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== InX.lean ====
abbrev S2048x4096 : Shape := ⟨2, ![2048, 4096]⟩
abbrev S4096x1024 : Shape := ⟨2, ![4096, 1024]⟩
abbrev S2048x4x1024 : Shape := ⟨3, ![2048, 4, 1024]⟩
abbrev S4x2048x1024 : Shape := ⟨3, ![4, 2048, 1024]⟩
abbrev S4096x2048 : Shape := ⟨2, ![4096, 2048]⟩
abbrev S1024x1024 : Shape := ⟨2, ![1024, 1024]⟩
abbrev S1x1024x1024 : Shape := ⟨3, ![1, 1024, 1024]⟩

abbrev nBuf : Space → Nat
  | .hbm => 8
  | .vmem => 13
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S2048x4x1024, .bf16⟩
  | .hbm, ⟨6, _⟩ => ⟨S4x2048x1024, .bf16⟩
  | .hbm, ⟨7, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 4], ![false, false, false]⟩

def k0_cond5 (i : grid0.Coords) : BitVec 1 :=
  let arg2 : BitVec 32 := BitVec.ofNat 32 (i 2).val
  let c3_i32_4 : BitVec 32 := 3#32
  let v12 : BitVec 1 := Scalar.cmpi .eq arg2 c3_i32_4
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== RefInXIdeal.lean ====
abbrev S2048x4096 : Shape := ⟨2, ![2048, 4096]⟩
abbrev S4096x1024 : Shape := ⟨2, ![4096, 1024]⟩
abbrev S_ : Shape := ⟨0, ![]⟩
abbrev S4096x2048 : Shape := ⟨2, ![4096, 2048]⟩
abbrev S4096x4096 : Shape := ⟨2, ![4096, 4096]⟩

abbrev nBuf : Space → Nat
  | .hbm => 18
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S2048x4096, .f32⟩
  | .hbm, ⟨6, _⟩ => ⟨S_, .f32⟩
  | .hbm, ⟨7, _⟩ => ⟨S4096x2048, .f32⟩
  | .hbm, ⟨8, _⟩ => ⟨S4096x4096, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x4096, .f32⟩
  | .hbm, ⟨16, _⟩ => ⟨S4096x2048, .f32⟩
  | .hbm, ⟨17, _⟩ => ⟨S4096x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== InW.lean ====
abbrev S256x2048 : Shape := ⟨2, ![256, 2048]⟩
abbrev S4096x2048 : Shape := ⟨2, ![4096, 2048]⟩
abbrev S256x1024 : Shape := ⟨2, ![256, 1024]⟩
abbrev S4096x1024 : Shape := ⟨2, ![4096, 1024]⟩
abbrev S4352x2048 : Shape := ⟨2, ![4352, 2048]⟩
abbrev S4352x1024 : Shape := ⟨2, ![4352, 1024]⟩
abbrev S2048x1024 : Shape := ⟨2, ![2048, 1024]⟩
abbrev S4352x512 : Shape := ⟨2, ![4352, 512]⟩
abbrev S512x1024 : Shape := ⟨2, ![512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S4096x2048, .bf16⟩
  | .hbm, ⟨2, _⟩ => ⟨S256x1024, .bf16⟩
  | .hbm, ⟨3, _⟩ => ⟨S4096x1024, .bf16⟩
  | .hbm, ⟨4, _⟩ => ⟨S4352x2048, .bf16⟩
  | .hbm, ⟨5, _⟩ => ⟨S4352x1024, .bf16⟩
  | .hbm, ⟨6, _⟩ => ⟨S2048x1024, .bf16⟩
  | .local _ .vmem, ⟨0, _⟩ => ⟨S4352x512, .bf16⟩
  | .local _ .vmem, ⟨1, _⟩ => ⟨S4352x512, .bf16⟩
  | .local _ .vmem, ⟨2, _⟩ => ⟨S4352x1024, .bf16⟩
  | .local _ .vmem, ⟨3, _⟩ => ⟨S512x1024, .bf16⟩
  | .local _ .vmem, ⟨4, _⟩ => ⟨S512x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefInWIdeal.lean ====
abbrev S256x2048 : Shape := ⟨2, ![256, 2048]⟩
abbrev S4096x2048 : Shape := ⟨2, ![4096, 2048]⟩
abbrev S256x1024 : Shape := ⟨2, ![256, 1024]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 18
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S4096x2048, .bf16⟩
  | .hbm, ⟨2, _⟩ => ⟨S256x1024, .bf16⟩
  | .hbm, ⟨3, _⟩ => ⟨S4096x1024, .bf16⟩
  | .hbm, ⟨4, _⟩ => ⟨S256x2048, .f32⟩
  | .hbm, ⟨5, _⟩ => ⟨S4096x2048, .f32⟩
  | .hbm, ⟨6, _⟩ => ⟨S_, .f32⟩
  | .hbm, ⟨7, _⟩ => ⟨S2048x1024, .f32⟩
  | .hbm, ⟨8, _⟩ => ⟨S256x1024, .f32⟩
  | .hbm, ⟨9, _⟩ => ⟨S4096x1024, .f32⟩
  | .hbm, ⟨10, _⟩ => ⟨S256x1024, .f32⟩
  | .hbm, ⟨11, _⟩ => ⟨S4096x1024, .f32⟩
  | .hbm, ⟨12, _⟩ => ⟨S1024x2048, .f32⟩
  | .hbm, ⟨13, _⟩ => ⟨S2048x1024, .f32⟩
  | .hbm, ⟨14, _⟩ => ⟨S1024x2048, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Norm.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S1x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32_15 : BitVec 32 := 0#32
  let v34 : BitVec 1 := Scalar.cmpi .sgt arg0 c0_i32_15
  let v35 : BitVec 32 := Scalar.extui v34
  let c0_i32_16 : BitVec 32 := 0#32
  let v36 : BitVec 1 := Scalar.cmpi .ne v35 c0_i32_16
  v36

def k0_cond3 (i : grid0.Coords) : BitVec 1 :=
  let arg0 : BitVec 32 := BitVec.ofNat 32 (i 0).val
  let c0_i32_18 : BitVec 32 := 0#32
  let v40 : BitVec 1 := Scalar.cmpi .eq arg0 c0_i32_18
  let v41 : BitVec 32 := Scalar.extui v40
  let c0_i32_19 : BitVec 32 := 0#32
  let v42 : BitVec 1 := Scalar.cmpi .ne v41 c0_i32_19
  v42

def k0_cond4 (i : grid0.Coords) : BitVec 1 :=
  let arg0 : BitVec 32 := BitVec.ofNat 32 (i 0).val
  let c0_i32_20 : BitVec 32 := 0#32
  let v43 : BitVec 1 := Scalar.cmpi .sgt arg0 c0_i32_20
  let v44 : BitVec 32 := Scalar.extui v43
  let c0_i32_21 : BitVec 32 := 0#32
  let v45 : BitVec 1 := Scalar.cmpi .ne v44 c0_i32_21
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RefNormIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 56
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S1x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S_, .f32⟩
  | .hbm, ⟨36, _⟩ => ⟨S2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x2048, .f32⟩
  | .hbm, ⟨54, _⟩ => ⟨S4096x2048, .f32⟩
  | .hbm, ⟨55, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Gate.lean ====
abbrev S4096x2048 : Shape := ⟨2, ![4096, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S4096x2048, .bf16⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_7 : BitVec 32 := 0#32
  let v13 : BitVec 1 := Scalar.cmpi .ne v12 c0_i32_7
  v13

def k0_cond2 (i : grid0.Coords) : BitVec 1 :=
  let arg0 : BitVec 32 := BitVec.ofNat 32 (i 0).val
  let c0_i32_8 : BitVec 32 := 0#32
  let v14 : BitVec 1 := Scalar.cmpi .sgt arg0 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RefGateIdeal.lean ====
abbrev S4096x2048 : Shape := ⟨2, ![4096, 2048]⟩
abbrev S1x2048 : Shape := ⟨2, ![1, 2048]⟩
abbrev S_ : Shape := ⟨0, ![]⟩
abbrev S2048 : Shape := ⟨1, ![2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S2048, .f32⟩
  | .hbm, ⟨11, _⟩ => ⟨S1x2048, .f32⟩
  | .hbm, ⟨12, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Up.lean ====
/- The up projection of the feed-forward: what the tiled product leaves, of the weight cut into four column
   pieces, is the whole product, its columns in two halves. -/
module

public import proofs.«01_k».proof.Defs
public import proofs.«01_k».proof.Proof.Gen.Up
public import proofs.«01_k».proof.Proof.Gen.UpIdeal.Value
public import proofs.«01_k».proof.Proof.Gen.RefUpIdeal.Run
public import Idealize.ShloMosaic.Lib.Pointwise
public import Idealize.ShloMosaic.Lib.Pipeline.ValueKit
public import Idealize.ShloMosaic.Adequacy
public import Idealize.ShloMosaic.Init
public import Idealize.ShloMosaic.Lib.Tactic

@[expose] public section

set_option maxRecDepth 16384

noncomputable section

namespace Cert.UpIdeal.Prod

open Idealize.ShloMosaic Idealize.ShloMosaic.TcCoe Idealize.SL.Sem Cert.UpIdeal.Gen

theorem eq_ix3 {a b d : ℕ} (y : (⟨3, ![a, b, d]⟩ : Shape).Idx) : y = ix3 (y 0) (y 1) (y 2) := by
  funext k; fin_cases k <;> rfl

theorem hz : (![0, 0] : Fin 2 → ℕ) = fun _ => 0 := by funext k; fin_cases k <;> rfl
theorem hz3 : (![0, 0, 0] : Fin 3 → ℕ) = fun _ => 0 := by funext k; fin_cases k <;> rfl

/-- The product: rows of the input by columns of the weight, the columns in two halves. -/
def out (A : Vec Ideal S4096x2048 .bf16) (B : Vec Ideal S2048x11264 .bf16) : Vec Ideal S2x4096x5632 .bf16 :=
  fun i => ∑ k : Fin 2048, (A (ix2 (i 1) k) : EReal) * (B (ix2 k ⟨5632 * (i 0).val + (i 2).val, by
    have h0 : (i 0).val < 2 := (i 0).isLt
    have h2 : (i 2).val < 5632 := (i 2).isLt
    omega⟩) : EReal)

/-- One block of the product. -/
theorem tile_at (x : Vec Ideal S1024x2048 .bf16) (y : Vec Ideal S1x2048x1408 .bf16) (p : Fin 1024) (e : Fin 1408) :
    k0_pay1 x y (ix3 (0 : Fin 1) p e) = ∑ k : Fin 2048, (x (ix2 p k) : EReal) * (y (ix3 (0 : Fin 1) k e) : EReal) := by
  pointwise [k0_pay1]

theorem index_0 : ∀ t : Fin cfg0.N, win0_0.index t = ![t.val / 8, 0] := (by decide +kernel : ∀ t : Fin grid0.N, _)
theorem index_1 : ∀ t : Fin cfg0.N, win0_1.index t = ![t.val % 8 / 2, 0, t.val % 2] := (by decide +kernel : ∀ t : Fin grid0.N, _)
theorem index_2 : ∀ t : Fin cfg0.N, win0_2.index t = ![t.val % 8 / 4, t.val / 8, t.val % 4] := (by decide +kernel : ∀ t : Fin grid0.N, _)
theorem lt_N (t : Fin cfg0.N) : t.val < 32 := lt_of_lt_of_eq t.isLt (show cfg0.N = 32 from N_0)

/-- The pieces of the weight, at coordinates. -/
theorem pieces_at (w : Vec Ideal S2048x11264 .bf16) (s : Fin 4) (k : Fin 2048) (e : Fin 2816) :
    (transpose S4x2048x2816 [1, 0, 2] (shapeCast S2048x4x2816 w shapeCasts_S2048x11264_S2048x4x2816) transposes_S2048x4x2816_S4x2048x2816_1_0_2) (ix3 s k e)
      = w (ix2 k ⟨2816 * s.val + e.val, by omega⟩) := by
  pointwise
  refine congrArg w (congrArg (ix2 k) (Fin.ext ?_))
  show s.val * 2816 + e.val = 2816 * s.val + e.val
  omega

variable (m : (ℓ : Loc nD τ sig) → Buf (Elt Ideal) ℓ) (c : Dev nD)

theorem V_pieces : V m c main_v1 = transpose S4x2048x2816 [1, 0, 2] (shapeCast S2048x4x2816 (m ((c : Thread nD τ).loc main_arg1)) shapeCasts_S2048x11264_S2048x4x2816) transposes_S2048x4x2816_S4x2048x2816_1_0_2 := by
  unfold V
  after_results
  rfl

theorem iblk0_at (t : Fin cfg0.N) (p : Fin 1024) (k : Fin 2048) :
    iblk m c 0 t (ix2 p k) = m ((c : Thread nD τ).loc main_arg0) (ix2 ⟨1024 * (t.val / 8) + p.val, by have := lt_N t; omega⟩ k) := by
  rw [← V_main_arg0 m c]
  blk_simp [iblk]
  refine congrArg (V m c main_arg0) ?_
  blk_ext [index_0]

theorem iblk1_at (t : Fin cfg0.N) (k : Fin 2048) (e : Fin 1408) :
    iblk m c 1 t (ix3 (0 : Fin 1) k e) = m ((c : Thread nD τ).loc main_arg1) (ix2 k ⟨1408 * (t.val % 8) + e.val, by have := lt_N t; omega⟩) := by
  have h : iblk m c 1 t (ix3 (0 : Fin 1) k e) = V m c main_v1 (ix3 (⟨t.val % 8 / 2, by omega⟩ : Fin 4) k (⟨1408 * (t.val % 2) + e.val, by omega⟩ : Fin 2816)) := by
    blk_simp [iblk]
    refine congrArg (V m c main_v1) ?_
    blk_ext [index_1]
  rw [h, V_pieces, pieces_at]
  refine congrArg (m ((c : Thread nD τ).loc main_arg1)) (congrArg (ix2 k) (Fin.ext ?_))
  show 2816 * (t.val % 8 / 2) + (1408 * (t.val % 2) + e.val) = 1408 * (t.val % 8) + e.val
  omega

theorem out_eq (x : Vec Ideal S1024x2048 .bf16) (y : Vec Ideal S1x2048x1408 .bf16) : out0_2 x y = k0_pay1 x y := by
  unfold out0_2
  rw [View.canon_unit_zero (hz3), View.ld_unit_zero (hz), View.ld_unit_zero (hz3)]

/-- The array that the call leaves. -/
theorem arr : (dats m 0 c).arrAt 2 cfg0.N = out (m ((c : Thread nD τ).loc main_arg0)) (m ((c : Thread nD τ).loc main_arg1)) := by
  refine (dats m 0 c).arrAt_eq_of_covers 2 _ (by decide +kernel) fun t hf y => ?_
  obtain ⟨z, p, e, rfl⟩ : ∃ (z : Fin 1) (p : Fin 1024) (e : Fin 1408), y = ix3 z p e := ⟨y 0, y 1, y 2, eq_ix3 y⟩
  obtain rfl : z = 0 := Subsingleton.elim _ _
  blk_simp [index_2]
  rw [after0_2, out_eq]
  refine (tile_at _ _ _ _).trans (Finset.sum_congr rfl fun k _ => ?_)
  rw [iblk0_at, iblk1_at]
  refine congrArg₂ (fun x y : EReal => x * y) (congrArg (m ((c : Thread nD τ).loc main_arg0)) ?_) (congrArg (m ((c : Thread nD τ).loc main_arg1)) ?_)
  · blk_ext [index_2]
  · blk_ext [index_2]

end Cert.UpIdeal.Prod

namespace Cert.Proof

open Idealize.ShloMosaic Idealize.ShloMosaic.TcCoe Idealize.SL.Sem

theorem up_algebraic : Cert.algebraic_UpIdeal_RefUpIdeal := by
  intro m g m' g' _ hargs
  refine ⟨fun c => Cert.UpIdeal.Prod.out (m ((c.tc : Thread _ _).loc Cert.UpIdeal.main_arg0)) (m ((c.tc : Thread _ _).loc Cert.UpIdeal.main_arg1)), ?_, ?_⟩
  · exact (θ_run Cert.UpIdeal.defs _ _).mono (fun r h c => ⟨(h c).1.trans (Cert.UpIdeal.Prod.arr m c), (h c).2⟩) (Cert.UpIdeal.Value.run_blocks (F := Ideal) m g)
  · refine (θ_run Cert.RefUpIdeal.defs _ _).mono (fun r h c => ⟨(h c).1.trans ?_, (h c).2⟩) (Cert.RefUpIdeal.Value.run (F := Ideal) m' g')
    rw [(hargs c).1, (hargs c).2]
    funext i
    obtain ⟨s, p, e, rfl⟩ : ∃ (s : Fin 2) (p : Fin 4096) (e : Fin 5632), i = ix3 s p e := ⟨i 0, i 1, i 2, Cert.UpIdeal.Prod.eq_ix3 i⟩
    unfold Cert.UpIdeal.Prod.out
    fin_cases s
    · pointwise
      done
    · pointwise
      done

/-- The frame at words, of the second program's text. -/
def upWords : Prop :=
  ∀ (m : (ℓ : Loc Cert.UpIdeal.nD Cert.UpIdeal.τ Cert.UpIdeal.sig) → Buf (Elt Bits) ℓ) (g : Dev Cert.UpIdeal.nD → PrngReg), True →
    θ_run (Cert.UpIdeal.defs (F := Bits)) (onTc (τ := Cert.UpIdeal.τ) (Cert.UpIdeal.main (F := Bits))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

set_option maxHeartbeats 4000000 in
theorem up_text : upWords = Cert.quiescent_Up := by sl_kernel_rfl

theorem frame_up : Cert.quiescent_Up := up_text.mp fun m ρ _ => Cert.UpIdeal.Gen.frame (F := Bits) m ρ

theorem frame_up_ideal : Cert.quiescent_UpIdeal := fun m ρ _ => Cert.UpIdeal.Gen.frame (F := Ideal) m ρ

theorem frame_up_reference : Cert.quiescent_RefUpIdeal := fun m ρ _ =>
  (θ_run Cert.RefUpIdeal.defs _ _).mono (fun r h => ⟨fun c => (h c).2, Idealize.ShloMosaic.sem_eq_zero_of_no_sems (by decide) r.2⟩)
    (Cert.RefUpIdeal.Value.run (F := Ideal) m ρ)

end Cert.Proof

end

end
-- ==== Proof.UpX.lean ====
/- The up projection's gradient to its input: what the product accumulated over the four column pieces of the weight
   leaves is the whole product over all the columns. -/
module

public import proofs.«01_k».proof.Defs
public import proofs.«01_k».proof.Proof.Gen.UpX
public import proofs.«01_k».proof.Proof.Gen.UpXIdeal.Value
public import proofs.«01_k».proof.Proof.Gen.RefUpXIdeal.Run
public import Idealize.ShloMosaic.Lib.Pointwise
public import Idealize.ShloMosaic.Lib.Pipeline.ValueKit
public import Idealize.ShloMosaic.Adequacy
public import Idealize.ShloMosaic.Init
public import Idealize.ShloMosaic.Lib.Tactic

@[expose] public section

set_option maxRecDepth 16384

noncomputable section

namespace Cert.UpXIdeal.Prod

open Idealize.ShloMosaic Idealize.ShloMosaic.TcCoe Idealize.SL.Sem Cert.UpXIdeal.Gen

theorem eq_ix2 {a b : ℕ} (y : (⟨2, ![a, b]⟩ : Shape).Idx) : y = ix2 (y 0) (y 1) := by
  funext k; fin_cases k <;> rfl

theorem hz : (![0, 0] : Fin 2 → ℕ) = fun _ => 0 := by funext k; fin_cases k <;> rfl
theorem hz3 : (![0, 0, 0] : Fin 3 → ℕ) = fun _ => 0 := by funext k; fin_cases k <;> rfl

/-! ## What a point leaves -/

section
variable {F : FTy → Type} [FloatOps F]

/-- The first piece's point leaves its product in the accumulator. -/
theorem first_eq (c : Dev nD) (i : grid0.Coords) (arg3 : Memref sig .tc .vmem S1x1024x2816 .bf16) (harg3 : arg3.IsWhole) (arg4 : Memref sig .tc .vmem S1x1024x2816 .bf16) (harg4 : arg4.IsWhole) (arg5 : Memref sig .tc .vmem S1024x1024 .bf16) (harg5 : arg5.IsWhole)
    (arg6 : Memref sig .tc .vmem S1024x1024 .f32) (harg6 : arg6.IsWhole) (hc0 : cond0_0 i) (hc1 : ¬cond0_1 i) (hc2 : ¬cond0_2 i)
    (x0 : Vec F S1x1024x2816 .bf16) (x1 : Vec F S1x1024x2816 .bf16) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero (S := S1024x1024) hz]
  simp only [View.readAt_eq_ld, harg3.read_unread, harg4.read_unread, View.ld_unit_zero (S := S1x1024x2816) hz3]

/-- A later piece's point adds its product to the accumulator. -/
theorem next_eq (c : Dev nD) (i : grid0.Coords) (arg3 : Memref sig .tc .vmem S1x1024x2816 .bf16) (harg3 : arg3.IsWhole) (arg4 : Memref sig .tc .vmem S1x1024x2816 .bf16) (harg4 : arg4.IsWhole) (arg5 : Memref sig .tc .vmem S1024x1024 .bf16) (harg5 : arg5.IsWhole)
    (arg6 : Memref sig .tc .vmem S1024x1024 .f32) (harg6 : arg6.IsWhole) (hc0 : ¬cond0_0 i) (hc1 : cond0_1 i) (hc2 : ¬cond0_2 i)
    (x0 : Vec F S1x1024x2816 .bf16) (x1 : Vec F S1x1024x2816 .bf16) (xs : Vec F S1024x1024 .f32) :
    sout0_B_0 c i arg3 harg3 arg4 harg4 arg5 harg5 arg6 harg6 hc0 hc1 hc2 x0 x1 xs = k0_pay3 x0 x1 xs := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_unit_zero (S := S1024x1024) hz]
  simp only [View.readAt_eq_ld, harg3.read_unread, harg4.read_unread, harg6.read_unread, View.ld_unit_zero (S := S1x1024x2816) hz3, View.ld_unit_zero (S := S1024x1024) hz]

/-- The last piece's point rounds the accumulator, its own product added, into the result's block. -/
theorem last_eq (c : Dev nD) (i : grid0.Coords) (arg3 : Memref sig .tc .vmem S1x1024x2816 .bf16) (harg3 : arg3.IsWhole) (arg4 : Memref sig .tc .vmem S1x1024x2816 .bf16) (harg4 : arg4.IsWhole) (arg5 : Memref sig .tc .vmem S1024x1024 .bf16) (harg5 : arg5.IsWhole)
    (arg6 : Memref sig .tc .vmem S1024x1024 .f32) (harg6 : arg6.IsWhole) (hc0 : ¬cond0_0 i) (hc1 : cond0_1 i) (hc2 : cond0_2 i)
    (x0 : Vec F S1x1024x2816 .bf16) (x1 : Vec F S1x1024x2816 .bf16) (xs : Vec F S1024x1024 .f32) :
    out0_C_2 c i arg3 harg3 arg4 harg4 arg5 harg5 arg6 harg6 hc0 hc1 hc2 x0 x1 xs = k0_pay4 (k0_pay3 x0 x1 xs) := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_unit_zero (S := S1024x1024) hz]
  rw [View.readCov_unit_zero (S := S1024x1024) _ hz]
  simp only [View.readAt_eq_ld, harg3.read_unread, harg4.read_unread, harg6.read_unread, View.ld_unit_zero (S := S1x1024x2816) hz3, View.ld_unit_zero (S := S1024x1024) hz]

end

/-! ## The product -/

/-- The gradient's half and column that the weight's piece `s` has at its column `k`. -/
def half (s : Fin 4) : Fin 2 := ⟨s.val / 2, by omega⟩
def col (s : Fin 4) (k : Fin 2816) : Fin 5632 := ⟨2816 * (s.val % 2) + k.val, by omega⟩
/-- That column of the weight. -/
def wcol (s : Fin 4) (k : Fin 2816) : Fin 11264 := ⟨2816 * s.val + k.val, by omega⟩

/-- One piece of the product. -/
def piece (W : Vec Ideal S2048x11264 .bf16) (G : Vec Ideal S2x4096x5632 .bf16) (r : Fin 4096) (n : Fin 2048) (s : Fin 4) : EReal :=
  ∑ k : Fin 2816, (G (ix3 (half s) r (col s k)) : EReal) * (W (ix2 n (wcol s k)) : EReal)

/-- The product: rows of the gradient by rows of the weight, over the weight's four column pieces. -/
def out (W : Vec Ideal S2048x11264 .bf16) (G : Vec Ideal S2x4096x5632 .bf16) : Vec Ideal S4096x2048 .bf16 :=
  fun i => ∑ s : Fin 4, piece W G (i 0) (i 1) s

theorem pay1_at (x y : Vec Ideal S1x1024x2816 .bf16) (p e : Fin 1024) :
    k0_pay1 x y (ix2 p e) = ∑ k : Fin 2816, (x (ix3 (0 : Fin 1) p k) : EReal) * (y (ix3 (0 : Fin 1) e k) : EReal) := by
  pointwise [k0_pay1]

theorem pay2_at (x y : Vec Ideal S1x1024x2816 .bf16) (i : S1024x1024.Idx) : k0_pay2 x y i = k0_pay1 x y i := by
  unfold k0_pay2
  exact congrFun (shapeCast_self _ _) i

theorem pay3_at (x y : Vec Ideal S1x1024x2816 .bf16) (a : Vec Ideal S1024x1024 .f32) (i : S1024x1024.Idx) :
    (k0_pay3 x y a i : EReal) = (a i : EReal) + (k0_pay1 x y i : EReal) := by
  unfold k0_pay3
  exact congrFun (shapeCast_self _ _) i

theorem index_0 : ∀ t : Fin cfg0.N, win0_0.index t = ![t.val % 4 / 2, t.val / 8, t.val % 2] := (by decide +kernel : ∀ t : Fin grid0.N, _)
theorem index_1 : ∀ t : Fin cfg0.N, win0_1.index t = ![t.val % 4, t.val / 4 % 2, 0] := (by decide +kernel : ∀ t : Fin grid0.N, _)
theorem index_2 : ∀ t : Fin cfg0.N, win0_2.index t = ![t.val / 8, t.val / 4 % 2] := (by decide +kernel : ∀ t : Fin grid0.N, _)
theorem lt_N (t : Fin cfg0.N) : t.val < 32 := lt_of_lt_of_eq t.isLt (show cfg0.N = 32 from N_0)

/-- The pieces of the weight, at coordinates. -/
theorem pieces_at (w : Vec Ideal S2048x11264 .bf16) (s : Fin 4) (n : Fin 2048) (k : Fin 2816) :
    (transpose S4x2048x2816 [1, 0, 2] (shapeCast S2048x4x2816 w shapeCasts_S2048x11264_S2048x4x2816) transposes_S2048x4x2816_S4x2048x2816_1_0_2) (ix3 s n k)
      = w (ix2 n (wcol s k)) := by
  pointwise
  refine congrArg w (congrArg (ix2 n) (Fin.ext ?_))
  show s.val * 2816 + k.val = 2816 * s.val + k.val
  omega

variable (m : (ℓ : Loc nD τ sig) → Buf (Elt Ideal) ℓ) (c : Dev nD)

theorem V_pieces : V m c main_v1 = transpose S4x2048x2816 [1, 0, 2] (shapeCast S2048x4x2816 (m ((c : Thread nD τ).loc main_arg0)) shapeCasts_S2048x11264_S2048x4x2816) transposes_S2048x4x2816_S4x2048x2816_1_0_2 := by
  unfold V
  after_results
  rfl

/-- The row of the array at row `p` of point `t`'s block, and the column at column `e`. -/
def row (t : Fin cfg0.N) (p : Fin 1024) : Fin 4096 := ⟨1024 * (t.val / 8) + p.val, by have := lt_N t; omega⟩
def clm (t : Fin cfg0.N) (e : Fin 1024) : Fin 2048 := ⟨1024 * (t.val / 4 % 2) + e.val, by have := lt_N t; omega⟩
/-- The piece that point `t` multiplies. -/
def pc (t : Fin cfg0.N) : Fin 4 := ⟨t.val % 4, by omega⟩

theorem iblk0_at (t : Fin cfg0.N) (p : Fin 1024) (k : Fin 2816) :
    iblk m c 0 t (ix3 (0 : Fin 1) p k) = m ((c : Thread nD τ).loc main_arg1) (ix3 (half (pc t)) (row t p) (col (pc t) k)) := by
  rw [← V_main_arg1 m c]
  blk_simp [iblk]
  refine congrArg (V m c main_arg1) ?_
  blk_ext [index_0, half, row, col, pc]

theorem iblk1_at (t : Fin cfg0.N) (e : Fin 1024) (k : Fin 2816) :
    iblk m c 1 t (ix3 (0 : Fin 1) e k) = m ((c : Thread nD τ).loc main_arg0) (ix2 (clm t e) (wcol (pc t) k)) := by
  have h : iblk m c 1 t (ix3 (0 : Fin 1) e k) = V m c main_v1 (ix3 (pc t) (clm t e) k) := by
    blk_simp [iblk]
    refine congrArg (V m c main_v1) ?_
    blk_ext [index_1, clm, pc]
  rw [h, V_pieces, pieces_at]

/-- What a point adds. -/
theorem part_at (t : Fin cfg0.N) (p e : Fin 1024) :
    (k0_pay1 (iblk m c 0 t) (iblk m c 1 t) (ix2 p e) : EReal)
      = piece (m ((c : Thread nD τ).loc main_arg0)) (m ((c : Thread nD τ).loc main_arg1)) (row t p) (clm t e) (pc t) := by
  refine (pay1_at _ _ _ _).trans (Finset.sum_congr rfl fun k _ => ?_)
  rw [iblk0_at, iblk1_at]

theorem first_at (t : Fin cfg0.N) (h : t.val % 4 = 0) (i : S1024x1024.Idx) :
    ((outsAt0 m c t.val t.isLt).2 i : EReal) = k0_pay1 (iblk m c 0 t) (iblk m c 1 t) i := by
  refine (congrFun (congrArg Prod.snd (outsAt0_A m c t h (by omega) (by omega))) i).trans ?_
  dsimp only
  rw [first_eq, pay2_at]

theorem next_at (t : Fin cfg0.N) (h : 1 ≤ t.val % 4) (h' : ¬t.val % 4 = 3) (i : S1024x1024.Idx) :
    ((outsAt0 m c t.val t.isLt).2 i : EReal)
      = ((outsAt0 m c (t.val - 1) (Nat.lt_of_le_of_lt (Nat.sub_le _ _) t.isLt)).2 i : EReal) + (k0_pay1 (iblk m c 0 t) (iblk m c 1 t) i : EReal) := by
  refine (congrFun (congrArg Prod.snd (outsAt0_B m c t (by omega) h h')) i).trans ?_
  dsimp only
  rw [next_eq, pay3_at]

theorem last_at (t : Fin cfg0.N) (h : t.val % 4 = 3) (i : S1024x1024.Idx) :
    ((outsAt0 m c t.val t.isLt).1 i : EReal)
      = ((outsAt0 m c (t.val - 1) (Nat.lt_of_le_of_lt (Nat.sub_le _ _) t.isLt)).2 i : EReal) + (k0_pay1 (iblk m c 0 t) (iblk m c 1 t) i : EReal) := by
  refine (congrFun (congrArg Prod.fst (outsAt0_C m c t (by omega) (by omega) h)) i).trans ?_
  dsimp only
  rw [last_eq]
  exact pay3_at _ _ _ _

/-- The four points of a block, one after another. -/
theorem block_at (q : ℕ) (hq : 4 * q + 3 < cfg0.N) (i : S1024x1024.Idx) :
    ((outsAt0 m c (4 * q + 3) hq).1 i : EReal)
      = ∑ s : Fin 4, (k0_pay1 (iblk m c 0 ⟨4 * q + s.val, by omega⟩) (iblk m c 1 ⟨4 * q + s.val, by omega⟩) i : EReal) := by
  have h0 := first_at m c ⟨4 * q, by omega⟩ (by show 4 * q % 4 = 0; omega) i
  have h1 := next_at m c ⟨4 * q + 1, by omega⟩ (by show 1 ≤ (4 * q + 1) % 4; omega) (by show ¬(4 * q + 1) % 4 = 3; omega) i
  have h2 := next_at m c ⟨4 * q + 2, by omega⟩ (by show 1 ≤ (4 * q + 2) % 4; omega) (by show ¬(4 * q + 2) % 4 = 3; omega) i
  have h3 := last_at m c ⟨4 * q + 3, hq⟩ (by show (4 * q + 3) % 4 = 3; omega) i
  rw [Fin.sum_univ_four]
  exact h3.trans (congrArg (· + _) (h2.trans (congrArg (· + _) (h1.trans (congrArg (· + _) h0)))))

/-- The array that the call leaves. -/
theorem arr : (dats m 0 c).arrAt 2 cfg0.N = out (m ((c : Thread nD τ).loc main_arg0)) (m ((c : Thread nD τ).loc main_arg1)) := by
  refine (dats m 0 c).arrAt_eq_of_covers 2 _ (by decide +kernel) fun t hf y => ?_
  obtain ⟨p, e, rfl⟩ : ∃ (p e : Fin 1024), y = ix2 p e := ⟨y 0, y 1, eq_ix2 y⟩
  have h3 : t.val % 4 = 3 := (flush0_2 t).mp hf
  have hN := lt_N t
  obtain ⟨q, ht⟩ : ∃ q, t.val = 4 * q + 3 := ⟨t.val / 4, by omega⟩
  have hq : 4 * q + 3 < cfg0.N := ht ▸ t.isLt
  obtain rfl : t = ⟨4 * q + 3, hq⟩ := Fin.ext ht
  have hy : ((cfg0.win 2).blk ⟨4 * q + 3, hq⟩).view.emb (ix2 p e) = ix2 (row ⟨4 * q + 3, hq⟩ p) (clm ⟨4 * q + 3, hq⟩ e) := by
    blk_ext [index_2, row, clm]
  blk_simp [index_2]
  rw [after0_2]
  refine (block_at m c q hq _).trans (Finset.sum_congr rfl fun s _ => (part_at m c _ p e).trans ?_)
  have e0 : pc ⟨4 * q + s.val, by omega⟩ = s := Fin.ext (by show (4 * q + s.val) % 4 = s.val; omega)
  rw [e0]
  refine congrArg₂ (fun a b => piece (m ((c : Thread nD τ).loc main_arg0)) (m ((c : Thread nD τ).loc main_arg1)) a b s) ?_ ?_
  · refine Eq.trans (Fin.ext ?_) (congrFun hy 0).symm
    show 1024 * ((4 * q + s.val) / 8) + p.val = 1024 * ((4 * q + 3) / 8) + p.val
    omega
  · refine Eq.trans (Fin.ext ?_) (congrFun hy 1).symm
    show 1024 * ((4 * q + s.val) / 4 % 2) + e.val = 1024 * ((4 * q + 3) / 4 % 2) + e.val
    omega

end Cert.UpXIdeal.Prod

namespace Cert.Proof

open Idealize.ShloMosaic Idealize.ShloMosaic.TcCoe Idealize.SL.Sem

/-- A sum over half the columns, by its two pieces. -/
theorem sum_half (f : Fin 5632 → EReal) :
    ∑ x, f x = ∑ k : Fin 2816, f ⟨k.val, by omega⟩ + ∑ k : Fin 2816, f ⟨2816 + k.val, by omega⟩ :=
  Fin.sum_univ_add (a := 2816) (b := 2816) f

theorem up_x_algebraic : Cert.algebraic_UpXIdeal_RefUpXIdeal := by
  intro m g m' g' _ hargs
  refine ⟨fun c => Cert.UpXIdeal.Prod.out (m ((c.tc : Thread _ _).loc Cert.UpXIdeal.main_arg0)) (m ((c.tc : Thread _ _).loc Cert.UpXIdeal.main_arg1)), ?_, ?_⟩
  · exact (θ_run Cert.UpXIdeal.defs _ _).mono (fun r h c => ⟨(h c).1.trans (Cert.UpXIdeal.Prod.arr m c), (h c).2⟩) (Cert.UpXIdeal.Value.run_blocks (F := Ideal) m g)
  · refine (θ_run Cert.RefUpXIdeal.defs _ _).mono (fun r h c => ⟨(h c).1.trans ?_, (h c).2⟩) (Cert.RefUpXIdeal.Value.run (F := Ideal) m' g')
    rw [(hargs c).1, (hargs c).2]
    funext i
    obtain ⟨p, e, rfl⟩ : ∃ (p : Fin 4096) (e : Fin 2048), i = ix2 p e := ⟨i 0, i 1, Cert.UpXIdeal.Prod.eq_ix2 i⟩
    unfold Cert.UpXIdeal.Prod.out
    pointwise
    rw [Fin.sum_univ_four, sum_half, sum_half, ← add_assoc]
    unfold Cert.UpXIdeal.Prod.piece
    refine congrArg₂ (fun x y : EReal => x + y) (congrArg₂ (fun x y : EReal => x + y) (congrArg₂ (fun x y : EReal => x + y) ?_ ?_) ?_) ?_
    all_goals
      refine Finset.sum_congr rfl fun k _ => congrArg₂ (fun x y : EReal => x * y)
        (congrArg (m ((c.tc : Thread _ _).loc Cert.UpXIdeal.main_arg1)) (congrArg₂ (fun a b => ix3 a p b) (by decide) (Fin.ext ?_)))
        (congrArg (m ((c.tc : Thread _ _).loc Cert.UpXIdeal.main_arg0)) (congrArg (ix2 e) (Fin.ext ?_)))
      · simp [Cert.UpXIdeal.Prod.col]
      · simp [Cert.UpXIdeal.Prod.wcol]
        try omega

/-- The frame at words, of the second program's text. -/
def upXWords : Prop :=
  ∀ (m : (ℓ : Loc Cert.UpXIdeal.nD Cert.UpXIdeal.τ Cert.UpXIdeal.sig) → Buf (Elt Bits) ℓ) (g : Dev Cert.UpXIdeal.nD → PrngReg), True →
    θ_run (Cert.UpXIdeal.defs (F := Bits)) (onTc (τ := Cert.UpXIdeal.τ) (Cert.UpXIdeal.main (F := Bits))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1))
      ∧ r.2.sem = fun _ => 0)

set_option maxHeartbeats 4000000 in
theorem up_x_text : upXWords = Cert.quiescent_UpX := by sl_kernel_rfl

theorem frame_up_x : Cert.quiescent_UpX := up_x_text.mp fun m ρ _ => Cert.UpXIdeal.Gen.frame (F := Bits) m ρ

theorem frame_up_x_ideal : Cert.quiescent_UpXIdeal := fun m ρ _ => Cert.UpXIdeal.Gen.frame (F := Ideal) m ρ

theorem frame_up_x_reference : Cert.quiescent_RefUpXIdeal := fun m ρ _ =>
  (θ_run Cert.RefUpXIdeal.defs _ _).mono (fun r h => ⟨fun c => (h c).2, Idealize.ShloMosaic.sem_eq_zero_of_no_sems (by decide) r.2⟩)
    (Cert.RefUpXIdeal.Value.run (F := Ideal) m ρ)

end Cert.Proof

end

end
-- ==== Proof.UpW.lean ====
/- The up projection's gradient to its weight: what the tiled product leaves is the whole product, in the four
   column pieces that the weight is cut into. -/
module

public import proofs.«01_k».proof.Defs
public import proofs.«01_k».proof.Proof.Gen.UpW
public import proofs.«01_k».proof.Proof.Gen.UpWIdeal.Value
public import proofs.«01_k».proof.Proof.Gen.RefUpWIdeal.Run
public import Idealize.ShloMosaic.Lib.Pointwise
public import Idealize.ShloMosaic.Lib.Pipeline.ValueKit
public import Idealize.ShloMosaic.Adequacy
public import Idealize.ShloMosaic.Init
public import Idealize.ShloMosaic.Lib.Tactic

@[expose] public section

set_option maxRecDepth 16384

noncomputable section

namespace Cert.UpWIdeal.Prod

open Idealize.ShloMosaic Idealize.ShloMosaic.TcCoe Idealize.SL.Sem Cert.UpWIdeal.Gen

theorem eq_ix3 {a b d : ℕ} (y : (⟨3, ![a, b, d]⟩ : Shape).Idx) : y = ix3 (y 0) (y 1) (y 2) := by
  funext k; fin_cases k <;> rfl

theorem hz : (![0, 0] : Fin 2 → ℕ) = fun _ => 0 := by funext k; fin_cases k <;> rfl
theorem hz3 : (![0, 0, 0] : Fin 3 → ℕ) = fun _ => 0 := by funext k; fin_cases k <;> rfl

/-- The gradient's half and column that the piece `s` of the weight has at its column `e`. -/
def half (s : Fin 4) : Fin 2 := ⟨s.val / 2, by omega⟩
def col (s : Fin 4) (e : Fin 2816) : Fin 5632 := ⟨2816 * (s.val % 2) + e.val, by omega⟩

/-- The product: columns of the input by columns of the gradient, in four column pieces. -/
def out (A : Vec Ideal S4096x2048 .bf16) (B : Vec Ideal S2x4096x5632 .bf16) : Vec Ideal S4x2048x2816 .bf16 :=
  fun i => ∑ k : Fin 4096, (A (ix2 k (i 1)) : EReal) * (B (ix3 (half (i 0)) k (col (i 0) (i 2))) : EReal)

/-- One block of the product. -/
theorem tile_at (x : Vec Ideal S4096x512 .bf16) (y : Vec Ideal S1x4096x1408 .bf16) (p : Fin 512) (e : Fin 1408) :
    k0_pay1 x y (ix3 (0 : Fin 1) p e) = ∑ k : Fin 4096, (x (ix2 k p) : EReal) * (y (ix3 (0 : Fin 1) k e) : EReal) := by
  pointwise [k0_pay1]

theorem index_0 : ∀ t : Fin cfg0.N, win0_0.index t = ![0, t.val / 8] := (by decide +kernel : ∀ t : Fin grid0.N, _)
theorem index_1 : ∀ t : Fin cfg0.N, win0_1.index t = ![t.val % 8 / 4, 0, t.val % 4] := (by decide +kernel : ∀ t : Fin grid0.N, _)
theorem index_2 : ∀ t : Fin cfg0.N, win0_2.index t = ![t.val % 8 / 2, t.val / 8, t.val % 2] := (by decide +kernel : ∀ t : Fin grid0.N, _)
theorem lt_N (t : Fin cfg0.N) : t.val < 32 := lt_of_lt_of_eq t.isLt (show cfg0.N = 32 from N_0)

variable (m : (ℓ : Loc nD τ sig) → Buf (Elt Ideal) ℓ) (c : Dev nD)

theorem iblk0_at (t : Fin cfg0.N) (k : Fin 4096) (p : Fin 512) :
    iblk m c 0 t (ix2 k p) = m ((c : Thread nD τ).loc main_arg0) (ix2 k ⟨512 * (t.val / 8) + p.val, by have := lt_N t; omega⟩) := by
  blk_simp [iblk]
  congr 1
  blk_ext [index_0]

theorem iblk1_at (t : Fin cfg0.N) (k : Fin 4096) (e : Fin 1408) :
    iblk m c 1 t (ix3 (0 : Fin 1) k e) = m ((c : Thread nD τ).loc main_arg1) (ix3 (⟨t.val % 8 / 4, by omega⟩ : Fin 2) k (⟨1408 * (t.val % 4) + e.val, by omega⟩ : Fin 5632)) := by
  blk_simp [iblk]
  congr 1
  blk_ext [index_1]

theorem out_eq (x : Vec Ideal S4096x512 .bf16) (y : Vec Ideal S1x4096x1408 .bf16) : out0_2 x y = k0_pay1 x y := by
  unfold out0_2
  rw [View.canon_unit_zero (hz3), View.ld_unit_zero (hz), View.ld_unit_zero (hz3)]

/-- The array that the call leaves. -/
theorem arr : (dats m 0 c).arrAt 2 cfg0.N = out (m ((c : Thread nD τ).loc main_arg0)) (m ((c : Thread nD τ).loc main_arg1)) := by
  refine (dats m 0 c).arrAt_eq_of_covers 2 _ (by decide +kernel) fun t hf y => ?_
  obtain ⟨z, p, e, rfl⟩ : ∃ (z : Fin 1) (p : Fin 512) (e : Fin 1408), y = ix3 z p e := ⟨y 0, y 1, y 2, eq_ix3 y⟩
  obtain rfl : z = 0 := Subsingleton.elim _ _
  blk_simp [index_2]
  rw [after0_2, out_eq]
  refine (tile_at _ _ _ _).trans (Finset.sum_congr rfl fun k _ => ?_)
  rw [iblk0_at, iblk1_at]
  refine congrArg₂ (fun x y : EReal => x * y) (congrArg (m ((c : Thread nD τ).loc main_arg0)) ?_) (congrArg (m ((c : Thread nD τ).loc main_arg1)) ?_)
  · blk_ext [index_2]
  · blk_ext [index_2, half, col]

end Cert.UpWIdeal.Prod

namespace Cert.Proof

open Idealize.ShloMosaic Idealize.ShloMosaic.TcCoe Idealize.SL.Sem

theorem up_w_algebraic : Cert.algebraic_UpWIdeal_RefUpWIdeal := by
  intro m g m' g' _ hargs
  refine ⟨fun c => Cert.UpWIdeal.Prod.out (m ((c.tc : Thread _ _).loc Cert.UpWIdeal.main_arg0)) (m ((c.tc : Thread _ _).loc Cert.UpWIdeal.main_arg1)), ?_, ?_⟩
  · exact (θ_run Cert.UpWIdeal.defs _ _).mono (fun r h c => ⟨(h c).1.trans (Cert.UpWIdeal.Prod.arr m c), (h c).2⟩) (Cert.UpWIdeal.Value.run_blocks (F := Ideal) m g)
  · refine (θ_run Cert.RefUpWIdeal.defs _ _).mono (fun r h c => ⟨(h c).1.trans ?_, (h c).2⟩) (Cert.RefUpWIdeal.Value.run (F := Ideal) m' g')
    rw [(hargs c).1, (hargs c).2]
    funext i
    obtain ⟨s, p, e, rfl⟩ : ∃ (s : Fin 4) (p : Fin 2048) (e : Fin 2816), i = ix3 s p e := ⟨i 0, i 1, i 2, Cert.UpWIdeal.Prod.eq_ix3 i⟩
    unfold Cert.UpWIdeal.Prod.out
    have he := e.isLt
    fin_cases s
    all_goals
      pointwise
      refine Finset.sum_congr rfl fun k _ => (mul_comm _ _).trans (congrArg₂ (fun x y : EReal => x * y) rfl ?_)
      split_ifs with h
      all_goals first
        | (exfalso; omega)
        | (refine congrArg (m ((c.tc : Thread _ _).loc Cert.UpWIdeal.main_arg1)) (congrArg₂ (fun a b => ix3 a k b) (by decide) (Fin.ext ?_))
           simp [Cert.UpWIdeal.Prod.col]
           try omega)

/-- The frame at words, of the second program's text. -/
def upWWords : Prop :=
  ∀ (m : (ℓ : Loc Cert.UpWIdeal.nD Cert.UpWIdeal.τ Cert.UpWIdeal.sig) → Buf (Elt Bits) ℓ) (g : Dev Cert.UpWIdeal.nD → PrngReg), True →
    θ_run (Cert.UpWIdeal.defs (F := Bits)) (onTc (τ := Cert.UpWIdeal.τ) (Cert.UpWIdeal.main (F := Bits))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ r.2.sem = fun _ => 0)

set_option maxHeartbeats 4000000 in
theorem up_w_text : upWWords = Cert.quiescent_UpW := by sl_kernel_rfl

theorem frame_up_w : Cert.quiescent_UpW := up_w_text.mp fun m ρ _ => Cert.UpWIdeal.Gen.frame (F := Bits) m ρ

theorem frame_up_w_ideal : Cert.quiescent_UpWIdeal := fun m ρ _ => Cert.UpWIdeal.Gen.frame (F := Ideal) m ρ

theorem frame_up_w_reference : Cert.quiescent_RefUpWIdeal := fun m ρ _ =>
  (θ_run Cert.RefUpWIdeal.defs _ _).mono (fun r h => ⟨fun c => (h c).2, Idealize.ShloMosaic.sem_eq_zero_of_no_sems (by decide) r.2⟩)
    (Cert.RefUpWIdeal.Value.run (F := Ideal) m ρ)

end Cert.Proof

end

end
-- ==== Proof.Down.lean ====
/- The down projection of the feed-forward: what the tiled product leaves is the whole product. -/
module

public import proofs.«01_k».proof.Defs
public import proofs.«01_k».proof.Proof.Gen.Down
public import proofs.«01_k».proof.Proof.Gen.DownIdeal.Value
public import proofs.«01_k».proof.Proof.Gen.RefDownIdeal.Run
public import Idealize.ShloMosaic.Lib.Pointwise
public import Idealize.ShloMosaic.Lib.Pipeline.ValueKit
public import Idealize.ShloMosaic.Adequacy
public import Idealize.ShloMosaic.Init
public import Idealize.ShloMosaic.Lib.Tactic

@[expose] public section

set_option maxRecDepth 16384

noncomputable section

namespace Cert.DownIdeal.Prod

open Idealize.ShloMosaic Idealize.ShloMosaic.TcCoe Idealize.SL.Sem Cert.DownIdeal.Gen

/-- The product: rows of the activation by columns of the weight. -/
def out (A : Vec Ideal S4096x5632 .bf16) (B : Vec Ideal S5632x2048 .bf16) : Vec Ideal S4096x2048 .bf16 :=
  fun i => ∑ k : Fin 5632, (A (ix2 (i 0) k) : EReal) * (B (ix2 k (i 1)) : EReal)

/-- One block of the product. -/
theorem tile_at (x : Vec Ideal S512x5632 .bf16) (y : Vec Ideal S5632x1024 .bf16) (p : Fin 512) (e : Fin 1024) :
    k0_pay1 x y (ix2 p e) = ∑ k : Fin 5632, (x (ix2 p k) : EReal) * (y (ix2 k e) : EReal) := by
  pointwise [k0_pay1]

theorem index_0 : ∀ t : Fin cfg0.N, win0_0.index t = ![t.val / 2, 0] := (by decide +kernel : ∀ t : Fin grid0.N, _)
theorem index_1 : ∀ t : Fin cfg0.N, win0_1.index t = ![0, t.val % 2] := (by decide +kernel : ∀ t : Fin grid0.N, _)
theorem index_2 : ∀ t : Fin cfg0.N, win0_2.index t = ![t.val / 2, t.val % 2] := (by decide +kernel : ∀ t : Fin grid0.N, _)
theorem lt_N (t : Fin cfg0.N) : t.val < 16 := lt_of_lt_of_eq t.isLt (show cfg0.N = 16 from N_0)

variable (m : (ℓ : Loc nD τ sig) → Buf (Elt Ideal) ℓ) (c : Dev nD)

theorem iblk0_at (t : Fin cfg0.N) (p : Fin 512) (k : Fin 5632) :
    iblk m c 0 t (ix2 p k) = m ((c : Thread nD τ).loc main_arg0) (ix2 ⟨512 * (t.val / 2) + p.val, by have := lt_N t; omega⟩ k) := by
  blk_simp [iblk]
  congr 1
  blk_ext [index_0]

theorem iblk1_at (t : Fin cfg0.N) (k : Fin 5632) (e : Fin 1024) :
    iblk m c 1 t (ix2 k e) = m ((c : Thread nD τ).loc main_arg1) (ix2 k ⟨1024 * (t.val % 2) + e.val, by have := lt_N t; omega⟩) := by
  blk_simp [iblk]
  congr 1
  blk_ext [index_1]

theorem eq_ix2 {n m : ℕ} (y : (⟨2, ![n, m]⟩ : Shape).Idx) : y = ix2 (y 0) (y 1) := by
  funext k; fin_cases k <;> rfl

theorem hz : (![0, 0] : Fin 2 → ℕ) = fun _ => 0 := by funext k; fin_cases k <;> rfl

theorem out_eq (x : Vec Ideal S512x5632 .bf16) (y : Vec Ideal S5632x1024 .bf16) : out0_2 x y = k0_pay1 x y := by
  unfold out0_2
  rw [View.canon_unit_zero (hz), View.ld_unit_zero (hz), View.ld_unit_zero (hz)]

/-- The array that the call leaves. -/
theorem arr : (dats m 0 c).arrAt 2 cfg0.N = out (m ((c : Thread nD τ).loc main_arg0)) (m ((c : Thread nD τ).loc main_arg1)) := by
  refine (dats m 0 c).arrAt_eq_of_covers 2 _ (by decide +kernel) fun t hf y => ?_
  obtain ⟨p, e, rfl⟩ : ∃ (p : Fin 512) (e : Fin 1024), y = ix2 p e := ⟨y 0, y 1, eq_ix2 y⟩
  blk_simp [index_2]
  rw [after0_2, out_eq]
  refine (tile_at _ _ _ _).trans (Finset.sum_congr rfl fun k _ => ?_)
  rw [iblk0_at, iblk1_at]
  refine congrArg₂ (fun x y : EReal => x * y) (congrArg (m ((c : Thread nD τ).loc main_arg0)) ?_) (congrArg (m ((c : Thread nD τ).loc main_arg1)) ?_)
  · blk_ext [index_2]
  · blk_ext [index_2]

end Cert.DownIdeal.Prod

namespace Cert.Proof

open Idealize.ShloMosaic Idealize.ShloMosaic.TcCoe Idealize.SL.Sem

theorem down_algebraic : Cert.algebraic_DownIdeal_RefDownIdeal := by
  intro m g m' g' _ hargs
  refine ⟨fun c => Cert.DownIdeal.Prod.out (m ((c.tc : Thread _ _).loc Cert.DownIdeal.main_arg0)) (m ((c.tc : Thread _ _).loc Cert.DownIdeal.main_arg1)), ?_, ?_⟩
  · exact (θ_run Cert.DownIdeal.defs _ _).mono (fun r h c => ⟨(h c).1.trans (Cert.DownIdeal.Prod.arr m c), (h c).2⟩) (Cert.DownIdeal.Value.run_blocks (F := Ideal) m g)
  · refine (θ_run Cert.RefDownIdeal.defs _ _).mono (fun r h c => ⟨(h c).1.trans ?_, (h c).2⟩) (Cert.RefDownIdeal.Value.run (F := Ideal) m' g')
    rw [(hargs c).1, (hargs c).2]
    funext i
    rw [Cert.DownIdeal.Prod.eq_ix2 i]
    unfold Cert.DownIdeal.Prod.out
    pointwise

/-- The frame at words, of the second program's text. -/
def downWords : Prop :=
  ∀ (m : (ℓ : Loc Cert.DownIdeal.nD Cert.DownIdeal.τ Cert.DownIdeal.sig) → Buf (Elt Bits) ℓ) (g : Dev Cert.DownIdeal.nD → PrngReg), True →
    θ_run (Cert.DownIdeal.defs (F := Bits)) (onTc (τ := Cert.DownIdeal.τ) (Cert.DownIdeal.main (F := Bits))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

set_option maxHeartbeats 4000000 in
theorem down_text : downWords = Cert.quiescent_Down := by sl_kernel_rfl

theorem frame_down : Cert.quiescent_Down := down_text.mp fun m ρ _ => Cert.DownIdeal.Gen.frame (F := Bits) m ρ

theorem frame_down_ideal : Cert.quiescent_DownIdeal := fun m ρ _ => Cert.DownIdeal.Gen.frame (F := Ideal) m ρ

theorem frame_down_reference : Cert.quiescent_RefDownIdeal := fun m ρ _ =>
  (θ_run Cert.RefDownIdeal.defs _ _).mono (fun r h => ⟨fun c => (h c).2, Idealize.ShloMosaic.sem_eq_zero_of_no_sems (by decide) r.2⟩)
    (Cert.RefDownIdeal.Value.run (F := Ideal) m ρ)

end Cert.Proof

end

end
-- ==== Proof.DownX.lean ====
/- The down projection's gradient to its activation: what the tiled product leaves is the whole product. -/
module

public import proofs.«01_k».proof.Defs
public import proofs.«01_k».proof.Proof.Gen.DownX
public import proofs.«01_k».proof.Proof.Gen.DownXIdeal.Value
public import proofs.«01_k».proof.Proof.Gen.RefDownXIdeal.Run
public import Idealize.ShloMosaic.Lib.Pointwise
public import Idealize.ShloMosaic.Lib.Pipeline.ValueKit
public import Idealize.ShloMosaic.Adequacy
public import Idealize.ShloMosaic.Init
public import Idealize.ShloMosaic.Lib.Tactic

@[expose] public section

set_option maxRecDepth 16384

noncomputable section

namespace Cert.DownXIdeal.Prod

open Idealize.ShloMosaic Idealize.ShloMosaic.TcCoe Idealize.SL.Sem Cert.DownXIdeal.Gen

/-- The product: rows of the gradient by rows of the weight. -/
def out (B : Vec Ideal S5632x2048 .bf16) (A : Vec Ideal S4096x2048 .bf16) : Vec Ideal S4096x5632 .bf16 :=
  fun i => ∑ k : Fin 2048, (A (ix2 (i 0) k) : EReal) * (B (ix2 (i 1) k) : EReal)

/-- One block of the product. -/
theorem tile_at (x : Vec Ideal S1024x2048 .bf16) (y : Vec Ideal S1408x2048 .bf16) (p : Fin 1024) (e : Fin 1408) :
    k0_pay1 x y (ix2 p e) = ∑ k : Fin 2048, (x (ix2 p k) : EReal) * (y (ix2 e k) : EReal) := by
  pointwise [k0_pay1]

theorem index_0 : ∀ t : Fin cfg0.N, win0_0.index t = ![t.val / 4, 0] := (by decide +kernel : ∀ t : Fin grid0.N, _)
theorem index_1 : ∀ t : Fin cfg0.N, win0_1.index t = ![t.val % 4, 0] := (by decide +kernel : ∀ t : Fin grid0.N, _)
theorem index_2 : ∀ t : Fin cfg0.N, win0_2.index t = ![t.val / 4, t.val % 4] := (by decide +kernel : ∀ t : Fin grid0.N, _)
theorem lt_N (t : Fin cfg0.N) : t.val < 16 := lt_of_lt_of_eq t.isLt (show cfg0.N = 16 from N_0)

variable (m : (ℓ : Loc nD τ sig) → Buf (Elt Ideal) ℓ) (c : Dev nD)

theorem iblk0_at (t : Fin cfg0.N) (p : Fin 1024) (k : Fin 2048) :
    iblk m c 0 t (ix2 p k) = m ((c : Thread nD τ).loc main_arg1) (ix2 ⟨1024 * (t.val / 4) + p.val, by have := lt_N t; omega⟩ k) := by
  blk_simp [iblk]
  congr 1
  blk_ext [index_0]

theorem iblk1_at (t : Fin cfg0.N) (e : Fin 1408) (k : Fin 2048) :
    iblk m c 1 t (ix2 e k) = m ((c : Thread nD τ).loc main_arg0) (ix2 ⟨1408 * (t.val % 4) + e.val, by have := lt_N t; omega⟩ k) := by
  blk_simp [iblk]
  congr 1
  blk_ext [index_1]

theorem eq_ix2 {n m : ℕ} (y : (⟨2, ![n, m]⟩ : Shape).Idx) : y = ix2 (y 0) (y 1) := by
  funext k; fin_cases k <;> rfl

theorem hz : (![0, 0] : Fin 2 → ℕ) = fun _ => 0 := by funext k; fin_cases k <;> rfl

theorem out_eq (x : Vec Ideal S1024x2048 .bf16) (y : Vec Ideal S1408x2048 .bf16) : out0_2 x y = k0_pay1 x y := by
  unfold out0_2
  rw [View.canon_unit_zero (hz), View.ld_unit_zero (hz), View.ld_unit_zero (hz)]

/-- The array that the call leaves. -/
theorem arr : (dats m 0 c).arrAt 2 cfg0.N = out (m ((c : Thread nD τ).loc main_arg0)) (m ((c : Thread nD τ).loc main_arg1)) := by
  refine (dats m 0 c).arrAt_eq_of_covers 2 _ (by decide +kernel) fun t hf y => ?_
  obtain ⟨p, e, rfl⟩ : ∃ (p : Fin 1024) (e : Fin 1408), y = ix2 p e := ⟨y 0, y 1, eq_ix2 y⟩
  blk_simp [index_2]
  rw [after0_2, out_eq]
  refine (tile_at _ _ _ _).trans (Finset.sum_congr rfl fun k _ => ?_)
  rw [iblk0_at, iblk1_at]
  refine congrArg₂ (fun x y : EReal => x * y) (congrArg (m ((c : Thread nD τ).loc main_arg1)) ?_) (congrArg (m ((c : Thread nD τ).loc main_arg0)) ?_)
  · blk_ext [index_2]
  · blk_ext [index_2]

end Cert.DownXIdeal.Prod

namespace Cert.Proof

open Idealize.ShloMosaic Idealize.ShloMosaic.TcCoe Idealize.SL.Sem

theorem down_x_algebraic : Cert.algebraic_DownXIdeal_RefDownXIdeal := by
  intro m g m' g' _ hargs
  refine ⟨fun c => Cert.DownXIdeal.Prod.out (m ((c.tc : Thread _ _).loc Cert.DownXIdeal.main_arg0)) (m ((c.tc : Thread _ _).loc Cert.DownXIdeal.main_arg1)), ?_, ?_⟩
  · exact (θ_run Cert.DownXIdeal.defs _ _).mono (fun r h c => ⟨(h c).1.trans (Cert.DownXIdeal.Prod.arr m c), (h c).2⟩) (Cert.DownXIdeal.Value.run_blocks (F := Ideal) m g)
  · refine (θ_run Cert.RefDownXIdeal.defs _ _).mono (fun r h c => ⟨(h c).1.trans ?_, (h c).2⟩) (Cert.RefDownXIdeal.Value.run (F := Ideal) m' g')
    rw [(hargs c).1, (hargs c).2]
    funext i
    rw [Cert.DownXIdeal.Prod.eq_ix2 i]
    unfold Cert.DownXIdeal.Prod.out
    pointwise

/-- The frame at words, of the second program's text. -/
def downXWords : Prop :=
  ∀ (m : (ℓ : Loc Cert.DownXIdeal.nD Cert.DownXIdeal.τ Cert.DownXIdeal.sig) → Buf (Elt Bits) ℓ) (g : Dev Cert.DownXIdeal.nD → PrngReg), True →
    θ_run (Cert.DownXIdeal.defs (F := Bits)) (onTc (τ := Cert.DownXIdeal.τ) (Cert.DownXIdeal.main (F := Bits))) ⟨m, fun _ => 0, g⟩ (fun r => (∀ c : Dev Cert.DownXIdeal.nD,
      r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
      ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ r.2.sem = fun _ => 0)

set_option maxHeartbeats 4000000 in
theorem down_x_text : downXWords = Cert.quiescent_DownX := by sl_kernel_rfl

theorem frame_down_x : Cert.quiescent_DownX := down_x_text.mp fun m ρ _ => Cert.DownXIdeal.Gen.frame (F := Bits) m ρ

theorem frame_down_x_ideal : Cert.quiescent_DownXIdeal := fun m ρ _ => Cert.DownXIdeal.Gen.frame (F := Ideal) m ρ

theorem frame_down_x_reference : Cert.quiescent_RefDownXIdeal := fun m ρ _ =>
  (θ_run Cert.RefDownXIdeal.defs _ _).mono (fun r h => ⟨fun c => (h c).2, Idealize.ShloMosaic.sem_eq_zero_of_no_sems (by decide) r.2⟩)
    (Cert.RefDownXIdeal.Value.run (F := Ideal) m ρ)

end Cert.Proof

end

end
-- ==== Proof.DownW.lean ====
/- The down projection's gradient to its weight: what the tiled product leaves is the whole product. -/
module

public import proofs.«01_k».proof.Defs
public import proofs.«01_k».proof.Proof.Gen.DownW
public import proofs.«01_k».proof.Proof.Gen.DownWIdeal.Value
public import proofs.«01_k».proof.Proof.Gen.RefDownWIdeal.Run
public import Idealize.ShloMosaic.Lib.Pointwise
public import Idealize.ShloMosaic.Lib.Pipeline.ValueKit
public import Idealize.ShloMosaic.Adequacy
public import Idealize.ShloMosaic.Init
public import Idealize.ShloMosaic.Lib.Tactic

@[expose] public section

set_option maxRecDepth 16384

noncomputable section

namespace Cert.DownWIdeal.Prod

open Idealize.ShloMosaic Idealize.ShloMosaic.TcCoe Idealize.SL.Sem Cert.DownWIdeal.Gen

/-- The product: columns of the activation by columns of the gradient. -/
def out (A : Vec Ideal S4096x5632 .bf16) (B : Vec Ideal S4096x2048 .bf16) : Vec Ideal S5632x2048 .bf16 :=
  fun i => ∑ k : Fin 4096, (A (ix2 k (i 0)) : EReal) * (B (ix2 k (i 1)) : EReal)

/-- One block of the product. -/
theorem tile_at (x : Vec Ideal S4096x1408 .bf16) (y : Vec Ideal S4096x512 .bf16) (p : Fin 1408) (e : Fin 512) :
    k0_pay1 x y (ix2 p e) = ∑ k : Fin 4096, (x (ix2 k p) : EReal) * (y (ix2 k e) : EReal) := by
  pointwise [k0_pay1]

theorem index_0 : ∀ t : Fin cfg0.N, win0_0.index t = ![0, t.val / 4] := (by decide +kernel : ∀ t : Fin grid0.N, _)
theorem index_1 : ∀ t : Fin cfg0.N, win0_1.index t = ![0, t.val % 4] := (by decide +kernel : ∀ t : Fin grid0.N, _)
theorem index_2 : ∀ t : Fin cfg0.N, win0_2.index t = ![t.val / 4, t.val % 4] := (by decide +kernel : ∀ t : Fin grid0.N, _)
theorem lt_N (t : Fin cfg0.N) : t.val < 16 := lt_of_lt_of_eq t.isLt (show cfg0.N = 16 from N_0)

variable (m : (ℓ : Loc nD τ sig) → Buf (Elt Ideal) ℓ) (c : Dev nD)

theorem iblk0_at (t : Fin cfg0.N) (k : Fin 4096) (p : Fin 1408) :
    iblk m c 0 t (ix2 k p) = m ((c : Thread nD τ).loc main_arg0) (ix2 k ⟨1408 * (t.val / 4) + p.val, by have := lt_N t; omega⟩) := by
  blk_simp [iblk]
  congr 1
  blk_ext [index_0]

theorem iblk1_at (t : Fin cfg0.N) (k : Fin 4096) (e : Fin 512) :
    iblk m c 1 t (ix2 k e) = m ((c : Thread nD τ).loc main_arg1) (ix2 k ⟨512 * (t.val % 4) + e.val, by have := lt_N t; omega⟩) := by
  blk_simp [iblk]
  congr 1
  blk_ext [index_1]

theorem eq_ix2 {n m : ℕ} (y : (⟨2, ![n, m]⟩ : Shape).Idx) : y = ix2 (y 0) (y 1) := by
  funext k; fin_cases k <;> rfl

theorem hz : (![0, 0] : Fin 2 → ℕ) = fun _ => 0 := by funext k; fin_cases k <;> rfl

theorem out_eq (x : Vec Ideal S4096x1408 .bf16) (y : Vec Ideal S4096x512 .bf16) : out0_2 x y = k0_pay1 x y := by
  unfold out0_2
  rw [View.canon_unit_zero (hz), View.ld_unit_zero (hz), View.ld_unit_zero (hz)]

/-- The array that the call leaves. -/
theorem arr : (dats m 0 c).arrAt 2 cfg0.N = out (m ((c : Thread nD τ).loc main_arg0)) (m ((c : Thread nD τ).loc main_arg1)) := by
  refine (dats m 0 c).arrAt_eq_of_covers 2 _ (by decide +kernel) fun t hf y => ?_
  obtain ⟨p, e, rfl⟩ : ∃ (p : Fin 1408) (e : Fin 512), y = ix2 p e := ⟨y 0, y 1, eq_ix2 y⟩
  blk_simp [index_2]
  rw [after0_2, out_eq]
  refine (tile_at _ _ _ _).trans (Finset.sum_congr rfl fun k _ => ?_)
  rw [iblk0_at, iblk1_at]
  refine congrArg₂ (fun x y : EReal => x * y) (congrArg (m ((c : Thread nD τ).loc main_arg0)) ?_) (congrArg (m ((c : Thread nD τ).loc main_arg1)) ?_)
  · blk_ext [index_2]
  · blk_ext [index_2]

end Cert.DownWIdeal.Prod

namespace Cert.Proof

open Idealize.ShloMosaic Idealize.ShloMosaic.TcCoe Idealize.SL.Sem

theorem down_w_algebraic : Cert.algebraic_DownWIdeal_RefDownWIdeal := by
  intro m g m' g' _ hargs
  refine ⟨fun c => Cert.DownWIdeal.Prod.out (m ((c.tc : Thread _ _).loc Cert.DownWIdeal.main_arg0)) (m ((c.tc : Thread _ _).loc Cert.DownWIdeal.main_arg1)), ?_, ?_⟩
  · exact (θ_run Cert.DownWIdeal.defs _ _).mono (fun r h c => ⟨(h c).1.trans (Cert.DownWIdeal.Prod.arr m c), (h c).2⟩) (Cert.DownWIdeal.Value.run_blocks (F := Ideal) m g)
  · refine (θ_run Cert.RefDownWIdeal.defs _ _).mono (fun r h c => ⟨(h c).1.trans ?_, (h c).2⟩) (Cert.RefDownWIdeal.Value.run (F := Ideal) m' g')
    rw [(hargs c).1, (hargs c).2]
    funext i
    rw [Cert.DownWIdeal.Prod.eq_ix2 i]
    unfold Cert.DownWIdeal.Prod.out
    pointwise
    exact Finset.sum_congr rfl fun k _ => mul_comm _ _

/-- The frame at words, of the second program's text. -/
def downWWords : Prop :=
  ∀ (m : (ℓ : Loc Cert.DownWIdeal.nD Cert.DownWIdeal.τ Cert.DownWIdeal.sig) → Buf (Elt Bits) ℓ) (g : Dev Cert.DownWIdeal.nD → PrngReg), True →
    θ_run (Cert.DownWIdeal.defs (F := Bits)) (onTc (τ := Cert.DownWIdeal.τ) (Cert.DownWIdeal.main (F := Bits))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

set_option maxHeartbeats 4000000 in
theorem down_w_text : downWWords = Cert.quiescent_DownW := by sl_kernel_rfl

theorem frame_down_w : Cert.quiescent_DownW := down_w_text.mp fun m ρ _ => Cert.DownWIdeal.Gen.frame (F := Bits) m ρ

theorem frame_down_w_ideal : Cert.quiescent_DownWIdeal := fun m ρ _ => Cert.DownWIdeal.Gen.frame (F := Ideal) m ρ

theorem frame_down_w_reference : Cert.quiescent_RefDownWIdeal := fun m ρ _ =>
  (θ_run Cert.RefDownWIdeal.defs _ _).mono (fun r h => ⟨fun c => (h c).2, Idealize.ShloMosaic.sem_eq_zero_of_no_sems (by decide) r.2⟩)
    (Cert.RefDownWIdeal.Value.run (F := Ideal) m ρ)

end Cert.Proof

end

end
-- ==== Proof.Pw.lean ====
/- The first projection of the convolution mixer: what the tiled product leaves, of the weight cut into four column
   pieces, is the whole product, its columns in two halves. -/
module

public import proofs.«01_k».proof.Defs
public import proofs.«01_k».proof.Proof.Gen.Pw
public import proofs.«01_k».proof.Proof.Gen.PwIdeal.Value
public import proofs.«01_k».proof.Proof.Gen.RefPwIdeal.Run
public import Idealize.ShloMosaic.Lib.Pointwise
public import Idealize.ShloMosaic.Lib.Pipeline.ValueKit
public import Idealize.ShloMosaic.Adequacy
public import Idealize.ShloMosaic.Init
public import Idealize.ShloMosaic.Lib.Tactic

@[expose] public section

set_option maxRecDepth 16384

noncomputable section

namespace Cert.PwIdeal.Prod

open Idealize.ShloMosaic Idealize.ShloMosaic.TcCoe Idealize.SL.Sem Cert.PwIdeal.Gen

theorem eq_ix3 {a b d : ℕ} (y : (⟨3, ![a, b, d]⟩ : Shape).Idx) : y = ix3 (y 0) (y 1) (y 2) := by
  funext k; fin_cases k <;> rfl

theorem hz : (![0, 0] : Fin 2 → ℕ) = fun _ => 0 := by funext k; fin_cases k <;> rfl
theorem hz3 : (![0, 0, 0] : Fin 3 → ℕ) = fun _ => 0 := by funext k; fin_cases k <;> rfl

/-- The product: rows of the input by columns of the weight, the columns in two halves. -/
def out (A : Vec Ideal S4096x2048 .bf16) (B : Vec Ideal S2048x4096 .bf16) : Vec Ideal S2x4096x2048 .bf16 :=
  fun i => ∑ k : Fin 2048, (A (ix2 (i 1) k) : EReal) * (B (ix2 k ⟨2048 * (i 0).val + (i 2).val, by
    have h0 : (i 0).val < 2 := (i 0).isLt
    have h2 : (i 2).val < 2048 := (i 2).isLt
    omega⟩) : EReal)

/-- One block of the product. -/
theorem tile_at (x : Vec Ideal S2048x2048 .bf16) (y : Vec Ideal S1x2048x1024 .bf16) (p : Fin 2048) (e : Fin 1024) :
    k0_pay1 x y (ix3 (0 : Fin 1) p e) = ∑ k : Fin 2048, (x (ix2 p k) : EReal) * (y (ix3 (0 : Fin 1) k e) : EReal) := by
  pointwise [k0_pay1]

theorem index_0 : ∀ t : Fin cfg0.N, win0_0.index t = ![t.val / 4, 0] := (by decide +kernel : ∀ t : Fin grid0.N, _)
theorem index_1 : ∀ t : Fin cfg0.N, win0_1.index t = ![t.val % 4, 0, 0] := (by decide +kernel : ∀ t : Fin grid0.N, _)
theorem index_2 : ∀ t : Fin cfg0.N, win0_2.index t = ![t.val % 4 / 2, t.val / 4, t.val % 2] := (by decide +kernel : ∀ t : Fin grid0.N, _)
theorem lt_N (t : Fin cfg0.N) : t.val < 8 := lt_of_lt_of_eq t.isLt (show cfg0.N = 8 from N_0)

/-- The pieces of the weight, at coordinates. -/
theorem pieces_at (w : Vec Ideal S2048x4096 .bf16) (s : Fin 4) (k : Fin 2048) (e : Fin 1024) :
    (transpose S4x2048x1024 [1, 0, 2] (shapeCast S2048x4x1024 w shapeCasts_S2048x4096_S2048x4x1024) transposes_S2048x4x1024_S4x2048x1024_1_0_2) (ix3 s k e)
      = w (ix2 k ⟨1024 * s.val + e.val, by omega⟩) := by
  pointwise
  refine congrArg w (congrArg (ix2 k) (Fin.ext ?_))
  show s.val * 1024 + e.val = 1024 * s.val + e.val
  omega

variable (m : (ℓ : Loc nD τ sig) → Buf (Elt Ideal) ℓ) (c : Dev nD)

theorem V_pieces : V m c main_v1 = transpose S4x2048x1024 [1, 0, 2] (shapeCast S2048x4x1024 (m ((c : Thread nD τ).loc main_arg1)) shapeCasts_S2048x4096_S2048x4x1024) transposes_S2048x4x1024_S4x2048x1024_1_0_2 := by
  unfold V
  after_results
  rfl

theorem iblk0_at (t : Fin cfg0.N) (p : Fin 2048) (k : Fin 2048) :
    iblk m c 0 t (ix2 p k) = m ((c : Thread nD τ).loc main_arg0) (ix2 ⟨2048 * (t.val / 4) + p.val, by have := lt_N t; omega⟩ k) := by
  rw [← V_main_arg0 m c]
  blk_simp [iblk]
  refine congrArg (V m c main_arg0) ?_
  blk_ext [index_0]

theorem iblk1_at (t : Fin cfg0.N) (k : Fin 2048) (e : Fin 1024) :
    iblk m c 1 t (ix3 (0 : Fin 1) k e) = m ((c : Thread nD τ).loc main_arg1) (ix2 k ⟨1024 * (t.val % 4) + e.val, by have := lt_N t; omega⟩) := by
  have h : iblk m c 1 t (ix3 (0 : Fin 1) k e) = V m c main_v1 (ix3 (⟨t.val % 4, by omega⟩ : Fin 4) k e) := by
    blk_simp [iblk]
    refine congrArg (V m c main_v1) ?_
    blk_ext [index_1]
  rw [h, V_pieces, pieces_at]

theorem out_eq (x : Vec Ideal S2048x2048 .bf16) (y : Vec Ideal S1x2048x1024 .bf16) : out0_2 x y = k0_pay1 x y := by
  unfold out0_2
  rw [View.canon_unit_zero (hz3), View.ld_unit_zero (hz), View.ld_unit_zero (hz3)]

/-- The array that the call leaves. -/
theorem arr : (dats m 0 c).arrAt 2 cfg0.N = out (m ((c : Thread nD τ).loc main_arg0)) (m ((c : Thread nD τ).loc main_arg1)) := by
  refine (dats m 0 c).arrAt_eq_of_covers 2 _ (by decide +kernel) fun t hf y => ?_
  obtain ⟨z, p, e, rfl⟩ : ∃ (z : Fin 1) (p : Fin 2048) (e : Fin 1024), y = ix3 z p e := ⟨y 0, y 1, y 2, eq_ix3 y⟩
  obtain rfl : z = 0 := Subsingleton.elim _ _
  blk_simp [index_2]
  rw [after0_2, out_eq]
  refine (tile_at _ _ _ _).trans (Finset.sum_congr rfl fun k _ => ?_)
  rw [iblk0_at, iblk1_at]
  refine congrArg₂ (fun x y : EReal => x * y) (congrArg (m ((c : Thread nD τ).loc main_arg0)) ?_) (congrArg (m ((c : Thread nD τ).loc main_arg1)) ?_)
  · blk_ext [index_2]
  · blk_ext [index_2]

end Cert.PwIdeal.Prod

namespace Cert.Proof

open Idealize.ShloMosaic Idealize.ShloMosaic.TcCoe Idealize.SL.Sem

theorem pw_algebraic : Cert.algebraic_PwIdeal_RefPwIdeal := by
  intro m g m' g' _ hargs
  refine ⟨fun c => Cert.PwIdeal.Prod.out (m ((c.tc : Thread _ _).loc Cert.PwIdeal.main_arg0)) (m ((c.tc : Thread _ _).loc Cert.PwIdeal.main_arg1)), ?_, ?_⟩
  · exact (θ_run Cert.PwIdeal.defs _ _).mono (fun r h c => ⟨(h c).1.trans (Cert.PwIdeal.Prod.arr m c), (h c).2⟩) (Cert.PwIdeal.Value.run_blocks (F := Ideal) m g)
  · refine (θ_run Cert.RefPwIdeal.defs _ _).mono (fun r h c => ⟨(h c).1.trans ?_, (h c).2⟩) (Cert.RefPwIdeal.Value.run (F := Ideal) m' g')
    rw [(hargs c).1, (hargs c).2]
    funext i
    obtain ⟨s, p, e, rfl⟩ : ∃ (s : Fin 2) (p : Fin 4096) (e : Fin 2048), i = ix3 s p e := ⟨i 0, i 1, i 2, Cert.PwIdeal.Prod.eq_ix3 i⟩
    unfold Cert.PwIdeal.Prod.out
    fin_cases s
    · pointwise
      done
    · pointwise
      done

/-- The frame at words, of the second program's text. -/
def pwWords : Prop :=
  ∀ (m : (ℓ : Loc Cert.PwIdeal.nD Cert.PwIdeal.τ Cert.PwIdeal.sig) → Buf (Elt Bits) ℓ) (g : Dev Cert.PwIdeal.nD → PrngReg), True →
    θ_run (Cert.PwIdeal.defs (F := Bits)) (onTc (τ := Cert.PwIdeal.τ) (Cert.PwIdeal.main (F := Bits))) ⟨m, fun _ => 0, g⟩ (fun r => (∀ c : Dev Cert.PwIdeal.nD,
      r.2.mem ((c.tc : Thread Cert.PwIdeal.nD Cert.PwIdeal.τ).loc Cert.PwIdeal.main_arg0) = m ((c.tc : Thread Cert.PwIdeal.nD Cert.PwIdeal.τ).loc Cert.PwIdeal.main_arg0)
      ∧ r.2.mem ((c.tc : Thread Cert.PwIdeal.nD Cert.PwIdeal.τ).loc Cert.PwIdeal.main_arg1) = m ((c.tc : Thread Cert.PwIdeal.nD Cert.PwIdeal.τ).loc Cert.PwIdeal.main_arg1))
      ∧ r.2.sem = fun _ => 0)

set_option maxHeartbeats 4000000 in
theorem pw_text : pwWords = Cert.quiescent_Pw := by sl_kernel_rfl

theorem frame_pw : Cert.quiescent_Pw := pw_text.mp fun m ρ _ => Cert.PwIdeal.Gen.frame (F := Bits) m ρ

theorem frame_pw_ideal : Cert.quiescent_PwIdeal := fun m ρ _ => Cert.PwIdeal.Gen.frame (F := Ideal) m ρ

theorem frame_pw_reference : Cert.quiescent_RefPwIdeal := fun m ρ _ =>
  (θ_run Cert.RefPwIdeal.defs _ _).mono (fun r h => ⟨fun c => (h c).2, Idealize.ShloMosaic.sem_eq_zero_of_no_sems (by decide) r.2⟩)
    (Cert.RefPwIdeal.Value.run (F := Ideal) m ρ)

end Cert.Proof

end

end
-- ==== Proof.PwX.lean ====
/- The convolution mixer's first projection, its gradient to its input: what the product accumulated over the four column pieces of the weight
   leaves is the whole product over all the columns. -/
module

public import proofs.«01_k».proof.Defs
public import proofs.«01_k».proof.Proof.Gen.PwX
public import proofs.«01_k».proof.Proof.Gen.PwXIdeal.Value
public import proofs.«01_k».proof.Proof.Gen.RefPwXIdeal.Run
public import Idealize.ShloMosaic.Lib.Pointwise
public import Idealize.ShloMosaic.Lib.Pipeline.ValueKit
public import Idealize.ShloMosaic.Adequacy
public import Idealize.ShloMosaic.Init
public import Idealize.ShloMosaic.Lib.Tactic

@[expose] public section

set_option maxRecDepth 16384

noncomputable section

namespace Cert.PwXIdeal.Prod

open Idealize.ShloMosaic Idealize.ShloMosaic.TcCoe Idealize.SL.Sem Cert.PwXIdeal.Gen

theorem eq_ix2 {a b : ℕ} (y : (⟨2, ![a, b]⟩ : Shape).Idx) : y = ix2 (y 0) (y 1) := by
  funext k; fin_cases k <;> rfl

theorem hz : (![0, 0] : Fin 2 → ℕ) = fun _ => 0 := by funext k; fin_cases k <;> rfl
theorem hz3 : (![0, 0, 0] : Fin 3 → ℕ) = fun _ => 0 := by funext k; fin_cases k <;> rfl

/-! ## What a point leaves -/

section
variable {F : FTy → Type} [FloatOps F]

/-- The first piece's point leaves its product in the accumulator. -/
theorem first_eq (c : Dev nD) (i : grid0.Coords) (arg3 : Memref sig .tc .vmem S1x2048x1024 .bf16) (harg3 : arg3.IsWhole) (arg4 : Memref sig .tc .vmem S1x1024x1024 .bf16) (harg4 : arg4.IsWhole) (arg5 : Memref sig .tc .vmem S2048x1024 .bf16) (harg5 : arg5.IsWhole)
    (arg6 : Memref sig .tc .vmem S2048x1024 .f32) (harg6 : arg6.IsWhole) (hc0 : cond0_0 i) (hc1 : ¬cond0_1 i) (hc2 : ¬cond0_2 i)
    (x0 : Vec F S1x2048x1024 .bf16) (x1 : Vec F S1x1024x1024 .bf16) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero (S := S2048x1024) hz]
  simp only [View.readAt_eq_ld, harg3.read_unread, harg4.read_unread, View.ld_unit_zero (S := S1x2048x1024) hz3, View.ld_unit_zero (S := S1x1024x1024) hz3]

/-- A later piece's point adds its product to the accumulator. -/
theorem next_eq (c : Dev nD) (i : grid0.Coords) (arg3 : Memref sig .tc .vmem S1x2048x1024 .bf16) (harg3 : arg3.IsWhole) (arg4 : Memref sig .tc .vmem S1x1024x1024 .bf16) (harg4 : arg4.IsWhole) (arg5 : Memref sig .tc .vmem S2048x1024 .bf16) (harg5 : arg5.IsWhole)
    (arg6 : Memref sig .tc .vmem S2048x1024 .f32) (harg6 : arg6.IsWhole) (hc0 : ¬cond0_0 i) (hc1 : cond0_1 i) (hc2 : ¬cond0_2 i)
    (x0 : Vec F S1x2048x1024 .bf16) (x1 : Vec F S1x1024x1024 .bf16) (xs : Vec F S2048x1024 .f32) :
    sout0_B_0 c i arg3 harg3 arg4 harg4 arg5 harg5 arg6 harg6 hc0 hc1 hc2 x0 x1 xs = k0_pay3 x0 x1 xs := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_unit_zero (S := S2048x1024) hz]
  simp only [View.readAt_eq_ld, harg3.read_unread, harg4.read_unread, harg6.read_unread, View.ld_unit_zero (S := S1x2048x1024) hz3, View.ld_unit_zero (S := S1x1024x1024) hz3, View.ld_unit_zero (S := S2048x1024) hz]

/-- The last piece's point rounds the accumulator, its own product added, into the result's block. -/
theorem last_eq (c : Dev nD) (i : grid0.Coords) (arg3 : Memref sig .tc .vmem S1x2048x1024 .bf16) (harg3 : arg3.IsWhole) (arg4 : Memref sig .tc .vmem S1x1024x1024 .bf16) (harg4 : arg4.IsWhole) (arg5 : Memref sig .tc .vmem S2048x1024 .bf16) (harg5 : arg5.IsWhole)
    (arg6 : Memref sig .tc .vmem S2048x1024 .f32) (harg6 : arg6.IsWhole) (hc0 : ¬cond0_0 i) (hc1 : cond0_1 i) (hc2 : cond0_2 i)
    (x0 : Vec F S1x2048x1024 .bf16) (x1 : Vec F S1x1024x1024 .bf16) (xs : Vec F S2048x1024 .f32) :
    out0_C_2 c i arg3 harg3 arg4 harg4 arg5 harg5 arg6 harg6 hc0 hc1 hc2 x0 x1 xs = k0_pay4 (k0_pay3 x0 x1 xs) := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_unit_zero (S := S2048x1024) hz]
  rw [View.readCov_unit_zero (S := S2048x1024) _ hz]
  simp only [View.readAt_eq_ld, harg3.read_unread, harg4.read_unread, harg6.read_unread, View.ld_unit_zero (S := S1x2048x1024) hz3, View.ld_unit_zero (S := S1x1024x1024) hz3, View.ld_unit_zero (S := S2048x1024) hz]

end

/-! ## The product -/

/-- The gradient's half and column that the weight's piece `s` has at its column `k`. -/
def half (s : Fin 4) : Fin 2 := ⟨s.val / 2, by omega⟩
def col (s : Fin 4) (k : Fin 1024) : Fin 2048 := ⟨1024 * (s.val % 2) + k.val, by omega⟩
/-- That column of the weight. -/
def wcol (s : Fin 4) (k : Fin 1024) : Fin 4096 := ⟨1024 * s.val + k.val, by omega⟩

/-- One piece of the product. -/
def piece (W : Vec Ideal S2048x4096 .bf16) (G : Vec Ideal S2x4096x2048 .bf16) (r : Fin 4096) (n : Fin 2048) (s : Fin 4) : EReal :=
  ∑ k : Fin 1024, (G (ix3 (half s) r (col s k)) : EReal) * (W (ix2 n (wcol s k)) : EReal)

/-- The product: rows of the gradient by rows of the weight, over the weight's four column pieces. -/
def out (W : Vec Ideal S2048x4096 .bf16) (G : Vec Ideal S2x4096x2048 .bf16) : Vec Ideal S4096x2048 .bf16 :=
  fun i => ∑ s : Fin 4, piece W G (i 0) (i 1) s

theorem pay1_at (x : Vec Ideal S1x2048x1024 .bf16) (y : Vec Ideal S1x1024x1024 .bf16) (p : Fin 2048) (e : Fin 1024) :
    k0_pay1 x y (ix2 p e) = ∑ k : Fin 1024, (x (ix3 (0 : Fin 1) p k) : EReal) * (y (ix3 (0 : Fin 1) e k) : EReal) := by
  pointwise [k0_pay1]

theorem pay2_at (x : Vec Ideal S1x2048x1024 .bf16) (y : Vec Ideal S1x1024x1024 .bf16) (i : S2048x1024.Idx) : k0_pay2 x y i = k0_pay1 x y i := by
  unfold k0_pay2
  exact congrFun (shapeCast_self _ _) i

theorem pay3_at (x : Vec Ideal S1x2048x1024 .bf16) (y : Vec Ideal S1x1024x1024 .bf16) (a : Vec Ideal S2048x1024 .f32) (i : S2048x1024.Idx) :
    (k0_pay3 x y a i : EReal) = (a i : EReal) + (k0_pay1 x y i : EReal) := by
  unfold k0_pay3
  exact congrFun (shapeCast_self _ _) i

theorem index_0 : ∀ t : Fin cfg0.N, win0_0.index t = ![t.val % 4 / 2, t.val / 8, t.val % 2] := (by decide +kernel : ∀ t : Fin grid0.N, _)
theorem index_1 : ∀ t : Fin cfg0.N, win0_1.index t = ![t.val % 4, t.val / 4 % 2, 0] := (by decide +kernel : ∀ t : Fin grid0.N, _)
theorem index_2 : ∀ t : Fin cfg0.N, win0_2.index t = ![t.val / 8, t.val / 4 % 2] := (by decide +kernel : ∀ t : Fin grid0.N, _)
theorem lt_N (t : Fin cfg0.N) : t.val < 16 := lt_of_lt_of_eq t.isLt (show cfg0.N = 16 from N_0)

/-- The pieces of the weight, at coordinates. -/
theorem pieces_at (w : Vec Ideal S2048x4096 .bf16) (s : Fin 4) (n : Fin 2048) (k : Fin 1024) :
    (transpose S4x2048x1024 [1, 0, 2] (shapeCast S2048x4x1024 w shapeCasts_S2048x4096_S2048x4x1024) transposes_S2048x4x1024_S4x2048x1024_1_0_2) (ix3 s n k)
      = w (ix2 n (wcol s k)) := by
  pointwise
  refine congrArg w (congrArg (ix2 n) (Fin.ext ?_))
  show s.val * 1024 + k.val = 1024 * s.val + k.val
  omega

variable (m : (ℓ : Loc nD τ sig) → Buf (Elt Ideal) ℓ) (c : Dev nD)

theorem V_pieces : V m c main_v1 = transpose S4x2048x1024 [1, 0, 2] (shapeCast S2048x4x1024 (m ((c : Thread nD τ).loc main_arg0)) shapeCasts_S2048x4096_S2048x4x1024) transposes_S2048x4x1024_S4x2048x1024_1_0_2 := by
  unfold V
  after_results
  rfl

/-- The row of the array at row `p` of point `t`'s block, and the column at column `e`. -/
def row (t : Fin cfg0.N) (p : Fin 2048) : Fin 4096 := ⟨2048 * (t.val / 8) + p.val, by have := lt_N t; omega⟩
def clm (t : Fin cfg0.N) (e : Fin 1024) : Fin 2048 := ⟨1024 * (t.val / 4 % 2) + e.val, by have := lt_N t; omega⟩
/-- The piece that point `t` multiplies. -/
def pc (t : Fin cfg0.N) : Fin 4 := ⟨t.val % 4, by omega⟩

theorem iblk0_at (t : Fin cfg0.N) (p : Fin 2048) (k : Fin 1024) :
    iblk m c 0 t (ix3 (0 : Fin 1) p k) = m ((c : Thread nD τ).loc main_arg1) (ix3 (half (pc t)) (row t p) (col (pc t) k)) := by
  rw [← V_main_arg1 m c]
  blk_simp [iblk]
  refine congrArg (V m c main_arg1) ?_
  blk_ext [index_0, half, row, col, pc]

theorem iblk1_at (t : Fin cfg0.N) (e : Fin 1024) (k : Fin 1024) :
    iblk m c 1 t (ix3 (0 : Fin 1) e k) = m ((c : Thread nD τ).loc main_arg0) (ix2 (clm t e) (wcol (pc t) k)) := by
  have h : iblk m c 1 t (ix3 (0 : Fin 1) e k) = V m c main_v1 (ix3 (pc t) (clm t e) k) := by
    blk_simp [iblk]
    refine congrArg (V m c main_v1) ?_
    blk_ext [index_1, clm, pc]
  rw [h, V_pieces, pieces_at]

/-- What a point adds. -/
theorem part_at (t : Fin cfg0.N) (p : Fin 2048) (e : Fin 1024) :
    (k0_pay1 (iblk m c 0 t) (iblk m c 1 t) (ix2 p e) : EReal)
      = piece (m ((c : Thread nD τ).loc main_arg0)) (m ((c : Thread nD τ).loc main_arg1)) (row t p) (clm t e) (pc t) := by
  refine (pay1_at _ _ _ _).trans (Finset.sum_congr rfl fun k _ => ?_)
  rw [iblk0_at, iblk1_at]

theorem first_at (t : Fin cfg0.N) (h : t.val % 4 = 0) (i : S2048x1024.Idx) :
    ((outsAt0 m c t.val t.isLt).2 i : EReal) = k0_pay1 (iblk m c 0 t) (iblk m c 1 t) i := by
  refine (congrFun (congrArg Prod.snd (outsAt0_A m c t h (by omega) (by omega))) i).trans ?_
  dsimp only
  rw [first_eq, pay2_at]

theorem next_at (t : Fin cfg0.N) (h : 1 ≤ t.val % 4) (h' : ¬t.val % 4 = 3) (i : S2048x1024.Idx) :
    ((outsAt0 m c t.val t.isLt).2 i : EReal)
      = ((outsAt0 m c (t.val - 1) (Nat.lt_of_le_of_lt (Nat.sub_le _ _) t.isLt)).2 i : EReal) + (k0_pay1 (iblk m c 0 t) (iblk m c 1 t) i : EReal) := by
  refine (congrFun (congrArg Prod.snd (outsAt0_B m c t (by omega) h h')) i).trans ?_
  dsimp only
  rw [next_eq, pay3_at]

theorem last_at (t : Fin cfg0.N) (h : t.val % 4 = 3) (i : S2048x1024.Idx) :
    ((outsAt0 m c t.val t.isLt).1 i : EReal)
      = ((outsAt0 m c (t.val - 1) (Nat.lt_of_le_of_lt (Nat.sub_le _ _) t.isLt)).2 i : EReal) + (k0_pay1 (iblk m c 0 t) (iblk m c 1 t) i : EReal) := by
  refine (congrFun (congrArg Prod.fst (outsAt0_C m c t (by omega) (by omega) h)) i).trans ?_
  dsimp only
  rw [last_eq]
  exact pay3_at _ _ _ _

/-- The four points of a block, one after another. -/
theorem block_at (q : ℕ) (hq : 4 * q + 3 < cfg0.N) (i : S2048x1024.Idx) :
    ((outsAt0 m c (4 * q + 3) hq).1 i : EReal)
      = ∑ s : Fin 4, (k0_pay1 (iblk m c 0 ⟨4 * q + s.val, by omega⟩) (iblk m c 1 ⟨4 * q + s.val, by omega⟩) i : EReal) := by
  have h0 := first_at m c ⟨4 * q, by omega⟩ (by show 4 * q % 4 = 0; omega) i
  have h1 := next_at m c ⟨4 * q + 1, by omega⟩ (by show 1 ≤ (4 * q + 1) % 4; omega) (by show ¬(4 * q + 1) % 4 = 3; omega) i
  have h2 := next_at m c ⟨4 * q + 2, by omega⟩ (by show 1 ≤ (4 * q + 2) % 4; omega) (by show ¬(4 * q + 2) % 4 = 3; omega) i
  have h3 := last_at m c ⟨4 * q + 3, hq⟩ (by show (4 * q + 3) % 4 = 3; omega) i
  rw [Fin.sum_univ_four]
  exact h3.trans (congrArg (· + _) (h2.trans (congrArg (· + _) (h1.trans (congrArg (· + _) h0)))))

/-- The array that the call leaves. -/
theorem arr : (dats m 0 c).arrAt 2 cfg0.N = out (m ((c : Thread nD τ).loc main_arg0)) (m ((c : Thread nD τ).loc main_arg1)) := by
  refine (dats m 0 c).arrAt_eq_of_covers 2 _ (by decide +kernel) fun t hf y => ?_
  obtain ⟨p, e, rfl⟩ : ∃ (p : Fin 2048) (e : Fin 1024), y = ix2 p e := ⟨y 0, y 1, eq_ix2 y⟩
  have h3 : t.val % 4 = 3 := (flush0_2 t).mp hf
  have hN := lt_N t
  obtain ⟨q, ht⟩ : ∃ q, t.val = 4 * q + 3 := ⟨t.val / 4, by omega⟩
  have hq : 4 * q + 3 < cfg0.N := ht ▸ t.isLt
  obtain rfl : t = ⟨4 * q + 3, hq⟩ := Fin.ext ht
  have hy : ((cfg0.win 2).blk ⟨4 * q + 3, hq⟩).view.emb (ix2 p e) = ix2 (row ⟨4 * q + 3, hq⟩ p) (clm ⟨4 * q + 3, hq⟩ e) := by
    blk_ext [index_2, row, clm]
  blk_simp [index_2]
  rw [after0_2]
  refine (block_at m c q hq _).trans (Finset.sum_congr rfl fun s _ => (part_at m c _ p e).trans ?_)
  have e0 : pc ⟨4 * q + s.val, by omega⟩ = s := Fin.ext (by show (4 * q + s.val) % 4 = s.val; omega)
  rw [e0]
  refine congrArg₂ (fun a b => piece (m ((c : Thread nD τ).loc main_arg0)) (m ((c : Thread nD τ).loc main_arg1)) a b s) ?_ ?_
  · refine Eq.trans (Fin.ext ?_) (congrFun hy 0).symm
    show 2048 * ((4 * q + s.val) / 8) + p.val = 2048 * ((4 * q + 3) / 8) + p.val
    omega
  · refine Eq.trans (Fin.ext ?_) (congrFun hy 1).symm
    show 1024 * ((4 * q + s.val) / 4 % 2) + e.val = 1024 * ((4 * q + 3) / 4 % 2) + e.val
    omega

end Cert.PwXIdeal.Prod

namespace Cert.Proof

open Idealize.ShloMosaic Idealize.ShloMosaic.TcCoe Idealize.SL.Sem

/-- A sum over half the columns, by its two pieces. -/
theorem sum_half_pw (f : Fin 2048 → EReal) :
    ∑ x, f x = ∑ k : Fin 1024, f ⟨k.val, by omega⟩ + ∑ k : Fin 1024, f ⟨1024 + k.val, by omega⟩ :=
  Fin.sum_univ_add (a := 1024) (b := 1024) f

theorem pw_x_algebraic : Cert.algebraic_PwXIdeal_RefPwXIdeal := by
  intro m g m' g' _ hargs
  refine ⟨fun c => Cert.PwXIdeal.Prod.out (m ((c.tc : Thread _ _).loc Cert.PwXIdeal.main_arg0)) (m ((c.tc : Thread _ _).loc Cert.PwXIdeal.main_arg1)), ?_, ?_⟩
  · exact (θ_run Cert.PwXIdeal.defs _ _).mono (fun r h c => ⟨(h c).1.trans (Cert.PwXIdeal.Prod.arr m c), (h c).2⟩) (Cert.PwXIdeal.Value.run_blocks (F := Ideal) m g)
  · refine (θ_run Cert.RefPwXIdeal.defs _ _).mono (fun r h c => ⟨(h c).1.trans ?_, (h c).2⟩) (Cert.RefPwXIdeal.Value.run (F := Ideal) m' g')
    rw [(hargs c).1, (hargs c).2]
    funext i
    obtain ⟨p, e, rfl⟩ : ∃ (p : Fin 4096) (e : Fin 2048), i = ix2 p e := ⟨i 0, i 1, Cert.PwXIdeal.Prod.eq_ix2 i⟩
    unfold Cert.PwXIdeal.Prod.out
    pointwise
    rw [Fin.sum_univ_four, sum_half_pw, sum_half_pw, ← add_assoc]
    unfold Cert.PwXIdeal.Prod.piece
    refine congrArg₂ (fun x y : EReal => x + y) (congrArg₂ (fun x y : EReal => x + y) (congrArg₂ (fun x y : EReal => x + y) ?_ ?_) ?_) ?_
    all_goals
      refine Finset.sum_congr rfl fun k _ => congrArg₂ (fun x y : EReal => x * y)
        (congrArg (m ((c.tc : Thread _ _).loc Cert.PwXIdeal.main_arg1)) (congrArg₂ (fun a b => ix3 a p b) (by decide) (Fin.ext ?_)))
        (congrArg (m ((c.tc : Thread _ _).loc Cert.PwXIdeal.main_arg0)) (congrArg (ix2 e) (Fin.ext ?_)))
      · simp [Cert.PwXIdeal.Prod.col]
      · simp [Cert.PwXIdeal.Prod.wcol]
        try omega

/-- The frame at words, of the second program's text. -/
def pwXWords : Prop :=
  ∀ (m : (ℓ : Loc Cert.PwXIdeal.nD Cert.PwXIdeal.τ Cert.PwXIdeal.sig) → Buf (Elt Bits) ℓ) (g : Dev Cert.PwXIdeal.nD → PrngReg), True →
    θ_run (Cert.PwXIdeal.defs (F := Bits)) (onTc (τ := Cert.PwXIdeal.τ) (Cert.PwXIdeal.main (F := Bits))) ⟨m, fun _ => 0, g⟩ (fun r => (∀ c : Dev Cert.PwXIdeal.nD,
      r.2.mem ((c.tc : Thread Cert.PwXIdeal.nD Cert.PwXIdeal.τ).loc Cert.PwXIdeal.main_arg0) = m ((c.tc : Thread Cert.PwXIdeal.nD Cert.PwXIdeal.τ).loc Cert.PwXIdeal.main_arg0)
      ∧ r.2.mem ((c.tc : Thread Cert.PwXIdeal.nD Cert.PwXIdeal.τ).loc Cert.PwXIdeal.main_arg1) = m ((c.tc : Thread Cert.PwXIdeal.nD Cert.PwXIdeal.τ).loc Cert.PwXIdeal.main_arg1))
      ∧ r.2.sem = fun _ => 0)

set_option maxHeartbeats 4000000 in
theorem pw_x_text : pwXWords = Cert.quiescent_PwX := by sl_kernel_rfl

theorem frame_pw_x : Cert.quiescent_PwX := pw_x_text.mp fun m ρ _ => Cert.PwXIdeal.Gen.frame (F := Bits) m ρ

theorem frame_pw_x_ideal : Cert.quiescent_PwXIdeal := fun m ρ _ => Cert.PwXIdeal.Gen.frame (F := Ideal) m ρ

theorem frame_pw_x_reference : Cert.quiescent_RefPwXIdeal := fun m ρ _ =>
  (θ_run Cert.RefPwXIdeal.defs _ _).mono (fun r h => ⟨fun c => (h c).2, Idealize.ShloMosaic.sem_eq_zero_of_no_sems (by decide) r.2⟩)
    (Cert.RefPwXIdeal.Value.run (F := Ideal) m ρ)

end Cert.Proof

end

end
-- ==== Proof.PwW.lean ====
/- The convolution mixer's first projection, its gradient to its weight: what the tiled product leaves is the whole product, in the four
   column pieces that the weight is cut into. -/
module

public import proofs.«01_k».proof.Defs
public import proofs.«01_k».proof.Proof.Gen.PwW
public import proofs.«01_k».proof.Proof.Gen.PwWIdeal.Value
public import proofs.«01_k».proof.Proof.Gen.RefPwWIdeal.Run
public import Idealize.ShloMosaic.Lib.Pointwise
public import Idealize.ShloMosaic.Lib.Pipeline.ValueKit
public import Idealize.ShloMosaic.Adequacy
public import Idealize.ShloMosaic.Init
public import Idealize.ShloMosaic.Lib.Tactic

@[expose] public section

set_option maxRecDepth 16384

noncomputable section

namespace Cert.PwWIdeal.Prod

open Idealize.ShloMosaic Idealize.ShloMosaic.TcCoe Idealize.SL.Sem Cert.PwWIdeal.Gen

theorem eq_ix3 {a b d : ℕ} (y : (⟨3, ![a, b, d]⟩ : Shape).Idx) : y = ix3 (y 0) (y 1) (y 2) := by
  funext k; fin_cases k <;> rfl

theorem hz : (![0, 0] : Fin 2 → ℕ) = fun _ => 0 := by funext k; fin_cases k <;> rfl
theorem hz3 : (![0, 0, 0] : Fin 3 → ℕ) = fun _ => 0 := by funext k; fin_cases k <;> rfl

/-- The gradient's half and column that the piece `s` of the weight has at its column `e`. -/
def half (s : Fin 4) : Fin 2 := ⟨s.val / 2, by omega⟩
def col (s : Fin 4) (e : Fin 1024) : Fin 2048 := ⟨1024 * (s.val % 2) + e.val, by omega⟩

/-- The product: columns of the input by columns of the gradient, in four column pieces. -/
def out (A : Vec Ideal S4096x2048 .bf16) (B : Vec Ideal S2x4096x2048 .bf16) : Vec Ideal S4x2048x1024 .bf16 :=
  fun i => ∑ k : Fin 4096, (A (ix2 k (i 1)) : EReal) * (B (ix3 (half (i 0)) k (col (i 0) (i 2))) : EReal)

/-- One block of the product. -/
theorem tile_at (x : Vec Ideal S4096x1024 .bf16) (y : Vec Ideal S1x4096x1024 .bf16) (p : Fin 1024) (e : Fin 1024) :
    k0_pay1 x y (ix3 (0 : Fin 1) p e) = ∑ k : Fin 4096, (x (ix2 k p) : EReal) * (y (ix3 (0 : Fin 1) k e) : EReal) := by
  pointwise [k0_pay1]

theorem index_0 : ∀ t : Fin cfg0.N, win0_0.index t = ![0, t.val / 4] := (by decide +kernel : ∀ t : Fin grid0.N, _)
theorem index_1 : ∀ t : Fin cfg0.N, win0_1.index t = ![t.val % 4 / 2, 0, t.val % 2] := (by decide +kernel : ∀ t : Fin grid0.N, _)
theorem index_2 : ∀ t : Fin cfg0.N, win0_2.index t = ![t.val % 4, t.val / 4, 0] := (by decide +kernel : ∀ t : Fin grid0.N, _)
theorem lt_N (t : Fin cfg0.N) : t.val < 8 := lt_of_lt_of_eq t.isLt (show cfg0.N = 8 from N_0)

variable (m : (ℓ : Loc nD τ sig) → Buf (Elt Ideal) ℓ) (c : Dev nD)

theorem iblk0_at (t : Fin cfg0.N) (k : Fin 4096) (p : Fin 1024) :
    iblk m c 0 t (ix2 k p) = m ((c : Thread nD τ).loc main_arg0) (ix2 k ⟨1024 * (t.val / 4) + p.val, by have := lt_N t; omega⟩) := by
  blk_simp [iblk]
  congr 1
  blk_ext [index_0]

theorem iblk1_at (t : Fin cfg0.N) (k : Fin 4096) (e : Fin 1024) :
    iblk m c 1 t (ix3 (0 : Fin 1) k e) = m ((c : Thread nD τ).loc main_arg1) (ix3 (⟨t.val % 4 / 2, by omega⟩ : Fin 2) k (⟨1024 * (t.val % 2) + e.val, by omega⟩ : Fin 2048)) := by
  blk_simp [iblk]
  congr 1
  blk_ext [index_1]

theorem out_eq (x : Vec Ideal S4096x1024 .bf16) (y : Vec Ideal S1x4096x1024 .bf16) : out0_2 x y = k0_pay1 x y := by
  unfold out0_2
  rw [View.canon_unit_zero (hz3), View.ld_unit_zero (hz), View.ld_unit_zero (hz3)]

/-- The array that the call leaves. -/
theorem arr : (dats m 0 c).arrAt 2 cfg0.N = out (m ((c : Thread nD τ).loc main_arg0)) (m ((c : Thread nD τ).loc main_arg1)) := by
  refine (dats m 0 c).arrAt_eq_of_covers 2 _ (by decide +kernel) fun t hf y => ?_
  obtain ⟨z, p, e, rfl⟩ : ∃ (z : Fin 1) (p : Fin 1024) (e : Fin 1024), y = ix3 z p e := ⟨y 0, y 1, y 2, eq_ix3 y⟩
  obtain rfl : z = 0 := Subsingleton.elim _ _
  blk_simp [index_2]
  rw [after0_2, out_eq]
  refine (tile_at _ _ _ _).trans (Finset.sum_congr rfl fun k _ => ?_)
  rw [iblk0_at, iblk1_at]
  refine congrArg₂ (fun x y : EReal => x * y) (congrArg (m ((c : Thread nD τ).loc main_arg0)) ?_) (congrArg (m ((c : Thread nD τ).loc main_arg1)) ?_)
  · blk_ext [index_2]
  · blk_ext [index_2, half, col]

end Cert.PwWIdeal.Prod

namespace Cert.Proof

open Idealize.ShloMosaic Idealize.ShloMosaic.TcCoe Idealize.SL.Sem

theorem pw_w_algebraic : Cert.algebraic_PwWIdeal_RefPwWIdeal := by
  intro m g m' g' _ hargs
  refine ⟨fun c => Cert.PwWIdeal.Prod.out (m ((c.tc : Thread _ _).loc Cert.PwWIdeal.main_arg0)) (m ((c.tc : Thread _ _).loc Cert.PwWIdeal.main_arg1)), ?_, ?_⟩
  · exact (θ_run Cert.PwWIdeal.defs _ _).mono (fun r h c => ⟨(h c).1.trans (Cert.PwWIdeal.Prod.arr m c), (h c).2⟩) (Cert.PwWIdeal.Value.run_blocks (F := Ideal) m g)
  · refine (θ_run Cert.RefPwWIdeal.defs _ _).mono (fun r h c => ⟨(h c).1.trans ?_, (h c).2⟩) (Cert.RefPwWIdeal.Value.run (F := Ideal) m' g')
    rw [(hargs c).1, (hargs c).2]
    funext i
    obtain ⟨s, p, e, rfl⟩ : ∃ (s : Fin 4) (p : Fin 2048) (e : Fin 1024), i = ix3 s p e := ⟨i 0, i 1, i 2, Cert.PwWIdeal.Prod.eq_ix3 i⟩
    unfold Cert.PwWIdeal.Prod.out
    have he := e.isLt
    fin_cases s
    all_goals
      pointwise
      refine Finset.sum_congr rfl fun k _ => (mul_comm _ _).trans (congrArg₂ (fun x y : EReal => x * y) rfl ?_)
      split_ifs with h
      all_goals first
        | (exfalso; omega)
        | (refine congrArg (m ((c.tc : Thread _ _).loc Cert.PwWIdeal.main_arg1)) (congrArg₂ (fun a b => ix3 a k b) (by decide) (Fin.ext ?_))
           simp [Cert.PwWIdeal.Prod.col]
           try omega)

/-- The frame at words, of the second program's text. -/
def pwWWords : Prop :=
  ∀ (m : (ℓ : Loc Cert.PwWIdeal.nD Cert.PwWIdeal.τ Cert.PwWIdeal.sig) → Buf (Elt Bits) ℓ) (g : Dev Cert.PwWIdeal.nD → PrngReg), True →
    θ_run (Cert.PwWIdeal.defs (F := Bits)) (onTc (τ := Cert.PwWIdeal.τ) (Cert.PwWIdeal.main (F := Bits))) ⟨m, fun _ => 0, g⟩ (fun r => (∀ c : Dev Cert.PwWIdeal.nD,
      r.2.mem ((c.tc : Thread Cert.PwWIdeal.nD Cert.PwWIdeal.τ).loc Cert.PwWIdeal.main_arg0) = m ((c.tc : Thread Cert.PwWIdeal.nD Cert.PwWIdeal.τ).loc Cert.PwWIdeal.main_arg0)
      ∧ r.2.mem ((c.tc : Thread Cert.PwWIdeal.nD Cert.PwWIdeal.τ).loc Cert.PwWIdeal.main_arg1) = m ((c.tc : Thread Cert.PwWIdeal.nD Cert.PwWIdeal.τ).loc Cert.PwWIdeal.main_arg1))
      ∧ r.2.sem = fun _ => 0)

set_option maxHeartbeats 4000000 in
theorem pw_w_text : pwWWords = Cert.quiescent_PwW := by sl_kernel_rfl

theorem frame_pw_w : Cert.quiescent_PwW := pw_w_text.mp fun m ρ _ => Cert.PwWIdeal.Gen.frame (F := Bits) m ρ

theorem frame_pw_w_ideal : Cert.quiescent_PwWIdeal := fun m ρ _ => Cert.PwWIdeal.Gen.frame (F := Ideal) m ρ

theorem frame_pw_w_reference : Cert.quiescent_RefPwWIdeal := fun m ρ _ =>
  (θ_run Cert.RefPwWIdeal.defs _ _).mono (fun r h => ⟨fun c => (h c).2, Idealize.ShloMosaic.sem_eq_zero_of_no_sems (by decide) r.2⟩)
    (Cert.RefPwWIdeal.Value.run (F := Ideal) m ρ)

end Cert.Proof

end

end
-- ==== Proof.Out.lean ====
/- The projection out of the mixer: what the tiled product leaves is the whole product. -/
module

public import proofs.«01_k».proof.Defs
public import proofs.«01_k».proof.Proof.Gen.Out
public import proofs.«01_k».proof.Proof.Gen.OutIdeal.Value
public import proofs.«01_k».proof.Proof.Gen.RefOutIdeal.Run
public import Idealize.ShloMosaic.Lib.Pointwise
public import Idealize.ShloMosaic.Lib.Pipeline.ValueKit
public import Idealize.ShloMosaic.Adequacy
public import Idealize.ShloMosaic.Init
public import Idealize.ShloMosaic.Lib.Tactic

@[expose] public section

set_option maxRecDepth 16384

noncomputable section

namespace Cert.OutIdeal.Prod

open Idealize.ShloMosaic Idealize.ShloMosaic.TcCoe Idealize.SL.Sem Cert.OutIdeal.Gen

/-- The product: rows of the input by columns of the weight. -/
def out (A : Vec Ideal S4096x2048 .bf16) (B : Vec Ideal S2048x2048 .bf16) : Vec Ideal S4096x2048 .bf16 :=
  fun i => ∑ k : Fin 2048, (A (ix2 (i 0) k) : EReal) * (B (ix2 k (i 1)) : EReal)

/-- One block of the product. -/
theorem tile_at (x : Vec Ideal S2048x2048 .bf16) (y : Vec Ideal S2048x1024 .bf16) (p : Fin 2048) (e : Fin 1024) :
    k0_pay1 x y (ix2 p e) = ∑ k : Fin 2048, (x (ix2 p k) : EReal) * (y (ix2 k e) : EReal) := by
  pointwise [k0_pay1]

theorem index_0 : ∀ t : Fin cfg0.N, win0_0.index t = ![t.val / 2, 0] := (by decide +kernel : ∀ t : Fin grid0.N, _)
theorem index_1 : ∀ t : Fin cfg0.N, win0_1.index t = ![0, t.val % 2] := (by decide +kernel : ∀ t : Fin grid0.N, _)
theorem index_2 : ∀ t : Fin cfg0.N, win0_2.index t = ![t.val / 2, t.val % 2] := (by decide +kernel : ∀ t : Fin grid0.N, _)
theorem lt_N (t : Fin cfg0.N) : t.val < 4 := lt_of_lt_of_eq t.isLt (show cfg0.N = 4 from N_0)

variable (m : (ℓ : Loc nD τ sig) → Buf (Elt Ideal) ℓ) (c : Dev nD)

theorem iblk0_at (t : Fin cfg0.N) (p : Fin 2048) (k : Fin 2048) :
    iblk m c 0 t (ix2 p k) = m ((c : Thread nD τ).loc main_arg0) (ix2 ⟨2048 * (t.val / 2) + p.val, by have := lt_N t; omega⟩ k) := by
  blk_simp [iblk]
  congr 1
  blk_ext [index_0]

theorem iblk1_at (t : Fin cfg0.N) (k : Fin 2048) (e : Fin 1024) :
    iblk m c 1 t (ix2 k e) = m ((c : Thread nD τ).loc main_arg1) (ix2 k ⟨1024 * (t.val % 2) + e.val, by have := lt_N t; omega⟩) := by
  blk_simp [iblk]
  congr 1
  blk_ext [index_1]

theorem eq_ix2 {n m : ℕ} (y : (⟨2, ![n, m]⟩ : Shape).Idx) : y = ix2 (y 0) (y 1) := by
  funext k; fin_cases k <;> rfl

theorem hz : (![0, 0] : Fin 2 → ℕ) = fun _ => 0 := by funext k; fin_cases k <;> rfl

theorem out_eq (x : Vec Ideal S2048x2048 .bf16) (y : Vec Ideal S2048x1024 .bf16) : out0_2 x y = k0_pay1 x y := by
  unfold out0_2
  rw [View.canon_unit_zero (hz), View.ld_unit_zero (hz), View.ld_unit_zero (hz)]

/-- The array that the call leaves. -/
theorem arr : (dats m 0 c).arrAt 2 cfg0.N = out (m ((c : Thread nD τ).loc main_arg0)) (m ((c : Thread nD τ).loc main_arg1)) := by
  refine (dats m 0 c).arrAt_eq_of_covers 2 _ (by decide +kernel) fun t hf y => ?_
  obtain ⟨p, e, rfl⟩ : ∃ (p : Fin 2048) (e : Fin 1024), y = ix2 p e := ⟨y 0, y 1, eq_ix2 y⟩
  blk_simp [index_2]
  rw [after0_2, out_eq]
  refine (tile_at _ _ _ _).trans (Finset.sum_congr rfl fun k _ => ?_)
  rw [iblk0_at, iblk1_at]
  refine congrArg₂ (fun x y : EReal => x * y) (congrArg (m ((c : Thread nD τ).loc main_arg0)) ?_) (congrArg (m ((c : Thread nD τ).loc main_arg1)) ?_)
  · blk_ext [index_2]
  · blk_ext [index_2]

end Cert.OutIdeal.Prod

namespace Cert.Proof

open Idealize.ShloMosaic Idealize.ShloMosaic.TcCoe Idealize.SL.Sem

theorem out_algebraic : Cert.algebraic_OutIdeal_RefOutIdeal := by
  intro m g m' g' _ hargs
  refine ⟨fun c => Cert.OutIdeal.Prod.out (m ((c.tc : Thread _ _).loc Cert.OutIdeal.main_arg0)) (m ((c.tc : Thread _ _).loc Cert.OutIdeal.main_arg1)), ?_, ?_⟩
  · exact (θ_run Cert.OutIdeal.defs _ _).mono (fun r h c => ⟨(h c).1.trans (Cert.OutIdeal.Prod.arr m c), (h c).2⟩) (Cert.OutIdeal.Value.run_blocks (F := Ideal) m g)
  · refine (θ_run Cert.RefOutIdeal.defs _ _).mono (fun r h c => ⟨(h c).1.trans ?_, (h c).2⟩) (Cert.RefOutIdeal.Value.run (F := Ideal) m' g')
    rw [(hargs c).1, (hargs c).2]
    funext i
    rw [Cert.OutIdeal.Prod.eq_ix2 i]
    unfold Cert.OutIdeal.Prod.out
    pointwise

/-- The frame at words, of the second program's text. -/
def outPWords : Prop :=
  ∀ (m : (ℓ : Loc Cert.OutIdeal.nD Cert.OutIdeal.τ Cert.OutIdeal.sig) → Buf (Elt Bits) ℓ) (g : Dev Cert.OutIdeal.nD → PrngReg), True →
    θ_run (Cert.OutIdeal.defs (F := Bits)) (onTc (τ := Cert.OutIdeal.τ) (Cert.OutIdeal.main (F := Bits))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

set_option maxHeartbeats 4000000 in
theorem out_text : outPWords = Cert.quiescent_Out := by sl_kernel_rfl

theorem frame_out : Cert.quiescent_Out := out_text.mp fun m ρ _ => Cert.OutIdeal.Gen.frame (F := Bits) m ρ

theorem frame_out_ideal : Cert.quiescent_OutIdeal := fun m ρ _ => Cert.OutIdeal.Gen.frame (F := Ideal) m ρ

theorem frame_out_reference : Cert.quiescent_RefOutIdeal := fun m ρ _ =>
  (θ_run Cert.RefOutIdeal.defs _ _).mono (fun r h => ⟨fun c => (h c).2, Idealize.ShloMosaic.sem_eq_zero_of_no_sems (by decide) r.2⟩)
    (Cert.RefOutIdeal.Value.run (F := Ideal) m ρ)

end Cert.Proof

end

end
-- ==== Proof.OutX.lean ====
/- The mixer's out projection, its gradient to its input: what the tiled product leaves is the whole product. -/
module

public import proofs.«01_k».proof.Defs
public import proofs.«01_k».proof.Proof.Gen.OutX
public import proofs.«01_k».proof.Proof.Gen.OutXIdeal.Value
public import proofs.«01_k».proof.Proof.Gen.RefOutXIdeal.Run
public import Idealize.ShloMosaic.Lib.Pointwise
public import Idealize.ShloMosaic.Lib.Pipeline.ValueKit
public import Idealize.ShloMosaic.Adequacy
public import Idealize.ShloMosaic.Init
public import Idealize.ShloMosaic.Lib.Tactic

@[expose] public section

set_option maxRecDepth 16384

noncomputable section

namespace Cert.OutXIdeal.Prod

open Idealize.ShloMosaic Idealize.ShloMosaic.TcCoe Idealize.SL.Sem Cert.OutXIdeal.Gen

/-- The product: rows of the gradient by rows of the weight. -/
def out (B : Vec Ideal S2048x2048 .bf16) (A : Vec Ideal S4096x2048 .bf16) : Vec Ideal S4096x2048 .bf16 :=
  fun i => ∑ k : Fin 2048, (A (ix2 (i 0) k) : EReal) * (B (ix2 (i 1) k) : EReal)

/-- One block of the product. -/
theorem tile_at (x : Vec Ideal S2048x2048 .bf16) (y : Vec Ideal S1024x2048 .bf16) (p : Fin 2048) (e : Fin 1024) :
    k0_pay1 x y (ix2 p e) = ∑ k : Fin 2048, (x (ix2 p k) : EReal) * (y (ix2 e k) : EReal) := by
  pointwise [k0_pay1]

theorem index_0 : ∀ t : Fin cfg0.N, win0_0.index t = ![t.val / 2, 0] := (by decide +kernel : ∀ t : Fin grid0.N, _)
theorem index_1 : ∀ t : Fin cfg0.N, win0_1.index t = ![t.val % 2, 0] := (by decide +kernel : ∀ t : Fin grid0.N, _)
theorem index_2 : ∀ t : Fin cfg0.N, win0_2.index t = ![t.val / 2, t.val % 2] := (by decide +kernel : ∀ t : Fin grid0.N, _)
theorem lt_N (t : Fin cfg0.N) : t.val < 4 := lt_of_lt_of_eq t.isLt (show cfg0.N = 4 from N_0)

variable (m : (ℓ : Loc nD τ sig) → Buf (Elt Ideal) ℓ) (c : Dev nD)

theorem iblk0_at (t : Fin cfg0.N) (p : Fin 2048) (k : Fin 2048) :
    iblk m c 0 t (ix2 p k) = m ((c : Thread nD τ).loc main_arg1) (ix2 ⟨2048 * (t.val / 2) + p.val, by have := lt_N t; omega⟩ k) := by
  blk_simp [iblk]
  congr 1
  blk_ext [index_0]

theorem iblk1_at (t : Fin cfg0.N) (e : Fin 1024) (k : Fin 2048) :
    iblk m c 1 t (ix2 e k) = m ((c : Thread nD τ).loc main_arg0) (ix2 ⟨1024 * (t.val % 2) + e.val, by have := lt_N t; omega⟩ k) := by
  blk_simp [iblk]
  congr 1
  blk_ext [index_1]

theorem eq_ix2 {n m : ℕ} (y : (⟨2, ![n, m]⟩ : Shape).Idx) : y = ix2 (y 0) (y 1) := by
  funext k; fin_cases k <;> rfl

theorem hz : (![0, 0] : Fin 2 → ℕ) = fun _ => 0 := by funext k; fin_cases k <;> rfl

theorem out_eq (x : Vec Ideal S2048x2048 .bf16) (y : Vec Ideal S1024x2048 .bf16) : out0_2 x y = k0_pay1 x y := by
  unfold out0_2
  rw [View.canon_unit_zero (hz), View.ld_unit_zero (hz), View.ld_unit_zero (hz)]

/-- The array that the call leaves. -/
theorem arr : (dats m 0 c).arrAt 2 cfg0.N = out (m ((c : Thread nD τ).loc main_arg0)) (m ((c : Thread nD τ).loc main_arg1)) := by
  refine (dats m 0 c).arrAt_eq_of_covers 2 _ (by decide +kernel) fun t hf y => ?_
  obtain ⟨p, e, rfl⟩ : ∃ (p : Fin 2048) (e : Fin 1024), y = ix2 p e := ⟨y 0, y 1, eq_ix2 y⟩
  blk_simp [index_2]
  rw [after0_2, out_eq]
  refine (tile_at _ _ _ _).trans (Finset.sum_congr rfl fun k _ => ?_)
  rw [iblk0_at, iblk1_at]
  refine congrArg₂ (fun x y : EReal => x * y) (congrArg (m ((c : Thread nD τ).loc main_arg1)) ?_) (congrArg (m ((c : Thread nD τ).loc main_arg0)) ?_)
  · blk_ext [index_2]
  · blk_ext [index_2]

end Cert.OutXIdeal.Prod

namespace Cert.Proof

open Idealize.ShloMosaic Idealize.ShloMosaic.TcCoe Idealize.SL.Sem

theorem out_x_algebraic : Cert.algebraic_OutXIdeal_RefOutXIdeal := by
  intro m g m' g' _ hargs
  refine ⟨fun c => Cert.OutXIdeal.Prod.out (m ((c.tc : Thread _ _).loc Cert.OutXIdeal.main_arg0)) (m ((c.tc : Thread _ _).loc Cert.OutXIdeal.main_arg1)), ?_, ?_⟩
  · exact (θ_run Cert.OutXIdeal.defs _ _).mono (fun r h c => ⟨(h c).1.trans (Cert.OutXIdeal.Prod.arr m c), (h c).2⟩) (Cert.OutXIdeal.Value.run_blocks (F := Ideal) m g)
  · refine (θ_run Cert.RefOutXIdeal.defs _ _).mono (fun r h c => ⟨(h c).1.trans ?_, (h c).2⟩) (Cert.RefOutXIdeal.Value.run (F := Ideal) m' g')
    rw [(hargs c).1, (hargs c).2]
    funext i
    rw [Cert.OutXIdeal.Prod.eq_ix2 i]
    unfold Cert.OutXIdeal.Prod.out
    pointwise

/-- The frame at words, of the second program's text. -/
def outXWords : Prop :=
  ∀ (m : (ℓ : Loc Cert.OutXIdeal.nD Cert.OutXIdeal.τ Cert.OutXIdeal.sig) → Buf (Elt Bits) ℓ) (g : Dev Cert.OutXIdeal.nD → PrngReg), True →
    θ_run (Cert.OutXIdeal.defs (F := Bits)) (onTc (τ := Cert.OutXIdeal.τ) (Cert.OutXIdeal.main (F := Bits))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ r.2.sem = fun _ => 0)

set_option maxHeartbeats 4000000 in
theorem out_x_text : outXWords = Cert.quiescent_OutX := by sl_kernel_rfl

theorem frame_out_x : Cert.quiescent_OutX := out_x_text.mp fun m ρ _ => Cert.OutXIdeal.Gen.frame (F := Bits) m ρ

theorem frame_out_x_ideal : Cert.quiescent_OutXIdeal := fun m ρ _ => Cert.OutXIdeal.Gen.frame (F := Ideal) m ρ

theorem frame_out_x_reference : Cert.quiescent_RefOutXIdeal := fun m ρ _ =>
  (θ_run Cert.RefOutXIdeal.defs _ _).mono (fun r h => ⟨fun c => (h c).2, Idealize.ShloMosaic.sem_eq_zero_of_no_sems (by decide) r.2⟩)
    (Cert.RefOutXIdeal.Value.run (F := Ideal) m ρ)

end Cert.Proof

end

end
-- ==== Proof.OutW.lean ====
/- The mixer's out projection, its gradient to its weight: what the tiled product leaves is the whole product. -/
module

public import proofs.«01_k».proof.Defs
public import proofs.«01_k».proof.Proof.Gen.OutW
public import proofs.«01_k».proof.Proof.Gen.OutWIdeal.Value
public import proofs.«01_k».proof.Proof.Gen.RefOutWIdeal.Run
public import Idealize.ShloMosaic.Lib.Pointwise
public import Idealize.ShloMosaic.Lib.Pipeline.ValueKit
public import Idealize.ShloMosaic.Adequacy
public import Idealize.ShloMosaic.Init
public import Idealize.ShloMosaic.Lib.Tactic

@[expose] public section

set_option maxRecDepth 16384

noncomputable section

namespace Cert.OutWIdeal.Prod

open Idealize.ShloMosaic Idealize.ShloMosaic.TcCoe Idealize.SL.Sem Cert.OutWIdeal.Gen

/-- The product: columns of the input by columns of the gradient. -/
def out (A : Vec Ideal S4096x2048 .bf16) (B : Vec Ideal S4096x2048 .bf16) : Vec Ideal S2048x2048 .bf16 :=
  fun i => ∑ k : Fin 4096, (A (ix2 k (i 0)) : EReal) * (B (ix2 k (i 1)) : EReal)

/-- One block of the product. -/
theorem tile_at (x : Vec Ideal S4096x1024 .bf16) (y : Vec Ideal S4096x1024 .bf16) (p : Fin 1024) (e : Fin 1024) :
    k0_pay1 x y (ix2 p e) = ∑ k : Fin 4096, (x (ix2 k p) : EReal) * (y (ix2 k e) : EReal) := by
  pointwise [k0_pay1]

theorem index_0 : ∀ t : Fin cfg0.N, win0_0.index t = ![0, t.val / 2] := (by decide +kernel : ∀ t : Fin grid0.N, _)
theorem index_1 : ∀ t : Fin cfg0.N, win0_1.index t = ![0, t.val % 2] := (by decide +kernel : ∀ t : Fin grid0.N, _)
theorem index_2 : ∀ t : Fin cfg0.N, win0_2.index t = ![t.val / 2, t.val % 2] := (by decide +kernel : ∀ t : Fin grid0.N, _)
theorem lt_N (t : Fin cfg0.N) : t.val < 4 := lt_of_lt_of_eq t.isLt (show cfg0.N = 4 from N_0)

variable (m : (ℓ : Loc nD τ sig) → Buf (Elt Ideal) ℓ) (c : Dev nD)

theorem iblk0_at (t : Fin cfg0.N) (k : Fin 4096) (p : Fin 1024) :
    iblk m c 0 t (ix2 k p) = m ((c : Thread nD τ).loc main_arg0) (ix2 k ⟨1024 * (t.val / 2) + p.val, by have := lt_N t; omega⟩) := by
  blk_simp [iblk]
  congr 1
  blk_ext [index_0]

theorem iblk1_at (t : Fin cfg0.N) (k : Fin 4096) (e : Fin 1024) :
    iblk m c 1 t (ix2 k e) = m ((c : Thread nD τ).loc main_arg1) (ix2 k ⟨1024 * (t.val % 2) + e.val, by have := lt_N t; omega⟩) := by
  blk_simp [iblk]
  congr 1
  blk_ext [index_1]

theorem eq_ix2 {n m : ℕ} (y : (⟨2, ![n, m]⟩ : Shape).Idx) : y = ix2 (y 0) (y 1) := by
  funext k; fin_cases k <;> rfl

theorem hz : (![0, 0] : Fin 2 → ℕ) = fun _ => 0 := by funext k; fin_cases k <;> rfl

theorem out_eq (x : Vec Ideal S4096x1024 .bf16) (y : Vec Ideal S4096x1024 .bf16) : out0_2 x y = k0_pay1 x y := by
  unfold out0_2
  rw [View.canon_unit_zero (hz), View.ld_unit_zero (hz), View.ld_unit_zero (hz)]

/-- The array that the call leaves. -/
theorem arr : (dats m 0 c).arrAt 2 cfg0.N = out (m ((c : Thread nD τ).loc main_arg0)) (m ((c : Thread nD τ).loc main_arg1)) := by
  refine (dats m 0 c).arrAt_eq_of_covers 2 _ (by decide +kernel) fun t hf y => ?_
  obtain ⟨p, e, rfl⟩ : ∃ (p : Fin 1024) (e : Fin 1024), y = ix2 p e := ⟨y 0, y 1, eq_ix2 y⟩
  blk_simp [index_2]
  rw [after0_2, out_eq]
  refine (tile_at _ _ _ _).trans (Finset.sum_congr rfl fun k _ => ?_)
  rw [iblk0_at, iblk1_at]
  refine congrArg₂ (fun x y : EReal => x * y) (congrArg (m ((c : Thread nD τ).loc main_arg0)) ?_) (congrArg (m ((c : Thread nD τ).loc main_arg1)) ?_)
  · blk_ext [index_2]
  · blk_ext [index_2]

end Cert.OutWIdeal.Prod

namespace Cert.Proof

open Idealize.ShloMosaic Idealize.ShloMosaic.TcCoe Idealize.SL.Sem

theorem out_w_algebraic : Cert.algebraic_OutWIdeal_RefOutWIdeal := by
  intro m g m' g' _ hargs
  refine ⟨fun c => Cert.OutWIdeal.Prod.out (m ((c.tc : Thread _ _).loc Cert.OutWIdeal.main_arg0)) (m ((c.tc : Thread _ _).loc Cert.OutWIdeal.main_arg1)), ?_, ?_⟩
  · exact (θ_run Cert.OutWIdeal.defs _ _).mono (fun r h c => ⟨(h c).1.trans (Cert.OutWIdeal.Prod.arr m c), (h c).2⟩) (Cert.OutWIdeal.Value.run_blocks (F := Ideal) m g)
  · refine (θ_run Cert.RefOutWIdeal.defs _ _).mono (fun r h c => ⟨(h c).1.trans ?_, (h c).2⟩) (Cert.RefOutWIdeal.Value.run (F := Ideal) m' g')
    rw [(hargs c).1, (hargs c).2]
    funext i
    rw [Cert.OutWIdeal.Prod.eq_ix2 i]
    unfold Cert.OutWIdeal.Prod.out
    pointwise
    exact Finset.sum_congr rfl fun k _ => mul_comm _ _

/-- The frame at words, of the second program's text. -/
def outWWords : Prop :=
  ∀ (m : (ℓ : Loc Cert.OutWIdeal.nD Cert.OutWIdeal.τ Cert.OutWIdeal.sig) → Buf (Elt Bits) ℓ) (g : Dev Cert.OutWIdeal.nD → PrngReg), True →
    θ_run (Cert.OutWIdeal.defs (F := Bits)) (onTc (τ := Cert.OutWIdeal.τ) (Cert.OutWIdeal.main (F := Bits))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

set_option maxHeartbeats 4000000 in
theorem out_w_text : outWWords = Cert.quiescent_OutW := by sl_kernel_rfl

theorem frame_out_w : Cert.quiescent_OutW := out_w_text.mp fun m ρ _ => Cert.OutWIdeal.Gen.frame (F := Bits) m ρ

theorem frame_out_w_ideal : Cert.quiescent_OutWIdeal := fun m ρ _ => Cert.OutWIdeal.Gen.frame (F := Ideal) m ρ

theorem frame_out_w_reference : Cert.quiescent_RefOutWIdeal := fun m ρ _ =>
  (θ_run Cert.RefOutWIdeal.defs _ _).mono (fun r h => ⟨fun c => (h c).2, Idealize.ShloMosaic.sem_eq_zero_of_no_sems (by decide) r.2⟩)
    (Cert.RefOutWIdeal.Value.run (F := Ideal) m ρ)

end Cert.Proof

end

end
-- ==== Proof.In.lean ====
/- The projection into the latent tokens' queries, keys and values: what the tiled product leaves, of the weight cut
   into four column pieces, is the product with the columns after the first piece. -/
module

public import proofs.«01_k».proof.Defs
public import proofs.«01_k».proof.Proof.Gen.In
public import proofs.«01_k».proof.Proof.Gen.InIdeal.Value
public import proofs.«01_k».proof.Proof.Gen.RefInIdeal.Run
public import Idealize.ShloMosaic.Lib.Pointwise
public import Idealize.ShloMosaic.Lib.Pipeline.ValueKit
public import Idealize.ShloMosaic.Adequacy
public import Idealize.ShloMosaic.Init
public import Idealize.ShloMosaic.Lib.Tactic

@[expose] public section

set_option maxRecDepth 16384

noncomputable section

namespace Cert.InIdeal.Prod

open Idealize.ShloMosaic Idealize.ShloMosaic.TcCoe Idealize.SL.Sem Cert.InIdeal.Gen

theorem eq_ix2 {a b : ℕ} (y : (⟨2, ![a, b]⟩ : Shape).Idx) : y = ix2 (y 0) (y 1) := by
  funext k; fin_cases k <;> rfl

theorem hz : (![0, 0] : Fin 2 → ℕ) = fun _ => 0 := by funext k; fin_cases k <;> rfl
theorem hz3 : (![0, 0, 0] : Fin 3 → ℕ) = fun _ => 0 := by funext k; fin_cases k <;> rfl

/-- The product: rows of the input by the columns of the weight after its first piece. -/
def out (A : Vec Ideal S4096x2048 .bf16) (B : Vec Ideal S2048x4096 .bf16) : Vec Ideal S4096x3072 .bf16 :=
  fun i => ∑ k : Fin 2048, (A (ix2 (i 0) k) : EReal) * (B (ix2 k ⟨1024 + (i 1).val, by
    have h1 : (i 1).val < 3072 := (i 1).isLt
    omega⟩) : EReal)

/-- One block of the product. -/
theorem tile_at (x : Vec Ideal S2048x2048 .bf16) (y : Vec Ideal S1x2048x1024 .bf16) (p : Fin 2048) (e : Fin 1024) :
    k0_pay1 x y (ix2 p e) = ∑ k : Fin 2048, (x (ix2 p k) : EReal) * (y (ix3 (0 : Fin 1) k e) : EReal) := by
  pointwise [k0_pay1]

theorem index_0 : ∀ t : Fin cfg0.N, win0_0.index t = ![t.val / 3, 0] := (by decide +kernel : ∀ t : Fin grid0.N, _)
theorem index_1 : ∀ t : Fin cfg0.N, win0_1.index t = ![1 + t.val % 3, 0, 0] := (by decide +kernel : ∀ t : Fin grid0.N, _)
theorem index_2 : ∀ t : Fin cfg0.N, win0_2.index t = ![t.val / 3, t.val % 3] := (by decide +kernel : ∀ t : Fin grid0.N, _)
theorem lt_N (t : Fin cfg0.N) : t.val < 6 := lt_of_lt_of_eq t.isLt (show cfg0.N = 6 from N_0)

/-- The pieces of the weight, at coordinates. -/
theorem pieces_at (w : Vec Ideal S2048x4096 .bf16) (s : Fin 4) (k : Fin 2048) (e : Fin 1024) :
    (transpose S4x2048x1024 [1, 0, 2] (shapeCast S2048x4x1024 w shapeCasts_S2048x4096_S2048x4x1024) transposes_S2048x4x1024_S4x2048x1024_1_0_2) (ix3 s k e)
      = w (ix2 k ⟨1024 * s.val + e.val, by omega⟩) := by
  pointwise
  refine congrArg w (congrArg (ix2 k) (Fin.ext ?_))
  show s.val * 1024 + e.val = 1024 * s.val + e.val
  omega

variable (m : (ℓ : Loc nD τ sig) → Buf (Elt Ideal) ℓ) (c : Dev nD)

theorem V_pieces : V m c main_v1 = transpose S4x2048x1024 [1, 0, 2] (shapeCast S2048x4x1024 (m ((c : Thread nD τ).loc main_arg1)) shapeCasts_S2048x4096_S2048x4x1024) transposes_S2048x4x1024_S4x2048x1024_1_0_2 := by
  unfold V
  after_results
  rfl

theorem iblk0_at (t : Fin cfg0.N) (p : Fin 2048) (k : Fin 2048) :
    iblk m c 0 t (ix2 p k) = m ((c : Thread nD τ).loc main_arg0) (ix2 ⟨2048 * (t.val / 3) + p.val, by have := lt_N t; omega⟩ k) := by
  rw [← V_main_arg0 m c]
  blk_simp [iblk]
  refine congrArg (V m c main_arg0) ?_
  blk_ext [index_0]

theorem iblk1_at (t : Fin cfg0.N) (k : Fin 2048) (e : Fin 1024) :
    iblk m c 1 t (ix3 (0 : Fin 1) k e) = m ((c : Thread nD τ).loc main_arg1) (ix2 k ⟨1024 * (1 + t.val % 3) + e.val, by have := lt_N t; omega⟩) := by
  have h : iblk m c 1 t (ix3 (0 : Fin 1) k e) = V m c main_v1 (ix3 (⟨1 + t.val % 3, by omega⟩ : Fin 4) k e) := by
    blk_simp [iblk]
    refine congrArg (V m c main_v1) ?_
    blk_ext [index_1]
  rw [h, V_pieces, pieces_at]

theorem out_eq (x : Vec Ideal S2048x2048 .bf16) (y : Vec Ideal S1x2048x1024 .bf16) : out0_2 x y = k0_pay1 x y := by
  unfold out0_2
  rw [View.canon_unit_zero (hz), View.ld_unit_zero (hz), View.ld_unit_zero (hz3)]

/-- The array that the call leaves. -/
theorem arr : (dats m 0 c).arrAt 2 cfg0.N = out (m ((c : Thread nD τ).loc main_arg0)) (m ((c : Thread nD τ).loc main_arg1)) := by
  refine (dats m 0 c).arrAt_eq_of_covers 2 _ (by decide +kernel) fun t hf y => ?_
  obtain ⟨p, e, rfl⟩ : ∃ (p : Fin 2048) (e : Fin 1024), y = ix2 p e := ⟨y 0, y 1, eq_ix2 y⟩
  blk_simp [index_2]
  rw [after0_2, out_eq]
  refine (tile_at _ _ _ _).trans (Finset.sum_congr rfl fun k _ => ?_)
  rw [iblk0_at, iblk1_at]
  refine congrArg₂ (fun x y : EReal => x * y) (congrArg (m ((c : Thread nD τ).loc main_arg0)) ?_) (congrArg (m ((c : Thread nD τ).loc main_arg1)) ?_)
  · blk_ext [index_2]
  · blk_ext [index_2]

end Cert.InIdeal.Prod

namespace Cert.Proof

open Idealize.ShloMosaic Idealize.ShloMosaic.TcCoe Idealize.SL.Sem

theorem in_algebraic : Cert.algebraic_InIdeal_RefInIdeal := by
  intro m g m' g' _ hargs
  refine ⟨fun c => Cert.InIdeal.Prod.out (m ((c.tc : Thread _ _).loc Cert.InIdeal.main_arg0)) (m ((c.tc : Thread _ _).loc Cert.InIdeal.main_arg1)), ?_, ?_⟩
  · exact (θ_run Cert.InIdeal.defs _ _).mono (fun r h c => ⟨(h c).1.trans (Cert.InIdeal.Prod.arr m c), (h c).2⟩) (Cert.InIdeal.Value.run_blocks (F := Ideal) m g)
  · refine (θ_run Cert.RefInIdeal.defs _ _).mono (fun r h c => ⟨(h c).1.trans ?_, (h c).2⟩) (Cert.RefInIdeal.Value.run (F := Ideal) m' g')
    rw [(hargs c).1, (hargs c).2]
    funext i
    obtain ⟨p, e, rfl⟩ : ∃ (p : Fin 4096) (e : Fin 3072), i = ix2 p e := ⟨i 0, i 1, Cert.InIdeal.Prod.eq_ix2 i⟩
    unfold Cert.InIdeal.Prod.out
    pointwise
    split_ifs with h h'
    · rfl
    all_goals
      refine Finset.sum_congr rfl fun k _ => congrArg₂ (fun x y : EReal => x * y) rfl
        (congrArg (m ((c.tc : Thread _ _).loc Cert.InIdeal.main_arg1)) (congrArg (ix2 k) (Fin.ext ?_)))
      dsimp only
      try omega

/-- The frame at words, of the second program's text. -/
def inWords : Prop :=
  ∀ (m : (ℓ : Loc Cert.InIdeal.nD Cert.InIdeal.τ Cert.InIdeal.sig) → Buf (Elt Bits) ℓ) (g : Dev Cert.InIdeal.nD → PrngReg), True →
    θ_run (Cert.InIdeal.defs (F := Bits)) (onTc (τ := Cert.InIdeal.τ) (Cert.InIdeal.main (F := Bits))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

set_option maxHeartbeats 4000000 in
theorem in_text : inWords = Cert.quiescent_In := by sl_kernel_rfl

theorem frame_in : Cert.quiescent_In := in_text.mp fun m ρ _ => Cert.InIdeal.Gen.frame (F := Bits) m ρ

theorem frame_in_ideal : Cert.quiescent_InIdeal := fun m ρ _ => Cert.InIdeal.Gen.frame (F := Ideal) m ρ

theorem frame_in_reference : Cert.quiescent_RefInIdeal := fun m ρ _ =>
  (θ_run Cert.RefInIdeal.defs _ _).mono (fun r h => ⟨fun c => (h c).2, Idealize.ShloMosaic.sem_eq_zero_of_no_sems (by decide) r.2⟩)
    (Cert.RefInIdeal.Value.run (F := Ideal) m ρ)

end Cert.Proof

end

end
-- ==== Proof.InX.lean ====
/- The state space and attention mixer's input projection, its gradient to its input: what the products of the four
   pieces' gradients, accumulated one after another, leave is the product of their concatenation by the whole weight. -/
module

public import proofs.«01_k».proof.Defs
public import proofs.«01_k».proof.Proof.Gen.InX
public import proofs.«01_k».proof.Proof.Gen.InXIdeal.Value
public import proofs.«01_k».proof.Proof.Gen.RefInXIdeal.Run
public import Idealize.ShloMosaic.Lib.Pointwise
public import Idealize.ShloMosaic.Lib.Pipeline.ValueKit
public import Idealize.ShloMosaic.Adequacy
public import Idealize.ShloMosaic.Init
public import Idealize.ShloMosaic.Lib.Tactic

@[expose] public section

set_option maxRecDepth 16384

noncomputable section

namespace Cert.InXIdeal.Prod

open Idealize.ShloMosaic Idealize.ShloMosaic.TcCoe Idealize.SL.Sem Cert.InXIdeal.Gen

theorem eq_ix2 {a b : ℕ} (y : (⟨2, ![a, b]⟩ : Shape).Idx) : y = ix2 (y 0) (y 1) := by
  funext k; fin_cases k <;> rfl

theorem hz : (![0, 0] : Fin 2 → ℕ) = fun _ => 0 := by funext k; fin_cases k <;> rfl
theorem hz3 : (![0, 0, 0] : Fin 3 → ℕ) = fun _ => 0 := by funext k; fin_cases k <;> rfl

/-! ## What a point leaves -/

section
variable {F : FTy → Type} [FloatOps F]

/-- The first piece's point leaves its product in the accumulator. -/
theorem first_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024x1024 .bf16) (harg7 : arg7.IsWhole) (arg8 : Memref sig .tc .vmem S1024x1024 .bf16) (harg8 : arg8.IsWhole)
    (arg9 : Memref sig .tc .vmem S1024x1024 .f32) (harg9 : arg9.IsWhole) (hc0 : cond0_0 i) (hc1 : ¬cond0_1 i) (hc2 : ¬cond0_2 i) (hc3 : ¬cond0_3 i) (hc4 : ¬cond0_4 i)
    (x0 : Vec F S1024x1024 .bf16) (x1 : Vec F S1024x1024 .bf16) (x2 : Vec F S1024x1024 .f32) (x3 : Vec F S1024x1024 .f32) (x4 : Vec F S1x1024x1024 .bf16) :
    sout0_A_0 c i arg3 harg3 arg4 harg4 arg5 harg5 arg6 harg6 arg7 harg7 arg8 harg8 arg9 harg9 hc0 hc1 hc2 hc3 hc4 x0 x1 x2 x3 x4 = k0_pay1 x0 x4 := by
  unfold sout0_A_0
  rw [View.read_writes_eq_canon _ _ _ (scover0_A_0 c i arg3 harg3 arg4 harg4 arg5 harg5 arg6 harg6 arg7 harg7 arg8 harg8 arg9 harg9 hc0 hc1 hc2 hc3 hc4 x0 x1 x2 x3 x4)]
  unfold kernelRun0_A
  dsimp only
  sl_unfold_words
  rw [View.canon_unit_zero (S := S1024x1024) hz]
  simp only [View.readAt_eq_ld, harg3.read_unread, harg7.read_unread, View.ld_unit_zero (S := S1024x1024) hz, View.ld_unit_zero (S := S1x1024x1024) hz3]

/-- The second piece's point adds its product to the accumulator. -/
theorem second_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024x1024 .bf16) (harg7 : arg7.IsWhole) (arg8 : Memref sig .tc .vmem S1024x1024 .bf16) (harg8 : arg8.IsWhole)
    (arg9 : Memref sig .tc .vmem S1024x1024 .f32) (harg9 : arg9.IsWhole) (hc0 : ¬cond0_0 i) (hc1 : cond0_1 i) (hc2 : ¬cond0_2 i) (hc3 : ¬cond0_3 i) (hc4 : ¬cond0_4 i)
    (x0 : Vec F S1024x1024 .bf16) (x1 : Vec F S1024x1024 .bf16) (x2 : Vec F S1024x1024 .f32) (x3 : Vec F S1024x1024 .f32) (x4 : Vec F S1x1024x1024 .bf16) (xs : Vec F S1024x1024 .f32) :
    sout0_B_0 c i arg3 harg3 arg4 harg4 arg5 harg5 arg6 harg6 arg7 harg7 arg8 harg8 arg9 harg9 hc0 hc1 hc2 hc3 hc4 x0 x1 x2 x3 x4 xs = k0_pay2 x1 x4 xs := by
  unfold sout0_B_0
  rw [View.read_writes_eq_canon _ _ _ (scover0_B_0 c i arg3 harg3 arg4 harg4 arg5 harg5 arg6 harg6 arg7 harg7 arg8 harg8 arg9 harg9 hc0 hc1 hc2 hc3 hc4 x0 x1 x2 x3 x4 xs)]
  unfold kernelRun0_B
  dsimp only
  sl_unfold_words
  rw [View.canon_unit_zero (S := S1024x1024) hz]
  simp only [View.readAt_eq_ld, harg4.read_unread, harg7.read_unread, harg9.read_unread, View.ld_unit_zero (S := S1024x1024) hz, View.ld_unit_zero (S := S1x1024x1024) hz3]

/-- The third piece's point adds its product, of the gradient rounded, to the accumulator. -/
theorem third_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024x1024 .bf16) (harg7 : arg7.IsWhole) (arg8 : Memref sig .tc .vmem S1024x1024 .bf16) (harg8 : arg8.IsWhole)
    (arg9 : Memref sig .tc .vmem S1024x1024 .f32) (harg9 : arg9.IsWhole) (hc0 : ¬cond0_0 i) (hc1 : ¬cond0_1 i) (hc2 : cond0_2 i) (hc3 : ¬cond0_3 i) (hc4 : ¬cond0_4 i)
    (x0 : Vec F S1024x1024 .bf16) (x1 : Vec F S1024x1024 .bf16) (x2 : Vec F S1024x1024 .f32) (x3 : Vec F S1024x1024 .f32) (x4 : Vec F S1x1024x1024 .bf16) (xs : Vec F S1024x1024 .f32) :
    sout0_C_0 c i arg3 harg3 arg4 harg4 arg5 harg5 arg6 harg6 arg7 harg7 arg8 harg8 arg9 harg9 hc0 hc1 hc2 hc3 hc4 x0 x1 x2 x3 x4 xs = k0_pay3 x2 x4 xs := by
  unfold sout0_C_0
  rw [View.read_writes_eq_canon _ _ _ (scover0_C_0 c i arg3 harg3 arg4 harg4 arg5 harg5 arg6 harg6 arg7 harg7 arg8 harg8 arg9 harg9 hc0 hc1 hc2 hc3 hc4 x0 x1 x2 x3 x4 xs)]
  unfold kernelRun0_C
  dsimp only
  sl_unfold_words
  rw [View.canon_unit_zero (S := S1024x1024) hz]
  simp only [View.readAt_eq_ld, harg5.read_unread, harg7.read_unread, harg9.read_unread, View.ld_unit_zero (S := S1024x1024) hz, View.ld_unit_zero (S := S1x1024x1024) hz3]

/-- The last piece's point rounds the accumulator, its own product added, into the result's block. -/
theorem last_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024x1024 .bf16) (harg7 : arg7.IsWhole) (arg8 : Memref sig .tc .vmem S1024x1024 .bf16) (harg8 : arg8.IsWhole)
    (arg9 : Memref sig .tc .vmem S1024x1024 .f32) (harg9 : arg9.IsWhole) (hc0 : ¬cond0_0 i) (hc1 : ¬cond0_1 i) (hc2 : ¬cond0_2 i) (hc3 : cond0_3 i) (hc4 : cond0_4 i)
    (x0 : Vec F S1024x1024 .bf16) (x1 : Vec F S1024x1024 .bf16) (x2 : Vec F S1024x1024 .f32) (x3 : Vec F S1024x1024 .f32) (x4 : Vec F S1x1024x1024 .bf16) (xs : Vec F S1024x1024 .f32) :
    out0_D_5 c i arg3 harg3 arg4 harg4 arg5 harg5 arg6 harg6 arg7 harg7 arg8 harg8 arg9 harg9 hc0 hc1 hc2 hc3 hc4 x0 x1 x2 x3 x4 xs = k0_pay5 (k0_pay4 x3 x4 xs) := by
  unfold out0_D_5
  rw [View.read_writes_eq_canon _ _ _ (cover0_D_5 c i arg3 harg3 arg4 harg4 arg5 harg5 arg6 harg6 arg7 harg7 arg8 harg8 arg9 harg9 hc0 hc1 hc2 hc3 hc4 x0 x1 x2 x3 x4 xs)]
  unfold kernelRun0_D
  dsimp only
  sl_unfold_words
  rw [View.canon_unit_zero (S := S1024x1024) hz]
  rw [View.readCov_unit_zero (S := S1024x1024) _ hz]
  simp only [View.readAt_eq_ld, harg6.read_unread, harg7.read_unread, harg9.read_unread, View.ld_unit_zero (S := S1024x1024) hz, View.ld_unit_zero (S := S1x1024x1024) hz3]

end

/-! ## The product -/

/-- The weight's column that is column `k` of its piece `s`. -/
def wcol (s : Fin 4) (k : Fin 1024) : Fin 4096 := ⟨1024 * s.val + k.val, by omega⟩

/-- One piece of the product: a row of a piece's gradient by the piece's part of the weight's row. -/
def piece (W : Vec Ideal S2048x4096 .bf16) (n : Fin 2048) (s : Fin 4) (f : Fin 1024 → EReal) : EReal :=
  ∑ k : Fin 1024, f k * (W (ix2 n (wcol s k)) : EReal)

/-- The product: rows of the four gradients by rows of the weight's four column pieces. -/
def out (W : Vec Ideal S2048x4096 .bf16) (U Q : Vec Ideal S4096x1024 .bf16) (K V : Vec Ideal S4096x1024 .f32) : Vec Ideal S4096x2048 .bf16 :=
  fun i => piece W (i 1) 0 (fun k => U (ix2 (i 0) k)) + piece W (i 1) 1 (fun k => Q (ix2 (i 0) k))
    + piece W (i 1) 2 (fun k => K (ix2 (i 0) k)) + piece W (i 1) 3 (fun k => V (ix2 (i 0) k))

theorem pay1_at (x : Vec Ideal S1024x1024 .bf16) (y : Vec Ideal S1x1024x1024 .bf16) (p e : Fin 1024) :
    (k0_pay1 x y (ix2 p e) : EReal) = ∑ k : Fin 1024, (x (ix2 p k) : EReal) * (y (ix3 (0 : Fin 1) e k) : EReal) := by
  pointwise [k0_pay1]

theorem pay2_at (x : Vec Ideal S1024x1024 .bf16) (y : Vec Ideal S1x1024x1024 .bf16) (a : Vec Ideal S1024x1024 .f32) (p e : Fin 1024) :
    (k0_pay2 x y a (ix2 p e) : EReal) = (a (ix2 p e) : EReal) + ∑ k : Fin 1024, (x (ix2 p k) : EReal) * (y (ix3 (0 : Fin 1) e k) : EReal) := by
  pointwise [k0_pay2]

theorem pay3_at (x : Vec Ideal S1024x1024 .f32) (y : Vec Ideal S1x1024x1024 .bf16) (a : Vec Ideal S1024x1024 .f32) (p e : Fin 1024) :
    (k0_pay3 x y a (ix2 p e) : EReal) = (a (ix2 p e) : EReal) + ∑ k : Fin 1024, (x (ix2 p k) : EReal) * (y (ix3 (0 : Fin 1) e k) : EReal) := by
  pointwise [k0_pay3]

theorem pay4_at (x : Vec Ideal S1024x1024 .f32) (y : Vec Ideal S1x1024x1024 .bf16) (a : Vec Ideal S1024x1024 .f32) (p e : Fin 1024) :
    (k0_pay4 x y a (ix2 p e) : EReal) = (a (ix2 p e) : EReal) + ∑ k : Fin 1024, (x (ix2 p k) : EReal) * (y (ix3 (0 : Fin 1) e k) : EReal) := by
  pointwise [k0_pay4]

theorem index_0 : ∀ t : Fin cfg0.N, win0_0.index t = ![t.val / 8, 0] := (by decide +kernel : ∀ t : Fin grid0.N, _)
theorem index_1 : ∀ t : Fin cfg0.N, win0_1.index t = ![t.val / 8, 0] := (by decide +kernel : ∀ t : Fin grid0.N, _)
theorem index_2 : ∀ t : Fin cfg0.N, win0_2.index t = ![t.val / 8, 0] := (by decide +kernel : ∀ t : Fin grid0.N, _)
theorem index_3 : ∀ t : Fin cfg0.N, win0_3.index t = ![t.val / 8, 0] := (by decide +kernel : ∀ t : Fin grid0.N, _)
theorem index_4 : ∀ t : Fin cfg0.N, win0_4.index t = ![t.val % 4, t.val / 4 % 2, 0] := (by decide +kernel : ∀ t : Fin grid0.N, _)
theorem index_5 : ∀ t : Fin cfg0.N, win0_5.index t = ![t.val / 8, t.val / 4 % 2] := (by decide +kernel : ∀ t : Fin grid0.N, _)
theorem lt_N (t : Fin cfg0.N) : t.val < 32 := lt_of_lt_of_eq t.isLt (show cfg0.N = 32 from N_0)

/-- The pieces of the weight, at coordinates. -/
theorem pieces_at (w : Vec Ideal S2048x4096 .bf16) (s : Fin 4) (n : Fin 2048) (k : Fin 1024) :
    (transpose S4x2048x1024 [1, 0, 2] (shapeCast S2048x4x1024 w shapeCasts_S2048x4096_S2048x4x1024) transposes_S2048x4x1024_S4x2048x1024_1_0_2) (ix3 s n k)
      = w (ix2 n (wcol s k)) := by
  pointwise
  refine congrArg w (congrArg (ix2 n) (Fin.ext ?_))
  show s.val * 1024 + k.val = 1024 * s.val + k.val
  omega

variable (m : (ℓ : Loc nD τ sig) → Buf (Elt Ideal) ℓ) (c : Dev nD)

theorem V_pieces : V m c main_v1 = transpose S4x2048x1024 [1, 0, 2] (shapeCast S2048x4x1024 (m ((c : Thread nD τ).loc main_arg0)) shapeCasts_S2048x4096_S2048x4x1024) transposes_S2048x4x1024_S4x2048x1024_1_0_2 := by
  unfold V
  after_results
  rfl

/-- The row of the array at row `p` of point `t`'s block, and the column at column `e`. -/
def row (t : Fin cfg0.N) (p : Fin 1024) : Fin 4096 := ⟨1024 * (t.val / 8) + p.val, by have := lt_N t; omega⟩
def clm (t : Fin cfg0.N) (e : Fin 1024) : Fin 2048 := ⟨1024 * (t.val / 4 % 2) + e.val, by have := lt_N t; omega⟩
/-- The piece that point `t` multiplies. -/
def pc (t : Fin cfg0.N) : Fin 4 := ⟨t.val % 4, by omega⟩

theorem iblk0_at (t : Fin cfg0.N) (p k : Fin 1024) :
    iblk m c 0 t (ix2 p k) = m ((c : Thread nD τ).loc main_arg1) (ix2 (row t p) k) := by
  rw [← V_main_arg1 m c]
  blk_simp [iblk]
  refine congrArg (V m c main_arg1) ?_
  blk_ext [index_0, row]

theorem iblk1_at (t : Fin cfg0.N) (p k : Fin 1024) :
    iblk m c 1 t (ix2 p k) = m ((c : Thread nD τ).loc main_arg2) (ix2 (row t p) k) := by
  rw [← V_main_arg2 m c]
  blk_simp [iblk]
  refine congrArg (V m c main_arg2) ?_
  blk_ext [index_1, row]

theorem iblk2_at (t : Fin cfg0.N) (p k : Fin 1024) :
    iblk m c 2 t (ix2 p k) = m ((c : Thread nD τ).loc main_arg3) (ix2 (row t p) k) := by
  rw [← V_main_arg3 m c]
  blk_simp [iblk]
  refine congrArg (V m c main_arg3) ?_
  blk_ext [index_2, row]

theorem iblk3_at (t : Fin cfg0.N) (p k : Fin 1024) :
    iblk m c 3 t (ix2 p k) = m ((c : Thread nD τ).loc main_arg4) (ix2 (row t p) k) := by
  rw [← V_main_arg4 m c]
  blk_simp [iblk]
  refine congrArg (V m c main_arg4) ?_
  blk_ext [index_3, row]

theorem iblk4_at (t : Fin cfg0.N) (e k : Fin 1024) :
    iblk m c 4 t (ix3 (0 : Fin 1) e k) = m ((c : Thread nD τ).loc main_arg0) (ix2 (clm t e) (wcol (pc t) k)) := by
  have h : iblk m c 4 t (ix3 (0 : Fin 1) e k) = V m c main_v1 (ix3 (pc t) (clm t e) k) := by
    blk_simp [iblk]
    refine congrArg (V m c main_v1) ?_
    blk_ext [index_4, clm, pc]
  rw [h, V_pieces, pieces_at]

theorem first_at (t : Fin cfg0.N) (h : t.val % 4 = 0) (p e : Fin 1024) :
    ((outsAt0 m c t.val t.isLt).2 (ix2 p e) : EReal)
      = piece (m ((c : Thread nD τ).loc main_arg0)) (clm t e) (pc t) (fun k => m ((c : Thread nD τ).loc main_arg1) (ix2 (row t p) k)) := by
  refine (congrFun (congrArg Prod.snd (outsAt0_A m c t (by omega) (by omega) (by omega) (by omega) (by omega))) (ix2 p e)).trans ?_
  dsimp only
  rw [first_eq]
  refine (pay1_at _ _ _ _).trans (Finset.sum_congr rfl fun k _ => ?_)
  rw [iblk0_at, iblk4_at]

theorem second_at (t : Fin cfg0.N) (h : t.val % 4 = 1) (p e : Fin 1024) :
    ((outsAt0 m c t.val t.isLt).2 (ix2 p e) : EReal)
      = ((outsAt0 m c (t.val - 1) (Nat.lt_of_le_of_lt (Nat.sub_le _ _) t.isLt)).2 (ix2 p e) : EReal)
        + piece (m ((c : Thread nD τ).loc main_arg0)) (clm t e) (pc t) (fun k => m ((c : Thread nD τ).loc main_arg2) (ix2 (row t p) k)) := by
  refine (congrFun (congrArg Prod.snd (outsAt0_B m c t (by omega) (by omega) (by omega) (by omega) (by omega))) (ix2 p e)).trans ?_
  dsimp only
  rw [second_eq]
  refine (pay2_at _ _ _ _ _).trans (congrArg (_ + ·) (Finset.sum_congr rfl fun k _ => ?_))
  rw [iblk1_at, iblk4_at]

theorem third_at (t : Fin cfg0.N) (h : t.val % 4 = 2) (p e : Fin 1024) :
    ((outsAt0 m c t.val t.isLt).2 (ix2 p e) : EReal)
      = ((outsAt0 m c (t.val - 1) (Nat.lt_of_le_of_lt (Nat.sub_le _ _) t.isLt)).2 (ix2 p e) : EReal)
        + piece (m ((c : Thread nD τ).loc main_arg0)) (clm t e) (pc t) (fun k => m ((c : Thread nD τ).loc main_arg3) (ix2 (row t p) k)) := by
  refine (congrFun (congrArg Prod.snd (outsAt0_C m c t (by omega) (by omega) (by omega) (by omega) (by omega))) (ix2 p e)).trans ?_
  dsimp only
  rw [third_eq]
  refine (pay3_at _ _ _ _ _).trans (congrArg (_ + ·) (Finset.sum_congr rfl fun k _ => ?_))
  rw [iblk2_at, iblk4_at]

theorem last_at (t : Fin cfg0.N) (h : t.val % 4 = 3) (p e : Fin 1024) :
    ((outsAt0 m c t.val t.isLt).1 (ix2 p e) : EReal)
      = ((outsAt0 m c (t.val - 1) (Nat.lt_of_le_of_lt (Nat.sub_le _ _) t.isLt)).2 (ix2 p e) : EReal)
        + piece (m ((c : Thread nD τ).loc main_arg0)) (clm t e) (pc t) (fun k => m ((c : Thread nD τ).loc main_arg4) (ix2 (row t p) k)) := by
  refine (congrFun (congrArg Prod.fst (outsAt0_D m c t (by omega) (by omega) (by omega) (by omega) (by omega))) (ix2 p e)).trans ?_
  dsimp only
  rw [last_eq]
  refine (pay4_at _ _ _ _ _).trans (congrArg (_ + ·) (Finset.sum_congr rfl fun k _ => ?_))
  rw [iblk3_at, iblk4_at]

/-- The four points of a block, one after another. -/
theorem block_at (q : ℕ) (hq : 4 * q + 3 < cfg0.N) (p e : Fin 1024) :
    ((outsAt0 m c (4 * q + 3) hq).1 (ix2 p e) : EReal)
      = out (m ((c : Thread nD τ).loc main_arg0)) (m ((c : Thread nD τ).loc main_arg1)) (m ((c : Thread nD τ).loc main_arg2))
          (m ((c : Thread nD τ).loc main_arg3)) (m ((c : Thread nD τ).loc main_arg4)) (ix2 (row ⟨4 * q + 3, hq⟩ p) (clm ⟨4 * q + 3, hq⟩ e)) := by
  have h0 := first_at m c ⟨4 * q, by omega⟩ (by show 4 * q % 4 = 0; omega) p e
  have h1 := second_at m c ⟨4 * q + 1, by omega⟩ (by show (4 * q + 1) % 4 = 1; omega) p e
  have h2 := third_at m c ⟨4 * q + 2, by omega⟩ (by show (4 * q + 2) % 4 = 2; omega) p e
  have h3 := last_at m c ⟨4 * q + 3, hq⟩ (by show (4 * q + 3) % 4 = 3; omega) p e
  have hr : ∀ s (hs : s < 4), row ⟨4 * q + s, by omega⟩ p = row ⟨4 * q + 3, hq⟩ p := fun s hs => Fin.ext (by
    show 1024 * ((4 * q + s) / 8) + p.val = 1024 * ((4 * q + 3) / 8) + p.val
    omega)
  have hc : ∀ s (hs : s < 4), clm ⟨4 * q + s, by omega⟩ e = clm ⟨4 * q + 3, hq⟩ e := fun s hs => Fin.ext (by
    show 1024 * ((4 * q + s) / 4 % 2) + e.val = 1024 * ((4 * q + 3) / 4 % 2) + e.val
    omega)
  have hp : ∀ s (hs : s < 4), pc ⟨4 * q + s, by omega⟩ = ⟨s, hs⟩ := fun s hs => Fin.ext (by
    show (4 * q + s) % 4 = s
    omega)
  have r0 : row ⟨4 * q, by omega⟩ p = row ⟨4 * q + 3, hq⟩ p := hr 0 (by omega)
  have c0 : clm ⟨4 * q, by omega⟩ e = clm ⟨4 * q + 3, hq⟩ e := hc 0 (by omega)
  have p0 : pc ⟨4 * q, by omega⟩ = 0 := hp 0 (by omega)
  rw [r0, c0, p0] at h0
  rw [hr 1 (by omega), hc 1 (by omega), hp 1 (by omega)] at h1
  rw [hr 2 (by omega), hc 2 (by omega), hp 2 (by omega)] at h2
  rw [hp 3 (by omega)] at h3
  exact h3.trans (congrArg (· + _) (h2.trans (congrArg (· + _) (h1.trans (congrArg (· + _) h0)))))

/-- The array that the call leaves. -/
theorem arr : (dats m 0 c).arrAt 5 cfg0.N = out (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 5 _ (by decide +kernel) fun t hf y => ?_
  obtain ⟨p, e, rfl⟩ : ∃ (p : Fin 1024) (e : Fin 1024), y = ix2 p e := ⟨y 0, y 1, eq_ix2 y⟩
  have h3 : t.val % 4 = 3 := (flush0_5 t).mp hf
  have hN := lt_N t
  obtain ⟨q, ht⟩ : ∃ q, t.val = 4 * q + 3 := ⟨t.val / 4, by omega⟩
  have hq : 4 * q + 3 < cfg0.N := ht ▸ t.isLt
  obtain rfl : t = ⟨4 * q + 3, hq⟩ := Fin.ext ht
  have hy : ((cfg0.win 5).blk ⟨4 * q + 3, hq⟩).view.emb (ix2 p e) = ix2 (row ⟨4 * q + 3, hq⟩ p) (clm ⟨4 * q + 3, hq⟩ e) := by
    blk_ext [index_5, row, clm]
  blk_simp [index_5]
  rw [after0_5]
  exact (block_at m c q hq p e).trans (congrArg (out _ _ _ _ _) hy.symm)

end Cert.InXIdeal.Prod

namespace Cert.Proof

open Idealize.ShloMosaic Idealize.ShloMosaic.TcCoe Idealize.SL.Sem

/-- A sum over all the columns, by its four pieces. -/
theorem sum_pieces_in (f : Fin 4096 → EReal) :
    ∑ x, f x = ∑ k : Fin 1024, f ⟨k.val, by omega⟩ + ∑ k : Fin 1024, f ⟨1024 + k.val, by omega⟩
      + ∑ k : Fin 1024, f ⟨2048 + k.val, by omega⟩ + ∑ k : Fin 1024, f ⟨3072 + k.val, by omega⟩ := by
  rw [show ∑ x, f x = ∑ k : Fin 3072, f ⟨k.val, by omega⟩ + ∑ k : Fin 1024, f ⟨3072 + k.val, by omega⟩ from Fin.sum_univ_add (a := 3072) (b := 1024) f,
    show ∑ k : Fin 3072, f ⟨k.val, by omega⟩ = ∑ k : Fin 2048, f ⟨k.val, by omega⟩ + ∑ k : Fin 1024, f ⟨2048 + k.val, by omega⟩
      from Fin.sum_univ_add (a := 2048) (b := 1024) (fun k : Fin 3072 => f ⟨k.val, by omega⟩),
    show ∑ k : Fin 2048, f ⟨k.val, by omega⟩ = ∑ k : Fin 1024, f ⟨k.val, by omega⟩ + ∑ k : Fin 1024, f ⟨1024 + k.val, by omega⟩
      from Fin.sum_univ_add (a := 1024) (b := 1024) (fun k : Fin 2048 => f ⟨k.val, by omega⟩)]

theorem in_x_algebraic : Cert.algebraic_InXIdeal_RefInXIdeal := by
  intro m g m' g' _ hargs
  refine ⟨fun c => Cert.InXIdeal.Prod.out (m ((c.tc : Thread _ _).loc Cert.InXIdeal.main_arg0)) (m ((c.tc : Thread _ _).loc Cert.InXIdeal.main_arg1))
    (m ((c.tc : Thread _ _).loc Cert.InXIdeal.main_arg2)) (m ((c.tc : Thread _ _).loc Cert.InXIdeal.main_arg3)) (m ((c.tc : Thread _ _).loc Cert.InXIdeal.main_arg4)), ?_, ?_⟩
  · exact (θ_run Cert.InXIdeal.defs _ _).mono (fun r h c => ⟨(h c).1.trans (Cert.InXIdeal.Prod.arr m c), (h c).2⟩) (Cert.InXIdeal.Value.run_blocks (F := Ideal) m g)
  · refine (θ_run Cert.RefInXIdeal.defs _ _).mono (fun r h c => ⟨(h c).1.trans ?_, (h c).2⟩) (Cert.RefInXIdeal.Value.run (F := Ideal) m' g')
    rw [(hargs c).1, (hargs c).2.1, (hargs c).2.2.1, (hargs c).2.2.2.1, (hargs c).2.2.2.2]
    funext i
    obtain ⟨p, e, rfl⟩ : ∃ (p : Fin 4096) (e : Fin 2048), i = ix2 p e := ⟨i 0, i 1, Cert.InXIdeal.Prod.eq_ix2 i⟩
    unfold Cert.InXIdeal.Prod.out
    pointwise
    rw [sum_pieces_in]
    unfold Cert.InXIdeal.Prod.piece
    refine congrArg₂ (fun x y : EReal => x + y) (congrArg₂ (fun x y : EReal => x + y) (congrArg₂ (fun x y : EReal => x + y) ?_ ?_) ?_) ?_
    · refine Finset.sum_congr rfl fun k _ => congrArg₂ (fun x y : EReal => x * y)
        ((dif_pos (by show k.val < 1024; omega)).trans (congrArg (m ((c.tc : Thread _ _).loc Cert.InXIdeal.main_arg1)) (congrArg (ix2 p) (Fin.ext (by show k.val = k.val; omega)))))
        (congrArg (m ((c.tc : Thread _ _).loc Cert.InXIdeal.main_arg0)) (congrArg (ix2 e) (Fin.ext (by show k.val = 1024 * 0 + k.val; omega))))
    · refine Finset.sum_congr rfl fun k _ => congrArg₂ (fun x y : EReal => x * y)
        ((dif_neg (by show ¬1024 + k.val < 1024; omega)).trans ((dif_pos (by show 1024 + k.val - 1024 < 1024; omega)).trans (congrArg (m ((c.tc : Thread _ _).loc Cert.InXIdeal.main_arg2)) (congrArg (ix2 p) (Fin.ext (by show 1024 + k.val - 1024 = k.val; omega))))))
        (congrArg (m ((c.tc : Thread _ _).loc Cert.InXIdeal.main_arg0)) (congrArg (ix2 e) (Fin.ext (by show 1024 + k.val = 1024 * 1 + k.val; omega))))
    · refine Finset.sum_congr rfl fun k _ => congrArg₂ (fun x y : EReal => x * y)
        ((dif_neg (by show ¬2048 + k.val < 1024; omega)).trans ((dif_neg (by show ¬2048 + k.val - 1024 < 1024; omega)).trans ((dif_pos (by show 2048 + k.val - 1024 - 1024 < 1024; omega)).trans (congrArg (m ((c.tc : Thread _ _).loc Cert.InXIdeal.main_arg3)) (congrArg (ix2 p) (Fin.ext (by show 2048 + k.val - 1024 - 1024 = k.val; omega)))))))
        (congrArg (m ((c.tc : Thread _ _).loc Cert.InXIdeal.main_arg0)) (congrArg (ix2 e) (Fin.ext (by show 2048 + k.val = 1024 * 2 + k.val; omega))))
    · refine Finset.sum_congr rfl fun k _ => congrArg₂ (fun x y : EReal => x * y)
        ((dif_neg (by show ¬3072 + k.val < 1024; omega)).trans ((dif_neg (by show ¬3072 + k.val - 1024 < 1024; omega)).trans ((dif_neg (by show ¬3072 + k.val - 1024 - 1024 < 1024; omega)).trans (congrArg (m ((c.tc : Thread _ _).loc Cert.InXIdeal.main_arg4)) (congrArg (ix2 p) (Fin.ext (by show 3072 + k.val - 1024 - 1024 - 1024 = k.val; omega)))))))
        (congrArg (m ((c.tc : Thread _ _).loc Cert.InXIdeal.main_arg0)) (congrArg (ix2 e) (Fin.ext (by show 3072 + k.val = 1024 * 3 + k.val; omega))))

/-- The frame at words, of the second program's text. -/
def inXWords : Prop :=
  ∀ (m : (ℓ : Loc Cert.InXIdeal.nD Cert.InXIdeal.τ Cert.InXIdeal.sig) → Buf (Elt Bits) ℓ) (g : Dev Cert.InXIdeal.nD → PrngReg), True →
    θ_run (Cert.InXIdeal.defs (F := Bits)) (onTc (τ := Cert.InXIdeal.τ) (Cert.InXIdeal.main (F := Bits))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
      ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
      ∧ r.2.mem ((c.tc : Thread Cert.InXIdeal.nD Cert.InXIdeal.τ).loc Cert.InXIdeal.main_arg4) = m ((c.tc : Thread Cert.InXIdeal.nD Cert.InXIdeal.τ).loc Cert.InXIdeal.main_arg4))
      ∧ r.2.sem = fun _ => 0)

set_option maxHeartbeats 4000000 in
theorem in_x_text : inXWords = Cert.quiescent_InX := by sl_kernel_rfl

theorem frame_in_x : Cert.quiescent_InX := in_x_text.mp fun m ρ _ => Cert.InXIdeal.Gen.frame (F := Bits) m ρ

theorem frame_in_x_ideal : Cert.quiescent_InXIdeal := fun m ρ _ => Cert.InXIdeal.Gen.frame (F := Ideal) m ρ

theorem frame_in_x_reference : Cert.quiescent_RefInXIdeal := fun m ρ _ =>
  (θ_run Cert.RefInXIdeal.defs _ _).mono (fun r h => ⟨fun c => (h c).2, Idealize.ShloMosaic.sem_eq_zero_of_no_sems (by decide) r.2⟩)
    (Cert.RefInXIdeal.Value.run (F := Ideal) m ρ)

end Cert.Proof

end

end
-- ==== Proof.InW.lean ====
/- The gradient of one piece of the mixer's in projection to its weight: what the tiled product leaves, of the
   context's tokens and the latent ones joined, is the sum of the two products. -/
module

public import proofs.«01_k».proof.Defs
public import proofs.«01_k».proof.Proof.Gen.InW
public import proofs.«01_k».proof.Proof.Gen.InWIdeal.Value
public import proofs.«01_k».proof.Proof.Gen.RefInWIdeal.Run
public import Idealize.ShloMosaic.Lib.Pointwise
public import Idealize.ShloMosaic.Lib.Pipeline.ValueKit
public import Idealize.ShloMosaic.Adequacy
public import Idealize.ShloMosaic.Init
public import Idealize.ShloMosaic.Lib.Tactic

@[expose] public section

set_option maxRecDepth 16384

noncomputable section

namespace Cert.InWIdeal.Prod

open Idealize.ShloMosaic Idealize.ShloMosaic.TcCoe Idealize.SL.Sem Cert.InWIdeal.Gen

/-- The products of the latent tokens and of the context's: columns of the input by columns of the gradient. -/
def out (A : Vec Ideal S256x2048 .bf16) (A' : Vec Ideal S4096x2048 .bf16) (B : Vec Ideal S256x1024 .bf16) (B' : Vec Ideal S4096x1024 .bf16) :
    Vec Ideal S2048x1024 .bf16 :=
  fun i => ∑ k : Fin 256, (A (ix2 k (i 0)) : EReal) * (B (ix2 k (i 1)) : EReal)
    + ∑ k : Fin 4096, (A' (ix2 k (i 0)) : EReal) * (B' (ix2 k (i 1)) : EReal)

/-- A sum over all tokens, the context's before the latent ones. -/
theorem sum_tokens (f : Fin 4352 → EReal) :
    ∑ x, f x = ∑ k : Fin 256, f ⟨k.val, by omega⟩ + ∑ k : Fin 4096, f ⟨256 + k.val, by omega⟩ :=
  Fin.sum_univ_add (a := 256) (b := 4096) f

/-- One block of the product. -/
theorem tile_at (x : Vec Ideal S4352x512 .bf16) (y : Vec Ideal S4352x1024 .bf16) (p : Fin 512) (e : Fin 1024) :
    k0_pay1 x y (ix2 p e) = ∑ k : Fin 4352, (x (ix2 k p) : EReal) * (y (ix2 k e) : EReal) := by
  pointwise [k0_pay1]

theorem index_0 : ∀ t : Fin cfg0.N, win0_0.index t = ![0, t.val] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)
theorem lt_N (t : Fin cfg0.N) : t.val < 4 := lt_of_lt_of_eq t.isLt (show cfg0.N = 4 from N_0)

variable (m : (ℓ : Loc nD τ sig) → Buf (Elt Ideal) ℓ) (c : Dev nD)

/-- The joined tokens, at coordinates. -/
theorem input_ctx (a : Vec Ideal S256x2048 .bf16) (b : Vec Ideal S4096x2048 .bf16) (k : Fin 256) (n : Fin 2048) :
    concatenate S4352x2048 0 [⟨S256x2048, a⟩, ⟨S4096x2048, b⟩] concatenates_S256x2048_S4096x2048_S4352x2048_d0 (ix2 (⟨k.val, by omega⟩ : Fin 4352) n) = a (ix2 k n) := by
  pointwise

theorem input_lat (a : Vec Ideal S256x2048 .bf16) (b : Vec Ideal S4096x2048 .bf16) (k : Fin 4096) (n : Fin 2048) :
    concatenate S4352x2048 0 [⟨S256x2048, a⟩, ⟨S4096x2048, b⟩] concatenates_S256x2048_S4096x2048_S4352x2048_d0 (ix2 (⟨256 + k.val, by omega⟩ : Fin 4352) n) = b (ix2 k n) := by
  pointwise

theorem grad_ctx (a : Vec Ideal S256x1024 .bf16) (b : Vec Ideal S4096x1024 .bf16) (k : Fin 256) (n : Fin 1024) :
    concatenate S4352x1024 0 [⟨S256x1024, a⟩, ⟨S4096x1024, b⟩] concatenates_S256x1024_S4096x1024_S4352x1024_d0 (ix2 (⟨k.val, by omega⟩ : Fin 4352) n) = a (ix2 k n) := by
  pointwise

theorem grad_lat (a : Vec Ideal S256x1024 .bf16) (b : Vec Ideal S4096x1024 .bf16) (k : Fin 4096) (n : Fin 1024) :
    concatenate S4352x1024 0 [⟨S256x1024, a⟩, ⟨S4096x1024, b⟩] concatenates_S256x1024_S4096x1024_S4352x1024_d0 (ix2 (⟨256 + k.val, by omega⟩ : Fin 4352) n) = b (ix2 k n) := by
  pointwise

theorem V_input : V m c main_v0 = concatenate S4352x2048 0 [⟨S256x2048, m ((c : Thread nD τ).loc main_arg0)⟩, ⟨S4096x2048, m ((c : Thread nD τ).loc main_arg1)⟩] concatenates_S256x2048_S4096x2048_S4352x2048_d0 := by
  unfold V
  after_results

theorem V_grad : V m c main_v1 = concatenate S4352x1024 0 [⟨S256x1024, m ((c : Thread nD τ).loc main_arg2)⟩, ⟨S4096x1024, m ((c : Thread nD τ).loc main_arg3)⟩] concatenates_S256x1024_S4096x1024_S4352x1024_d0 := by
  unfold V
  after_results

theorem iblk0_at (t : Fin cfg0.N) (k : Fin 4352) (p : Fin 512) :
    iblk m c 0 t (ix2 k p) = V m c main_v0 (ix2 k (⟨512 * t.val + p.val, by have := lt_N t; omega⟩ : Fin 2048)) := by
  blk_simp [iblk]
  refine congrArg (V m c main_v0) ?_
  blk_ext [index_0]

theorem iblk1_at (t : Fin cfg0.N) (k : Fin 4352) (e : Fin 1024) :
    iblk m c 1 t (ix2 k e) = V m c main_v1 (ix2 k e) := by
  blk_simp [iblk]
  refine congrArg (V m c main_v1) ?_
  blk_ext [index_1]

theorem eq_ix2 {n m : ℕ} (y : (⟨2, ![n, m]⟩ : Shape).Idx) : y = ix2 (y 0) (y 1) := by
  funext k; fin_cases k <;> rfl

theorem hz : (![0, 0] : Fin 2 → ℕ) = fun _ => 0 := by funext k; fin_cases k <;> rfl

theorem out_eq (x : Vec Ideal S4352x512 .bf16) (y : Vec Ideal S4352x1024 .bf16) : out0_2 x y = k0_pay1 x y := by
  unfold out0_2
  rw [View.canon_unit_zero (hz), View.ld_unit_zero (hz), View.ld_unit_zero (hz)]

/-- The array that the call leaves. -/
theorem arr : (dats m 0 c).arrAt 2 cfg0.N = out (m ((c : Thread nD τ).loc main_arg0)) (m ((c : Thread nD τ).loc main_arg1)) (m ((c : Thread nD τ).loc main_arg2)) (m ((c : Thread nD τ).loc main_arg3)) := by
  refine (dats m 0 c).arrAt_eq_of_covers 2 _ (by decide +kernel) fun t hf y => ?_
  obtain ⟨p, e, rfl⟩ : ∃ (p : Fin 512) (e : Fin 1024), y = ix2 p e := ⟨y 0, y 1, eq_ix2 y⟩
  blk_simp [index_2]
  rw [after0_2, out_eq]
  refine (tile_at _ _ _ _).trans ((sum_tokens _).trans (congrArg₂ (fun x y : EReal => x + y) ?_ ?_))
  · refine Finset.sum_congr rfl fun k _ => ?_
    rw [iblk0_at, iblk1_at, V_input, V_grad, input_ctx, grad_ctx]
    refine congrArg₂ (fun x y : EReal => x * y) (congrArg (m ((c : Thread nD τ).loc main_arg0)) ?_) (congrArg (m ((c : Thread nD τ).loc main_arg2)) ?_)
    · blk_ext [index_2]
    · blk_ext [index_2]
  · refine Finset.sum_congr rfl fun k _ => ?_
    rw [iblk0_at, iblk1_at, V_input, V_grad, input_lat, grad_lat]
    refine congrArg₂ (fun x y : EReal => x * y) (congrArg (m ((c : Thread nD τ).loc main_arg1)) ?_) (congrArg (m ((c : Thread nD τ).loc main_arg3)) ?_)
    · blk_ext [index_2]
    · blk_ext [index_2]

end Cert.InWIdeal.Prod

namespace Cert.Proof

open Idealize.ShloMosaic Idealize.ShloMosaic.TcCoe Idealize.SL.Sem

theorem in_w_algebraic : Cert.algebraic_InWIdeal_RefInWIdeal := by
  intro m g m' g' _ hargs
  refine ⟨fun c => Cert.InWIdeal.Prod.out (m ((c.tc : Thread _ _).loc Cert.InWIdeal.main_arg0)) (m ((c.tc : Thread _ _).loc Cert.InWIdeal.main_arg1))
    (m ((c.tc : Thread _ _).loc Cert.InWIdeal.main_arg2)) (m ((c.tc : Thread _ _).loc Cert.InWIdeal.main_arg3)), ?_, ?_⟩
  · exact (θ_run Cert.InWIdeal.defs _ _).mono (fun r h c => ⟨(h c).1.trans (Cert.InWIdeal.Prod.arr m c), (h c).2⟩) (Cert.InWIdeal.Value.run_blocks (F := Ideal) m g)
  · refine (θ_run Cert.RefInWIdeal.defs _ _).mono (fun r h c => ⟨(h c).1.trans ?_, (h c).2⟩) (Cert.RefInWIdeal.Value.run (F := Ideal) m' g')
    rw [(hargs c).1, (hargs c).2.1, (hargs c).2.2.1, (hargs c).2.2.2]
    funext i
    rw [Cert.InWIdeal.Prod.eq_ix2 i]
    unfold Cert.InWIdeal.Prod.out
    pointwise
    rw [add_comm]
    exact congrArg₂ (fun x y : EReal => x + y) (Finset.sum_congr rfl fun k _ => mul_comm _ _) (Finset.sum_congr rfl fun k _ => mul_comm _ _)

/-- The frame at words, of the second program's text. -/
def inWWords : Prop :=
  ∀ (m : (ℓ : Loc Cert.InWIdeal.nD Cert.InWIdeal.τ Cert.InWIdeal.sig) → Buf (Elt Bits) ℓ) (g : Dev Cert.InWIdeal.nD → PrngReg), True →
    θ_run (Cert.InWIdeal.defs (F := Bits)) (onTc (τ := Cert.InWIdeal.τ) (Cert.InWIdeal.main (F := Bits))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
      ∧ r.2.mem ((c.tc : Thread Cert.InWIdeal.nD Cert.InWIdeal.τ).loc Cert.InWIdeal.main_arg2) = m ((c.tc : Thread Cert.InWIdeal.nD Cert.InWIdeal.τ).loc Cert.InWIdeal.main_arg2)
      ∧ r.2.mem ((c.tc : Thread Cert.InWIdeal.nD Cert.InWIdeal.τ).loc Cert.InWIdeal.main_arg3) = m ((c.tc : Thread Cert.InWIdeal.nD Cert.InWIdeal.τ).loc Cert.InWIdeal.main_arg3))
      ∧ r.2.sem = fun _ => 0)

set_option maxHeartbeats 4000000 in
theorem in_w_text : inWWords = Cert.quiescent_InW := by sl_kernel_rfl

theorem frame_in_w : Cert.quiescent_InW := in_w_text.mp fun m ρ _ => Cert.InWIdeal.Gen.frame (F := Bits) m ρ

theorem frame_in_w_ideal : Cert.quiescent_InWIdeal := fun m ρ _ => Cert.InWIdeal.Gen.frame (F := Ideal) m ρ

theorem frame_in_w_reference : Cert.quiescent_RefInWIdeal := fun m ρ _ =>
  (θ_run Cert.RefInWIdeal.defs _ _).mono (fun r h => ⟨fun c => (h c).2, Idealize.ShloMosaic.sem_eq_zero_of_no_sems (by decide) r.2⟩)
    (Cert.RefInWIdeal.Value.run (F := Ideal) m ρ)

end Cert.Proof

end

end
-- ==== Proof.Norm.lean ====
/- The normalization, its gradient: what the sixteen blocks of rows leave is the gradient of its argument, of the shift and of the scaling row. -/
module

public import proofs.«01_k».proof.Defs
public import proofs.«01_k».proof.Proof.Gen.Norm
public import proofs.«01_k».proof.Proof.Gen.NormIdeal.Value
public import proofs.«01_k».proof.Proof.Gen.RefNormIdeal.Run
public import Idealize.ShloMosaic.Lib.Pointwise
public import Idealize.ShloMosaic.Lib.Pipeline.ValueKit
public import Idealize.ShloMosaic.Adequacy
public import Idealize.ShloMosaic.Init
public import Idealize.ShloMosaic.Lib.Tactic

@[expose] public section

set_option maxRecDepth 16384

noncomputable section

namespace Cert.NormIdeal.Prod

open Idealize.ShloMosaic Idealize.ShloMosaic.TcCoe Idealize.SL.Sem Cert.NormIdeal.Gen

theorem eq_ix2 {a b : ℕ} (y : (⟨2, ![a, b]⟩ : Shape).Idx) : y = ix2 (y 0) (y 1) := by
  funext k; fin_cases k <;> rfl

theorem hz : (![0, 0] : Fin 2 → ℕ) = fun _ => 0 := by funext k; fin_cases k <;> rfl
/-- A sum over all the rows, by the sixteen blocks of 256. -/
theorem sum_rows (f : Fin 4096 → EReal) : ∑ t : Fin 16, ∑ p : Fin 256, f ⟨256 * t.val + p.val, by omega⟩ = ∑ r, f r := by
  rw [← Fintype.sum_prod_type' (fun (t : Fin 16) (p : Fin 256) => f ⟨256 * t.val + p.val, by omega⟩)]
  exact Fintype.sum_equiv (finProdFinEquiv (m := 16) (n := 256)) _ _ fun x => congrArg f (Fin.ext (by
    show 256 * x.1.val + x.2.val = x.2.val + 256 * x.1.val
    omega))

/-- The sum up to the last point is the sum over all the points. -/
theorem sum_last (f : Fin 16 → EReal) (n : ℕ) (h16 : n < 16) (h : n = 15) : ∑ s : Fin (n + 1), f ⟨s.val, by omega⟩ = ∑ s, f s := by
  subst h
  rfl

/-! ## The gradient of a row, two ways -/

theorem two_val : Ideal.ofBits .f32 0x40000000#32 = ((2 : ℝ) : EReal) := by
  simp [Ideal.ofBits, Ideal.ieee, -EReal.coe_mul]; norm_num
theorem half_val : Ideal.ofBits .f32 0xBF000000#32 = ((-(1 / 2) : ℝ) : EReal) := by
  simp [Ideal.ofBits, Ideal.ieee, -EReal.coe_mul]; norm_num
theorem width_val : Ideal.ofBits .f32 0x45000000#32 = ((2048 : ℝ) : EReal) := by
  simp [Ideal.ofBits, Ideal.ieee, -EReal.coe_mul]; norm_num
theorem eps_val : Ideal.ofBits .f32 0x358637BD#32 = ((8796093 * (2 : ℝ) ^ (-43 : ℤ) : ℝ) : EReal) := by
  simp [Ideal.ofBits, Ideal.ieee, -EReal.coe_mul]

theorem div_real (x : EReal) {n : ℝ} (hn : n ≠ 0) : Ideal.div x (n : EReal) = x * ((n⁻¹ : ℝ) : EReal) := by
  rw [Ideal.div, if_neg (by exact_mod_cast hn), EReal.coe_inv]

theorem mul_self_nonneg' (x : EReal) : 0 ≤ x * x := by
  rcases le_total 0 x with h | h
  · exact mul_nonneg h h
  · have h' : 0 ≤ -x := EReal.neg_nonneg.mpr h
    have := mul_nonneg h' h'
    rwa [neg_mul, mul_neg, neg_neg] at this

/-- A nonnegative real factor leaves a sum. -/
theorem sum_mul_real {ι : Type*} (s : Finset ι) (f : ι → EReal) {ρ : ℝ} (h : 0 ≤ ρ) : ∑ k ∈ s, f k * (ρ : EReal) = (∑ k ∈ s, f k) * (ρ : EReal) := by
  classical
  induction s using Finset.induction_on with
  | empty => simp
  | insert a s ha ih =>
    rw [Finset.sum_insert ha, Finset.sum_insert ha, ih, EReal.right_distrib_of_nonneg_of_ne_top (by exact_mod_cast h) (EReal.coe_ne_top ρ)]

/-- The reciprocal root of a positive extended real: a real, and by the argument once more its cube. -/
theorem rsqrt_pos {v : EReal} (hv : 0 < v) : ∃ ρ : ℝ, 0 ≤ ρ ∧ Ideal.rsqrt v = (ρ : EReal) ∧ Ideal.div (ρ : EReal) v = ((ρ * ρ * ρ : ℝ) : EReal) := by
  induction v using EReal.rec with
  | bot => exact absurd hv (by simp)
  | top => exact ⟨0, le_refl _, by simp, by simp [Ideal.div]⟩
  | coe a =>
    have ha : 0 < a := by exact_mod_cast hv
    refine ⟨(Real.sqrt a)⁻¹, inv_nonneg.mpr (Real.sqrt_nonneg a), ?_, ?_⟩
    · rw [Ideal.rsqrt_coe, if_neg (not_lt.mpr ha.le), if_neg ha.ne']
    · rw [div_real _ ha.ne', ← EReal.coe_mul, mul_assoc (Real.sqrt a)⁻¹, ← mul_inv (Real.sqrt a) (Real.sqrt a), Real.mul_self_sqrt ha.le]

/-- The mean square of a row and the constant: positive. -/
theorem mean_pos (x : Fin 2048 → EReal) :
    0 < Ideal.div (∑ k, x k * x k) (Ideal.ofBits .f32 0x45000000#32) + Ideal.ofBits .f32 0x358637BD#32 := by
  have h0 : 0 ≤ Ideal.div (∑ k, x k * x k) (Ideal.ofBits .f32 0x45000000#32) := by
    rw [width_val, div_real _ (by norm_num)]
    exact mul_nonneg (Finset.sum_nonneg fun k _ => mul_self_nonneg' (x k)) (by exact_mod_cast (by norm_num : (0 : ℝ) ≤ 2048⁻¹))
  have h1 : (0 : EReal) < Ideal.ofBits .f32 0x358637BD#32 := by
    rw [eps_val]
    exact_mod_cast (by positivity : (0 : ℝ) < 8796093 * (2 : ℝ) ^ (-43 : ℤ))
  exact lt_of_lt_of_le h1 (le_add_of_nonneg_left h0)

/-- The reciprocal root of a row's mean square. -/
def inv (x : Fin 2048 → EReal) : EReal :=
  Ideal.rsqrt (Ideal.div (∑ k, x k * x k) (Ideal.ofBits .f32 0x45000000#32) + Ideal.ofBits .f32 0x358637BD#32)

/-- The row's gradient with the normalized row's share taken off before the scaling is the derivative taken through the root. -/
theorem row_eq (x d : Fin 2048 → EReal) (a : EReal) (j : Fin 2048) :
    a + inv x * (d j - (x j * inv x) * Ideal.div (∑ k, d k * (x k * inv x)) (Ideal.ofBits .f32 0x45000000#32))
      = (a + d j * inv x)
        + Ideal.div ((∑ k, x k * d k) * (Ideal.ofBits .f32 0xBF000000#32
            * Ideal.div (inv x) (Ideal.div (∑ k, x k * x k) (Ideal.ofBits .f32 0x45000000#32) + Ideal.ofBits .f32 0x358637BD#32)))
          (Ideal.ofBits .f32 0x45000000#32) * (Ideal.ofBits .f32 0x40000000#32 * x j) := by
  obtain ⟨ρ, h0, h1, h2⟩ := rsqrt_pos (mean_pos x)
  have hi : inv x = (ρ : EReal) := h1
  rw [hi, h2, two_val, half_val, width_val, div_real _ (by norm_num), div_real _ (by norm_num)]
  have hs : ∑ k, d k * (x k * (ρ : EReal)) = (∑ k, x k * d k) * (ρ : EReal) := by
    rw [← sum_mul_real _ _ h0]
    exact Finset.sum_congr rfl fun k _ => by rw [← mul_assoc, mul_comm (d k)]
  rw [hs]
  generalize (∑ k, x k * d k) = S
  rw [sub_eq_add_neg, EReal.left_distrib_of_nonneg_of_ne_top (by exact_mod_cast h0) (EReal.coe_ne_top ρ), ← add_assoc, mul_comm (ρ : EReal) (d j)]
  refine congrArg (a + d j * (ρ : EReal) + ·) ?_
  have e1 : (ρ : EReal) * -(x j * (ρ : EReal) * (S * (ρ : EReal) * ((2048⁻¹ : ℝ) : EReal)))
      = (S * x j) * ((-(ρ * ρ * ρ * 2048⁻¹) : ℝ) : EReal) := by
    rw [EReal.coe_neg, EReal.coe_mul, EReal.coe_mul, EReal.coe_mul, mul_neg, mul_neg]
    refine congrArg Neg.neg ?_
    ac_rfl
  have e2 : S * (((-(1 / 2) : ℝ) : EReal) * ((ρ * ρ * ρ : ℝ) : EReal)) * ((2048⁻¹ : ℝ) : EReal) * (((2 : ℝ) : EReal) * x j)
      = (S * x j) * ((-(1 / 2) * (ρ * ρ * ρ) * 2048⁻¹ * 2 : ℝ) : EReal) := by
    rw [EReal.coe_mul _ (2 : ℝ), EReal.coe_mul _ (2048⁻¹ : ℝ), EReal.coe_mul (-(1 / 2) : ℝ)]
    ac_rfl
  rw [e1, e2]
  refine congrArg (fun b : ℝ => (S * x j) * (b : EReal)) ?_
  ring

/-! ## What a point leaves -/

section
variable {F : FTy → Type} [FloatOps F]

/-- The first point's block of the argument's gradient. -/
theorem row_first (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S1x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole)
    (hc0 : cond0_0 i) (hc1 : ¬cond0_1 i) (hc2 : cond0_2 i) (hc3 : ¬cond0_3 i) (x0 : Vec F S256x2048 .f32) (x1 : Vec F S256x2048 .bf16) (x2 : Vec F S1x2048 .f32) (x3 : Vec F S256x2048 .f32) :
    out0_A_4 c i arg1 harg1 arg2 harg2 arg3 harg3 arg4 harg4 arg5 harg5 arg6 harg6 arg7 harg7 hc0 hc1 hc2 hc3 x0 x1 x2 x3 = k0_pay7 x0 x1 x2 x3 := by
  unfold out0_A_4
  rw [View.read_writes_eq_canon _ _ _ (cover0_A_4 c i arg1 harg1 arg2 harg2 arg3 harg3 arg4 harg4 arg5 harg5 arg6 harg6 arg7 harg7 hc0 hc1 hc2 hc3 x0 x1 x2 x3)]
  unfold kernelRun0_A
  dsimp only
  sl_unfold_words
  rw [View.canon_unit_zero (S := S256x2048) hz]
  simp only [View.readAt_eq_ld, harg1.read_unread, harg2.read_unread, harg3.read_unread, harg4.read_unread, harg5.read_unread, harg6.read_unread, harg7.read_unread, View.ld_unit_zero (S := S256x2048) hz, View.ld_unit_zero (S := S1x2048) hz]

/-- A later point's block of the argument's gradient. -/
theorem row_next (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S1x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole)
    (hc0 : ¬cond0_0 i) (hc1 : cond0_1 i) (hc2 : ¬cond0_2 i) (hc3 : cond0_3 i) (x0 : Vec F S256x2048 .f32) (x1 : Vec F S256x2048 .bf16) (x2 : Vec F S1x2048 .f32) (x3 : Vec F S256x2048 .f32) (xo5 : Vec F S1x2048 .f32) (xo6 : Vec F S1x2048 .f32) :
    out0_B_4 c i arg1 harg1 arg2 harg2 arg3 harg3 arg4 harg4 arg5 harg5 arg6 harg6 arg7 harg7 hc0 hc1 hc2 hc3 x0 x1 x2 x3 xo5 xo6 = k0_pay7 x0 x1 x2 x3 := by
  unfold out0_B_4
  rw [View.read_writes_eq_canon _ _ _ (cover0_B_4 c i arg1 harg1 arg2 harg2 arg3 harg3 arg4 harg4 arg5 harg5 arg6 harg6 arg7 harg7 hc0 hc1 hc2 hc3 x0 x1 x2 x3 xo5 xo6)]
  unfold kernelRun0_B
  dsimp only
  sl_unfold_words
  rw [View.canon_unit_zero (S := S256x2048) hz]
  simp only [View.readAt_eq_ld, harg1.read_unread, harg2.read_unread, harg3.read_unread, harg4.read_unread, harg5.read_unread, harg6.read_unread, harg7.read_unread, View.ld_unit_zero (S := S256x2048) hz, View.ld_unit_zero (S := S1x2048) hz]

/-- The first point leaves its rows' sum. -/
theorem shift_first (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S1x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole)
    (hc0 : cond0_0 i) (hc1 : ¬cond0_1 i) (hc2 : cond0_2 i) (hc3 : ¬cond0_3 i) (x0 : Vec F S256x2048 .f32) (x1 : Vec F S256x2048 .bf16) (x2 : Vec F S1x2048 .f32) (x3 : Vec F S256x2048 .f32) :
    out0_A_5 c i arg1 harg1 arg2 harg2 arg3 harg3 arg4 harg4 arg5 harg5 arg6 harg6 arg7 harg7 hc0 hc1 hc2 hc3 x0 x1 x2 x3 = k0_pay8 x1 := by
  unfold out0_A_5
  rw [View.read_writes_eq_canon _ _ _ (cover0_A_5 c i arg1 harg1 arg2 harg2 arg3 harg3 arg4 harg4 arg5 harg5 arg6 harg6 arg7 harg7 hc0 hc1 hc2 hc3 x0 x1 x2 x3)]
  unfold kernelRun0_A
  dsimp only
  sl_unfold_words
  rw [View.canon_unit_zero (S := S1x2048) hz]
  simp only [View.readAt_eq_ld, harg1.read_unread, harg2.read_unread, harg3.read_unread, harg4.read_unread, harg5.read_unread, harg6.read_unread, harg7.read_unread, View.ld_unit_zero (S := S256x2048) hz, View.ld_unit_zero (S := S1x2048) hz]

/-- A later point adds its rows' sum to what the point before left. -/
theorem shift_next (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S1x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole)
    (hc0 : ¬cond0_0 i) (hc1 : cond0_1 i) (hc2 : ¬cond0_2 i) (hc3 : cond0_3 i) (x0 : Vec F S256x2048 .f32) (x1 : Vec F S256x2048 .bf16) (x2 : Vec F S1x2048 .f32) (x3 : Vec F S256x2048 .f32) (xo5 : Vec F S1x2048 .f32) (xo6 : Vec F S1x2048 .f32) :
    out0_B_5 c i arg1 harg1 arg2 harg2 arg3 harg3 arg4 harg4 arg5 harg5 arg6 harg6 arg7 harg7 hc0 hc1 hc2 hc3 x0 x1 x2 x3 xo5 xo6 = k0_pay1 (k0_pay8 x1) xo5 := by
  unfold out0_B_5
  rw [View.read_writes_eq_canon _ _ _ (cover0_B_5 c i arg1 harg1 arg2 harg2 arg3 harg3 arg4 harg4 arg5 harg5 arg6 harg6 arg7 harg7 hc0 hc1 hc2 hc3 x0 x1 x2 x3 xo5 xo6)]
  unfold kernelRun0_B
  dsimp only
  sl_unfold_words
  rw [View.canon_unit_zero (S := S1x2048) hz]
  simp only [View.readAt_eq_ld, harg1.read_unread, harg2.read_unread, harg3.read_unread, harg4.read_unread, harg5.read_unread, harg6.read_unread, harg7.read_unread, View.ld_unit_zero (S := S256x2048) hz, View.ld_unit_zero (S := S1x2048) hz]

/-- The first point leaves its rows' sum of products. -/
theorem scale_first (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S1x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole)
    (hc0 : cond0_0 i) (hc1 : ¬cond0_1 i) (hc2 : cond0_2 i) (hc3 : ¬cond0_3 i) (x0 : Vec F S256x2048 .f32) (x1 : Vec F S256x2048 .bf16) (x2 : Vec F S1x2048 .f32) (x3 : Vec F S256x2048 .f32) :
    out0_A_6 c i arg1 harg1 arg2 harg2 arg3 harg3 arg4 harg4 arg5 harg5 arg6 harg6 arg7 harg7 hc0 hc1 hc2 hc3 x0 x1 x2 x3 = k0_pay2 (k0_pay5 x0) (k0_pay6 x1) := by
  unfold out0_A_6
  rw [View.read_writes_eq_canon _ _ _ (cover0_A_6 c i arg1 harg1 arg2 harg2 arg3 harg3 arg4 harg4 arg5 harg5 arg6 harg6 arg7 harg7 hc0 hc1 hc2 hc3 x0 x1 x2 x3)]
  unfold kernelRun0_A
  dsimp only
  sl_unfold_words
  rw [View.canon_unit_zero (S := S1x2048) hz]
  simp only [View.readAt_eq_ld, harg1.read_unread, harg2.read_unread, harg3.read_unread, harg4.read_unread, harg5.read_unread, harg6.read_unread, harg7.read_unread, View.ld_unit_zero (S := S256x2048) hz, View.ld_unit_zero (S := S1x2048) hz]

/-- A later point adds its rows' sum of products to what the point before left. -/
theorem scale_next (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S1x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S1x2048 .f32) (harg7 : arg7.IsWhole)
    (hc0 : ¬cond0_0 i) (hc1 : cond0_1 i) (hc2 : ¬cond0_2 i) (hc3 : cond0_3 i) (x0 : Vec F S256x2048 .f32) (x1 : Vec F S256x2048 .bf16) (x2 : Vec F S1x2048 .f32) (x3 : Vec F S256x2048 .f32) (xo5 : Vec F S1x2048 .f32) (xo6 : Vec F S1x2048 .f32) :
    out0_B_6 c i arg1 harg1 arg2 harg2 arg3 harg3 arg4 harg4 arg5 harg5 arg6 harg6 arg7 harg7 hc0 hc1 hc2 hc3 x0 x1 x2 x3 xo5 xo6 = k0_pay3 (k0_pay5 x0) (k0_pay6 x1) xo6 := by
  unfold out0_B_6
  rw [View.read_writes_eq_canon _ _ _ (cover0_B_6 c i arg1 harg1 arg2 harg2 arg3 harg3 arg4 harg4 arg5 harg5 arg6 harg6 arg7 harg7 hc0 hc1 hc2 hc3 x0 x1 x2 x3 xo5 xo6)]
  unfold kernelRun0_B
  dsimp only
  sl_unfold_words
  rw [View.canon_unit_zero (S := S1x2048) hz]
  simp only [View.readAt_eq_ld, harg1.read_unread, harg2.read_unread, harg3.read_unread, harg4.read_unread, harg5.read_unread, harg6.read_unread, harg7.read_unread, View.ld_unit_zero (S := S256x2048) hz, View.ld_unit_zero (S := S1x2048) hz]

end

/-! ## The gradients -/

/-- The argument's gradient: what comes along the residual, and the row's. -/
def outX (X : Vec Ideal S4096x2048 .f32) (D : Vec Ideal S4096x2048 .bf16) (w : Vec Ideal S1x2048 .f32) (R : Vec Ideal S4096x2048 .f32) :
    Vec Ideal S4096x2048 .f32 :=
  fun i => (R i : EReal) + inv (fun k => X (ix2 (i 0) k)) * ((D i : EReal) * (w (ix2 (0 : Fin 1) (i 1)) : EReal)
    - ((X i : EReal) * inv (fun k => X (ix2 (i 0) k)))
      * Ideal.div (∑ k : Fin 2048, ((D (ix2 (i 0) k) : EReal) * (w (ix2 (0 : Fin 1) k) : EReal)) * ((X (ix2 (i 0) k) : EReal) * inv (fun k => X (ix2 (i 0) k))))
        (Ideal.ofBits .f32 0x45000000#32))

/-- The shift's gradient: the cotangent summed over the rows. -/
def outS (D : Vec Ideal S4096x2048 .bf16) : Vec Ideal S1x2048 .f32 :=
  fun i => ∑ r : Fin 4096, (D (ix2 r (i 1)) : EReal)

/-- The scaling row's gradient: the cotangent by the normalized rows, summed over them. -/
def outW (X : Vec Ideal S4096x2048 .f32) (D : Vec Ideal S4096x2048 .bf16) : Vec Ideal S1x2048 .f32 :=
  fun i => ∑ r : Fin 4096, (D (ix2 r (i 1)) : EReal) * ((X (ix2 r (i 1)) : EReal) * inv (fun k => X (ix2 r k)))

theorem outX_eq (X : Vec Ideal S4096x2048 .f32) (D : Vec Ideal S4096x2048 .bf16) (w : Vec Ideal S1x2048 .f32) (R : Vec Ideal S4096x2048 .f32)
    (p : Fin 4096) (e : Fin 2048) :
    outX X D w R (ix2 p e) = ((R (ix2 p e) : EReal) + ((D (ix2 p e) : EReal) * (w (ix2 (0 : Fin 1) e) : EReal)) * inv (fun k => X (ix2 p k)))
        + Ideal.div ((∑ k : Fin 2048, (X (ix2 p k) : EReal) * ((D (ix2 p k) : EReal) * (w (ix2 (0 : Fin 1) k) : EReal))) * (Ideal.ofBits .f32 0xBF000000#32
            * Ideal.div (inv (fun k => X (ix2 p k))) (Ideal.div (∑ k : Fin 2048, (X (ix2 p k) : EReal) * (X (ix2 p k) : EReal)) (Ideal.ofBits .f32 0x45000000#32) + Ideal.ofBits .f32 0x358637BD#32)))
          (Ideal.ofBits .f32 0x45000000#32) * (Ideal.ofBits .f32 0x40000000#32 * (X (ix2 p e) : EReal)) :=
  row_eq (fun k => X (ix2 p k)) (fun k => (D (ix2 p k) : EReal) * (w (ix2 (0 : Fin 1) k) : EReal)) (R (ix2 p e)) e

theorem outW_eq (X : Vec Ideal S4096x2048 .f32) (D : Vec Ideal S4096x2048 .bf16) (e : Fin 2048) :
    outW X D (ix2 (0 : Fin 1) e) = ∑ r : Fin 4096, ((X (ix2 r e) : EReal) * inv (fun k => X (ix2 r k))) * (D (ix2 r e) : EReal) :=
  Finset.sum_congr rfl fun r _ => mul_comm _ _

theorem pay7_at (x : Vec Ideal S256x2048 .f32) (y : Vec Ideal S256x2048 .bf16) (w : Vec Ideal S1x2048 .f32) (a : Vec Ideal S256x2048 .f32) (p : Fin 256) (e : Fin 2048) :
    (k0_pay7 x y w a (ix2 p e) : EReal) = (a (ix2 p e) : EReal) + inv (fun k => x (ix2 p k)) * ((y (ix2 p e) : EReal) * (w (ix2 (0 : Fin 1) e) : EReal)
      - ((x (ix2 p e) : EReal) * inv (fun k => x (ix2 p k)))
        * Ideal.div (∑ k : Fin 2048, ((y (ix2 p k) : EReal) * (w (ix2 (0 : Fin 1) k) : EReal)) * ((x (ix2 p k) : EReal) * inv (fun k => x (ix2 p k))))
          (Ideal.ofBits .f32 0x45000000#32)) := by
  unfold inv
  pointwise [k0_pay7, k0_pay6, k0_pay5, k0_pay4]

theorem pay8_at (y : Vec Ideal S256x2048 .bf16) (e : Fin 2048) :
    (k0_pay8 y (ix2 (0 : Fin 1) e) : EReal) = ∑ p : Fin 256, (y (ix2 p e) : EReal) := by
  pointwise [k0_pay8, k0_pay6]

theorem pay2_at (x : Vec Ideal S256x2048 .f32) (y : Vec Ideal S256x2048 .bf16) (e : Fin 2048) :
    (k0_pay2 (k0_pay5 x) (k0_pay6 y) (ix2 (0 : Fin 1) e) : EReal) = ∑ p : Fin 256, (y (ix2 p e) : EReal) * ((x (ix2 p e) : EReal) * inv fun k => x (ix2 p k)) := by
  unfold inv
  pointwise [k0_pay2, k0_pay6, k0_pay5, k0_pay4]

theorem pay1_at (s : Vec Ideal S1x2048 .f32) (a : Vec Ideal S1x2048 .f32) (i : S1x2048.Idx) :
    (k0_pay1 s a i : EReal) = (a i : EReal) + (s i : EReal) := by
  unfold k0_pay1
  exact congrArg (· + _) (congrFun (shapeCast_self _ _) i)

theorem pay3_at (x y : Vec Ideal S256x2048 .f32) (a : Vec Ideal S1x2048 .f32) (i : S1x2048.Idx) :
    (k0_pay3 x y a i : EReal) = (a i : EReal) + (k0_pay2 (F := Ideal) x y i : EReal) := by
  unfold k0_pay3
  exact congrArg (· + _) (congrFun (shapeCast_self _ _) i)

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem lt_N (t : Fin cfg0.N) : t.val < 16 := lt_of_lt_of_eq t.isLt (show cfg0.N = 16 from N_0)

variable (m : (ℓ : Loc nD τ sig) → Buf (Elt Ideal) ℓ) (c : Dev nD)

/-- The row of the array at row `p` of point `t`'s block. -/
def row (t : Fin cfg0.N) (p : Fin 256) : Fin 4096 := ⟨256 * t.val + p.val, by have := lt_N t; omega⟩

theorem iblk0_at (t : Fin cfg0.N) (p : Fin 256) (e : Fin 2048) :
    iblk m c 0 t (ix2 p e) = m ((c : Thread nD τ).loc main_arg0) (ix2 (row t p) e) := by
  rw [← V_main_arg0 m c]
  blk_simp [iblk]
  refine congrArg (V m c main_arg0) ?_
  blk_ext [index_0, row]

theorem iblk1_at (t : Fin cfg0.N) (p : Fin 256) (e : Fin 2048) :
    iblk m c 1 t (ix2 p e) = m ((c : Thread nD τ).loc main_arg1) (ix2 (row t p) e) := by
  rw [← V_main_arg1 m c]
  blk_simp [iblk]
  refine congrArg (V m c main_arg1) ?_
  blk_ext [index_1, row]

theorem iblk3_at (t : Fin cfg0.N) (p : Fin 256) (e : Fin 2048) :
    iblk m c 3 t (ix2 p e) = m ((c : Thread nD τ).loc main_arg3) (ix2 (row t p) e) := by
  rw [← V_main_arg3 m c]
  blk_simp [iblk]
  refine congrArg (V m c main_arg3) ?_
  blk_ext [index_3, row]

theorem iblk2_at (t : Fin cfg0.N) (e : Fin 2048) :
    iblk m c 2 t (ix2 (0 : Fin 1) e) = m ((c : Thread nD τ).loc main_arg2) (ix2 (0 : Fin 1) e) := by
  rw [← V_main_arg2 m c]
  blk_simp [iblk]
  refine congrArg (V m c main_arg2) ?_
  blk_ext [index_2]

theorem rows_at (t : Fin cfg0.N) : (outsAt0 m c t.val t.isLt).1 = k0_pay7 (iblk m c 0 t) (iblk m c 1 t) (iblk m c 2 t) (iblk m c 3 t) := by
  have hN := lt_N t
  by_cases h : t.val = 0
  · refine (congrArg Prod.fst (outsAt0_A m c t (by omega) (by omega) (by omega) (by omega))).trans ?_
    dsimp only
    rw [row_first]
  · refine (congrArg Prod.fst (outsAt0_B m c t (by omega) (by omega) (by omega) (by omega))).trans ?_
    dsimp only
    rw [row_next]

/-- What point `s` adds to the shift's gradient, at column `e`. -/
def partS (D : Vec Ideal S4096x2048 .bf16) (e : Fin 2048) (s : Fin 16) : EReal :=
  ∑ p : Fin 256, (D (ix2 (⟨256 * s.val + p.val, by omega⟩ : Fin 4096) e) : EReal)

/-- What point `s` adds to the scaling row's gradient, at column `e`. -/
def partW (X : Vec Ideal S4096x2048 .f32) (D : Vec Ideal S4096x2048 .bf16) (e : Fin 2048) (s : Fin 16) : EReal :=
  ∑ p : Fin 256, (D (ix2 (⟨256 * s.val + p.val, by omega⟩ : Fin 4096) e) : EReal)
    * ((X (ix2 (⟨256 * s.val + p.val, by omega⟩ : Fin 4096) e) : EReal) * inv (fun k => X (ix2 (⟨256 * s.val + p.val, by omega⟩ : Fin 4096) k)))

theorem partS_sum (D : Vec Ideal S4096x2048 .bf16) (e : Fin 2048) : ∑ s : Fin 16, partS D e s = outS D (ix2 (0 : Fin 1) e) :=
  sum_rows fun r => (D (ix2 r e) : EReal)

theorem partW_sum (X : Vec Ideal S4096x2048 .f32) (D : Vec Ideal S4096x2048 .bf16) (e : Fin 2048) :
    ∑ s : Fin 16, partW X D e s = outW X D (ix2 (0 : Fin 1) e) :=
  sum_rows fun r => (D (ix2 r e) : EReal) * ((X (ix2 r e) : EReal) * inv (fun k => X (ix2 r k)))

theorem partS_at (t : Fin cfg0.N) (e : Fin 2048) :
    (k0_pay8 (iblk m c 1 t) (ix2 (0 : Fin 1) e) : EReal) = partS (m ((c : Thread nD τ).loc main_arg1)) e ⟨t.val, lt_N t⟩ := by
  refine (pay8_at _ _).trans (Finset.sum_congr rfl fun p _ => ?_)
  rw [iblk1_at]
  rfl

theorem partW_at (t : Fin cfg0.N) (e : Fin 2048) :
    (k0_pay2 (k0_pay5 (iblk m c 0 t)) (k0_pay6 (iblk m c 1 t)) (ix2 (0 : Fin 1) e) : EReal)
      = partW (m ((c : Thread nD τ).loc main_arg0)) (m ((c : Thread nD τ).loc main_arg1)) e ⟨t.val, lt_N t⟩ := by
  refine (pay2_at _ _ _).trans (Finset.sum_congr rfl fun p _ => ?_)
  simp only [iblk0_at, iblk1_at]
  rfl

/-- After point `n` the accumulator of window 5 holds the sum of the points so far. -/
theorem shift_at (e : Fin 2048) : ∀ (n : ℕ) (hn : n < cfg0.N) (h16 : n < 16),
    ((outsAt0 m c n hn).2.1 (ix2 (0 : Fin 1) e) : EReal) = ∑ s : Fin (n + 1), partS (m ((c : Thread nD τ).loc main_arg1)) e ⟨s.val, by omega⟩
  | 0, hn, h16 => by
    refine (congrFun (congrArg (fun z => z.2.1) (outsAt0_A m c ⟨0, hn⟩ (show 0 % 16 = 0 from rfl) (show ¬1 ≤ 0 by omega) (show 0 % 16 = 0 from rfl) (show ¬1 ≤ 0 by omega))) (ix2 (0 : Fin 1) e)).trans ?_
    dsimp only
    rw [shift_first, partS_at, Fin.sum_univ_one]
    rfl
  | n + 1, hn, h16 => by
    refine (congrFun (congrArg (fun z => z.2.1) (outsAt0_B m c ⟨n + 1, hn⟩ (show ¬(n + 1) % 16 = 0 by omega) (show 1 ≤ n + 1 by omega) (show ¬(n + 1) % 16 = 0 by omega) (show 1 ≤ n + 1 by omega))) (ix2 (0 : Fin 1) e)).trans ?_
    dsimp only
    rw [shift_next, pay1_at, partS_at, Fin.sum_univ_castSucc]
    exact congrArg (· + _) (shift_at e n (by omega) (by omega))

theorem shift_last (t : Fin cfg0.N) (h : t.val = 15) (e : Fin 2048) :
    ((outsAt0 m c t.val t.isLt).2.1 (ix2 (0 : Fin 1) e) : EReal) = ∑ s : Fin 16, partS (m ((c : Thread nD τ).loc main_arg1)) e s := by
  exact (shift_at m c e t.val t.isLt (lt_N t)).trans (sum_last (partS (m ((c : Thread nD τ).loc main_arg1)) e) t.val (lt_N t) h)

theorem arrS : (dats m 0 c).arrAt 5 cfg0.N = outS (m ((c : Thread nD τ).loc main_arg1)) := by
  refine (dats m 0 c).arrAt_eq_of_covers 5 _ (by decide +kernel) fun t hf y => ?_
  obtain ⟨e, rfl⟩ : ∃ (e : Fin 2048), y = ix2 (0 : Fin 1) e := ⟨y 1, (eq_ix2 y).trans (congrArg (ix2 · (y 1)) (Subsingleton.elim (α := Fin 1) _ _))⟩
  have h15 : t.val % 16 = 15 := (flush0_5 t).mp hf
  have hN := lt_N t
  have hy : ((cfg0.win 5).blk t).view.emb (ix2 (0 : Fin 1) e) = ix2 (0 : Fin 1) e := by blk_ext [index_5]
  blk_simp [index_5]
  rw [after0_5]
  refine (shift_last m c t (by omega) e).trans ?_
  exact (partS_sum _ e).trans (congrArg (outS (m ((c : Thread nD τ).loc main_arg1))) hy.symm)

/-- After point `n` the accumulator of window 6 holds the sum of the points so far. -/
theorem scale_at (e : Fin 2048) : ∀ (n : ℕ) (hn : n < cfg0.N) (h16 : n < 16),
    ((outsAt0 m c n hn).2.2 (ix2 (0 : Fin 1) e) : EReal) = ∑ s : Fin (n + 1), partW (m ((c : Thread nD τ).loc main_arg0)) (m ((c : Thread nD τ).loc main_arg1)) e ⟨s.val, by omega⟩
  | 0, hn, h16 => by
    refine (congrFun (congrArg (fun z => z.2.2) (outsAt0_A m c ⟨0, hn⟩ (show 0 % 16 = 0 from rfl) (show ¬1 ≤ 0 by omega) (show 0 % 16 = 0 from rfl) (show ¬1 ≤ 0 by omega))) (ix2 (0 : Fin 1) e)).trans ?_
    dsimp only
    rw [scale_first, partW_at, Fin.sum_univ_one]
    rfl
  | n + 1, hn, h16 => by
    refine (congrFun (congrArg (fun z => z.2.2) (outsAt0_B m c ⟨n + 1, hn⟩ (show ¬(n + 1) % 16 = 0 by omega) (show 1 ≤ n + 1 by omega) (show ¬(n + 1) % 16 = 0 by omega) (show 1 ≤ n + 1 by omega))) (ix2 (0 : Fin 1) e)).trans ?_
    dsimp only
    rw [scale_next, pay3_at, partW_at, Fin.sum_univ_castSucc]
    exact congrArg (· + _) (scale_at e n (by omega) (by omega))

theorem scale_last (t : Fin cfg0.N) (h : t.val = 15) (e : Fin 2048) :
    ((outsAt0 m c t.val t.isLt).2.2 (ix2 (0 : Fin 1) e) : EReal) = ∑ s : Fin 16, partW (m ((c : Thread nD τ).loc main_arg0)) (m ((c : Thread nD τ).loc main_arg1)) e s := by
  exact (scale_at m c e t.val t.isLt (lt_N t)).trans (sum_last (partW (m ((c : Thread nD τ).loc main_arg0)) (m ((c : Thread nD τ).loc main_arg1)) e) t.val (lt_N t) h)

theorem arrW : (dats m 0 c).arrAt 6 cfg0.N = outW (m ((c : Thread nD τ).loc main_arg0)) (m ((c : Thread nD τ).loc main_arg1)) := by
  refine (dats m 0 c).arrAt_eq_of_covers 6 _ (by decide +kernel) fun t hf y => ?_
  obtain ⟨e, rfl⟩ : ∃ (e : Fin 2048), y = ix2 (0 : Fin 1) e := ⟨y 1, (eq_ix2 y).trans (congrArg (ix2 · (y 1)) (Subsingleton.elim (α := Fin 1) _ _))⟩
  have h15 : t.val % 16 = 15 := (flush0_6 t).mp hf
  have hN := lt_N t
  have hy : ((cfg0.win 6).blk t).view.emb (ix2 (0 : Fin 1) e) = ix2 (0 : Fin 1) e := by blk_ext [index_6]
  blk_simp [index_6]
  rw [after0_6]
  refine (scale_last m c t (by omega) e).trans ?_
  exact (partW_sum _ _ e).trans (congrArg (outW (m ((c : Thread nD τ).loc main_arg0)) (m ((c : Thread nD τ).loc main_arg1))) hy.symm)

theorem arrX : (dats m 0 c).arrAt 4 cfg0.N = outX (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨p, e, rfl⟩ : ∃ (p : Fin 256) (e : Fin 2048), y = ix2 p e := ⟨y 0, y 1, eq_ix2 y⟩
  have hy : ((cfg0.win 4).blk t).view.emb (ix2 p e) = ix2 (row t p) e := by blk_ext [index_4, row]
  blk_simp [index_4]
  rw [after0_4, rows_at]
  refine (pay7_at _ _ _ _ _ _).trans ?_
  simp only [iblk0_at, iblk1_at, iblk2_at, iblk3_at]
  exact congrArg (outX (m ((c : Thread nD τ).loc main_arg0)) (m ((c : Thread nD τ).loc main_arg1)) (m ((c : Thread nD τ).loc main_arg2)) (m ((c : Thread nD τ).loc main_arg3))) hy.symm

end Cert.NormIdeal.Prod

namespace Cert.Proof

open Idealize.ShloMosaic Idealize.ShloMosaic.TcCoe Idealize.SL.Sem

theorem norm_algebraic : Cert.algebraic_NormIdeal_RefNormIdeal := by
  intro m g m' g' _ hargs
  refine ⟨fun c => Cert.NormIdeal.Prod.outX (m ((c.tc : Thread _ _).loc Cert.NormIdeal.main_arg0)) (m ((c.tc : Thread _ _).loc Cert.NormIdeal.main_arg1)) (m ((c.tc : Thread _ _).loc Cert.NormIdeal.main_arg2)) (m ((c.tc : Thread _ _).loc Cert.NormIdeal.main_arg3)), fun c => Cert.NormIdeal.Prod.outS (m ((c.tc : Thread _ _).loc Cert.NormIdeal.main_arg1)),
    fun c => Cert.NormIdeal.Prod.outW (m ((c.tc : Thread _ _).loc Cert.NormIdeal.main_arg0)) (m ((c.tc : Thread _ _).loc Cert.NormIdeal.main_arg1)), ?_, ?_⟩
  · exact (θ_run Cert.NormIdeal.defs _ _).mono (fun r h c => ⟨(h c).1.trans (Cert.NormIdeal.Prod.arrX m c), (h c).2.1.trans (Cert.NormIdeal.Prod.arrS m c),
        (h c).2.2.1.trans (Cert.NormIdeal.Prod.arrW m c), (h c).2.2.2⟩)
      (Cert.NormIdeal.Value.run_blocks (F := Ideal) m g)
  · refine (θ_run Cert.RefNormIdeal.defs _ _).mono (fun r h c => ⟨(h c).1.trans ?_, (h c).2.1.trans ?_, (h c).2.2.1.trans ?_, (h c).2.2.2⟩)
      (Cert.RefNormIdeal.Value.run (F := Ideal) m' g')
    · rw [(hargs c).1, (hargs c).2.1, (hargs c).2.2.1, (hargs c).2.2.2]
      funext i
      obtain ⟨p, e, rfl⟩ : ∃ (p : Fin 4096) (e : Fin 2048), i = ix2 p e := ⟨i 0, i 1, Cert.NormIdeal.Prod.eq_ix2 i⟩
      refine Eq.trans ?_ (Cert.NormIdeal.Prod.outX_eq _ _ _ _ p e).symm
      unfold Cert.NormIdeal.Prod.inv
      pointwise
      rw [Fin.sum_univ_one]
    · rw [(hargs c).2.1]
      funext i
      obtain ⟨e, rfl⟩ : ∃ (e : Fin 2048), i = ix2 (0 : Fin 1) e :=
        ⟨i 1, (Cert.NormIdeal.Prod.eq_ix2 i).trans (congrArg (ix2 · (i 1)) (Subsingleton.elim (α := Fin 1) _ _))⟩
      unfold Cert.NormIdeal.Prod.outS
      pointwise
    · rw [(hargs c).1, (hargs c).2.1]
      funext i
      obtain ⟨e, rfl⟩ : ∃ (e : Fin 2048), i = ix2 (0 : Fin 1) e :=
        ⟨i 1, (Cert.NormIdeal.Prod.eq_ix2 i).trans (congrArg (ix2 · (i 1)) (Subsingleton.elim (α := Fin 1) _ _))⟩
      refine Eq.trans ?_ (Cert.NormIdeal.Prod.outW_eq _ _ e).symm
      unfold Cert.NormIdeal.Prod.inv
      pointwise

/-- The frame at words, of the second program's text. -/
def normWords : Prop :=
  ∀ (m : (ℓ : Loc Cert.NormIdeal.nD Cert.NormIdeal.τ Cert.NormIdeal.sig) → Buf (Elt Bits) ℓ) (g : Dev Cert.NormIdeal.nD → PrngReg), True →
    θ_run (Cert.NormIdeal.defs (F := Bits)) (onTc (τ := Cert.NormIdeal.τ) (Cert.NormIdeal.main (F := Bits))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

set_option maxHeartbeats 4000000 in
theorem norm_text : normWords = Cert.quiescent_Norm := by sl_kernel_rfl

theorem frame_norm : Cert.quiescent_Norm := norm_text.mp fun m ρ _ => Cert.NormIdeal.Gen.frame (F := Bits) m ρ

theorem frame_norm_ideal : Cert.quiescent_NormIdeal := fun m ρ _ => Cert.NormIdeal.Gen.frame (F := Ideal) m ρ

theorem frame_norm_reference : Cert.quiescent_RefNormIdeal := fun m ρ _ =>
  (θ_run Cert.RefNormIdeal.defs _ _).mono (fun r h => ⟨fun c => (h c).2.2.2, Idealize.ShloMosaic.sem_eq_zero_of_no_sems (by decide) r.2⟩)
    (Cert.RefNormIdeal.Value.run (F := Ideal) m ρ)

end Cert.Proof

end

end
-- ==== Proof.Gate.lean ====
/- The residual's gate, its gradient: what the sixteen blocks of rows leave is the gradient of the gated branch and of the gate. -/
module

public import proofs.«01_k».proof.Defs
public import proofs.«01_k».proof.Proof.Gen.Gate
public import proofs.«01_k».proof.Proof.Gen.GateIdeal.Value
public import proofs.«01_k».proof.Proof.Gen.RefGateIdeal.Run
public import Idealize.ShloMosaic.Lib.Pointwise
public import Idealize.ShloMosaic.Lib.Pipeline.ValueKit
public import Idealize.ShloMosaic.Adequacy
public import Idealize.ShloMosaic.Init
public import Idealize.ShloMosaic.Lib.Tactic

@[expose] public section

set_option maxRecDepth 16384

noncomputable section

namespace Cert.GateIdeal.Prod

open Idealize.ShloMosaic Idealize.ShloMosaic.TcCoe Idealize.SL.Sem Cert.GateIdeal.Gen

theorem eq_ix2 {a b : ℕ} (y : (⟨2, ![a, b]⟩ : Shape).Idx) : y = ix2 (y 0) (y 1) := by
  funext k; fin_cases k <;> rfl

theorem hz : (![0, 0] : Fin 2 → ℕ) = fun _ => 0 := by funext k; fin_cases k <;> rfl
/-- A sum over all the rows, by the sixteen blocks of 256. -/
theorem sum_rows (f : Fin 4096 → EReal) : ∑ t : Fin 16, ∑ p : Fin 256, f ⟨256 * t.val + p.val, by omega⟩ = ∑ r, f r := by
  rw [← Fintype.sum_prod_type' (fun (t : Fin 16) (p : Fin 256) => f ⟨256 * t.val + p.val, by omega⟩)]
  exact Fintype.sum_equiv (finProdFinEquiv (m := 16) (n := 256)) _ _ fun x => congrArg f (Fin.ext (by
    show 256 * x.1.val + x.2.val = x.2.val + 256 * x.1.val
    omega))

/-! ## What a point leaves -/

section
variable {F : FTy → Type} [FloatOps F]

/-- The first point's block of the branch's gradient. -/
theorem row_first (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S1x2048 .f32) (harg3 : arg3.IsWhole) (arg4 : Memref sig .tc .vmem S256x2048 .bf16) (harg4 : arg4.IsWhole) (arg5 : Memref sig .tc .vmem S1x2048 .f32) (harg5 : arg5.IsWhole)
    (hc0 : cond0_0 i) (hc1 : ¬cond0_1 i) (x0 : Vec F S256x2048 .f32) (x1 : Vec F S256x2048 .bf16) (x2 : Vec F S1x2048 .f32) :
    out0_A_3 c i arg1 harg1 arg2 harg2 arg3 harg3 arg4 harg4 arg5 harg5 hc0 hc1 x0 x1 x2 = k0_pay1 x0 x2 := by
  unfold out0_A_3
  rw [View.read_writes_eq_canon _ _ _ (cover0_A_3 c i arg1 harg1 arg2 harg2 arg3 harg3 arg4 harg4 arg5 harg5 hc0 hc1 x0 x1 x2)]
  unfold kernelRun0_A
  dsimp only
  sl_unfold_words
  rw [View.canon_unit_zero (S := S256x2048) hz]
  simp only [View.readAt_eq_ld, harg1.read_unread, harg2.read_unread, harg3.read_unread, harg4.read_unread, harg5.read_unread, View.ld_unit_zero (S := S256x2048) hz, View.ld_unit_zero (S := S1x2048) hz]

/-- A later point's block of the branch's gradient. -/
theorem row_next (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S1x2048 .f32) (harg3 : arg3.IsWhole) (arg4 : Memref sig .tc .vmem S256x2048 .bf16) (harg4 : arg4.IsWhole) (arg5 : Memref sig .tc .vmem S1x2048 .f32) (harg5 : arg5.IsWhole)
    (hc0 : ¬cond0_0 i) (hc1 : cond0_1 i) (x0 : Vec F S256x2048 .f32) (x1 : Vec F S256x2048 .bf16) (x2 : Vec F S1x2048 .f32) (xo : Vec F S1x2048 .f32) :
    out0_B_3 c i arg1 harg1 arg2 harg2 arg3 harg3 arg4 harg4 arg5 harg5 hc0 hc1 x0 x1 x2 xo = k0_pay1 x0 x2 := by
  unfold out0_B_3
  rw [View.read_writes_eq_canon _ _ _ (cover0_B_3 c i arg1 harg1 arg2 harg2 arg3 harg3 arg4 harg4 arg5 harg5 hc0 hc1 x0 x1 x2 xo)]
  unfold kernelRun0_B
  dsimp only
  sl_unfold_words
  rw [View.canon_unit_zero (S := S256x2048) hz]
  simp only [View.readAt_eq_ld, harg1.read_unread, harg2.read_unread, harg3.read_unread, harg4.read_unread, harg5.read_unread, View.ld_unit_zero (S := S256x2048) hz, View.ld_unit_zero (S := S1x2048) hz]

/-- The first point leaves its rows' sum. -/
theorem acc_first (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S1x2048 .f32) (harg3 : arg3.IsWhole) (arg4 : Memref sig .tc .vmem S256x2048 .bf16) (harg4 : arg4.IsWhole) (arg5 : Memref sig .tc .vmem S1x2048 .f32) (harg5 : arg5.IsWhole)
    (hc0 : cond0_0 i) (hc1 : ¬cond0_1 i) (x0 : Vec F S256x2048 .f32) (x1 : Vec F S256x2048 .bf16) (x2 : Vec F S1x2048 .f32) :
    out0_A_4 c i arg1 harg1 arg2 harg2 arg3 harg3 arg4 harg4 arg5 harg5 hc0 hc1 x0 x1 x2 = k0_pay2 x0 x1 := by
  unfold out0_A_4
  rw [View.read_writes_eq_canon _ _ _ (cover0_A_4 c i arg1 harg1 arg2 harg2 arg3 harg3 arg4 harg4 arg5 harg5 hc0 hc1 x0 x1 x2)]
  unfold kernelRun0_A
  dsimp only
  sl_unfold_words
  rw [View.canon_unit_zero (S := S1x2048) hz]
  simp only [View.readAt_eq_ld, harg1.read_unread, harg2.read_unread, harg3.read_unread, harg4.read_unread, harg5.read_unread, View.ld_unit_zero (S := S256x2048) hz, View.ld_unit_zero (S := S1x2048) hz]

/-- A later point adds its rows' sum to what the point before left. -/
theorem acc_next (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S1x2048 .f32) (harg3 : arg3.IsWhole) (arg4 : Memref sig .tc .vmem S256x2048 .bf16) (harg4 : arg4.IsWhole) (arg5 : Memref sig .tc .vmem S1x2048 .f32) (harg5 : arg5.IsWhole)
    (hc0 : ¬cond0_0 i) (hc1 : cond0_1 i) (x0 : Vec F S256x2048 .f32) (x1 : Vec F S256x2048 .bf16) (x2 : Vec F S1x2048 .f32) (xo : Vec F S1x2048 .f32) :
    out0_B_4 c i arg1 harg1 arg2 harg2 arg3 harg3 arg4 harg4 arg5 harg5 hc0 hc1 x0 x1 x2 xo = k0_pay3 x0 x1 xo := by
  unfold out0_B_4
  rw [View.read_writes_eq_canon _ _ _ (cover0_B_4 c i arg1 harg1 arg2 harg2 arg3 harg3 arg4 harg4 arg5 harg5 hc0 hc1 x0 x1 x2 xo)]
  unfold kernelRun0_B
  dsimp only
  sl_unfold_words
  rw [View.canon_unit_zero (S := S1x2048) hz]
  simp only [View.readAt_eq_ld, harg1.read_unread, harg2.read_unread, harg3.read_unread, harg4.read_unread, harg5.read_unread, View.ld_unit_zero (S := S256x2048) hz, View.ld_unit_zero (S := S1x2048) hz]

end

/-! ## The gradients -/

/-- The branch's gradient: the gate by the cotangent. -/
def outY (D : Vec Ideal S4096x2048 .f32) (g : Vec Ideal S1x2048 .f32) : Vec Ideal S4096x2048 .bf16 :=
  fun i => (g (ix2 (0 : Fin 1) (i 1)) : EReal) * (D i : EReal)

/-- The gate's gradient: the sum over the rows of the cotangent by the branch. -/
def outG (D : Vec Ideal S4096x2048 .f32) (Y : Vec Ideal S4096x2048 .bf16) : Vec Ideal S1x2048 .f32 :=
  fun i => ∑ r : Fin 4096, (D (ix2 r (i 1)) : EReal) * (Y (ix2 r (i 1)) : EReal)

theorem pay1_at (x : Vec Ideal S256x2048 .f32) (g : Vec Ideal S1x2048 .f32) (p : Fin 256) (e : Fin 2048) :
    (k0_pay1 x g (ix2 p e) : EReal) = (g (ix2 (0 : Fin 1) e) : EReal) * (x (ix2 p e) : EReal) := by
  pointwise [k0_pay1]

theorem pay2_at (x : Vec Ideal S256x2048 .f32) (y : Vec Ideal S256x2048 .bf16) (e : Fin 2048) :
    (k0_pay2 x y (ix2 (0 : Fin 1) e) : EReal) = ∑ p : Fin 256, (x (ix2 p e) : EReal) * (y (ix2 p e) : EReal) := by
  pointwise [k0_pay2]

theorem pay3_at (x : Vec Ideal S256x2048 .f32) (y : Vec Ideal S256x2048 .bf16) (a : Vec Ideal S1x2048 .f32) (i : S1x2048.Idx) :
    (k0_pay3 x y a i : EReal) = (a i : EReal) + (k0_pay2 x y i : EReal) := by
  unfold k0_pay3
  exact congrArg (· + _) (congrFun (shapeCast_self _ _) i)

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![0, 0] := (by decide +kernel : ∀ t : Fin grid0.N, _)
theorem lt_N (t : Fin cfg0.N) : t.val < 16 := lt_of_lt_of_eq t.isLt (show cfg0.N = 16 from N_0)

variable (m : (ℓ : Loc nD τ sig) → Buf (Elt Ideal) ℓ) (c : Dev nD)

/-- The row of the array at row `p` of point `t`'s block. -/
def row (t : Fin cfg0.N) (p : Fin 256) : Fin 4096 := ⟨256 * t.val + p.val, by have := lt_N t; omega⟩

theorem iblk0_at (t : Fin cfg0.N) (p : Fin 256) (e : Fin 2048) :
    iblk m c 0 t (ix2 p e) = m ((c : Thread nD τ).loc main_arg0) (ix2 (row t p) e) := by
  rw [← V_main_arg0 m c]
  blk_simp [iblk]
  refine congrArg (V m c main_arg0) ?_
  blk_ext [index_0, row]

theorem iblk1_at (t : Fin cfg0.N) (p : Fin 256) (e : Fin 2048) :
    iblk m c 1 t (ix2 p e) = m ((c : Thread nD τ).loc main_arg1) (ix2 (row t p) e) := by
  rw [← V_main_arg1 m c]
  blk_simp [iblk]
  refine congrArg (V m c main_arg1) ?_
  blk_ext [index_1, row]

theorem iblk2_at (t : Fin cfg0.N) (e : Fin 2048) :
    iblk m c 2 t (ix2 (0 : Fin 1) e) = m ((c : Thread nD τ).loc main_arg2) (ix2 (0 : Fin 1) e) := by
  rw [← V_main_arg2 m c]
  blk_simp [iblk]
  refine congrArg (V m c main_arg2) ?_
  blk_ext [index_2]

theorem rows_at (t : Fin cfg0.N) : (outsAt0 m c t.val t.isLt).1 = k0_pay1 (iblk m c 0 t) (iblk m c 2 t) := by
  have hN := lt_N t
  by_cases h : t.val = 0
  · refine (congrArg Prod.fst (outsAt0_A m c t (by omega) (by omega))).trans ?_
    dsimp only
    rw [row_first]
  · refine (congrArg Prod.fst (outsAt0_B m c t (by omega) (by omega))).trans ?_
    dsimp only
    rw [row_next]

/-- What point `s` adds, at column `e`. -/
def part (D : Vec Ideal S4096x2048 .f32) (Y : Vec Ideal S4096x2048 .bf16) (e : Fin 2048) (s : Fin 16) : EReal :=
  ∑ p : Fin 256, (D (ix2 (⟨256 * s.val + p.val, by omega⟩ : Fin 4096) e) : EReal) * (Y (ix2 (⟨256 * s.val + p.val, by omega⟩ : Fin 4096) e) : EReal)

theorem part_sum (D : Vec Ideal S4096x2048 .f32) (Y : Vec Ideal S4096x2048 .bf16) (e : Fin 2048) :
    ∑ s : Fin 16, part D Y e s = outG D Y (ix2 (0 : Fin 1) e) :=
  sum_rows fun r => (D (ix2 r e) : EReal) * (Y (ix2 r e) : EReal)

theorem part_at (t : Fin cfg0.N) (e : Fin 2048) :
    (k0_pay2 (iblk m c 0 t) (iblk m c 1 t) (ix2 (0 : Fin 1) e) : EReal)
      = part (m ((c : Thread nD τ).loc main_arg0)) (m ((c : Thread nD τ).loc main_arg1)) e ⟨t.val, lt_N t⟩ := by
  refine (pay2_at _ _ _).trans (Finset.sum_congr rfl fun p _ => ?_)
  rw [iblk0_at, iblk1_at]
  rfl

/-- After point `n` the accumulator holds the sum of the points so far. -/
theorem acc_at (e : Fin 2048) : ∀ (n : ℕ) (hn : n < cfg0.N) (h16 : n < 16),
    ((outsAt0 m c n hn).2 (ix2 (0 : Fin 1) e) : EReal)
      = ∑ s : Fin (n + 1), part (m ((c : Thread nD τ).loc main_arg0)) (m ((c : Thread nD τ).loc main_arg1)) e ⟨s.val, by omega⟩
  | 0, hn, h16 => by
    refine (congrFun (congrArg Prod.snd (outsAt0_A m c ⟨0, hn⟩ (show 0 % 16 = 0 from rfl) (show ¬1 ≤ 0 by omega))) (ix2 (0 : Fin 1) e)).trans ?_
    dsimp only
    rw [acc_first, part_at, Fin.sum_univ_one]
    rfl
  | n + 1, hn, h16 => by
    refine (congrFun (congrArg Prod.snd (outsAt0_B m c ⟨n + 1, hn⟩ (show ¬(n + 1) % 16 = 0 by omega) (show 1 ≤ n + 1 by omega))) (ix2 (0 : Fin 1) e)).trans ?_
    dsimp only
    rw [acc_next, pay3_at, part_at, Fin.sum_univ_castSucc]
    exact congrArg (· + _) (acc_at e n (by omega) (by omega))

theorem acc_last (t : Fin cfg0.N) (h : t.val = 15) (e : Fin 2048) :
    ((outsAt0 m c t.val t.isLt).2 (ix2 (0 : Fin 1) e) : EReal)
      = ∑ s : Fin 16, part (m ((c : Thread nD τ).loc main_arg0)) (m ((c : Thread nD τ).loc main_arg1)) e s := by
  obtain ⟨n, hn⟩ := t
  obtain rfl : n = 15 := h
  exact acc_at m c e 15 hn (by omega)

theorem arrY : (dats m 0 c).arrAt 3 cfg0.N = outY (m ((c : Thread nD τ).loc main_arg0)) (m ((c : Thread nD τ).loc main_arg2)) := by
  refine (dats m 0 c).arrAt_eq_of_covers 3 _ (by decide +kernel) fun t hf y => ?_
  obtain ⟨p, e, rfl⟩ : ∃ (p : Fin 256) (e : Fin 2048), y = ix2 p e := ⟨y 0, y 1, eq_ix2 y⟩
  have hy : ((cfg0.win 3).blk t).view.emb (ix2 p e) = ix2 (row t p) e := by blk_ext [index_3, row]
  blk_simp [index_3]
  rw [after0_3, rows_at]
  refine (pay1_at _ _ _ _).trans ?_
  rw [iblk0_at, iblk2_at]
  exact congrArg (outY _ _) hy.symm

theorem arrG : (dats m 0 c).arrAt 4 cfg0.N = outG (m ((c : Thread nD τ).loc main_arg0)) (m ((c : Thread nD τ).loc main_arg1)) := by
  refine (dats m 0 c).arrAt_eq_of_covers 4 _ (by decide +kernel) fun t hf y => ?_
  obtain ⟨e, rfl⟩ : ∃ (e : Fin 2048), y = ix2 (0 : Fin 1) e := ⟨y 1, (eq_ix2 y).trans (congrArg (ix2 · (y 1)) (Subsingleton.elim (α := Fin 1) _ _))⟩
  have h15 : t.val % 16 = 15 := (flush0_4 t).mp hf
  have hN := lt_N t
  have hy : ((cfg0.win 4).blk t).view.emb (ix2 (0 : Fin 1) e) = ix2 (0 : Fin 1) e := by blk_ext [index_4]
  blk_simp [index_4]
  rw [after0_4]
  refine (acc_last m c t (by omega) e).trans ?_
  exact (part_sum _ _ e).trans (congrArg (outG (m ((c : Thread nD τ).loc main_arg0)) (m ((c : Thread nD τ).loc main_arg1))) hy.symm)

end Cert.GateIdeal.Prod

namespace Cert.Proof

open Idealize.ShloMosaic Idealize.ShloMosaic.TcCoe Idealize.SL.Sem

theorem gate_algebraic : Cert.algebraic_GateIdeal_RefGateIdeal := by
  intro m g m' g' _ hargs
  refine ⟨fun c => Cert.GateIdeal.Prod.outY (m ((c.tc : Thread _ _).loc Cert.GateIdeal.main_arg0)) (m ((c.tc : Thread _ _).loc Cert.GateIdeal.main_arg2)),
    fun c => Cert.GateIdeal.Prod.outG (m ((c.tc : Thread _ _).loc Cert.GateIdeal.main_arg0)) (m ((c.tc : Thread _ _).loc Cert.GateIdeal.main_arg1)), ?_, ?_⟩
  · exact (θ_run Cert.GateIdeal.defs _ _).mono (fun r h c => ⟨(h c).1.trans (Cert.GateIdeal.Prod.arrY m c), (h c).2.1.trans (Cert.GateIdeal.Prod.arrG m c), (h c).2.2⟩)
      (Cert.GateIdeal.Value.run_blocks (F := Ideal) m g)
  · refine (θ_run Cert.RefGateIdeal.defs _ _).mono (fun r h c => ⟨(h c).1.trans ?_, (h c).2.1.trans ?_, (h c).2.2⟩) (Cert.RefGateIdeal.Value.run (F := Ideal) m' g')
    · rw [(hargs c).1, (hargs c).2.2]
      funext i
      rw [Cert.GateIdeal.Prod.eq_ix2 i]
      unfold Cert.GateIdeal.Prod.outY
      pointwise
    · rw [(hargs c).1, (hargs c).2.1]
      funext i
      obtain ⟨e, rfl⟩ : ∃ (e : Fin 2048), i = ix2 (0 : Fin 1) e :=
        ⟨i 1, (Cert.GateIdeal.Prod.eq_ix2 i).trans (congrArg (ix2 · (i 1)) (Subsingleton.elim (α := Fin 1) _ _))⟩
      unfold Cert.GateIdeal.Prod.outG
      pointwise

/-- The frame at words, of the second program's text. -/
def gateWords : Prop :=
  ∀ (m : (ℓ : Loc Cert.GateIdeal.nD Cert.GateIdeal.τ Cert.GateIdeal.sig) → Buf (Elt Bits) ℓ) (g : Dev Cert.GateIdeal.nD → PrngReg), True →
    θ_run (Cert.GateIdeal.defs (F := Bits)) (onTc (τ := Cert.GateIdeal.τ) (Cert.GateIdeal.main (F := Bits))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

set_option maxHeartbeats 4000000 in
theorem gate_text : gateWords = Cert.quiescent_Gate := by sl_kernel_rfl

theorem frame_gate : Cert.quiescent_Gate := gate_text.mp fun m ρ _ => Cert.GateIdeal.Gen.frame (F := Bits) m ρ

theorem frame_gate_ideal : Cert.quiescent_GateIdeal := fun m ρ _ => Cert.GateIdeal.Gen.frame (F := Ideal) m ρ

theorem frame_gate_reference : Cert.quiescent_RefGateIdeal := fun m ρ _ =>
  (θ_run Cert.RefGateIdeal.defs _ _).mono (fun r h => ⟨fun c => (h c).2.2, Idealize.ShloMosaic.sem_eq_zero_of_no_sems (by decide) r.2⟩)
    (Cert.RefGateIdeal.Value.run (F := Ideal) m ρ)

end Cert.Proof

end

end
-- ==== Proof.Fwd.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Na

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The forward call, at one grid point

The body of the forward call is run on arbitrary whole staging buffers; the stores it makes are found by the run. -/

abbrev VO0_6 : View sig .tc .vmem S64x256 .bf16 := (Memref.whole cc0_stg6_0 : Memref sig .tc .vmem S64x256 .bf16).view
abbrev VO0_7 : View sig .tc .vmem S2x64x1 .f32 := (Memref.whole cc0_stg7_0 : Memref sig .tc .vmem S2x64x1 .f32).view
abbrev ms0_0 (t : Fin cfg0.N) : Memref sig .tc .vmem S64x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x14x64x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x64x1 .f32 := win0_7.stage (cfg0.slots t 7)
abbrev hs0_7 (t : Fin cfg0.N) : (ms0_7 t).IsWhole := hstage0_7 ((cfg0.slots t 7).cast nbuf0_7)
section Run0_A

variable (c : Dev nD) (i : grid0.Coords) (arg2 : Memref sig .tc .vmem S64x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2x14x64x128 .f32) (harg7 : arg7.IsWhole) (arg8 : Memref sig .tc .vmem S64x256 .bf16) (harg8 : arg8.IsWhole) (arg9 : Memref sig .tc .vmem S2x64x1 .f32) (harg9 : arg9.IsWhole)
  (x0 : Vec F S64x256 .bf16) (x1 : Vec F S4096x256 .bf16) (x2 : Vec F S4096x256 .bf16) (x3 : Vec F S256x256 .bf16) (x4 : Vec F S256x256 .bf16) (x5 : Vec F S2x14x64x128 .f32)

set_option maxHeartbeats 1000000 in
/-- The stores of the forward body into its two outputs, with the proof that the body runs and leaves them. -/
def kernelRun0_A :
    Σ' (L6 : List (View.Piece (Elt F) S64x256 .bf16)), { L7 : List (View.Piece (Elt F) S2x64x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0_na_fwd i arg2 harg2 arg3 harg3 arg4 harg4 arg5 harg5 arg6 harg6 arg7 harg7 arg8 harg8 arg9 harg9) K } := by
  refine ⟨?_, ?_, fun E K => ?run⟩
  case run =>
    simp only [cc0_na_fwd_eq_skeleton]; unfold cc0_na_fwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

theorem cover0_A_6  (y : S64x256.Idx) :
    ∃ pc ∈ (kernelRun0_A c i arg2 harg2 arg3 harg3 arg4 harg4 arg5 harg5 arg6 harg6 arg7 harg7 arg8 harg8 arg9 harg9 x0 x1 x2 x3 x4 x5).1, y ∈ pc.1.set :=
  View.cover_of_tiledL (kernelRun0_A c i arg2 harg2 arg3 harg3 arg4 harg4 arg5 harg5 arg6 harg6 arg7 harg7 arg8 harg8 arg9 harg9 x0 x1 x2 x3 x4 x5).1 S64x128.size (by sl_kernel_rfl) y

def out0_A_6  : Vec F S64x256 .bf16 :=
  VO0_6.read (Elt F) (VO0_6.writes (Elt F) VO0_6.junk (kernelRun0_A c i arg2 harg2 arg3 harg3 arg4 harg4 arg5 harg5 arg6 harg6 arg7 harg7 arg8 harg8 arg9 harg9 x0 x1 x2 x3 x4 x5).1)

theorem cover0_A_7  (y : S2x64x1.Idx) :
    ∃ pc ∈ (kernelRun0_A c i arg2 harg2 arg3 harg3 arg4 harg4 arg5 harg5 arg6 harg6 arg7 harg7 arg8 harg8 arg9 harg9 x0 x1 x2 x3 x4 x5).2.1, y ∈ pc.1.set :=
  View.cover_of_tiledL (kernelRun0_A c i arg2 harg2 arg3 harg3 arg4 harg4 arg5 harg5 arg6 harg6 arg7 harg7 arg8 harg8 arg9 harg9 x0 x1 x2 x3 x4 x5).2.1 S1x64x1.size (by sl_kernel_rfl) y

def out0_A_7  : Vec F S2x64x1 .f32 :=
  VO0_7.read (Elt F) (VO0_7.writes (Elt F) VO0_7.junk (kernelRun0_A c i arg2 harg2 arg3 harg3 arg4 harg4 arg5 harg5 arg6 harg6 arg7 harg7 arg8 harg8 arg9 harg9 x0 x1 x2 x3 x4 x5).2.1)

end Run0_A

section Region

/- `V`: what each buffer of the TensorCore holds when the region is entered. -/
variable (V : (c : Dev nD) → (b : Ref sig .tc) → Buf (Elt F) ((c : Thread nD τ).loc b))

/-- What input window `w` of call 0 stages at point `t`: its block of the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! The staging buffer of an input window holds the window's block at every point, whether it was fetched there or
earlier: the block index has not moved in between. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- What the forward body leaves in its two output buffers at point `t`. -/
def outsAt0 (c : Dev nD) (t : Fin cfg0.N) : Vec F S64x256 .bf16 × Vec F S2x64x1 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) (iblk0 V c 5 t),
   out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) (iblk0 V c 5 t))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t).1
    | ⟨7, _⟩ => (outsAt0 V c t).2
  Φ _ := Pipeline.ΦA spec0 c
  q w := Pipeline.shareOf spec0 w
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t).1 := by dsimp only [dat0]
theorem after0_7 (c : Dev nD) (t : Fin cfg0.N) : (dat0 V c).after 7 t = (outsAt0 V c t).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  unfold outsAt0
  unfold out0_A_6 out0_A_7; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ (iblk0 V c 0 t) (iblk0 V c 1 t) (iblk0 V c 2 t) (iblk0 V c 3 t) (iblk0 V c 4 t) (iblk0 V c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _)
  unfold owns; iexists _; isplitr
  swap; · iexact H7
  ipureintro; exact View.read_writes_of_cover _ _ _ _ _ (cover0_A_7 c _ _ _ _ _ _ _ _ _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl
end Region

end Cert.KernelIdeal.Na

end

end
-- ==== Proof.BwdBase.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Na

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The backward call: its staging buffers and its reset condition -/

abbrev VO1_9 : View sig .tc .vmem S64x256 .bf16 := (Memref.whole cc1_stg9_0 : Memref sig .tc .vmem S64x256 .bf16).view
abbrev VO1_10 : View sig .tc .vmem S4096x256 .f32 := (Memref.whole cc1_stg10_0 : Memref sig .tc .vmem S4096x256 .f32).view
abbrev VO1_11 : View sig .tc .vmem S4096x256 .f32 := (Memref.whole cc1_stg11_0 : Memref sig .tc .vmem S4096x256 .f32).view
abbrev VO1_12 : View sig .tc .vmem S256x256 .f32 := (Memref.whole cc1_stg12_0 : Memref sig .tc .vmem S256x256 .f32).view
abbrev VO1_13 : View sig .tc .vmem S256x256 .f32 := (Memref.whole cc1_stg13_0 : Memref sig .tc .vmem S256x256 .f32).view
abbrev VO1_14 : View sig .tc .vmem S2x14x64x128 .f32 := (Memref.whole cc1_stg14_0 : Memref sig .tc .vmem S2x14x64x128 .f32).view
abbrev ms1_0 (t : Fin cfg1.N) : Memref sig .tc .vmem S64x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x256 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2x14x64x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x256 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2x64x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S64x256 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S64x256 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S4096x256 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S4096x256 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S256x256 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S256x256 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S2x14x64x128 .f32 := win1_14.stage (cfg1.slots t 14)
abbrev hs1_14 (t : Fin cfg1.N) : (ms1_14 t).IsWhole := hstage1_14 ((cfg1.slots t 14).cast nbuf1_14)

/-- The body resets its accumulators at the points whose row is the first. -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 64 = 0 :=
  (fun t => by
    have ht : t.val < 256 := Nat.lt_of_lt_of_eq t.isLt N_1
    have e0 : (grid1.coords t 0).val = t.val / 64 % 4 := Pipeline.Grid.coords_val t 0 (by decide) rfl
    have e1 : (grid1.coords t 1).val = t.val / 1 % 64 := Pipeline.Grid.coords_val t 1 (by decide) rfl
    simp only [cond1_0, e0, e1]
    word_cmp
   : ∀ t : Fin grid1.N, cond1_0 (grid1.coords t) ↔ t.val % 64 = 0)
end Cert.KernelIdeal.Na

end

end
-- ==== Proof.Offs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Na

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The window of rows a grid point works on

At row `r` the kernels read the rows `st r … st r + 7` of keys and values (`st r` is `r - 4` clipped to `0 … 56`) and the
pairs of bias tables from `7 - (r - st r)` on. The printed offsets compute these in words; here they are in closed form. -/

theorem off1_eq0 (i : grid0.Coords) : k0_off1 i = ![64 * min ((i 1).val - 4) 56, 0] := by
  have h : ∀ r : Fin 64, (Scalar.indexCast (Scalar.muli (Scalar.minsi 56#32 (Scalar.maxsi 0#32 (Scalar.subi (BitVec.ofNat 32 r.val) 4#32))) 64#32) : Index).toNat
      = 64 * min (r.val - 4) 56 := by decide +kernel
  have h' := h (i 1)
  unfold k0_off1
  dsimp only at h' ⊢
  rw [h']
instance (i : grid0.Coords) : ClosedOff (k0_off1 i) := ⟨_, off1_eq0 i⟩
theorem off3_eq0 (i : grid0.Coords) : k0_off3 i = ![64 * min ((i 1).val - 4) 56, 128] := by
  have h : ∀ r : Fin 64, (Scalar.indexCast (Scalar.muli (Scalar.minsi 56#32 (Scalar.maxsi 0#32 (Scalar.subi (BitVec.ofNat 32 r.val) 4#32))) 64#32) : Index).toNat
      = 64 * min (r.val - 4) 56 := by decide +kernel
  have h' := h (i 1)
  unfold k0_off3
  dsimp only at h' ⊢
  rw [h']
instance (i : grid0.Coords) : ClosedOff (k0_off3 i) := ⟨_, off3_eq0 i⟩
theorem off2_eq0_0 (i : grid0.Coords) : k0_off2 i 0#32 = ![0, 7 - ((i 1).val - min ((i 1).val - 4) 56) + 0, 0, 0] := by
  have h : ∀ r : Fin 64, (Scalar.indexCast (Scalar.addi (Scalar.subi 7#32 (Scalar.subi (BitVec.ofNat 32 r.val) (Scalar.minsi 56#32 (Scalar.maxsi 0#32 (Scalar.subi (BitVec.ofNat 32 r.val) 4#32))))) 0#32) : Index).toNat
      = 7 - (r.val - min (r.val - 4) 56) + 0 := by decide +kernel
  have h' := h (i 1)
  unfold k0_off2
  dsimp only at h' ⊢
  rw [h']
instance (i : grid0.Coords) : ClosedOff (k0_off2 i 0#32) := ⟨_, off2_eq0_0 i⟩
theorem off2_eq0_1 (i : grid0.Coords) : k0_off2 i 2#32 = ![0, 7 - ((i 1).val - min ((i 1).val - 4) 56) + 2, 0, 0] := by
  have h : ∀ r : Fin 64, (Scalar.indexCast (Scalar.addi (Scalar.subi 7#32 (Scalar.subi (BitVec.ofNat 32 r.val) (Scalar.minsi 56#32 (Scalar.maxsi 0#32 (Scalar.subi (BitVec.ofNat 32 r.val) 4#32))))) 2#32) : Index).toNat
      = 7 - (r.val - min (r.val - 4) 56) + 2 := by decide +kernel
  have h' := h (i 1)
  unfold k0_off2
  dsimp only at h' ⊢
  rw [h']
instance (i : grid0.Coords) : ClosedOff (k0_off2 i 2#32) := ⟨_, off2_eq0_1 i⟩
theorem off2_eq0_2 (i : grid0.Coords) : k0_off2 i 4#32 = ![0, 7 - ((i 1).val - min ((i 1).val - 4) 56) + 4, 0, 0] := by
  have h : ∀ r : Fin 64, (Scalar.indexCast (Scalar.addi (Scalar.subi 7#32 (Scalar.subi (BitVec.ofNat 32 r.val) (Scalar.minsi 56#32 (Scalar.maxsi 0#32 (Scalar.subi (BitVec.ofNat 32 r.val) 4#32))))) 4#32) : Index).toNat
      = 7 - (r.val - min (r.val - 4) 56) + 4 := by decide +kernel
  have h' := h (i 1)
  unfold k0_off2
  dsimp only at h' ⊢
  rw [h']
instance (i : grid0.Coords) : ClosedOff (k0_off2 i 4#32) := ⟨_, off2_eq0_2 i⟩
theorem off2_eq0_3 (i : grid0.Coords) : k0_off2 i 6#32 = ![0, 7 - ((i 1).val - min ((i 1).val - 4) 56) + 6, 0, 0] := by
  have h : ∀ r : Fin 64, (Scalar.indexCast (Scalar.addi (Scalar.subi 7#32 (Scalar.subi (BitVec.ofNat 32 r.val) (Scalar.minsi 56#32 (Scalar.maxsi 0#32 (Scalar.subi (BitVec.ofNat 32 r.val) 4#32))))) 6#32) : Index).toNat
      = 7 - (r.val - min (r.val - 4) 56) + 6 := by decide +kernel
  have h' := h (i 1)
  unfold k0_off2
  dsimp only at h' ⊢
  rw [h']
instance (i : grid0.Coords) : ClosedOff (k0_off2 i 6#32) := ⟨_, off2_eq0_3 i⟩
theorem off4_eq0_0 (i : grid0.Coords) : k0_off4 i 0#32 = ![1, 7 - ((i 1).val - min ((i 1).val - 4) 56) + 0, 0, 0] := by
  have h : ∀ r : Fin 64, (Scalar.indexCast (Scalar.addi (Scalar.subi 7#32 (Scalar.subi (BitVec.ofNat 32 r.val) (Scalar.minsi 56#32 (Scalar.maxsi 0#32 (Scalar.subi (BitVec.ofNat 32 r.val) 4#32))))) 0#32) : Index).toNat
      = 7 - (r.val - min (r.val - 4) 56) + 0 := by decide +kernel
  have h' := h (i 1)
  unfold k0_off4
  dsimp only at h' ⊢
  rw [h']
instance (i : grid0.Coords) : ClosedOff (k0_off4 i 0#32) := ⟨_, off4_eq0_0 i⟩
theorem off4_eq0_1 (i : grid0.Coords) : k0_off4 i 2#32 = ![1, 7 - ((i 1).val - min ((i 1).val - 4) 56) + 2, 0, 0] := by
  have h : ∀ r : Fin 64, (Scalar.indexCast (Scalar.addi (Scalar.subi 7#32 (Scalar.subi (BitVec.ofNat 32 r.val) (Scalar.minsi 56#32 (Scalar.maxsi 0#32 (Scalar.subi (BitVec.ofNat 32 r.val) 4#32))))) 2#32) : Index).toNat
      = 7 - (r.val - min (r.val - 4) 56) + 2 := by decide +kernel
  have h' := h (i 1)
  unfold k0_off4
  dsimp only at h' ⊢
  rw [h']
instance (i : grid0.Coords) : ClosedOff (k0_off4 i 2#32) := ⟨_, off4_eq0_1 i⟩
theorem off4_eq0_2 (i : grid0.Coords) : k0_off4 i 4#32 = ![1, 7 - ((i 1).val - min ((i 1).val - 4) 56) + 4, 0, 0] := by
  have h : ∀ r : Fin 64, (Scalar.indexCast (Scalar.addi (Scalar.subi 7#32 (Scalar.subi (BitVec.ofNat 32 r.val) (Scalar.minsi 56#32 (Scalar.maxsi 0#32 (Scalar.subi (BitVec.ofNat 32 r.val) 4#32))))) 4#32) : Index).toNat
      = 7 - (r.val - min (r.val - 4) 56) + 4 := by decide +kernel
  have h' := h (i 1)
  unfold k0_off4
  dsimp only at h' ⊢
  rw [h']
instance (i : grid0.Coords) : ClosedOff (k0_off4 i 4#32) := ⟨_, off4_eq0_2 i⟩
theorem off4_eq0_3 (i : grid0.Coords) : k0_off4 i 6#32 = ![1, 7 - ((i 1).val - min ((i 1).val - 4) 56) + 6, 0, 0] := by
  have h : ∀ r : Fin 64, (Scalar.indexCast (Scalar.addi (Scalar.subi 7#32 (Scalar.subi (BitVec.ofNat 32 r.val) (Scalar.minsi 56#32 (Scalar.maxsi 0#32 (Scalar.subi (BitVec.ofNat 32 r.val) 4#32))))) 6#32) : Index).toNat
      = 7 - (r.val - min (r.val - 4) 56) + 6 := by decide +kernel
  have h' := h (i 1)
  unfold k0_off4
  dsimp only at h' ⊢
  rw [h']
instance (i : grid0.Coords) : ClosedOff (k0_off4 i 6#32) := ⟨_, off4_eq0_3 i⟩
theorem off1_eq1 (i : grid1.Coords) : k1_off1 i = ![64 * min ((i 1).val - 4) 56, 0] := by
  have h : ∀ r : Fin 64, (Scalar.indexCast (Scalar.muli (Scalar.minsi 56#32 (Scalar.maxsi 0#32 (Scalar.subi (BitVec.ofNat 32 r.val) 4#32))) 64#32) : Index).toNat
      = 64 * min (r.val - 4) 56 := by decide +kernel
  have h' := h (i 1)
  unfold k1_off1
  dsimp only at h' ⊢
  rw [h']
instance (i : grid1.Coords) : ClosedOff (k1_off1 i) := ⟨_, off1_eq1 i⟩
theorem off3_eq1 (i : grid1.Coords) : k1_off3 i = ![64 * min ((i 1).val - 4) 56, 128] := by
  have h : ∀ r : Fin 64, (Scalar.indexCast (Scalar.muli (Scalar.minsi 56#32 (Scalar.maxsi 0#32 (Scalar.subi (BitVec.ofNat 32 r.val) 4#32))) 64#32) : Index).toNat
      = 64 * min (r.val - 4) 56 := by decide +kernel
  have h' := h (i 1)
  unfold k1_off3
  dsimp only at h' ⊢
  rw [h']
instance (i : grid1.Coords) : ClosedOff (k1_off3 i) := ⟨_, off3_eq1 i⟩
theorem off2_eq1_0 (i : grid1.Coords) : k1_off2 i 0#32 = ![0, 7 - ((i 1).val - min ((i 1).val - 4) 56) + 0, 0, 0] := by
  have h : ∀ r : Fin 64, (Scalar.indexCast (Scalar.addi (Scalar.subi 7#32 (Scalar.subi (BitVec.ofNat 32 r.val) (Scalar.minsi 56#32 (Scalar.maxsi 0#32 (Scalar.subi (BitVec.ofNat 32 r.val) 4#32))))) 0#32) : Index).toNat
      = 7 - (r.val - min (r.val - 4) 56) + 0 := by decide +kernel
  have h' := h (i 1)
  unfold k1_off2
  dsimp only at h' ⊢
  rw [h']
instance (i : grid1.Coords) : ClosedOff (k1_off2 i 0#32) := ⟨_, off2_eq1_0 i⟩
theorem off2_eq1_1 (i : grid1.Coords) : k1_off2 i 2#32 = ![0, 7 - ((i 1).val - min ((i 1).val - 4) 56) + 2, 0, 0] := by
  have h : ∀ r : Fin 64, (Scalar.indexCast (Scalar.addi (Scalar.subi 7#32 (Scalar.subi (BitVec.ofNat 32 r.val) (Scalar.minsi 56#32 (Scalar.maxsi 0#32 (Scalar.subi (BitVec.ofNat 32 r.val) 4#32))))) 2#32) : Index).toNat
      = 7 - (r.val - min (r.val - 4) 56) + 2 := by decide +kernel
  have h' := h (i 1)
  unfold k1_off2
  dsimp only at h' ⊢
  rw [h']
instance (i : grid1.Coords) : ClosedOff (k1_off2 i 2#32) := ⟨_, off2_eq1_1 i⟩
theorem off2_eq1_2 (i : grid1.Coords) : k1_off2 i 4#32 = ![0, 7 - ((i 1).val - min ((i 1).val - 4) 56) + 4, 0, 0] := by
  have h : ∀ r : Fin 64, (Scalar.indexCast (Scalar.addi (Scalar.subi 7#32 (Scalar.subi (BitVec.ofNat 32 r.val) (Scalar.minsi 56#32 (Scalar.maxsi 0#32 (Scalar.subi (BitVec.ofNat 32 r.val) 4#32))))) 4#32) : Index).toNat
      = 7 - (r.val - min (r.val - 4) 56) + 4 := by decide +kernel
  have h' := h (i 1)
  unfold k1_off2
  dsimp only at h' ⊢
  rw [h']
instance (i : grid1.Coords) : ClosedOff (k1_off2 i 4#32) := ⟨_, off2_eq1_2 i⟩
theorem off2_eq1_3 (i : grid1.Coords) : k1_off2 i 6#32 = ![0, 7 - ((i 1).val - min ((i 1).val - 4) 56) + 6, 0, 0] := by
  have h : ∀ r : Fin 64, (Scalar.indexCast (Scalar.addi (Scalar.subi 7#32 (Scalar.subi (BitVec.ofNat 32 r.val) (Scalar.minsi 56#32 (Scalar.maxsi 0#32 (Scalar.subi (BitVec.ofNat 32 r.val) 4#32))))) 6#32) : Index).toNat
      = 7 - (r.val - min (r.val - 4) 56) + 6 := by decide +kernel
  have h' := h (i 1)
  unfold k1_off2
  dsimp only at h' ⊢
  rw [h']
instance (i : grid1.Coords) : ClosedOff (k1_off2 i 6#32) := ⟨_, off2_eq1_3 i⟩
theorem off4_eq1_0 (i : grid1.Coords) : k1_off4 i 0#32 = ![1, 7 - ((i 1).val - min ((i 1).val - 4) 56) + 0, 0, 0] := by
  have h : ∀ r : Fin 64, (Scalar.indexCast (Scalar.addi (Scalar.subi 7#32 (Scalar.subi (BitVec.ofNat 32 r.val) (Scalar.minsi 56#32 (Scalar.maxsi 0#32 (Scalar.subi (BitVec.ofNat 32 r.val) 4#32))))) 0#32) : Index).toNat
      = 7 - (r.val - min (r.val - 4) 56) + 0 := by decide +kernel
  have h' := h (i 1)
  unfold k1_off4
  dsimp only at h' ⊢
  rw [h']
instance (i : grid1.Coords) : ClosedOff (k1_off4 i 0#32) := ⟨_, off4_eq1_0 i⟩
theorem off4_eq1_1 (i : grid1.Coords) : k1_off4 i 2#32 = ![1, 7 - ((i 1).val - min ((i 1).val - 4) 56) + 2, 0, 0] := by
  have h : ∀ r : Fin 64, (Scalar.indexCast (Scalar.addi (Scalar.subi 7#32 (Scalar.subi (BitVec.ofNat 32 r.val) (Scalar.minsi 56#32 (Scalar.maxsi 0#32 (Scalar.subi (BitVec.ofNat 32 r.val) 4#32))))) 2#32) : Index).toNat
      = 7 - (r.val - min (r.val - 4) 56) + 2 := by decide +kernel
  have h' := h (i 1)
  unfold k1_off4
  dsimp only at h' ⊢
  rw [h']
instance (i : grid1.Coords) : ClosedOff (k1_off4 i 2#32) := ⟨_, off4_eq1_1 i⟩
theorem off4_eq1_2 (i : grid1.Coords) : k1_off4 i 4#32 = ![1, 7 - ((i 1).val - min ((i 1).val - 4) 56) + 4, 0, 0] := by
  have h : ∀ r : Fin 64, (Scalar.indexCast (Scalar.addi (Scalar.subi 7#32 (Scalar.subi (BitVec.ofNat 32 r.val) (Scalar.minsi 56#32 (Scalar.maxsi 0#32 (Scalar.subi (BitVec.ofNat 32 r.val) 4#32))))) 4#32) : Index).toNat
      = 7 - (r.val - min (r.val - 4) 56) + 4 := by decide +kernel
  have h' := h (i 1)
  unfold k1_off4
  dsimp only at h' ⊢
  rw [h']
instance (i : grid1.Coords) : ClosedOff (k1_off4 i 4#32) := ⟨_, off4_eq1_2 i⟩
theorem off4_eq1_3 (i : grid1.Coords) : k1_off4 i 6#32 = ![1, 7 - ((i 1).val - min ((i 1).val - 4) 56) + 6, 0, 0] := by
  have h : ∀ r : Fin 64, (Scalar.indexCast (Scalar.addi (Scalar.subi 7#32 (Scalar.subi (BitVec.ofNat 32 r.val) (Scalar.minsi 56#32 (Scalar.maxsi 0#32 (Scalar.subi (BitVec.ofNat 32 r.val) 4#32))))) 6#32) : Index).toNat
      = 7 - (r.val - min (r.val - 4) 56) + 6 := by decide +kernel
  have h' := h (i 1)
  unfold k1_off4
  dsimp only at h' ⊢
  rw [h']
instance (i : grid1.Coords) : ClosedOff (k1_off4 i 6#32) := ⟨_, off4_eq1_3 i⟩

end Cert.KernelIdeal.Na

end

end
-- ==== Proof.BwdRunA.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.BwdBase
public import proofs.«01_k».proof.Proof.Offs

@[expose] public section

set_option maxRecDepth 16384

noncomputable section

namespace Cert.KernelIdeal.Na

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The backward body at a point that resets its accumulators -/

section Run1_A

variable (c : Dev nD) (i : grid1.Coords) (arg2 : Memref sig .tc .vmem S64x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2x14x64x128 .f32) (harg7 : arg7.IsWhole) (arg8 : Memref sig .tc .vmem S64x256 .bf16) (harg8 : arg8.IsWhole) (arg9 : Memref sig .tc .vmem S2x64x1 .f32) (harg9 : arg9.IsWhole) (arg10 : Memref sig .tc .vmem S64x256 .bf16) (harg10 : arg10.IsWhole) (arg11 : Memref sig .tc .vmem S64x256 .bf16) (harg11 : arg11.IsWhole) (arg12 : Memref sig .tc .vmem S4096x256 .f32) (harg12 : arg12.IsWhole) (arg13 : Memref sig .tc .vmem S4096x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S2x14x64x128 .f32) (harg16 : arg16.IsWhole) (hc0 : cond1_0 i)
  (x0 : Vec F S64x256 .bf16) (x1 : Vec F S4096x256 .bf16) (x2 : Vec F S4096x256 .bf16) (x3 : Vec F S256x256 .bf16) (x4 : Vec F S256x256 .bf16) (x5 : Vec F S2x14x64x128 .f32) (x6 : Vec F S64x256 .bf16) (x7 : Vec F S2x64x1 .f32) (x8 : Vec F S64x256 .bf16)

set_option maxHeartbeats 1000000 in
/-- The stores of the backward body at a point that resets the accumulators. -/
def kernelRun1_A :
    Σ' (L9 : List (View.Piece (Elt F) S64x256 .bf16)), Σ' (L10 : List (View.Piece (Elt F) S4096x256 .f32)), Σ' (L11 : List (View.Piece (Elt F) S4096x256 .f32)), Σ' (L12 : List (View.Piece (Elt F) S256x256 .f32)), Σ' (L13 : List (View.Piece (Elt F) S256x256 .f32)), { L14 : List (View.Piece (Elt F) S2x14x64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14)) -∗ K ⟨⟩))
          ⊢ wp frame (wpE (defs₀ (F := F)) Variants.none c none) E (cc1_na_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun E K => ?run⟩
  case run =>
    simp only [cc1_na_bwd_eq_skeleton]; unfold cc1_na_bwd_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14

end Run1_A

end Cert.KernelIdeal.Na

end

end
-- ==== Proof.BwdRunB.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.BwdBase
public import proofs.«01_k».proof.Proof.Offs

@[expose] public section

set_option maxRecDepth 16384

noncomputable section

namespace Cert.KernelIdeal.Na

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The backward body at a point that adds to its accumulators -/

section Run1_B

variable (c : Dev nD) (i : grid1.Coords) (arg2 : Memref sig .tc .vmem S64x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2x14x64x128 .f32) (harg7 : arg7.IsWhole) (arg8 : Memref sig .tc .vmem S64x256 .bf16) (harg8 : arg8.IsWhole) (arg9 : Memref sig .tc .vmem S2x64x1 .f32) (harg9 : arg9.IsWhole) (arg10 : Memref sig .tc .vmem S64x256 .bf16) (harg10 : arg10.IsWhole) (arg11 : Memref sig .tc .vmem S64x256 .bf16) (harg11 : arg11.IsWhole) (arg12 : Memref sig .tc .vmem S4096x256 .f32) (harg12 : arg12.IsWhole) (arg13 : Memref sig .tc .vmem S4096x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S2x14x64x128 .f32) (harg16 : arg16.IsWhole) (hc0 : ¬cond1_0 i)
  (x0 : Vec F S64x256 .bf16) (x1 : Vec F S4096x256 .bf16) (x2 : Vec F S4096x256 .bf16) (x3 : Vec F S256x256 .bf16) (x4 : Vec F S256x256 .bf16) (x5 : Vec F S2x14x64x128 .f32) (x6 : Vec F S64x256 .bf16) (x7 : Vec F S2x64x1 .f32) (x8 : Vec F S64x256 .bf16) (xo10 : Vec F S4096x256 .f32) (xo11 : Vec F S4096x256 .f32) (xo12 : Vec F S256x256 .f32) (xo13 : Vec F S256x256 .f32) (xo14 : Vec F S2x14x64x128 .f32)

set_option maxHeartbeats 1000000 in
/-- The stores of the backward body at a point that adds to what the point before left. -/
def kernelRun1_B :
    Σ' (L9 : List (View.Piece (Elt F) S64x256 .bf16)), Σ' (L10 : List (View.Piece (Elt F) S4096x256 .f32)), Σ' (L11 : List (View.Piece (Elt F) S4096x256 .f32)), Σ' (L12 : List (View.Piece (Elt F) S256x256 .f32)), Σ' (L13 : List (View.Piece (Elt F) S256x256 .f32)), { L14 : List (View.Piece (Elt F) S2x14x64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xo10 ∗ owns (c : Thread nD τ) arg13 fullShare xo11 ∗ owns (c : Thread nD τ) arg14 fullShare xo12 ∗ owns (c : Thread nD τ) arg15 fullShare xo13 ∗ owns (c : Thread nD τ) arg16 fullShare xo14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread xo10) L10) ∗ (arg13.view.loc (c : Thread nD τ) ↦[arg13.view.set]{fullShare} arg13.view.writes (Elt F) (harg13.unread xo11) L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (arg16.view.loc (c : Thread nD τ) ↦[arg16.view.set]{fullShare} arg16.view.writes (Elt F) (harg16.unread xo14) L14)) -∗ K ⟨⟩))
          ⊢ wp frame (wpE (defs₀ (F := F)) Variants.none c none) E (cc1_na_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun E K => ?run⟩
  case run =>
    simp only [cc1_na_bwd_eq_skeleton]; unfold cc1_na_bwd_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg13.eq_unread hf11; obtain rfl := harg14.eq_unread hf12; obtain rfl := harg15.eq_unread hf13; obtain rfl := harg16.eq_unread hf14
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexact H10
    isplitl [H11]; · iexact H11
    isplitl [H12]; · iexists _; iexact H12
    isplitl [H13]; · iexists _; iexact H13
    iexact H14

end Run1_B

end Cert.KernelIdeal.Na

end

end
-- ==== Proof.Bwd.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.Value
public import proofs.«01_k».proof.Proof.BwdRunA
public import proofs.«01_k».proof.Proof.BwdRunB

@[expose] public section

set_option maxRecDepth 16384

noncomputable section

namespace Cert.KernelIdeal.Na

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The backward call as a pipeline region

What the body leaves in each output buffer, point by point: the accumulators carry over from a point to the next and are
reset where a head pair begins. -/

section Run1_A

variable (c : Dev nD) (i : grid1.Coords) (arg2 : Memref sig .tc .vmem S64x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2x14x64x128 .f32) (harg7 : arg7.IsWhole) (arg8 : Memref sig .tc .vmem S64x256 .bf16) (harg8 : arg8.IsWhole) (arg9 : Memref sig .tc .vmem S2x64x1 .f32) (harg9 : arg9.IsWhole) (arg10 : Memref sig .tc .vmem S64x256 .bf16) (harg10 : arg10.IsWhole) (arg11 : Memref sig .tc .vmem S64x256 .bf16) (harg11 : arg11.IsWhole) (arg12 : Memref sig .tc .vmem S4096x256 .f32) (harg12 : arg12.IsWhole) (arg13 : Memref sig .tc .vmem S4096x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S2x14x64x128 .f32) (harg16 : arg16.IsWhole) (hc0 : cond1_0 i)
  (x0 : Vec F S64x256 .bf16) (x1 : Vec F S4096x256 .bf16) (x2 : Vec F S4096x256 .bf16) (x3 : Vec F S256x256 .bf16) (x4 : Vec F S256x256 .bf16) (x5 : Vec F S2x14x64x128 .f32) (x6 : Vec F S64x256 .bf16) (x7 : Vec F S2x64x1 .f32) (x8 : Vec F S64x256 .bf16)

theorem cover1_A_9  (y : S64x256.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).1 S64x128.size (by sl_kernel_rfl) y

def out1_A_9  : Vec F S64x256 .bf16 :=
  VO1_9.read (Elt F) (VO1_9.writes (Elt F) VO1_9.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).1)

theorem cover1_A_10  (y : S4096x256.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.1, y ∈ pc.1.set :=
  ⟨_, List.mem_cons_of_mem _ (List.mem_cons_of_mem _ (List.mem_cons_self)), View.mem_set_unit_zero (by funext a; fin_cases a <;> rfl) inb_S4096x256_S4096x256_0_0 y⟩

def out1_A_10  : Vec F S4096x256 .f32 :=
  VO1_10.read (Elt F) (VO1_10.writes (Elt F) VO1_10.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.1)

theorem cover1_A_11  (y : S4096x256.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.1, y ∈ pc.1.set :=
  ⟨_, List.mem_cons_of_mem _ (List.mem_cons_of_mem _ (List.mem_cons_self)), View.mem_set_unit_zero (by funext a; fin_cases a <;> rfl) inb_S4096x256_S4096x256_0_0 y⟩

def out1_A_11  : Vec F S4096x256 .f32 :=
  VO1_11.read (Elt F) (VO1_11.writes (Elt F) VO1_11.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.1)

theorem cover1_A_12  (y : S256x256.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.1, y ∈ pc.1.set :=
  View.cover_of_tiledBy (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.1 ![256, 128] (by sl_kernel_rfl) y

def out1_A_12  : Vec F S256x256 .f32 :=
  VO1_12.read (Elt F) (VO1_12.writes (Elt F) VO1_12.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.1)

theorem cover1_A_13  (y : S256x256.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.1, y ∈ pc.1.set :=
  View.cover_of_tiledBy (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.1 ![256, 128] (by sl_kernel_rfl) y

def out1_A_13  : Vec F S256x256 .f32 :=
  VO1_13.read (Elt F) (VO1_13.writes (Elt F) VO1_13.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.1)

theorem cover1_A_14  (y : S2x14x64x128.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.2.1, y ∈ pc.1.set :=
  ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), View.mem_set_unit_zero (by funext a; fin_cases a <;> rfl) inb_S2x14x64x128_S2x14x64x128_0_0_0_0 y⟩

def out1_A_14  : Vec F S2x14x64x128 .f32 :=
  VO1_14.read (Elt F) (VO1_14.writes (Elt F) VO1_14.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.2.1)
end Run1_A

section Run1_B

variable (c : Dev nD) (i : grid1.Coords) (arg2 : Memref sig .tc .vmem S64x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2x14x64x128 .f32) (harg7 : arg7.IsWhole) (arg8 : Memref sig .tc .vmem S64x256 .bf16) (harg8 : arg8.IsWhole) (arg9 : Memref sig .tc .vmem S2x64x1 .f32) (harg9 : arg9.IsWhole) (arg10 : Memref sig .tc .vmem S64x256 .bf16) (harg10 : arg10.IsWhole) (arg11 : Memref sig .tc .vmem S64x256 .bf16) (harg11 : arg11.IsWhole) (arg12 : Memref sig .tc .vmem S4096x256 .f32) (harg12 : arg12.IsWhole) (arg13 : Memref sig .tc .vmem S4096x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S2x14x64x128 .f32) (harg16 : arg16.IsWhole) (hc0 : ¬cond1_0 i)
  (x0 : Vec F S64x256 .bf16) (x1 : Vec F S4096x256 .bf16) (x2 : Vec F S4096x256 .bf16) (x3 : Vec F S256x256 .bf16) (x4 : Vec F S256x256 .bf16) (x5 : Vec F S2x14x64x128 .f32) (x6 : Vec F S64x256 .bf16) (x7 : Vec F S2x64x1 .f32) (x8 : Vec F S64x256 .bf16) (xo10 : Vec F S4096x256 .f32) (xo11 : Vec F S4096x256 .f32) (xo12 : Vec F S256x256 .f32) (xo13 : Vec F S256x256 .f32) (xo14 : Vec F S2x14x64x128 .f32)

theorem cover1_B_9  (y : S64x256.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14).1 S64x128.size (by sl_kernel_rfl) y

def out1_B_9  : Vec F S64x256 .bf16 :=
  VO1_9.read (Elt F) (VO1_9.writes (Elt F) VO1_9.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14).1)

def out1_B_10  : Vec F S4096x256 .f32 :=
  arg12.view.read (Elt F) (arg12.view.writes (Elt F) (harg12.unread xo10) (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14).2.1)

def out1_B_11  : Vec F S4096x256 .f32 :=
  arg13.view.read (Elt F) (arg13.view.writes (Elt F) (harg13.unread xo11) (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14).2.2.1)

theorem cover1_B_12  (y : S256x256.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14).2.2.2.1 S256x128.size (by sl_kernel_rfl) y

def out1_B_12  : Vec F S256x256 .f32 :=
  VO1_12.read (Elt F) (VO1_12.writes (Elt F) VO1_12.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14).2.2.2.1)

theorem cover1_B_13  (y : S256x256.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14).2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14).2.2.2.2.1 S256x128.size (by sl_kernel_rfl) y

def out1_B_13  : Vec F S256x256 .f32 :=
  VO1_13.read (Elt F) (VO1_13.writes (Elt F) VO1_13.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14).2.2.2.2.1)

def out1_B_14  : Vec F S2x14x64x128 .f32 :=
  arg16.view.read (Elt F) (arg16.view.writes (Elt F) (harg16.unread xo14) (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14).2.2.2.2.2.1)
end Run1_B

section Region

/- `V`: what each buffer of the TensorCore holds when the region is entered. -/
variable (V : (c : Dev nD) → (b : Ref sig .tc) → Buf (Elt F) ((c : Thread nD τ).loc b))

/-- What input window `w` of call 1 stages at point `t`: its block of the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! The staging buffer of an input window holds the window's block at every point, whether it was fetched there or
earlier: the block index has not moved in between. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the six output buffers at a point that resets the accumulators. -/
def stepA (c : Dev nD) (t : Fin cfg1.N) (h0 : t.val % 64 = 0) : Vec F S64x256 .bf16 × Vec F S4096x256 .f32 × Vec F S4096x256 .f32 × Vec F S256x256 .f32 × Vec F S256x256 .f32 × Vec F S2x14x64x128 .f32 :=
  (out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t),
   out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t),
   out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t),
   out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t),
   out1_A_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t),
   out1_A_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t))

/-- What the body leaves in the six output buffers at any other point, over what the point before left (`xo`). -/
def stepB (c : Dev nD) (t : Fin cfg1.N) (h0 : ¬t.val % 64 = 0) (xo : Vec F S64x256 .bf16 × Vec F S4096x256 .f32 × Vec F S4096x256 .f32 × Vec F S256x256 .f32 × Vec F S256x256 .f32 × Vec F S2x14x64x128 .f32) : Vec F S64x256 .bf16 × Vec F S4096x256 .f32 × Vec F S4096x256 .f32 × Vec F S256x256 .f32 × Vec F S256x256 .f32 × Vec F S2x14x64x128 .f32 :=
  (out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) xo.2.1 xo.2.2.1 xo.2.2.2.1 xo.2.2.2.2.1 xo.2.2.2.2.2,
   out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) xo.2.1 xo.2.2.1 xo.2.2.2.1 xo.2.2.2.2.1 xo.2.2.2.2.2,
   out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) xo.2.1 xo.2.2.1 xo.2.2.2.1 xo.2.2.2.2.1 xo.2.2.2.2.2,
   out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) xo.2.1 xo.2.2.1 xo.2.2.2.1 xo.2.2.2.2.1 xo.2.2.2.2.2,
   out1_B_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) xo.2.1 xo.2.2.1 xo.2.2.2.1 xo.2.2.2.2.1 xo.2.2.2.2.2,
   out1_B_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) xo.2.1 xo.2.2.1 xo.2.2.2.1 xo.2.2.2.2.1 xo.2.2.2.2.2)

/-- What the output buffers hold after point `n`. -/
def outsAt1 (c : Dev nD) : (n : ℕ) → n < cfg1.N → Vec F S64x256 .bf16 × Vec F S4096x256 .f32 × Vec F S4096x256 .f32 × Vec F S256x256 .f32 × Vec F S256x256 .f32 × Vec F S2x14x64x128 .f32
  | 0, hn => stepA V c ⟨0, hn⟩ (Nat.zero_mod _)
  | n + 1, hn =>
    if h0 : (n + 1) % 64 = 0 then stepA V c ⟨n + 1, hn⟩ h0
    else stepB V c ⟨n + 1, hn⟩ h0 (outsAt1 c n (Nat.lt_of_succ_lt hn))

theorem outsAt1_A (c : Dev nD) (t : Fin cfg1.N) (h0 : t.val % 64 = 0) : outsAt1 V c t.val t.isLt = stepA V c t h0 := by
  obtain ⟨n, hn⟩ := t
  cases n with
  | zero => exact rfl
  | succ n => exact (dif_pos h0).trans rfl

theorem outsAt1_B (c : Dev nD) (t : Fin cfg1.N) (h0 : ¬t.val % 64 = 0) : outsAt1 V c t.val t.isLt
    = stepB V c t h0 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1
    | ⟨10, _⟩ => (outsAt1 V c t.val t.isLt).2.1
    | ⟨11, _⟩ => (outsAt1 V c t.val t.isLt).2.2.1
    | ⟨12, _⟩ => (outsAt1 V c t.val t.isLt).2.2.2.1
    | ⟨13, _⟩ => (outsAt1 V c t.val t.isLt).2.2.2.2.1
    | ⟨14, _⟩ => (outsAt1 V c t.val t.isLt).2.2.2.2.2
  Φ _ := Pipeline.ΦA spec1 c
  q w := Pipeline.shareOf spec1 w
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t.val t.isLt).1 := by dsimp only [dat1]
theorem after1_10 (c : Dev nD) (t : Fin cfg1.N) : (dat1 V c).after 10 t = (outsAt1 V c t.val t.isLt).2.1 := by dsimp only [dat1]
theorem after1_11 (c : Dev nD) (t : Fin cfg1.N) : (dat1 V c).after 11 t = (outsAt1 V c t.val t.isLt).2.2.1 := by dsimp only [dat1]
theorem after1_12 (c : Dev nD) (t : Fin cfg1.N) : (dat1 V c).after 12 t = (outsAt1 V c t.val t.isLt).2.2.2.1 := by dsimp only [dat1]
theorem after1_13 (c : Dev nD) (t : Fin cfg1.N) : (dat1 V c).after 13 t = (outsAt1 V c t.val t.isLt).2.2.2.2.1 := by dsimp only [dat1]
theorem after1_14 (c : Dev nD) (t : Fin cfg1.N) : (dat1 V c).after 14 t = (outsAt1 V c t.val t.isLt).2.2.2.2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_10_B (c : Dev nD) (t : Fin cfg1.N) (h0 : ¬t.val % 64 = 0) (d) :
    (dat1 V c).before 10 t d = (outsAt1 V c (t.val - 1) (Nat.lt_of_le_of_lt (Nat.sub_le _ _) t.isLt)).2.1 := by
  have hN : t.val < 256 := lt_of_lt_of_eq t.isLt (show cfg1.N = 256 from N_1)
  rw [Dat.before_out_kept _ 10 rfl t (by omega) (Bool.eq_false_iff.mpr fun h => by have := (flush1_10 _).mp h; dsimp only at this; omega)
    (fun _ => rfl) (fun _ _ => rfl)]
  dsimp only [dat1]
theorem before1_11_B (c : Dev nD) (t : Fin cfg1.N) (h0 : ¬t.val % 64 = 0) (d) :
    (dat1 V c).before 11 t d = (outsAt1 V c (t.val - 1) (Nat.lt_of_le_of_lt (Nat.sub_le _ _) t.isLt)).2.2.1 := by
  have hN : t.val < 256 := lt_of_lt_of_eq t.isLt (show cfg1.N = 256 from N_1)
  rw [Dat.before_out_kept _ 11 rfl t (by omega) (Bool.eq_false_iff.mpr fun h => by have := (flush1_11 _).mp h; dsimp only at this; omega)
    (fun _ => rfl) (fun _ _ => rfl)]
  dsimp only [dat1]
theorem before1_12_B (c : Dev nD) (t : Fin cfg1.N) (h0 : ¬t.val % 64 = 0) (d) :
    (dat1 V c).before 12 t d = (outsAt1 V c (t.val - 1) (Nat.lt_of_le_of_lt (Nat.sub_le _ _) t.isLt)).2.2.2.1 := by
  have hN : t.val < 256 := lt_of_lt_of_eq t.isLt (show cfg1.N = 256 from N_1)
  rw [Dat.before_out_kept _ 12 rfl t (by omega) (Bool.eq_false_iff.mpr fun h => by have := (flush1_12 _).mp h; dsimp only at this; omega)
    (fun _ => rfl) (fun _ _ => rfl)]
  dsimp only [dat1]
theorem before1_13_B (c : Dev nD) (t : Fin cfg1.N) (h0 : ¬t.val % 64 = 0) (d) :
    (dat1 V c).before 13 t d = (outsAt1 V c (t.val - 1) (Nat.lt_of_le_of_lt (Nat.sub_le _ _) t.isLt)).2.2.2.2.1 := by
  have hN : t.val < 256 := lt_of_lt_of_eq t.isLt (show cfg1.N = 256 from N_1)
  rw [Dat.before_out_kept _ 13 rfl t (by omega) (Bool.eq_false_iff.mpr fun h => by have := (flush1_13 _).mp h; dsimp only at this; omega)
    (fun _ => rfl) (fun _ _ => rfl)]
  dsimp only [dat1]
theorem before1_14_B (c : Dev nD) (t : Fin cfg1.N) (h0 : ¬t.val % 64 = 0) (d) :
    (dat1 V c).before 14 t d = (outsAt1 V c (t.val - 1) (Nat.lt_of_le_of_lt (Nat.sub_le _ _) t.isLt)).2.2.2.2.2 := by
  have hN : t.val < 256 := lt_of_lt_of_eq t.isLt (show cfg1.N = 256 from N_1)
  rw [Dat.before_out_kept _ 14 rfl t (by omega) (Bool.eq_false_iff.mpr fun h => by have := (flush1_14 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t))

set_option maxHeartbeats 2400000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14]
  have hN : t.val < 256 := lt_of_lt_of_eq t.isLt (show cfg1.N = 256 from N_1)
  by_cases h0 : t.val % 64 = 0
  · rw [outsAt1_A V c t h0]
    unfold stepA out1_A_9 out1_A_10 out1_A_11 out1_A_12 out1_A_13 out1_A_14; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun1_A c (grid1.coords t) _ _ _ _ _ _ _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t)).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iintro ⟨H0, H1, H2, H3, H4, H5, H6, H7, H8, ⟨%e9, H9⟩, ⟨%e10, H10⟩, ⟨%e11, H11⟩, ⟨%e12, H12⟩, ⟨%e13, H13⟩, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover1_A_9 c _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover1_A_10 c _ _ _ _ _ _ _ _ _ _ _ _ _ _ _ _ _ _ _ _ _ _ _ _ _ _ _ _ _ _ _ _ _ _ _ _ _ _ _ _ _)
    isplitl [H11]
    · unfold owns; iexists _; isplitr
      swap; · iexact H11
      ipureintro; exact View.read_writes_of_cover _ _ _ _ _ (cover1_A_11 c _ _ _ _ _ _ _ _ _ _ _ _ _ _ _ _ _ _ _ _ _ _ _ _ _ _ _ _ _ _ _ _ _ _ _ _ _ _ _ _ _)
    isplitl [H12]
    · unfold owns; iexists _; isplitr
      swap; · iexact H12
      ipureintro; exact View.read_writes_of_cover _ _ _ _ _ (cover1_A_12 c _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover1_A_13 c _ _ _ _ _ _ _ _ _ _ _ _ _ _ _ _ _ _ _ _ _ _ _ _ _ _ _ _ _ _ _ _ _ _ _ _ _ _ _ _ _)
    unfold owns; iexists _; isplitr
    swap; · iexact H14
    ipureintro; exact View.read_writes_of_cover _ _ _ _ _ (cover1_A_14 c _ _ _ _ _ _ _ _ _ _ _ _ _ _ _ _ _ _ _ _ _ _ _ _ _ _ _ _ _ _ _ _ _ _ _ _ _ _ _ _ _)
  · rw [outsAt1_B V c t h0]
    simp only [before1_10_B V c t h0, before1_11_B V c t h0, before1_12_B V c t h0, before1_13_B V c t h0, before1_14_B V c t h0]
    unfold stepB out1_B_9 out1_B_10 out1_B_11 out1_B_12 out1_B_13 out1_B_14; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun1_B c (grid1.coords t) _ _ _ _ _ _ _ _ _ _ _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) _ _ _ _ _).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [H12]; · iexact H12
    isplitl [H13]; · iexact H13
    isplitl [H14]; · iexact H14
    iintro ⟨H0, H1, H2, H3, H4, H5, H6, H7, H8, ⟨%e9, H9⟩, H10, H11, ⟨%e12, H12⟩, ⟨%e13, H13⟩, H14⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover1_B_9 c _ _ _ _ _ _ _ _ _ _ _ _ _ _ _ _ _ _ _ _ _ _ _ _ _ _ _ _ _ _ _ _ _ _ _ _ _ _ _ _ _ _ _ _ _ _)
    isplitl [H10]
    · unfold owns; iexists _; isplitr
      swap; · iexact H10
      ipureintro; rfl
    isplitl [H11]
    · unfold owns; iexists _; isplitr
      swap; · iexact H11
      ipureintro; rfl
    isplitl [H12]
    · unfold owns; iexists _; isplitr
      swap; · iexact H12
      ipureintro; exact View.read_writes_of_cover _ _ _ _ _ (cover1_B_12 c _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover1_B_13 c _ _ _ _ _ _ _ _ _ _ _ _ _ _ _ _ _ _ _ _ _ _ _ _ _ _ _ _ _ _ _ _ _ _ _ _ _ _ _ _ _ _ _ _ _ _)
    unfold owns; iexists _; isplitr
    swap; · iexact H14
    ipureintro; rfl

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Region

end Cert.KernelIdeal.Na

end

end
-- ==== Proof.Run.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Fwd
public import proofs.«01_k».proof.Proof.Bwd

@[expose] public section

set_option maxRecDepth 16384

noncomputable section

namespace Cert.KernelIdeal.Na

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The run of the program: host code, the forward call, the backward call

`W0` is the launch memory, `W1` … `W11` what each stretch of host code leaves, `W12` what the forward call leaves and `W13`
what the backward call leaves. -/

variable (m : (ℓ : Loc nD τ sig) → Buf (Elt F) ℓ) (ρ : Dev nD → PrngReg)

abbrev argRefs : List (Ref sig .tc) := [main_arg0, main_arg1, main_arg2, main_arg3]

theorem hostOps0_fresh : (hostOps0 : List (HloOp τ sig (Elt F))).Forall fun op => op.fresh = ∅ := by
  simp only [List.Forall]; repeat' constructor
abbrev hostOps0_W : List (Ref sig .tc) := [main_v0, main_c, main_v1, main_v2, main_c_0, main_c_1]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps0_1_fresh : (hostOps0_1 : List (HloOp τ sig (Elt F))).Forall fun op => op.fresh = ∅ := by
  simp only [List.Forall]; repeat' constructor
abbrev hostOps0_1_W : List (Ref sig .tc) := [main_call0_v0, main_call0_v1, main_call0_v2, main_call0_v3, main_call0_v4, main_v3]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := ListAll.forall_mem_of_all_decide (by decide +kernel)

theorem hostOps0_2_fresh : (hostOps0_2 : List (HloOp τ sig (Elt F))).Forall fun op => op.fresh = ∅ := by
  simp only [List.Forall]; repeat' constructor
abbrev hostOps0_2_W : List (Ref sig .tc) := [main_v4, main_v5, main_v6, main_v7, main_v8, main_v9, main_v10, main_c_2, main_v11, main_v12, main_v13, main_v14, main_v15, main_v16, main_v17, main_v18, main_v19, main_v20, main_v21, main_v22, main_c_3, main_v23, main_v24, main_c_4, main_c_5]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_args : ∀ a ∈ argRefs, a ∉ hostOps0_2_W := ListAll.forall_mem_of_all_decide (by decide +kernel)

theorem hostOps0_3_fresh : (hostOps0_3 : List (HloOp τ sig (Elt F))).Forall fun op => op.fresh = ∅ := by
  simp only [List.Forall]; repeat' constructor
abbrev hostOps0_3_W : List (Ref sig .tc) := [main_call1_v0, main_call1_v1, main_call1_v2, main_call1_v3, main_call1_v4, main_v25]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_3_args : ∀ a ∈ argRefs, a ∉ hostOps0_3_W := ListAll.forall_mem_of_all_decide (by decide +kernel)

theorem hostOps0_4_fresh : (hostOps0_4 : List (HloOp τ sig (Elt F))).Forall fun op => op.fresh = ∅ := by
  simp only [List.Forall]; repeat' constructor
abbrev hostOps0_4_W : List (Ref sig .tc) := [main_v26, main_v27]
theorem hostOps0_4_writes : (hostOps0_4 : List (HloOp τ sig (Elt F))).Forall fun op => op.writes ⊆ (hostOps0_4_W.map (Proc.devRef (τ := τ) .tc)).toFinset :=
  StableHlo.forall_writes_sub_of_map rfl
theorem hostOps0_4_args : ∀ a ∈ argRefs, a ∉ hostOps0_4_W := ListAll.forall_mem_of_all_decide (by decide +kernel)

theorem hostOps0_5_fresh : (hostOps0_5 : List (HloOp τ sig (Elt F))).Forall fun op => op.fresh = ∅ := by
  simp only [List.Forall]; repeat' constructor
abbrev hostOps0_5_W : List (Ref sig .tc) := [main_call2_v0, main_v28]
theorem hostOps0_5_writes : (hostOps0_5 : List (HloOp τ sig (Elt F))).Forall fun op => op.writes ⊆ (hostOps0_5_W.map (Proc.devRef (τ := τ) .tc)).toFinset :=
  StableHlo.forall_writes_sub_of_map rfl
theorem hostOps0_5_args : ∀ a ∈ argRefs, a ∉ hostOps0_5_W := ListAll.forall_mem_of_all_decide (by decide +kernel)

theorem hostOps0_6_fresh : (hostOps0_6 : List (HloOp τ sig (Elt F))).Forall fun op => op.fresh = ∅ := by
  simp only [List.Forall]; repeat' constructor
abbrev hostOps0_6_W : List (Ref sig .tc) := [main_cst]
theorem hostOps0_6_writes : (hostOps0_6 : List (HloOp τ sig (Elt F))).Forall fun op => op.writes ⊆ (hostOps0_6_W.map (Proc.devRef (τ := τ) .tc)).toFinset :=
  StableHlo.forall_writes_sub_of_map rfl
theorem hostOps0_6_args : ∀ a ∈ argRefs, a ∉ hostOps0_6_W := ListAll.forall_mem_of_all_decide (by decide +kernel)

theorem hostOps0_7_fresh : (hostOps0_7 : List (HloOp τ sig (Elt F))).Forall fun op => op.fresh = ∅ := by
  simp only [List.Forall]; repeat' constructor
abbrev hostOps0_7_W : List (Ref sig .tc) := [main_call3_v0, main_call3_v1, main_call3_v2, main_v29]
theorem hostOps0_7_writes : (hostOps0_7 : List (HloOp τ sig (Elt F))).Forall fun op => op.writes ⊆ (hostOps0_7_W.map (Proc.devRef (τ := τ) .tc)).toFinset :=
  StableHlo.forall_writes_sub_of_map rfl
theorem hostOps0_7_args : ∀ a ∈ argRefs, a ∉ hostOps0_7_W := ListAll.forall_mem_of_all_decide (by decide +kernel)

theorem hostOps0_8_fresh : (hostOps0_8 : List (HloOp τ sig (Elt F))).Forall fun op => op.fresh = ∅ := by
  simp only [List.Forall]; repeat' constructor
abbrev hostOps0_8_W : List (Ref sig .tc) := [main_cst_6, main_cst_7]
theorem hostOps0_8_writes : (hostOps0_8 : List (HloOp τ sig (Elt F))).Forall fun op => op.writes ⊆ (hostOps0_8_W.map (Proc.devRef (τ := τ) .tc)).toFinset :=
  StableHlo.forall_writes_sub_of_map rfl
theorem hostOps0_8_args : ∀ a ∈ argRefs, a ∉ hostOps0_8_W := ListAll.forall_mem_of_all_decide (by decide +kernel)

theorem hostOps0_9_fresh : (hostOps0_9 : List (HloOp τ sig (Elt F))).Forall fun op => op.fresh = ∅ := by
  simp only [List.Forall]; repeat' constructor
abbrev hostOps0_9_W : List (Ref sig .tc) := [main_call4_v0, main_call4_v1, main_v30]
theorem hostOps0_9_writes : (hostOps0_9 : List (HloOp τ sig (Elt F))).Forall fun op => op.writes ⊆ (hostOps0_9_W.map (Proc.devRef (τ := τ) .tc)).toFinset :=
  StableHlo.forall_writes_sub_of_map rfl
theorem hostOps0_9_args : ∀ a ∈ argRefs, a ∉ hostOps0_9_W := ListAll.forall_mem_of_all_decide (by decide +kernel)

theorem hostOps0_10_fresh : (hostOps0_10 : List (HloOp τ sig (Elt F))).Forall fun op => op.fresh = ∅ := by
  simp only [List.Forall]; repeat' constructor
abbrev hostOps0_10_W : List (Ref sig .tc) := [main_v31, main_v32, main_v33, main_v34, main_v35, main_v36, main_v37, main_v38]
theorem hostOps0_10_writes : (hostOps0_10 : List (HloOp τ sig (Elt F))).Forall fun op => op.writes ⊆ (hostOps0_10_W.map (Proc.devRef (τ := τ) .tc)).toFinset :=
  StableHlo.forall_writes_sub_of_map rfl
theorem hostOps0_10_args : ∀ a ∈ argRefs, a ∉ hostOps0_10_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
abbrev W4 : Dev nD → Valuation τ sig (Elt F) := fun c => StableHlo.after hostOps0_3 (W3 m ρ c)
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
abbrev W5 : Dev nD → Valuation τ sig (Elt F) := fun c => StableHlo.after hostOps0_4 (W4 m ρ c)
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
abbrev W6 : Dev nD → Valuation τ sig (Elt F) := fun c => StableHlo.after hostOps0_5 (W5 m ρ c)
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a (hostOps0_5_args a ha)).trans (W5_args m ρ c a ha)
abbrev W7 : Dev nD → Valuation τ sig (Elt F) := fun c => StableHlo.after hostOps0_6 (W6 m ρ c)
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a (hostOps0_6_args a ha)).trans (W6_args m ρ c a ha)
abbrev W8 : Dev nD → Valuation τ sig (Elt F) := fun c => StableHlo.after hostOps0_7 (W7 m ρ c)
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W8_args (c : Dev nD) : ∀ a ∈ argRefs, W8 m ρ c (Proc.devRef .tc a) = m ((c : Thread nD τ).loc a) :=
  fun a ha => (W8_of m ρ c a (hostOps0_7_args a ha)).trans (W7_args m ρ c a ha)
abbrev W9 : Dev nD → Valuation τ sig (Elt F) := fun c => StableHlo.after hostOps0_8 (W8 m ρ c)
theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem W9_args (c : Dev nD) : ∀ a ∈ argRefs, W9 m ρ c (Proc.devRef .tc a) = m ((c : Thread nD τ).loc a) :=
  fun a ha => (W9_of m ρ c a (hostOps0_8_args a ha)).trans (W8_args m ρ c a ha)
abbrev W10 : Dev nD → Valuation τ sig (Elt F) := fun c => StableHlo.after hostOps0_9 (W9 m ρ c)
theorem W10_of (c : Dev nD) (r : Ref sig .tc) (h : r ∉ hostOps0_9_W) : W10 m ρ c (Proc.devRef .tc r) = W9 m ρ c (Proc.devRef .tc r) :=
  StableHlo.after_of_writes_sub hostOps0_9 _ hostOps0_9_writes h
theorem W10_args (c : Dev nD) : ∀ a ∈ argRefs, W10 m ρ c (Proc.devRef .tc a) = m ((c : Thread nD τ).loc a) :=
  fun a ha => (W10_of m ρ c a (hostOps0_9_args a ha)).trans (W9_args m ρ c a ha)
abbrev W11 : Dev nD → Valuation τ sig (Elt F) := fun c => StableHlo.after hostOps0_10 (W10 m ρ c)
theorem W11_of (c : Dev nD) (r : Ref sig .tc) (h : r ∉ hostOps0_10_W) : W11 m ρ c (Proc.devRef .tc r) = W10 m ρ c (Proc.devRef .tc r) :=
  StableHlo.after_of_writes_sub hostOps0_10 _ hostOps0_10_writes h
theorem W11_args (c : Dev nD) : ∀ a ∈ argRefs, W11 m ρ c (Proc.devRef .tc a) = m ((c : Thread nD τ).loc a) :=
  fun a ha => (W11_of m ρ c a (hostOps0_10_args a ha)).trans (W10_args m ρ c a ha)
abbrev V11 : (c : Dev nD) → (b : Ref sig .tc) → Buf (Elt F) ((c : Thread nD τ).loc b) := fun c b => W11 m ρ c b
def W12 (c : Dev nD) : Valuation τ sig (Elt F) :=
  Pipeline.withArrays spec0 c (W11 m ρ c) fun w => (dat0 (V11 m ρ) c).arrAt w cfg0.N
theorem W12_arr (c : Dev nD) (w : Fin cfg0.W) :
    W12 m ρ c (Proc.devRef .tc (Pipeline.arrRef spec0 w)) = (dat0 (V11 m ρ) c).arrAt w cfg0.N := by
  unfold W12; exact (dat0 (V11 m ρ) c).withArrays_arrAt launch₀0.sharedIn _ (A_eq0 (V11 m ρ) c) w
theorem W12_of_ne (c : Dev nD) (b : Ref sig .tc) (hb : ∀ w, Pipeline.arrRef spec0 w ≠ b) :
    W12 m ρ c (Proc.devRef .tc b) = W11 m ρ c (Proc.devRef .tc b) := by
  unfold W12; exact Pipeline.withArrays_of_ne spec0 c _ _ b hb
theorem W12_of (c : Dev nD) (r : Ref sig .tc) (h : ∀ w : Fin cfg0.W, Pipeline.arrRef spec0 w = r → (cfg0.win w).isOut = false) :
    W12 m ρ c (Proc.devRef .tc r) = W11 m ρ c (Proc.devRef .tc r) := by
  by_cases hw : ∃ w : Fin cfg0.W, Pipeline.arrRef spec0 w = r
  · obtain ⟨w, rfl⟩ := hw
    exact (W12_arr m ρ c w).trans (((dat0 (V11 m ρ) c).arrAt_in w (h w rfl) _).trans (A_eq0 (V11 m ρ) c w))
  · exact W12_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn0 a ha)).trans (W11_args m ρ c a ha)
abbrev V12 : (c : Dev nD) → (b : Ref sig .tc) → Buf (Elt F) ((c : Thread nD τ).loc b) := fun c b => W12 m ρ c b
theorem hF0 (c : Dev nD) (w : Fin cfg0.W) : (dat0 (V11 m ρ) c).arrAt w cfg0.N = V12 m ρ c (Pipeline.arrRef spec0 w) :=
  (W12_arr m ρ c w).symm
theorem hrest0 (c : Dev nD) : ∀ b, b ∉ Finset.univ.image (Pipeline.arrRef spec0) → V12 m ρ c b = V11 m ρ c b :=
  fun b hb => W12_of_ne m ρ c b fun w e => hb (Finset.mem_image.mpr ⟨w, Finset.mem_univ _, e⟩)

def W13 (c : Dev nD) : Valuation τ sig (Elt F) :=
  Pipeline.withArrays spec1 c (W12 m ρ c) fun w => (dat1 (V12 m ρ) c).arrAt w cfg1.N
theorem W13_arr (c : Dev nD) (w : Fin cfg1.W) :
    W13 m ρ c (Proc.devRef .tc (Pipeline.arrRef spec1 w)) = (dat1 (V12 m ρ) c).arrAt w cfg1.N := by
  unfold W13; exact (dat1 (V12 m ρ) c).withArrays_arrAt launch₀1.sharedIn _ (A_eq1 (V12 m ρ) c) w
theorem W13_of_ne (c : Dev nD) (b : Ref sig .tc) (hb : ∀ w, Pipeline.arrRef spec1 w ≠ b) :
    W13 m ρ c (Proc.devRef .tc b) = W12 m ρ c (Proc.devRef .tc b) := by
  unfold W13; exact Pipeline.withArrays_of_ne spec1 c _ _ b hb
theorem W13_of (c : Dev nD) (r : Ref sig .tc) (h : ∀ w : Fin cfg1.W, Pipeline.arrRef spec1 w = r → (cfg1.win w).isOut = false) :
    W13 m ρ c (Proc.devRef .tc r) = W12 m ρ c (Proc.devRef .tc r) := by
  by_cases hw : ∃ w : Fin cfg1.W, Pipeline.arrRef spec1 w = r
  · obtain ⟨w, rfl⟩ := hw
    exact (W13_arr m ρ c w).trans (((dat1 (V12 m ρ) c).arrAt_in w (h w rfl) _).trans (A_eq1 (V12 m ρ) c w))
  · exact W13_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W13_args (c : Dev nD) : ∀ a ∈ argRefs, W13 m ρ c (Proc.devRef .tc a) = m ((c : Thread nD τ).loc a) :=
  fun a ha => (W13_of m ρ c a (argsIn1 a ha)).trans (W12_args m ρ c a ha)
abbrev V13 : (c : Dev nD) → (b : Ref sig .tc) → Buf (Elt F) ((c : Thread nD τ).loc b) := fun c b => W13 m ρ c b
theorem hF1 (c : Dev nD) (w : Fin cfg1.W) : (dat1 (V12 m ρ) c).arrAt w cfg1.N = V13 m ρ c (Pipeline.arrRef spec1 w) :=
  (W13_arr m ρ c w).symm
theorem hrest1 (c : Dev nD) : ∀ b, b ∉ Finset.univ.image (Pipeline.arrRef spec1) → V13 m ρ c b = V12 m ρ c b :=
  fun b hb => W13_of_ne m ρ c b fun w e => hb (Finset.mem_image.mpr ⟨w, Finset.mem_univ _, e⟩)

theorem W13_main_arg0 (c : Dev nD) : W13 m ρ c (Proc.devRef .tc main_arg0) = m ((c : Thread nD τ).loc main_arg0) :=
  W13_args m ρ c main_arg0 (by decide)
theorem W13_main_arg1 (c : Dev nD) : W13 m ρ c (Proc.devRef .tc main_arg1) = m ((c : Thread nD τ).loc main_arg1) :=
  W13_args m ρ c main_arg1 (by decide)
theorem W13_main_arg2 (c : Dev nD) : W13 m ρ c (Proc.devRef .tc main_arg2) = m ((c : Thread nD τ).loc main_arg2) :=
  W13_args m ρ c main_arg2 (by decide)
theorem W13_main_arg3 (c : Dev nD) : W13 m ρ c (Proc.devRef .tc main_arg3) = m ((c : Thread nD τ).loc main_arg3) :=
  W13_args m ρ c main_arg3 (by decide)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V11 m ρ) c
  | ⟨1, _⟩ => fun c => dat1 (V12 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W13 m ρ c) ∗ ∃ r, prngReg c r)

set_option backward.isDefEq.respectTransparency.types false in
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V11 m ρ) c).loose
  hwaits := Pipeline.hwaits_of_owed_zero _ _ _ _ L lv 0 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec0 c (V11 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V11 m ρ c) (A_eq0 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V11 m ρ c) (V12 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V12 m ρ) c).loose
  hwaits := Pipeline.hwaits_of_owed_zero _ _ _ _ L lv 1 fun _ _ => rfl
  pre c := iprop(StableHlo.held (c : Thread nD τ) (Pipeline.ucRefs τ sig) (W12 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V12 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V12 m ρ c) (A_eq1 (V12 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V12 m ρ c) (V13 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .region (reg0 m ρ),
    .region (reg1 m ρ) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- The run: every execution from zero counters ends, without a fault, with every counter at zero and every buffer of the
TensorCore that outlives the run at the contents the fold `W13` gives it. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W13 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => ⟨h, funext fun g => hz g (.inr (no_unscoped g.2))⟩)

/-- The run ends with the six results at what the two calls leave in their arrays, the arguments as they were, and every
counter at zero. -/
theorem run_main : θ_run defs (onTc (τ := τ) (main (F := F))) ⟨m, fun _ => 0, ρ⟩ (fun r =>
      (∀ c : Dev nD,
        (r.2.mem ((c.tc : Thread nD τ).loc main_v39_0) = (dat0 (V11 m ρ) c).arrAt 6 cfg0.N
        ∧ r.2.mem ((c.tc : Thread nD τ).loc main_v40_0) = (dat1 (V12 m ρ) c).arrAt 9 cfg1.N
        ∧ r.2.mem ((c.tc : Thread nD τ).loc main_v40_1) = (dat1 (V12 m ρ) c).arrAt 10 cfg1.N
        ∧ r.2.mem ((c.tc : Thread nD τ).loc main_v40_2) = (dat1 (V12 m ρ) c).arrAt 11 cfg1.N
        ∧ r.2.mem ((c.tc : Thread nD τ).loc main_v40_3) = (dat1 (V12 m ρ) c).arrAt 12 cfg1.N
        ∧ r.2.mem ((c.tc : Thread nD τ).loc main_v40_4) = (dat1 (V12 m ρ) c).arrAt 13 cfg1.N)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) := by
  refine (θ_run defs _ _).mono (fun r h => ⟨fun c => ?_, h.2⟩) (run_all m ρ)
  have g := fun b hb => h.1 c (Proc.devRef .tc b) (mem_uc b hb)
  refine ⟨⟨?_, ?_, ?_, ?_, ?_, ?_⟩, ?_, ?_, ?_, ?_⟩
  · exact ((g main_v39_0 (by decide)).trans (W13_of m ρ c main_v39_0 (by decide))).trans (W12_arr m ρ c 6)
  · exact (g main_v40_0 (by decide)).trans (W13_arr m ρ c 9)
  · exact (g main_v40_1 (by decide)).trans (W13_arr m ρ c 10)
  · exact (g main_v40_2 (by decide)).trans (W13_arr m ρ c 11)
  · exact (g main_v40_3 (by decide)).trans (W13_arr m ρ c 12)
  · exact (g main_v40_4 (by decide)).trans (W13_arr m ρ c 13)
  · exact (g main_arg0 (by decide)).trans (W13_main_arg0 m ρ c)
  · exact (g main_arg1 (by decide)).trans (W13_main_arg1 m ρ c)
  · exact (g main_arg2 (by decide)).trans (W13_main_arg2 m ρ c)
  · exact (g main_arg3 (by decide)).trans (W13_main_arg3 m ρ c)

end Cert.KernelIdeal.Na

end

end
-- ==== Proof.Frames.lean ====
/- The frames: both programs and the reference terminate, leave their arguments as they were and every semaphore at zero. -/
module

public import proofs.«01_k».proof.Defs
public import proofs.«01_k».proof.Proof.Gen.Kernel
public import proofs.«01_k».proof.Proof.Gen.ReferenceIdeal.Run
public import proofs.«01_k».proof.Proof.Gen.Pre_finite
public import proofs.«01_k».proof.Proof.Run
public import Idealize.ShloMosaic.Adequacy
public import Idealize.ShloMosaic.Init
public import Idealize.ShloMosaic.Lib.Tactic

@[expose] public section

set_option maxRecDepth 16384

noncomputable section

namespace Cert.Proof

open Idealize.ShloMosaic Idealize.SL.Sem

/-- What `quiescent_Kernel` says, of the second of the two programs, which has the same text. -/
def quiescentWords : Prop :=
  ∀ (m : (ℓ : Loc Cert.KernelIdeal.nD Cert.KernelIdeal.τ Cert.KernelIdeal.sig) → Buf (Elt Bits) ℓ) (g : Dev Cert.KernelIdeal.nD → PrngReg), Pre_Kernel m →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

set_option maxHeartbeats 4000000 in
/-- The two programs have the same text. -/
theorem same_text : quiescentWords = Cert.quiescent_Kernel := by sl_kernel_rfl

/-- The kernel over floats as words: the run over any float values, read at words. -/
theorem frame_kernel : Cert.quiescent_Kernel := same_text.mp fun m ρ _ =>
  (θ_run Cert.KernelIdeal.defs _ _).mono (fun _ h => ⟨fun c => (h.1 c).2, h.2⟩) (Cert.KernelIdeal.Na.run_main (F := Bits) m ρ)

/-- The kernel over the extended reals. -/
theorem frame_ideal : Cert.quiescent_KernelIdeal := fun m ρ _ =>
  (θ_run Cert.KernelIdeal.defs _ _).mono (fun _ h => ⟨fun c => (h.1 c).2, h.2⟩) (Cert.KernelIdeal.Na.run_main (F := Ideal) m ρ)

/-- The kernel over the extended reals, from finite arguments. -/
theorem frame_ideal_finite : Cert.quiescent_KernelIdeal_pre_finite := fun m ρ _ => frame_ideal m ρ trivial

/-- The reference declares no semaphore; its generated run keeps the arguments. -/
theorem frame_reference : Cert.quiescent_ReferenceIdeal := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

/-- The reference, from finite arguments. -/
theorem frame_reference_finite : Cert.quiescent_ReferenceIdeal_pre_finite := fun m ρ _ => frame_reference m ρ trivial

end Cert.Proof

end

end
-- ==== Proof.Head.lean ====
/- What one head of a grid point computes, as functions of the blocks it loads: the two bodies do the same for both of their heads. -/
module

public import proofs.«01_k».proof.Proof.Gen.KernelIdeal.Skeleton

@[expose] public section

set_option maxRecDepth 16384

noncomputable section

namespace Cert.KernelIdeal.Na

open Idealize.ShloMosaic Cert.KernelIdeal.Gen

variable {F : FTy → Type} [FloatOps F]

section Fwd
variable (q : Vec F S64x128 .bf16) (k v : Vec F S512x128 .bf16) (kc vc : Vec F S256x128 .bf16) (b0 b1 b2 b3 : Vec F S1x1x64x128 .f32)

/-- The head's output block. -/
def hO : FVec F S64x128 .bf16 := k0_pay6 (k0_pay21 q k b0 b1 b2 b3) (k0_pay22 q kc) v vc

/-- The head's logarithm of the softmax's sum. -/
def hLse : FVec F S1x64x1 .f32 := k0_pay7 (k0_pay21 q k b0 b1 b2 b3) (k0_pay22 q kc)

theorem hO_first : k0_pay18 q (k0_pay8 q k) (k0_pay9 b0) (k0_pay10 b1) (k0_pay11 b2) b3 kc v vc = hO q k v kc vc b0 b1 b2 b3 := rfl

theorem hLse_first : k0_pay20 (k0_pay19 q (k0_pay8 q k) (k0_pay9 b0) (k0_pay10 b1) (k0_pay11 b2) b3 kc) = hLse q k kc b0 b1 b2 b3 := rfl

end Fwd

section Bwd
variable (q : Vec F S64x128 .bf16) (k v : Vec F S512x128 .bf16) (kc vc : Vec F S256x128 .bf16) (b0 b1 b2 b3 : Vec F S1x1x64x128 .f32)
  (o : Vec F S64x128 .bf16) (lse : Vec F S1x64x1 .f32) (g : Vec F S64x128 .bf16)

/-- The softmax over the window's keys. -/
def hP : FVec F S64x512 .f32 := k1_pay32 (k1_pay30 lse) (k1_pay31 q k) b0 b1 b2 b3

/-- The softmax over the context's keys. -/
def hPc : FVec F S64x256 .f32 := k1_pay33 q kc (k1_pay30 lse)

/-- The gradient of the queries. -/
def hDq : FVec F S64x128 .bf16 :=
  k1_pay40 k kc vc g (hP q k b0 b1 b2 b3 lse) (hPc q kc lse) (k1_pay34 g o) (k1_pay35 v g) (k1_pay36 g o)

/-- The window's keys' gradient, added to what is there. -/
def hDk (acc : Vec F S512x128 .f32) : FVec F S512x128 .f32 :=
  k1_pay41 q (hP q k b0 b1 b2 b3 lse) (k1_pay35 v g) (k1_pay36 g o) acc

/-- The window's values' gradient, added to what is there. -/
def hDv (acc : Vec F S512x128 .f32) : FVec F S512x128 .f32 := k1_pay42 g (hP q k b0 b1 b2 b3 lse) acc

/-- The context's keys' gradient, added to what is there. -/
def hDkc (acc : Vec F S256x128 .f32) : FVec F S256x128 .f32 := k1_pay43 q vc g (hPc q kc lse) (k1_pay34 g o) acc

/-- The context's values' gradient, added to what is there. -/
def hDvc (acc : Vec F S256x128 .f32) : FVec F S256x128 .f32 := k1_pay44 g (hPc q kc lse) acc

theorem hDq_first : k1_pay18 k kc (k1_pay15 q kc vc g (k1_pay8 lse) o)
    (k1_pay16 v g (k1_pay8 lse) (k1_pay9 q k) (k1_pay10 b0) b1 b2 b3 o) = hDq q k v kc vc b0 b1 b2 b3 o lse g := rfl

theorem hDk_first (acc : Vec F S512x128 .f32) : k1_pay19 q
    (k1_pay16 v g (k1_pay8 lse) (k1_pay9 q k) (k1_pay10 b0) b1 b2 b3 o) acc = hDk q k v b0 b1 b2 b3 o lse g acc := rfl

theorem hDv_first (acc : Vec F S512x128 .f32) : k1_pay20 g
    (k1_pay11 (k1_pay8 lse) (k1_pay9 q k) (k1_pay10 b0) b1 b2 b3) acc = hDv q k b0 b1 b2 b3 lse g acc := rfl

theorem hDkc_first (acc : Vec F S256x128 .f32) : k1_pay21 q (k1_pay15 q kc vc g (k1_pay8 lse) o) acc = hDkc q kc vc o lse g acc := rfl

theorem hDvc_first (acc : Vec F S256x128 .f32) :
    k1_pay24 g (k1_pay22 acc) (k1_pay23 (k1_pay12 q kc (k1_pay8 lse))) (constant S256x128 .f32 0x00000000#32) = hDvc q kc lse g acc := rfl

end Bwd

end Cert.KernelIdeal.Na

end

end
-- ==== Proof.Tile.lean ====
/- One tile of the attention over real numbers: 64 queries of one head against the 512 keys of a window, some of them
masked, and the 256 keys of the context; and the gradients of its output against a cotangent. -/
module

public import Idealize.ShloMosaic.PureOps.Ideal.Laws

@[expose] public section

noncomputable section

namespace Cert.Na

open Idealize.ShloMosaic

/-- The scale of the scores, the number its pattern denotes. -/
def sigma : ℝ := (Ideal.ofBits .f32 0x3DB504F3#32).toReal

theorem ofBits_sigma : Ideal.ofBits .f32 0x3DB504F3#32 = ((sigma : ℝ) : EReal) := by
  have h : ∃ r : ℝ, Ideal.ofBits .f32 0x3DB504F3#32 = (r : EReal) := by
    unfold Ideal.ofBits Ideal.ieee
    simp only []
    split_ifs with h1 h2 h3 h4 <;> first | exact ⟨_, rfl⟩ | exact absurd h1 (by decide) | exact absurd h2 (by decide) | exact absurd h3 (by decide)
  obtain ⟨r, hr⟩ := h
  unfold sigma; rw [hr, EReal.toReal_coe]

theorem ofBits_bot : Ideal.ofBits .f32 0xFF800000#32 = (⊥ : EReal) := by simp [Ideal.ofBits, Ideal.ieee]

/-- A score, or −∞ where it is masked. -/
def masked (ok : Bool) (x : ℝ) : EReal := if ok then (x : EReal) else ⊥

/-- The exponential of a score, or 0 where it is masked. -/
def weight (ok : Bool) (x : ℝ) : ℝ := if ok then Real.exp x else 0

theorem weight_nonneg (ok : Bool) (x : ℝ) : 0 ≤ weight ok x := by
  unfold weight; split <;> [exact (Real.exp_pos x).le; exact le_rfl]

theorem exp_coe (x : ℝ) : Ideal.exp (x : EReal) = ((Real.exp x : ℝ) : EReal) := rfl

theorem exp_bot : Ideal.exp (⊥ : EReal) = 0 := rfl

theorem coe_add_masked (ok : Bool) (a x : ℝ) : (a : EReal) + masked ok x = masked ok (a + x) := by
  cases ok <;> simp [masked]

theorem exp_sub (x m : ℝ) : Ideal.exp ((x : EReal) - (m : EReal)) = ((Real.exp x * Real.exp (-m) : ℝ) : EReal) := by
  rw [← EReal.coe_sub, exp_coe, ← Real.exp_add, sub_eq_add_neg]

theorem exp_masked_sub (ok : Bool) (x m : ℝ) : Ideal.exp (masked ok x - (m : EReal)) = ((weight ok x * Real.exp (-m) : ℝ) : EReal) := by
  cases ok
  · simp only [masked, weight, Bool.false_eq_true, if_false, EReal.bot_sub, exp_bot, zero_mul, EReal.coe_zero]
  · simp only [masked, weight, if_true, exp_sub]

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe (a : ℝ) {b : ℝ} (hb : b ≠ 0) : Ideal.div (a : EReal) (b : EReal) = ((a / b : ℝ) : EReal) := by
  unfold Ideal.div
  rw [if_neg (by simpa using hb), ← EReal.coe_inv, ← EReal.coe_mul, div_eq_mul_inv]

theorem log_coe {a : ℝ} (ha : 0 < a) : Ideal.log (a : EReal) = ((Real.log a : ℝ) : EReal) := by
  show (if a ≤ 0 then (⊥ : EReal) else ((Real.log a : ℝ) : EReal)) = _
  rw [if_neg (not_le.2 ha)]

/-- The largest of finitely many scores is a real number, if one of them is and none is +∞. -/
theorem exists_fold_max {ι : Type*} [Fintype ι] (u : ι → EReal) (hu : ∀ i, u i ≠ ⊤) (i₀ : ι) (h₀ : u i₀ ≠ ⊥) :
    ∃ m : ℝ, Finset.univ.fold max (⊥ : EReal) u = (m : EReal) := by
  have h1 : Finset.univ.fold max (⊥ : EReal) u < ⊤ :=
    (Finset.fold_max_lt _).2 ⟨bot_lt_top, fun i _ => lt_top_iff_ne_top.2 (hu i)⟩
  have h2 : (⊥ : EReal) < Finset.univ.fold max (⊥ : EReal) u :=
    (Finset.lt_fold_max _).2 (.inr ⟨i₀, Finset.mem_univ _, bot_lt_iff_ne_bot.2 h₀⟩)
  exact ⟨_, (EReal.coe_toReal h1.ne h2.ne').symm⟩

/-- The larger of two such largest scores, the first of them possibly −∞. -/
theorem exists_max {n n' : ℕ} (ok : Fin n → Bool) (x : Fin n → ℝ) (y : Fin n' → ℝ) (j₀ : Fin n') :
    ∃ m : ℝ, max (Finset.univ.fold max (⊥ : EReal) fun i => masked (ok i) (x i))
      (Finset.univ.fold max (⊥ : EReal) fun j => ((y j : ℝ) : EReal)) = (m : EReal) := by
  obtain ⟨b, hb⟩ := exists_fold_max (fun j => ((y j : ℝ) : EReal)) (fun j => EReal.coe_ne_top _) j₀ (EReal.coe_ne_bot _)
  have h1 : (Finset.univ.fold max (⊥ : EReal) fun i => masked (ok i) (x i)) < ⊤ :=
    (Finset.fold_max_lt _).2 ⟨bot_lt_top, fun i _ => by
      unfold masked; split <;> [exact EReal.coe_lt_top _; exact bot_lt_top]⟩
  rw [hb]
  refine ⟨_, (EReal.coe_toReal (max_lt h1 (EReal.coe_lt_top b)).ne ?_).symm⟩
  exact (lt_of_lt_of_le (EReal.bot_lt_coe b) (le_max_right _ _)).ne'

/-- The arguments of a tile: the queries, the window's keys and values, the context's keys and values, the window's
position terms and its mask, and the cotangent of the output. -/
structure Tile where
  q : Fin 64 → Fin 128 → ℝ
  k : Fin 512 → Fin 128 → ℝ
  v : Fin 512 → Fin 128 → ℝ
  kc : Fin 256 → Fin 128 → ℝ
  vc : Fin 256 → Fin 128 → ℝ
  b : Fin 64 → Fin 512 → ℝ
  ok : Fin 64 → Fin 512 → Bool
  g : Fin 64 → Fin 128 → ℝ

namespace Tile

variable (T : Tile)

/-- The scores of the window's keys, the mask apart. -/
def xL (c : Fin 64) (κ : Fin 512) : ℝ := (∑ d, T.q c d * T.k κ d) * sigma + T.b c κ
/-- The scores of the context's keys. -/
def xC (c : Fin 64) (j : Fin 256) : ℝ := (∑ d, T.q c d * T.kc j d) * sigma
/-- Their exponentials, and the sum of these. -/
def wL (c : Fin 64) (κ : Fin 512) : ℝ := weight (T.ok c κ) (T.xL c κ)
def wC (c : Fin 64) (j : Fin 256) : ℝ := Real.exp (T.xC c j)
def Z (c : Fin 64) : ℝ := ∑ κ, T.wL c κ + ∑ j, T.wC c j
/-- The softmax. -/
def pL (c : Fin 64) (κ : Fin 512) : ℝ := T.wL c κ / T.Z c
def pC (c : Fin 64) (j : Fin 256) : ℝ := T.wC c j / T.Z c
/-- The output. -/
def o (c : Fin 64) (d : Fin 128) : ℝ := ∑ κ, T.pL c κ * T.v κ d + ∑ j, T.pC c j * T.vc j d
/-- The cotangent against the output, row by row. -/
def delta (c : Fin 64) : ℝ := ∑ d, T.g c d * T.o c d
/-- The gradients of the scores. -/
def dsL (c : Fin 64) (κ : Fin 512) : ℝ := T.pL c κ * (∑ d, T.g c d * T.v κ d - T.delta c)
def dsC (c : Fin 64) (j : Fin 256) : ℝ := T.pC c j * (∑ d, T.g c d * T.vc j d - T.delta c)
/-- The gradients of the arguments. -/
def dq (c : Fin 64) (d : Fin 128) : ℝ := (∑ κ, T.dsL c κ * T.k κ d + ∑ j, T.dsC c j * T.kc j d) * sigma
def dk (κ : Fin 512) (d : Fin 128) : ℝ := (∑ c, T.dsL c κ * T.q c d) * sigma
def dv (κ : Fin 512) (d : Fin 128) : ℝ := ∑ c, T.pL c κ * T.g c d
def dkc (j : Fin 256) (d : Fin 128) : ℝ := (∑ c, T.dsC c j * T.q c d) * sigma
def dvc (j : Fin 256) (d : Fin 128) : ℝ := ∑ c, T.pC c j * T.g c d

theorem Z_pos (c : Fin 64) : 0 < T.Z c :=
  add_pos_of_nonneg_of_pos (Finset.sum_nonneg fun κ _ => weight_nonneg _ _)
    (Finset.sum_pos (fun j _ => Real.exp_pos _) ⟨⟨0, by decide⟩, Finset.mem_univ _⟩)

theorem Z_ne (c : Fin 64) : T.Z c ≠ 0 := (T.Z_pos c).ne'

end Tile

end Cert.Na

end

end
-- ==== Proof.Spec.lean ====
/- The real numbers that both programs compute: the attention of each head at each row of queries, and the sums over the rows. -/
module

public import proofs.«01_k».proof.Proof.Tile

@[expose] public section

noncomputable section

namespace Cert.Na

/-- The first of the eight rows of keys that a row of queries attends to. -/
def st (r : ℕ) : ℕ := min (r - 4) 56

/-- The first of the sixteen columns of keys that a column of queries attends to. -/
def cs (c : ℕ) : ℕ := min (c - 8) 48

/-- The arguments as real numbers, by row and column. -/
structure Args where
  A : ℕ → ℕ → ℝ
  C : ℕ → ℕ → ℝ
  P : ℕ → ℕ → ℕ → ℝ
  G : ℕ → ℕ → ℝ

variable (a : Args)

/-- The arguments of head `h` at row `r`. -/
def Args.tile (h r : ℕ) : Tile where
  q c d := a.A (64 * r + c.val) (128 * h + d.val)
  k κ d := a.A (64 * st r + κ.val) (1024 + 128 * h + d.val)
  v κ d := a.A (64 * st r + κ.val) (2048 + 128 * h + d.val)
  kc j d := a.C j.val (128 * h + d.val)
  vc j d := a.C j.val (1024 + 128 * h + d.val)
  b c κ := a.P h (st r + κ.val / 64 + 7 - r) (min (κ.val % 64 + 15 - c.val) 30)
  ok c κ := decide (cs c.val ≤ κ.val % 64) && decide (κ.val % 64 < cs c.val + 16)
  g c d := a.G (64 * r + c.val) (1024 + 128 * h + d.val)

/-- A row's share of the keys' gradient, at key row `R` and column `d` of head `h`. -/
def Args.dkAt (h r R : ℕ) (d : Fin 128) : ℝ :=
  if hR : 64 * st r ≤ R ∧ R < 64 * st r + 512 then (a.tile h r).dk ⟨R - 64 * st r, by omega⟩ d else 0

/-- A row's share of the values' gradient. -/
def Args.dvAt (h r R : ℕ) (d : Fin 128) : ℝ :=
  if hR : 64 * st r ≤ R ∧ R < 64 * st r + 512 then (a.tile h r).dv ⟨R - 64 * st r, by omega⟩ d else 0

/-- The results, head by head. -/
def Args.o (h r : ℕ) (c : Fin 64) (d : Fin 128) : ℝ := (a.tile h r).o c d
def Args.dq (h r : ℕ) (c : Fin 64) (d : Fin 128) : ℝ := (a.tile h r).dq c d
def Args.dk (h R : ℕ) (d : Fin 128) : ℝ := ∑ r ∈ Finset.range 64, a.dkAt h r R d
def Args.dv (h R : ℕ) (d : Fin 128) : ℝ := ∑ r ∈ Finset.range 64, a.dvAt h r R d
def Args.dkc (h : ℕ) (j : Fin 256) (d : Fin 128) : ℝ := ∑ r ∈ Finset.range 64, (a.tile h r).dkc j d
def Args.dvc (h : ℕ) (j : Fin 256) (d : Fin 128) : ℝ := ∑ r ∈ Finset.range 64, (a.tile h r).dvc j d

/-! The results by row and column of the arrays, 128 columns a head. -/

def Args.oAt (R e : ℕ) : ℝ := a.o (e / 128) (R / 64) ⟨R % 64, Nat.mod_lt _ (by decide)⟩ ⟨e % 128, Nat.mod_lt _ (by decide)⟩
def Args.lseAt (h R : ℕ) : ℝ := Real.log ((a.tile h (R / 64)).Z ⟨R % 64, Nat.mod_lt _ (by decide)⟩)
def Args.dqAt (R e : ℕ) : ℝ := a.dq (e / 128) (R / 64) ⟨R % 64, Nat.mod_lt _ (by decide)⟩ ⟨e % 128, Nat.mod_lt _ (by decide)⟩
def Args.dkRow (R e : ℕ) : ℝ := a.dk (e / 128) R ⟨e % 128, Nat.mod_lt _ (by decide)⟩
def Args.dvRow (R e : ℕ) : ℝ := a.dv (e / 128) R ⟨e % 128, Nat.mod_lt _ (by decide)⟩
def Args.dkcRow (j e : ℕ) : ℝ := a.dkc (e / 128) ⟨j % 256, Nat.mod_lt _ (by decide)⟩ ⟨e % 128, Nat.mod_lt _ (by decide)⟩
def Args.dvcRow (j e : ℕ) : ℝ := a.dvc (e / 128) ⟨j % 256, Nat.mod_lt _ (by decide)⟩ ⟨e % 128, Nat.mod_lt _ (by decide)⟩

end Cert.Na

end

end
-- ==== Proof.Bias.lean ====
/- The table of position terms that the host makes for the kernel: at each head and pair of key rows, each query and key
column's term, or −∞ outside the query's sixteen columns. -/
module

public import proofs.«01_k».proof.Proof.Run
public import proofs.«01_k».proof.Proof.Spec
public import Idealize.ShloMosaic.Lib.StableHlo.ReadAt
public import Idealize.ShloMosaic.Lib.Pointwise

@[expose] public section

set_option maxRecDepth 16384

noncomputable section

namespace Cert.KernelIdeal.Na

open Idealize.ShloMosaic Idealize.ShloMosaic.TcCoe Idealize.ShloMosaic.Tactic
open Idealize.SL Idealize.SL.RA Idealize.SL.BI
open Cert.KernelIdeal.Gen Cert.Na

/-! ## Words -/

theorem cs_word : ∀ q : Fin 64, IntOp.minsi 48#32 (IntOp.maxsi 0#32 (IntOp.subi (BitVec.ofNat 32 q.val) 8#32)) = BitVec.ofNat 32 (cs q.val) := by
  decide +kernel
theorem ok_word : ∀ q l : Fin 64, IntOp.andi (IntOp.cmpi .sge (BitVec.ofNat 32 l.val) (BitVec.ofNat 32 (cs q.val)))
    (IntOp.cmpi .slt (BitVec.ofNat 32 l.val) (IntOp.addi (BitVec.ofNat 32 (cs q.val)) 16#32))
    = BitVec.ofBool (decide (cs q.val ≤ l.val) && decide (l.val < cs q.val + 16)) := by
  decide +kernel
theorem col_word : ∀ q l : Fin 64, IntOp.minsi 30#32 (IntOp.maxsi 0#32 (IntOp.addi (IntOp.subi (BitVec.ofNat 32 l.val) (BitVec.ofNat 32 q.val)) 15#32))
    = BitVec.ofNat 32 (min (l.val + 15 - q.val) 30) := by
  decide +kernel
theorem toNat_col : ∀ n : Fin 31, min (BitVec.ofNat 32 n.val).toInt.toNat (31 - 1) = n.val := by decide +kernel

/-- The columns of a table taken at the columns that a list of words names. -/
theorem take_at {α : Type} (x : S120x31.Idx → α) (idx : IVec S4096x1 32) (n : Fin 120) (j : Fin 4096) (k : Fin 31)
    (hk : idx (ix2 j 0) = BitVec.ofNat 32 k.val) :
    Host.gather gather_S120x31_S4096x1_S120x4096_0_1_n_n_1_1_1201 x idx (ix2 n j) = x (ix2 n k) := by
  unfold Host.gather
  congr 1
  funext a
  refine Fin.ext ?_
  have hs : (gather_S120x31_S4096x1_S120x4096_0_1_n_n_1_1_1201).siIdx (ix2 n j) ⟨0, by decide⟩ = ix2 j 0 := by
    funext b; refine Fin.ext ?_
    match b with
    | ⟨0, _⟩ => rfl
    | ⟨1, _⟩ => rfl
  match a with
  | ⟨0, _⟩ => exact (Nat.zero_add _).trans rfl
  | ⟨1, _⟩ =>
    show min (idx ((gather_S120x31_S4096x1_S120x4096_0_1_n_n_1_1_1201).siIdx (ix2 n j) ⟨0, _⟩)).toInt.toNat (31 - 1) + 0 + 0 = k.val
    rw [hs, hk]; exact toNat_col k

/-! ## What one list of operations writes, over the buffers before it -/

/-- The sum of two elements. -/
abbrev plus (x y : EReal) : EReal := x + y

section
variable (V : Valuation τ sig (Elt Ideal))

theorem step_v3_2 (i : Fin 64) : StableHlo.after hostOps0_1 V (Proc.devRef .tc main_v3) (ix1 i) = IntOp.minsi (V (Proc.devRef .tc main_c_1) ix0)
      (IntOp.maxsi (V (Proc.devRef .tc main_c_0) ix0) (V (Proc.devRef .tc main_v2) (ix1 i))) := by
  after_reads_at <;> rfl
theorem step_v17_3 (n : Fin 4096) : StableHlo.after hostOps0_2 V (Proc.devRef .tc main_v17) (ix1 n) = IntOp.andi
      (IntOp.cmpi CmpIPredicate.sge (V (Proc.devRef .tc main_v0) (ix1 ⟨n.val % 64, by omega⟩))
        (V (Proc.devRef .tc main_v3) (ix1 ⟨n.val / 64, by omega⟩)))
      (IntOp.cmpi CmpIPredicate.slt (V (Proc.devRef .tc main_v0) (ix1 ⟨n.val % 64, by omega⟩))
        (IntOp.addi (V (Proc.devRef .tc main_v3) (ix1 ⟨n.val / 64, by omega⟩)) 16#32)) := by
  after_reads_at <;> rfl
theorem step_v24_3 (q l : Fin 64) : StableHlo.after hostOps0_2 V (Proc.devRef .tc main_v24) (ix2 q l) = IntOp.addi (IntOp.subi (V (Proc.devRef .tc main_v0) (ix1 l)) (V (Proc.devRef .tc main_v0) (ix1 q))) 15#32 := by
  after_reads_at <;> rfl
theorem step_v25_4 (q l : Fin 64) : StableHlo.after hostOps0_3 V (Proc.devRef .tc main_v25) (ix2 q l) = IntOp.minsi (V (Proc.devRef .tc main_c_5) ix0)
      (IntOp.maxsi (V (Proc.devRef .tc main_c_4) ix0) (V (Proc.devRef .tc main_v24) (ix2 q l))) := by
  after_reads_at <;> rfl
theorem step_v26_5 (n : Fin 4096) : StableHlo.after hostOps0_4 V (Proc.devRef .tc main_v26) (ix1 n) = V (Proc.devRef .tc main_v25) (ix2 ⟨n.val / 64, by omega⟩ ⟨n.val % 64, by omega⟩) := by
  after_reads_at <;> rfl
theorem step_v28_6 (n : Fin 120) (j : Fin 4096) : StableHlo.after hostOps0_5 V (Proc.devRef .tc main_v28) (ix2 n j) = Host.gather gather_S120x31_S4096x1_S120x4096_0_1_n_n_1_1_1201 (V (Proc.devRef .tc main_v27))
      (broadcastInDim S4096x1 ![0] bcast_S4096_S4096x1_0 (V (Proc.devRef .tc main_v26))) (ix2 n j) := by
  after_reads_at <;> rfl
theorem step_v29_8 (n : Fin 120) (j : Fin 4096) : StableHlo.after hostOps0_7 V (Proc.devRef .tc main_v29) (ix2 n j) = Scalar.select (V (Proc.devRef .tc main_v17) (ix1 j)) (V (Proc.devRef .tc main_v28) (ix2 n j))
      (V (Proc.devRef .tc main_cst) ix0) := by
  after_reads_at <;> rfl
theorem step_v30_10 (j : Fin 4096) : StableHlo.after hostOps0_9 V (Proc.devRef .tc main_v30) (ix1 j) = Scalar.select (V (Proc.devRef .tc main_v17) (ix1 j)) (V (Proc.devRef .tc main_cst_6) ix0)
      (V (Proc.devRef .tc main_cst_7) ix0) := by
  after_reads_at <;> rfl
theorem step_c4_3 : StableHlo.after hostOps0_2 V (Proc.devRef .tc main_c_4) ix0 = 0#32 := by
  after_reads_at
theorem step_c5_3 : StableHlo.after hostOps0_2 V (Proc.devRef .tc main_c_5) ix0 = 30#32 := by
  after_reads_at
theorem step_cst_7 : StableHlo.after hostOps0_6 V (Proc.devRef .tc main_cst) ix0 = (0 : EReal) := by
  after_reads_at <;> simp [Ideal.ofBits_zero_f32]
theorem step_cst6_9 : StableHlo.after hostOps0_8 V (Proc.devRef .tc main_cst_6) ix0 = (0 : EReal) := by
  after_reads_at <;> simp [Ideal.ofBits_zero_f32]
theorem step_cst7_9 : StableHlo.after hostOps0_8 V (Proc.devRef .tc main_cst_7) ix0 = (⊥ : EReal) := by
  after_reads_at <;> exact ofBits_bot
theorem step_v27_5 (n : Fin 120) (j : Fin 31) : StableHlo.after hostOps0_4 V (Proc.devRef .tc main_v27) (ix2 n j) = V (Proc.devRef .tc main_arg2) (ix3 ⟨n.val / 15, by omega⟩ ⟨n.val % 15, by omega⟩ j) := by
  after_reads_at <;> rfl
theorem step_v38 (h : Fin 8) (t : Fin 14) (q : Fin 64) (l : Fin 128) : StableHlo.after hostOps0_10 V (Proc.devRef .tc main_v38) (ix4 h t q l)
    = (if hl : l.val < 64 then
      plus (V (Proc.devRef .tc main_v29) (ix2 ⟨h.val * 15 + t.val, by omega⟩ ⟨q.val * 64 + l.val, by omega⟩)) (V (Proc.devRef .tc main_v30) (ix1 ⟨q.val * 64 + l.val, by omega⟩))
    else plus (V (Proc.devRef .tc main_v29) (ix2 ⟨h.val * 15 + (1 + t.val), by omega⟩ ⟨q.val * 64 + (l.val - 64), by omega⟩))
      (V (Proc.devRef .tc main_v30) (ix1 ⟨q.val * 64 + (l.val - 64), by omega⟩))) := by
  after_reads_at <;> rfl
theorem column_at (x : IVec S4096 32) (j : Fin 4096) : broadcastInDim S4096x1 ![0] bcast_S4096_S4096x1_0 x (ix2 j 0) = x (ix1 j) := by
  pointwise

end

/-! ## The buffers, one after another -/

section
variable (m : (ℓ : Loc nD τ sig) → Buf (Elt Ideal) ℓ) (ρ : Dev nD → PrngReg) (c : Dev nD)

theorem v0_1 (i : Fin 64) : W1 m ρ c (Proc.devRef .tc main_v0) (ix1 i) = BitVec.ofNat 32 i.val := by after_reads_at
theorem v2_1 (i : Fin 64) : W1 m ρ c (Proc.devRef .tc main_v2) (ix1 i) = IntOp.subi (BitVec.ofNat 32 i.val) 8#32 := by after_reads_at
theorem c0_1 : W1 m ρ c (Proc.devRef .tc main_c_0) ix0 = 0#32 := by after_reads_at
theorem c1_1 : W1 m ρ c (Proc.devRef .tc main_c_1) ix0 = 48#32 := by after_reads_at
theorem v3_2 (i : Fin 64) : W2 m ρ c (Proc.devRef .tc main_v3) (ix1 i) = BitVec.ofNat 32 (cs i.val) := by
  have h : W2 m ρ c (Proc.devRef .tc main_v3) (ix1 i) = IntOp.minsi (W1 m ρ c (Proc.devRef .tc main_c_1) ix0)
      (IntOp.maxsi (W1 m ρ c (Proc.devRef .tc main_c_0) ix0) (W1 m ρ c (Proc.devRef .tc main_v2) (ix1 i))) := step_v3_2 (W1 m ρ c) i
  rw [h, c1_1, c0_1, v2_1, cs_word]
theorem v0_2 (i : Fin 64) : W2 m ρ c (Proc.devRef .tc main_v0) (ix1 i) = BitVec.ofNat 32 i.val := by
  rw [W2_of m ρ c main_v0 (by decide +kernel)]; exact v0_1 m ρ c i

/-- The mask: query column, then key column. -/
def okAt (n : ℕ) : Bool := decide (cs (n / 64) ≤ n % 64) && decide (n % 64 < cs (n / 64) + 16)

theorem v17_3 (n : Fin 4096) : W3 m ρ c (Proc.devRef .tc main_v17) (ix1 n) = BitVec.ofBool (okAt n.val) := by
  have h : W3 m ρ c (Proc.devRef .tc main_v17) (ix1 n) = IntOp.andi
      (IntOp.cmpi CmpIPredicate.sge (W2 m ρ c (Proc.devRef .tc main_v0) (ix1 ⟨n.val % 64, by omega⟩))
        (W2 m ρ c (Proc.devRef .tc main_v3) (ix1 ⟨n.val / 64, by omega⟩)))
      (IntOp.cmpi CmpIPredicate.slt (W2 m ρ c (Proc.devRef .tc main_v0) (ix1 ⟨n.val % 64, by omega⟩))
        (IntOp.addi (W2 m ρ c (Proc.devRef .tc main_v3) (ix1 ⟨n.val / 64, by omega⟩)) 16#32)) := step_v17_3 (W2 m ρ c) n
  rw [h, v0_2, v3_2]; exact ok_word ⟨n.val / 64, by omega⟩ ⟨n.val % 64, by omega⟩
theorem v24_3 (q l : Fin 64) : W3 m ρ c (Proc.devRef .tc main_v24) (ix2 q l) = IntOp.addi (IntOp.subi (BitVec.ofNat 32 l.val) (BitVec.ofNat 32 q.val)) 15#32 := by
  have h : W3 m ρ c (Proc.devRef .tc main_v24) (ix2 q l) = IntOp.addi (IntOp.subi (W2 m ρ c (Proc.devRef .tc main_v0) (ix1 l)) (W2 m ρ c (Proc.devRef .tc main_v0) (ix1 q))) 15#32 := step_v24_3 (W2 m ρ c) q l
  rw [h, v0_2, v0_2]
theorem c4_3 : W3 m ρ c (Proc.devRef .tc main_c_4) ix0 = 0#32 := step_c4_3 (W2 m ρ c)
theorem c5_3 : W3 m ρ c (Proc.devRef .tc main_c_5) ix0 = 30#32 := step_c5_3 (W2 m ρ c)
theorem v25_4 (q l : Fin 64) : W4 m ρ c (Proc.devRef .tc main_v25) (ix2 q l) = BitVec.ofNat 32 (min (l.val + 15 - q.val) 30) := by
  have h : W4 m ρ c (Proc.devRef .tc main_v25) (ix2 q l) = IntOp.minsi (W3 m ρ c (Proc.devRef .tc main_c_5) ix0)
      (IntOp.maxsi (W3 m ρ c (Proc.devRef .tc main_c_4) ix0) (W3 m ρ c (Proc.devRef .tc main_v24) (ix2 q l))) := step_v25_4 (W3 m ρ c) q l
  rw [h, c5_3, c4_3, v24_3, col_word]

/-- The table's column of a query and key column. -/
def colAt (n : ℕ) : ℕ := min (n % 64 + 15 - n / 64) 30

theorem v26_5 (n : Fin 4096) : W5 m ρ c (Proc.devRef .tc main_v26) (ix1 n) = BitVec.ofNat 32 (colAt n.val) := by
  have h : W5 m ρ c (Proc.devRef .tc main_v26) (ix1 n) = W4 m ρ c (Proc.devRef .tc main_v25) (ix2 ⟨n.val / 64, by omega⟩ ⟨n.val % 64, by omega⟩) := step_v26_5 (W4 m ρ c) n
  rw [h, v25_4]; rfl
theorem v27_5 (n : Fin 120) (j : Fin 31) : W5 m ρ c (Proc.devRef .tc main_v27) (ix2 n j)
    = m ((c : Thread nD τ).loc main_arg2) (ix3 ⟨n.val / 15, by omega⟩ ⟨n.val % 15, by omega⟩ j) := by
  rw [← W4_args m ρ c main_arg2 (by decide +kernel)]
  exact step_v27_5 (W4 m ρ c) n j
theorem v28_6 (n : Fin 120) (j : Fin 4096) : W6 m ρ c (Proc.devRef .tc main_v28) (ix2 n j)
    = m ((c : Thread nD τ).loc main_arg2) (ix3 ⟨n.val / 15, by omega⟩ ⟨n.val % 15, by omega⟩ ⟨colAt j.val, by unfold colAt; omega⟩) := by
  have h : W6 m ρ c (Proc.devRef .tc main_v28) (ix2 n j) = Host.gather gather_S120x31_S4096x1_S120x4096_0_1_n_n_1_1_1201 (W5 m ρ c (Proc.devRef .tc main_v27))
      (broadcastInDim S4096x1 ![0] bcast_S4096_S4096x1_0 (W5 m ρ c (Proc.devRef .tc main_v26))) (ix2 n j) := step_v28_6 (W5 m ρ c) n j
  rw [h, take_at _ _ n j ⟨colAt j.val, by unfold colAt; omega⟩ (by
    exact (column_at (W5 m ρ c (Proc.devRef .tc main_v26)) j).trans (v26_5 m ρ c j))]
  exact v27_5 m ρ c _ _
theorem cst_7 : W7 m ρ c (Proc.devRef .tc main_cst) ix0 = (0 : EReal) := step_cst_7 (W6 m ρ c)
theorem v17_7 (n : Fin 4096) : W7 m ρ c (Proc.devRef .tc main_v17) (ix1 n) = BitVec.ofBool (okAt n.val) := by
  rw [W7_of m ρ c main_v17 (by decide +kernel), W6_of m ρ c main_v17 (by decide +kernel), W5_of m ρ c main_v17 (by decide +kernel), W4_of m ρ c main_v17 (by decide +kernel)]
  exact v17_3 m ρ c n
theorem v28_7 (n : Fin 120) (j : Fin 4096) : W7 m ρ c (Proc.devRef .tc main_v28) (ix2 n j)
    = m ((c : Thread nD τ).loc main_arg2) (ix3 ⟨n.val / 15, by omega⟩ ⟨n.val % 15, by omega⟩ ⟨colAt j.val, by unfold colAt; omega⟩) := by
  rw [W7_of m ρ c main_v28 (by decide +kernel)]; exact v28_6 m ρ c n j
theorem v29_8 (n : Fin 120) (j : Fin 4096) : W8 m ρ c (Proc.devRef .tc main_v29) (ix2 n j)
    = if okAt j.val then m ((c : Thread nD τ).loc main_arg2) (ix3 ⟨n.val / 15, by omega⟩ ⟨n.val % 15, by omega⟩ ⟨colAt j.val, by unfold colAt; omega⟩) else (0 : EReal) := by
  have h : W8 m ρ c (Proc.devRef .tc main_v29) (ix2 n j) = Scalar.select (W7 m ρ c (Proc.devRef .tc main_v17) (ix1 j)) (W7 m ρ c (Proc.devRef .tc main_v28) (ix2 n j))
      (W7 m ρ c (Proc.devRef .tc main_cst) ix0) := step_v29_8 (W7 m ρ c) n j
  rw [h, v17_7, v28_7, cst_7]
  cases okAt j.val <;> rfl
theorem cst6_9 : W9 m ρ c (Proc.devRef .tc main_cst_6) ix0 = (0 : EReal) := step_cst6_9 (W8 m ρ c)
theorem cst7_9 : W9 m ρ c (Proc.devRef .tc main_cst_7) ix0 = (⊥ : EReal) := step_cst7_9 (W8 m ρ c)
theorem v30_10 (j : Fin 4096) : W10 m ρ c (Proc.devRef .tc main_v30) (ix1 j) = if okAt j.val then (0 : EReal) else ⊥ := by
  have h : W10 m ρ c (Proc.devRef .tc main_v30) (ix1 j) = Scalar.select (W9 m ρ c (Proc.devRef .tc main_v17) (ix1 j)) (W9 m ρ c (Proc.devRef .tc main_cst_6) ix0)
      (W9 m ρ c (Proc.devRef .tc main_cst_7) ix0) := step_v30_10 (W9 m ρ c) j
  rw [h, W9_of m ρ c main_v17 (by decide +kernel), W8_of m ρ c main_v17 (by decide +kernel), v17_7, cst6_9, cst7_9]
  cases okAt j.val <;> rfl
theorem v29_10 (n : Fin 120) (j : Fin 4096) : W10 m ρ c (Proc.devRef .tc main_v29) (ix2 n j)
    = if okAt j.val then m ((c : Thread nD τ).loc main_arg2) (ix3 ⟨n.val / 15, by omega⟩ ⟨n.val % 15, by omega⟩ ⟨colAt j.val, by unfold colAt; omega⟩) else (0 : EReal) := by
  rw [W10_of m ρ c main_v29 (by decide +kernel), W9_of m ρ c main_v29 (by decide +kernel)]; exact v29_8 m ρ c n j

/-- The table, if the terms are real numbers. -/
theorem v38_11 (P : ℕ → ℕ → ℕ → ℝ) (hP : ∀ (h : Fin 8) (t : Fin 15) (j : Fin 31), m ((c : Thread nD τ).loc main_arg2) (ix3 h t j) = ((P h.val t.val j.val : ℝ) : EReal))
    (h : Fin 8) (t : Fin 14) (q : Fin 64) (l : Fin 128) : W11 m ρ c (Proc.devRef .tc main_v38) (ix4 h t q l)
    = masked (decide (cs q.val ≤ l.val % 64) && decide (l.val % 64 < cs q.val + 16)) (P h.val (t.val + l.val / 64) (min (l.val % 64 + 15 - q.val) 30)) := by
  have e : ∀ (n : Fin 120) (j : Fin 4096), plus (W10 m ρ c (Proc.devRef .tc main_v29) (ix2 n j)) (W10 m ρ c (Proc.devRef .tc main_v30) (ix1 j))
      = masked (okAt j.val) (P (n.val / 15) (n.val % 15) (colAt j.val)) := by
    intro n j
    rw [v29_10, v30_10, hP]
    cases okAt j.val <;> simp [masked, plus]
  have r : W11 m ρ c (Proc.devRef .tc main_v38) (ix4 h t q l) = (if l.val < 64 then
      masked (okAt (q.val * 64 + l.val)) (P ((h.val * 15 + t.val) / 15) ((h.val * 15 + t.val) % 15) (colAt (q.val * 64 + l.val)))
    else masked (okAt (q.val * 64 + (l.val - 64))) (P ((h.val * 15 + (1 + t.val)) / 15) ((h.val * 15 + (1 + t.val)) % 15) (colAt (q.val * 64 + (l.val - 64))))) := by
    refine (step_v38 (W10 m ρ c) h t q l).trans ?_
    split
    · exact e ⟨h.val * 15 + t.val, by omega⟩ ⟨q.val * 64 + l.val, by omega⟩
    · exact e ⟨h.val * 15 + (1 + t.val), by omega⟩ ⟨q.val * 64 + (l.val - 64), by omega⟩
  rw [r]
  unfold okAt colAt
  split
  · rw [show (q.val * 64 + l.val) / 64 = q.val by omega, show (q.val * 64 + l.val) % 64 = l.val % 64 by omega, show (h.val * 15 + t.val) / 15 = h.val by omega,
      show (h.val * 15 + t.val) % 15 = t.val + l.val / 64 by omega]
  · rw [show (q.val * 64 + (l.val - 64)) / 64 = q.val by omega, show (q.val * 64 + (l.val - 64)) % 64 = l.val % 64 by omega, show (h.val * 15 + (1 + t.val)) / 15 = h.val by omega,
      show (h.val * 15 + (1 + t.val)) % 15 = t.val + l.val / 64 by omega]

end

end Cert.KernelIdeal.Na

end

end
-- ==== Proof.HeadVal.lean ====
/- What one head of a grid point computes, at an index, over the extended reals: the tile's real numbers. -/
module

public import proofs.«01_k».proof.Proof.Head
public import proofs.«01_k».proof.Proof.Tile
public import Idealize.ShloMosaic.Lib.Pointwise

@[expose] public section

set_option maxRecDepth 16384

noncomputable section

namespace Cert.KernelIdeal.Na

open Idealize.ShloMosaic Cert.KernelIdeal.Gen Cert.Na

/-- The blocks that a head loads hold the tile's arguments. -/
structure Loads (T : Tile) (q : Vec Ideal S64x128 .bf16) (k v : Vec Ideal S512x128 .bf16) (kc vc : Vec Ideal S256x128 .bf16)
    (b0 b1 b2 b3 : Vec Ideal S1x1x64x128 .f32) : Prop where
  hq : ∀ c d, q (ix2 c d) = ((T.q c d : ℝ) : EReal)
  hk : ∀ κ d, k (ix2 κ d) = ((T.k κ d : ℝ) : EReal)
  hv : ∀ κ d, v (ix2 κ d) = ((T.v κ d : ℝ) : EReal)
  hkc : ∀ j d, kc (ix2 j d) = ((T.kc j d : ℝ) : EReal)
  hvc : ∀ j d, vc (ix2 j d) = ((T.vc j d : ℝ) : EReal)
  hb0 : ∀ c (κ : Fin 512) (l : Fin 128), κ.val = l.val → b0 (ix4 0 0 c l) = masked (T.ok c κ) (T.b c κ)
  hb1 : ∀ c (κ : Fin 512) (l : Fin 128), κ.val = 128 + l.val → b1 (ix4 0 0 c l) = masked (T.ok c κ) (T.b c κ)
  hb2 : ∀ c (κ : Fin 512) (l : Fin 128), κ.val = 256 + l.val → b2 (ix4 0 0 c l) = masked (T.ok c κ) (T.b c κ)
  hb3 : ∀ c (κ : Fin 512) (l : Fin 128), κ.val = 384 + l.val → b3 (ix4 0 0 c l) = masked (T.ok c κ) (T.b c κ)

variable {T : Tile} {q : Vec Ideal S64x128 .bf16} {k v : Vec Ideal S512x128 .bf16} {kc vc : Vec Ideal S256x128 .bf16}
    {b0 b1 b2 b3 : Vec Ideal S1x1x64x128 .f32}

theorem sum_mul {n : ℕ} {f g : Fin n → EReal} {a b : Fin n → ℝ} (hf : ∀ i, f i = (a i : EReal)) (hg : ∀ i, g i = (b i : EReal)) :
    ∑ i, f i * g i = ((∑ i, a i * b i : ℝ) : EReal) := by
  simp only [hf, hg, ← EReal.coe_mul, coe_sum]

theorem sum_coe {n : ℕ} {f : Fin n → EReal} {a : Fin n → ℝ} (hf : ∀ i, f i = (a i : EReal)) :
    ∑ i, f i = ((∑ i, a i : ℝ) : EReal) := by
  simp only [hf, coe_sum]

/-- The ladder of the four bias tiles, read at a key. -/
theorem bias_at (h : Loads T q k v kc vc b0 b1 b2 b3) (c : Fin 64) (κ : Fin 512) :
    (if h : κ.val < 128 then b0 (ix4 0 0 c ⟨κ.val, h⟩)
      else if h : κ.val - 128 < 128 then b1 (ix4 0 0 c ⟨κ.val - 128, h⟩)
      else if h : κ.val - 128 - 128 < 128 then b2 (ix4 0 0 c ⟨κ.val - 128 - 128, h⟩)
      else b3 (ix4 0 0 c ⟨κ.val - 128 - 128 - 128, by omega⟩)) = masked (T.ok c κ) (T.b c κ) := by
  split_ifs with h1 h2 h3
  · exact h.hb0 c κ _ rfl
  · exact h.hb1 c κ _ (by show κ.val = 128 + (κ.val - 128); omega)
  · exact h.hb2 c κ _ (by show κ.val = 256 + (κ.val - 128 - 128); omega)
  · exact h.hb3 c κ _ (by show κ.val = 384 + (κ.val - 128 - 128 - 128); omega)

theorem scores_at (h : Loads T q k v kc vc b0 b1 b2 b3) (c : Fin 64) (κ : Fin 512) :
    k0_pay21 q k b0 b1 b2 b3 (ix2 c κ) = masked (T.ok c κ) (T.xL c κ) := by
  pointwise [k0_pay21]
  rw [bias_at h, sum_mul (h.hq c) (h.hk κ), ofBits_sigma, ← EReal.coe_mul, coe_add_masked]
  rfl

theorem ctx_at (h : Loads T q k v kc vc b0 b1 b2 b3) (c : Fin 64) (j : Fin 256) :
    (k0_pay22 q kc (ix2 c j) : EReal) * Ideal.ofBits .f32 0x3DB504F3#32 = ((T.xC c j : ℝ) : EReal) := by
  pointwise [k0_pay22]
  rw [sum_mul (h.hq c) (h.hkc j), ofBits_sigma, ← EReal.coe_mul]
  rfl

theorem sum_exp (T : Tile) (c : Fin 64) (m : ℝ) :
    ∑ κ, Ideal.exp (masked (T.ok c κ) (T.xL c κ) - (m : EReal)) + ∑ j, Ideal.exp (((T.xC c j : ℝ) : EReal) - (m : EReal))
      = ((T.Z c * Real.exp (-m) : ℝ) : EReal) := by
  simp only [exp_masked_sub, exp_sub, coe_sum, ← EReal.coe_add, ← Finset.sum_mul, ← add_mul]
  rfl

theorem hO_at (h : Loads T q k v kc vc b0 b1 b2 b3) (c : Fin 64) (d : Fin 128) :
    hO q k v kc vc b0 b1 b2 b3 (ix2 c d) = ((T.o c d : ℝ) : EReal) := by
  unfold hO
  pointwise [k0_pay6, k0_pay5, k0_pay4, k0_pay3, k0_pay2, k0_pay1]
  simp only [scores_at h, ctx_at h, ofBits_bot, h.hv, h.hvc]
  obtain ⟨m, hm⟩ := exists_max (T.ok c) (T.xL c) (T.xC c) 0
  simp only [hm, sum_exp]
  simp only [exp_masked_sub, exp_sub, ← EReal.coe_mul, coe_sum, ← EReal.coe_add]
  have hE : Real.exp (-m) ≠ 0 := (Real.exp_pos _).ne'
  rw [div_coe _ (mul_ne_zero (T.Z_ne c) hE)]
  congr 1
  rw [div_eq_iff (mul_ne_zero (T.Z_ne c) hE)]
  simp only [Tile.o, Tile.pL, Tile.pC, add_mul, Finset.sum_mul]
  have hZ := T.Z_ne c
  congr 1 <;> refine Finset.sum_congr rfl fun i _ => ?_
  · show weight _ _ * _ * _ = _
    unfold Tile.wL; field_simp
  · show Real.exp _ * _ * _ = _
    unfold Tile.wC; field_simp

theorem hLse_at (h : Loads T q k v kc vc b0 b1 b2 b3) (c : Fin 64) :
    hLse q k kc b0 b1 b2 b3 (ix3 0 c 0) = ((Real.log (T.Z c) : ℝ) : EReal) := by
  unfold hLse
  pointwise [k0_pay7, k0_pay5, k0_pay4, k0_pay3, k0_pay2, k0_pay1]
  simp only [scores_at h, ctx_at h, ofBits_bot]
  obtain ⟨m, hm⟩ := exists_max (T.ok c) (T.xL c) (T.xC c) 0
  simp only [hm, sum_exp]
  have hE := Real.exp_pos (-m)
  rw [log_coe (mul_pos (T.Z_pos c) hE), ← EReal.coe_add, Real.log_mul (T.Z_ne c) hE.ne', Real.log_exp]
  congr 1; ring

section Bwd
variable {o : Vec Ideal S64x128 .bf16} {lse : Vec Ideal S1x64x1 .f32} {g : Vec Ideal S64x128 .bf16}

theorem hP_at (h : Loads T q k v kc vc b0 b1 b2 b3) (hl : ∀ c, lse (ix3 0 c 0) = ((Real.log (T.Z c) : ℝ) : EReal)) (c : Fin 64) (κ : Fin 512) :
    hP q k b0 b1 b2 b3 lse (ix2 c κ) = ((T.pL c κ : ℝ) : EReal) := by
  unfold hP
  pointwise [k1_pay32, k1_pay30, k1_pay31]
  rw [bias_at h, sum_mul (h.hq c) (h.hk κ), ofBits_sigma, ← EReal.coe_mul, coe_add_masked, hl, exp_masked_sub, Real.exp_neg,
    Real.exp_log (T.Z_pos c)]
  rfl

theorem hPc_at (h : Loads T q k v kc vc b0 b1 b2 b3) (hl : ∀ c, lse (ix3 0 c 0) = ((Real.log (T.Z c) : ℝ) : EReal)) (c : Fin 64) (j : Fin 256) :
    hPc q kc lse (ix2 c j) = ((T.pC c j : ℝ) : EReal) := by
  unfold hPc
  pointwise [k1_pay33, k1_pay30]
  rw [sum_mul (h.hq c) (h.hkc j), ofBits_sigma, ← EReal.coe_mul, hl, exp_sub, Real.exp_neg, Real.exp_log (T.Z_pos c)]
  rfl

theorem delta_at (hg : ∀ c d, g (ix2 c d) = ((T.g c d : ℝ) : EReal)) (ho : ∀ c d, o (ix2 c d) = ((T.o c d : ℝ) : EReal)) (c : Fin 64) :
    k1_pay34 g o (ix2 c 0) = ((T.delta c : ℝ) : EReal) := by
  pointwise [k1_pay34]
  rw [sum_mul (hg c) (ho c)]
  rfl

theorem ds_at (h : Loads T q k v kc vc b0 b1 b2 b3) (hl : ∀ c, lse (ix3 0 c 0) = ((Real.log (T.Z c) : ℝ) : EReal))
    (hg : ∀ c d, g (ix2 c d) = ((T.g c d : ℝ) : EReal)) (ho : ∀ c d, o (ix2 c d) = ((T.o c d : ℝ) : EReal)) (c : Fin 64) (κ : Fin 512) :
    k1_pay38 (hP q k b0 b1 b2 b3 lse) (k1_pay35 v g) (k1_pay36 g o) (ix2 c κ) = ((T.dsL c κ : ℝ) : EReal) := by
  pointwise [k1_pay38, k1_pay37, k1_pay35, k1_pay36]
  rw [hP_at h hl, delta_at hg ho, sum_mul (hg c) (h.hv κ), ← EReal.coe_sub, ← EReal.coe_mul]
  rfl

theorem dsc_at (h : Loads T q k v kc vc b0 b1 b2 b3) (hl : ∀ c, lse (ix3 0 c 0) = ((Real.log (T.Z c) : ℝ) : EReal))
    (hg : ∀ c d, g (ix2 c d) = ((T.g c d : ℝ) : EReal)) (ho : ∀ c d, o (ix2 c d) = ((T.o c d : ℝ) : EReal)) (c : Fin 64) (j : Fin 256) :
    k1_pay39 vc g (hPc q kc lse) (k1_pay34 g o) (ix2 c j) = ((T.dsC c j : ℝ) : EReal) := by
  pointwise [k1_pay39]
  rw [hPc_at h hl, delta_at hg ho, sum_mul (hg c) (h.hvc j), ← EReal.coe_sub, ← EReal.coe_mul]
  rfl

theorem hDq_at (h : Loads T q k v kc vc b0 b1 b2 b3) (hl : ∀ c, lse (ix3 0 c 0) = ((Real.log (T.Z c) : ℝ) : EReal))
    (hg : ∀ c d, g (ix2 c d) = ((T.g c d : ℝ) : EReal)) (ho : ∀ c d, o (ix2 c d) = ((T.o c d : ℝ) : EReal)) (c : Fin 64) (d : Fin 128) :
    hDq q k v kc vc b0 b1 b2 b3 o lse g (ix2 c d) = ((T.dq c d : ℝ) : EReal) := by
  unfold hDq
  pointwise [k1_pay40]
  rw [sum_mul (ds_at h hl hg ho c) (fun κ => h.hk κ d), sum_mul (dsc_at h hl hg ho c) (fun j => h.hkc j d), ofBits_sigma,
    ← EReal.coe_add, ← EReal.coe_mul]
  rfl

theorem hDk_at (h : Loads T q k v kc vc b0 b1 b2 b3) (hl : ∀ c, lse (ix3 0 c 0) = ((Real.log (T.Z c) : ℝ) : EReal))
    (hg : ∀ c d, g (ix2 c d) = ((T.g c d : ℝ) : EReal)) (ho : ∀ c d, o (ix2 c d) = ((T.o c d : ℝ) : EReal))
    (acc : Vec Ideal S512x128 .f32) (κ : Fin 512) (d : Fin 128) :
    hDk q k v b0 b1 b2 b3 o lse g acc (ix2 κ d) = (acc (ix2 κ d) : EReal) + ((T.dk κ d : ℝ) : EReal) := by
  unfold hDk
  pointwise [k1_pay41]
  rw [sum_mul (fun c => ds_at h hl hg ho c κ) (fun c => h.hq c d), ofBits_sigma, ← EReal.coe_mul]
  rfl

theorem hDv_at (h : Loads T q k v kc vc b0 b1 b2 b3) (hl : ∀ c, lse (ix3 0 c 0) = ((Real.log (T.Z c) : ℝ) : EReal))
    (hg : ∀ c d, g (ix2 c d) = ((T.g c d : ℝ) : EReal))
    (acc : Vec Ideal S512x128 .f32) (κ : Fin 512) (d : Fin 128) :
    hDv q k b0 b1 b2 b3 lse g acc (ix2 κ d) = (acc (ix2 κ d) : EReal) + ((T.dv κ d : ℝ) : EReal) := by
  unfold hDv
  pointwise [k1_pay42]
  rw [sum_mul (fun c => hP_at h hl c κ) (fun c => hg c d)]
  rfl

theorem hDkc_at (h : Loads T q k v kc vc b0 b1 b2 b3) (hl : ∀ c, lse (ix3 0 c 0) = ((Real.log (T.Z c) : ℝ) : EReal))
    (hg : ∀ c d, g (ix2 c d) = ((T.g c d : ℝ) : EReal)) (ho : ∀ c d, o (ix2 c d) = ((T.o c d : ℝ) : EReal))
    (acc : Vec Ideal S256x128 .f32) (j : Fin 256) (d : Fin 128) :
    hDkc q kc vc o lse g acc (ix2 j d) = (acc (ix2 j d) : EReal) + ((T.dkc j d : ℝ) : EReal) := by
  unfold hDkc
  pointwise [k1_pay43]
  rw [sum_mul (fun c => dsc_at h hl hg ho c j) (fun c => h.hq c d), ofBits_sigma, ← EReal.coe_mul]
  rfl

theorem hDvc_at (h : Loads T q k v kc vc b0 b1 b2 b3) (hl : ∀ c, lse (ix3 0 c 0) = ((Real.log (T.Z c) : ℝ) : EReal))
    (hg : ∀ c d, g (ix2 c d) = ((T.g c d : ℝ) : EReal))
    (acc : Vec Ideal S256x128 .f32) (j : Fin 256) (d : Fin 128) :
    hDvc q kc lse g acc (ix2 j d) = (acc (ix2 j d) : EReal) + ((T.dvc j d : ℝ) : EReal) := by
  unfold hDvc
  pointwise [k1_pay44]
  rw [sum_mul (fun c => hPc_at h hl c j) (fun c => hg c d)]
  rfl

end Bwd

end Cert.KernelIdeal.Na

end

end
-- ==== Proof.Blocks.lean ====
/- The blocks a grid point works on, head by head: what both heads load of them holds the arguments of the head's tile. -/
module

public import proofs.«01_k».proof.Proof.HeadVal
public import proofs.«01_k».proof.Proof.Spec
public import Idealize.ShloMosaic.Lib.Pipeline.Value
public import Idealize.ShloMosaic.Lib.WholeRead
public import Idealize.ShloMosaic.Lib.WritesUnit

@[expose] public section

set_option maxRecDepth 16384

noncomputable section

namespace Cert.KernelIdeal.Na

open Idealize.ShloMosaic Cert.KernelIdeal.Gen Cert.Na

/-- A load from a buffer holding `X` reads `X` on its rectangle. -/
theorem ld_unread {Val : EltTy → Type} {sig : RefSig} {κ : Kind} {sp : Space} {s : Shape} {e : EltTy} {m : Memref sig κ sp s e} (h : m.IsWhole)
    (X : s.Idx → Val e) (R : Rect s) : View.readAt Val m.view R.toLoadRect (h.unread X) = View.ld X R :=
  funext fun x => h.readAt_unread X R.toLoadRect x

/-- A load through a rectangle, at an index. -/
theorem ld_at {Val : EltTy → Type} {s : Shape} {e : EltTy} (X : s.Idx → Val e) {off off' size : Fin s.rank → ℕ}
    (inb : ∀ a, off a + size a ≤ s.size a) (ho : off = off') (x : (Rect.unit off size inb).shape.Idx) (z : s.Idx)
    (hz : ∀ a, (z a).val = off' a + (x a).val) : View.ld X (Rect.unit off size inb) x = X z := by
  subst ho
  exact congrArg X (funext fun a => Fin.ext ((congrArg (off a + ·) (Nat.one_mul (x a).val)).trans (hz a).symm))

/-- Column `d` of head `hh` of a pair of heads. -/
abbrev col (hh : Fin 2) (d : Fin 128) : Fin 256 := ⟨128 * hh.val + d.val, by omega⟩

theorem st_le (r : ℕ) : st r ≤ 56 := by unfold st; omega

/-- Row `κ` of the eight rows of keys of row `r`. -/
abbrev keyRow (r : ℕ) (κ : Fin 512) : Fin 4096 := ⟨64 * st r + κ.val, by have := st_le r; omega⟩

/-- The first bias table of row `r`. -/
def off (r : ℕ) : ℕ := 7 - (r - st r)

theorem off_le (r : ℕ) (hr : r < 64) : off r ≤ 7 := by unfold off; omega

abbrev biasRow (r : ℕ) (j : Fin 4) : Fin 14 := ⟨off r + 2 * j.val, by unfold off; omega⟩

/-- The blocks of the arguments at row `r` hold the arguments of the pair's two tiles. -/
structure Blocks (T : Fin 2 → Tile) (r : ℕ) (x0 : Vec Ideal S64x256 .bf16) (x1 x2 : Vec Ideal S4096x256 .bf16)
    (x3 x4 : Vec Ideal S256x256 .bf16) (x5 : Vec Ideal S2x14x64x128 .f32) : Prop where
  hq : ∀ hh c d, x0 (ix2 c (col hh d)) = (((T hh).q c d : ℝ) : EReal)
  hk : ∀ hh κ d, x1 (ix2 (keyRow r κ) (col hh d)) = (((T hh).k κ d : ℝ) : EReal)
  hv : ∀ hh κ d, x2 (ix2 (keyRow r κ) (col hh d)) = (((T hh).v κ d : ℝ) : EReal)
  hkc : ∀ hh j d, x3 (ix2 j (col hh d)) = (((T hh).kc j d : ℝ) : EReal)
  hvc : ∀ hh j d, x4 (ix2 j (col hh d)) = (((T hh).vc j d : ℝ) : EReal)
  hb : ∀ hh c (κ : Fin 512) (j : Fin 4) (l : Fin 128), κ.val = 128 * j.val + l.val →
    x5 (ix4 hh (biasRow r j) c l) = masked ((T hh).ok c κ) ((T hh).b c κ)

variable {T : Fin 2 → Tile} {r : ℕ} {x0 : Vec Ideal S64x256 .bf16} {x1 x2 : Vec Ideal S4096x256 .bf16}
    {x3 x4 : Vec Ideal S256x256 .bf16} {x5 : Vec Ideal S2x14x64x128 .f32}

theorem loads (B : Blocks T r x0 x1 x2 x3 x4 x5) (hh : Fin 2) {o0 o1 o3 : Fin 2 → ℕ} {e0 e1 e2 e3 : Fin 4 → ℕ}
    (i0 : ∀ a, o0 a + (![64, 128] : Fin 2 → ℕ) a ≤ S64x256.size a) (i1 : ∀ a, o1 a + (![512, 128] : Fin 2 → ℕ) a ≤ S4096x256.size a)
    (i3 : ∀ a, o3 a + (![256, 128] : Fin 2 → ℕ) a ≤ S256x256.size a)
    (j0 : ∀ a, e0 a + (![1, 1, 64, 128] : Fin 4 → ℕ) a ≤ S2x14x64x128.size a) (j1 : ∀ a, e1 a + (![1, 1, 64, 128] : Fin 4 → ℕ) a ≤ S2x14x64x128.size a)
    (j2 : ∀ a, e2 a + (![1, 1, 64, 128] : Fin 4 → ℕ) a ≤ S2x14x64x128.size a) (j3 : ∀ a, e3 a + (![1, 1, 64, 128] : Fin 4 → ℕ) a ≤ S2x14x64x128.size a)
    (h0 : o0 = ![0, 128 * hh.val]) (h1 : o1 = ![64 * st r, 128 * hh.val]) (h3 : o3 = ![0, 128 * hh.val])
    (g0 : e0 = ![hh.val, off r + 0, 0, 0]) (g1 : e1 = ![hh.val, off r + 2, 0, 0]) (g2 : e2 = ![hh.val, off r + 4, 0, 0])
    (g3 : e3 = ![hh.val, off r + 6, 0, 0]) :
    Loads (T hh) (View.ld x0 (Rect.unit o0 ![64, 128] i0)) (View.ld x1 (Rect.unit o1 ![512, 128] i1)) (View.ld x2 (Rect.unit o1 ![512, 128] i1))
      (View.ld x3 (Rect.unit o3 ![256, 128] i3)) (View.ld x4 (Rect.unit o3 ![256, 128] i3))
      (View.ld x5 (Rect.unit e0 ![1, 1, 64, 128] j0)) (View.ld x5 (Rect.unit e1 ![1, 1, 64, 128] j1))
      (View.ld x5 (Rect.unit e2 ![1, 1, 64, 128] j2)) (View.ld x5 (Rect.unit e3 ![1, 1, 64, 128] j3)) where
  hq c d := (ld_at x0 i0 h0 (ix2 c d) (ix2 c (col hh d)) (Fin.forall_fin_two.2 ⟨(Nat.zero_add _).symm, rfl⟩)).trans (B.hq hh c d)
  hk κ d := (ld_at x1 i1 h1 (ix2 κ d) (ix2 (keyRow r κ) (col hh d)) (Fin.forall_fin_two.2 ⟨rfl, rfl⟩)).trans (B.hk hh κ d)
  hv κ d := (ld_at x2 i1 h1 (ix2 κ d) (ix2 (keyRow r κ) (col hh d)) (Fin.forall_fin_two.2 ⟨rfl, rfl⟩)).trans (B.hv hh κ d)
  hkc j d := (ld_at x3 i3 h3 (ix2 j d) (ix2 j (col hh d)) (Fin.forall_fin_two.2 ⟨(Nat.zero_add _).symm, rfl⟩)).trans (B.hkc hh j d)
  hvc j d := (ld_at x4 i3 h3 (ix2 j d) (ix2 j (col hh d)) (Fin.forall_fin_two.2 ⟨(Nat.zero_add _).symm, rfl⟩)).trans (B.hvc hh j d)
  hb0 c κ l e := (ld_at x5 j0 g0 (ix4 0 0 c l) (ix4 hh (biasRow r 0) c l)
    (by intro a; fin_cases a <;> first | rfl | exact (Nat.zero_add _).symm)).trans (B.hb hh c κ 0 l (e.trans (Nat.zero_add _).symm))
  hb1 c κ l e := (ld_at x5 j1 g1 (ix4 0 0 c l) (ix4 hh (biasRow r 1) c l)
    (by intro a; fin_cases a <;> first | rfl | exact (Nat.zero_add _).symm)).trans (B.hb hh c κ 1 l e)
  hb2 c κ l e := (ld_at x5 j2 g2 (ix4 0 0 c l) (ix4 hh (biasRow r 2) c l)
    (by intro a; fin_cases a <;> first | rfl | exact (Nat.zero_add _).symm)).trans (B.hb hh c κ 2 l e)
  hb3 c κ l e := (ld_at x5 j3 g3 (ix4 0 0 c l) (ix4 hh (biasRow r 3) c l)
    (by intro a; fin_cases a <;> first | rfl | exact (Nat.zero_add _).symm)).trans (B.hb hh c κ 3 l e)

end Cert.KernelIdeal.Na

end

end
-- ==== Proof.Pieces.lean ====
/- Reading the blocks a point writes piece by piece: each head writes its own columns, or its own row of sums, or its own
columns of the eight rows of keys of the point. -/
module

public import proofs.«01_k».proof.Proof.Blocks
public import proofs.«01_k».proof.Proof.Offs

@[expose] public section

set_option maxRecDepth 16384

noncomputable section

namespace Cert.KernelIdeal.Na

open Idealize.ShloMosaic Cert.KernelIdeal.Gen Cert.Na

variable {Val : EltTy → Type} {sg : RefSig} {κ : Kind} {sp : Space} {e : EltTy}

/-- A block of rows of queries whose newest piece is the second head's reads it in the second head's columns. -/
theorem halves64_hi (v : View sg κ sp S64x256 e) (f : v.ty.Contents Val) (w : S64x128.Idx → Val e) (L : List (View.Piece Val S64x256 e)) (p : Fin 64) (d : Fin 128) :
    v.read Val (v.writes Val f ((⟨Rect.unit ![0, 128] ![64, 128] inb_S64x256_S64x128_0_128, w⟩ : View.Piece Val S64x256 e) :: L)) (ix2 p (col 1 d)) = w (ix2 p d) :=
  View.read_writes_cons_unit_of_mem v f inb_S64x256_S64x128_0_128 w L (ix2 p (col 1 d)) (ix2 p d) rfl (Fin.forall_fin_two.2 ⟨(Nat.zero_add _).symm, rfl⟩)

/-- And the piece before it in the first head's. -/
theorem halves64_lo (v : View sg κ sp S64x256 e) (f : v.ty.Contents Val) (w w1 : S64x128.Idx → Val e) (L : List (View.Piece Val S64x256 e)) (p : Fin 64) (d : Fin 128) :
    v.read Val (v.writes Val f ((⟨Rect.unit ![0, 128] ![64, 128] inb_S64x256_S64x128_0_128, w1⟩ : View.Piece Val S64x256 e) ::
      (⟨Rect.unit ![0, 0] ![64, 128] inb_S64x256_S64x128_0_0, w⟩ : View.Piece Val S64x256 e) :: L)) (ix2 p (col 0 d)) = w (ix2 p d) := by
  refine (View.read_writes_cons_unit_of_not_mem _ _ _ _ _ _ rfl 1 (.inl ?_)).trans
    (View.read_writes_cons_unit_of_mem v f inb_S64x256_S64x128_0_0 w L (ix2 p (col 0 d)) (ix2 p d) rfl ?_)
  · show 128 * 0 + d.val < 128
    omega
  · exact Fin.forall_fin_two.2 ⟨(Nat.zero_add _).symm, (Nat.zero_add _).trans (Nat.zero_add _).symm⟩

/-- A block of rows of context whose newest piece is the second head's reads it in the second head's columns. -/
theorem halves256_hi (v : View sg κ sp S256x256 e) (f : v.ty.Contents Val) (w : S256x128.Idx → Val e) (L : List (View.Piece Val S256x256 e)) (p : Fin 256) (d : Fin 128) :
    v.read Val (v.writes Val f ((⟨Rect.unit ![0, 128] ![256, 128] inb_S256x256_S256x128_0_128, w⟩ : View.Piece Val S256x256 e) :: L)) (ix2 p (col 1 d)) = w (ix2 p d) :=
  View.read_writes_cons_unit_of_mem v f inb_S256x256_S256x128_0_128 w L (ix2 p (col 1 d)) (ix2 p d) rfl (Fin.forall_fin_two.2 ⟨(Nat.zero_add _).symm, rfl⟩)

/-- And the piece before it in the first head's. -/
theorem halves256_lo (v : View sg κ sp S256x256 e) (f : v.ty.Contents Val) (w w1 : S256x128.Idx → Val e) (L : List (View.Piece Val S256x256 e)) (p : Fin 256) (d : Fin 128) :
    v.read Val (v.writes Val f ((⟨Rect.unit ![0, 128] ![256, 128] inb_S256x256_S256x128_0_128, w1⟩ : View.Piece Val S256x256 e) ::
      (⟨Rect.unit ![0, 0] ![256, 128] inb_S256x256_S256x128_0_0, w⟩ : View.Piece Val S256x256 e) :: L)) (ix2 p (col 0 d)) = w (ix2 p d) := by
  refine (View.read_writes_cons_unit_of_not_mem _ _ _ _ _ _ rfl 1 (.inl ?_)).trans
    (View.read_writes_cons_unit_of_mem v f inb_S256x256_S256x128_0_0 w L (ix2 p (col 0 d)) (ix2 p d) rfl ?_)
  · show 128 * 0 + d.val < 128
    omega
  · exact Fin.forall_fin_two.2 ⟨(Nat.zero_add _).symm, (Nat.zero_add _).trans (Nat.zero_add _).symm⟩

/-- The sums' block reads the second head's row of sums. -/
theorem rows_hi (v : View sg κ sp S2x64x1 e) (f : v.ty.Contents Val) (w : S1x64x1.Idx → Val e) (L : List (View.Piece Val S2x64x1 e)) (p : Fin 64) :
    v.read Val (v.writes Val f ((⟨Rect.unit ![1, 0, 0] ![1, 64, 1] inb_S2x64x1_S1x64x1_1_0_0, w⟩ : View.Piece Val S2x64x1 e) :: L)) (ix3 1 p 0) = w (ix3 0 p 0) := by
  refine View.read_writes_cons_unit_of_mem v f inb_S2x64x1_S1x64x1_1_0_0 w L (ix3 1 p 0) (ix3 0 p 0) rfl ?_
  intro a; fin_cases a <;> first | rfl | exact (Nat.zero_add _).symm

/-- And the first head's. -/
theorem rows_lo (v : View sg κ sp S2x64x1 e) (f : v.ty.Contents Val) (w w1 : S1x64x1.Idx → Val e) (L : List (View.Piece Val S2x64x1 e)) (p : Fin 64) :
    v.read Val (v.writes Val f ((⟨Rect.unit ![1, 0, 0] ![1, 64, 1] inb_S2x64x1_S1x64x1_1_0_0, w1⟩ : View.Piece Val S2x64x1 e) ::
      (⟨Rect.unit ![0, 0, 0] ![1, 64, 1] inb_S2x64x1_S1x64x1_0_0_0, w⟩ : View.Piece Val S2x64x1 e) :: L)) (ix3 0 p 0) = w (ix3 0 p 0) := by
  refine (View.read_writes_cons_unit_of_not_mem _ _ _ _ _ _ rfl 0 (.inl Nat.zero_lt_one)).trans
    (View.read_writes_cons_unit_of_mem v f inb_S2x64x1_S1x64x1_0_0_0 w L (ix3 0 p 0) (ix3 0 p 0) rfl ?_)
  intro a; fin_cases a <;> first | rfl | exact (Nat.zero_add _).symm

/-- A load from a buffer, at an index. -/
theorem readAt_at {s : Shape} (v : View sg κ sp s e) (g : v.ty.Contents Val) {off off' size : Fin s.rank → ℕ}
    (inb : ∀ a, off a + size a ≤ s.size a) (ho : off = off') (x : (Rect.unit off size inb).shape.Idx) (z : s.Idx)
    (hz : ∀ a, (z a).val = off' a + (x a).val) : View.readAt Val v (Rect.unit off size inb).toLoadRect g x = v.read Val g z :=
  ld_at (v.read Val g) inb ho x z hz

/-- The first head's columns of the context's block leave the second head's. -/
theorem halves256_keep (v : View sg κ sp S256x256 e) (f : v.ty.Contents Val) (w : S256x128.Idx → Val e) (L : List (View.Piece Val S256x256 e)) (p : Fin 256) (d : Fin 128) :
    v.read Val (v.writes Val f ((⟨Rect.unit ![0, 0] ![256, 128] inb_S256x256_S256x128_0_0, w⟩ : View.Piece Val S256x256 e) :: L)) (ix2 p (col 1 d)) =
      v.read Val (v.writes Val f L) (ix2 p (col 1 d)) := by
  refine View.read_writes_cons_unit_of_not_mem _ _ _ _ _ _ rfl 1 (.inr ?_)
  show 0 + 128 ≤ 128 * 1 + d.val
  omega

/-- A whole block of rows of keys. -/
theorem whole4096 (v : View sg κ sp S4096x256 e) (f : v.ty.Contents Val) (w : S4096x256.Idx → Val e) (L : List (View.Piece Val S4096x256 e)) (y : S4096x256.Idx) :
    v.read Val (v.writes Val f ((⟨Rect.unit ![0, 0] ![4096, 256] inb_S4096x256_S4096x256_0_0, w⟩ : View.Piece Val S4096x256 e) :: L)) y = w y :=
  View.read_writes_cons_unit_of_mem v f inb_S4096x256_S4096x256_0_0 w L y y rfl (Fin.forall_fin_two.2 ⟨(Nat.zero_add _).symm, (Nat.zero_add _).symm⟩)

/-- A whole block of rows of context. -/
theorem whole256 (v : View sg κ sp S256x256 e) (f : v.ty.Contents Val) (w : S256x256.Idx → Val e) (L : List (View.Piece Val S256x256 e)) (y : S256x256.Idx) :
    v.read Val (v.writes Val f ((⟨Rect.unit ![0, 0] ![256, 256] inb_S256x256_S256x256_0_0, w⟩ : View.Piece Val S256x256 e) :: L)) y = w y :=
  View.read_writes_cons_unit_of_mem v f inb_S256x256_S256x256_0_0 w L y y rfl (Fin.forall_fin_two.2 ⟨(Nat.zero_add _).symm, (Nat.zero_add _).symm⟩)

/-- The first head's keys of row `r`. -/
theorem off1_row (i : grid1.Coords) {r : ℕ} (hi : (i 1).val = r) : k1_off1 i = ![64 * st r, 0] := by
  subst hi; exact off1_eq1 i

/-- The second head's keys of row `r`. -/
theorem off3_row (i : grid1.Coords) {r : ℕ} (hi : (i 1).val = r) : k1_off3 i = ![64 * st r, 128] := by
  subst hi; exact off3_eq1 i

section Keys
variable {o1 o3 : Fin 2 → ℕ} (i1 : ∀ a, o1 a + S512x128.size a ≤ S4096x256.size a) (i3 : ∀ a, o3 a + S512x128.size a ≤ S4096x256.size a) {r : ℕ}
  (h1 : o1 = ![64 * st r, 0]) (h3 : o3 = ![64 * st r, 128]) (v : View sg κ sp S4096x256 e) (f : v.ty.Contents Val)
  (w0 w1 : S512x128.Idx → Val e) (L : List (View.Piece Val S4096x256 e)) (d : Fin 128)

include h3 in
/-- The block of all rows of keys: the second head's piece on the point's rows. -/
theorem keys_hi (p : Fin 512) :
    v.read Val (v.writes Val f ((⟨Rect.unit o3 ![512, 128] i3, w1⟩ : View.Piece Val S4096x256 e) :: L)) (ix2 (keyRow r p) (col 1 d)) = w1 (ix2 p d) :=
  View.read_writes_cons_unit_of_mem v f i3 w1 L (ix2 (keyRow r p) (col 1 d)) (ix2 p d) h3 (Fin.forall_fin_two.2 ⟨rfl, rfl⟩)

include h1 h3 in
/-- The first head's piece on the point's rows. -/
theorem keys_lo (p : Fin 512) :
    v.read Val (v.writes Val f ((⟨Rect.unit o3 ![512, 128] i3, w1⟩ : View.Piece Val S4096x256 e) ::
      (⟨Rect.unit o1 ![512, 128] i1, w0⟩ : View.Piece Val S4096x256 e) :: L)) (ix2 (keyRow r p) (col 0 d)) = w0 (ix2 p d) := by
  refine (View.read_writes_cons_unit_of_not_mem _ _ _ _ _ _ h3 1 (.inl ?_)).trans
    (View.read_writes_cons_unit_of_mem v f i1 w0 L (ix2 (keyRow r p) (col 0 d)) (ix2 p d) h1 ?_)
  · show 128 * 0 + d.val < 128
    omega
  · exact Fin.forall_fin_two.2 ⟨rfl, rfl⟩

include h1 h3 in
/-- Elsewhere what was there. -/
theorem keys_out (hh : Fin 2) (R : Fin 4096) (hR : R.val < 64 * st r ∨ 64 * st r + 512 ≤ R.val) :
    v.read Val (v.writes Val f ((⟨Rect.unit o3 ![512, 128] i3, w1⟩ : View.Piece Val S4096x256 e) ::
      (⟨Rect.unit o1 ![512, 128] i1, w0⟩ : View.Piece Val S4096x256 e) :: L)) (ix2 R (col hh d)) = v.read Val (v.writes Val f L) (ix2 R (col hh d)) :=
  (View.read_writes_cons_unit_of_not_mem _ _ _ _ _ _ h3 0 hR).trans (View.read_writes_cons_unit_of_not_mem _ _ _ _ _ _ h1 0 hR)

include h1 in
/-- The first head's piece leaves the second head's columns. -/
theorem keys_keep (p : Fin 512) :
    v.read Val (v.writes Val f ((⟨Rect.unit o1 ![512, 128] i1, w0⟩ : View.Piece Val S4096x256 e) :: L)) (ix2 (keyRow r p) (col 1 d)) =
      v.read Val (v.writes Val f L) (ix2 (keyRow r p) (col 1 d)) := by
  refine View.read_writes_cons_unit_of_not_mem _ _ _ _ _ _ h1 1 (.inr ?_)
  show 0 + 128 ≤ 128 * 1 + d.val
  omega

end Keys

end Cert.KernelIdeal.Na

end

end
-- ==== Proof.FwdVal.lean ====
/- What the forward body leaves in its two output blocks at a grid point: the outputs of the pair's two tiles and the
logarithms of their sums. -/
module

public import proofs.«01_k».proof.Proof.Pieces
public import proofs.«01_k».proof.Proof.Fwd

@[expose] public section

set_option maxRecDepth 16384

noncomputable section

namespace Cert.KernelIdeal.Na

open Idealize.ShloMosaic Idealize.ShloMosaic.TcCoe Idealize.ShloMosaic.Tactic
open Idealize.SL Idealize.SL.RA Idealize.SL.BI
open Idealize.ShloMosaic.Pipeline (Dat Cfg Window BodyObligation cellOf)
open Cert.KernelIdeal.Gen Cert.Na

section Words
variable {F : FTy → Type} [FloatOps F]
variable (c : Dev nD) (i : grid0.Coords) (arg2 : Memref sig .tc .vmem S64x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2x14x64x128 .f32) (harg7 : arg7.IsWhole) (arg8 : Memref sig .tc .vmem S64x256 .bf16) (harg8 : arg8.IsWhole) (arg9 : Memref sig .tc .vmem S2x64x1 .f32) (harg9 : arg9.IsWhole)
  (x0 : Vec F S64x256 .bf16) (x1 : Vec F S4096x256 .bf16) (x2 : Vec F S4096x256 .bf16) (x3 : Vec F S256x256 .bf16) (x4 : Vec F S256x256 .bf16) (x5 : Vec F S2x14x64x128 .f32)

/-- The output block at head 0's columns: the head's output. -/
theorem out0_A_6_lo (p : Fin 64) (d : Fin 128) :
    out0_A_6 c i arg2 harg2 arg3 harg3 arg4 harg4 arg5 harg5 arg6 harg6 arg7 harg7 arg8 harg8 arg9 harg9 x0 x1 x2 x3 x4 x5 (ix2 p (col 0 d)) =
      hO (View.ld x0 (Rect.unit ![0, 0] S64x128.size inb_S64x256_S64x128_0_0)) (View.ld x1 (Rect.unit (k0_off1 i) S512x128.size (k0_off1_inb i))) (View.ld x2 (Rect.unit (k0_off1 i) S512x128.size (k0_off1_inb i)))
      (View.ld x3 (Rect.unit ![0, 0] S256x128.size inb_S256x256_S256x128_0_0)) (View.ld x4 (Rect.unit ![0, 0] S256x128.size inb_S256x256_S256x128_0_0))
      (View.ld x5 (Rect.unit (k0_off2 i 0#32) S1x1x64x128.size (k0_off2_inb i 0)))
      (View.ld x5 (Rect.unit (k0_off2 i 2#32) S1x1x64x128.size (k0_off2_inb i 1)))
      (View.ld x5 (Rect.unit (k0_off2 i 4#32) S1x1x64x128.size (k0_off2_inb i 2)))
      (View.ld x5 (Rect.unit (k0_off2 i 6#32) S1x1x64x128.size (k0_off2_inb i 3))) (ix2 p d) := by
  unfold out0_A_6 kernelRun0_A
  sl_unfold_run_names
  simp only [ld_unread, hO_first]
  rw [halves64_lo]

/-- The sums' block at head 0's row. -/
theorem out0_A_7_lo (p : Fin 64) :
    out0_A_7 c i arg2 harg2 arg3 harg3 arg4 harg4 arg5 harg5 arg6 harg6 arg7 harg7 arg8 harg8 arg9 harg9 x0 x1 x2 x3 x4 x5 (ix3 0 p 0) =
      hLse (View.ld x0 (Rect.unit ![0, 0] S64x128.size inb_S64x256_S64x128_0_0)) (View.ld x1 (Rect.unit (k0_off1 i) S512x128.size (k0_off1_inb i)))
      (View.ld x3 (Rect.unit ![0, 0] S256x128.size inb_S256x256_S256x128_0_0))
      (View.ld x5 (Rect.unit (k0_off2 i 0#32) S1x1x64x128.size (k0_off2_inb i 0)))
      (View.ld x5 (Rect.unit (k0_off2 i 2#32) S1x1x64x128.size (k0_off2_inb i 1)))
      (View.ld x5 (Rect.unit (k0_off2 i 4#32) S1x1x64x128.size (k0_off2_inb i 2)))
      (View.ld x5 (Rect.unit (k0_off2 i 6#32) S1x1x64x128.size (k0_off2_inb i 3))) (ix3 0 p 0) := by
  unfold out0_A_7 kernelRun0_A
  sl_unfold_run_names
  simp only [ld_unread, hLse_first]
  rw [rows_lo]

/-- The output block at head 1's columns: the head's output. -/
theorem out0_A_6_hi (p : Fin 64) (d : Fin 128) :
    out0_A_6 c i arg2 harg2 arg3 harg3 arg4 harg4 arg5 harg5 arg6 harg6 arg7 harg7 arg8 harg8 arg9 harg9 x0 x1 x2 x3 x4 x5 (ix2 p (col 1 d)) =
      hO (View.ld x0 (Rect.unit ![0, 128] S64x128.size inb_S64x256_S64x128_0_128)) (View.ld x1 (Rect.unit (k0_off3 i) S512x128.size (k0_off3_inb i))) (View.ld x2 (Rect.unit (k0_off3 i) S512x128.size (k0_off3_inb i)))
      (View.ld x3 (Rect.unit ![0, 128] S256x128.size inb_S256x256_S256x128_0_128)) (View.ld x4 (Rect.unit ![0, 128] S256x128.size inb_S256x256_S256x128_0_128))
      (View.ld x5 (Rect.unit (k0_off4 i 0#32) S1x1x64x128.size (k0_off4_inb i 0)))
      (View.ld x5 (Rect.unit (k0_off4 i 2#32) S1x1x64x128.size (k0_off4_inb i 1)))
      (View.ld x5 (Rect.unit (k0_off4 i 4#32) S1x1x64x128.size (k0_off4_inb i 2)))
      (View.ld x5 (Rect.unit (k0_off4 i 6#32) S1x1x64x128.size (k0_off4_inb i 3))) (ix2 p d) := by
  unfold out0_A_6 kernelRun0_A
  sl_unfold_run_names
  simp only [ld_unread, hO_first]
  rw [halves64_hi]
  rfl

/-- The sums' block at head 1's row. -/
theorem out0_A_7_hi (p : Fin 64) :
    out0_A_7 c i arg2 harg2 arg3 harg3 arg4 harg4 arg5 harg5 arg6 harg6 arg7 harg7 arg8 harg8 arg9 harg9 x0 x1 x2 x3 x4 x5 (ix3 1 p 0) =
      hLse (View.ld x0 (Rect.unit ![0, 128] S64x128.size inb_S64x256_S64x128_0_128)) (View.ld x1 (Rect.unit (k0_off3 i) S512x128.size (k0_off3_inb i)))
      (View.ld x3 (Rect.unit ![0, 128] S256x128.size inb_S256x256_S256x128_0_128))
      (View.ld x5 (Rect.unit (k0_off4 i 0#32) S1x1x64x128.size (k0_off4_inb i 0)))
      (View.ld x5 (Rect.unit (k0_off4 i 2#32) S1x1x64x128.size (k0_off4_inb i 1)))
      (View.ld x5 (Rect.unit (k0_off4 i 4#32) S1x1x64x128.size (k0_off4_inb i 2)))
      (View.ld x5 (Rect.unit (k0_off4 i 6#32) S1x1x64x128.size (k0_off4_inb i 3))) (ix3 0 p 0) := by
  unfold out0_A_7 kernelRun0_A
  sl_unfold_run_names
  simp only [ld_unread, hLse_first]
  rw [rows_hi]
  rfl

end Words

section Point
variable (c : Dev nD) (i : grid0.Coords) (arg2 : Memref sig .tc .vmem S64x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2x14x64x128 .f32) (harg7 : arg7.IsWhole) (arg8 : Memref sig .tc .vmem S64x256 .bf16) (harg8 : arg8.IsWhole) (arg9 : Memref sig .tc .vmem S2x64x1 .f32) (harg9 : arg9.IsWhole)
  (x0 : Vec Ideal S64x256 .bf16) (x1 : Vec Ideal S4096x256 .bf16) (x2 : Vec Ideal S4096x256 .bf16) (x3 : Vec Ideal S256x256 .bf16) (x4 : Vec Ideal S256x256 .bf16) (x5 : Vec Ideal S2x14x64x128 .f32)
variable {T : Fin 2 → Tile} {r : ℕ}

/-- The output block of a point whose blocks hold two tiles holds the tiles' outputs. -/
theorem out0_A_6_at (hi : (i 1).val = r) (B : Blocks T r x0 x1 x2 x3 x4 x5) (p : Fin 64) (d : Fin 128) (hh : Fin 2) :
    out0_A_6 c i arg2 harg2 arg3 harg3 arg4 harg4 arg5 harg5 arg6 harg6 arg7 harg7 arg8 harg8 arg9 harg9 x0 x1 x2 x3 x4 x5 (ix2 p (col hh d)) = (((T hh).o p d : ℝ) : EReal) := by
  match hh with
  | 0 => exact (out0_A_6_lo c i arg2 harg2 arg3 harg3 arg4 harg4 arg5 harg5 arg6 harg6 arg7 harg7 arg8 harg8 arg9 harg9 x0 x1 x2 x3 x4 x5 p d).trans (hO_at (loads B 0 _ _ _ _ _ _ _ rfl ((off1_eq0 i).trans (by rw [hi]; rfl)) rfl ((off2_eq0_0 i).trans (by rw [hi]; rfl)) ((off2_eq0_1 i).trans (by rw [hi]; rfl)) ((off2_eq0_2 i).trans (by rw [hi]; rfl)) ((off2_eq0_3 i).trans (by rw [hi]; rfl))) p d)
  | 1 => exact (out0_A_6_hi c i arg2 harg2 arg3 harg3 arg4 harg4 arg5 harg5 arg6 harg6 arg7 harg7 arg8 harg8 arg9 harg9 x0 x1 x2 x3 x4 x5 p d).trans (hO_at (loads B 1 _ _ _ _ _ _ _ rfl ((off3_eq0 i).trans (by rw [hi]; rfl)) rfl ((off4_eq0_0 i).trans (by rw [hi]; rfl)) ((off4_eq0_1 i).trans (by rw [hi]; rfl)) ((off4_eq0_2 i).trans (by rw [hi]; rfl)) ((off4_eq0_3 i).trans (by rw [hi]; rfl))) p d)

/-- And the other block holds the logarithms of their sums. -/
theorem out0_A_7_at (hi : (i 1).val = r) (B : Blocks T r x0 x1 x2 x3 x4 x5) (p : Fin 64) (hh : Fin 2) :
    out0_A_7 c i arg2 harg2 arg3 harg3 arg4 harg4 arg5 harg5 arg6 harg6 arg7 harg7 arg8 harg8 arg9 harg9 x0 x1 x2 x3 x4 x5 (ix3 hh p 0) = ((Real.log ((T hh).Z p) : ℝ) : EReal) := by
  match hh with
  | 0 => exact (out0_A_7_lo c i arg2 harg2 arg3 harg3 arg4 harg4 arg5 harg5 arg6 harg6 arg7 harg7 arg8 harg8 arg9 harg9 x0 x1 x2 x3 x4 x5 p).trans (hLse_at (loads B 0 _ _ _ _ _ _ _ rfl ((off1_eq0 i).trans (by rw [hi]; rfl)) rfl ((off2_eq0_0 i).trans (by rw [hi]; rfl)) ((off2_eq0_1 i).trans (by rw [hi]; rfl)) ((off2_eq0_2 i).trans (by rw [hi]; rfl)) ((off2_eq0_3 i).trans (by rw [hi]; rfl))) p)
  | 1 => exact (out0_A_7_hi c i arg2 harg2 arg3 harg3 arg4 harg4 arg5 harg5 arg6 harg6 arg7 harg7 arg8 harg8 arg9 harg9 x0 x1 x2 x3 x4 x5 p).trans (hLse_at (loads B 1 _ _ _ _ _ _ _ rfl ((off3_eq0 i).trans (by rw [hi]; rfl)) rfl ((off4_eq0_0 i).trans (by rw [hi]; rfl)) ((off4_eq0_1 i).trans (by rw [hi]; rfl)) ((off4_eq0_2 i).trans (by rw [hi]; rfl)) ((off4_eq0_3 i).trans (by rw [hi]; rfl))) p)

end Point

end Cert.KernelIdeal.Na

end

end
-- ==== Proof.Arr0.lean ====
/- The blocks the forward kernel's windows hold at a grid point, at coordinates of the arrays they are of. -/
module

public import proofs.«01_k».proof.Proof.FwdVal
public import Idealize.ShloMosaic.Lib.Pipeline.ValueKit

@[expose] public section

set_option maxRecDepth 16384

noncomputable section

namespace Cert.KernelIdeal.Na

open Idealize.ShloMosaic Idealize.ShloMosaic.TcCoe Idealize.ShloMosaic.Tactic
open Idealize.SL Idealize.SL.RA Idealize.SL.BI
open Idealize.ShloMosaic.Pipeline (Dat Cfg Window BodyObligation cellOf)
open Cert.KernelIdeal.Gen Cert.Na

/-- What the arrays of the calls hold of the arguments. -/
structure Holds (a : Args) (A0 : Vec Ideal S4096x3072 .bf16) (A1 : Vec Ideal S256x2048 .bf16) (b : Vec Ideal S8x14x64x128 .f32)
    (A3 : Vec Ideal S4096x2048 .bf16) : Prop where
  h0 : ∀ R e, A0 (ix2 R e) = ((a.A R.val e.val : ℝ) : EReal)
  h1 : ∀ j e, A1 (ix2 j e) = ((a.C j.val e.val : ℝ) : EReal)
  hb : ∀ h t q l, b (ix4 h t q l) = masked (decide (cs q.val ≤ l.val % 64) && decide (l.val % 64 < cs q.val + 16))
    (a.P h.val (t.val + l.val / 64) (min (l.val % 64 + 15 - q.val) 30))
  h3 : ∀ R e, A3 (ix2 R e) = ((a.G R.val e.val : ℝ) : EReal)

/-- A column of a block is its head's column. -/
theorem eq_col (e : Fin 256) : e = col ⟨e.val / 128, by omega⟩ ⟨e.val % 128, by omega⟩ :=
  Fin.ext (Nat.div_add_mod _ _).symm

/-- A row and a column of an array by head, row of the grid, position in the row and column of the head. -/
theorem by_head {α : Type} (f : ℕ → ℕ → Fin 64 → Fin 128 → α) (h r : ℕ) (p : Fin 64) (d : Fin 128) {R e : ℕ} (hR : R = 64 * r + p.val)
    (he : e = 128 * h + d.val) :
    f (e / 128) (R / 64) ⟨R % 64, Nat.mod_lt _ (by decide)⟩ ⟨e % 128, Nat.mod_lt _ (by decide)⟩ = f h r p d := by
  have h1 : e / 128 = h := by omega
  have h2 : R / 64 = r := by omega
  have h3 : (⟨R % 64, Nat.mod_lt _ (by decide)⟩ : Fin 64) = p := Fin.ext (by show R % 64 = p.val; omega)
  have h4 : (⟨e % 128, Nat.mod_lt _ (by decide)⟩ : Fin 128) = d := Fin.ext (by show e % 128 = d.val; omega)
  rw [h1, h2, h3, h4]

theorem by_head' {α : Type} (f : ℕ → Fin 128 → α) (h : ℕ) (d : Fin 128) {e : ℕ} (he : e = 128 * h + d.val) :
    f (e / 128) ⟨e % 128, Nat.mod_lt _ (by decide)⟩ = f h d := by
  have h1 : e / 128 = h := by omega
  have h4 : (⟨e % 128, Nat.mod_lt _ (by decide)⟩ : Fin 128) = d := Fin.ext (by show e % 128 = d.val; omega)
  rw [h1, h4]

theorem eq_ix2 {n m : ℕ} (y : (⟨2, ![n, m]⟩ : Shape).Idx) : y = ix2 (y 0) (y 1) := by
  funext k; fin_cases k <;> rfl

theorem coord0_0 (t : Fin cfg0.N) : (grid0.coords t 0).val = t.val / 64 % 4 := Pipeline.Grid.coords_val t 0 (by decide) rfl

theorem coord0_1 (t : Fin cfg0.N) : (grid0.coords t 1).val = t.val % 64 :=
  (Pipeline.Grid.coords_val t 1 (S := 1) (B := 64) (by decide) rfl).trans (by rw [Nat.div_one])

theorem lt0 (t : Fin cfg0.N) : t.val < 256 := lt_of_lt_of_eq t.isLt (show cfg0.N = 256 from N_0)

theorem index0_0 : ∀ t : Fin cfg0.N, win0_0.index t = ![t.val % 64, t.val / 64] := (by decide +kernel : ∀ t : Fin grid0.N, _)
theorem index0_1 : ∀ t : Fin cfg0.N, win0_1.index t = ![0, 4 + t.val / 64] := (by decide +kernel : ∀ t : Fin grid0.N, _)
theorem index0_2 : ∀ t : Fin cfg0.N, win0_2.index t = ![0, 8 + t.val / 64] := (by decide +kernel : ∀ t : Fin grid0.N, _)
theorem index0_3 : ∀ t : Fin cfg0.N, win0_3.index t = ![0, t.val / 64] := (by decide +kernel : ∀ t : Fin grid0.N, _)
theorem index0_4 : ∀ t : Fin cfg0.N, win0_4.index t = ![0, 4 + t.val / 64] := (by decide +kernel : ∀ t : Fin grid0.N, _)
theorem index0_5 : ∀ t : Fin cfg0.N, win0_5.index t = ![t.val / 64, 0, 0, 0] := (by decide +kernel : ∀ t : Fin grid0.N, _)
theorem index0_6 : ∀ t : Fin cfg0.N, win0_6.index t = ![t.val % 64, t.val / 64] := (by decide +kernel : ∀ t : Fin grid0.N, _)
theorem index0_7 : ∀ t : Fin cfg0.N, win0_7.index t = ![t.val / 64, t.val % 64, 0] := (by decide +kernel : ∀ t : Fin grid0.N, _)

section Reads
variable {F : FTy → Type} [FloatOps F]
variable (V : (c : Dev nD) → (b : Ref sig .tc) → Buf (Elt F) ((c : Thread nD τ).loc b))

theorem iblk0_0_at (c : Dev nD) (t : Fin cfg0.N) (p : Fin 64) (e : Fin 256) :
    iblk0 V c 0 t (ix2 p e) = V c main_arg0 (ix2 ⟨64 * (t.val % 64) + p.val, by omega⟩ ⟨256 * (t.val / 64) + e.val, by have := lt0 t; omega⟩) := by
  blk_simp [iblk0]
  congr 1
  blk_ext [index0_0]

theorem iblk0_1_at (c : Dev nD) (t : Fin cfg0.N) (p : Fin 4096) (e : Fin 256) :
    iblk0 V c 1 t (ix2 p e) = V c main_arg0 (ix2 p ⟨1024 + 256 * (t.val / 64) + e.val, by have := lt0 t; omega⟩) := by
  blk_simp [iblk0]
  congr 1
  blk_ext [index0_1]

theorem iblk0_2_at (c : Dev nD) (t : Fin cfg0.N) (p : Fin 4096) (e : Fin 256) :
    iblk0 V c 2 t (ix2 p e) = V c main_arg0 (ix2 p ⟨2048 + 256 * (t.val / 64) + e.val, by have := lt0 t; omega⟩) := by
  blk_simp [iblk0]
  congr 1
  blk_ext [index0_2]

theorem iblk0_3_at (c : Dev nD) (t : Fin cfg0.N) (p : Fin 256) (e : Fin 256) :
    iblk0 V c 3 t (ix2 p e) = V c main_arg1 (ix2 p ⟨256 * (t.val / 64) + e.val, by have := lt0 t; omega⟩) := by
  blk_simp [iblk0]
  congr 1
  blk_ext [index0_3]

theorem iblk0_4_at (c : Dev nD) (t : Fin cfg0.N) (p : Fin 256) (e : Fin 256) :
    iblk0 V c 4 t (ix2 p e) = V c main_arg1 (ix2 p ⟨1024 + 256 * (t.val / 64) + e.val, by have := lt0 t; omega⟩) := by
  blk_simp [iblk0]
  congr 1
  blk_ext [index0_4]

theorem iblk0_5_at (c : Dev nD) (t : Fin cfg0.N) (h : Fin 2) (s : Fin 14) (q : Fin 64) (l : Fin 128) :
    iblk0 V c 5 t (ix4 h s q l) = V c main_v38 (ix4 ⟨2 * (t.val / 64) + h.val, by have := lt0 t; omega⟩ s q l) := by
  blk_simp [iblk0]
  congr 1
  blk_ext [index0_5]

end Reads

section Args
variable (V : (c : Dev nD) → (b : Ref sig .tc) → Buf (Elt Ideal) ((c : Thread nD τ).loc b)) (c : Dev nD) (a : Args)

/-- The blocks of a point hold the arguments of its two tiles. -/
theorem blocks0 (H : Holds a (V c main_arg0) (V c main_arg1) (V c main_v38) (V c main_arg3)) (t : Fin cfg0.N) :
    Blocks (fun hh => a.tile (2 * (t.val / 64) + hh.val) (t.val % 64)) (t.val % 64) (iblk0 V c 0 t) (iblk0 V c 1 t) (iblk0 V c 2 t)
      (iblk0 V c 3 t) (iblk0 V c 4 t) (iblk0 V c 5 t) where
  hq hh p d := by
    refine (iblk0_0_at V c t p _).trans ((H.h0 _ _).trans (congrArg (fun x : ℝ => (x : EReal)) ?_))
    exact congrArg (a.A _) (show 256 * (t.val / 64) + (128 * hh.val + d.val) = 128 * (2 * (t.val / 64) + hh.val) + d.val by omega)
  hk hh p d := by
    refine (iblk0_1_at V c t _ _).trans ((H.h0 _ _).trans (congrArg (fun x : ℝ => (x : EReal)) ?_))
    exact congrArg (a.A _) (show 1024 + 256 * (t.val / 64) + (128 * hh.val + d.val) = 1024 + 128 * (2 * (t.val / 64) + hh.val) + d.val by omega)
  hv hh p d := by
    refine (iblk0_2_at V c t _ _).trans ((H.h0 _ _).trans (congrArg (fun x : ℝ => (x : EReal)) ?_))
    exact congrArg (a.A _) (show 2048 + 256 * (t.val / 64) + (128 * hh.val + d.val) = 2048 + 128 * (2 * (t.val / 64) + hh.val) + d.val by omega)
  hkc hh p d := by
    refine (iblk0_3_at V c t _ _).trans ((H.h1 _ _).trans (congrArg (fun x : ℝ => (x : EReal)) ?_))
    exact congrArg (a.C _) (show 256 * (t.val / 64) + (128 * hh.val + d.val) = 128 * (2 * (t.val / 64) + hh.val) + d.val by omega)
  hvc hh p d := by
    refine (iblk0_4_at V c t _ _).trans ((H.h1 _ _).trans (congrArg (fun x : ℝ => (x : EReal)) ?_))
    exact congrArg (a.C _) (show 1024 + 256 * (t.val / 64) + (128 * hh.val + d.val) = 1024 + 128 * (2 * (t.val / 64) + hh.val) + d.val by omega)
  hb hh q κ j l e := by
    refine (iblk0_5_at V c t _ _ _ _).trans ((H.hb _ _ _ _).trans ?_)
    have e1 : l.val % 64 = κ.val % 64 := by omega
    have e2 : off (t.val % 64) + 2 * j.val + l.val / 64 = st (t.val % 64) + κ.val / 64 + 7 - t.val % 64 := by unfold off st; omega
    show masked (decide (cs q.val ≤ l.val % 64) && decide (l.val % 64 < cs q.val + 16))
      (a.P (2 * (t.val / 64) + hh.val) (off (t.val % 64) + 2 * j.val + l.val / 64) (min (l.val % 64 + 15 - q.val) 30)) = _
    rw [e1, e2]
    rfl

/-- The two outputs of a point. -/
theorem outsAt0_o (H : Holds a (V c main_arg0) (V c main_arg1) (V c main_v38) (V c main_arg3)) (t : Fin cfg0.N) (hh : Fin 2) (p : Fin 64) (d : Fin 128) :
    (outsAt0 V c t).1 (ix2 p (col hh d)) = ((a.o (2 * (t.val / 64) + hh.val) (t.val % 64) p d : ℝ) : EReal) :=
  out0_A_6_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) (iblk0 V c 5 t) (coord0_1 t) (blocks0 V c a H t) p d hh

theorem outsAt0_lse (H : Holds a (V c main_arg0) (V c main_arg1) (V c main_v38) (V c main_arg3)) (t : Fin cfg0.N) (hh : Fin 2) (p : Fin 64) :
    (outsAt0 V c t).2 (ix3 hh p 0) = ((Real.log ((a.tile (2 * (t.val / 64) + hh.val) (t.val % 64)).Z p) : ℝ) : EReal) :=
  out0_A_7_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) (iblk0 V c 5 t) (coord0_1 t) (blocks0 V c a H t) p hh

/-- The array of outputs the forward call leaves. -/
theorem arr0_6 (H : Holds a (V c main_arg0) (V c main_arg1) (V c main_v38) (V c main_arg3)) :
    (dat0 V c).arrAt 6 cfg0.N = fun i => ((a.oAt (i 0).val (i 1).val : ℝ) : EReal) := by
  refine (dat0 V c).arrAt_eq_of_covers 6 _ (by decide +kernel) fun t hf y => ?_
  blk_simp [index0_6]
  rw [after0_6, eq_ix2 y, eq_col (y 1)]
  refine (outsAt0_o V c a H t _ _ _).trans (congrArg (fun x : ℝ => (x : EReal)) (by_head a.o _ _ _ _ ?_ ?_).symm)
  · show t.val % 64 * 64 + (y 0).val = 64 * (t.val % 64) + (y 0).val
    omega
  · show t.val / 64 * 256 + (128 * ((y 1).val / 128) + (y 1).val % 128) = 128 * (2 * (t.val / 64) + (y 1).val / 128) + (y 1).val % 128
    omega

/-- And the array of logarithms of sums. -/
theorem arr0_7 (H : Holds a (V c main_arg0) (V c main_arg1) (V c main_v38) (V c main_arg3)) :
    (dat0 V c).arrAt 7 cfg0.N = fun i => ((a.lseAt (i 0).val (i 1).val : ℝ) : EReal) := by
  refine (dat0 V c).arrAt_eq_of_covers 7 _ (by decide +kernel) fun t hf y => ?_
  blk_simp [index0_7]
  have ey : y = ix3 (y 0) (y 1) 0 := by
    funext k; fin_cases k
    · rfl
    · rfl
    · exact Fin.ext (Nat.lt_one_iff.1 (y 2).isLt)
  rw [after0_7, ey]
  refine (outsAt0_lse V c a H t _ _).trans (congrArg (fun x : ℝ => (x : EReal)) ?_)
  have h1 : t.val / 64 * 2 + (y 0).val = 2 * (t.val / 64) + (y 0).val := by omega
  have l1 : (y 1).val < 64 := (y 1).isLt
  have h2 : (t.val % 64 * 64 + (y 1).val) / 64 = t.val % 64 := by omega
  have h3 : (⟨(t.val % 64 * 64 + (y 1).val) % 64, Nat.mod_lt _ (by decide)⟩ : Fin 64) = y 1 := Fin.ext (by show (t.val % 64 * 64 + (y 1).val) % 64 = (y 1).val; omega)
  show _ = Real.log ((a.tile (t.val / 64 * 2 + (y 0).val) ((t.val % 64 * 64 + (y 1).val) / 64)).Z ⟨(t.val % 64 * 64 + (y 1).val) % 64, Nat.mod_lt _ (by decide)⟩)
  rw [h1, h2, h3]

end Args

end Cert.KernelIdeal.Na

end

end
-- ==== Proof.BwdAVal.lean ====
/- What the backward body leaves in its output blocks at a grid point that opens a pair of heads: the queries' gradients of the
pair's two tiles, and the other gradients' parts added to zero. -/
module

public import proofs.«01_k».proof.Proof.Pieces
public import proofs.«01_k».proof.Proof.Bwd
public import proofs.«01_k».proof.Proof.Head

@[expose] public section

set_option maxRecDepth 16384

noncomputable section

namespace Cert.KernelIdeal.Na

open Idealize.ShloMosaic Idealize.ShloMosaic.TcCoe Idealize.ShloMosaic.Tactic
open Idealize.SL Idealize.SL.RA Idealize.SL.BI
open Idealize.ShloMosaic.Pipeline (Dat Cfg Window BodyObligation cellOf)
open Cert.KernelIdeal.Gen Cert.Na

section Words
variable {F : FTy → Type} [FloatOps F]
variable (c : Dev nD) (i : grid1.Coords) (arg2 : Memref sig .tc .vmem S64x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2x14x64x128 .f32) (harg7 : arg7.IsWhole) (arg8 : Memref sig .tc .vmem S64x256 .bf16) (harg8 : arg8.IsWhole) (arg9 : Memref sig .tc .vmem S2x64x1 .f32) (harg9 : arg9.IsWhole) (arg10 : Memref sig .tc .vmem S64x256 .bf16) (harg10 : arg10.IsWhole) (arg11 : Memref sig .tc .vmem S64x256 .bf16) (harg11 : arg11.IsWhole) (arg12 : Memref sig .tc .vmem S4096x256 .f32) (harg12 : arg12.IsWhole) (arg13 : Memref sig .tc .vmem S4096x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S2x14x64x128 .f32) (harg16 : arg16.IsWhole) (hc0 : cond1_0 i)
  (x0 : Vec F S64x256 .bf16) (x1 : Vec F S4096x256 .bf16) (x2 : Vec F S4096x256 .bf16) (x3 : Vec F S256x256 .bf16) (x4 : Vec F S256x256 .bf16) (x5 : Vec F S2x14x64x128 .f32) (x6 : Vec F S64x256 .bf16) (x7 : Vec F S2x64x1 .f32) (x8 : Vec F S64x256 .bf16)
variable {r : ℕ} (hi : (i 1).val = r)

/-- The queries' gradient, head 0. -/
theorem dq_A_lo (p : Fin 64) (d : Fin 128) : out1_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 p (col 0 d)) =
    hDq (View.ld x0 (Rect.unit ![0, 0] S64x128.size inb_S64x256_S64x128_0_0)) (View.ld x1 (Rect.unit (k1_off1 i) S512x128.size (k1_off1_inb i))) (View.ld x2 (Rect.unit (k1_off1 i) S512x128.size (k1_off1_inb i))) (View.ld x3 (Rect.unit ![0, 0] S256x128.size inb_S256x256_S256x128_0_0)) (View.ld x4 (Rect.unit ![0, 0] S256x128.size inb_S256x256_S256x128_0_0))
      (View.ld x5 (Rect.unit (k1_off2 i 0#32) S1x1x64x128.size (k1_off2_inb i 0))) (View.ld x5 (Rect.unit (k1_off2 i 2#32) S1x1x64x128.size (k1_off2_inb i 1))) (View.ld x5 (Rect.unit (k1_off2 i 4#32) S1x1x64x128.size (k1_off2_inb i 2))) (View.ld x5 (Rect.unit (k1_off2 i 6#32) S1x1x64x128.size (k1_off2_inb i 3)))
      (View.ld x6 (Rect.unit ![0, 0] S64x128.size inb_S64x256_S64x128_0_0)) (View.ld x7 (Rect.unit ![0, 0, 0] S1x64x1.size inb_S2x64x1_S1x64x1_0_0_0)) (View.ld x8 (Rect.unit ![0, 0] S64x128.size inb_S64x256_S64x128_0_0)) (ix2 p d) := by
  unfold out1_A_9 kernelRun1_A
  sl_unfold_run_names
  simp only [ld_unread, hDq_first, hDk_first, hDv_first, hDkc_first, hDvc_first]
  rw [halves64_lo]

include hi in
/-- The window's keys' gradient, head 0, on the point's rows. -/
theorem dk_A_lo (p : Fin 512) (d : Fin 128) : ∃ acc : Vec F S512x128 .f32,
    acc (ix2 p d) = k1_pay3 (ix2 (keyRow r p) (col 0 d)) ∧
    out1_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 (keyRow r p) (col 0 d)) =
      hDk (View.ld x0 (Rect.unit ![0, 0] S64x128.size inb_S64x256_S64x128_0_0)) (View.ld x1 (Rect.unit (k1_off1 i) S512x128.size (k1_off1_inb i))) (View.ld x2 (Rect.unit (k1_off1 i) S512x128.size (k1_off1_inb i))) (View.ld x5 (Rect.unit (k1_off2 i 0#32) S1x1x64x128.size (k1_off2_inb i 0))) (View.ld x5 (Rect.unit (k1_off2 i 2#32) S1x1x64x128.size (k1_off2_inb i 1))) (View.ld x5 (Rect.unit (k1_off2 i 4#32) S1x1x64x128.size (k1_off2_inb i 2))) (View.ld x5 (Rect.unit (k1_off2 i 6#32) S1x1x64x128.size (k1_off2_inb i 3))) (View.ld x6 (Rect.unit ![0, 0] S64x128.size inb_S64x256_S64x128_0_0)) (View.ld x7 (Rect.unit ![0, 0, 0] S1x64x1.size inb_S2x64x1_S1x64x1_0_0_0)) (View.ld x8 (Rect.unit ![0, 0] S64x128.size inb_S64x256_S64x128_0_0)) acc (ix2 p d) := by
  unfold out1_A_10 kernelRun1_A
  sl_unfold_run_names
  simp only [ld_unread, hDq_first, hDk_first, hDv_first, hDkc_first, hDvc_first]
  rw [keys_lo (r := r) _ _ (off1_row i hi) (off3_row i hi)]
  exact ⟨_, (readAt_at _ _ _ (off1_row i hi) (ix2 p d) (ix2 (keyRow r p) (col 0 d)) (Fin.forall_fin_two.2 ⟨rfl, rfl⟩)).trans (whole4096 _ _ _ _ _), rfl⟩

include hi in
/-- The window's values' gradient, head 0, on the point's rows. -/
theorem dv_A_lo (p : Fin 512) (d : Fin 128) : ∃ acc : Vec F S512x128 .f32,
    acc (ix2 p d) = k1_pay4 (ix2 (keyRow r p) (col 0 d)) ∧
    out1_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 (keyRow r p) (col 0 d)) =
      hDv (View.ld x0 (Rect.unit ![0, 0] S64x128.size inb_S64x256_S64x128_0_0)) (View.ld x1 (Rect.unit (k1_off1 i) S512x128.size (k1_off1_inb i))) (View.ld x5 (Rect.unit (k1_off2 i 0#32) S1x1x64x128.size (k1_off2_inb i 0))) (View.ld x5 (Rect.unit (k1_off2 i 2#32) S1x1x64x128.size (k1_off2_inb i 1))) (View.ld x5 (Rect.unit (k1_off2 i 4#32) S1x1x64x128.size (k1_off2_inb i 2))) (View.ld x5 (Rect.unit (k1_off2 i 6#32) S1x1x64x128.size (k1_off2_inb i 3))) (View.ld x7 (Rect.unit ![0, 0, 0] S1x64x1.size inb_S2x64x1_S1x64x1_0_0_0)) (View.ld x8 (Rect.unit ![0, 0] S64x128.size inb_S64x256_S64x128_0_0)) acc (ix2 p d) := by
  unfold out1_A_11 kernelRun1_A
  sl_unfold_run_names
  simp only [ld_unread, hDq_first, hDk_first, hDv_first, hDkc_first, hDvc_first]
  rw [keys_lo (r := r) _ _ (off1_row i hi) (off3_row i hi)]
  exact ⟨_, (readAt_at _ _ _ (off1_row i hi) (ix2 p d) (ix2 (keyRow r p) (col 0 d)) (Fin.forall_fin_two.2 ⟨rfl, rfl⟩)).trans (whole4096 _ _ _ _ _), rfl⟩

/-- The context's keys' gradient, head 0. -/
theorem dkc_A_lo (p : Fin 256) (d : Fin 128) : ∃ acc : Vec F S256x128 .f32,
    acc (ix2 p d) = k1_pay5 (ix2 p (col 0 d)) ∧
    out1_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 p (col 0 d)) =
      hDkc (View.ld x0 (Rect.unit ![0, 0] S64x128.size inb_S64x256_S64x128_0_0)) (View.ld x3 (Rect.unit ![0, 0] S256x128.size inb_S256x256_S256x128_0_0)) (View.ld x4 (Rect.unit ![0, 0] S256x128.size inb_S256x256_S256x128_0_0)) (View.ld x6 (Rect.unit ![0, 0] S64x128.size inb_S64x256_S64x128_0_0)) (View.ld x7 (Rect.unit ![0, 0, 0] S1x64x1.size inb_S2x64x1_S1x64x1_0_0_0)) (View.ld x8 (Rect.unit ![0, 0] S64x128.size inb_S64x256_S64x128_0_0)) acc (ix2 p d) := by
  unfold out1_A_12 kernelRun1_A
  sl_unfold_run_names
  simp only [ld_unread, hDq_first, hDk_first, hDv_first, hDkc_first, hDvc_first]
  rw [halves256_lo]
  exact ⟨_, (readAt_at _ _ _ rfl (ix2 p d) (ix2 p (col 0 d)) (Fin.forall_fin_two.2 ⟨(Nat.zero_add _).symm, rfl⟩)).trans (whole256 _ _ _ _ _), rfl⟩

/-- The context's values' gradient, head 0. -/
theorem dvc_A_lo (p : Fin 256) (d : Fin 128) : ∃ acc : Vec F S256x128 .f32,
    acc (ix2 p d) = k1_pay6 (ix2 p (col 0 d)) ∧
    out1_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 p (col 0 d)) =
      hDvc (View.ld x0 (Rect.unit ![0, 0] S64x128.size inb_S64x256_S64x128_0_0)) (View.ld x3 (Rect.unit ![0, 0] S256x128.size inb_S256x256_S256x128_0_0)) (View.ld x7 (Rect.unit ![0, 0, 0] S1x64x1.size inb_S2x64x1_S1x64x1_0_0_0)) (View.ld x8 (Rect.unit ![0, 0] S64x128.size inb_S64x256_S64x128_0_0)) acc (ix2 p d) := by
  unfold out1_A_13 kernelRun1_A
  sl_unfold_run_names
  simp only [ld_unread, hDq_first, hDk_first, hDv_first, hDkc_first, hDvc_first]
  rw [halves256_lo]
  exact ⟨_, (readAt_at _ _ _ rfl (ix2 p d) (ix2 p (col 0 d)) (Fin.forall_fin_two.2 ⟨(Nat.zero_add _).symm, rfl⟩)).trans (whole256 _ _ _ _ _), rfl⟩

/-- The queries' gradient, head 1. -/
theorem dq_A_hi (p : Fin 64) (d : Fin 128) : out1_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 p (col 1 d)) =
    hDq (View.ld x0 (Rect.unit ![0, 128] S64x128.size inb_S64x256_S64x128_0_128)) (View.ld x1 (Rect.unit (k1_off3 i) S512x128.size (k1_off3_inb i))) (View.ld x2 (Rect.unit (k1_off3 i) S512x128.size (k1_off3_inb i))) (View.ld x3 (Rect.unit ![0, 128] S256x128.size inb_S256x256_S256x128_0_128)) (View.ld x4 (Rect.unit ![0, 128] S256x128.size inb_S256x256_S256x128_0_128))
      (View.ld x5 (Rect.unit (k1_off4 i 0#32) S1x1x64x128.size (k1_off4_inb i 0))) (View.ld x5 (Rect.unit (k1_off4 i 2#32) S1x1x64x128.size (k1_off4_inb i 1))) (View.ld x5 (Rect.unit (k1_off4 i 4#32) S1x1x64x128.size (k1_off4_inb i 2))) (View.ld x5 (Rect.unit (k1_off4 i 6#32) S1x1x64x128.size (k1_off4_inb i 3)))
      (View.ld x6 (Rect.unit ![0, 128] S64x128.size inb_S64x256_S64x128_0_128)) (View.ld x7 (Rect.unit ![1, 0, 0] S1x64x1.size inb_S2x64x1_S1x64x1_1_0_0)) (View.ld x8 (Rect.unit ![0, 128] S64x128.size inb_S64x256_S64x128_0_128)) (ix2 p d) := by
  unfold out1_A_9 kernelRun1_A
  sl_unfold_run_names
  simp only [ld_unread, hDq_first, hDk_first, hDv_first, hDkc_first, hDvc_first]
  rw [halves64_hi]
  rfl

include hi in
/-- The window's keys' gradient, head 1, on the point's rows. -/
theorem dk_A_hi (p : Fin 512) (d : Fin 128) : ∃ acc : Vec F S512x128 .f32,
    acc (ix2 p d) = k1_pay3 (ix2 (keyRow r p) (col 1 d)) ∧
    out1_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 (keyRow r p) (col 1 d)) =
      hDk (View.ld x0 (Rect.unit ![0, 128] S64x128.size inb_S64x256_S64x128_0_128)) (View.ld x1 (Rect.unit (k1_off3 i) S512x128.size (k1_off3_inb i))) (View.ld x2 (Rect.unit (k1_off3 i) S512x128.size (k1_off3_inb i))) (View.ld x5 (Rect.unit (k1_off4 i 0#32) S1x1x64x128.size (k1_off4_inb i 0))) (View.ld x5 (Rect.unit (k1_off4 i 2#32) S1x1x64x128.size (k1_off4_inb i 1))) (View.ld x5 (Rect.unit (k1_off4 i 4#32) S1x1x64x128.size (k1_off4_inb i 2))) (View.ld x5 (Rect.unit (k1_off4 i 6#32) S1x1x64x128.size (k1_off4_inb i 3))) (View.ld x6 (Rect.unit ![0, 128] S64x128.size inb_S64x256_S64x128_0_128)) (View.ld x7 (Rect.unit ![1, 0, 0] S1x64x1.size inb_S2x64x1_S1x64x1_1_0_0)) (View.ld x8 (Rect.unit ![0, 128] S64x128.size inb_S64x256_S64x128_0_128)) acc (ix2 p d) := by
  unfold out1_A_10 kernelRun1_A
  sl_unfold_run_names
  simp only [ld_unread, hDq_first, hDk_first, hDv_first, hDkc_first, hDvc_first]
  rw [keys_hi (r := r) _ (off3_row i hi)]
  exact ⟨_, (readAt_at _ _ _ (off3_row i hi) (ix2 p d) (ix2 (keyRow r p) (col 1 d)) (Fin.forall_fin_two.2 ⟨rfl, rfl⟩)).trans ((keys_keep _ (off1_row i hi) _ _ _ _ _ _).trans (whole4096 _ _ _ _ _)), rfl⟩

include hi in
/-- The window's values' gradient, head 1, on the point's rows. -/
theorem dv_A_hi (p : Fin 512) (d : Fin 128) : ∃ acc : Vec F S512x128 .f32,
    acc (ix2 p d) = k1_pay4 (ix2 (keyRow r p) (col 1 d)) ∧
    out1_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 (keyRow r p) (col 1 d)) =
      hDv (View.ld x0 (Rect.unit ![0, 128] S64x128.size inb_S64x256_S64x128_0_128)) (View.ld x1 (Rect.unit (k1_off3 i) S512x128.size (k1_off3_inb i))) (View.ld x5 (Rect.unit (k1_off4 i 0#32) S1x1x64x128.size (k1_off4_inb i 0))) (View.ld x5 (Rect.unit (k1_off4 i 2#32) S1x1x64x128.size (k1_off4_inb i 1))) (View.ld x5 (Rect.unit (k1_off4 i 4#32) S1x1x64x128.size (k1_off4_inb i 2))) (View.ld x5 (Rect.unit (k1_off4 i 6#32) S1x1x64x128.size (k1_off4_inb i 3))) (View.ld x7 (Rect.unit ![1, 0, 0] S1x64x1.size inb_S2x64x1_S1x64x1_1_0_0)) (View.ld x8 (Rect.unit ![0, 128] S64x128.size inb_S64x256_S64x128_0_128)) acc (ix2 p d) := by
  unfold out1_A_11 kernelRun1_A
  sl_unfold_run_names
  simp only [ld_unread, hDq_first, hDk_first, hDv_first, hDkc_first, hDvc_first]
  rw [keys_hi (r := r) _ (off3_row i hi)]
  exact ⟨_, (readAt_at _ _ _ (off3_row i hi) (ix2 p d) (ix2 (keyRow r p) (col 1 d)) (Fin.forall_fin_two.2 ⟨rfl, rfl⟩)).trans ((keys_keep _ (off1_row i hi) _ _ _ _ _ _).trans (whole4096 _ _ _ _ _)), rfl⟩

/-- The context's keys' gradient, head 1. -/
theorem dkc_A_hi (p : Fin 256) (d : Fin 128) : ∃ acc : Vec F S256x128 .f32,
    acc (ix2 p d) = k1_pay5 (ix2 p (col 1 d)) ∧
    out1_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 p (col 1 d)) =
      hDkc (View.ld x0 (Rect.unit ![0, 128] S64x128.size inb_S64x256_S64x128_0_128)) (View.ld x3 (Rect.unit ![0, 128] S256x128.size inb_S256x256_S256x128_0_128)) (View.ld x4 (Rect.unit ![0, 128] S256x128.size inb_S256x256_S256x128_0_128)) (View.ld x6 (Rect.unit ![0, 128] S64x128.size inb_S64x256_S64x128_0_128)) (View.ld x7 (Rect.unit ![1, 0, 0] S1x64x1.size inb_S2x64x1_S1x64x1_1_0_0)) (View.ld x8 (Rect.unit ![0, 128] S64x128.size inb_S64x256_S64x128_0_128)) acc (ix2 p d) := by
  unfold out1_A_12 kernelRun1_A
  sl_unfold_run_names
  simp only [ld_unread, hDq_first, hDk_first, hDv_first, hDkc_first, hDvc_first]
  rw [halves256_hi]
  exact ⟨_, (readAt_at _ _ _ rfl (ix2 p d) (ix2 p (col 1 d)) (Fin.forall_fin_two.2 ⟨(Nat.zero_add _).symm, rfl⟩)).trans ((halves256_keep _ _ _ _ _ _).trans (whole256 _ _ _ _ _)), rfl⟩

/-- The context's values' gradient, head 1. -/
theorem dvc_A_hi (p : Fin 256) (d : Fin 128) : ∃ acc : Vec F S256x128 .f32,
    acc (ix2 p d) = k1_pay6 (ix2 p (col 1 d)) ∧
    out1_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 p (col 1 d)) =
      hDvc (View.ld x0 (Rect.unit ![0, 128] S64x128.size inb_S64x256_S64x128_0_128)) (View.ld x3 (Rect.unit ![0, 128] S256x128.size inb_S256x256_S256x128_0_128)) (View.ld x7 (Rect.unit ![1, 0, 0] S1x64x1.size inb_S2x64x1_S1x64x1_1_0_0)) (View.ld x8 (Rect.unit ![0, 128] S64x128.size inb_S64x256_S64x128_0_128)) acc (ix2 p d) := by
  unfold out1_A_13 kernelRun1_A
  sl_unfold_run_names
  simp only [ld_unread, hDq_first, hDk_first, hDv_first, hDkc_first, hDvc_first]
  rw [halves256_hi]
  exact ⟨_, (readAt_at _ _ _ rfl (ix2 p d) (ix2 p (col 1 d)) (Fin.forall_fin_two.2 ⟨(Nat.zero_add _).symm, rfl⟩)).trans ((halves256_keep _ _ _ _ _ _).trans (whole256 _ _ _ _ _)), rfl⟩

include hi in
/-- Off the point's rows the window's keys' gradient is as it was. -/
theorem dk_A_out (hh : Fin 2) (R : Fin 4096) (d : Fin 128) (hR : R.val < 64 * st r ∨ 64 * st r + 512 ≤ R.val) :
    out1_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 R (col hh d)) = k1_pay3 (ix2 R (col hh d)) := by
  unfold out1_A_10 kernelRun1_A
  sl_unfold_run_names
  simp only [ld_unread, hDq_first, hDk_first, hDv_first, hDkc_first, hDvc_first]
  exact (keys_out _ _ (off1_row i hi) (off3_row i hi) _ _ _ _ _ _ hh R hR).trans (whole4096 _ _ _ _ _)

include hi in
/-- Off the point's rows the window's values' gradient is as it was. -/
theorem dv_A_out (hh : Fin 2) (R : Fin 4096) (d : Fin 128) (hR : R.val < 64 * st r ∨ 64 * st r + 512 ≤ R.val) :
    out1_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 R (col hh d)) = k1_pay4 (ix2 R (col hh d)) := by
  unfold out1_A_11 kernelRun1_A
  sl_unfold_run_names
  simp only [ld_unread, hDq_first, hDk_first, hDv_first, hDkc_first, hDvc_first]
  exact (keys_out _ _ (off1_row i hi) (off3_row i hi) _ _ _ _ _ _ hh R hR).trans (whole4096 _ _ _ _ _)

end Words

end Cert.KernelIdeal.Na

end

end
-- ==== Proof.BwdBVal.lean ====
/- What the backward body leaves in its output blocks at a grid point that does not open a pair of heads: the queries' gradients of the
pair's two tiles, and the other gradients' parts added to what the point before left. -/
module

public import proofs.«01_k».proof.Proof.Pieces
public import proofs.«01_k».proof.Proof.Bwd
public import proofs.«01_k».proof.Proof.Head

@[expose] public section

set_option maxRecDepth 16384

noncomputable section

namespace Cert.KernelIdeal.Na

open Idealize.ShloMosaic Idealize.ShloMosaic.TcCoe Idealize.ShloMosaic.Tactic
open Idealize.SL Idealize.SL.RA Idealize.SL.BI
open Idealize.ShloMosaic.Pipeline (Dat Cfg Window BodyObligation cellOf)
open Cert.KernelIdeal.Gen Cert.Na

section Words
variable {F : FTy → Type} [FloatOps F]
variable (c : Dev nD) (i : grid1.Coords) (arg2 : Memref sig .tc .vmem S64x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2x14x64x128 .f32) (harg7 : arg7.IsWhole) (arg8 : Memref sig .tc .vmem S64x256 .bf16) (harg8 : arg8.IsWhole) (arg9 : Memref sig .tc .vmem S2x64x1 .f32) (harg9 : arg9.IsWhole) (arg10 : Memref sig .tc .vmem S64x256 .bf16) (harg10 : arg10.IsWhole) (arg11 : Memref sig .tc .vmem S64x256 .bf16) (harg11 : arg11.IsWhole) (arg12 : Memref sig .tc .vmem S4096x256 .f32) (harg12 : arg12.IsWhole) (arg13 : Memref sig .tc .vmem S4096x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S2x14x64x128 .f32) (harg16 : arg16.IsWhole) (hc0 : ¬cond1_0 i)
  (x0 : Vec F S64x256 .bf16) (x1 : Vec F S4096x256 .bf16) (x2 : Vec F S4096x256 .bf16) (x3 : Vec F S256x256 .bf16) (x4 : Vec F S256x256 .bf16) (x5 : Vec F S2x14x64x128 .f32) (x6 : Vec F S64x256 .bf16) (x7 : Vec F S2x64x1 .f32) (x8 : Vec F S64x256 .bf16) (xo10 : Vec F S4096x256 .f32) (xo11 : Vec F S4096x256 .f32) (xo12 : Vec F S256x256 .f32) (xo13 : Vec F S256x256 .f32) (xo14 : Vec F S2x14x64x128 .f32)
variable {r : ℕ} (hi : (i 1).val = r)

/-- The queries' gradient, head 0. -/
theorem dq_B_lo (p : Fin 64) (d : Fin 128) : out1_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 (ix2 p (col 0 d)) =
    hDq (View.ld x0 (Rect.unit ![0, 0] S64x128.size inb_S64x256_S64x128_0_0)) (View.ld x1 (Rect.unit (k1_off1 i) S512x128.size (k1_off1_inb i))) (View.ld x2 (Rect.unit (k1_off1 i) S512x128.size (k1_off1_inb i))) (View.ld x3 (Rect.unit ![0, 0] S256x128.size inb_S256x256_S256x128_0_0)) (View.ld x4 (Rect.unit ![0, 0] S256x128.size inb_S256x256_S256x128_0_0))
      (View.ld x5 (Rect.unit (k1_off2 i 0#32) S1x1x64x128.size (k1_off2_inb i 0))) (View.ld x5 (Rect.unit (k1_off2 i 2#32) S1x1x64x128.size (k1_off2_inb i 1))) (View.ld x5 (Rect.unit (k1_off2 i 4#32) S1x1x64x128.size (k1_off2_inb i 2))) (View.ld x5 (Rect.unit (k1_off2 i 6#32) S1x1x64x128.size (k1_off2_inb i 3)))
      (View.ld x6 (Rect.unit ![0, 0] S64x128.size inb_S64x256_S64x128_0_0)) (View.ld x7 (Rect.unit ![0, 0, 0] S1x64x1.size inb_S2x64x1_S1x64x1_0_0_0)) (View.ld x8 (Rect.unit ![0, 0] S64x128.size inb_S64x256_S64x128_0_0)) (ix2 p d) := by
  unfold out1_B_9 kernelRun1_B
  sl_unfold_run_names
  simp only [ld_unread, hDq_first, hDk_first, hDv_first, hDkc_first, hDvc_first]
  rw [halves64_lo]

include hi in
/-- The window's keys' gradient, head 0, on the point's rows. -/
theorem dk_B_lo (p : Fin 512) (d : Fin 128) : ∃ acc : Vec F S512x128 .f32,
    acc (ix2 p d) = xo10 (ix2 (keyRow r p) (col 0 d)) ∧
    out1_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 (ix2 (keyRow r p) (col 0 d)) =
      hDk (View.ld x0 (Rect.unit ![0, 0] S64x128.size inb_S64x256_S64x128_0_0)) (View.ld x1 (Rect.unit (k1_off1 i) S512x128.size (k1_off1_inb i))) (View.ld x2 (Rect.unit (k1_off1 i) S512x128.size (k1_off1_inb i))) (View.ld x5 (Rect.unit (k1_off2 i 0#32) S1x1x64x128.size (k1_off2_inb i 0))) (View.ld x5 (Rect.unit (k1_off2 i 2#32) S1x1x64x128.size (k1_off2_inb i 1))) (View.ld x5 (Rect.unit (k1_off2 i 4#32) S1x1x64x128.size (k1_off2_inb i 2))) (View.ld x5 (Rect.unit (k1_off2 i 6#32) S1x1x64x128.size (k1_off2_inb i 3))) (View.ld x6 (Rect.unit ![0, 0] S64x128.size inb_S64x256_S64x128_0_0)) (View.ld x7 (Rect.unit ![0, 0, 0] S1x64x1.size inb_S2x64x1_S1x64x1_0_0_0)) (View.ld x8 (Rect.unit ![0, 0] S64x128.size inb_S64x256_S64x128_0_0)) acc (ix2 p d) := by
  unfold out1_B_10 kernelRun1_B
  sl_unfold_run_names
  simp only [ld_unread, hDq_first, hDk_first, hDv_first, hDkc_first, hDvc_first]
  rw [keys_lo (r := r) _ _ (off1_row i hi) (off3_row i hi)]
  exact ⟨_, ld_at _ _ (off1_row i hi) (ix2 p d) (ix2 (keyRow r p) (col 0 d)) (Fin.forall_fin_two.2 ⟨rfl, rfl⟩), rfl⟩

include hi in
/-- The window's values' gradient, head 0, on the point's rows. -/
theorem dv_B_lo (p : Fin 512) (d : Fin 128) : ∃ acc : Vec F S512x128 .f32,
    acc (ix2 p d) = xo11 (ix2 (keyRow r p) (col 0 d)) ∧
    out1_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 (ix2 (keyRow r p) (col 0 d)) =
      hDv (View.ld x0 (Rect.unit ![0, 0] S64x128.size inb_S64x256_S64x128_0_0)) (View.ld x1 (Rect.unit (k1_off1 i) S512x128.size (k1_off1_inb i))) (View.ld x5 (Rect.unit (k1_off2 i 0#32) S1x1x64x128.size (k1_off2_inb i 0))) (View.ld x5 (Rect.unit (k1_off2 i 2#32) S1x1x64x128.size (k1_off2_inb i 1))) (View.ld x5 (Rect.unit (k1_off2 i 4#32) S1x1x64x128.size (k1_off2_inb i 2))) (View.ld x5 (Rect.unit (k1_off2 i 6#32) S1x1x64x128.size (k1_off2_inb i 3))) (View.ld x7 (Rect.unit ![0, 0, 0] S1x64x1.size inb_S2x64x1_S1x64x1_0_0_0)) (View.ld x8 (Rect.unit ![0, 0] S64x128.size inb_S64x256_S64x128_0_0)) acc (ix2 p d) := by
  unfold out1_B_11 kernelRun1_B
  sl_unfold_run_names
  simp only [ld_unread, hDq_first, hDk_first, hDv_first, hDkc_first, hDvc_first]
  rw [keys_lo (r := r) _ _ (off1_row i hi) (off3_row i hi)]
  exact ⟨_, ld_at _ _ (off1_row i hi) (ix2 p d) (ix2 (keyRow r p) (col 0 d)) (Fin.forall_fin_two.2 ⟨rfl, rfl⟩), rfl⟩

/-- The context's keys' gradient, head 0. -/
theorem dkc_B_lo (p : Fin 256) (d : Fin 128) : ∃ acc : Vec F S256x128 .f32,
    acc (ix2 p d) = xo12 (ix2 p (col 0 d)) ∧
    out1_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 (ix2 p (col 0 d)) =
      hDkc (View.ld x0 (Rect.unit ![0, 0] S64x128.size inb_S64x256_S64x128_0_0)) (View.ld x3 (Rect.unit ![0, 0] S256x128.size inb_S256x256_S256x128_0_0)) (View.ld x4 (Rect.unit ![0, 0] S256x128.size inb_S256x256_S256x128_0_0)) (View.ld x6 (Rect.unit ![0, 0] S64x128.size inb_S64x256_S64x128_0_0)) (View.ld x7 (Rect.unit ![0, 0, 0] S1x64x1.size inb_S2x64x1_S1x64x1_0_0_0)) (View.ld x8 (Rect.unit ![0, 0] S64x128.size inb_S64x256_S64x128_0_0)) acc (ix2 p d) := by
  unfold out1_B_12 kernelRun1_B
  sl_unfold_run_names
  simp only [ld_unread, hDq_first, hDk_first, hDv_first, hDkc_first, hDvc_first]
  rw [halves256_lo]
  exact ⟨_, ld_at _ _ rfl (ix2 p d) (ix2 p (col 0 d)) (Fin.forall_fin_two.2 ⟨(Nat.zero_add _).symm, rfl⟩), rfl⟩

/-- The context's values' gradient, head 0. -/
theorem dvc_B_lo (p : Fin 256) (d : Fin 128) : ∃ acc : Vec F S256x128 .f32,
    acc (ix2 p d) = xo13 (ix2 p (col 0 d)) ∧
    out1_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 (ix2 p (col 0 d)) =
      hDvc (View.ld x0 (Rect.unit ![0, 0] S64x128.size inb_S64x256_S64x128_0_0)) (View.ld x3 (Rect.unit ![0, 0] S256x128.size inb_S256x256_S256x128_0_0)) (View.ld x7 (Rect.unit ![0, 0, 0] S1x64x1.size inb_S2x64x1_S1x64x1_0_0_0)) (View.ld x8 (Rect.unit ![0, 0] S64x128.size inb_S64x256_S64x128_0_0)) acc (ix2 p d) := by
  unfold out1_B_13 kernelRun1_B
  sl_unfold_run_names
  simp only [ld_unread, hDq_first, hDk_first, hDv_first, hDkc_first, hDvc_first]
  rw [halves256_lo]
  exact ⟨_, ld_at _ _ rfl (ix2 p d) (ix2 p (col 0 d)) (Fin.forall_fin_two.2 ⟨(Nat.zero_add _).symm, rfl⟩), rfl⟩

/-- The queries' gradient, head 1. -/
theorem dq_B_hi (p : Fin 64) (d : Fin 128) : out1_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 (ix2 p (col 1 d)) =
    hDq (View.ld x0 (Rect.unit ![0, 128] S64x128.size inb_S64x256_S64x128_0_128)) (View.ld x1 (Rect.unit (k1_off3 i) S512x128.size (k1_off3_inb i))) (View.ld x2 (Rect.unit (k1_off3 i) S512x128.size (k1_off3_inb i))) (View.ld x3 (Rect.unit ![0, 128] S256x128.size inb_S256x256_S256x128_0_128)) (View.ld x4 (Rect.unit ![0, 128] S256x128.size inb_S256x256_S256x128_0_128))
      (View.ld x5 (Rect.unit (k1_off4 i 0#32) S1x1x64x128.size (k1_off4_inb i 0))) (View.ld x5 (Rect.unit (k1_off4 i 2#32) S1x1x64x128.size (k1_off4_inb i 1))) (View.ld x5 (Rect.unit (k1_off4 i 4#32) S1x1x64x128.size (k1_off4_inb i 2))) (View.ld x5 (Rect.unit (k1_off4 i 6#32) S1x1x64x128.size (k1_off4_inb i 3)))
      (View.ld x6 (Rect.unit ![0, 128] S64x128.size inb_S64x256_S64x128_0_128)) (View.ld x7 (Rect.unit ![1, 0, 0] S1x64x1.size inb_S2x64x1_S1x64x1_1_0_0)) (View.ld x8 (Rect.unit ![0, 128] S64x128.size inb_S64x256_S64x128_0_128)) (ix2 p d) := by
  unfold out1_B_9 kernelRun1_B
  sl_unfold_run_names
  simp only [ld_unread, hDq_first, hDk_first, hDv_first, hDkc_first, hDvc_first]
  rw [halves64_hi]
  rfl

include hi in
/-- The window's keys' gradient, head 1, on the point's rows. -/
theorem dk_B_hi (p : Fin 512) (d : Fin 128) : ∃ acc : Vec F S512x128 .f32,
    acc (ix2 p d) = xo10 (ix2 (keyRow r p) (col 1 d)) ∧
    out1_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 (ix2 (keyRow r p) (col 1 d)) =
      hDk (View.ld x0 (Rect.unit ![0, 128] S64x128.size inb_S64x256_S64x128_0_128)) (View.ld x1 (Rect.unit (k1_off3 i) S512x128.size (k1_off3_inb i))) (View.ld x2 (Rect.unit (k1_off3 i) S512x128.size (k1_off3_inb i))) (View.ld x5 (Rect.unit (k1_off4 i 0#32) S1x1x64x128.size (k1_off4_inb i 0))) (View.ld x5 (Rect.unit (k1_off4 i 2#32) S1x1x64x128.size (k1_off4_inb i 1))) (View.ld x5 (Rect.unit (k1_off4 i 4#32) S1x1x64x128.size (k1_off4_inb i 2))) (View.ld x5 (Rect.unit (k1_off4 i 6#32) S1x1x64x128.size (k1_off4_inb i 3))) (View.ld x6 (Rect.unit ![0, 128] S64x128.size inb_S64x256_S64x128_0_128)) (View.ld x7 (Rect.unit ![1, 0, 0] S1x64x1.size inb_S2x64x1_S1x64x1_1_0_0)) (View.ld x8 (Rect.unit ![0, 128] S64x128.size inb_S64x256_S64x128_0_128)) acc (ix2 p d) := by
  unfold out1_B_10 kernelRun1_B
  sl_unfold_run_names
  simp only [ld_unread, hDq_first, hDk_first, hDv_first, hDkc_first, hDvc_first]
  rw [keys_hi (r := r) _ (off3_row i hi)]
  exact ⟨_, ld_at _ _ (off3_row i hi) (ix2 p d) (ix2 (keyRow r p) (col 1 d)) (Fin.forall_fin_two.2 ⟨rfl, rfl⟩), rfl⟩

include hi in
/-- The window's values' gradient, head 1, on the point's rows. -/
theorem dv_B_hi (p : Fin 512) (d : Fin 128) : ∃ acc : Vec F S512x128 .f32,
    acc (ix2 p d) = xo11 (ix2 (keyRow r p) (col 1 d)) ∧
    out1_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 (ix2 (keyRow r p) (col 1 d)) =
      hDv (View.ld x0 (Rect.unit ![0, 128] S64x128.size inb_S64x256_S64x128_0_128)) (View.ld x1 (Rect.unit (k1_off3 i) S512x128.size (k1_off3_inb i))) (View.ld x5 (Rect.unit (k1_off4 i 0#32) S1x1x64x128.size (k1_off4_inb i 0))) (View.ld x5 (Rect.unit (k1_off4 i 2#32) S1x1x64x128.size (k1_off4_inb i 1))) (View.ld x5 (Rect.unit (k1_off4 i 4#32) S1x1x64x128.size (k1_off4_inb i 2))) (View.ld x5 (Rect.unit (k1_off4 i 6#32) S1x1x64x128.size (k1_off4_inb i 3))) (View.ld x7 (Rect.unit ![1, 0, 0] S1x64x1.size inb_S2x64x1_S1x64x1_1_0_0)) (View.ld x8 (Rect.unit ![0, 128] S64x128.size inb_S64x256_S64x128_0_128)) acc (ix2 p d) := by
  unfold out1_B_11 kernelRun1_B
  sl_unfold_run_names
  simp only [ld_unread, hDq_first, hDk_first, hDv_first, hDkc_first, hDvc_first]
  rw [keys_hi (r := r) _ (off3_row i hi)]
  exact ⟨_, ld_at _ _ (off3_row i hi) (ix2 p d) (ix2 (keyRow r p) (col 1 d)) (Fin.forall_fin_two.2 ⟨rfl, rfl⟩), rfl⟩

/-- The context's keys' gradient, head 1. -/
theorem dkc_B_hi (p : Fin 256) (d : Fin 128) : ∃ acc : Vec F S256x128 .f32,
    acc (ix2 p d) = xo12 (ix2 p (col 1 d)) ∧
    out1_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 (ix2 p (col 1 d)) =
      hDkc (View.ld x0 (Rect.unit ![0, 128] S64x128.size inb_S64x256_S64x128_0_128)) (View.ld x3 (Rect.unit ![0, 128] S256x128.size inb_S256x256_S256x128_0_128)) (View.ld x4 (Rect.unit ![0, 128] S256x128.size inb_S256x256_S256x128_0_128)) (View.ld x6 (Rect.unit ![0, 128] S64x128.size inb_S64x256_S64x128_0_128)) (View.ld x7 (Rect.unit ![1, 0, 0] S1x64x1.size inb_S2x64x1_S1x64x1_1_0_0)) (View.ld x8 (Rect.unit ![0, 128] S64x128.size inb_S64x256_S64x128_0_128)) acc (ix2 p d) := by
  unfold out1_B_12 kernelRun1_B
  sl_unfold_run_names
  simp only [ld_unread, hDq_first, hDk_first, hDv_first, hDkc_first, hDvc_first]
  rw [halves256_hi]
  exact ⟨_, ld_at _ _ rfl (ix2 p d) (ix2 p (col 1 d)) (Fin.forall_fin_two.2 ⟨(Nat.zero_add _).symm, rfl⟩), rfl⟩

/-- The context's values' gradient, head 1. -/
theorem dvc_B_hi (p : Fin 256) (d : Fin 128) : ∃ acc : Vec F S256x128 .f32,
    acc (ix2 p d) = xo13 (ix2 p (col 1 d)) ∧
    out1_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 (ix2 p (col 1 d)) =
      hDvc (View.ld x0 (Rect.unit ![0, 128] S64x128.size inb_S64x256_S64x128_0_128)) (View.ld x3 (Rect.unit ![0, 128] S256x128.size inb_S256x256_S256x128_0_128)) (View.ld x7 (Rect.unit ![1, 0, 0] S1x64x1.size inb_S2x64x1_S1x64x1_1_0_0)) (View.ld x8 (Rect.unit ![0, 128] S64x128.size inb_S64x256_S64x128_0_128)) acc (ix2 p d) := by
  unfold out1_B_13 kernelRun1_B
  sl_unfold_run_names
  simp only [ld_unread, hDq_first, hDk_first, hDv_first, hDkc_first, hDvc_first]
  rw [halves256_hi]
  exact ⟨_, ld_at _ _ rfl (ix2 p d) (ix2 p (col 1 d)) (Fin.forall_fin_two.2 ⟨(Nat.zero_add _).symm, rfl⟩), rfl⟩

include hi in
/-- Off the point's rows the window's keys' gradient is as it was. -/
theorem dk_B_out (hh : Fin 2) (R : Fin 4096) (d : Fin 128) (hR : R.val < 64 * st r ∨ 64 * st r + 512 ≤ R.val) :
    out1_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 (ix2 R (col hh d)) = xo10 (ix2 R (col hh d)) := by
  unfold out1_B_10 kernelRun1_B
  sl_unfold_run_names
  simp only [ld_unread, hDq_first, hDk_first, hDv_first, hDkc_first, hDvc_first]
  exact (keys_out _ _ (off1_row i hi) (off3_row i hi) _ _ _ _ _ _ hh R hR).trans (congrFun (harg12.read_unread xo10) _)

include hi in
/-- Off the point's rows the window's values' gradient is as it was. -/
theorem dv_B_out (hh : Fin 2) (R : Fin 4096) (d : Fin 128) (hR : R.val < 64 * st r ∨ 64 * st r + 512 ≤ R.val) :
    out1_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 (ix2 R (col hh d)) = xo11 (ix2 R (col hh d)) := by
  unfold out1_B_11 kernelRun1_B
  sl_unfold_run_names
  simp only [ld_unread, hDq_first, hDk_first, hDv_first, hDkc_first, hDvc_first]
  exact (keys_out _ _ (off1_row i hi) (off3_row i hi) _ _ _ _ _ _ hh R hR).trans (congrFun (harg13.read_unread xo11) _)

end Words

end Cert.KernelIdeal.Na

end

end
-- ==== Proof.BwdPt.lean ====
/- The backward body's output blocks over the arguments: the queries' gradients of a point's two tiles, and the sums of the other
gradients over the rows of a pair of heads up to the point. -/
module

public import proofs.«01_k».proof.Proof.BwdAVal
public import proofs.«01_k».proof.Proof.BwdBVal

@[expose] public section

set_option maxRecDepth 16384

noncomputable section

namespace Cert.KernelIdeal.Na

open Idealize.ShloMosaic Idealize.ShloMosaic.TcCoe Idealize.ShloMosaic.Tactic
open Idealize.SL Idealize.SL.RA Idealize.SL.BI
open Idealize.ShloMosaic.Pipeline (Dat Cfg Window BodyObligation cellOf)
open Cert.KernelIdeal.Gen Cert.Na

/-- The other blocks of a point: the outputs and the logarithms of the sums that the forward call left, and the cotangents. -/
structure Outs (T : Fin 2 → Tile) (x6 : Vec Ideal S64x256 .bf16) (x7 : Vec Ideal S2x64x1 .f32) (x8 : Vec Ideal S64x256 .bf16) : Prop where
  ho : ∀ hh c d, x6 (ix2 c (col hh d)) = (((T hh).o c d : ℝ) : EReal)
  hl : ∀ hh c, x7 (ix3 hh c 0) = ((Real.log ((T hh).Z c) : ℝ) : EReal)
  hg : ∀ hh c d, x8 (ix2 c (col hh d)) = (((T hh).g c d : ℝ) : EReal)

section Loads
variable {T : Fin 2 → Tile} {x6 : Vec Ideal S64x256 .bf16} {x7 : Vec Ideal S2x64x1 .f32} {x8 : Vec Ideal S64x256 .bf16}

theorem Outs.ldo (O : Outs T x6 x7 x8) (hh : Fin 2) {o0 : Fin 2 → ℕ} (i0 : ∀ a, o0 a + (![64, 128] : Fin 2 → ℕ) a ≤ S64x256.size a)
    (h0 : o0 = ![0, 128 * hh.val]) (c : Fin 64) (d : Fin 128) : View.ld x6 (Rect.unit o0 ![64, 128] i0) (ix2 c d) = (((T hh).o c d : ℝ) : EReal) :=
  (ld_at x6 i0 h0 (ix2 c d) (ix2 c (col hh d)) (Fin.forall_fin_two.2 ⟨(Nat.zero_add _).symm, rfl⟩)).trans (O.ho hh c d)

theorem Outs.ldg (O : Outs T x6 x7 x8) (hh : Fin 2) {o0 : Fin 2 → ℕ} (i0 : ∀ a, o0 a + (![64, 128] : Fin 2 → ℕ) a ≤ S64x256.size a)
    (h0 : o0 = ![0, 128 * hh.val]) (c : Fin 64) (d : Fin 128) : View.ld x8 (Rect.unit o0 ![64, 128] i0) (ix2 c d) = (((T hh).g c d : ℝ) : EReal) :=
  (ld_at x8 i0 h0 (ix2 c d) (ix2 c (col hh d)) (Fin.forall_fin_two.2 ⟨(Nat.zero_add _).symm, rfl⟩)).trans (O.hg hh c d)

theorem Outs.ldl (O : Outs T x6 x7 x8) (hh : Fin 2) {o0 : Fin 3 → ℕ} (i0 : ∀ a, o0 a + (![1, 64, 1] : Fin 3 → ℕ) a ≤ S2x64x1.size a)
    (h0 : o0 = ![hh.val, 0, 0]) (c : Fin 64) : View.ld x7 (Rect.unit o0 ![1, 64, 1] i0) (ix3 0 c 0) = ((Real.log ((T hh).Z c) : ℝ) : EReal) :=
  (ld_at x7 i0 h0 (ix3 0 c 0) (ix3 hh c 0) (by intro a; fin_cases a <;> first | rfl | exact (Nat.zero_add _).symm)).trans (O.hl hh c)

end Loads

/-! The offsets of the loads, by row. -/

theorem off2_row0 (i : grid1.Coords) {r : ℕ} (hi : (i 1).val = r) : k1_off2 i 0#32 = ![0, off r + 0, 0, 0] := by
  subst hi; exact off2_eq1_0 i

theorem off2_row1 (i : grid1.Coords) {r : ℕ} (hi : (i 1).val = r) : k1_off2 i 2#32 = ![0, off r + 2, 0, 0] := by
  subst hi; exact off2_eq1_1 i

theorem off2_row2 (i : grid1.Coords) {r : ℕ} (hi : (i 1).val = r) : k1_off2 i 4#32 = ![0, off r + 4, 0, 0] := by
  subst hi; exact off2_eq1_2 i

theorem off2_row3 (i : grid1.Coords) {r : ℕ} (hi : (i 1).val = r) : k1_off2 i 6#32 = ![0, off r + 6, 0, 0] := by
  subst hi; exact off2_eq1_3 i

theorem off4_row0 (i : grid1.Coords) {r : ℕ} (hi : (i 1).val = r) : k1_off4 i 0#32 = ![1, off r + 0, 0, 0] := by
  subst hi; exact off4_eq1_0 i

theorem off4_row1 (i : grid1.Coords) {r : ℕ} (hi : (i 1).val = r) : k1_off4 i 2#32 = ![1, off r + 2, 0, 0] := by
  subst hi; exact off4_eq1_1 i

theorem off4_row2 (i : grid1.Coords) {r : ℕ} (hi : (i 1).val = r) : k1_off4 i 4#32 = ![1, off r + 4, 0, 0] := by
  subst hi; exact off4_eq1_2 i

theorem off4_row3 (i : grid1.Coords) {r : ℕ} (hi : (i 1).val = r) : k1_off4 i 6#32 = ![1, off r + 6, 0, 0] := by
  subst hi; exact off4_eq1_3 i

theorem zero3 (y : S4096x256.Idx) : k1_pay3 (F := Ideal) y = (0 : EReal) := by
  pointwise [k1_pay3]
theorem zero4 (y : S4096x256.Idx) : k1_pay4 (F := Ideal) y = (0 : EReal) := by
  pointwise [k1_pay4]
theorem zero5 (y : S256x256.Idx) : k1_pay5 (F := Ideal) y = (0 : EReal) := by
  pointwise [k1_pay5]
theorem zero6 (y : S256x256.Idx) : k1_pay6 (F := Ideal) y = (0 : EReal) := by
  pointwise [k1_pay6]

theorem dkAt_in (a : Args) (h r : ℕ) (p : Fin 512) (d : Fin 128) : a.dkAt h r (keyRow r p).val d = (a.tile h r).dk p d :=
  (dif_pos ⟨Nat.le_add_right _ _, Nat.add_lt_add_left p.isLt _⟩).trans (congrArg (fun x => (a.tile h r).dk x d) (Fin.ext (Nat.add_sub_cancel_left _ _)))

theorem dvAt_in (a : Args) (h r : ℕ) (p : Fin 512) (d : Fin 128) : a.dvAt h r (keyRow r p).val d = (a.tile h r).dv p d :=
  (dif_pos ⟨Nat.le_add_right _ _, Nat.add_lt_add_left p.isLt _⟩).trans (congrArg (fun x => (a.tile h r).dv x d) (Fin.ext (Nat.add_sub_cancel_left _ _)))

theorem dkAt_out (a : Args) (h r : ℕ) (R : Fin 4096) (d : Fin 128) (hR : R.val < 64 * st r ∨ 64 * st r + 512 ≤ R.val) : a.dkAt h r R.val d = 0 :=
  dif_neg (by omega)

theorem dvAt_out (a : Args) (h r : ℕ) (R : Fin 4096) (d : Fin 128) (hR : R.val < 64 * st r ∨ 64 * st r + 512 ≤ R.val) : a.dvAt h r R.val d = 0 :=
  dif_neg (by omega)

/-- A row of keys is one of the point's or off them. -/
theorem row_cases (r : ℕ) (R : Fin 4096) : (∃ p : Fin 512, R = keyRow r p) ∨ (R.val < 64 * st r ∨ 64 * st r + 512 ≤ R.val) := by
  by_cases h : R.val < 64 * st r ∨ 64 * st r + 512 ≤ R.val
  · exact .inr h
  · refine .inl ⟨⟨R.val - 64 * st r, by omega⟩, Fin.ext ?_⟩
    show R.val = 64 * st r + (R.val - 64 * st r)
    omega

section PointA

variable (c : Dev nD) (i : grid1.Coords) (arg2 : Memref sig .tc .vmem S64x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2x14x64x128 .f32) (harg7 : arg7.IsWhole) (arg8 : Memref sig .tc .vmem S64x256 .bf16) (harg8 : arg8.IsWhole) (arg9 : Memref sig .tc .vmem S2x64x1 .f32) (harg9 : arg9.IsWhole) (arg10 : Memref sig .tc .vmem S64x256 .bf16) (harg10 : arg10.IsWhole) (arg11 : Memref sig .tc .vmem S64x256 .bf16) (harg11 : arg11.IsWhole) (arg12 : Memref sig .tc .vmem S4096x256 .f32) (harg12 : arg12.IsWhole) (arg13 : Memref sig .tc .vmem S4096x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S2x14x64x128 .f32) (harg16 : arg16.IsWhole) (hc0 : cond1_0 i)
  (x0 : Vec Ideal S64x256 .bf16) (x1 : Vec Ideal S4096x256 .bf16) (x2 : Vec Ideal S4096x256 .bf16) (x3 : Vec Ideal S256x256 .bf16) (x4 : Vec Ideal S256x256 .bf16) (x5 : Vec Ideal S2x14x64x128 .f32) (x6 : Vec Ideal S64x256 .bf16) (x7 : Vec Ideal S2x64x1 .f32) (x8 : Vec Ideal S64x256 .bf16)
variable (a : Args) (h : Fin 2 → ℕ) (r : ℕ) (hi : (i 1).val = r) (B : Blocks (fun hh => a.tile (h hh) r) r x0 x1 x2 x3 x4 x5)
  (O : Outs (fun hh => a.tile (h hh) r) x6 x7 x8)

include hi B O

theorem pt_dq_A (hh : Fin 2) (p : Fin 64) (d : Fin 128) : out1_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 p (col hh d)) = ((a.dq (h hh) r p d : ℝ) : EReal) := by
  match hh with
  | 0 => exact (dq_A_lo c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 p d).trans (hDq_at (loads B 0 _ (k1_off1_inb i) inb_S256x256_S256x128_0_0 (k1_off2_inb i 0) (k1_off2_inb i 1) (k1_off2_inb i 2) (k1_off2_inb i 3) rfl (off1_row i hi) rfl (off2_row0 i hi) (off2_row1 i hi) (off2_row2 i hi) (off2_row3 i hi)) (O.ldl 0 _ rfl) (O.ldg 0 _ rfl) (O.ldo 0 _ rfl) p d)
  | 1 => exact (dq_A_hi c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 p d).trans (hDq_at (loads B 1 _ (k1_off3_inb i) inb_S256x256_S256x128_0_128 (k1_off4_inb i 0) (k1_off4_inb i 1) (k1_off4_inb i 2) (k1_off4_inb i 3) rfl (off3_row i hi) rfl (off4_row0 i hi) (off4_row1 i hi) (off4_row2 i hi) (off4_row3 i hi)) (O.ldl 1 _ rfl) (O.ldg 1 _ rfl) (O.ldo 1 _ rfl) p d)

theorem pt_dk_A (hh : Fin 2) (R : Fin 4096) (d : Fin 128) : out1_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 R (col hh d)) =
    ((a.dkAt (h hh) r R.val d : ℝ) : EReal) := by
  rcases row_cases r R with ⟨p, rfl⟩ | hR
  · rw [dkAt_in]
    match hh with
    | 0 =>
      obtain ⟨acc, e, e'⟩ := dk_A_lo c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 hi p d
      have e1 := e'.trans (hDk_at (loads B 0 _ (k1_off1_inb i) inb_S256x256_S256x128_0_0 (k1_off2_inb i 0) (k1_off2_inb i 1) (k1_off2_inb i 2) (k1_off2_inb i 3) rfl (off1_row i hi) rfl (off2_row0 i hi) (off2_row1 i hi) (off2_row2 i hi) (off2_row3 i hi)) (O.ldl 0 _ rfl) (O.ldg 0 _ rfl) (O.ldo 0 _ rfl) acc p d)
      rw [e1, e, zero3, zero_add]
    | 1 =>
      obtain ⟨acc, e, e'⟩ := dk_A_hi c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 hi p d
      have e1 := e'.trans (hDk_at (loads B 1 _ (k1_off3_inb i) inb_S256x256_S256x128_0_128 (k1_off4_inb i 0) (k1_off4_inb i 1) (k1_off4_inb i 2) (k1_off4_inb i 3) rfl (off3_row i hi) rfl (off4_row0 i hi) (off4_row1 i hi) (off4_row2 i hi) (off4_row3 i hi)) (O.ldl 1 _ rfl) (O.ldg 1 _ rfl) (O.ldo 1 _ rfl) acc p d)
      rw [e1, e, zero3, zero_add]
  · exact (((dk_A_out c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 hi hh R d hR).trans (zero3 _)).trans (congrArg (fun x : ℝ => (x : EReal)) (dkAt_out a (h hh) r R d hR)).symm)

theorem pt_dv_A (hh : Fin 2) (R : Fin 4096) (d : Fin 128) : out1_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 R (col hh d)) =
    ((a.dvAt (h hh) r R.val d : ℝ) : EReal) := by
  rcases row_cases r R with ⟨p, rfl⟩ | hR
  · rw [dvAt_in]
    match hh with
    | 0 =>
      obtain ⟨acc, e, e'⟩ := dv_A_lo c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 hi p d
      have e1 := e'.trans (hDv_at (loads B 0 _ (k1_off1_inb i) inb_S256x256_S256x128_0_0 (k1_off2_inb i 0) (k1_off2_inb i 1) (k1_off2_inb i 2) (k1_off2_inb i 3) rfl (off1_row i hi) rfl (off2_row0 i hi) (off2_row1 i hi) (off2_row2 i hi) (off2_row3 i hi)) (O.ldl 0 _ rfl) (O.ldg 0 _ rfl) acc p d)
      rw [e1, e, zero4, zero_add]
    | 1 =>
      obtain ⟨acc, e, e'⟩ := dv_A_hi c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 hi p d
      have e1 := e'.trans (hDv_at (loads B 1 _ (k1_off3_inb i) inb_S256x256_S256x128_0_128 (k1_off4_inb i 0) (k1_off4_inb i 1) (k1_off4_inb i 2) (k1_off4_inb i 3) rfl (off3_row i hi) rfl (off4_row0 i hi) (off4_row1 i hi) (off4_row2 i hi) (off4_row3 i hi)) (O.ldl 1 _ rfl) (O.ldg 1 _ rfl) acc p d)
      rw [e1, e, zero4, zero_add]
  · exact (((dv_A_out c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 hi hh R d hR).trans (zero4 _)).trans (congrArg (fun x : ℝ => (x : EReal)) (dvAt_out a (h hh) r R d hR)).symm)

theorem pt_dkc_A (hh : Fin 2) (p : Fin 256) (d : Fin 128) : out1_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 p (col hh d)) =
    (((a.tile (h hh) r).dkc p d : ℝ) : EReal) := by
  match hh with
  | 0 =>
    obtain ⟨acc, e, e'⟩ := dkc_A_lo c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 p d
    have e1 := e'.trans (hDkc_at (loads B 0 _ (k1_off1_inb i) inb_S256x256_S256x128_0_0 (k1_off2_inb i 0) (k1_off2_inb i 1) (k1_off2_inb i 2) (k1_off2_inb i 3) rfl (off1_row i hi) rfl (off2_row0 i hi) (off2_row1 i hi) (off2_row2 i hi) (off2_row3 i hi)) (O.ldl 0 _ rfl) (O.ldg 0 _ rfl) (O.ldo 0 _ rfl) acc p d)
    rw [e1, e, zero5, zero_add]
  | 1 =>
    obtain ⟨acc, e, e'⟩ := dkc_A_hi c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 p d
    have e1 := e'.trans (hDkc_at (loads B 1 _ (k1_off3_inb i) inb_S256x256_S256x128_0_128 (k1_off4_inb i 0) (k1_off4_inb i 1) (k1_off4_inb i 2) (k1_off4_inb i 3) rfl (off3_row i hi) rfl (off4_row0 i hi) (off4_row1 i hi) (off4_row2 i hi) (off4_row3 i hi)) (O.ldl 1 _ rfl) (O.ldg 1 _ rfl) (O.ldo 1 _ rfl) acc p d)
    rw [e1, e, zero5, zero_add]

theorem pt_dvc_A (hh : Fin 2) (p : Fin 256) (d : Fin 128) : out1_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 p (col hh d)) =
    (((a.tile (h hh) r).dvc p d : ℝ) : EReal) := by
  match hh with
  | 0 =>
    obtain ⟨acc, e, e'⟩ := dvc_A_lo c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 p d
    have e1 := e'.trans (hDvc_at (loads B 0 _ (k1_off1_inb i) inb_S256x256_S256x128_0_0 (k1_off2_inb i 0) (k1_off2_inb i 1) (k1_off2_inb i 2) (k1_off2_inb i 3) rfl (off1_row i hi) rfl (off2_row0 i hi) (off2_row1 i hi) (off2_row2 i hi) (off2_row3 i hi)) (O.ldl 0 _ rfl) (O.ldg 0 _ rfl) acc p d)
    rw [e1, e, zero6, zero_add]
  | 1 =>
    obtain ⟨acc, e, e'⟩ := dvc_A_hi c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 p d
    have e1 := e'.trans (hDvc_at (loads B 1 _ (k1_off3_inb i) inb_S256x256_S256x128_0_128 (k1_off4_inb i 0) (k1_off4_inb i 1) (k1_off4_inb i 2) (k1_off4_inb i 3) rfl (off3_row i hi) rfl (off4_row0 i hi) (off4_row1 i hi) (off4_row2 i hi) (off4_row3 i hi)) (O.ldl 1 _ rfl) (O.ldg 1 _ rfl) acc p d)
    rw [e1, e, zero6, zero_add]

end PointA

section PointB

variable (c : Dev nD) (i : grid1.Coords) (arg2 : Memref sig .tc .vmem S64x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2x14x64x128 .f32) (harg7 : arg7.IsWhole) (arg8 : Memref sig .tc .vmem S64x256 .bf16) (harg8 : arg8.IsWhole) (arg9 : Memref sig .tc .vmem S2x64x1 .f32) (harg9 : arg9.IsWhole) (arg10 : Memref sig .tc .vmem S64x256 .bf16) (harg10 : arg10.IsWhole) (arg11 : Memref sig .tc .vmem S64x256 .bf16) (harg11 : arg11.IsWhole) (arg12 : Memref sig .tc .vmem S4096x256 .f32) (harg12 : arg12.IsWhole) (arg13 : Memref sig .tc .vmem S4096x256 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S2x14x64x128 .f32) (harg16 : arg16.IsWhole) (hc0 : ¬cond1_0 i)
  (x0 : Vec Ideal S64x256 .bf16) (x1 : Vec Ideal S4096x256 .bf16) (x2 : Vec Ideal S4096x256 .bf16) (x3 : Vec Ideal S256x256 .bf16) (x4 : Vec Ideal S256x256 .bf16) (x5 : Vec Ideal S2x14x64x128 .f32) (x6 : Vec Ideal S64x256 .bf16) (x7 : Vec Ideal S2x64x1 .f32) (x8 : Vec Ideal S64x256 .bf16) (xo10 : Vec Ideal S4096x256 .f32) (xo11 : Vec Ideal S4096x256 .f32) (xo12 : Vec Ideal S256x256 .f32) (xo13 : Vec Ideal S256x256 .f32) (xo14 : Vec Ideal S2x14x64x128 .f32)
variable (a : Args) (h : Fin 2 → ℕ) (r : ℕ) (hi : (i 1).val = r) (B : Blocks (fun hh => a.tile (h hh) r) r x0 x1 x2 x3 x4 x5)
  (O : Outs (fun hh => a.tile (h hh) r) x6 x7 x8)

include hi B O

theorem pt_dq_B (hh : Fin 2) (p : Fin 64) (d : Fin 128) : out1_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 (ix2 p (col hh d)) = ((a.dq (h hh) r p d : ℝ) : EReal) := by
  match hh with
  | 0 => exact (dq_B_lo c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 p d).trans (hDq_at (loads B 0 _ (k1_off1_inb i) inb_S256x256_S256x128_0_0 (k1_off2_inb i 0) (k1_off2_inb i 1) (k1_off2_inb i 2) (k1_off2_inb i 3) rfl (off1_row i hi) rfl (off2_row0 i hi) (off2_row1 i hi) (off2_row2 i hi) (off2_row3 i hi)) (O.ldl 0 _ rfl) (O.ldg 0 _ rfl) (O.ldo 0 _ rfl) p d)
  | 1 => exact (dq_B_hi c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 p d).trans (hDq_at (loads B 1 _ (k1_off3_inb i) inb_S256x256_S256x128_0_128 (k1_off4_inb i 0) (k1_off4_inb i 1) (k1_off4_inb i 2) (k1_off4_inb i 3) rfl (off3_row i hi) rfl (off4_row0 i hi) (off4_row1 i hi) (off4_row2 i hi) (off4_row3 i hi)) (O.ldl 1 _ rfl) (O.ldg 1 _ rfl) (O.ldo 1 _ rfl) p d)

theorem pt_dk_B (hh : Fin 2) (R : Fin 4096) (d : Fin 128) : out1_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 (ix2 R (col hh d)) =
    (xo10 (ix2 R (col hh d)) : EReal) + ((a.dkAt (h hh) r R.val d : ℝ) : EReal) := by
  rcases row_cases r R with ⟨p, rfl⟩ | hR
  · rw [dkAt_in]
    match hh with
    | 0 =>
      obtain ⟨acc, e, e'⟩ := dk_B_lo c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 hi p d
      have e1 := e'.trans (hDk_at (loads B 0 _ (k1_off1_inb i) inb_S256x256_S256x128_0_0 (k1_off2_inb i 0) (k1_off2_inb i 1) (k1_off2_inb i 2) (k1_off2_inb i 3) rfl (off1_row i hi) rfl (off2_row0 i hi) (off2_row1 i hi) (off2_row2 i hi) (off2_row3 i hi)) (O.ldl 0 _ rfl) (O.ldg 0 _ rfl) (O.ldo 0 _ rfl) acc p d)
      rw [e1, e]
    | 1 =>
      obtain ⟨acc, e, e'⟩ := dk_B_hi c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 hi p d
      have e1 := e'.trans (hDk_at (loads B 1 _ (k1_off3_inb i) inb_S256x256_S256x128_0_128 (k1_off4_inb i 0) (k1_off4_inb i 1) (k1_off4_inb i 2) (k1_off4_inb i 3) rfl (off3_row i hi) rfl (off4_row0 i hi) (off4_row1 i hi) (off4_row2 i hi) (off4_row3 i hi)) (O.ldl 1 _ rfl) (O.ldg 1 _ rfl) (O.ldo 1 _ rfl) acc p d)
      rw [e1, e]
  · exact ((dk_B_out c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 hi hh R d hR).trans ((add_zero _).symm.trans (congrArg (fun x : ℝ => (xo10 (ix2 R (col hh d)) : EReal) + (x : EReal)) (dkAt_out a (h hh) r R d hR).symm)))

theorem pt_dv_B (hh : Fin 2) (R : Fin 4096) (d : Fin 128) : out1_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 (ix2 R (col hh d)) =
    (xo11 (ix2 R (col hh d)) : EReal) + ((a.dvAt (h hh) r R.val d : ℝ) : EReal) := by
  rcases row_cases r R with ⟨p, rfl⟩ | hR
  · rw [dvAt_in]
    match hh with
    | 0 =>
      obtain ⟨acc, e, e'⟩ := dv_B_lo c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 hi p d
      have e1 := e'.trans (hDv_at (loads B 0 _ (k1_off1_inb i) inb_S256x256_S256x128_0_0 (k1_off2_inb i 0) (k1_off2_inb i 1) (k1_off2_inb i 2) (k1_off2_inb i 3) rfl (off1_row i hi) rfl (off2_row0 i hi) (off2_row1 i hi) (off2_row2 i hi) (off2_row3 i hi)) (O.ldl 0 _ rfl) (O.ldg 0 _ rfl) acc p d)
      rw [e1, e]
    | 1 =>
      obtain ⟨acc, e, e'⟩ := dv_B_hi c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 hi p d
      have e1 := e'.trans (hDv_at (loads B 1 _ (k1_off3_inb i) inb_S256x256_S256x128_0_128 (k1_off4_inb i 0) (k1_off4_inb i 1) (k1_off4_inb i 2) (k1_off4_inb i 3) rfl (off3_row i hi) rfl (off4_row0 i hi) (off4_row1 i hi) (off4_row2 i hi) (off4_row3 i hi)) (O.ldl 1 _ rfl) (O.ldg 1 _ rfl) acc p d)
      rw [e1, e]
  · exact ((dv_B_out c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 hi hh R d hR).trans ((add_zero _).symm.trans (congrArg (fun x : ℝ => (xo11 (ix2 R (col hh d)) : EReal) + (x : EReal)) (dvAt_out a (h hh) r R d hR).symm)))

theorem pt_dkc_B (hh : Fin 2) (p : Fin 256) (d : Fin 128) : out1_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 (ix2 p (col hh d)) =
    (xo12 (ix2 p (col hh d)) : EReal) + (((a.tile (h hh) r).dkc p d : ℝ) : EReal) := by
  match hh with
  | 0 =>
    obtain ⟨acc, e, e'⟩ := dkc_B_lo c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 p d
    have e1 := e'.trans (hDkc_at (loads B 0 _ (k1_off1_inb i) inb_S256x256_S256x128_0_0 (k1_off2_inb i 0) (k1_off2_inb i 1) (k1_off2_inb i 2) (k1_off2_inb i 3) rfl (off1_row i hi) rfl (off2_row0 i hi) (off2_row1 i hi) (off2_row2 i hi) (off2_row3 i hi)) (O.ldl 0 _ rfl) (O.ldg 0 _ rfl) (O.ldo 0 _ rfl) acc p d)
    rw [e1, e]
  | 1 =>
    obtain ⟨acc, e, e'⟩ := dkc_B_hi c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 p d
    have e1 := e'.trans (hDkc_at (loads B 1 _ (k1_off3_inb i) inb_S256x256_S256x128_0_128 (k1_off4_inb i 0) (k1_off4_inb i 1) (k1_off4_inb i 2) (k1_off4_inb i 3) rfl (off3_row i hi) rfl (off4_row0 i hi) (off4_row1 i hi) (off4_row2 i hi) (off4_row3 i hi)) (O.ldl 1 _ rfl) (O.ldg 1 _ rfl) (O.ldo 1 _ rfl) acc p d)
    rw [e1, e]

theorem pt_dvc_B (hh : Fin 2) (p : Fin 256) (d : Fin 128) : out1_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 (ix2 p (col hh d)) =
    (xo13 (ix2 p (col hh d)) : EReal) + (((a.tile (h hh) r).dvc p d : ℝ) : EReal) := by
  match hh with
  | 0 =>
    obtain ⟨acc, e, e'⟩ := dvc_B_lo c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 p d
    have e1 := e'.trans (hDvc_at (loads B 0 _ (k1_off1_inb i) inb_S256x256_S256x128_0_0 (k1_off2_inb i 0) (k1_off2_inb i 1) (k1_off2_inb i 2) (k1_off2_inb i 3) rfl (off1_row i hi) rfl (off2_row0 i hi) (off2_row1 i hi) (off2_row2 i hi) (off2_row3 i hi)) (O.ldl 0 _ rfl) (O.ldg 0 _ rfl) acc p d)
    rw [e1, e]
  | 1 =>
    obtain ⟨acc, e, e'⟩ := dvc_B_hi c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xo11 xo12 xo13 xo14 p d
    have e1 := e'.trans (hDvc_at (loads B 1 _ (k1_off3_inb i) inb_S256x256_S256x128_0_128 (k1_off4_inb i 0) (k1_off4_inb i 1) (k1_off4_inb i 2) (k1_off4_inb i 3) rfl (off3_row i hi) rfl (off4_row0 i hi) (off4_row1 i hi) (off4_row2 i hi) (off4_row3 i hi)) (O.ldl 1 _ rfl) (O.ldg 1 _ rfl) acc p d)
    rw [e1, e]

end PointB

end Cert.KernelIdeal.Na

end

end
-- ==== Proof.Arr1.lean ====
/- The blocks the backward kernel's windows hold at a grid point, at coordinates of the arrays they are of. -/
module

public import proofs.«01_k».proof.Proof.BwdPt
public import proofs.«01_k».proof.Proof.Arr0
public import Idealize.ShloMosaic.Lib.Pipeline.ValueKit

@[expose] public section

set_option maxRecDepth 16384

noncomputable section

namespace Cert.KernelIdeal.Na

open Idealize.ShloMosaic Idealize.ShloMosaic.TcCoe Idealize.ShloMosaic.Tactic
open Idealize.SL Idealize.SL.RA Idealize.SL.BI
open Idealize.ShloMosaic.Pipeline (Dat Cfg Window BodyObligation cellOf)
open Cert.KernelIdeal.Gen Cert.Na

theorem coord1_0 (t : Fin cfg1.N) : (grid1.coords t 0).val = t.val / 64 % 4 := Pipeline.Grid.coords_val t 0 (by decide) rfl

theorem coord1_1 (t : Fin cfg1.N) : (grid1.coords t 1).val = t.val % 64 :=
  (Pipeline.Grid.coords_val t 1 (S := 1) (B := 64) (by decide) rfl).trans (by rw [Nat.div_one])

theorem lt1 (t : Fin cfg1.N) : t.val < 256 := lt_of_lt_of_eq t.isLt (show cfg1.N = 256 from N_1)

theorem index1_0 : ∀ t : Fin cfg1.N, win1_0.index t = ![t.val % 64, t.val / 64] := (by decide +kernel : ∀ t : Fin grid1.N, _)
theorem index1_1 : ∀ t : Fin cfg1.N, win1_1.index t = ![0, 4 + t.val / 64] := (by decide +kernel : ∀ t : Fin grid1.N, _)
theorem index1_2 : ∀ t : Fin cfg1.N, win1_2.index t = ![0, 8 + t.val / 64] := (by decide +kernel : ∀ t : Fin grid1.N, _)
theorem index1_3 : ∀ t : Fin cfg1.N, win1_3.index t = ![0, t.val / 64] := (by decide +kernel : ∀ t : Fin grid1.N, _)
theorem index1_4 : ∀ t : Fin cfg1.N, win1_4.index t = ![0, 4 + t.val / 64] := (by decide +kernel : ∀ t : Fin grid1.N, _)
theorem index1_5 : ∀ t : Fin cfg1.N, win1_5.index t = ![t.val / 64, 0, 0, 0] := (by decide +kernel : ∀ t : Fin grid1.N, _)
theorem index1_6 : ∀ t : Fin cfg1.N, win1_6.index t = ![t.val % 64, t.val / 64] := (by decide +kernel : ∀ t : Fin grid1.N, _)
theorem index1_7 : ∀ t : Fin cfg1.N, win1_7.index t = ![t.val / 64, t.val % 64, 0] := (by decide +kernel : ∀ t : Fin grid1.N, _)
theorem index1_8 : ∀ t : Fin cfg1.N, win1_8.index t = ![t.val % 64, 4 + t.val / 64] := (by decide +kernel : ∀ t : Fin grid1.N, _)
theorem index1_9 : ∀ t : Fin cfg1.N, win1_9.index t = ![t.val % 64, t.val / 64] := (by decide +kernel : ∀ t : Fin grid1.N, _)
theorem index1_10 : ∀ t : Fin cfg1.N, win1_10.index t = ![0, t.val / 64] := (by decide +kernel : ∀ t : Fin grid1.N, _)
theorem index1_11 : ∀ t : Fin cfg1.N, win1_11.index t = ![0, t.val / 64] := (by decide +kernel : ∀ t : Fin grid1.N, _)
theorem index1_12 : ∀ t : Fin cfg1.N, win1_12.index t = ![0, t.val / 64] := (by decide +kernel : ∀ t : Fin grid1.N, _)
theorem index1_13 : ∀ t : Fin cfg1.N, win1_13.index t = ![0, t.val / 64] := (by decide +kernel : ∀ t : Fin grid1.N, _)

section Reads
variable {F : FTy → Type} [FloatOps F]
variable (V : (c : Dev nD) → (b : Ref sig .tc) → Buf (Elt F) ((c : Thread nD τ).loc b))

theorem iblk1_0_at (c : Dev nD) (t : Fin cfg1.N) (p : Fin 64) (e : Fin 256) :
    iblk1 V c 0 t (ix2 p e) = V c main_arg0 (ix2 ⟨64 * (t.val % 64) + p.val, by omega⟩ ⟨256 * (t.val / 64) + e.val, by have := lt1 t; omega⟩) := by
  blk_simp [iblk1]
  congr 1
  blk_ext [index1_0]

theorem iblk1_1_at (c : Dev nD) (t : Fin cfg1.N) (p : Fin 4096) (e : Fin 256) :
    iblk1 V c 1 t (ix2 p e) = V c main_arg0 (ix2 p ⟨1024 + 256 * (t.val / 64) + e.val, by have := lt1 t; omega⟩) := by
  blk_simp [iblk1]
  congr 1
  blk_ext [index1_1]

theorem iblk1_2_at (c : Dev nD) (t : Fin cfg1.N) (p : Fin 4096) (e : Fin 256) :
    iblk1 V c 2 t (ix2 p e) = V c main_arg0 (ix2 p ⟨2048 + 256 * (t.val / 64) + e.val, by have := lt1 t; omega⟩) := by
  blk_simp [iblk1]
  congr 1
  blk_ext [index1_2]

theorem iblk1_3_at (c : Dev nD) (t : Fin cfg1.N) (p : Fin 256) (e : Fin 256) :
    iblk1 V c 3 t (ix2 p e) = V c main_arg1 (ix2 p ⟨256 * (t.val / 64) + e.val, by have := lt1 t; omega⟩) := by
  blk_simp [iblk1]
  congr 1
  blk_ext [index1_3]

theorem iblk1_4_at (c : Dev nD) (t : Fin cfg1.N) (p : Fin 256) (e : Fin 256) :
    iblk1 V c 4 t (ix2 p e) = V c main_arg1 (ix2 p ⟨1024 + 256 * (t.val / 64) + e.val, by have := lt1 t; omega⟩) := by
  blk_simp [iblk1]
  congr 1
  blk_ext [index1_4]

theorem iblk1_6_at (c : Dev nD) (t : Fin cfg1.N) (p : Fin 64) (e : Fin 256) :
    iblk1 V c 6 t (ix2 p e) = V c main_v39_0 (ix2 ⟨64 * (t.val % 64) + p.val, by omega⟩ ⟨256 * (t.val / 64) + e.val, by have := lt1 t; omega⟩) := by
  blk_simp [iblk1]
  congr 1
  blk_ext [index1_6]

theorem iblk1_8_at (c : Dev nD) (t : Fin cfg1.N) (p : Fin 64) (e : Fin 256) :
    iblk1 V c 8 t (ix2 p e) = V c main_arg3 (ix2 ⟨64 * (t.val % 64) + p.val, by omega⟩ ⟨1024 + 256 * (t.val / 64) + e.val, by have := lt1 t; omega⟩) := by
  blk_simp [iblk1]
  congr 1
  blk_ext [index1_8]

theorem iblk1_5_at (c : Dev nD) (t : Fin cfg1.N) (h : Fin 2) (s : Fin 14) (q : Fin 64) (l : Fin 128) :
    iblk1 V c 5 t (ix4 h s q l) = V c main_v38 (ix4 ⟨2 * (t.val / 64) + h.val, by have := lt1 t; omega⟩ s q l) := by
  blk_simp [iblk1]
  congr 1
  blk_ext [index1_5]

theorem iblk1_7_at (c : Dev nD) (t : Fin cfg1.N) (h : Fin 2) (p : Fin 64) :
    iblk1 V c 7 t (ix3 h p 0) = V c main_v39_1 (ix3 ⟨2 * (t.val / 64) + h.val, by have := lt1 t; omega⟩ ⟨64 * (t.val % 64) + p.val, by omega⟩ 0) := by
  blk_simp [iblk1]
  congr 1
  blk_ext [index1_7]

end Reads

section Args
variable (V : (c : Dev nD) → (b : Ref sig .tc) → Buf (Elt Ideal) ((c : Thread nD τ).loc b)) (c : Dev nD) (a : Args)

/-- The blocks of a point hold the arguments of its two tiles. -/
theorem blocks1 (H : Holds a (V c main_arg0) (V c main_arg1) (V c main_v38) (V c main_arg3)) (t : Fin cfg1.N) :
    Blocks (fun hh => a.tile (2 * (t.val / 64) + hh.val) (t.val % 64)) (t.val % 64) (iblk1 V c 0 t) (iblk1 V c 1 t) (iblk1 V c 2 t)
      (iblk1 V c 3 t) (iblk1 V c 4 t) (iblk1 V c 5 t) where
  hq hh p d := by
    refine (iblk1_0_at V c t p _).trans ((H.h0 _ _).trans (congrArg (fun x : ℝ => (x : EReal)) ?_))
    exact congrArg (a.A _) (show 256 * (t.val / 64) + (128 * hh.val + d.val) = 128 * (2 * (t.val / 64) + hh.val) + d.val by omega)
  hk hh p d := by
    refine (iblk1_1_at V c t _ _).trans ((H.h0 _ _).trans (congrArg (fun x : ℝ => (x : EReal)) ?_))
    exact congrArg (a.A _) (show 1024 + 256 * (t.val / 64) + (128 * hh.val + d.val) = 1024 + 128 * (2 * (t.val / 64) + hh.val) + d.val by omega)
  hv hh p d := by
    refine (iblk1_2_at V c t _ _).trans ((H.h0 _ _).trans (congrArg (fun x : ℝ => (x : EReal)) ?_))
    exact congrArg (a.A _) (show 2048 + 256 * (t.val / 64) + (128 * hh.val + d.val) = 2048 + 128 * (2 * (t.val / 64) + hh.val) + d.val by omega)
  hkc hh p d := by
    refine (iblk1_3_at V c t _ _).trans ((H.h1 _ _).trans (congrArg (fun x : ℝ => (x : EReal)) ?_))
    exact congrArg (a.C _) (show 256 * (t.val / 64) + (128 * hh.val + d.val) = 128 * (2 * (t.val / 64) + hh.val) + d.val by omega)
  hvc hh p d := by
    refine (iblk1_4_at V c t _ _).trans ((H.h1 _ _).trans (congrArg (fun x : ℝ => (x : EReal)) ?_))
    exact congrArg (a.C _) (show 1024 + 256 * (t.val / 64) + (128 * hh.val + d.val) = 1024 + 128 * (2 * (t.val / 64) + hh.val) + d.val by omega)
  hb hh q κ j l e := by
    refine (iblk1_5_at V c t _ _ _ _).trans ((H.hb _ _ _ _).trans ?_)
    have e1 : l.val % 64 = κ.val % 64 := by omega
    have e2 : off (t.val % 64) + 2 * j.val + l.val / 64 = st (t.val % 64) + κ.val / 64 + 7 - t.val % 64 := by unfold off st; omega
    show masked (decide (cs q.val ≤ l.val % 64) && decide (l.val % 64 < cs q.val + 16))
      (a.P (2 * (t.val / 64) + hh.val) (off (t.val % 64) + 2 * j.val + l.val / 64) (min (l.val % 64 + 15 - q.val) 30)) = _
    rw [e1, e2]
    rfl

/-- And so do what the forward call left and the cotangents. -/
theorem outs1 (H : Holds a (V c main_arg0) (V c main_arg1) (V c main_v38) (V c main_arg3))
    (h6 : V c main_v39_0 = fun i => ((a.oAt (i 0).val (i 1).val : ℝ) : EReal)) (h7 : V c main_v39_1 = fun i => ((a.lseAt (i 0).val (i 1).val : ℝ) : EReal)) (t : Fin cfg1.N) :
    Outs (fun hh => a.tile (2 * (t.val / 64) + hh.val) (t.val % 64)) (iblk1 V c 6 t) (iblk1 V c 7 t) (iblk1 V c 8 t) where
  ho hh p d := by
    refine (iblk1_6_at V c t p _).trans ((congrFun h6 _).trans (congrArg (fun x : ℝ => (x : EReal)) (by_head a.o _ _ _ _ ?_ ?_)))
    · rfl
    · show 256 * (t.val / 64) + (128 * hh.val + d.val) = _
      omega
  hl hh p := by
    refine (iblk1_7_at V c t hh p).trans ((congrFun h7 _).trans (congrArg (fun x : ℝ => (x : EReal)) ?_))
    have h2 : (64 * (t.val % 64) + p.val) / 64 = t.val % 64 := by omega
    have h3 : (⟨(64 * (t.val % 64) + p.val) % 64, Nat.mod_lt _ (by decide)⟩ : Fin 64) = p := Fin.ext (by show (64 * (t.val % 64) + p.val) % 64 = p.val; omega)
    show Real.log ((a.tile (2 * (t.val / 64) + hh.val) ((64 * (t.val % 64) + p.val) / 64)).Z ⟨(64 * (t.val % 64) + p.val) % 64, Nat.mod_lt _ (by decide)⟩) = _
    rw [h2, h3]
  hg hh p d := by
    refine (iblk1_8_at V c t p _).trans ((H.h3 _ _).trans (congrArg (fun x : ℝ => (x : EReal)) ?_))
    exact congrArg (a.G _) (show 1024 + 256 * (t.val / 64) + (128 * hh.val + d.val) = 1024 + 128 * (2 * (t.val / 64) + hh.val) + d.val by omega)

section Run
variable (H : Holds a (V c main_arg0) (V c main_arg1) (V c main_v38) (V c main_arg3))
  (h6 : V c main_v39_0 = fun i => ((a.oAt (i 0).val (i 1).val : ℝ) : EReal)) (h7 : V c main_v39_1 = fun i => ((a.lseAt (i 0).val (i 1).val : ℝ) : EReal))

include H h6 h7

theorem stepA_dq (t : Fin cfg1.N) (h0 : t.val % 64 = 0) (hh : Fin 2) (p : Fin 64) (d : Fin 128) :
    (stepA V c t h0).1 (ix2 p (col hh d)) = ((a.dq (2 * (t.val / 64) + hh.val) (t.val % 64) p d : ℝ) : EReal) := by
  unfold stepA
  exact pt_dq_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) a (fun hh => 2 * (t.val / 64) + hh.val) (t.val % 64) (coord1_1 t) (blocks1 V c a H t) (outs1 V c a H h6 h7 t) hh p d

theorem stepB_dq (t : Fin cfg1.N) (h0 : ¬t.val % 64 = 0) (xo : Vec Ideal S64x256 .bf16 × Vec Ideal S4096x256 .f32 × Vec Ideal S4096x256 .f32 × Vec Ideal S256x256 .f32 × Vec Ideal S256x256 .f32 × Vec Ideal S2x14x64x128 .f32) (hh : Fin 2) (p : Fin 64) (d : Fin 128) :
    (stepB V c t h0 xo).1 (ix2 p (col hh d)) = ((a.dq (2 * (t.val / 64) + hh.val) (t.val % 64) p d : ℝ) : EReal) := by
  unfold stepB
  exact pt_dq_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) xo.2.1 xo.2.2.1 xo.2.2.2.1 xo.2.2.2.2.1 xo.2.2.2.2.2 a (fun hh => 2 * (t.val / 64) + hh.val) (t.val % 64) (coord1_1 t) (blocks1 V c a H t) (outs1 V c a H h6 h7 t) hh p d

/-- The queries' gradients of a point. -/
theorem outsAt1_dq (t : Fin cfg1.N) (hh : Fin 2) (p : Fin 64) (d : Fin 128) :
    (outsAt1 V c t.val t.isLt).1 (ix2 p (col hh d)) = ((a.dq (2 * (t.val / 64) + hh.val) (t.val % 64) p d : ℝ) : EReal) := by
  by_cases h0 : t.val % 64 = 0
  · exact (congrArg (fun x : Vec Ideal S64x256 .bf16 × Vec Ideal S4096x256 .f32 × Vec Ideal S4096x256 .f32 × Vec Ideal S256x256 .f32 × Vec Ideal S256x256 .f32 × Vec Ideal S2x14x64x128 .f32 => x.1 (ix2 p (col hh d))) (outsAt1_A V c t h0)).trans (stepA_dq V c a H h6 h7 t h0 hh p d)
  · exact (congrArg (fun x : Vec Ideal S64x256 .bf16 × Vec Ideal S4096x256 .f32 × Vec Ideal S4096x256 .f32 × Vec Ideal S256x256 .f32 × Vec Ideal S256x256 .f32 × Vec Ideal S2x14x64x128 .f32 => x.1 (ix2 p (col hh d))) (outsAt1_B V c t h0)).trans (stepB_dq V c a H h6 h7 t h0 _ hh p d)

omit H h6 h7 in
/-- A value that starts afresh at each multiple of 64 and grows by a part at each other point is the sum of the parts so far. -/
theorem acc_sum {N : ℕ} (f : (n : ℕ) → n < N → EReal) (g : ℕ → ℕ → ℝ)
    (hA : ∀ n hn, n % 64 = 0 → f n hn = ((g (n / 64) (n % 64) : ℝ) : EReal))
    (hB : ∀ n hn, ¬n % 64 = 0 → f n hn = f (n - 1) (Nat.lt_of_le_of_lt (Nat.sub_le _ _) hn) + ((g (n / 64) (n % 64) : ℝ) : EReal)) :
    ∀ n hn, f n hn = ((∑ s ∈ Finset.range (n % 64 + 1), g (n / 64) s : ℝ) : EReal) := by
  intro n
  induction n with
  | zero => intro hn; exact (hA 0 hn rfl).trans (congrArg (fun x : ℝ => (x : EReal)) (Finset.sum_range_one (g 0)).symm)
  | succ n ih =>
    intro hn
    by_cases h0 : (n + 1) % 64 = 0
    · rw [hA _ hn h0, h0, Finset.sum_range_one]
    · have e1 : (n + 1) / 64 = n / 64 := by omega
      have e2 : (n + 1) % 64 = n % 64 + 1 := by omega
      have e3 : f (n + 1 - 1) (Nat.lt_of_le_of_lt (Nat.sub_le _ _) hn) = f n (Nat.lt_of_succ_lt hn) := rfl
      rw [hB _ hn h0, e3, ih, e1, e2, Finset.sum_range_succ _ (n % 64 + 1), EReal.coe_add]

theorem stepA_dk (t : Fin cfg1.N) (h0 : t.val % 64 = 0) (hh : Fin 2) (R : Fin 4096) (d : Fin 128) :
    (stepA V c t h0).2.1 (ix2 R (col hh d)) = ((a.dkAt (2 * (t.val / 64) + hh.val) (t.val % 64) R.val d : ℝ) : EReal) := by
  have e : (stepA V c t h0).2.1 = out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) := by unfold stepA; rfl
  have e' := pt_dk_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) a (fun hh => 2 * (t.val / 64) + hh.val) (t.val % 64) (coord1_1 t) (blocks1 V c a H t) (outs1 V c a H h6 h7 t) hh R d
  rw [e]; exact e'

theorem stepB_dk (t : Fin cfg1.N) (h0 : ¬t.val % 64 = 0) (xo : Vec Ideal S64x256 .bf16 × Vec Ideal S4096x256 .f32 × Vec Ideal S4096x256 .f32 × Vec Ideal S256x256 .f32 × Vec Ideal S256x256 .f32 × Vec Ideal S2x14x64x128 .f32) (hh : Fin 2) (R : Fin 4096) (d : Fin 128) :
    (stepB V c t h0 xo).2.1 (ix2 R (col hh d)) = (xo.2.1 (ix2 R (col hh d)) : EReal) + ((a.dkAt (2 * (t.val / 64) + hh.val) (t.val % 64) R.val d : ℝ) : EReal) := by
  unfold stepB
  exact pt_dk_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) xo.2.1 xo.2.2.1 xo.2.2.2.1 xo.2.2.2.2.1 xo.2.2.2.2.2 a (fun hh => 2 * (t.val / 64) + hh.val) (t.val % 64) (coord1_1 t) (blocks1 V c a H t) (outs1 V c a H h6 h7 t) hh R d

theorem outsAt1_dk (hh : Fin 2) (R : Fin 4096) (d : Fin 128) : ∀ (n : ℕ) (hn : n < cfg1.N),
    (outsAt1 V c n hn).2.1 (ix2 R (col hh d)) = ((∑ s ∈ Finset.range (n % 64 + 1), a.dkAt (2 * (n / 64) + hh.val) s R.val d : ℝ) : EReal) :=
  acc_sum (fun n hn => (outsAt1 V c n hn).2.1 (ix2 R (col hh d))) (fun m s => a.dkAt (2 * m + hh.val) s R.val d)
    (fun n hn h0 => (congrArg (fun x : Vec Ideal S64x256 .bf16 × Vec Ideal S4096x256 .f32 × Vec Ideal S4096x256 .f32 × Vec Ideal S256x256 .f32 × Vec Ideal S256x256 .f32 × Vec Ideal S2x14x64x128 .f32 => x.2.1 (ix2 R (col hh d))) (outsAt1_A V c ⟨n, hn⟩ h0)).trans
      (stepA_dk V c a H h6 h7 ⟨n, hn⟩ h0 hh R d))
    (fun n hn h0 => (congrArg (fun x : Vec Ideal S64x256 .bf16 × Vec Ideal S4096x256 .f32 × Vec Ideal S4096x256 .f32 × Vec Ideal S256x256 .f32 × Vec Ideal S256x256 .f32 × Vec Ideal S2x14x64x128 .f32 => x.2.1 (ix2 R (col hh d))) (outsAt1_B V c ⟨n, hn⟩ h0)).trans
      (stepB_dk V c a H h6 h7 ⟨n, hn⟩ h0 _ hh R d))

theorem stepA_dv (t : Fin cfg1.N) (h0 : t.val % 64 = 0) (hh : Fin 2) (R : Fin 4096) (d : Fin 128) :
    (stepA V c t h0).2.2.1 (ix2 R (col hh d)) = ((a.dvAt (2 * (t.val / 64) + hh.val) (t.val % 64) R.val d : ℝ) : EReal) := by
  have e : (stepA V c t h0).2.2.1 = out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) := by unfold stepA; rfl
  have e' := pt_dv_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) a (fun hh => 2 * (t.val / 64) + hh.val) (t.val % 64) (coord1_1 t) (blocks1 V c a H t) (outs1 V c a H h6 h7 t) hh R d
  rw [e]; exact e'

theorem stepB_dv (t : Fin cfg1.N) (h0 : ¬t.val % 64 = 0) (xo : Vec Ideal S64x256 .bf16 × Vec Ideal S4096x256 .f32 × Vec Ideal S4096x256 .f32 × Vec Ideal S256x256 .f32 × Vec Ideal S256x256 .f32 × Vec Ideal S2x14x64x128 .f32) (hh : Fin 2) (R : Fin 4096) (d : Fin 128) :
    (stepB V c t h0 xo).2.2.1 (ix2 R (col hh d)) = (xo.2.2.1 (ix2 R (col hh d)) : EReal) + ((a.dvAt (2 * (t.val / 64) + hh.val) (t.val % 64) R.val d : ℝ) : EReal) := by
  unfold stepB
  exact pt_dv_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) xo.2.1 xo.2.2.1 xo.2.2.2.1 xo.2.2.2.2.1 xo.2.2.2.2.2 a (fun hh => 2 * (t.val / 64) + hh.val) (t.val % 64) (coord1_1 t) (blocks1 V c a H t) (outs1 V c a H h6 h7 t) hh R d

theorem outsAt1_dv (hh : Fin 2) (R : Fin 4096) (d : Fin 128) : ∀ (n : ℕ) (hn : n < cfg1.N),
    (outsAt1 V c n hn).2.2.1 (ix2 R (col hh d)) = ((∑ s ∈ Finset.range (n % 64 + 1), a.dvAt (2 * (n / 64) + hh.val) s R.val d : ℝ) : EReal) :=
  acc_sum (fun n hn => (outsAt1 V c n hn).2.2.1 (ix2 R (col hh d))) (fun m s => a.dvAt (2 * m + hh.val) s R.val d)
    (fun n hn h0 => (congrArg (fun x : Vec Ideal S64x256 .bf16 × Vec Ideal S4096x256 .f32 × Vec Ideal S4096x256 .f32 × Vec Ideal S256x256 .f32 × Vec Ideal S256x256 .f32 × Vec Ideal S2x14x64x128 .f32 => x.2.2.1 (ix2 R (col hh d))) (outsAt1_A V c ⟨n, hn⟩ h0)).trans
      (stepA_dv V c a H h6 h7 ⟨n, hn⟩ h0 hh R d))
    (fun n hn h0 => (congrArg (fun x : Vec Ideal S64x256 .bf16 × Vec Ideal S4096x256 .f32 × Vec Ideal S4096x256 .f32 × Vec Ideal S256x256 .f32 × Vec Ideal S256x256 .f32 × Vec Ideal S2x14x64x128 .f32 => x.2.2.1 (ix2 R (col hh d))) (outsAt1_B V c ⟨n, hn⟩ h0)).trans
      (stepB_dv V c a H h6 h7 ⟨n, hn⟩ h0 _ hh R d))

theorem stepA_dkc (t : Fin cfg1.N) (h0 : t.val % 64 = 0) (hh : Fin 2) (R : Fin 256) (d : Fin 128) :
    (stepA V c t h0).2.2.2.1 (ix2 R (col hh d)) = (((a.tile (2 * (t.val / 64) + hh.val) (t.val % 64)).dkc R d : ℝ) : EReal) := by
  unfold stepA
  exact pt_dkc_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) a (fun hh => 2 * (t.val / 64) + hh.val) (t.val % 64) (coord1_1 t) (blocks1 V c a H t) (outs1 V c a H h6 h7 t) hh R d

theorem stepB_dkc (t : Fin cfg1.N) (h0 : ¬t.val % 64 = 0) (xo : Vec Ideal S64x256 .bf16 × Vec Ideal S4096x256 .f32 × Vec Ideal S4096x256 .f32 × Vec Ideal S256x256 .f32 × Vec Ideal S256x256 .f32 × Vec Ideal S2x14x64x128 .f32) (hh : Fin 2) (R : Fin 256) (d : Fin 128) :
    (stepB V c t h0 xo).2.2.2.1 (ix2 R (col hh d)) = (xo.2.2.2.1 (ix2 R (col hh d)) : EReal) + (((a.tile (2 * (t.val / 64) + hh.val) (t.val % 64)).dkc R d : ℝ) : EReal) := by
  unfold stepB
  exact pt_dkc_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) xo.2.1 xo.2.2.1 xo.2.2.2.1 xo.2.2.2.2.1 xo.2.2.2.2.2 a (fun hh => 2 * (t.val / 64) + hh.val) (t.val % 64) (coord1_1 t) (blocks1 V c a H t) (outs1 V c a H h6 h7 t) hh R d

theorem outsAt1_dkc (hh : Fin 2) (R : Fin 256) (d : Fin 128) : ∀ (n : ℕ) (hn : n < cfg1.N),
    (outsAt1 V c n hn).2.2.2.1 (ix2 R (col hh d)) = ((∑ s ∈ Finset.range (n % 64 + 1), (a.tile (2 * (n / 64) + hh.val) s).dkc R d : ℝ) : EReal) :=
  acc_sum (fun n hn => (outsAt1 V c n hn).2.2.2.1 (ix2 R (col hh d))) (fun m s => (a.tile (2 * m + hh.val) s).dkc R d)
    (fun n hn h0 => (congrArg (fun x : Vec Ideal S64x256 .bf16 × Vec Ideal S4096x256 .f32 × Vec Ideal S4096x256 .f32 × Vec Ideal S256x256 .f32 × Vec Ideal S256x256 .f32 × Vec Ideal S2x14x64x128 .f32 => x.2.2.2.1 (ix2 R (col hh d))) (outsAt1_A V c ⟨n, hn⟩ h0)).trans
      (stepA_dkc V c a H h6 h7 ⟨n, hn⟩ h0 hh R d))
    (fun n hn h0 => (congrArg (fun x : Vec Ideal S64x256 .bf16 × Vec Ideal S4096x256 .f32 × Vec Ideal S4096x256 .f32 × Vec Ideal S256x256 .f32 × Vec Ideal S256x256 .f32 × Vec Ideal S2x14x64x128 .f32 => x.2.2.2.1 (ix2 R (col hh d))) (outsAt1_B V c ⟨n, hn⟩ h0)).trans
      (stepB_dkc V c a H h6 h7 ⟨n, hn⟩ h0 _ hh R d))

theorem stepA_dvc (t : Fin cfg1.N) (h0 : t.val % 64 = 0) (hh : Fin 2) (R : Fin 256) (d : Fin 128) :
    (stepA V c t h0).2.2.2.2.1 (ix2 R (col hh d)) = (((a.tile (2 * (t.val / 64) + hh.val) (t.val % 64)).dvc R d : ℝ) : EReal) := by
  unfold stepA
  exact pt_dvc_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) a (fun hh => 2 * (t.val / 64) + hh.val) (t.val % 64) (coord1_1 t) (blocks1 V c a H t) (outs1 V c a H h6 h7 t) hh R d

theorem stepB_dvc (t : Fin cfg1.N) (h0 : ¬t.val % 64 = 0) (xo : Vec Ideal S64x256 .bf16 × Vec Ideal S4096x256 .f32 × Vec Ideal S4096x256 .f32 × Vec Ideal S256x256 .f32 × Vec Ideal S256x256 .f32 × Vec Ideal S2x14x64x128 .f32) (hh : Fin 2) (R : Fin 256) (d : Fin 128) :
    (stepB V c t h0 xo).2.2.2.2.1 (ix2 R (col hh d)) = (xo.2.2.2.2.1 (ix2 R (col hh d)) : EReal) + (((a.tile (2 * (t.val / 64) + hh.val) (t.val % 64)).dvc R d : ℝ) : EReal) := by
  unfold stepB
  exact pt_dvc_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) xo.2.1 xo.2.2.1 xo.2.2.2.1 xo.2.2.2.2.1 xo.2.2.2.2.2 a (fun hh => 2 * (t.val / 64) + hh.val) (t.val % 64) (coord1_1 t) (blocks1 V c a H t) (outs1 V c a H h6 h7 t) hh R d

theorem outsAt1_dvc (hh : Fin 2) (R : Fin 256) (d : Fin 128) : ∀ (n : ℕ) (hn : n < cfg1.N),
    (outsAt1 V c n hn).2.2.2.2.1 (ix2 R (col hh d)) = ((∑ s ∈ Finset.range (n % 64 + 1), (a.tile (2 * (n / 64) + hh.val) s).dvc R d : ℝ) : EReal) :=
  acc_sum (fun n hn => (outsAt1 V c n hn).2.2.2.2.1 (ix2 R (col hh d))) (fun m s => (a.tile (2 * m + hh.val) s).dvc R d)
    (fun n hn h0 => (congrArg (fun x : Vec Ideal S64x256 .bf16 × Vec Ideal S4096x256 .f32 × Vec Ideal S4096x256 .f32 × Vec Ideal S256x256 .f32 × Vec Ideal S256x256 .f32 × Vec Ideal S2x14x64x128 .f32 => x.2.2.2.2.1 (ix2 R (col hh d))) (outsAt1_A V c ⟨n, hn⟩ h0)).trans
      (stepA_dvc V c a H h6 h7 ⟨n, hn⟩ h0 hh R d))
    (fun n hn h0 => (congrArg (fun x : Vec Ideal S64x256 .bf16 × Vec Ideal S4096x256 .f32 × Vec Ideal S4096x256 .f32 × Vec Ideal S256x256 .f32 × Vec Ideal S256x256 .f32 × Vec Ideal S2x14x64x128 .f32 => x.2.2.2.2.1 (ix2 R (col hh d))) (outsAt1_B V c ⟨n, hn⟩ h0)).trans
      (stepB_dvc V c a H h6 h7 ⟨n, hn⟩ h0 _ hh R d))

/-- The array of the queries' gradients. -/
theorem arr1_9 : (dat1 V c).arrAt 9 cfg1.N = fun i => ((a.dqAt (i 0).val (i 1).val : ℝ) : EReal) := by
  refine (dat1 V c).arrAt_eq_of_covers 9 _ (by decide +kernel) fun t hf y => ?_
  blk_simp [index1_9]
  rw [after1_9, eq_ix2 y, eq_col (y 1)]
  refine (outsAt1_dq V c a H h6 h7 t _ _ _).trans (congrArg (fun x : ℝ => (x : EReal)) (by_head a.dq _ _ _ _ ?_ ?_).symm)
  · show t.val % 64 * 64 + (y 0).val = 64 * (t.val % 64) + (y 0).val
    omega
  · show t.val / 64 * 256 + (128 * ((y 1).val / 128) + (y 1).val % 128) = 128 * (2 * (t.val / 64) + (y 1).val / 128) + (y 1).val % 128
    omega

omit H h6 h7 in
theorem flush1_10 : ∀ t : Fin cfg1.N, (cfg1.win 10).flush t = true → t.val % 64 = 63 :=
  (by decide +kernel : ∀ t : Fin grid1.N, _)

/-- The array of the window's keys' gradients. -/
theorem arr1_10 : (dat1 V c).arrAt 10 cfg1.N = fun i => ((a.dkRow (i 0).val (i 1).val : ℝ) : EReal) := by
  refine (dat1 V c).arrAt_eq_of_covers 10 _ (by decide +kernel) fun t hf y => ?_
  have h63 := flush1_10 t hf
  blk_simp [index1_10]
  rw [after1_10]
  rw [eq_ix2 y, eq_col (y 1)]
  refine (outsAt1_dk V c a H h6 h7 _ _ _ t.val t.isLt).trans (congrArg (fun x : ℝ => (x : EReal)) ?_)
  rw [h63]
  refine Eq.symm ?_
  refine (by_head' (fun h d => a.dk h (y 0).val d) (2 * (t.val / 64) + (y 1).val / 128) ⟨(y 1).val % 128, Nat.mod_lt _ (by decide)⟩ ?_).trans rfl
  show t.val / 64 * 256 + (128 * ((y 1).val / 128) + (y 1).val % 128) = 128 * (2 * (t.val / 64) + (y 1).val / 128) + (y 1).val % 128
  omega

omit H h6 h7 in
theorem flush1_11 : ∀ t : Fin cfg1.N, (cfg1.win 11).flush t = true → t.val % 64 = 63 :=
  (by decide +kernel : ∀ t : Fin grid1.N, _)

/-- The array of the window's values' gradients. -/
theorem arr1_11 : (dat1 V c).arrAt 11 cfg1.N = fun i => ((a.dvRow (i 0).val (i 1).val : ℝ) : EReal) := by
  refine (dat1 V c).arrAt_eq_of_covers 11 _ (by decide +kernel) fun t hf y => ?_
  have h63 := flush1_11 t hf
  blk_simp [index1_11]
  rw [after1_11]
  rw [eq_ix2 y, eq_col (y 1)]
  refine (outsAt1_dv V c a H h6 h7 _ _ _ t.val t.isLt).trans (congrArg (fun x : ℝ => (x : EReal)) ?_)
  rw [h63]
  refine Eq.symm ?_
  refine (by_head' (fun h d => a.dv h (y 0).val d) (2 * (t.val / 64) + (y 1).val / 128) ⟨(y 1).val % 128, Nat.mod_lt _ (by decide)⟩ ?_).trans rfl
  show t.val / 64 * 256 + (128 * ((y 1).val / 128) + (y 1).val % 128) = 128 * (2 * (t.val / 64) + (y 1).val / 128) + (y 1).val % 128
  omega

omit H h6 h7 in
theorem flush1_12 : ∀ t : Fin cfg1.N, (cfg1.win 12).flush t = true → t.val % 64 = 63 :=
  (by decide +kernel : ∀ t : Fin grid1.N, _)

/-- The array of the context's keys' gradients. -/
theorem arr1_12 : (dat1 V c).arrAt 12 cfg1.N = fun i => ((a.dkcRow (i 0).val (i 1).val : ℝ) : EReal) := by
  refine (dat1 V c).arrAt_eq_of_covers 12 _ (by decide +kernel) fun t hf y => ?_
  have h63 := flush1_12 t hf
  blk_simp [index1_12]
  rw [after1_12]
  rw [eq_ix2 y, eq_col (y 1)]
  refine (outsAt1_dkc V c a H h6 h7 _ _ _ t.val t.isLt).trans (congrArg (fun x : ℝ => (x : EReal)) ?_)
  rw [h63]
  refine Eq.symm ?_
  refine (by_head' (fun h d => a.dkc h ⟨(y 0).val % 256, Nat.mod_lt _ (by decide)⟩ d) (2 * (t.val / 64) + (y 1).val / 128) ⟨(y 1).val % 128, Nat.mod_lt _ (by decide)⟩ ?_).trans (congrArg (fun j => a.dkc _ j _) (Fin.ext (Nat.mod_eq_of_lt (y 0).isLt)))
  show t.val / 64 * 256 + (128 * ((y 1).val / 128) + (y 1).val % 128) = 128 * (2 * (t.val / 64) + (y 1).val / 128) + (y 1).val % 128
  omega

omit H h6 h7 in
theorem flush1_13 : ∀ t : Fin cfg1.N, (cfg1.win 13).flush t = true → t.val % 64 = 63 :=
  (by decide +kernel : ∀ t : Fin grid1.N, _)

/-- The array of the context's values' gradients. -/
theorem arr1_13 : (dat1 V c).arrAt 13 cfg1.N = fun i => ((a.dvcRow (i 0).val (i 1).val : ℝ) : EReal) := by
  refine (dat1 V c).arrAt_eq_of_covers 13 _ (by decide +kernel) fun t hf y => ?_
  have h63 := flush1_13 t hf
  blk_simp [index1_13]
  rw [after1_13]
  rw [eq_ix2 y, eq_col (y 1)]
  refine (outsAt1_dvc V c a H h6 h7 _ _ _ t.val t.isLt).trans (congrArg (fun x : ℝ => (x : EReal)) ?_)
  rw [h63]
  refine Eq.symm ?_
  refine (by_head' (fun h d => a.dvc h ⟨(y 0).val % 256, Nat.mod_lt _ (by decide)⟩ d) (2 * (t.val / 64) + (y 1).val / 128) ⟨(y 1).val % 128, Nat.mod_lt _ (by decide)⟩ ?_).trans (congrArg (fun j => a.dvc _ j _) (Fin.ext (Nat.mod_eq_of_lt (y 0).isLt)))
  show t.val / 64 * 256 + (128 * ((y 1).val / 128) + (y 1).val % 128) = 128 * (2 * (t.val / 64) + (y 1).val / 128) + (y 1).val % 128
  omega

end Run

end Args

end Cert.KernelIdeal.Na

end

end
-- ==== Proof.RefRows.lean ====
/- The reference's gathers and scatters at an index: the rows of the keys that its words name. -/
module

public import proofs.«01_k».proof.Proof.Gen.ReferenceIdeal
public import proofs.«01_k».proof.Proof.Spec
public import Idealize.ShloMosaic.Lib.Pointwise
public import Idealize.ShloMosaic.Lib.Routing.OpsPair

@[expose] public section

set_option maxRecDepth 16384

noncomputable section

namespace Cert.ReferenceIdeal.Na

open Idealize.ShloMosaic Idealize.ShloMosaic.TcCoe Idealize.ShloMosaic.Tactic
open Cert.ReferenceIdeal Cert.Na

abbrev gRow := gather_S1x64x64x8x128_S64x8x1_S1x64x8x64x8x128_0345_1_n_n_1_2_11648128
abbrev gTab := gather_S8x15x31_S64x64x8x64x2_S8x64x64x8x64_0_12_n_n_12_4_811
abbrev sRow := scatter_S1x64x64x8x128_S64x8x1_S1x64x8x64x8x128_0345_1_1_2

theorem toNat_row : ∀ n : Fin 64, min (BitVec.ofNat 32 n.val).toInt.toNat (64 - 1) = n.val := by decide +kernel
theorem toNat_15 : ∀ n : Fin 15, min (BitVec.ofNat 32 n.val).toInt.toNat (15 - 1) = n.val := by decide +kernel
theorem toNat_31 : ∀ n : Fin 31, min (BitVec.ofNat 32 n.val).toInt.toNat (31 - 1) = n.val := by decide +kernel
theorem toInt_row : ∀ n : Fin 64, (BitVec.ofNat 32 n.val).toInt = (n.val : ℤ) := by decide +kernel

theorem gather_rows {α : Type} (x : S1x64x64x8x128.Idx → α) (idx : IVec S64x8x1 32) (r : Fin 64) (i : Fin 8) (k : Fin 64) (h : Fin 8) (d : Fin 128)
    (R : Fin 64) (hR : idx (ix3 r i 0) = BitVec.ofNat 32 R.val) :
    Host.gather gRow x idx (ix6 0 r i k h d) = x (ix5 0 R k h d) := by
  unfold Host.gather
  congr 1
  funext a
  refine Fin.ext ?_
  have hs : gRow.siIdx (ix6 0 r i k h d) ⟨0, by decide⟩ = ix3 r i 0 := by
    funext b; refine Fin.ext ?_
    match b with
    | ⟨0, _⟩ => rfl
    | ⟨1, _⟩ => rfl
    | ⟨2, _⟩ => rfl
  match a with
  | ⟨0, _⟩ => exact (Nat.zero_add _).trans rfl
  | ⟨1, _⟩ =>
    show min (idx (gRow.siIdx (ix6 0 r i k h d) ⟨0, _⟩)).toInt.toNat (64 - 1) + 0 + 0 = R.val
    rw [hs, hR]; exact toNat_row R
  | ⟨2, _⟩ => exact (Nat.zero_add _).trans rfl
  | ⟨3, _⟩ => exact (Nat.zero_add _).trans rfl
  | ⟨4, _⟩ => exact (Nat.zero_add _).trans rfl

theorem gather_table {α : Type} (x : S8x15x31.Idx → α) (idx : IVec S64x64x8x64x2 32) (h : Fin 8) (r c : Fin 64) (i : Fin 8) (k : Fin 64)
    (t : Fin 15) (j : Fin 31) (ht : idx (ix5 r c i k 0) = BitVec.ofNat 32 t.val) (hj : idx (ix5 r c i k 1) = BitVec.ofNat 32 j.val) :
    Host.gather gTab x idx (ix5 h r c i k) = x (ix3 h t j) := by
  unfold Host.gather
  congr 1
  funext a
  refine Fin.ext ?_
  have hs0 : gTab.siIdx (ix5 h r c i k) ⟨0, by decide⟩ = ix5 r c i k 0 := by
    funext b; refine Fin.ext ?_
    match b with
    | ⟨0, _⟩ => rfl
    | ⟨1, _⟩ => rfl
    | ⟨2, _⟩ => rfl
    | ⟨3, _⟩ => rfl
    | ⟨4, _⟩ => rfl
  have hs1 : gTab.siIdx (ix5 h r c i k) ⟨1, by decide⟩ = ix5 r c i k 1 := by
    funext b; refine Fin.ext ?_
    match b with
    | ⟨0, _⟩ => rfl
    | ⟨1, _⟩ => rfl
    | ⟨2, _⟩ => rfl
    | ⟨3, _⟩ => rfl
    | ⟨4, _⟩ => rfl
  match a with
  | ⟨0, _⟩ => exact (Nat.zero_add _).trans rfl
  | ⟨1, _⟩ =>
    show min (idx (gTab.siIdx (ix5 h r c i k) ⟨0, _⟩)).toInt.toNat (15 - 1) + 0 + 0 = t.val
    rw [hs0, ht]; exact toNat_15 t
  | ⟨2, _⟩ =>
    show min (idx (gTab.siIdx (ix5 h r c i k) ⟨1, _⟩)).toInt.toNat (31 - 1) + 0 + 0 = j.val
    rw [hs1, hj]; exact toNat_31 j

theorem scatter_lands (idx : IVec S64x8x1 32) (r : Fin 64) (i : Fin 8) (k : Fin 64) (h : Fin 8) (d : Fin 128)
    (R : Fin 64) (hR : idx (ix3 r i 0) = BitVec.ofNat 32 R.val) :
    sRow.resultIdx? (ix6 0 r i k h d) idx = some (ix5 0 R k h d) := by
  have hs : sRow.siIdx (ix6 0 r i k h d) ⟨0, by decide⟩ = ix3 r i 0 := by
    funext b; refine Fin.ext ?_
    match b with
    | ⟨0, _⟩ => rfl
    | ⟨1, _⟩ => rfl
    | ⟨2, _⟩ => rfl
  have h1 : sRow.start (ix6 0 r i k h d) idx 1 = (R.val : ℤ) := by
    show (idx (sRow.siIdx (ix6 0 r i k h d) ⟨0, _⟩)).toInt = (R.val : ℤ)
    rw [hs, hR]; exact toInt_row R
  have key : ∀ a, sRow.start (ix6 0 r i k h d) idx a + sRow.window (ix6 0 r i k h d) a = ((ix5 (0 : Fin 1) R k h d a).val : ℤ) := by
    intro a
    match a with
    | ⟨0, _⟩ => exact (zero_add _).trans rfl
    | ⟨1, _⟩ => exact (congrArg (· + ((0 : ℕ) : ℤ)) h1).trans (add_zero _)
    | ⟨2, _⟩ => exact (zero_add _).trans rfl
    | ⟨3, _⟩ => exact (zero_add _).trans rfl
    | ⟨4, _⟩ => exact (zero_add _).trans rfl
  unfold ScatterDims.resultIdx?
  rw [dif_pos fun a => by
    rw [key a]; exact ⟨Int.natCast_nonneg _, by exact_mod_cast (ix5 (0 : Fin 1) R k h d a).isLt⟩]
  refine congrArg some (funext fun a => Fin.ext ?_)
  show (sRow.start (ix6 0 r i k h d) idx a + sRow.window (ix6 0 r i k h d) a).toNat = _
  rw [key a]; exact Int.toNat_natCast _

end Cert.ReferenceIdeal.Na

end

end
-- ==== Proof.RefBase.lean ====
/- The reference's operands at an index: the queries, the rows of keys and values that each row of queries attends to,
the words that name these rows, the mask and the cotangent. -/
module

public import proofs.«01_k».proof.Proof.Gen.ReferenceIdeal.Run
public import proofs.«01_k».proof.Proof.RefRows

@[expose] public section

set_option maxRecDepth 16384

noncomputable section

namespace Cert.ReferenceIdeal.Na

open Idealize.ShloMosaic Idealize.ShloMosaic.TcCoe Idealize.ShloMosaic.Tactic
open Cert.ReferenceIdeal Cert.ReferenceIdeal.Gen Cert.ReferenceIdeal.Value Cert.Na

/-- What the reference's arguments hold. -/
structure Holds (a : Args) (V : Valuation τ sig (Elt Ideal)) : Prop where
  h0 : ∀ (R : Fin 4096) (e : Fin 3072), V (Proc.devRef .tc main_arg0) (ix2 R e) = ((a.A R.val e.val : ℝ) : EReal)
  h1 : ∀ (j : Fin 256) (e : Fin 2048), V (Proc.devRef .tc main_arg1) (ix2 j e) = ((a.C j.val e.val : ℝ) : EReal)
  h2 : ∀ (h : Fin 8) (t : Fin 15) (j : Fin 31), V (Proc.devRef .tc main_arg2) (ix3 h t j) = ((a.P h.val t.val j.val : ℝ) : EReal)
  h3 : ∀ (R : Fin 4096) (e : Fin 2048), V (Proc.devRef .tc main_arg3) (ix2 R e) = ((a.G R.val e.val : ℝ) : EReal)

/-- A key's place among the 512 of a window. -/
def kap (i : Fin 8) (k : Fin 64) : Fin 512 := ⟨i.val * 64 + k.val, by omega⟩

theorem st_le (r : ℕ) : st r ≤ 56 := Nat.min_le_right _ _

/-! ## Words -/

theorem row_word : ∀ (r : Fin 64) (i : Fin 8), IntOp.addi (IntOp.minsi 56#32 (IntOp.maxsi 0#32 (IntOp.subi (BitVec.ofNat 32 r.val) 4#32))) (BitVec.ofNat 32 i.val)
    = BitVec.ofNat 32 (st r.val + i.val) := by decide +kernel
theorem cs_word : ∀ q : Fin 64, IntOp.minsi 48#32 (IntOp.maxsi 0#32 (IntOp.subi (BitVec.ofNat 32 q.val) 8#32)) = BitVec.ofNat 32 (cs q.val) := by
  decide +kernel
theorem ok_word : ∀ q l : Fin 64, IntOp.andi (IntOp.cmpi .sge (BitVec.ofNat 32 l.val) (BitVec.ofNat 32 (cs q.val)))
    (IntOp.cmpi .slt (BitVec.ofNat 32 l.val) (IntOp.addi (BitVec.ofNat 32 (cs q.val)) 16#32))
    = BitVec.ofBool (decide (cs q.val ≤ l.val) && decide (l.val < cs q.val + 16)) := by
  decide +kernel
theorem col_word : ∀ q l : Fin 64, IntOp.minsi 30#32 (IntOp.maxsi 0#32 (IntOp.addi (IntOp.subi (BitVec.ofNat 32 l.val) (BitVec.ofNat 32 q.val)) 15#32))
    = BitVec.ofNat 32 (min (l.val + 15 - q.val) 30) := by
  decide +kernel
theorem dist_word : ∀ (r : Fin 64) (i : Fin 8), IntOp.addi (IntOp.subi (BitVec.ofNat 32 (st r.val + i.val)) (BitVec.ofNat 32 r.val)) 7#32
    = BitVec.ofNat 32 (st r.val + i.val + 7 - r.val) := by decide +kernel
theorem dist_lt : ∀ (r : Fin 64) (i : Fin 8), st r.val + i.val + 7 - r.val < 15 := by decide +kernel
theorem wrap64 : ∀ n : Fin 64, Scalar.select (IntOp.cmpi .slt (BitVec.ofNat 32 n.val) 0#32) (IntOp.addi (BitVec.ofNat 32 n.val) 64#32) (BitVec.ofNat 32 n.val)
    = BitVec.ofNat 32 n.val := by decide +kernel
theorem wrap15 : ∀ n : Fin 15, Scalar.select (IntOp.cmpi .slt (BitVec.ofNat 32 n.val) 0#32) (IntOp.addi (BitVec.ofNat 32 n.val) 15#32) (BitVec.ofNat 32 n.val)
    = BitVec.ofNat 32 n.val := by decide +kernel
theorem wrap31 : ∀ n : Fin 31, Scalar.select (IntOp.cmpi .slt (BitVec.ofNat 32 n.val) 0#32) (IntOp.addi (BitVec.ofNat 32 n.val) 31#32) (BitVec.ofNat 32 n.val)
    = BitVec.ofNat 32 n.val := by decide +kernel

variable (V : Valuation τ sig (Elt Ideal))

theorem v12_at (r : Fin 64) : res_main_v12 V (ix1 r) = BitVec.ofNat 32 r.val := by
  unfold res_main_v12; pointwise
theorem v22_at (r : Fin 64) : res_main_v22 V (ix1 r) = BitVec.ofNat 32 r.val := by
  unfold res_main_v22; pointwise
theorem v21_at (r : Fin 64) (i : Fin 8) : res_main_v21 V (ix2 r i) = BitVec.ofNat 32 (st r.val + i.val) := by
  unfold res_main_v21; pointwise; rw [v12_at]; exact row_word r i
theorem v25_at (q : Fin 64) : res_main_v25 V (ix1 q) = BitVec.ofNat 32 (cs q.val) := by
  unfold res_main_v25; pointwise; rw [v22_at]; exact cs_word q
theorem v52_at (r : Fin 64) (i : Fin 8) : res_main_v52 V (ix4 r 0 i 0) = BitVec.ofNat 32 (st r.val + i.val + 7 - r.val) := by
  unfold res_main_v52; pointwise; rw [v21_at, v12_at]; exact dist_word r i
theorem v53_at (q l : Fin 64) : res_main_v53 V (ix4 0 q 0 l) = BitVec.ofNat 32 (min (l.val + 15 - q.val) 30) := by
  unfold res_main_v53; pointwise; rw [v22_at, v22_at]; exact col_word q l
theorem v77_at (r : Fin 64) (i : Fin 8) : res_main_v77 V (ix3 r i 0) = BitVec.ofNat 32 (st r.val + i.val) := by
  unfold res_main_v77; pointwise; rw [v21_at]; exact wrap64 ⟨st r.val + i.val, by have := st_le r.val; omega⟩
theorem v85_at (r : Fin 64) (i : Fin 8) : res_main_v85 V (ix3 r i 0) = BitVec.ofNat 32 (st r.val + i.val) := by
  unfold res_main_v85; pointwise; rw [v21_at]; exact wrap64 ⟨st r.val + i.val, by have := st_le r.val; omega⟩
theorem v93_at (h : Fin 8) (r c : Fin 64) (i : Fin 8) (k : Fin 64) : res_main_v93_1 V (ix6 0 h r c i k)
    = BitVec.ofBool (decide (cs c.val ≤ k.val) && decide (k.val < cs c.val + 16)) := by
  unfold res_main_v93_1; pointwise; rw [v22_at, v25_at]; exact ok_word c k

/-- The indices into the table of position terms. -/
def tabIdx : IVec S64x64x8x64x2 32 :=
  concatenate S64x64x8x64x2 4 [⟨S64x64x8x64x1, (broadcastInDim S64x64x8x64x1 ![0, 1, 2, 3] bcast_S64x64x8x64_S64x64x8x64x1_0_1_2_3 (broadcastInDim S64x64x8x64 ![0, 1, 2, 3] bcast_S64x1x8x1_S64x64x8x64_0_1_2_3 (select (cmpi .slt (res_main_v52 V) (broadcastInDim S64x1x8x1 ![] bcast_S_S64x1x8x1 (constantI S_ 32 0#32))) (addi (res_main_v52 V) (broadcastInDim S64x1x8x1 ![] bcast_S_S64x1x8x1 (constantI S_ 32 15#32))) (res_main_v52 V))))⟩, ⟨S64x64x8x64x1, (broadcastInDim S64x64x8x64x1 ![0, 1, 2, 3] bcast_S64x64x8x64_S64x64x8x64x1_0_1_2_3 (broadcastInDim S64x64x8x64 ![0, 1, 2, 3] bcast_S1x64x1x64_S64x64x8x64_0_1_2_3 (select (cmpi .slt (res_main_v53 V) (broadcastInDim S1x64x1x64 ![] bcast_S_S1x64x1x64 (constantI S_ 32 0#32))) (addi (res_main_v53 V) (broadcastInDim S1x64x1x64 ![] bcast_S_S1x64x1x64 (constantI S_ 32 31#32))) (res_main_v53 V))))⟩] concatenates_S64x64x8x64x1_S64x64x8x64x1_S64x64x8x64x2_d4

theorem tabIdx_0 (r c : Fin 64) (i : Fin 8) (k : Fin 64) : tabIdx V (ix5 r c i k 0) = BitVec.ofNat 32 (st r.val + i.val + 7 - r.val) := by
  unfold tabIdx; pointwise; rw [v52_at]; exact wrap15 ⟨_, dist_lt r i⟩
theorem tabIdx_1 (r c : Fin 64) (i : Fin 8) (k : Fin 64) : tabIdx V (ix5 r c i k 1) = BitVec.ofNat 32 (min (k.val + 15 - c.val) 30) := by
  unfold tabIdx; pointwise; rw [v53_at]; exact wrap31 ⟨min (k.val + 15 - c.val) 30, by omega⟩

/-! ## The operands as real numbers -/

section
variable (a : Args) (H : Holds a V)
include H

theorem v70_at (r c : Fin 64) (h : Fin 8) (d : Fin 128) : res_main_v70 V (ix5 0 r c h d) = (((a.tile h.val r.val).q c d : ℝ) : EReal) := by
  unfold res_main_v70 res_main_v1; pointwise; rw [H.h0]
  show ((a.A _ _ : ℝ) : EReal) = ((a.A (64 * r.val + c.val) (128 * h.val + d.val) : ℝ) : EReal)
  congr 2 <;> dsimp only <;> omega
theorem v7_at (j : Fin 256) (h : Fin 8) (d : Fin 128) (r : ℕ) : res_main_v7 V (ix4 0 j h d) = (((a.tile h.val r).kc j d : ℝ) : EReal) := by
  unfold res_main_v7 res_main_v6; pointwise; rw [H.h1]
  show ((a.C _ _ : ℝ) : EReal) = ((a.C j.val (128 * h.val + d.val) : ℝ) : EReal)
  congr 2 <;> dsimp only <;> omega
theorem v8_at (j : Fin 256) (h : Fin 8) (d : Fin 128) (r : ℕ) : res_main_v8 V (ix4 0 j h d) = (((a.tile h.val r).vc j d : ℝ) : EReal) := by
  unfold res_main_v8 res_main_v6; pointwise; rw [H.h1]
  show ((a.C _ _ : ℝ) : EReal) = ((a.C j.val (1024 + 128 * h.val + d.val) : ℝ) : EReal)
  congr 2 <;> dsimp only <;> omega
theorem v78_at (r : Fin 64) (i : Fin 8) (k : Fin 64) (h : Fin 8) (d : Fin 128) :
    res_main_v78 V (ix6 0 r i k h d) = (((a.tile h.val r.val).k (kap i k) d : ℝ) : EReal) := by
  have hs := st_le r.val
  unfold res_main_v78
  rw [gather_rows _ _ r i k h d ⟨st r.val + i.val, by omega⟩ (v77_at V r i)]
  unfold res_main_v1; pointwise; rw [H.h0]
  show ((a.A _ _ : ℝ) : EReal) = ((a.A (64 * st r.val + (i.val * 64 + k.val)) (1024 + 128 * h.val + d.val) : ℝ) : EReal)
  congr 2 <;> dsimp only <;> omega
theorem v86_at (r : Fin 64) (i : Fin 8) (k : Fin 64) (h : Fin 8) (d : Fin 128) :
    res_main_v86 V (ix6 0 r i k h d) = (((a.tile h.val r.val).v (kap i k) d : ℝ) : EReal) := by
  have hs := st_le r.val
  unfold res_main_v86
  rw [gather_rows _ _ r i k h d ⟨st r.val + i.val, by omega⟩ (v85_at V r i)]
  unfold res_main_v1; pointwise; rw [H.h0]
  show ((a.A _ _ : ℝ) : EReal) = ((a.A (64 * st r.val + (i.val * 64 + k.val)) (2048 + 128 * h.val + d.val) : ℝ) : EReal)
  congr 2 <;> dsimp only <;> omega
theorem bias_at (r c : Fin 64) (i : Fin 8) (k : Fin 64) (h : Fin 8) :
    Host.gather gTab (V (Proc.devRef .tc main_arg2)) (tabIdx V) (ix5 h r c i k) = (((a.tile h.val r.val).b c (kap i k) : ℝ) : EReal) := by
  rw [gather_table _ _ h r c i k ⟨_, dist_lt r i⟩ ⟨min (k.val + 15 - c.val) 30, by omega⟩ (tabIdx_0 V r c i k) (tabIdx_1 V r c i k), H.h2]
  show ((a.P h.val (st r.val + i.val + 7 - r.val) (min (k.val + 15 - c.val) 30) : ℝ) : EReal)
    = ((a.P h.val (st r.val + (i.val * 64 + k.val) / 64 + 7 - r.val) (min ((i.val * 64 + k.val) % 64 + 15 - c.val) 30) : ℝ) : EReal)
  rw [show (i.val * 64 + k.val) / 64 = i.val by omega, show (i.val * 64 + k.val) % 64 = k.val by omega]
theorem v136_at (r c : Fin 64) (h : Fin 8) (d : Fin 128) : res_main_v136 V (ix5 0 r c h d) = (((a.tile h.val r.val).g c d : ℝ) : EReal) := by
  unfold res_main_v136; pointwise; rw [H.h3]
  show ((a.G _ _ : ℝ) : EReal) = ((a.G (64 * r.val + c.val) (1024 + 128 * h.val + d.val) : ℝ) : EReal)
  congr 2 <;> dsimp only <;> omega
theorem v137_at (r c : Fin 64) (h : Fin 8) (d : Fin 128) : res_main_v137 V (ix5 0 h d r c) = (((a.tile h.val r.val).g c d : ℝ) : EReal) := by
  unfold res_main_v137; pointwise; exact v136_at V a H r c h d
theorem v141_at (r c : Fin 64) (h : Fin 8) (d : Fin 128) : res_main_v141 V (ix5 0 r h d c) = (((a.tile h.val r.val).g c d : ℝ) : EReal) := by
  unfold res_main_v141; pointwise; exact v136_at V a H r c h d

end

theorem ok_at (a : Args) (h r c : Fin 64) (i : Fin 8) (k : Fin 64) : (a.tile h.val r.val).ok c (kap i k)
    = (decide (cs c.val ≤ k.val) && decide (k.val < cs c.val + 16)) := by
  show (decide (cs c.val ≤ (i.val * 64 + k.val) % 64) && decide ((i.val * 64 + k.val) % 64 < cs c.val + 16)) = _
  rw [show (i.val * 64 + k.val) % 64 = k.val by omega]

end Cert.ReferenceIdeal.Na

end

end
-- ==== Proof.Joined.lean ====
/- The 768 keys of a query in one list: the window's 512, then the context's 256. -/
module

public import proofs.«01_k».proof.Proof.Tile

@[expose] public section

noncomputable section

namespace Cert.Na

/-- A number for each of the window's keys, then one for each of the context's. -/
def join (f : Fin 512 → ℝ) (g : Fin 256 → ℝ) (y : Fin 768) : ℝ :=
  if h : y.val < 512 then f ⟨y.val, h⟩ else g ⟨y.val - 512, by omega⟩

theorem join_lo (f : Fin 512 → ℝ) (g : Fin 256 → ℝ) (κ : Fin 512) (y : Fin 768) (h : y.val = κ.val) : join f g y = f κ := by
  have hy : y.val < 512 := h ▸ κ.isLt
  unfold join; rw [dif_pos hy]; exact congrArg f (Fin.ext h)

theorem join_hi (f : Fin 512 → ℝ) (g : Fin 256 → ℝ) (j : Fin 256) (y : Fin 768) (h : y.val = 512 + j.val) : join f g y = g j := by
  have hy : ¬y.val < 512 := by omega
  unfold join; rw [dif_neg hy]; exact congrArg g (Fin.ext (by show y.val - 512 = j.val; omega))

theorem sum_join (f : Fin 512 → ℝ) (g : Fin 256 → ℝ) : ∑ y, join f g y = ∑ κ, f κ + ∑ j, g j := by
  refine (Fin.sum_univ_add (a := 512) (b := 256) (join f g)).trans ?_
  refine congrArg₂ (· + ·) (Finset.sum_congr rfl fun κ _ => join_lo f g κ _ rfl) (Finset.sum_congr rfl fun j _ => join_hi f g j _ rfl)

theorem join_mul (f f' : Fin 512 → ℝ) (g g' : Fin 256 → ℝ) (y : Fin 768) :
    join f g y * join f' g' y = join (fun κ => f κ * f' κ) (fun j => g j * g' j) y := by
  unfold join; split <;> rfl

theorem join_div (f : Fin 512 → ℝ) (g : Fin 256 → ℝ) (z : ℝ) (y : Fin 768) : join f g y / z = join (fun κ => f κ / z) (fun j => g j / z) y := by
  unfold join; split <;> rfl

theorem join_sub (f : Fin 512 → ℝ) (g : Fin 256 → ℝ) (z : ℝ) (y : Fin 768) : join f g y - z = join (fun κ => f κ - z) (fun j => g j - z) y := by
  unfold join; split <;> rfl

namespace Tile

variable (T : Tile)

/-- The cotangent against the values. -/
def gL (c : Fin 64) (κ : Fin 512) : ℝ := ∑ d, T.g c d * T.v κ d
def gC (c : Fin 64) (j : Fin 256) : ℝ := ∑ d, T.g c d * T.vc j d

/-- Weighted by the softmax it is the cotangent against the output. -/
theorem sum_p_g (c : Fin 64) : ∑ κ, T.pL c κ * T.gL c κ + ∑ j, T.pC c j * T.gC c j = T.delta c := by
  unfold delta o gL gC
  simp only [mul_add, Finset.sum_add_distrib, Finset.mul_sum]
  congr 1
  · rw [Finset.sum_comm]; exact Finset.sum_congr rfl fun d _ => Finset.sum_congr rfl fun κ _ => by ring
  · rw [Finset.sum_comm]; exact Finset.sum_congr rfl fun d _ => Finset.sum_congr rfl fun κ _ => by ring

/-- The exponentials, the softmax, the cotangent against the values and the gradients of the scores, over all 768. -/
def w (c : Fin 64) : Fin 768 → ℝ := join (T.wL c) (T.wC c)
def p (c : Fin 64) : Fin 768 → ℝ := join (T.pL c) (T.pC c)
def dp (c : Fin 64) : Fin 768 → ℝ := join (T.gL c) (T.gC c)
def ds (c : Fin 64) : Fin 768 → ℝ := join (T.dsL c) (T.dsC c)

theorem sum_w (c : Fin 64) : ∑ y, T.w c y = T.Z c := sum_join _ _

theorem p_eq (c : Fin 64) (y : Fin 768) : T.p c y = T.w c y / T.Z c := (join_div _ _ _ y).symm

theorem sum_p_dp (c : Fin 64) : ∑ y, T.p c y * T.dp c y = T.delta c := by
  unfold p dp
  simp only [join_mul]
  rw [sum_join, sum_p_g]

theorem ds_eq (c : Fin 64) (y : Fin 768) : T.ds c y = T.p c y * (T.dp c y - T.delta c) := by
  unfold p dp ds
  rw [join_sub, join_mul]; rfl

/-- The gradient of a score as a derivative of the quotient. -/
theorem ds_quot (c : Fin 64) (y : Fin 768) {E : ℝ} (hE : E ≠ 0) :
    (T.dp c y / (T.Z c * E) + -∑ y', T.dp c y' * (1 / ((T.Z c * E) * (T.Z c * E))) * (T.w c y' * E)) * (T.w c y * E) = T.ds c y := by
  have hZ := T.Z_ne c
  have h1 : ∑ y', T.dp c y' * (1 / ((T.Z c * E) * (T.Z c * E))) * (T.w c y' * E) = T.delta c / (T.Z c * E) := by
    rw [← T.sum_p_dp c, Finset.sum_div]
    refine Finset.sum_congr rfl fun y' _ => ?_
    rw [p_eq]; field_simp
  rw [h1, ds_eq, p_eq]; field_simp; ring

/-- A masked key has no gradient. -/
theorem dsL_masked (c : Fin 64) (κ : Fin 512) (h : T.ok c κ = false) : T.dsL c κ = 0 := by
  unfold dsL pL wL weight; rw [h]; simp

end Tile

end Cert.Na

end

end
-- ==== Proof.RefScores.lean ====
/- The reference's scores and their softmax at an index. -/
module

public import proofs.«01_k».proof.Proof.RefBase
public import proofs.«01_k».proof.Proof.Joined

@[expose] public section

set_option maxRecDepth 16384

noncomputable section

namespace Cert.ReferenceIdeal.Na

open Idealize.ShloMosaic Idealize.ShloMosaic.TcCoe Idealize.ShloMosaic.Tactic
open Cert.ReferenceIdeal Cert.ReferenceIdeal.Gen Cert.ReferenceIdeal.Value Cert.Na

/-- Products and differences of extended real numbers, for elements whose type is a buffer's. -/
abbrev mulE (x y : EReal) : EReal := x * y
@[inherit_doc mulE] abbrev subE (x y : EReal) : EReal := x - y

theorem eq_kap (y : Fin 768) (hy : y.val < 512) : (⟨y.val, hy⟩ : Fin 512) = kap ⟨y.val / 64, by omega⟩ ⟨y.val % 64, by omega⟩ :=
  Fin.ext (by show y.val = y.val / 64 * 64 + y.val % 64; omega)

/-- An index of a rank-5 array with one plane, by its coordinates. -/
theorem eq_ix5 {n1 n2 n3 n4 : ℕ} (y : (⟨5, ![1, n1, n2, n3, n4]⟩ : Shape).Idx) : y = ix5 0 (y 1) (y 2) (y 3) (y 4) := by
  funext k
  match k with
  | ⟨0, _⟩ => exact Subsingleton.elim (α := Fin 1) _ _
  | ⟨1, _⟩ => rfl
  | ⟨2, _⟩ => rfl
  | ⟨3, _⟩ => rfl
  | ⟨4, _⟩ => rfl

/-- The largest of finitely many scores is a real number, if one of them is and none is +∞. -/
theorem exists_fold_max_on {ι : Type*} (s : Finset ι) (u : ι → EReal) (hu : ∀ i, u i ≠ ⊤) (i₀ : ι) (hi : i₀ ∈ s) (h₀ : u i₀ ≠ ⊥) :
    ∃ m : ℝ, s.fold max (⊥ : EReal) u = (m : EReal) := by
  have h1 : s.fold max (⊥ : EReal) u < ⊤ :=
    (Finset.fold_max_lt _).2 ⟨bot_lt_top, fun i _ => lt_top_iff_ne_top.2 (hu i)⟩
  have h2 : (⊥ : EReal) < s.fold max (⊥ : EReal) u :=
    (Finset.lt_fold_max _).2 (.inr ⟨i₀, hi, bot_lt_iff_ne_bot.2 h₀⟩)
  exact ⟨_, (EReal.coe_toReal h1.ne h2.ne').symm⟩

/-- The exponential of a score less a row's shift, read at an index. -/
theorem soft_exp (X : S1x8x64x64x768.Idx → EReal) (b : S_.Idx → EReal) (Y : S1x8x64x64.Idx → EReal) (h : Fin 8) (r c : Fin 64) (y : Fin 768) :
    Host.exp (F := Ideal) (φ := .f32) (subf (F := Ideal) (φ := .f32) X (broadcastInDim S1x8x64x64x768 ![0, 1, 2, 3, 4] bcast_S1x8x64x64x1_S1x8x64x64x768_0_1_2_3_4
      (broadcastInDim S1x8x64x64x1 ![0, 1, 2, 3] bcast_S1x8x64x64_S1x8x64x64x1_0_1_2_3
        (maximumf (F := Ideal) (φ := .f32) (broadcastInDim S1x8x64x64 ![] bcast_S_S1x8x64x64 b) Y)))) (ix5 0 h r c y)
      = Ideal.exp (X (ix5 0 h r c y) - max (b ix0) (Y (ix4 0 h r c))) := by
  pointwise

variable (V : Valuation τ sig (Elt Ideal)) (a : Args) (H : Holds a V)
include H

/-- The window's scores. -/
theorem v98_lo (h : Fin 8) (r c : Fin 64) (y : Fin 768) (hy : y.val < 512) : res_main_v98 V (ix5 0 h r c y)
    = masked ((a.tile h.val r.val).ok c ⟨y.val, hy⟩) ((a.tile h.val r.val).xL c ⟨y.val, hy⟩) := by
  have e : res_main_v98 V (ix5 0 h r c y) = Scalar.select (res_main_v93_1 V (ix6 0 h r c ⟨y.val / 64, by omega⟩ ⟨y.val % 64, by omega⟩))
      (((∑ x, mulE (res_main_v70 V (ix5 0 r c h x)) (res_main_v78 V (ix6 0 r ⟨y.val / 64, by omega⟩ ⟨y.val % 64, by omega⟩ h x))) * Ideal.ofBits FTy.f32 0x3DB504F3#32
        + Host.gather gTab (V (Proc.devRef .tc main_arg2)) (tabIdx V) (ix5 h r c ⟨y.val / 64, by omega⟩ ⟨y.val % 64, by omega⟩) : EReal))
      (Ideal.ofBits FTy.f32 0xFF800000#32) := by
    unfold res_main_v98
    pointwise
    rw [dif_pos hy]
    rfl
  rw [e, v93_at, bias_at V a H, ofBits_sigma, ofBits_bot, eq_kap y hy]
  simp only [mulE, v70_at V a H, v78_at V a H, ← EReal.coe_mul, coe_sum, ← EReal.coe_add]
  have ho : (a.tile h.val r.val).ok c (kap ⟨y.val / 64, by omega⟩ ⟨y.val % 64, by omega⟩)
      = (decide (cs c.val ≤ y.val % 64) && decide (y.val % 64 < cs c.val + 16)) := ok_at a ⟨h.val, by omega⟩ r c ⟨y.val / 64, by omega⟩ ⟨y.val % 64, by omega⟩
  rw [ho]
  cases (decide (cs c.val ≤ y.val % 64) && decide (y.val % 64 < cs c.val + 16)) <;> rfl

/-- The context's scores. -/
theorem v98_hi (h : Fin 8) (r c : Fin 64) (y : Fin 768) (hy : ¬y.val < 512) : res_main_v98 V (ix5 0 h r c y)
    = (((a.tile h.val r.val).xC c ⟨y.val - 512, by omega⟩ : ℝ) : EReal) := by
  have e : res_main_v98 V (ix5 0 h r c y) = ((∑ x, mulE (res_main_v70 V (ix5 0 r c h x)) (res_main_v7 V (ix4 0 ⟨y.val - 512, by omega⟩ h x))) * Ideal.ofBits FTy.f32 0x3DB504F3#32 : EReal) := by
    unfold res_main_v98
    pointwise
    rw [dif_neg hy]
  rw [e, ofBits_sigma]
  simp only [mulE, v70_at V a H, v7_at V a H _ _ _ r.val, ← EReal.coe_mul, coe_sum]
  rfl

theorem v98_ne_top (y : S1x8x64x64x768.Idx) : res_main_v98 V y ≠ (⊤ : EReal) := by
  rw [eq_ix5 y]
  by_cases hy : (y 4).val < 512
  · refine (congrArg (· ≠ (⊤ : EReal)) (v98_lo V a H (y 1) (y 2) (y 3) (y 4) hy)).mpr ?_
    unfold masked; split
    · exact EReal.coe_ne_top _
    · exact bot_ne_top
  · exact (congrArg (· ≠ (⊤ : EReal)) (v98_hi V a H (y 1) (y 2) (y 3) (y 4) hy)).mpr (EReal.coe_ne_top _)

theorem v99_real (h : Fin 8) (r c : Fin 64) : ∃ M : ℝ, res_main_v99 V (ix4 0 h r c) = (M : EReal) := by
  have e : res_main_v99 V (ix4 0 h r c) = (Finset.univ.filter fun i => reducesTo_S1x8x64x64x768_S1x8x64x64_d4.drop i = ix4 0 h r c).fold max
      (Ideal.ofBits FTy.f32 0xFF800000#32) (res_main_v98 V) := by
    unfold res_main_v99
    exact Host.reduce_eq_fold (FloatOps.maximumf (F := Ideal) (φ := .f32)) _ _ _ _ _
  rw [e, ofBits_bot]
  refine exists_fold_max_on _ _ (v98_ne_top V a H) (ix5 0 h r c 512) (Finset.mem_filter.2 ⟨Finset.mem_univ _, ?_⟩) ?_
  · funext b
    refine Fin.ext ((reducesTo_S1x8x64x64x768_S1x8x64x64_d4.drop_apply_val _ b).trans ?_)
    match b with
    | ⟨0, _⟩ => rfl
    | ⟨1, _⟩ => rfl
    | ⟨2, _⟩ => rfl
    | ⟨3, _⟩ => rfl
  · exact (congrArg (· ≠ (⊥ : EReal)) (v98_hi V a H h r c 512 (by decide))).mpr (EReal.coe_ne_bot _)

omit H in
theorem v119_eq (h : Fin 8) (r c : Fin 64) (y : Fin 768) : res_main_v119 V (ix5 0 h r c y)
    = Ideal.exp (subE (res_main_v98 V (ix5 0 h r c y)) (max (constant (F := Ideal) S_ .f32 0xFF800000#32 ix0) (res_main_v99 V (ix4 0 h r c)))) :=
  soft_exp (res_main_v98 V) (constant (F := Ideal) S_ .f32 0xFF800000#32) (res_main_v99 V) h r c y

omit H in
theorem const_bot : constant (F := Ideal) S_ .f32 0xFF800000#32 ix0 = (⊥ : EReal) := ofBits_bot

/-- A score less the largest, in the exponential. -/
theorem exp_score (h : Fin 8) (r c : Fin 64) (y : Fin 768) (M : ℝ) :
    Ideal.exp (subE (res_main_v98 V (ix5 0 h r c y)) (M : EReal)) = (((a.tile h.val r.val).w c y * Real.exp (-M) : ℝ) : EReal) := by
  unfold Tile.w join
  by_cases hy : y.val < 512
  · rw [v98_lo V a H h r c y hy, dif_pos hy, subE, exp_masked_sub]; rfl
  · rw [v98_hi V a H h r c y hy, dif_neg hy, subE, exp_sub]; rfl

/-- The exponentials, up to one factor for each query. -/
theorem exists_scale (h : Fin 8) (r c : Fin 64) : ∃ E : ℝ, E ≠ 0 ∧ ∀ y, res_main_v119 V (ix5 0 h r c y) = (((a.tile h.val r.val).w c y * E : ℝ) : EReal) := by
  obtain ⟨M, hM⟩ := v99_real V a H h r c
  refine ⟨Real.exp (-M), (Real.exp_pos _).ne', fun y => ?_⟩
  rw [v119_eq, const_bot, hM, max_eq_right bot_le, exp_score V a H]

/-- The factor. -/
def scale (h : Fin 8) (r c : Fin 64) : ℝ := (exists_scale V a H h r c).choose
theorem scale_ne (h : Fin 8) (r c : Fin 64) : scale V a H h r c ≠ 0 := (exists_scale V a H h r c).choose_spec.1
theorem v119_at (h : Fin 8) (r c : Fin 64) (y : Fin 768) : res_main_v119 V (ix5 0 h r c y) = (((a.tile h.val r.val).w c y * scale V a H h r c : ℝ) : EReal) :=
  (exists_scale V a H h r c).choose_spec.2 y

theorem v121_at (h : Fin 8) (r c : Fin 64) : res_main_v121 V (ix5 0 h r c 0) = (((a.tile h.val r.val).Z c * scale V a H h r c : ℝ) : EReal) := by
  have e : res_main_v121 V (ix5 0 h r c 0) = (∑ y, res_main_v119 V (ix5 0 h r c y) : EReal) := by
    unfold res_main_v121; pointwise
  rw [e]
  simp only [mulE, v119_at V a H, coe_sum]
  rw [← Finset.sum_mul, Tile.sum_w]

theorem Zs_ne (h : Fin 8) (r c : Fin 64) : (a.tile h.val r.val).Z c * scale V a H h r c ≠ 0 := mul_ne_zero (Tile.Z_ne _ c) (scale_ne V a H h r c)

theorem v123_at (h : Fin 8) (r c : Fin 64) (y : Fin 768) : res_main_v123 V (ix5 0 h r c y) = (((a.tile h.val r.val).p c y : ℝ) : EReal) := by
  have e : res_main_v123 V (ix5 0 h r c y) = Ideal.div (res_main_v119 V (ix5 0 h r c y)) (res_main_v121 V (ix5 0 h r c 0)) := by
    unfold res_main_v123; pointwise
  rw [e, v119_at V a H, v121_at V a H, div_coe _ (Zs_ne V a H h r c), Tile.p_eq, mul_div_mul_right _ _ (scale_ne V a H h r c)]

theorem v128_at (h : Fin 8) (r c : Fin 64) (i : Fin 8) (k : Fin 64) : res_main_v128 V (ix6 0 h r c i k) = (((a.tile h.val r.val).pL c (kap i k) : ℝ) : EReal) := by
  have e : res_main_v128 V (ix6 0 h r c i k) = res_main_v123 V (ix5 0 h r c ⟨i.val * 64 + k.val, by omega⟩) := by
    unfold res_main_v128; pointwise
  rw [e, v123_at V a H]
  exact congrArg (fun x : ℝ => (x : EReal)) (join_lo _ _ (kap i k) _ rfl)

theorem v129_at (h : Fin 8) (r c : Fin 64) (j : Fin 256) : res_main_v129 V (ix5 0 h r c j) = (((a.tile h.val r.val).pC c j : ℝ) : EReal) := by
  have e : res_main_v129 V (ix5 0 h r c j) = res_main_v123 V (ix5 0 h r c ⟨512 + j.val, by omega⟩) := by
    unfold res_main_v129; pointwise
  rw [e, v123_at V a H]
  exact congrArg (fun x : ℝ => (x : EReal)) (join_hi _ _ j _ rfl)

/-- The cotangent against the values. -/
theorem v149_at (h : Fin 8) (r c : Fin 64) (y : Fin 768) : res_main_v149 V (ix5 0 h r c y) = (((a.tile h.val r.val).dp c y : ℝ) : EReal) := by
  have e : res_main_v149 V (ix5 0 h r c y) = ((if h1 : 512 ≤ y.val ∧ y.val - 512 < 256 then
        ∑ x, mulE (res_main_v137 V (ix5 0 h x r c)) (res_main_v8 V (ix4 0 ⟨y.val - 512, by omega⟩ h x)) else 0) +
      (if h1 : y.val < 512 then
        ∑ x, mulE (res_main_v141 V (ix5 0 r h x c)) (res_main_v86 V (ix6 0 r ⟨y.val / 64, by omega⟩ ⟨y.val % 64, by omega⟩ h x)) else 0) : EReal) := by
    unfold res_main_v149; pointwise
  rw [e]
  unfold Tile.dp join
  by_cases hy : y.val < 512
  · rw [dif_neg (by omega), dif_pos hy, dif_pos hy, zero_add, eq_kap y hy]
    simp only [mulE, v141_at V a H, v86_at V a H, ← EReal.coe_mul, coe_sum]
    rfl
  · rw [dif_pos ⟨by omega, by omega⟩, dif_neg hy, dif_neg hy, add_zero]
    simp only [mulE, v137_at V a H, v8_at V a H _ _ _ r.val, ← EReal.coe_mul, coe_sum]
    rfl

end Cert.ReferenceIdeal.Na

end

end
-- ==== Proof.RefGrads.lean ====
/- The reference's gradients of the scores at an index. -/
module

public import proofs.«01_k».proof.Proof.RefScores

@[expose] public section

set_option maxRecDepth 16384

noncomputable section

namespace Cert.ReferenceIdeal.Na

open Idealize.ShloMosaic Idealize.ShloMosaic.TcCoe Idealize.ShloMosaic.Tactic
open Cert.ReferenceIdeal Cert.ReferenceIdeal.Gen Cert.ReferenceIdeal.Value Cert.Na

/-- The derivative of a quotient, read at an index: the numerator's share, the denominator's, and the factor of both. -/
theorem quot_read (D W : S1x8x64x64x768.Idx → EReal) (Z : S1x8x64x64x1.Idx → EReal) (Q : S8x64x64.Idx → EReal)
    (h : Fin 8) (r c : Fin 64) (y : Fin 768) :
    mulf (F := Ideal) (φ := .f32) (addf (F := Ideal) (φ := .f32) (Host.divf (F := Ideal) (φ := .f32) D (broadcastInDim S1x8x64x64x768 ![0, 1, 2, 3, 4] bcast_S1x8x64x64x1_S1x8x64x64x768_0_1_2_3_4 Z))
      (broadcastInDim S1x8x64x64x768 ![0, 1, 2, 3] bcast_S1x8x64x64_S1x8x64x64x768_0_1_2_3
        (broadcastInDim S1x8x64x64 ![1, 2, 3] bcast_S8x64x64_S1x8x64x64_1_2_3 Q))) W (ix5 0 h r c y)
      = (Ideal.div (D (ix5 0 h r c y)) (Z (ix5 0 h r c 0)) + Q (ix3 h r c)) * W (ix5 0 h r c y) := by
  pointwise

/-- A sum over two dimensions of one element each is its one term. -/
theorem unit_sum (x : S1x8x64x64x1.Idx → EReal) (h : Fin 8) (r c : Fin 64) :
    Host.reduceAdd (F := Ideal) (φ := .f32) x (constant S_ .f32 0x00000000#32) reducesTo_S1x8x64x64x1_S8x64x64_d0_4 h_S_ (ix3 h r c)
      = x (ix5 0 h r c 0) := by
  have e : Host.reduceAdd (F := Ideal) (φ := .f32) x (constant S_ .f32 0x00000000#32) reducesTo_S1x8x64x64x1_S8x64x64_d0_4 h_S_ (ix3 h r c)
      = Ideal.hostReduceAdd reducesTo_S1x8x64x64x1_S8x64x64_d0_4 x 0 (ix3 h r c) := by pointwise
  have f : (Finset.univ.filter fun i => reducesTo_S1x8x64x64x1_S8x64x64_d0_4.drop i = ix3 h r c) = {ix5 0 h r c 0} := by
    ext i
    simp only [Finset.mem_filter, Finset.mem_univ, true_and, Finset.mem_singleton]
    constructor
    · intro hi
      have k1 : (i 1).val = h.val := ((reducesTo_S1x8x64x64x1_S8x64x64_d0_4.drop_apply_val i 0).symm.trans (congrArg (fun j : S8x64x64.Idx => (j 0).val) hi))
      have k2 : (i 2).val = r.val := ((reducesTo_S1x8x64x64x1_S8x64x64_d0_4.drop_apply_val i 1).symm.trans (congrArg (fun j : S8x64x64.Idx => (j 1).val) hi))
      have k3 : (i 3).val = c.val := ((reducesTo_S1x8x64x64x1_S8x64x64_d0_4.drop_apply_val i 2).symm.trans (congrArg (fun j : S8x64x64.Idx => (j 2).val) hi))
      funext k
      match k with
      | ⟨0, _⟩ => exact Subsingleton.elim (α := Fin 1) _ _
      | ⟨1, _⟩ => exact Fin.ext k1
      | ⟨2, _⟩ => exact Fin.ext k2
      | ⟨3, _⟩ => exact Fin.ext k3
      | ⟨4, _⟩ => exact Subsingleton.elim (α := Fin 1) _ _
    · rintro rfl
      funext b
      refine Fin.ext ((reducesTo_S1x8x64x64x1_S8x64x64_d0_4.drop_apply_val _ b).trans ?_)
      match b with
      | ⟨0, _⟩ => rfl
      | ⟨1, _⟩ => rfl
      | ⟨2, _⟩ => rfl
  rw [e]
  unfold Ideal.hostReduceAdd
  rw [f, Finset.sum_singleton, zero_add]

/-- The denominator's share at an index. -/
theorem neg_read (D W : S1x8x64x64x768.Idx → EReal) (Z : S1x8x64x64x1.Idx → EReal) (b : S_.Idx → EReal) (h : Fin 8) (r c : Fin 64) :
    Host.negf (F := Ideal) (φ := .f32) (shapeCast S1x8x64x64x1 (Host.reduceAdd (F := Ideal) (φ := .f32)
      (mulf (F := Ideal) (φ := .f32) (mulf (F := Ideal) (φ := .f32) D (broadcastInDim S1x8x64x64x768 ![0, 1, 2, 3, 4] bcast_S1x8x64x64x1_S1x8x64x64x768_0_1_2_3_4
        (Host.divf (F := Ideal) (φ := .f32) (broadcastInDim S1x8x64x64x1 ![] bcast_S_S1x8x64x64x1 b) (mulf (F := Ideal) (φ := .f32) Z Z)))) W)
      (constant S_ .f32 0x00000000#32) reducesTo_S1x8x64x64x768_S1x8x64x64_d4 h_S_) shapeCasts_S1x8x64x64_S1x8x64x64x1) (ix5 0 h r c 0)
      = -∑ y, D (ix5 0 h r c y) * Ideal.div (b ix0) (Z (ix5 0 h r c 0) * Z (ix5 0 h r c 0)) * W (ix5 0 h r c y) := by
  pointwise

theorem const_one : constant (F := Ideal) S_ .f32 0x3F800000#32 ix0 = ((1 : ℝ) : EReal) := by
  simp [constant, Ideal.ofBits, Ideal.ieee]
  rw [← EReal.coe_mul]
  norm_num

theorem const_sigma : constant (F := Ideal) S_ .f32 0x3DB504F3#32 ix0 = ((sigma : ℝ) : EReal) := ofBits_sigma

variable (V : Valuation τ sig (Elt Ideal)) (a : Args) (H : Holds a V)

theorem v162_eq (h : Fin 8) (r c : Fin 64) (y : Fin 768) : res_main_v162 V (ix5 0 h r c y)
    = mulE (Ideal.div (res_main_v149 V (ix5 0 h r c y)) (res_main_v121 V (ix5 0 h r c 0))
        + (-∑ y', mulE (mulE (res_main_v149 V (ix5 0 h r c y')) (Ideal.div (constant (F := Ideal) S_ .f32 0x3F800000#32 ix0)
          (mulE (res_main_v121 V (ix5 0 h r c 0)) (res_main_v121 V (ix5 0 h r c 0))))) (res_main_v119 V (ix5 0 h r c y'))))
      (res_main_v119 V (ix5 0 h r c y)) := by
  refine (quot_read (res_main_v149 V) (res_main_v119 V) (res_main_v121 V) _ h r c y).trans ?_
  refine congrArg (fun x : EReal => mulE (Ideal.div (res_main_v149 V (ix5 0 h r c y)) (res_main_v121 V (ix5 0 h r c 0)) + x) (res_main_v119 V (ix5 0 h r c y))) ?_
  exact (unit_sum _ h r c).trans (neg_read (res_main_v149 V) (res_main_v119 V) (res_main_v121 V) (constant (F := Ideal) S_ .f32 0x3F800000#32) h r c)

include H

theorem v162_at (h : Fin 8) (r c : Fin 64) (y : Fin 768) : res_main_v162 V (ix5 0 h r c y) = (((a.tile h.val r.val).ds c y : ℝ) : EReal) := by
  rw [v162_eq, v149_at V a H, v121_at V a H, v119_at V a H, const_one]
  simp only [mulE, v149_at V a H, v119_at V a H, ← EReal.coe_mul]
  rw [div_coe _ (Zs_ne V a H h r c), div_coe _ (mul_ne_zero (Zs_ne V a H h r c) (Zs_ne V a H h r c))]
  simp only [← EReal.coe_mul, coe_sum, ← EReal.coe_neg, ← EReal.coe_add]
  exact congrArg (fun x : ℝ => (x : EReal)) (Tile.ds_quot _ c y (scale_ne V a H h r c))

theorem v166_at (h : Fin 8) (r c : Fin 64) (j : Fin 256) : res_main_v166 V (ix5 0 h r c j) = (((a.tile h.val r.val).dsC c j * sigma : ℝ) : EReal) := by
  have e : res_main_v166 V (ix5 0 h r c j) = mulE (res_main_v162 V (ix5 0 h r c ⟨512 + j.val, by omega⟩)) (Ideal.ofBits .f32 0x3DB504F3#32) := by
    unfold res_main_v166
    generalize res_main_v162 V = X
    pointwise
  rw [e, v162_at V a H, ofBits_sigma, mulE, ← EReal.coe_mul]
  exact congrArg (fun x : ℝ => ((x * sigma : ℝ) : EReal)) (join_hi _ _ j _ rfl)

theorem v174_at (h : Fin 8) (r c : Fin 64) (i : Fin 8) (k : Fin 64) : res_main_v174 V (ix6 0 h r c i k)
    = (((a.tile h.val r.val).dsL c (kap i k) * sigma : ℝ) : EReal) := by
  have e : res_main_v174 V (ix6 0 h r c i k) = mulE (Scalar.select (res_main_v93_1 V (ix6 0 h r c i k))
      (res_main_v162 V (ix5 0 h r c ⟨i.val * 64 + k.val, by omega⟩)) (0 : EReal)) (Ideal.ofBits .f32 0x3DB504F3#32) := by
    unfold res_main_v174
    generalize res_main_v162 V = X
    generalize res_main_v93_1 V = Y
    pointwise
  have ho : (a.tile h.val r.val).ok c (kap i k) = (decide (cs c.val ≤ k.val) && decide (k.val < cs c.val + 16)) := ok_at a ⟨h.val, by omega⟩ r c i k
  have hd : (a.tile h.val r.val).ds c ⟨i.val * 64 + k.val, by omega⟩ = (a.tile h.val r.val).dsL c (kap i k) := join_lo _ _ (kap i k) _ rfl
  rw [e, v162_at V a H, ofBits_sigma, v93_at, hd, EReal.coe_mul, mulE]
  refine congrArg (fun x : EReal => x * (sigma : EReal)) ?_
  rw [← ho]
  by_cases hk : (a.tile h.val r.val).ok c (kap i k) = true
  · rw [hk]; rfl
  · rw [Bool.not_eq_true] at hk
    rw [hk, Tile.dsL_masked _ c _ hk]; rfl

end Cert.ReferenceIdeal.Na

end

end
-- ==== Proof.RefOut.lean ====
/- The reference's results at an index: products, and sums over the rows whose window holds a key. -/
module

public import proofs.«01_k».proof.Proof.RefGrads

@[expose] public section

set_option maxRecDepth 16384

noncomputable section

namespace Cert.ReferenceIdeal.Na

open Idealize.ShloMosaic Idealize.ShloMosaic.TcCoe Idealize.ShloMosaic.Tactic
open Cert.ReferenceIdeal Cert.ReferenceIdeal.Gen Cert.ReferenceIdeal.Value Cert.Na

/-! The results as functions of the arrays they are made of. -/

def outO (K : S1x64x8x64x8x128.Idx → EReal) (P : S1x8x64x64x8x64.Idx → EReal) (C : S1x256x8x128.Idx → EReal) (Q : S1x8x64x64x256.Idx → EReal) : S4096x1024.Idx → EReal :=
  truncf (F := Ideal) (φ := .f32) .bf16 (shapeCast S4096x1024 (shapeCast S1x4096x1024 (addf (F := Ideal) (φ := .f32)
    (transpose S1x64x64x8x128 [0, 1, 4, 2, 3] (Host.dotGeneral (F := Ideal) (φ₁ := .f32) (φ₂ := .f32) dot_S1x64x8x64x8x128_S1x8x64x64x8x64_S1x64x8x128x64_23_45_5_3_014_021 none K P) transposes_S1x64x8x128x64_S1x64x64x8x128_0_1_4_2_3)
    (transpose S1x64x64x8x128 [0, 3, 4, 1, 2] (Host.dotGeneral (F := Ideal) (φ₁ := .f32) (φ₂ := .f32) dot_S1x256x8x128_S1x8x64x64x256_S1x8x128x64x64_1_4_3_23_02_01 none C Q) transposes_S1x8x128x64x64_S1x64x64x8x128_0_3_4_1_2))
    shapeCasts_S1x64x64x8x128_S1x4096x1024) shapeCasts_S1x4096x1024_S4096x1024) bitsLt_bf16_f32

def outQ (Q : S1x8x64x64x256.Idx → EReal) (C : S1x256x8x128.Idx → EReal) (P : S1x8x64x64x8x64.Idx → EReal) (K : S1x64x8x64x8x128.Idx → EReal) : S4096x1024.Idx → EReal :=
  truncf (F := Ideal) (φ := .f32) .bf16 (shapeCast S4096x1024 (shapeCast S1x4096x8x128 (addf (F := Ideal) (φ := .f32)
    (transpose S1x64x64x8x128 [0, 2, 3, 1, 4] (Host.dotGeneral (F := Ideal) (φ₁ := .f32) (φ₂ := .f32) dot_S1x8x64x64x256_S1x256x8x128_S1x8x64x64x128_4_1_23_3_01_02 none Q C) transposes_S1x8x64x64x128_S1x64x64x8x128_0_2_3_1_4)
    (transpose S1x64x64x8x128 [0, 2, 3, 1, 4] (Host.dotGeneral (F := Ideal) (φ₁ := .f32) (φ₂ := .f32) dot_S1x8x64x64x8x64_S1x64x8x64x8x128_S1x8x64x64x128_45_23_3_5_012_041 none P K) transposes_S1x8x64x64x128_S1x64x64x8x128_0_2_3_1_4))
    shapeCasts_S1x64x64x8x128_S1x4096x8x128) shapeCasts_S1x4096x8x128_S4096x1024) bitsLt_bf16_f32

/-- The updates of the keys' gradient and of the values'. -/
def updK (P : S1x8x64x64x8x64.Idx → EReal) (X : S1x64x64x8x128.Idx → EReal) : S1x64x8x64x8x128.Idx → EReal :=
  transpose S1x64x8x64x8x128 [0, 2, 3, 4, 1, 5] (Host.dotGeneral (F := Ideal) (φ₁ := .f32) (φ₂ := .f32) dot_S1x8x64x64x8x64_S1x64x64x8x128_S1x8x64x8x64x128_3_2_45_4_012_031 none P X) transposes_S1x8x64x8x64x128_S1x64x8x64x8x128_0_2_3_4_1_5
def updV (G : S1x64x8x128x64.Idx → EReal) (P : S1x8x64x64x8x64.Idx → EReal) : S1x64x8x64x8x128.Idx → EReal :=
  transpose S1x64x8x64x8x128 [0, 1, 4, 5, 2, 3] (Host.dotGeneral (F := Ideal) (φ₁ := .f32) (φ₂ := .f32) dot_S1x64x8x128x64_S1x8x64x64x8x64_S1x64x8x128x8x64_4_3_3_45_012_021 none G P) transposes_S1x64x8x128x8x64_S1x64x8x64x8x128_0_1_4_5_2_3

/-- The updates added up at the rows the words name. -/
def outRows (idx : IVec S64x8x1 32) (U : S1x64x8x64x8x128.Idx → EReal) : S4096x1024.Idx → EReal :=
  shapeCast S4096x1024 (shapeCast S1x4096x8x128 (Host.scatterAdd (F := Ideal) (φ := .f32) scatter_S1x64x64x8x128_S64x8x1_S1x64x8x64x8x128_0345_1_1_2
    (broadcastInDim S1x64x64x8x128 ![] bcast_S_S1x64x64x8x128 (constant S_ .f32 0x00000000#32)) idx U) shapeCasts_S1x64x64x8x128_S1x4096x8x128) shapeCasts_S1x4096x8x128_S4096x1024

def outKc (Q : S1x8x64x64x256.Idx → EReal) (X : S1x64x64x8x128.Idx → EReal) : S256x1024.Idx → EReal :=
  shapeCast S256x1024 (transpose S1x256x8x128 [0, 2, 1, 3] (Host.dotGeneral (F := Ideal) (φ₁ := .f32) (φ₂ := .f32) dot_S1x8x64x64x256_S1x64x64x8x128_S1x8x256x128_23_12_4_4_01_03 none Q X) transposes_S1x8x256x128_S1x256x8x128_0_2_1_3) shapeCasts_S1x256x8x128_S256x1024
def outVc (G : S1x8x128x64x64.Idx → EReal) (Q : S1x8x64x64x256.Idx → EReal) : S256x1024.Idx → EReal :=
  shapeCast S256x1024 (transpose S1x256x8x128 [0, 3, 1, 2] (Host.dotGeneral (F := Ideal) (φ₁ := .f32) (φ₂ := .f32) dot_S1x8x128x64x64_S1x8x64x64x256_S1x8x128x256_34_23_2_4_01_01 none G Q) transposes_S1x8x128x256_S1x256x8x128_0_3_1_2) shapeCasts_S1x256x8x128_S256x1024

theorem outO_read (K : S1x64x8x64x8x128.Idx → EReal) (P : S1x8x64x64x8x64.Idx → EReal) (C : S1x256x8x128.Idx → EReal) (Q : S1x8x64x64x256.Idx → EReal) (R : Fin 4096) (e : Fin 1024) :
    outO K P C Q (ix2 R e)
      = (∑ i, ∑ k, K (ix6 0 ⟨R.val / 64, by omega⟩ i k ⟨e.val / 128, by omega⟩ ⟨e.val % 128, by omega⟩) * P (ix6 0 ⟨e.val / 128, by omega⟩ ⟨R.val / 64, by omega⟩ ⟨R.val % 64, by omega⟩ i k))
        + ∑ j, C (ix4 0 j ⟨e.val / 128, by omega⟩ ⟨e.val % 128, by omega⟩) * Q (ix5 0 ⟨e.val / 128, by omega⟩ ⟨R.val / 64, by omega⟩ ⟨R.val % 64, by omega⟩ j) := by
  unfold outO; pointwise

theorem outQ_read (Q : S1x8x64x64x256.Idx → EReal) (C : S1x256x8x128.Idx → EReal) (P : S1x8x64x64x8x64.Idx → EReal) (K : S1x64x8x64x8x128.Idx → EReal) (R : Fin 4096) (e : Fin 1024) :
    outQ Q C P K (ix2 R e)
      = (∑ j, Q (ix5 0 ⟨e.val / 128, by omega⟩ ⟨R.val / 64, by omega⟩ ⟨R.val % 64, by omega⟩ j) * C (ix4 0 j ⟨e.val / 128, by omega⟩ ⟨e.val % 128, by omega⟩))
        + ∑ i, ∑ k, P (ix6 0 ⟨e.val / 128, by omega⟩ ⟨R.val / 64, by omega⟩ ⟨R.val % 64, by omega⟩ i k) * K (ix6 0 ⟨R.val / 64, by omega⟩ i k ⟨e.val / 128, by omega⟩ ⟨e.val % 128, by omega⟩) := by
  unfold outQ; pointwise

theorem updK_read (P : S1x8x64x64x8x64.Idx → EReal) (X : S1x64x64x8x128.Idx → EReal) (r : Fin 64) (i : Fin 8) (k : Fin 64) (h : Fin 8) (d : Fin 128) :
    updK P X (ix6 0 r i k h d) = ∑ c, P (ix6 0 h r c i k) * X (ix5 0 r c h d) := by
  unfold updK; pointwise

theorem updV_read (G : S1x64x8x128x64.Idx → EReal) (P : S1x8x64x64x8x64.Idx → EReal) (r : Fin 64) (i : Fin 8) (k : Fin 64) (h : Fin 8) (d : Fin 128) :
    updV G P (ix6 0 r i k h d) = ∑ c, G (ix5 0 r h d c) * P (ix6 0 h r c i k) := by
  unfold updV; pointwise

theorem outKc_read (Q : S1x8x64x64x256.Idx → EReal) (X : S1x64x64x8x128.Idx → EReal) (j : Fin 256) (e : Fin 1024) :
    outKc Q X (ix2 j e) = ∑ r, ∑ c, Q (ix5 0 ⟨e.val / 128, by omega⟩ r c j) * X (ix5 0 r c ⟨e.val / 128, by omega⟩ ⟨e.val % 128, by omega⟩) := by
  unfold outKc; pointwise

theorem outVc_read (G : S1x8x128x64x64.Idx → EReal) (Q : S1x8x64x64x256.Idx → EReal) (j : Fin 256) (e : Fin 1024) :
    outVc G Q (ix2 j e) = ∑ r, ∑ c, G (ix5 0 ⟨e.val / 128, by omega⟩ ⟨e.val % 128, by omega⟩ r c) * Q (ix5 0 ⟨e.val / 128, by omega⟩ r c j) := by
  unfold outVc; pointwise

/-! The rows whose window holds a key. -/

theorem eq_ix6 {n1 n2 n3 n4 n5 : ℕ} (y : (⟨6, ![1, n1, n2, n3, n4, n5]⟩ : Shape).Idx) : y = ix6 0 (y 1) (y 2) (y 3) (y 4) (y 5) := by
  funext k
  match k with
  | ⟨0, _⟩ => exact Subsingleton.elim (α := Fin 1) _ _
  | ⟨1, _⟩ => rfl
  | ⟨2, _⟩ => rfl
  | ⟨3, _⟩ => rfl
  | ⟨4, _⟩ => rfl
  | ⟨5, _⟩ => rfl

/-- An update lands on a key's row when its own row's window holds that row, there. -/
theorem lands_iff (idx : IVec S64x8x1 32) (hw : ∀ (r : Fin 64) (i : Fin 8), idx (ix3 r i 0) = BitVec.ofNat 32 (st r.val + i.val))
    (r : Fin 64) (i : Fin 8) (k k' : Fin 64) (h h' : Fin 8) (d d' : Fin 128) (ρ : Fin 64) :
    sRow.resultIdx? (ix6 0 r i k h d) idx = some (ix5 0 ρ k' h' d') ↔ st r.val + i.val = ρ.val ∧ k = k' ∧ h = h' ∧ d = d' := by
  have hs := st_le r.val
  rw [scatter_lands idx r i k h d ⟨st r.val + i.val, by omega⟩ (hw r i)]
  constructor
  · intro e
    have e := Option.some.inj e
    exact ⟨congrArg (fun j : S1x64x64x8x128.Idx => (j 1).val) e, congrArg (fun j : S1x64x64x8x128.Idx => j 2) e,
      congrArg (fun j : S1x64x64x8x128.Idx => j 3) e, congrArg (fun j : S1x64x64x8x128.Idx => j 4) e⟩
  · rintro ⟨e, rfl, rfl, rfl⟩
    exact congrArg (fun ρ => some (ix5 0 ρ k h d)) (Fin.ext e)

/-- The sum at a key: over the rows whose window holds it. -/
theorem scatter_sum (idx : IVec S64x8x1 32) (hw : ∀ (r : Fin 64) (i : Fin 8), idx (ix3 r i 0) = BitVec.ofNat 32 (st r.val + i.val))
    (U : S1x64x8x64x8x128.Idx → EReal) (ρ k : Fin 64) (h : Fin 8) (d : Fin 128) :
    Ideal.hostScatterAdd sRow (fun _ => 0) idx U (ix5 0 ρ k h d)
      = ∑ r : Fin 64, if st r.val ≤ ρ.val ∧ ρ.val < st r.val + 8 then U (ix6 0 r ⟨(ρ.val - st r.val) % 8, by omega⟩ k h d) else 0 := by
  unfold Ideal.hostScatterAdd
  rw [zero_add, ← Finset.sum_filter]
  refine Finset.sum_nbij' (fun j : S1x64x8x64x8x128.Idx => (j 1 : Fin 64)) (fun r => ix6 0 r ⟨(ρ.val - st r.val) % 8, by omega⟩ k h d) ?_ ?_ ?_ ?_ ?_
  · intro j hj
    have hj := (Finset.mem_filter.1 hj).2
    rw [eq_ix6 j] at hj
    obtain ⟨e, -, -, -⟩ := (lands_iff idx hw (j 1) (j 2) (j 3) k (j 4) h (j 5) d ρ).1 hj
    have h2 : (j 2 : Fin 8).val < 8 := (j 2 : Fin 8).isLt
    have e : st (j 1 : Fin 64).val + (j 2 : Fin 8).val = ρ.val := e
    have e' : st (j 1 : Fin 64).val ≤ ρ.val ∧ ρ.val < st (j 1 : Fin 64).val + 8 := by omega
    exact Finset.mem_filter.2 ⟨Finset.mem_univ _, e'⟩
  · intro r hr
    have hr := (Finset.mem_filter.1 hr).2
    exact Finset.mem_filter.2 ⟨Finset.mem_univ _, (lands_iff idx hw r _ k k h h d d ρ).2 ⟨by dsimp only; omega, rfl, rfl, rfl⟩⟩
  · intro j hj
    have hj := (Finset.mem_filter.1 hj).2
    rw [eq_ix6 j] at hj
    obtain ⟨e, e3, e4, e5⟩ := (lands_iff idx hw (j 1) (j 2) (j 3) k (j 4) h (j 5) d ρ).1 hj
    have h2 : (j 2 : Fin 8).val < 8 := (j 2 : Fin 8).isLt
    refine Eq.trans ?_ (eq_ix6 j).symm
    rw [← e3, ← e4, ← e5]
    refine congrArg (fun i : Fin 8 => ix6 (0 : Fin 1) (j 1) i (j 3) (j 4) (j 5)) (Fin.ext ?_)
    show (ρ.val - st (j 1 : Fin 64).val) % 8 = (j 2 : Fin 8).val
    omega
  · intro r hr; rfl
  · intro j hj
    have hj := (Finset.mem_filter.1 hj).2
    rw [eq_ix6 j] at hj
    obtain ⟨e, e3, e4, e5⟩ := (lands_iff idx hw (j 1) (j 2) (j 3) k (j 4) h (j 5) d ρ).1 hj
    have h2 : (j 2 : Fin 8).val < 8 := (j 2 : Fin 8).isLt
    refine congrArg U ((eq_ix6 j).trans ?_)
    rw [← e3, ← e4, ← e5]
    refine congrArg (fun i : Fin 8 => ix6 (0 : Fin 1) (j 1) i (j 3) (j 4) (j 5)) (Fin.ext ?_)
    show (j 2 : Fin 8).val = (ρ.val - st (j 1 : Fin 64).val) % 8
    omega

theorem outRows_read (idx : IVec S64x8x1 32) (U : S1x64x8x64x8x128.Idx → EReal) (R : Fin 4096) (e : Fin 1024) :
    outRows idx U (ix2 R e) = Host.scatterAdd (F := Ideal) (φ := .f32) sRow
      (broadcastInDim S1x64x64x8x128 ![] bcast_S_S1x64x64x8x128 (constant S_ .f32 0x00000000#32)) idx U
      (ix5 0 ⟨R.val / 64, by omega⟩ ⟨R.val % 64, by omega⟩ ⟨e.val / 128, by omega⟩ ⟨e.val % 128, by omega⟩) := by
  unfold outRows; pointwise

theorem zeros : (broadcastInDim S1x64x64x8x128 ![] bcast_S_S1x64x64x8x128 (constant (F := Ideal) S_ .f32 0x00000000#32) : S1x64x64x8x128.Idx → EReal) = fun _ => 0 := by
  funext i
  exact (show Ideal.ofBits .f32 0x00000000#32 = (0 : EReal) by simp [Ideal.ofBits, Ideal.ieee])

theorem outRows_at (idx : IVec S64x8x1 32) (hw : ∀ (r : Fin 64) (i : Fin 8), idx (ix3 r i 0) = BitVec.ofNat 32 (st r.val + i.val))
    (U : S1x64x8x64x8x128.Idx → EReal) (u : Fin 8 → Fin 64 → Fin 512 → Fin 128 → ℝ)
    (hU : ∀ r i k h d, U (ix6 0 r i k h d) = ((u h r (kap i k) d : ℝ) : EReal)) (R : Fin 4096) (e : Fin 1024) :
    outRows idx U (ix2 R e) = ((∑ r : Fin 64, if hR : 64 * st r.val ≤ R.val ∧ R.val < 64 * st r.val + 512
      then u ⟨e.val / 128, by omega⟩ r ⟨R.val - 64 * st r.val, by omega⟩ ⟨e.val % 128, by omega⟩ else 0 : ℝ) : EReal) := by
  rw [outRows_read, zeros]
  refine (scatter_sum idx hw U _ _ _ _).trans ?_
  rw [← coe_sum]
  refine Finset.sum_congr rfl fun r _ => ?_
  dsimp only
  by_cases hR : 64 * st r.val ≤ R.val ∧ R.val < 64 * st r.val + 512
  · rw [if_pos (by omega), dif_pos hR, hU]
    refine congrArg (fun κ : Fin 512 => ((u ⟨e.val / 128, _⟩ r κ ⟨e.val % 128, _⟩ : ℝ) : EReal)) (Fin.ext ?_)
    show (R.val / 64 - st r.val) % 8 * 64 + R.val % 64 = R.val - 64 * st r.val
    omega
  · rw [if_neg (by omega), dif_neg hR]; rfl

/-- The window's keys, by window row and column. -/
theorem sum_kap (f : Fin 512 → ℝ) : ∑ i : Fin 8, ∑ k : Fin 64, f (kap i k) = ∑ κ, f κ := by
  rw [← Fintype.sum_prod_type' (fun (i : Fin 8) (k : Fin 64) => f (kap i k))]
  refine Fintype.sum_equiv (finProdFinEquiv : Fin 8 × Fin 64 ≃ Fin (8 * 64)) _ _ fun x => congrArg f (Fin.ext ?_)
  show x.1.val * 64 + x.2.val = x.2.val + 64 * x.1.val
  omega

theorem ix2_eta {n1 n2 : ℕ} (i : (⟨2, ![n1, n2]⟩ : Shape).Idx) : i = ix2 (i 0) (i 1) := by
  funext k
  match k with
  | ⟨0, _⟩ => rfl
  | ⟨1, _⟩ => rfl

variable (V : Valuation τ sig (Elt Ideal)) (a : Args) (H : Holds a V)
include H

theorem o_at (R : Fin 4096) (e : Fin 1024) : outO (res_main_v86 V) (res_main_v128 V) (res_main_v8 V) (res_main_v129 V) (ix2 R e) = ((a.oAt R.val e.val : ℝ) : EReal) := by
  refine (outO_read _ _ _ _ R e).trans ?_
  simp only [v86_at V a H, v128_at V a H, v8_at V a H _ _ _ (R.val / 64), v129_at V a H, ← EReal.coe_mul, coe_sum, ← EReal.coe_add]
  refine congrArg (fun x : ℝ => (x : EReal)) ?_
  unfold Args.oAt Args.o Tile.o
  rw [sum_kap (fun κ => Tile.v _ κ _ * Tile.pL _ _ κ)]
  simp only [mul_comm]

theorem dq_at (R : Fin 4096) (e : Fin 1024) : outQ (res_main_v166 V) (res_main_v7 V) (res_main_v174 V) (res_main_v78 V) (ix2 R e) = ((a.dqAt R.val e.val : ℝ) : EReal) := by
  refine (outQ_read _ _ _ _ R e).trans ?_
  simp only [v166_at V a H, v174_at V a H, v7_at V a H _ _ _ (R.val / 64), v78_at V a H, ← EReal.coe_mul, coe_sum, ← EReal.coe_add]
  refine congrArg (fun x : ℝ => (x : EReal)) ?_
  unfold Args.dqAt Args.dq Tile.dq
  rw [sum_kap (fun κ => Tile.dsL _ _ κ * sigma * Tile.k _ κ _), add_comm, add_mul, Finset.sum_mul, Finset.sum_mul]
  simp only [mul_right_comm _ sigma]

theorem dk_at (R : Fin 4096) (e : Fin 1024) : outRows (res_main_v77 V) (updK (res_main_v174 V) (res_main_v70 V)) (ix2 R e) = ((a.dkRow R.val e.val : ℝ) : EReal) := by
  refine (outRows_at _ (v77_at V) _ (fun h r κ d => (a.tile h.val r.val).dk κ d) (fun r i k h d => ?_) R e).trans ?_
  · rw [updK_read]
    simp only [v174_at V a H, v70_at V a H, ← EReal.coe_mul, coe_sum]
    refine congrArg (fun x : ℝ => (x : EReal)) ?_
    unfold Tile.dk
    rw [Finset.sum_mul]
    simp only [mul_right_comm _ sigma]
  · refine congrArg (fun x : ℝ => (x : EReal)) ?_
    unfold Args.dkRow Args.dk
    rw [Finset.sum_range]
    rfl

theorem dv_at (R : Fin 4096) (e : Fin 1024) : outRows (res_main_v85 V) (updV (res_main_v141 V) (res_main_v128 V)) (ix2 R e) = ((a.dvRow R.val e.val : ℝ) : EReal) := by
  refine (outRows_at _ (v85_at V) _ (fun h r κ d => (a.tile h.val r.val).dv κ d) (fun r i k h d => ?_) R e).trans ?_
  · rw [updV_read]
    simp only [v141_at V a H, v128_at V a H, ← EReal.coe_mul, coe_sum]
    refine congrArg (fun x : ℝ => (x : EReal)) ?_
    unfold Tile.dv
    exact Finset.sum_congr rfl fun c _ => mul_comm _ _
  · refine congrArg (fun x : ℝ => (x : EReal)) ?_
    unfold Args.dvRow Args.dv
    rw [Finset.sum_range]
    rfl

theorem dkc_at (R : Fin 256) (e : Fin 1024) : outKc (res_main_v166 V) (res_main_v70 V) (ix2 R e) = ((a.dkcRow R.val e.val : ℝ) : EReal) := by
  refine (outKc_read _ _ R e).trans ?_
  simp only [v166_at V a H, v70_at V a H, ← EReal.coe_mul, coe_sum]
  refine congrArg (fun x : ℝ => (x : EReal)) ?_
  have hj : (⟨R.val % 256, Nat.mod_lt _ (by decide)⟩ : Fin 256) = R := Fin.ext (Nat.mod_eq_of_lt R.isLt)
  unfold Args.dkcRow Args.dkc Tile.dkc
  rw [Finset.sum_range]
  refine Finset.sum_congr rfl fun r _ => ?_
  rw [Finset.sum_mul]
  refine Finset.sum_congr rfl fun c _ => ?_
  refine (mul_right_comm _ _ _).trans ?_
  exact congrArg (fun j : Fin 256 => (a.tile (e.val / 128) r.val).dsC c j * (a.tile (e.val / 128) r.val).q c ⟨e.val % 128, Nat.mod_lt _ (by decide)⟩ * sigma) hj.symm

theorem dvc_at (R : Fin 256) (e : Fin 1024) : outVc (res_main_v137 V) (res_main_v129 V) (ix2 R e) = ((a.dvcRow R.val e.val : ℝ) : EReal) := by
  refine (outVc_read _ _ R e).trans ?_
  simp only [v137_at V a H, v129_at V a H, ← EReal.coe_mul, coe_sum]
  refine congrArg (fun x : ℝ => (x : EReal)) ?_
  have hj : (⟨R.val % 256, Nat.mod_lt _ (by decide)⟩ : Fin 256) = R := Fin.ext (Nat.mod_eq_of_lt R.isLt)
  unfold Args.dvcRow Args.dvc Tile.dvc
  rw [Finset.sum_range]
  refine Finset.sum_congr rfl fun r _ => ?_
  refine Finset.sum_congr rfl fun c _ => ?_
  refine (mul_comm _ _).trans ?_
  exact congrArg (fun j : Fin 256 => (a.tile (e.val / 128) r.val).pC c j * (a.tile (e.val / 128) r.val).g c ⟨e.val % 128, Nat.mod_lt _ (by decide)⟩) hj.symm

/-! The results whole. -/

theorem out_o : outO (res_main_v86 V) (res_main_v128 V) (res_main_v8 V) (res_main_v129 V) = fun i => ((a.oAt (i 0).val (i 1).val : ℝ) : EReal) :=
  funext fun i => (congrArg _ (ix2_eta i)).trans (o_at V a H (i 0) (i 1))
theorem out_dq : outQ (res_main_v166 V) (res_main_v7 V) (res_main_v174 V) (res_main_v78 V) = fun i => ((a.dqAt (i 0).val (i 1).val : ℝ) : EReal) :=
  funext fun i => (congrArg _ (ix2_eta i)).trans (dq_at V a H (i 0) (i 1))
theorem out_dk : outRows (res_main_v77 V) (updK (res_main_v174 V) (res_main_v70 V)) = fun i => ((a.dkRow (i 0).val (i 1).val : ℝ) : EReal) :=
  funext fun i => (congrArg _ (ix2_eta i)).trans (dk_at V a H (i 0) (i 1))
theorem out_dv : outRows (res_main_v85 V) (updV (res_main_v141 V) (res_main_v128 V)) = fun i => ((a.dvRow (i 0).val (i 1).val : ℝ) : EReal) :=
  funext fun i => (congrArg _ (ix2_eta i)).trans (dv_at V a H (i 0) (i 1))
theorem out_dkc : outKc (res_main_v166 V) (res_main_v70 V) = fun i => ((a.dkcRow (i 0).val (i 1).val : ℝ) : EReal) :=
  funext fun i => (congrArg _ (ix2_eta i)).trans (dkc_at V a H (i 0) (i 1))
theorem out_dvc : outVc (res_main_v137 V) (res_main_v129 V) = fun i => ((a.dvcRow (i 0).val (i 1).val : ℝ) : EReal) :=
  funext fun i => (congrArg _ (ix2_eta i)).trans (dvc_at V a H (i 0) (i 1))

end Cert.ReferenceIdeal.Na

end

end
-- ==== Proof.Finite.lean ====
/- The precondition read back: every element of every argument is a real number. -/
module

public import proofs.«01_k».proof.Proof.Gen.Pre_finite
public import proofs.«01_k».proof.Proof.Spec
public import Idealize.ShloMosaic.Lib.Pointwise
public import Idealize.ShloMosaic.Lib.ReduceAll

@[expose] public section

set_option maxRecDepth 16384

noncomputable section

namespace Cert.Pre_finite.Na

open Idealize.ShloMosaic Idealize.ShloMosaic.TcCoe
open Cert.Pre_finite Cert.Na

instance : Subsingleton S_.Idx := ⟨fun i j => funext fun k => k.elim0⟩

/-- Less than +∞ in absolute value is a real number. -/
theorem real_of_abs (x : EReal) (h : Ideal.cmp .olt (max x (-x)) (Ideal.ofBits .f32 0x7F800000#32) = 1#1) : ((x.toReal : ℝ) : EReal) = x := by
  have e : Ideal.ofBits .f32 0x7F800000#32 = (⊤ : EReal) := by simp [Ideal.ofBits, Ideal.ieee]
  rw [e] at h
  have h' : max x (-x) < ⊤ := by
    by_contra hn
    simp [Ideal.cmp, hn] at h
  refine EReal.coe_toReal (fun hx => ?_) (fun hx => ?_)
  · rw [hx] at h'; simp at h'
  · rw [hx] at h'; simp at h'

variable {x0 : FVec Ideal S4096x3072 .bf16} {x1 : FVec Ideal S256x2048 .bf16} {x2 : FVec Ideal S8x15x31 .f32} {x3 : FVec Ideal S4096x2048 .bf16}

theorem and_one {b c : BitVec 1} (h : IntOp.andi b c = 1#1) : b = 1#1 ∧ c = 1#1 := by revert h; revert b c; decide

/-- What the precondition says of each array. -/
theorem finite_all (h : fn (F := Ideal) x0 x1 x2 x3 = fun _ => 1#1) :
    (∀ i, (((x0 i : EReal).toReal : ℝ) : EReal) = x0 i) ∧ (∀ i, (((x1 i : EReal).toReal : ℝ) : EReal) = x1 i)
      ∧ (∀ i, (((x2 i : EReal).toReal : ℝ) : EReal) = x2 i) ∧ (∀ i, (((x3 i : EReal).toReal : ℝ) : EReal) = x3 i) := by
  have h' := congrFun h ix0
  unfold fn fn_part1 at h'
  obtain ⟨h', h3⟩ := and_one h'
  obtain ⟨h', h2⟩ := and_one h'
  obtain ⟨h0, h1⟩ := and_one h'
  exact ⟨fun i => real_of_abs _ (Host.reduce_andi_all _ _ _ _ _ h0 i), fun i => real_of_abs _ (Host.reduce_andi_all _ _ _ _ _ h1 i),
    fun i => real_of_abs _ (Host.reduce_andi_all _ _ _ _ _ h2 i), fun i => real_of_abs _ (Host.reduce_andi_all _ _ _ _ _ h3 i)⟩

/-- The arguments as real numbers. -/
def argsOf (x0 : FVec Ideal S4096x3072 .bf16) (x1 : FVec Ideal S256x2048 .bf16) (x2 : FVec Ideal S8x15x31 .f32) (x3 : FVec Ideal S4096x2048 .bf16) : Args where
  A R e := if h : R < 4096 ∧ e < 3072 then EReal.toReal (x0 (ix2 ⟨R, h.1⟩ ⟨e, h.2⟩)) else 0
  C j e := if h : j < 256 ∧ e < 2048 then EReal.toReal (x1 (ix2 ⟨j, h.1⟩ ⟨e, h.2⟩)) else 0
  P g t j := if h : g < 8 ∧ t < 15 ∧ j < 31 then EReal.toReal (x2 (ix3 ⟨g, h.1⟩ ⟨t, h.2.1⟩ ⟨j, h.2.2⟩)) else 0
  G R e := if h : R < 4096 ∧ e < 2048 then EReal.toReal (x3 (ix2 ⟨R, h.1⟩ ⟨e, h.2⟩)) else 0

variable (h : fn (F := Ideal) x0 x1 x2 x3 = fun _ => 1#1)
include h

theorem args_A (R : Fin 4096) (e : Fin 3072) : x0 (ix2 R e) = (((argsOf x0 x1 x2 x3).A R.val e.val : ℝ) : EReal) := by
  unfold argsOf; dsimp only; rw [dif_pos ⟨R.isLt, e.isLt⟩]; exact ((finite_all h).1 _).symm
theorem args_C (j : Fin 256) (e : Fin 2048) : x1 (ix2 j e) = (((argsOf x0 x1 x2 x3).C j.val e.val : ℝ) : EReal) := by
  unfold argsOf; dsimp only; rw [dif_pos ⟨j.isLt, e.isLt⟩]; exact ((finite_all h).2.1 _).symm
theorem args_P (g : Fin 8) (t : Fin 15) (j : Fin 31) : x2 (ix3 g t j) = (((argsOf x0 x1 x2 x3).P g.val t.val j.val : ℝ) : EReal) := by
  unfold argsOf; dsimp only; rw [dif_pos ⟨g.isLt, t.isLt, j.isLt⟩]; exact ((finite_all h).2.2.1 _).symm
theorem args_G (R : Fin 4096) (e : Fin 2048) : x3 (ix2 R e) = (((argsOf x0 x1 x2 x3).G R.val e.val : ℝ) : EReal) := by
  unfold argsOf; dsimp only; rw [dif_pos ⟨R.isLt, e.isLt⟩]; exact ((finite_all h).2.2.2 _).symm

end Cert.Pre_finite.Na

end

end
-- ==== Proof.Values.lean ====
/- The values: the kernel's six results are the reference's, from finite arguments. -/
module

public import proofs.«01_k».proof.Defs
public import proofs.«01_k».proof.Proof.Run
public import proofs.«01_k».proof.Proof.Bias
public import proofs.«01_k».proof.Proof.Arr0
public import proofs.«01_k».proof.Proof.Arr1
public import proofs.«01_k».proof.Proof.RefOut
public import proofs.«01_k».proof.Proof.Finite

@[expose] public section

set_option maxRecDepth 16384

noncomputable section

namespace Cert.KernelIdeal.Na

open Idealize.ShloMosaic Idealize.ShloMosaic.TcCoe Idealize.SL.Sem
open Cert.KernelIdeal Cert.KernelIdeal.Gen Cert.Na

variable (m : (ℓ : Loc nD τ sig) → Buf (Elt Ideal) ℓ) (ρ : Dev nD → PrngReg) (c : Dev nD)

/-- The arguments of a device as real numbers. -/
def argsAt : Args := Cert.Pre_finite.Na.argsOf (m ((c.tc : Thread nD τ).loc main_arg0)) (m ((c.tc : Thread nD τ).loc main_arg1))
  (m ((c.tc : Thread nD τ).loc main_arg2)) (m ((c.tc : Thread nD τ).loc main_arg3))

variable (h : Cert.Pre_finite.fn (F := Ideal) (m ((c.tc : Thread nD τ).loc main_arg0)) (m ((c.tc : Thread nD τ).loc main_arg1))
  (m ((c.tc : Thread nD τ).loc main_arg2)) (m ((c.tc : Thread nD τ).loc main_arg3)) = fun _ => 1#1)
include h

/-- What the first call finds. -/
theorem holds11 : Holds (argsAt m c) (V11 m ρ c main_arg0) (V11 m ρ c main_arg1) (V11 m ρ c main_v38) (V11 m ρ c main_arg3) where
  h0 R e := (congrFun (W11_args m ρ c main_arg0 (by decide)) _).trans (Cert.Pre_finite.Na.args_A h R e)
  h1 j e := (congrFun (W11_args m ρ c main_arg1 (by decide)) _).trans (Cert.Pre_finite.Na.args_C h j e)
  hb := v38_11 m ρ c (argsAt m c).P (Cert.Pre_finite.Na.args_P h)
  h3 R e := (congrFun (W11_args m ρ c main_arg3 (by decide)) _).trans (Cert.Pre_finite.Na.args_G h R e)

omit h in
theorem v38_12 : W12 m ρ c (Proc.devRef .tc main_v38) = W11 m ρ c (Proc.devRef .tc main_v38) :=
  W12_of m ρ c main_v38 (by decide +kernel)

/-- What the second call finds. -/
theorem holds12 : Holds (argsAt m c) (V12 m ρ c main_arg0) (V12 m ρ c main_arg1) (V12 m ρ c main_v38) (V12 m ρ c main_arg3) where
  h0 R e := (congrFun (W12_args m ρ c main_arg0 (by decide)) _).trans (Cert.Pre_finite.Na.args_A h R e)
  h1 j e := (congrFun (W12_args m ρ c main_arg1 (by decide)) _).trans (Cert.Pre_finite.Na.args_C h j e)
  hb g t q l := (congrFun (v38_12 m ρ c) _).trans (v38_11 m ρ c (argsAt m c).P (Cert.Pre_finite.Na.args_P h) g t q l)
  h3 R e := (congrFun (W12_args m ρ c main_arg3 (by decide)) _).trans (Cert.Pre_finite.Na.args_G h R e)

theorem out12_o : V12 m ρ c main_v39_0 = fun i => (((argsAt m c).oAt (i 0).val (i 1).val : ℝ) : EReal) :=
  (W12_arr m ρ c 6).trans (arr0_6 (V11 m ρ) c (argsAt m c) (holds11 m ρ c h))
theorem out12_lse : V12 m ρ c main_v39_1 = fun i => (((argsAt m c).lseAt (i 0).val (i 1).val : ℝ) : EReal) :=
  (W12_arr m ρ c 7).trans (arr0_7 (V11 m ρ) c (argsAt m c) (holds11 m ρ c h))

/-- The six arrays the calls leave. -/
theorem arrays : (dat0 (V11 m ρ) c).arrAt 6 cfg0.N = (fun i => (((argsAt m c).oAt (i 0).val (i 1).val : ℝ) : EReal))
    ∧ (dat1 (V12 m ρ) c).arrAt 9 cfg1.N = (fun i => (((argsAt m c).dqAt (i 0).val (i 1).val : ℝ) : EReal))
    ∧ (dat1 (V12 m ρ) c).arrAt 10 cfg1.N = (fun i => (((argsAt m c).dkRow (i 0).val (i 1).val : ℝ) : EReal))
    ∧ (dat1 (V12 m ρ) c).arrAt 11 cfg1.N = (fun i => (((argsAt m c).dvRow (i 0).val (i 1).val : ℝ) : EReal))
    ∧ (dat1 (V12 m ρ) c).arrAt 12 cfg1.N = (fun i => (((argsAt m c).dkcRow (i 0).val (i 1).val : ℝ) : EReal))
    ∧ (dat1 (V12 m ρ) c).arrAt 13 cfg1.N = (fun i => (((argsAt m c).dvcRow (i 0).val (i 1).val : ℝ) : EReal)) :=
  ⟨arr0_6 (V11 m ρ) c (argsAt m c) (holds11 m ρ c h),
    arr1_9 (V12 m ρ) c (argsAt m c) (holds12 m ρ c h) (out12_o m ρ c h) (out12_lse m ρ c h),
    arr1_10 (V12 m ρ) c (argsAt m c) (holds12 m ρ c h) (out12_o m ρ c h) (out12_lse m ρ c h),
    arr1_11 (V12 m ρ) c (argsAt m c) (holds12 m ρ c h) (out12_o m ρ c h) (out12_lse m ρ c h),
    arr1_12 (V12 m ρ) c (argsAt m c) (holds12 m ρ c h) (out12_o m ρ c h) (out12_lse m ρ c h),
    arr1_13 (V12 m ρ) c (argsAt m c) (holds12 m ρ c h) (out12_o m ρ c h) (out12_lse m ρ c h)⟩

end Cert.KernelIdeal.Na

namespace Cert.Proof

open Idealize.ShloMosaic Idealize.ShloMosaic.TcCoe Idealize.ShloMosaic.StableHlo Idealize.SL.Sem Cert.Na

/-- The kernel's results are the reference's. -/
theorem algebraic : Cert.algebraic_KernelIdeal_ReferenceIdeal_pre_finite := by
  intro m g m' g' hpre hargs
  have HR : ∀ c : Dev Cert.KernelIdeal.nD, Cert.ReferenceIdeal.Na.Holds (Cert.KernelIdeal.Na.argsAt m c) (launchContents m' c) := fun c =>
    { h0 := fun R e => (congrFun (hargs c).1 _).trans (Cert.Pre_finite.Na.args_A (hpre c) R e)
      h1 := fun j e => (congrFun (hargs c).2.1 _).trans (Cert.Pre_finite.Na.args_C (hpre c) j e)
      h2 := fun q t j => (congrFun (hargs c).2.2.1 _).trans (Cert.Pre_finite.Na.args_P (hpre c) q t j)
      h3 := fun R e => (congrFun (hargs c).2.2.2 _).trans (Cert.Pre_finite.Na.args_G (hpre c) R e) }
  refine ⟨fun c i => (((Cert.KernelIdeal.Na.argsAt m c).oAt (i 0).val (i 1).val : ℝ) : EReal),
    fun c i => (((Cert.KernelIdeal.Na.argsAt m c).dqAt (i 0).val (i 1).val : ℝ) : EReal),
    fun c i => (((Cert.KernelIdeal.Na.argsAt m c).dkRow (i 0).val (i 1).val : ℝ) : EReal),
    fun c i => (((Cert.KernelIdeal.Na.argsAt m c).dvRow (i 0).val (i 1).val : ℝ) : EReal),
    fun c i => (((Cert.KernelIdeal.Na.argsAt m c).dkcRow (i 0).val (i 1).val : ℝ) : EReal),
    fun c i => (((Cert.KernelIdeal.Na.argsAt m c).dvcRow (i 0).val (i 1).val : ℝ) : EReal), ?_, ?_⟩
  · refine (θ_run Cert.KernelIdeal.defs _ _).mono (fun r h c => ?_) (Cert.KernelIdeal.Na.run_main (F := Ideal) m g)
    obtain ⟨⟨r0, r1, r2, r3, r4, r5⟩, rest⟩ := h.1 c
    obtain ⟨e0, e1, e2, e3, e4, e5⟩ := Cert.KernelIdeal.Na.arrays m g c (hpre c)
    exact ⟨r0.trans e0, r1.trans e1, r2.trans e2, r3.trans e3, r4.trans e4, r5.trans e5, rest⟩
  · refine (θ_run Cert.ReferenceIdeal.defs _ _).mono (fun r h c => ?_) (Cert.ReferenceIdeal.Value.run (F := Ideal) m' g')
    obtain ⟨r0, r1, r2, r3, r4, r5, rest⟩ := h c
    exact ⟨r0.trans (Cert.ReferenceIdeal.Na.out_o _ _ (HR c)), r1.trans (Cert.ReferenceIdeal.Na.out_dq _ _ (HR c)),
      r2.trans (Cert.ReferenceIdeal.Na.out_dk _ _ (HR c)), r3.trans (Cert.ReferenceIdeal.Na.out_dv _ _ (HR c)),
      r4.trans (Cert.ReferenceIdeal.Na.out_dkc _ _ (HR c)), r5.trans (Cert.ReferenceIdeal.Na.out_dvc _ _ (HR c)), rest⟩

end Cert.Proof

end

end
-- ==== Proof.lean ====
/- The neighbourhood attention's forward pass and gradient, and the feed-forward's and the mixers' matrix products with theirs, and the gradients of the norm and of the residual's gate: the certificate. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite
public import proofs.«01_k».proof.Proof.Gen.Up
public import proofs.«01_k».proof.Proof.Gen.UpIdeal
public import proofs.«01_k».proof.Proof.Gen.UpIdeal.Value
public import proofs.«01_k».proof.Proof.Gen.RefUpIdeal
public import proofs.«01_k».proof.Proof.Gen.RefUpIdeal.Run
public import proofs.«01_k».proof.Proof.Gen.UpX
public import proofs.«01_k».proof.Proof.Gen.UpXIdeal
public import proofs.«01_k».proof.Proof.Gen.UpXIdeal.Value
public import proofs.«01_k».proof.Proof.Gen.RefUpXIdeal
public import proofs.«01_k».proof.Proof.Gen.RefUpXIdeal.Run
public import proofs.«01_k».proof.Proof.Gen.UpW
public import proofs.«01_k».proof.Proof.Gen.UpWIdeal
public import proofs.«01_k».proof.Proof.Gen.UpWIdeal.Value
public import proofs.«01_k».proof.Proof.Gen.RefUpWIdeal
public import proofs.«01_k».proof.Proof.Gen.RefUpWIdeal.Run
public import proofs.«01_k».proof.Proof.Gen.Down
public import proofs.«01_k».proof.Proof.Gen.DownIdeal
public import proofs.«01_k».proof.Proof.Gen.DownIdeal.Value
public import proofs.«01_k».proof.Proof.Gen.RefDownIdeal
public import proofs.«01_k».proof.Proof.Gen.RefDownIdeal.Run
public import proofs.«01_k».proof.Proof.Gen.DownX
public import proofs.«01_k».proof.Proof.Gen.DownXIdeal
public import proofs.«01_k».proof.Proof.Gen.DownXIdeal.Value
public import proofs.«01_k».proof.Proof.Gen.RefDownXIdeal
public import proofs.«01_k».proof.Proof.Gen.RefDownXIdeal.Run
public import proofs.«01_k».proof.Proof.Gen.DownW
public import proofs.«01_k».proof.Proof.Gen.DownWIdeal
public import proofs.«01_k».proof.Proof.Gen.DownWIdeal.Value
public import proofs.«01_k».proof.Proof.Gen.RefDownWIdeal
public import proofs.«01_k».proof.Proof.Gen.RefDownWIdeal.Run
public import proofs.«01_k».proof.Proof.Gen.Pw
public import proofs.«01_k».proof.Proof.Gen.PwIdeal
public import proofs.«01_k».proof.Proof.Gen.PwIdeal.Value
public import proofs.«01_k».proof.Proof.Gen.RefPwIdeal
public import proofs.«01_k».proof.Proof.Gen.RefPwIdeal.Run
public import proofs.«01_k».proof.Proof.Gen.PwX
public import proofs.«01_k».proof.Proof.Gen.PwXIdeal
public import proofs.«01_k».proof.Proof.Gen.PwXIdeal.Value
public import proofs.«01_k».proof.Proof.Gen.RefPwXIdeal
public import proofs.«01_k».proof.Proof.Gen.RefPwXIdeal.Run
public import proofs.«01_k».proof.Proof.Gen.PwW
public import proofs.«01_k».proof.Proof.Gen.PwWIdeal
public import proofs.«01_k».proof.Proof.Gen.PwWIdeal.Value
public import proofs.«01_k».proof.Proof.Gen.RefPwWIdeal
public import proofs.«01_k».proof.Proof.Gen.RefPwWIdeal.Run
public import proofs.«01_k».proof.Proof.Gen.Out
public import proofs.«01_k».proof.Proof.Gen.OutIdeal
public import proofs.«01_k».proof.Proof.Gen.OutIdeal.Value
public import proofs.«01_k».proof.Proof.Gen.RefOutIdeal
public import proofs.«01_k».proof.Proof.Gen.RefOutIdeal.Run
public import proofs.«01_k».proof.Proof.Gen.OutX
public import proofs.«01_k».proof.Proof.Gen.OutXIdeal
public import proofs.«01_k».proof.Proof.Gen.OutXIdeal.Value
public import proofs.«01_k».proof.Proof.Gen.RefOutXIdeal
public import proofs.«01_k».proof.Proof.Gen.RefOutXIdeal.Run
public import proofs.«01_k».proof.Proof.Gen.OutW
public import proofs.«01_k».proof.Proof.Gen.OutWIdeal
public import proofs.«01_k».proof.Proof.Gen.OutWIdeal.Value
public import proofs.«01_k».proof.Proof.Gen.RefOutWIdeal
public import proofs.«01_k».proof.Proof.Gen.RefOutWIdeal.Run
public import proofs.«01_k».proof.Proof.Gen.In
public import proofs.«01_k».proof.Proof.Gen.InIdeal
public import proofs.«01_k».proof.Proof.Gen.InIdeal.Value
public import proofs.«01_k».proof.Proof.Gen.RefInIdeal
public import proofs.«01_k».proof.Proof.Gen.RefInIdeal.Run
public import proofs.«01_k».proof.Proof.Gen.InX
public import proofs.«01_k».proof.Proof.Gen.InXIdeal
public import proofs.«01_k».proof.Proof.Gen.InXIdeal.Value
public import proofs.«01_k».proof.Proof.Gen.RefInXIdeal
public import proofs.«01_k».proof.Proof.Gen.RefInXIdeal.Run
public import proofs.«01_k».proof.Proof.Gen.InW
public import proofs.«01_k».proof.Proof.Gen.InWIdeal
public import proofs.«01_k».proof.Proof.Gen.InWIdeal.Value
public import proofs.«01_k».proof.Proof.Gen.RefInWIdeal
public import proofs.«01_k».proof.Proof.Gen.RefInWIdeal.Run
public import proofs.«01_k».proof.Proof.Gen.Norm
public import proofs.«01_k».proof.Proof.Gen.NormIdeal
public import proofs.«01_k».proof.Proof.Gen.NormIdeal.Value
public import proofs.«01_k».proof.Proof.Gen.RefNormIdeal
public import proofs.«01_k».proof.Proof.Gen.RefNormIdeal.Run
public import proofs.«01_k».proof.Proof.Gen.Gate
public import proofs.«01_k».proof.Proof.Gen.GateIdeal
public import proofs.«01_k».proof.Proof.Gen.GateIdeal.Value
public import proofs.«01_k».proof.Proof.Gen.RefGateIdeal
public import proofs.«01_k».proof.Proof.Gen.RefGateIdeal.Run
public import proofs.«01_k».proof.Proof.Up
public import proofs.«01_k».proof.Proof.UpX
public import proofs.«01_k».proof.Proof.UpW
public import proofs.«01_k».proof.Proof.Down
public import proofs.«01_k».proof.Proof.DownX
public import proofs.«01_k».proof.Proof.DownW
public import proofs.«01_k».proof.Proof.Pw
public import proofs.«01_k».proof.Proof.PwX
public import proofs.«01_k».proof.Proof.PwW
public import proofs.«01_k».proof.Proof.Out
public import proofs.«01_k».proof.Proof.OutX
public import proofs.«01_k».proof.Proof.OutW
public import proofs.«01_k».proof.Proof.In
public import proofs.«01_k».proof.Proof.InX
public import proofs.«01_k».proof.Proof.InW
public import proofs.«01_k».proof.Proof.Norm
public import proofs.«01_k».proof.Proof.Gate
public import proofs.«01_k».proof.Proof.Frames
public import proofs.«01_k».proof.Proof.Head
public import proofs.«01_k».proof.Proof.Values

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Up.Gen.facts, Cert.UpIdeal.Gen.facts, Cert.RefUpIdeal.Gen.facts,
  Cert.UpX.Gen.facts, Cert.UpXIdeal.Gen.facts, Cert.RefUpXIdeal.Gen.facts,
  Cert.UpW.Gen.facts, Cert.UpWIdeal.Gen.facts, Cert.RefUpWIdeal.Gen.facts,
  Cert.Down.Gen.facts, Cert.DownIdeal.Gen.facts, Cert.RefDownIdeal.Gen.facts,
  Cert.DownX.Gen.facts, Cert.DownXIdeal.Gen.facts, Cert.RefDownXIdeal.Gen.facts,
  Cert.DownW.Gen.facts, Cert.DownWIdeal.Gen.facts, Cert.RefDownWIdeal.Gen.facts,
  Cert.Pw.Gen.facts, Cert.PwIdeal.Gen.facts, Cert.RefPwIdeal.Gen.facts,
  Cert.PwX.Gen.facts, Cert.PwXIdeal.Gen.facts, Cert.RefPwXIdeal.Gen.facts,
  Cert.PwW.Gen.facts, Cert.PwWIdeal.Gen.facts, Cert.RefPwWIdeal.Gen.facts,
  Cert.Out.Gen.facts, Cert.OutIdeal.Gen.facts, Cert.RefOutIdeal.Gen.facts,
  Cert.OutX.Gen.facts, Cert.OutXIdeal.Gen.facts, Cert.RefOutXIdeal.Gen.facts,
  Cert.OutW.Gen.facts, Cert.OutWIdeal.Gen.facts, Cert.RefOutWIdeal.Gen.facts,
  Cert.In.Gen.facts, Cert.InIdeal.Gen.facts, Cert.RefInIdeal.Gen.facts,
  Cert.InX.Gen.facts, Cert.InXIdeal.Gen.facts, Cert.RefInXIdeal.Gen.facts,
  Cert.InW.Gen.facts, Cert.InWIdeal.Gen.facts, Cert.RefInWIdeal.Gen.facts,
  Cert.Norm.Gen.facts, Cert.NormIdeal.Gen.facts, Cert.RefNormIdeal.Gen.facts,
  Cert.Gate.Gen.facts, Cert.GateIdeal.Gen.facts, Cert.RefGateIdeal.Gen.facts,
  Cert.Pre_finite.Gen.facts,
  frame_kernel, frame_ideal, frame_ideal_finite, frame_reference, frame_reference_finite,
  frame_up, frame_up_ideal, frame_up_reference,
  frame_up_x, frame_up_x_ideal, frame_up_x_reference,
  frame_up_w, frame_up_w_ideal, frame_up_w_reference,
  frame_down, frame_down_ideal, frame_down_reference,
  frame_down_x, frame_down_x_ideal, frame_down_x_reference,
  frame_down_w, frame_down_w_ideal, frame_down_w_reference,
  frame_pw, frame_pw_ideal, frame_pw_reference,
  frame_pw_x, frame_pw_x_ideal, frame_pw_x_reference,
  frame_pw_w, frame_pw_w_ideal, frame_pw_w_reference,
  frame_out, frame_out_ideal, frame_out_reference,
  frame_out_x, frame_out_x_ideal, frame_out_x_reference,
  frame_out_w, frame_out_w_ideal, frame_out_w_reference,
  frame_in, frame_in_ideal, frame_in_reference,
  frame_in_x, frame_in_x_ideal, frame_in_x_reference,
  frame_in_w, frame_in_w_ideal, frame_in_w_reference,
  frame_norm, frame_norm_ideal, frame_norm_reference,
  frame_gate, frame_gate_ideal, frame_gate_reference,
  trivial, algebraic,
  trivial, up_algebraic,
  trivial, up_x_algebraic,
  trivial, up_w_algebraic,
  trivial, down_algebraic,
  trivial, down_x_algebraic,
  trivial, down_w_algebraic,
  trivial, pw_algebraic,
  trivial, pw_x_algebraic,
  trivial, pw_w_algebraic,
  trivial, out_algebraic,
  trivial, out_x_algebraic,
  trivial, out_w_algebraic,
  trivial, in_algebraic,
  trivial, in_x_algebraic,
  trivial, in_w_algebraic,
  trivial, norm_algebraic,
  trivial, gate_algebraic⟩

end Cert.Proof

end
